-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DZ (m : (ℓ : Loc Cert.DZ.nD Cert.DZ.τ Cert.DZ.sig) → Buf (Elt Bits) ℓ) : Prop :=
  True

def Pre_DZIdeal (m : (ℓ : Loc Cert.DZIdeal.nD Cert.DZIdeal.τ Cert.DZIdeal.sig) → Buf (Elt Ideal) ℓ) : Prop :=
  True

def Pre_DZRefIdeal (m : (ℓ : Loc Cert.DZRefIdeal.nD Cert.DZRefIdeal.τ Cert.DZRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_DwSgIn (m : (ℓ : Loc Cert.DwSgIn.nD Cert.DwSgIn.τ Cert.DwSgIn.sig) → Buf (Elt Bits) ℓ) : Prop :=
  True

def Pre_DwSgInIdeal (m : (ℓ : Loc Cert.DwSgInIdeal.nD Cert.DwSgInIdeal.τ Cert.DwSgInIdeal.sig) → Buf (Elt Ideal) ℓ) : Prop :=
  True

def Pre_DwSgInRefIdeal (m : (ℓ : Loc Cert.DwSgInRefIdeal.nD Cert.DwSgInRefIdeal.τ Cert.DwSgInRefIdeal.sig) → Buf (Elt Ideal) ℓ) : Prop :=
  True

def Pre_DSgIn (m : (ℓ : Loc Cert.DSgIn.nD Cert.DSgIn.τ Cert.DSgIn.sig) → Buf (Elt Bits) ℓ) : Prop :=
  True

def Pre_DSgInIdeal (m : (ℓ : Loc Cert.DSgInIdeal.nD Cert.DSgInIdeal.τ Cert.DSgInIdeal.sig) → Buf (Elt Ideal) ℓ) : Prop :=
  True

def Pre_DSgInRefIdeal (m : (ℓ : Loc Cert.DSgInRefIdeal.nD Cert.DSgInRefIdeal.τ Cert.DSgInRefIdeal.sig) → Buf (Elt Ideal) ℓ) : Prop :=
  True

def Pre_DwHgIn (m : (ℓ : Loc Cert.DwHgIn.nD Cert.DwHgIn.τ Cert.DwHgIn.sig) → Buf (Elt Bits) ℓ) : Prop :=
  True

def Pre_DwHgInIdeal (m : (ℓ : Loc Cert.DwHgInIdeal.nD Cert.DwHgInIdeal.τ Cert.DwHgInIdeal.sig) → Buf (Elt Ideal) ℓ) : Prop :=
  True

def Pre_DwHgInRefIdeal (m : (ℓ : Loc Cert.DwHgInRefIdeal.nD Cert.DwHgInRefIdeal.τ Cert.DwHgInRefIdeal.sig) → Buf (Elt Ideal) ℓ) : Prop :=
  True

def Pre_DHgIn (m : (ℓ : Loc Cert.DHgIn.nD Cert.DHgIn.τ Cert.DHgIn.sig) → Buf (Elt Bits) ℓ) : Prop :=
  True

def Pre_DHgInIdeal (m : (ℓ : Loc Cert.DHgInIdeal.nD Cert.DHgInIdeal.τ Cert.DHgInIdeal.sig) → Buf (Elt Ideal) ℓ) : Prop :=
  True

def Pre_DHgInRefIdeal (m : (ℓ : Loc Cert.DHgInRefIdeal.nD Cert.DHgInRefIdeal.τ Cert.DHgInRefIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_HgInRefIdeal (m : (ℓ : Loc Cert.HgInRefIdeal.nD Cert.HgInRefIdeal.τ Cert.HgInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_SgIn (m : (ℓ : Loc Cert.SgIn.nD Cert.SgIn.τ Cert.SgIn.sig) → Buf (Elt Bits) ℓ) : Prop :=
  True

def Pre_SgInIdeal (m : (ℓ : Loc Cert.SgInIdeal.nD Cert.SgInIdeal.τ Cert.SgInIdeal.sig) → Buf (Elt Ideal) ℓ) : Prop :=
  True

def Pre_SgInRefIdeal (m : (ℓ : Loc Cert.SgInRefIdeal.nD Cert.SgInRefIdeal.τ Cert.SgInRefIdeal.sig) → Buf (Elt Ideal) ℓ) : Prop :=
  True

def Pre_AdamLb (m : (ℓ : Loc Cert.AdamLb.nD Cert.AdamLb.τ Cert.AdamLb.sig) → Buf (Elt Bits) ℓ) : Prop :=
  True

def Pre_AdamLbIdeal (m : (ℓ : Loc Cert.AdamLbIdeal.nD Cert.AdamLbIdeal.τ Cert.AdamLbIdeal.sig) → Buf (Elt Ideal) ℓ) : Prop :=
  True

def Pre_AdamLbRefIdeal (m : (ℓ : Loc Cert.AdamLbRefIdeal.nD Cert.AdamLbRefIdeal.τ Cert.AdamLbRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamSgLn (m : (ℓ : Loc Cert.AdamSgLn.nD Cert.AdamSgLn.τ Cert.AdamSgLn.sig) → Buf (Elt Bits) ℓ) : Prop :=
  True

def Pre_AdamSgLnIdeal (m : (ℓ : Loc Cert.AdamSgLnIdeal.nD Cert.AdamSgLnIdeal.τ Cert.AdamSgLnIdeal.sig) → Buf (Elt Ideal) ℓ) : Prop :=
  True

def Pre_AdamSgLnRefIdeal (m : (ℓ : Loc Cert.AdamSgLnRefIdeal.nD Cert.AdamSgLnRefIdeal.τ Cert.AdamSgLnRefIdeal.sig) → Buf (Elt Ideal) ℓ) : Prop :=
  True

def Pre_AdamSgWs (m : (ℓ : Loc Cert.AdamSgWs.nD Cert.AdamSgWs.τ Cert.AdamSgWs.sig) → Buf (Elt Bits) ℓ) : Prop :=
  True

def Pre_AdamSgWsIdeal (m : (ℓ : Loc Cert.AdamSgWsIdeal.nD Cert.AdamSgWsIdeal.τ Cert.AdamSgWsIdeal.sig) → Buf (Elt Ideal) ℓ) : Prop :=
  True

def Pre_AdamSgWsRefIdeal (m : (ℓ : Loc Cert.AdamSgWsRefIdeal.nD Cert.AdamSgWsRefIdeal.τ Cert.AdamSgWsRefIdeal.sig) → Buf (Elt Ideal) ℓ) : Prop :=
  True

def Pre_AdamSgBs (m : (ℓ : Loc Cert.AdamSgBs.nD Cert.AdamSgBs.τ Cert.AdamSgBs.sig) → Buf (Elt Bits) ℓ) : Prop :=
  True

def Pre_AdamSgBsIdeal (m : (ℓ : Loc Cert.AdamSgBsIdeal.nD Cert.AdamSgBsIdeal.τ Cert.AdamSgBsIdeal.sig) → Buf (Elt Ideal) ℓ) : Prop :=
  True

def Pre_AdamSgBsRefIdeal (m : (ℓ : Loc Cert.AdamSgBsRefIdeal.nD Cert.AdamSgBsRefIdeal.τ Cert.AdamSgBsRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnRefIdeal (m : (ℓ : Loc Cert.AdamLnRefIdeal.nD Cert.AdamLnRefIdeal.τ Cert.AdamLnRefIdeal.sig) → Buf (Elt Ideal) ℓ) : Prop :=
  True

def Pre_AdamHgIn (m : (ℓ : Loc Cert.AdamHgIn.nD Cert.AdamHgIn.τ Cert.AdamHgIn.sig) → Buf (Elt Bits) ℓ) : Prop :=
  True

def Pre_AdamHgInIdeal (m : (ℓ : Loc Cert.AdamHgInIdeal.nD Cert.AdamHgInIdeal.τ Cert.AdamHgInIdeal.sig) → Buf (Elt Ideal) ℓ) : Prop :=
  True

def Pre_AdamHgInRefIdeal (m : (ℓ : Loc Cert.AdamHgInRefIdeal.nD Cert.AdamHgInRefIdeal.τ Cert.AdamHgInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSgIn (m : (ℓ : Loc Cert.AdamSgIn.nD Cert.AdamSgIn.τ Cert.AdamSgIn.sig) → Buf (Elt Bits) ℓ) : Prop :=
  True

def Pre_AdamSgInIdeal (m : (ℓ : Loc Cert.AdamSgInIdeal.nD Cert.AdamSgInIdeal.τ Cert.AdamSgInIdeal.sig) → Buf (Elt Ideal) ℓ) : Prop :=
  True

def Pre_AdamSgInRefIdeal (m : (ℓ : Loc Cert.AdamSgInRefIdeal.nD Cert.AdamSgInRefIdeal.τ Cert.AdamSgInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_finite_loss [hPre_finite_loss : Cert.Pre_finite_loss.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_finite_loss.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))) = (fun _ => 1#1)

def Pre_LnLossRefIdeal (m : (ℓ : Loc Cert.LnLossRefIdeal.nD Cert.LnLossRefIdeal.τ Cert.LnLossRefIdeal.sig) → Buf (Elt Ideal) ℓ) : Prop :=
  True

def Pre_LnLossRefIdeal_finite_loss [hPre_finite_loss : Cert.Pre_finite_loss.Facts] (m : (ℓ : Loc Cert.LnLossRefIdeal.nD Cert.LnLossRefIdeal.τ Cert.LnLossRefIdeal.sig) → Buf (Elt Ideal) ℓ) : Prop :=
  ∀ c : Dev Cert.LnLossRefIdeal.nD,
    (Cert.Pre_finite_loss.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4))) = (fun _ => 1#1)

def Pre_SgFwd (m : (ℓ : Loc Cert.SgFwd.nD Cert.SgFwd.τ Cert.SgFwd.sig) → Buf (Elt Bits) ℓ) : Prop :=
  True

def Pre_SgFwdIdeal (m : (ℓ : Loc Cert.SgFwdIdeal.nD Cert.SgFwdIdeal.τ Cert.SgFwdIdeal.sig) → Buf (Elt Ideal) ℓ) : Prop :=
  True

def Pre_SgFwdRefIdeal (m : (ℓ : Loc Cert.SgFwdRefIdeal.nD Cert.SgFwdRefIdeal.τ Cert.SgFwdRefIdeal.sig) → Buf (Elt Ideal) ℓ) : Prop :=
  True

def Pre_SgBwd (m : (ℓ : Loc Cert.SgBwd.nD Cert.SgBwd.τ Cert.SgBwd.sig) → Buf (Elt Bits) ℓ) : Prop :=
  True

def Pre_SgBwdIdeal (m : (ℓ : Loc Cert.SgBwdIdeal.nD Cert.SgBwdIdeal.τ Cert.SgBwdIdeal.sig) → Buf (Elt Ideal) ℓ) : Prop :=
  True

def Pre_SgBwdIdeal_finite_sg [hPre_finite_sg : Cert.Pre_finite_sg.Facts] (m : (ℓ : Loc Cert.SgBwdIdeal.nD Cert.SgBwdIdeal.τ Cert.SgBwdIdeal.sig) → Buf (Elt Ideal) ℓ) : Prop :=
  ∀ c : Dev Cert.SgBwdIdeal.nD,
    (Cert.Pre_finite_sg.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5))) = (fun _ => 1#1)

def Pre_SgBwdRefIdeal (m : (ℓ : Loc Cert.SgBwdRefIdeal.nD Cert.SgBwdRefIdeal.τ Cert.SgBwdRefIdeal.sig) → Buf (Elt Ideal) ℓ) : Prop :=
  True

def Pre_SgBwdRefIdeal_finite_sg [hPre_finite_sg : Cert.Pre_finite_sg.Facts] (m : (ℓ : Loc Cert.SgBwdRefIdeal.nD Cert.SgBwdRefIdeal.τ Cert.SgBwdRefIdeal.sig) → Buf (Elt Ideal) ℓ) : Prop :=
  ∀ c : Dev Cert.SgBwdRefIdeal.nD,
    (Cert.Pre_finite_sg.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DZ [hDZ : Cert.DZ.Facts] : Prop :=
  ∀ (m : (ℓ : Loc Cert.DZ.nD Cert.DZ.τ Cert.DZ.sig) → Buf (Elt Bits) ℓ) (g : Dev Cert.DZ.nD → PrngReg), Pre_DZ m →
    θ_run (Cert.DZ.defs (F := Bits)) (onTc (τ := Cert.DZ.τ) (Cert.DZ.main (F := Bits))) ⟨m, fun _ => 0, g⟩ (fun r => (∀ c : Dev Cert.DZ.nD,
      r.2.mem ((c.tc : Thread Cert.DZ.nD Cert.DZ.τ).loc Cert.DZ.main_arg0) = m ((c.tc : Thread Cert.DZ.nD Cert.DZ.τ).loc Cert.DZ.main_arg0)
      ∧ r.2.mem ((c.tc : Thread Cert.DZ.nD Cert.DZ.τ).loc Cert.DZ.main_arg1) = m ((c.tc : Thread Cert.DZ.nD Cert.DZ.τ).loc Cert.DZ.main_arg1)
      ∧ r.2.mem ((c.tc : Thread Cert.DZ.nD Cert.DZ.τ).loc Cert.DZ.main_arg2) = m ((c.tc : Thread Cert.DZ.nD Cert.DZ.τ).loc Cert.DZ.main_arg2))
      ∧ r.2.sem = fun _ => 0)

def quiescent_DZIdeal [hDZIdeal : Cert.DZIdeal.Facts] : Prop :=
  ∀ (m : (ℓ : Loc Cert.DZIdeal.nD Cert.DZIdeal.τ Cert.DZIdeal.sig) → Buf (Elt Ideal) ℓ) (g : Dev Cert.DZIdeal.nD → PrngReg), Pre_DZIdeal m →
    θ_run (Cert.DZIdeal.defs (F := Ideal)) (onTc (τ := Cert.DZIdeal.τ) (Cert.DZIdeal.main (F := Ideal))) ⟨m, fun _ => 0, g⟩ (fun r => (∀ c : Dev Cert.DZIdeal.nD,
      r.2.mem ((c.tc : Thread Cert.DZIdeal.nD Cert.DZIdeal.τ).loc Cert.DZIdeal.main_arg0) = m ((c.tc : Thread Cert.DZIdeal.nD Cert.DZIdeal.τ).loc Cert.DZIdeal.main_arg0)
      ∧ r.2.mem ((c.tc : Thread Cert.DZIdeal.nD Cert.DZIdeal.τ).loc Cert.DZIdeal.main_arg1) = m ((c.tc : Thread Cert.DZIdeal.nD Cert.DZIdeal.τ).loc Cert.DZIdeal.main_arg1)
      ∧ r.2.mem ((c.tc : Thread Cert.DZIdeal.nD Cert.DZIdeal.τ).loc Cert.DZIdeal.main_arg2) = m ((c.tc : Thread Cert.DZIdeal.nD Cert.DZIdeal.τ).loc Cert.DZIdeal.main_arg2))
      ∧ r.2.sem = fun _ => 0)

def quiescent_DZRefIdeal [hDZRefIdeal : Cert.DZRefIdeal.Facts] : Prop :=
  ∀ (m : (ℓ : Loc Cert.DZRefIdeal.nD Cert.DZRefIdeal.τ Cert.DZRefIdeal.sig) → Buf (Elt Ideal) ℓ) (g : Dev Cert.DZRefIdeal.nD → PrngReg), Pre_DZRefIdeal m →
    θ_run (Cert.DZRefIdeal.defs (F := Ideal)) (onTc (τ := Cert.DZRefIdeal.τ) (Cert.DZRefIdeal.main (F := Ideal))) ⟨m, fun _ => 0, g⟩ (fun r => (∀ c : Dev Cert.DZRefIdeal.nD,
      r.2.mem ((c.tc : Thread Cert.DZRefIdeal.nD Cert.DZRefIdeal.τ).loc Cert.DZRefIdeal.main_arg0) = m ((c.tc : Thread Cert.DZRefIdeal.nD Cert.DZRefIdeal.τ).loc Cert.DZRefIdeal.main_arg0)
      ∧ r.2.mem ((c.tc : Thread Cert.DZRefIdeal.nD Cert.DZRefIdeal.τ).loc Cert.DZRefIdeal.main_arg1) = m ((c.tc : Thread Cert.DZRefIdeal.nD Cert.DZRefIdeal.τ).loc Cert.DZRefIdeal.main_arg1)
      ∧ r.2.mem ((c.tc : Thread Cert.DZRefIdeal.nD Cert.DZRefIdeal.τ).loc Cert.DZRefIdeal.main_arg2) = m ((c.tc : Thread Cert.DZRefIdeal.nD Cert.DZRefIdeal.τ).loc Cert.DZRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2)
      ∧ r.2.mem ((c.tc : Thread Cert.DUp.nD Cert.DUp.τ).loc Cert.DUp.main_arg3) = m ((c.tc : Thread Cert.DUp.nD Cert.DUp.τ).loc Cert.DUp.main_arg3))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2)
      ∧ r.2.mem ((c.tc : Thread Cert.DUpIdeal.nD Cert.DUpIdeal.τ).loc Cert.DUpIdeal.main_arg3) = m ((c.tc : Thread Cert.DUpIdeal.nD Cert.DUpIdeal.τ).loc Cert.DUpIdeal.main_arg3))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2)
      ∧ r.2.mem ((c.tc : Thread Cert.DUpRefIdeal.nD Cert.DUpRefIdeal.τ).loc Cert.DUpRefIdeal.main_arg3) = m ((c.tc : Thread Cert.DUpRefIdeal.nD Cert.DUpRefIdeal.τ).loc Cert.DUpRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1)
      ∧ r.2.mem ((c.tc : Thread Cert.DOut.nD Cert.DOut.τ).loc Cert.DOut.main_arg2) = m ((c.tc : Thread Cert.DOut.nD Cert.DOut.τ).loc Cert.DOut.main_arg2))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1)
      ∧ r.2.mem ((c.tc : Thread Cert.DOutIdeal.nD Cert.DOutIdeal.τ).loc Cert.DOutIdeal.main_arg2) = m ((c.tc : Thread Cert.DOutIdeal.nD Cert.DOutIdeal.τ).loc Cert.DOutIdeal.main_arg2))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1)
      ∧ r.2.mem ((c.tc : Thread Cert.DOutRefIdeal.nD Cert.DOutRefIdeal.τ).loc Cert.DOutRefIdeal.main_arg2) = m ((c.tc : Thread Cert.DOutRefIdeal.nD Cert.DOutRefIdeal.τ).loc Cert.DOutRefIdeal.main_arg2))
      ∧ r.2.sem = fun _ => 0)

def quiescent_DwSgIn [hDwSgIn : Cert.DwSgIn.Facts] : Prop :=
  ∀ (m : (ℓ : Loc Cert.DwSgIn.nD Cert.DwSgIn.τ Cert.DwSgIn.sig) → Buf (Elt Bits) ℓ) (g : Dev Cert.DwSgIn.nD → PrngReg), Pre_DwSgIn m →
    θ_run (Cert.DwSgIn.defs (F := Bits)) (onTc (τ := Cert.DwSgIn.τ) (Cert.DwSgIn.main (F := Bits))) ⟨m, fun _ => 0, g⟩ (fun r => (∀ c : Dev Cert.DwSgIn.nD,
      r.2.mem ((c.tc : Thread Cert.DwSgIn.nD Cert.DwSgIn.τ).loc Cert.DwSgIn.main_arg0) = m ((c.tc : Thread Cert.DwSgIn.nD Cert.DwSgIn.τ).loc Cert.DwSgIn.main_arg0)
      ∧ r.2.mem ((c.tc : Thread Cert.DwSgIn.nD Cert.DwSgIn.τ).loc Cert.DwSgIn.main_arg1) = m ((c.tc : Thread Cert.DwSgIn.nD Cert.DwSgIn.τ).loc Cert.DwSgIn.main_arg1))
      ∧ r.2.sem = fun _ => 0)

def quiescent_DwSgInIdeal [hDwSgInIdeal : Cert.DwSgInIdeal.Facts] : Prop :=
  ∀ (m : (ℓ : Loc Cert.DwSgInIdeal.nD Cert.DwSgInIdeal.τ Cert.DwSgInIdeal.sig) → Buf (Elt Ideal) ℓ) (g : Dev Cert.DwSgInIdeal.nD → PrngReg), Pre_DwSgInIdeal m →
    θ_run (Cert.DwSgInIdeal.defs (F := Ideal)) (onTc (τ := Cert.DwSgInIdeal.τ) (Cert.DwSgInIdeal.main (F := Ideal))) ⟨m, fun _ => 0, g⟩ (fun r => (∀ c : Dev Cert.DwSgInIdeal.nD,
      r.2.mem ((c.tc : Thread Cert.DwSgInIdeal.nD Cert.DwSgInIdeal.τ).loc Cert.DwSgInIdeal.main_arg0) = m ((c.tc : Thread Cert.DwSgInIdeal.nD Cert.DwSgInIdeal.τ).loc Cert.DwSgInIdeal.main_arg0)
      ∧ r.2.mem ((c.tc : Thread Cert.DwSgInIdeal.nD Cert.DwSgInIdeal.τ).loc Cert.DwSgInIdeal.main_arg1) = m ((c.tc : Thread Cert.DwSgInIdeal.nD Cert.DwSgInIdeal.τ).loc Cert.DwSgInIdeal.main_arg1))
      ∧ r.2.sem = fun _ => 0)

def quiescent_DwSgInRefIdeal [hDwSgInRefIdeal : Cert.DwSgInRefIdeal.Facts] : Prop :=
  ∀ (m : (ℓ : Loc Cert.DwSgInRefIdeal.nD Cert.DwSgInRefIdeal.τ Cert.DwSgInRefIdeal.sig) → Buf (Elt Ideal) ℓ) (g : Dev Cert.DwSgInRefIdeal.nD → PrngReg), Pre_DwSgInRefIdeal m →
    θ_run (Cert.DwSgInRefIdeal.defs (F := Ideal)) (onTc (τ := Cert.DwSgInRefIdeal.τ) (Cert.DwSgInRefIdeal.main (F := Ideal))) ⟨m, fun _ => 0, g⟩ (fun r => (∀ c : Dev Cert.DwSgInRefIdeal.nD,
      r.2.mem ((c.tc : Thread Cert.DwSgInRefIdeal.nD Cert.DwSgInRefIdeal.τ).loc Cert.DwSgInRefIdeal.main_arg0) = m ((c.tc : Thread Cert.DwSgInRefIdeal.nD Cert.DwSgInRefIdeal.τ).loc Cert.DwSgInRefIdeal.main_arg0)
      ∧ r.2.mem ((c.tc : Thread Cert.DwSgInRefIdeal.nD Cert.DwSgInRefIdeal.τ).loc Cert.DwSgInRefIdeal.main_arg1) = m ((c.tc : Thread Cert.DwSgInRefIdeal.nD Cert.DwSgInRefIdeal.τ).loc Cert.DwSgInRefIdeal.main_arg1))
      ∧ r.2.sem = fun _ => 0)

def quiescent_DSgIn [hDSgIn : Cert.DSgIn.Facts] : Prop :=
  ∀ (m : (ℓ : Loc Cert.DSgIn.nD Cert.DSgIn.τ Cert.DSgIn.sig) → Buf (Elt Bits) ℓ) (g : Dev Cert.DSgIn.nD → PrngReg), Pre_DSgIn m →
    θ_run (Cert.DSgIn.defs (F := Bits)) (onTc (τ := Cert.DSgIn.τ) (Cert.DSgIn.main (F := Bits))) ⟨m, fun _ => 0, g⟩ (fun r => (∀ c : Dev Cert.DSgIn.nD,
      r.2.mem ((c.tc : Thread Cert.DSgIn.nD Cert.DSgIn.τ).loc Cert.DSgIn.main_arg0) = m ((c.tc : Thread Cert.DSgIn.nD Cert.DSgIn.τ).loc Cert.DSgIn.main_arg0)
      ∧ r.2.mem ((c.tc : Thread Cert.DSgIn.nD Cert.DSgIn.τ).loc Cert.DSgIn.main_arg1) = m ((c.tc : Thread Cert.DSgIn.nD Cert.DSgIn.τ).loc Cert.DSgIn.main_arg1)
      ∧ r.2.mem ((c.tc : Thread Cert.DSgIn.nD Cert.DSgIn.τ).loc Cert.DSgIn.main_arg2) = m ((c.tc : Thread Cert.DSgIn.nD Cert.DSgIn.τ).loc Cert.DSgIn.main_arg2)
      ∧ r.2.mem ((c.tc : Thread Cert.DSgIn.nD Cert.DSgIn.τ).loc Cert.DSgIn.main_arg3) = m ((c.tc : Thread Cert.DSgIn.nD Cert.DSgIn.τ).loc Cert.DSgIn.main_arg3))
      ∧ r.2.sem = fun _ => 0)

def quiescent_DSgInIdeal [hDSgInIdeal : Cert.DSgInIdeal.Facts] : Prop :=
  ∀ (m : (ℓ : Loc Cert.DSgInIdeal.nD Cert.DSgInIdeal.τ Cert.DSgInIdeal.sig) → Buf (Elt Ideal) ℓ) (g : Dev Cert.DSgInIdeal.nD → PrngReg), Pre_DSgInIdeal m →
    θ_run (Cert.DSgInIdeal.defs (F := Ideal)) (onTc (τ := Cert.DSgInIdeal.τ) (Cert.DSgInIdeal.main (F := Ideal))) ⟨m, fun _ => 0, g⟩ (fun r => (∀ c : Dev Cert.DSgInIdeal.nD,
      r.2.mem ((c.tc : Thread Cert.DSgInIdeal.nD Cert.DSgInIdeal.τ).loc Cert.DSgInIdeal.main_arg0) = m ((c.tc : Thread Cert.DSgInIdeal.nD Cert.DSgInIdeal.τ).loc Cert.DSgInIdeal.main_arg0)
      ∧ r.2.mem ((c.tc : Thread Cert.DSgInIdeal.nD Cert.DSgInIdeal.τ).loc Cert.DSgInIdeal.main_arg1) = m ((c.tc : Thread Cert.DSgInIdeal.nD Cert.DSgInIdeal.τ).loc Cert.DSgInIdeal.main_arg1)
      ∧ r.2.mem ((c.tc : Thread Cert.DSgInIdeal.nD Cert.DSgInIdeal.τ).loc Cert.DSgInIdeal.main_arg2) = m ((c.tc : Thread Cert.DSgInIdeal.nD Cert.DSgInIdeal.τ).loc Cert.DSgInIdeal.main_arg2)
      ∧ r.2.mem ((c.tc : Thread Cert.DSgInIdeal.nD Cert.DSgInIdeal.τ).loc Cert.DSgInIdeal.main_arg3) = m ((c.tc : Thread Cert.DSgInIdeal.nD Cert.DSgInIdeal.τ).loc Cert.DSgInIdeal.main_arg3))
      ∧ r.2.sem = fun _ => 0)

def quiescent_DSgInRefIdeal [hDSgInRefIdeal : Cert.DSgInRefIdeal.Facts] : Prop :=
  ∀ (m : (ℓ : Loc Cert.DSgInRefIdeal.nD Cert.DSgInRefIdeal.τ Cert.DSgInRefIdeal.sig) → Buf (Elt Ideal) ℓ) (g : Dev Cert.DSgInRefIdeal.nD → PrngReg), Pre_DSgInRefIdeal m →
    θ_run (Cert.DSgInRefIdeal.defs (F := Ideal)) (onTc (τ := Cert.DSgInRefIdeal.τ) (Cert.DSgInRefIdeal.main (F := Ideal))) ⟨m, fun _ => 0, g⟩ (fun r => (∀ c : Dev Cert.DSgInRefIdeal.nD,
      r.2.mem ((c.tc : Thread Cert.DSgInRefIdeal.nD Cert.DSgInRefIdeal.τ).loc Cert.DSgInRefIdeal.main_arg0) = m ((c.tc : Thread Cert.DSgInRefIdeal.nD Cert.DSgInRefIdeal.τ).loc Cert.DSgInRefIdeal.main_arg0)
      ∧ r.2.mem ((c.tc : Thread Cert.DSgInRefIdeal.nD Cert.DSgInRefIdeal.τ).loc Cert.DSgInRefIdeal.main_arg1) = m ((c.tc : Thread Cert.DSgInRefIdeal.nD Cert.DSgInRefIdeal.τ).loc Cert.DSgInRefIdeal.main_arg1)
      ∧ r.2.mem ((c.tc : Thread Cert.DSgInRefIdeal.nD Cert.DSgInRefIdeal.τ).loc Cert.DSgInRefIdeal.main_arg2) = m ((c.tc : Thread Cert.DSgInRefIdeal.nD Cert.DSgInRefIdeal.τ).loc Cert.DSgInRefIdeal.main_arg2)
      ∧ r.2.mem ((c.tc : Thread Cert.DSgInRefIdeal.nD Cert.DSgInRefIdeal.τ).loc Cert.DSgInRefIdeal.main_arg3) = m ((c.tc : Thread Cert.DSgInRefIdeal.nD Cert.DSgInRefIdeal.τ).loc Cert.DSgInRefIdeal.main_arg3))
      ∧ r.2.sem = fun _ => 0)

def quiescent_DwHgIn [hDwHgIn : Cert.DwHgIn.Facts] : Prop :=
  ∀ (m : (ℓ : Loc Cert.DwHgIn.nD Cert.DwHgIn.τ Cert.DwHgIn.sig) → Buf (Elt Bits) ℓ) (g : Dev Cert.DwHgIn.nD → PrngReg), Pre_DwHgIn m →
    θ_run (Cert.DwHgIn.defs (F := Bits)) (onTc (τ := Cert.DwHgIn.τ) (Cert.DwHgIn.main (F := Bits))) ⟨m, fun _ => 0, g⟩ (fun r => (∀ c : Dev Cert.DwHgIn.nD,
      r.2.mem ((c.tc : Thread Cert.DwHgIn.nD Cert.DwHgIn.τ).loc Cert.DwHgIn.main_arg0) = m ((c.tc : Thread Cert.DwHgIn.nD Cert.DwHgIn.τ).loc Cert.DwHgIn.main_arg0)
      ∧ r.2.mem ((c.tc : Thread Cert.DwHgIn.nD Cert.DwHgIn.τ).loc Cert.DwHgIn.main_arg1) = m ((c.tc : Thread Cert.DwHgIn.nD Cert.DwHgIn.τ).loc Cert.DwHgIn.main_arg1)
      ∧ r.2.mem ((c.tc : Thread Cert.DwHgIn.nD Cert.DwHgIn.τ).loc Cert.DwHgIn.main_arg2) = m ((c.tc : Thread Cert.DwHgIn.nD Cert.DwHgIn.τ).loc Cert.DwHgIn.main_arg2))
      ∧ r.2.sem = fun _ => 0)

def quiescent_DwHgInIdeal [hDwHgInIdeal : Cert.DwHgInIdeal.Facts] : Prop :=
  ∀ (m : (ℓ : Loc Cert.DwHgInIdeal.nD Cert.DwHgInIdeal.τ Cert.DwHgInIdeal.sig) → Buf (Elt Ideal) ℓ) (g : Dev Cert.DwHgInIdeal.nD → PrngReg), Pre_DwHgInIdeal m →
    θ_run (Cert.DwHgInIdeal.defs (F := Ideal)) (onTc (τ := Cert.DwHgInIdeal.τ) (Cert.DwHgInIdeal.main (F := Ideal))) ⟨m, fun _ => 0, g⟩ (fun r => (∀ c : Dev Cert.DwHgInIdeal.nD,
      r.2.mem ((c.tc : Thread Cert.DwHgInIdeal.nD Cert.DwHgInIdeal.τ).loc Cert.DwHgInIdeal.main_arg0) = m ((c.tc : Thread Cert.DwHgInIdeal.nD Cert.DwHgInIdeal.τ).loc Cert.DwHgInIdeal.main_arg0)
      ∧ r.2.mem ((c.tc : Thread Cert.DwHgInIdeal.nD Cert.DwHgInIdeal.τ).loc Cert.DwHgInIdeal.main_arg1) = m ((c.tc : Thread Cert.DwHgInIdeal.nD Cert.DwHgInIdeal.τ).loc Cert.DwHgInIdeal.main_arg1)
      ∧ r.2.mem ((c.tc : Thread Cert.DwHgInIdeal.nD Cert.DwHgInIdeal.τ).loc Cert.DwHgInIdeal.main_arg2) = m ((c.tc : Thread Cert.DwHgInIdeal.nD Cert.DwHgInIdeal.τ).loc Cert.DwHgInIdeal.main_arg2))
      ∧ r.2.sem = fun _ => 0)

def quiescent_DwHgInRefIdeal [hDwHgInRefIdeal : Cert.DwHgInRefIdeal.Facts] : Prop :=
  ∀ (m : (ℓ : Loc Cert.DwHgInRefIdeal.nD Cert.DwHgInRefIdeal.τ Cert.DwHgInRefIdeal.sig) → Buf (Elt Ideal) ℓ) (g : Dev Cert.DwHgInRefIdeal.nD → PrngReg), Pre_DwHgInRefIdeal m →
    θ_run (Cert.DwHgInRefIdeal.defs (F := Ideal)) (onTc (τ := Cert.DwHgInRefIdeal.τ) (Cert.DwHgInRefIdeal.main (F := Ideal))) ⟨m, fun _ => 0, g⟩ (fun r => (∀ c : Dev Cert.DwHgInRefIdeal.nD,
      r.2.mem ((c.tc : Thread Cert.DwHgInRefIdeal.nD Cert.DwHgInRefIdeal.τ).loc Cert.DwHgInRefIdeal.main_arg0) = m ((c.tc : Thread Cert.DwHgInRefIdeal.nD Cert.DwHgInRefIdeal.τ).loc Cert.DwHgInRefIdeal.main_arg0)
      ∧ r.2.mem ((c.tc : Thread Cert.DwHgInRefIdeal.nD Cert.DwHgInRefIdeal.τ).loc Cert.DwHgInRefIdeal.main_arg1) = m ((c.tc : Thread Cert.DwHgInRefIdeal.nD Cert.DwHgInRefIdeal.τ).loc Cert.DwHgInRefIdeal.main_arg1)
      ∧ r.2.mem ((c.tc : Thread Cert.DwHgInRefIdeal.nD Cert.DwHgInRefIdeal.τ).loc Cert.DwHgInRefIdeal.main_arg2) = m ((c.tc : Thread Cert.DwHgInRefIdeal.nD Cert.DwHgInRefIdeal.τ).loc Cert.DwHgInRefIdeal.main_arg2))
      ∧ r.2.sem = fun _ => 0)

def quiescent_DHgIn [hDHgIn : Cert.DHgIn.Facts] : Prop :=
  ∀ (m : (ℓ : Loc Cert.DHgIn.nD Cert.DHgIn.τ Cert.DHgIn.sig) → Buf (Elt Bits) ℓ) (g : Dev Cert.DHgIn.nD → PrngReg), Pre_DHgIn m →
    θ_run (Cert.DHgIn.defs (F := Bits)) (onTc (τ := Cert.DHgIn.τ) (Cert.DHgIn.main (F := Bits))) ⟨m, fun _ => 0, g⟩ (fun r => (∀ c : Dev Cert.DHgIn.nD,
      r.2.mem ((c.tc : Thread Cert.DHgIn.nD Cert.DHgIn.τ).loc Cert.DHgIn.main_arg0) = m ((c.tc : Thread Cert.DHgIn.nD Cert.DHgIn.τ).loc Cert.DHgIn.main_arg0)
      ∧ r.2.mem ((c.tc : Thread Cert.DHgIn.nD Cert.DHgIn.τ).loc Cert.DHgIn.main_arg1) = m ((c.tc : Thread Cert.DHgIn.nD Cert.DHgIn.τ).loc Cert.DHgIn.main_arg1)
      ∧ r.2.mem ((c.tc : Thread Cert.DHgIn.nD Cert.DHgIn.τ).loc Cert.DHgIn.main_arg2) = m ((c.tc : Thread Cert.DHgIn.nD Cert.DHgIn.τ).loc Cert.DHgIn.main_arg2)
      ∧ r.2.mem ((c.tc : Thread Cert.DHgIn.nD Cert.DHgIn.τ).loc Cert.DHgIn.main_arg3) = m ((c.tc : Thread Cert.DHgIn.nD Cert.DHgIn.τ).loc Cert.DHgIn.main_arg3))
      ∧ r.2.sem = fun _ => 0)

def quiescent_DHgInIdeal [hDHgInIdeal : Cert.DHgInIdeal.Facts] : Prop :=
  ∀ (m : (ℓ : Loc Cert.DHgInIdeal.nD Cert.DHgInIdeal.τ Cert.DHgInIdeal.sig) → Buf (Elt Ideal) ℓ) (g : Dev Cert.DHgInIdeal.nD → PrngReg), Pre_DHgInIdeal m →
    θ_run (Cert.DHgInIdeal.defs (F := Ideal)) (onTc (τ := Cert.DHgInIdeal.τ) (Cert.DHgInIdeal.main (F := Ideal))) ⟨m, fun _ => 0, g⟩ (fun r => (∀ c : Dev Cert.DHgInIdeal.nD,
      r.2.mem ((c.tc : Thread Cert.DHgInIdeal.nD Cert.DHgInIdeal.τ).loc Cert.DHgInIdeal.main_arg0) = m ((c.tc : Thread Cert.DHgInIdeal.nD Cert.DHgInIdeal.τ).loc Cert.DHgInIdeal.main_arg0)
      ∧ r.2.mem ((c.tc : Thread Cert.DHgInIdeal.nD Cert.DHgInIdeal.τ).loc Cert.DHgInIdeal.main_arg1) = m ((c.tc : Thread Cert.DHgInIdeal.nD Cert.DHgInIdeal.τ).loc Cert.DHgInIdeal.main_arg1)
      ∧ r.2.mem ((c.tc : Thread Cert.DHgInIdeal.nD Cert.DHgInIdeal.τ).loc Cert.DHgInIdeal.main_arg2) = m ((c.tc : Thread Cert.DHgInIdeal.nD Cert.DHgInIdeal.τ).loc Cert.DHgInIdeal.main_arg2)
      ∧ r.2.mem ((c.tc : Thread Cert.DHgInIdeal.nD Cert.DHgInIdeal.τ).loc Cert.DHgInIdeal.main_arg3) = m ((c.tc : Thread Cert.DHgInIdeal.nD Cert.DHgInIdeal.τ).loc Cert.DHgInIdeal.main_arg3))
      ∧ r.2.sem = fun _ => 0)

def quiescent_DHgInRefIdeal [hDHgInRefIdeal : Cert.DHgInRefIdeal.Facts] : Prop :=
  ∀ (m : (ℓ : Loc Cert.DHgInRefIdeal.nD Cert.DHgInRefIdeal.τ Cert.DHgInRefIdeal.sig) → Buf (Elt Ideal) ℓ) (g : Dev Cert.DHgInRefIdeal.nD → PrngReg), Pre_DHgInRefIdeal m →
    θ_run (Cert.DHgInRefIdeal.defs (F := Ideal)) (onTc (τ := Cert.DHgInRefIdeal.τ) (Cert.DHgInRefIdeal.main (F := Ideal))) ⟨m, fun _ => 0, g⟩ (fun r => (∀ c : Dev Cert.DHgInRefIdeal.nD,
      r.2.mem ((c.tc : Thread Cert.DHgInRefIdeal.nD Cert.DHgInRefIdeal.τ).loc Cert.DHgInRefIdeal.main_arg0) = m ((c.tc : Thread Cert.DHgInRefIdeal.nD Cert.DHgInRefIdeal.τ).loc Cert.DHgInRefIdeal.main_arg0)
      ∧ r.2.mem ((c.tc : Thread Cert.DHgInRefIdeal.nD Cert.DHgInRefIdeal.τ).loc Cert.DHgInRefIdeal.main_arg1) = m ((c.tc : Thread Cert.DHgInRefIdeal.nD Cert.DHgInRefIdeal.τ).loc Cert.DHgInRefIdeal.main_arg1)
      ∧ r.2.mem ((c.tc : Thread Cert.DHgInRefIdeal.nD Cert.DHgInRefIdeal.τ).loc Cert.DHgInRefIdeal.main_arg2) = m ((c.tc : Thread Cert.DHgInRefIdeal.nD Cert.DHgInRefIdeal.τ).loc Cert.DHgInRefIdeal.main_arg2)
      ∧ r.2.mem ((c.tc : Thread Cert.DHgInRefIdeal.nD Cert.DHgInRefIdeal.τ).loc Cert.DHgInRefIdeal.main_arg3) = m ((c.tc : Thread Cert.DHgInRefIdeal.nD Cert.DHgInRefIdeal.τ).loc Cert.DHgInRefIdeal.main_arg3))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ r.2.sem = fun _ => 0)

def quiescent_HgInRefIdeal [hHgInRefIdeal : Cert.HgInRefIdeal.Facts] : Prop :=
  ∀ (m : (ℓ : Loc Cert.HgInRefIdeal.nD Cert.HgInRefIdeal.τ Cert.HgInRefIdeal.sig) → Buf (Elt Ideal) ℓ) (g : Dev Cert.HgInRefIdeal.nD → PrngReg), Pre_HgInRefIdeal m →
    θ_run (Cert.HgInRefIdeal.defs (F := Ideal)) (onTc (τ := Cert.HgInRefIdeal.τ) (Cert.HgInRefIdeal.main (F := Ideal))) ⟨m, fun _ => 0, g⟩ (fun r => (∀ c : Dev Cert.HgInRefIdeal.nD,
      r.2.mem ((c.tc : Thread Cert.HgInRefIdeal.nD Cert.HgInRefIdeal.τ).loc Cert.HgInRefIdeal.main_arg0) = m ((c.tc : Thread Cert.HgInRefIdeal.nD Cert.HgInRefIdeal.τ).loc Cert.HgInRefIdeal.main_arg0)
      ∧ r.2.mem ((c.tc : Thread Cert.HgInRefIdeal.nD Cert.HgInRefIdeal.τ).loc Cert.HgInRefIdeal.main_arg1) = m ((c.tc : Thread Cert.HgInRefIdeal.nD Cert.HgInRefIdeal.τ).loc Cert.HgInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_SgIn [hSgIn : Cert.SgIn.Facts] : Prop :=
  ∀ (m : (ℓ : Loc Cert.SgIn.nD Cert.SgIn.τ Cert.SgIn.sig) → Buf (Elt Bits) ℓ) (g : Dev Cert.SgIn.nD → PrngReg), Pre_SgIn m →
    θ_run (Cert.SgIn.defs (F := Bits)) (onTc (τ := Cert.SgIn.τ) (Cert.SgIn.main (F := Bits))) ⟨m, fun _ => 0, g⟩ (fun r => (∀ c : Dev Cert.SgIn.nD,
      r.2.mem ((c.tc : Thread Cert.SgIn.nD Cert.SgIn.τ).loc Cert.SgIn.main_arg0) = m ((c.tc : Thread Cert.SgIn.nD Cert.SgIn.τ).loc Cert.SgIn.main_arg0)
      ∧ r.2.mem ((c.tc : Thread Cert.SgIn.nD Cert.SgIn.τ).loc Cert.SgIn.main_arg1) = m ((c.tc : Thread Cert.SgIn.nD Cert.SgIn.τ).loc Cert.SgIn.main_arg1))
      ∧ r.2.sem = fun _ => 0)

def quiescent_SgInIdeal [hSgInIdeal : Cert.SgInIdeal.Facts] : Prop :=
  ∀ (m : (ℓ : Loc Cert.SgInIdeal.nD Cert.SgInIdeal.τ Cert.SgInIdeal.sig) → Buf (Elt Ideal) ℓ) (g : Dev Cert.SgInIdeal.nD → PrngReg), Pre_SgInIdeal m →
    θ_run (Cert.SgInIdeal.defs (F := Ideal)) (onTc (τ := Cert.SgInIdeal.τ) (Cert.SgInIdeal.main (F := Ideal))) ⟨m, fun _ => 0, g⟩ (fun r => (∀ c : Dev Cert.SgInIdeal.nD,
      r.2.mem ((c.tc : Thread Cert.SgInIdeal.nD Cert.SgInIdeal.τ).loc Cert.SgInIdeal.main_arg0) = m ((c.tc : Thread Cert.SgInIdeal.nD Cert.SgInIdeal.τ).loc Cert.SgInIdeal.main_arg0)
      ∧ r.2.mem ((c.tc : Thread Cert.SgInIdeal.nD Cert.SgInIdeal.τ).loc Cert.SgInIdeal.main_arg1) = m ((c.tc : Thread Cert.SgInIdeal.nD Cert.SgInIdeal.τ).loc Cert.SgInIdeal.main_arg1))
      ∧ r.2.sem = fun _ => 0)

def quiescent_SgInRefIdeal [hSgInRefIdeal : Cert.SgInRefIdeal.Facts] : Prop :=
  ∀ (m : (ℓ : Loc Cert.SgInRefIdeal.nD Cert.SgInRefIdeal.τ Cert.SgInRefIdeal.sig) → Buf (Elt Ideal) ℓ) (g : Dev Cert.SgInRefIdeal.nD → PrngReg), Pre_SgInRefIdeal m →
    θ_run (Cert.SgInRefIdeal.defs (F := Ideal)) (onTc (τ := Cert.SgInRefIdeal.τ) (Cert.SgInRefIdeal.main (F := Ideal))) ⟨m, fun _ => 0, g⟩ (fun r => (∀ c : Dev Cert.SgInRefIdeal.nD,
      r.2.mem ((c.tc : Thread Cert.SgInRefIdeal.nD Cert.SgInRefIdeal.τ).loc Cert.SgInRefIdeal.main_arg0) = m ((c.tc : Thread Cert.SgInRefIdeal.nD Cert.SgInRefIdeal.τ).loc Cert.SgInRefIdeal.main_arg0)
      ∧ r.2.mem ((c.tc : Thread Cert.SgInRefIdeal.nD Cert.SgInRefIdeal.τ).loc Cert.SgInRefIdeal.main_arg1) = m ((c.tc : Thread Cert.SgInRefIdeal.nD Cert.SgInRefIdeal.τ).loc Cert.SgInRefIdeal.main_arg1))
      ∧ r.2.sem = fun _ => 0)

def quiescent_AdamLb [hAdamLb : Cert.AdamLb.Facts] : Prop :=
  ∀ (m : (ℓ : Loc Cert.AdamLb.nD Cert.AdamLb.τ Cert.AdamLb.sig) → Buf (Elt Bits) ℓ) (g : Dev Cert.AdamLb.nD → PrngReg), Pre_AdamLb m →
    θ_run (Cert.AdamLb.defs (F := Bits)) (onTc (τ := Cert.AdamLb.τ) (Cert.AdamLb.main (F := Bits))) ⟨m, fun _ => 0, g⟩ (fun r => (∀ c : Dev Cert.AdamLb.nD,
      r.2.mem ((c.tc : Thread Cert.AdamLb.nD Cert.AdamLb.τ).loc Cert.AdamLb.main_arg0) = m ((c.tc : Thread Cert.AdamLb.nD Cert.AdamLb.τ).loc Cert.AdamLb.main_arg0)
      ∧ r.2.mem ((c.tc : Thread Cert.AdamLb.nD Cert.AdamLb.τ).loc Cert.AdamLb.main_arg1) = m ((c.tc : Thread Cert.AdamLb.nD Cert.AdamLb.τ).loc Cert.AdamLb.main_arg1)
      ∧ r.2.mem ((c.tc : Thread Cert.AdamLb.nD Cert.AdamLb.τ).loc Cert.AdamLb.main_arg2) = m ((c.tc : Thread Cert.AdamLb.nD Cert.AdamLb.τ).loc Cert.AdamLb.main_arg2)
      ∧ r.2.mem ((c.tc : Thread Cert.AdamLb.nD Cert.AdamLb.τ).loc Cert.AdamLb.main_arg3) = m ((c.tc : Thread Cert.AdamLb.nD Cert.AdamLb.τ).loc Cert.AdamLb.main_arg3))
      ∧ r.2.sem = fun _ => 0)

def quiescent_AdamLbIdeal [hAdamLbIdeal : Cert.AdamLbIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg), Pre_AdamLbIdeal m →
    θ_run (Cert.AdamLbIdeal.defs (F := Ideal)) (onTc (τ := Cert.AdamLbIdeal.τ) (Cert.AdamLbIdeal.main (F := Ideal))) ⟨m, fun _ => 0, g⟩ (fun r => (∀ c : Dev Cert.AdamLbIdeal.nD,
      r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
      ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
      ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
      ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3))
      ∧ r.2.sem = fun _ => 0)

def quiescent_AdamLbRefIdeal [hAdamLbRefIdeal : Cert.AdamLbRefIdeal.Facts] : Prop :=
  ∀ (m : (ℓ : Loc Cert.AdamLbRefIdeal.nD Cert.AdamLbRefIdeal.τ Cert.AdamLbRefIdeal.sig) → Buf (Elt Ideal) ℓ) (g : Dev Cert.AdamLbRefIdeal.nD → PrngReg), Pre_AdamLbRefIdeal m →
    θ_run (Cert.AdamLbRefIdeal.defs (F := Ideal)) (onTc (τ := Cert.AdamLbRefIdeal.τ) (Cert.AdamLbRefIdeal.main (F := Ideal))) ⟨m, fun _ => 0, g⟩ (fun r => (∀ c : Dev Cert.AdamLbRefIdeal.nD,
      r.2.mem ((c.tc : Thread Cert.AdamLbRefIdeal.nD Cert.AdamLbRefIdeal.τ).loc Cert.AdamLbRefIdeal.main_arg0) = m ((c.tc : Thread Cert.AdamLbRefIdeal.nD Cert.AdamLbRefIdeal.τ).loc Cert.AdamLbRefIdeal.main_arg0)
      ∧ r.2.mem ((c.tc : Thread Cert.AdamLbRefIdeal.nD Cert.AdamLbRefIdeal.τ).loc Cert.AdamLbRefIdeal.main_arg1) = m ((c.tc : Thread Cert.AdamLbRefIdeal.nD Cert.AdamLbRefIdeal.τ).loc Cert.AdamLbRefIdeal.main_arg1)
      ∧ r.2.mem ((c.tc : Thread Cert.AdamLbRefIdeal.nD Cert.AdamLbRefIdeal.τ).loc Cert.AdamLbRefIdeal.main_arg2) = m ((c.tc : Thread Cert.AdamLbRefIdeal.nD Cert.AdamLbRefIdeal.τ).loc Cert.AdamLbRefIdeal.main_arg2)
      ∧ r.2.mem ((c.tc : Thread Cert.AdamLbRefIdeal.nD Cert.AdamLbRefIdeal.τ).loc Cert.AdamLbRefIdeal.main_arg3) = m ((c.tc : Thread Cert.AdamLbRefIdeal.nD Cert.AdamLbRefIdeal.τ).loc Cert.AdamLbRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamSgLn [hAdamSgLn : Cert.AdamSgLn.Facts] : Prop :=
  ∀ (m : (ℓ : Loc Cert.AdamSgLn.nD Cert.AdamSgLn.τ Cert.AdamSgLn.sig) → Buf (Elt Bits) ℓ) (g : Dev Cert.AdamSgLn.nD → PrngReg), Pre_AdamSgLn m →
    θ_run (Cert.AdamSgLn.defs (F := Bits)) (onTc (τ := Cert.AdamSgLn.τ) (Cert.AdamSgLn.main (F := Bits))) ⟨m, fun _ => 0, g⟩ (fun r => (∀ c : Dev Cert.AdamSgLn.nD,
      r.2.mem ((c.tc : Thread Cert.AdamSgLn.nD Cert.AdamSgLn.τ).loc Cert.AdamSgLn.main_arg0) = m ((c.tc : Thread Cert.AdamSgLn.nD Cert.AdamSgLn.τ).loc Cert.AdamSgLn.main_arg0)
      ∧ r.2.mem ((c.tc : Thread Cert.AdamSgLn.nD Cert.AdamSgLn.τ).loc Cert.AdamSgLn.main_arg1) = m ((c.tc : Thread Cert.AdamSgLn.nD Cert.AdamSgLn.τ).loc Cert.AdamSgLn.main_arg1)
      ∧ r.2.mem ((c.tc : Thread Cert.AdamSgLn.nD Cert.AdamSgLn.τ).loc Cert.AdamSgLn.main_arg2) = m ((c.tc : Thread Cert.AdamSgLn.nD Cert.AdamSgLn.τ).loc Cert.AdamSgLn.main_arg2)
      ∧ r.2.mem ((c.tc : Thread Cert.AdamSgLn.nD Cert.AdamSgLn.τ).loc Cert.AdamSgLn.main_arg3) = m ((c.tc : Thread Cert.AdamSgLn.nD Cert.AdamSgLn.τ).loc Cert.AdamSgLn.main_arg3))
      ∧ r.2.sem = fun _ => 0)

def quiescent_AdamSgLnIdeal [hAdamSgLnIdeal : Cert.AdamSgLnIdeal.Facts] : Prop :=
  ∀ (m : (ℓ : Loc Cert.AdamSgLnIdeal.nD Cert.AdamSgLnIdeal.τ Cert.AdamSgLnIdeal.sig) → Buf (Elt Ideal) ℓ) (g : Dev Cert.AdamSgLnIdeal.nD → PrngReg), Pre_AdamSgLnIdeal m →
    θ_run (Cert.AdamSgLnIdeal.defs (F := Ideal)) (onTc (τ := Cert.AdamSgLnIdeal.τ) (Cert.AdamSgLnIdeal.main (F := Ideal))) ⟨m, fun _ => 0, g⟩ (fun r => (∀ c : Dev Cert.AdamSgLnIdeal.nD,
      r.2.mem ((c.tc : Thread Cert.AdamSgLnIdeal.nD Cert.AdamSgLnIdeal.τ).loc Cert.AdamSgLnIdeal.main_arg0) = m ((c.tc : Thread Cert.AdamSgLnIdeal.nD Cert.AdamSgLnIdeal.τ).loc Cert.AdamSgLnIdeal.main_arg0)
      ∧ r.2.mem ((c.tc : Thread Cert.AdamSgLnIdeal.nD Cert.AdamSgLnIdeal.τ).loc Cert.AdamSgLnIdeal.main_arg1) = m ((c.tc : Thread Cert.AdamSgLnIdeal.nD Cert.AdamSgLnIdeal.τ).loc Cert.AdamSgLnIdeal.main_arg1)
      ∧ r.2.mem ((c.tc : Thread Cert.AdamSgLnIdeal.nD Cert.AdamSgLnIdeal.τ).loc Cert.AdamSgLnIdeal.main_arg2) = m ((c.tc : Thread Cert.AdamSgLnIdeal.nD Cert.AdamSgLnIdeal.τ).loc Cert.AdamSgLnIdeal.main_arg2)
      ∧ r.2.mem ((c.tc : Thread Cert.AdamSgLnIdeal.nD Cert.AdamSgLnIdeal.τ).loc Cert.AdamSgLnIdeal.main_arg3) = m ((c.tc : Thread Cert.AdamSgLnIdeal.nD Cert.AdamSgLnIdeal.τ).loc Cert.AdamSgLnIdeal.main_arg3))
      ∧ r.2.sem = fun _ => 0)

def quiescent_AdamSgLnRefIdeal [hAdamSgLnRefIdeal : Cert.AdamSgLnRefIdeal.Facts] : Prop :=
  ∀ (m : (ℓ : Loc Cert.AdamSgLnRefIdeal.nD Cert.AdamSgLnRefIdeal.τ Cert.AdamSgLnRefIdeal.sig) → Buf (Elt Ideal) ℓ) (g : Dev Cert.AdamSgLnRefIdeal.nD → PrngReg), Pre_AdamSgLnRefIdeal m →
    θ_run (Cert.AdamSgLnRefIdeal.defs (F := Ideal)) (onTc (τ := Cert.AdamSgLnRefIdeal.τ) (Cert.AdamSgLnRefIdeal.main (F := Ideal))) ⟨m, fun _ => 0, g⟩ (fun r => (∀ c : Dev Cert.AdamSgLnRefIdeal.nD,
      r.2.mem ((c.tc : Thread Cert.AdamSgLnRefIdeal.nD Cert.AdamSgLnRefIdeal.τ).loc Cert.AdamSgLnRefIdeal.main_arg0) = m ((c.tc : Thread Cert.AdamSgLnRefIdeal.nD Cert.AdamSgLnRefIdeal.τ).loc Cert.AdamSgLnRefIdeal.main_arg0)
      ∧ r.2.mem ((c.tc : Thread Cert.AdamSgLnRefIdeal.nD Cert.AdamSgLnRefIdeal.τ).loc Cert.AdamSgLnRefIdeal.main_arg1) = m ((c.tc : Thread Cert.AdamSgLnRefIdeal.nD Cert.AdamSgLnRefIdeal.τ).loc Cert.AdamSgLnRefIdeal.main_arg1)
      ∧ r.2.mem ((c.tc : Thread Cert.AdamSgLnRefIdeal.nD Cert.AdamSgLnRefIdeal.τ).loc Cert.AdamSgLnRefIdeal.main_arg2) = m ((c.tc : Thread Cert.AdamSgLnRefIdeal.nD Cert.AdamSgLnRefIdeal.τ).loc Cert.AdamSgLnRefIdeal.main_arg2)
      ∧ r.2.mem ((c.tc : Thread Cert.AdamSgLnRefIdeal.nD Cert.AdamSgLnRefIdeal.τ).loc Cert.AdamSgLnRefIdeal.main_arg3) = m ((c.tc : Thread Cert.AdamSgLnRefIdeal.nD Cert.AdamSgLnRefIdeal.τ).loc Cert.AdamSgLnRefIdeal.main_arg3))
      ∧ r.2.sem = fun _ => 0)

def quiescent_AdamSgWs [hAdamSgWs : Cert.AdamSgWs.Facts] : Prop :=
  ∀ (m : (ℓ : Loc Cert.AdamSgWs.nD Cert.AdamSgWs.τ Cert.AdamSgWs.sig) → Buf (Elt Bits) ℓ) (g : Dev Cert.AdamSgWs.nD → PrngReg), Pre_AdamSgWs m →
    θ_run (Cert.AdamSgWs.defs (F := Bits)) (onTc (τ := Cert.AdamSgWs.τ) (Cert.AdamSgWs.main (F := Bits))) ⟨m, fun _ => 0, g⟩ (fun r => (∀ c : Dev Cert.AdamSgWs.nD,
      r.2.mem ((c.tc : Thread Cert.AdamSgWs.nD Cert.AdamSgWs.τ).loc Cert.AdamSgWs.main_arg0) = m ((c.tc : Thread Cert.AdamSgWs.nD Cert.AdamSgWs.τ).loc Cert.AdamSgWs.main_arg0)
      ∧ r.2.mem ((c.tc : Thread Cert.AdamSgWs.nD Cert.AdamSgWs.τ).loc Cert.AdamSgWs.main_arg1) = m ((c.tc : Thread Cert.AdamSgWs.nD Cert.AdamSgWs.τ).loc Cert.AdamSgWs.main_arg1)
      ∧ r.2.mem ((c.tc : Thread Cert.AdamSgWs.nD Cert.AdamSgWs.τ).loc Cert.AdamSgWs.main_arg2) = m ((c.tc : Thread Cert.AdamSgWs.nD Cert.AdamSgWs.τ).loc Cert.AdamSgWs.main_arg2)
      ∧ r.2.mem ((c.tc : Thread Cert.AdamSgWs.nD Cert.AdamSgWs.τ).loc Cert.AdamSgWs.main_arg3) = m ((c.tc : Thread Cert.AdamSgWs.nD Cert.AdamSgWs.τ).loc Cert.AdamSgWs.main_arg3))
      ∧ r.2.sem = fun _ => 0)

def quiescent_AdamSgWsIdeal [hAdamSgWsIdeal : Cert.AdamSgWsIdeal.Facts] : Prop :=
  ∀ (m : (ℓ : Loc Cert.AdamSgWsIdeal.nD Cert.AdamSgWsIdeal.τ Cert.AdamSgWsIdeal.sig) → Buf (Elt Ideal) ℓ) (g : Dev Cert.AdamSgWsIdeal.nD → PrngReg), Pre_AdamSgWsIdeal m →
    θ_run (Cert.AdamSgWsIdeal.defs (F := Ideal)) (onTc (τ := Cert.AdamSgWsIdeal.τ) (Cert.AdamSgWsIdeal.main (F := Ideal))) ⟨m, fun _ => 0, g⟩ (fun r => (∀ c : Dev Cert.AdamSgWsIdeal.nD,
      r.2.mem ((c.tc : Thread Cert.AdamSgWsIdeal.nD Cert.AdamSgWsIdeal.τ).loc Cert.AdamSgWsIdeal.main_arg0) = m ((c.tc : Thread Cert.AdamSgWsIdeal.nD Cert.AdamSgWsIdeal.τ).loc Cert.AdamSgWsIdeal.main_arg0)
      ∧ r.2.mem ((c.tc : Thread Cert.AdamSgWsIdeal.nD Cert.AdamSgWsIdeal.τ).loc Cert.AdamSgWsIdeal.main_arg1) = m ((c.tc : Thread Cert.AdamSgWsIdeal.nD Cert.AdamSgWsIdeal.τ).loc Cert.AdamSgWsIdeal.main_arg1)
      ∧ r.2.mem ((c.tc : Thread Cert.AdamSgWsIdeal.nD Cert.AdamSgWsIdeal.τ).loc Cert.AdamSgWsIdeal.main_arg2) = m ((c.tc : Thread Cert.AdamSgWsIdeal.nD Cert.AdamSgWsIdeal.τ).loc Cert.AdamSgWsIdeal.main_arg2)
      ∧ r.2.mem ((c.tc : Thread Cert.AdamSgWsIdeal.nD Cert.AdamSgWsIdeal.τ).loc Cert.AdamSgWsIdeal.main_arg3) = m ((c.tc : Thread Cert.AdamSgWsIdeal.nD Cert.AdamSgWsIdeal.τ).loc Cert.AdamSgWsIdeal.main_arg3))
      ∧ r.2.sem = fun _ => 0)

def quiescent_AdamSgWsRefIdeal [hAdamSgWsRefIdeal : Cert.AdamSgWsRefIdeal.Facts] : Prop :=
  ∀ (m : (ℓ : Loc Cert.AdamSgWsRefIdeal.nD Cert.AdamSgWsRefIdeal.τ Cert.AdamSgWsRefIdeal.sig) → Buf (Elt Ideal) ℓ) (g : Dev Cert.AdamSgWsRefIdeal.nD → PrngReg), Pre_AdamSgWsRefIdeal m →
    θ_run (Cert.AdamSgWsRefIdeal.defs (F := Ideal)) (onTc (τ := Cert.AdamSgWsRefIdeal.τ) (Cert.AdamSgWsRefIdeal.main (F := Ideal))) ⟨m, fun _ => 0, g⟩ (fun r => (∀ c : Dev Cert.AdamSgWsRefIdeal.nD,
      r.2.mem ((c.tc : Thread Cert.AdamSgWsRefIdeal.nD Cert.AdamSgWsRefIdeal.τ).loc Cert.AdamSgWsRefIdeal.main_arg0) = m ((c.tc : Thread Cert.AdamSgWsRefIdeal.nD Cert.AdamSgWsRefIdeal.τ).loc Cert.AdamSgWsRefIdeal.main_arg0)
      ∧ r.2.mem ((c.tc : Thread Cert.AdamSgWsRefIdeal.nD Cert.AdamSgWsRefIdeal.τ).loc Cert.AdamSgWsRefIdeal.main_arg1) = m ((c.tc : Thread Cert.AdamSgWsRefIdeal.nD Cert.AdamSgWsRefIdeal.τ).loc Cert.AdamSgWsRefIdeal.main_arg1)
      ∧ r.2.mem ((c.tc : Thread Cert.AdamSgWsRefIdeal.nD Cert.AdamSgWsRefIdeal.τ).loc Cert.AdamSgWsRefIdeal.main_arg2) = m ((c.tc : Thread Cert.AdamSgWsRefIdeal.nD Cert.AdamSgWsRefIdeal.τ).loc Cert.AdamSgWsRefIdeal.main_arg2)
      ∧ r.2.mem ((c.tc : Thread Cert.AdamSgWsRefIdeal.nD Cert.AdamSgWsRefIdeal.τ).loc Cert.AdamSgWsRefIdeal.main_arg3) = m ((c.tc : Thread Cert.AdamSgWsRefIdeal.nD Cert.AdamSgWsRefIdeal.τ).loc Cert.AdamSgWsRefIdeal.main_arg3))
      ∧ r.2.sem = fun _ => 0)

def quiescent_AdamSgBs [hAdamSgBs : Cert.AdamSgBs.Facts] : Prop :=
  ∀ (m : (ℓ : Loc Cert.AdamSgBs.nD Cert.AdamSgBs.τ Cert.AdamSgBs.sig) → Buf (Elt Bits) ℓ) (g : Dev Cert.AdamSgBs.nD → PrngReg), Pre_AdamSgBs m →
    θ_run (Cert.AdamSgBs.defs (F := Bits)) (onTc (τ := Cert.AdamSgBs.τ) (Cert.AdamSgBs.main (F := Bits))) ⟨m, fun _ => 0, g⟩ (fun r => (∀ c : Dev Cert.AdamSgBs.nD,
      r.2.mem ((c.tc : Thread Cert.AdamSgBs.nD Cert.AdamSgBs.τ).loc Cert.AdamSgBs.main_arg0) = m ((c.tc : Thread Cert.AdamSgBs.nD Cert.AdamSgBs.τ).loc Cert.AdamSgBs.main_arg0)
      ∧ r.2.mem ((c.tc : Thread Cert.AdamSgBs.nD Cert.AdamSgBs.τ).loc Cert.AdamSgBs.main_arg1) = m ((c.tc : Thread Cert.AdamSgBs.nD Cert.AdamSgBs.τ).loc Cert.AdamSgBs.main_arg1)
      ∧ r.2.mem ((c.tc : Thread Cert.AdamSgBs.nD Cert.AdamSgBs.τ).loc Cert.AdamSgBs.main_arg2) = m ((c.tc : Thread Cert.AdamSgBs.nD Cert.AdamSgBs.τ).loc Cert.AdamSgBs.main_arg2)
      ∧ r.2.mem ((c.tc : Thread Cert.AdamSgBs.nD Cert.AdamSgBs.τ).loc Cert.AdamSgBs.main_arg3) = m ((c.tc : Thread Cert.AdamSgBs.nD Cert.AdamSgBs.τ).loc Cert.AdamSgBs.main_arg3))
      ∧ r.2.sem = fun _ => 0)

def quiescent_AdamSgBsIdeal [hAdamSgBsIdeal : Cert.AdamSgBsIdeal.Facts] : Prop :=
  ∀ (m : (ℓ : Loc Cert.AdamSgBsIdeal.nD Cert.AdamSgBsIdeal.τ Cert.AdamSgBsIdeal.sig) → Buf (Elt Ideal) ℓ) (g : Dev Cert.AdamSgBsIdeal.nD → PrngReg), Pre_AdamSgBsIdeal m →
    θ_run (Cert.AdamSgBsIdeal.defs (F := Ideal)) (onTc (τ := Cert.AdamSgBsIdeal.τ) (Cert.AdamSgBsIdeal.main (F := Ideal))) ⟨m, fun _ => 0, g⟩ (fun r => (∀ c : Dev Cert.AdamSgBsIdeal.nD,
      r.2.mem ((c.tc : Thread Cert.AdamSgBsIdeal.nD Cert.AdamSgBsIdeal.τ).loc Cert.AdamSgBsIdeal.main_arg0) = m ((c.tc : Thread Cert.AdamSgBsIdeal.nD Cert.AdamSgBsIdeal.τ).loc Cert.AdamSgBsIdeal.main_arg0)
      ∧ r.2.mem ((c.tc : Thread Cert.AdamSgBsIdeal.nD Cert.AdamSgBsIdeal.τ).loc Cert.AdamSgBsIdeal.main_arg1) = m ((c.tc : Thread Cert.AdamSgBsIdeal.nD Cert.AdamSgBsIdeal.τ).loc Cert.AdamSgBsIdeal.main_arg1)
      ∧ r.2.mem ((c.tc : Thread Cert.AdamSgBsIdeal.nD Cert.AdamSgBsIdeal.τ).loc Cert.AdamSgBsIdeal.main_arg2) = m ((c.tc : Thread Cert.AdamSgBsIdeal.nD Cert.AdamSgBsIdeal.τ).loc Cert.AdamSgBsIdeal.main_arg2)
      ∧ r.2.mem ((c.tc : Thread Cert.AdamSgBsIdeal.nD Cert.AdamSgBsIdeal.τ).loc Cert.AdamSgBsIdeal.main_arg3) = m ((c.tc : Thread Cert.AdamSgBsIdeal.nD Cert.AdamSgBsIdeal.τ).loc Cert.AdamSgBsIdeal.main_arg3))
      ∧ r.2.sem = fun _ => 0)

def quiescent_AdamSgBsRefIdeal [hAdamSgBsRefIdeal : Cert.AdamSgBsRefIdeal.Facts] : Prop :=
  ∀ (m : (ℓ : Loc Cert.AdamSgBsRefIdeal.nD Cert.AdamSgBsRefIdeal.τ Cert.AdamSgBsRefIdeal.sig) → Buf (Elt Ideal) ℓ) (g : Dev Cert.AdamSgBsRefIdeal.nD → PrngReg), Pre_AdamSgBsRefIdeal m →
    θ_run (Cert.AdamSgBsRefIdeal.defs (F := Ideal)) (onTc (τ := Cert.AdamSgBsRefIdeal.τ) (Cert.AdamSgBsRefIdeal.main (F := Ideal))) ⟨m, fun _ => 0, g⟩ (fun r => (∀ c : Dev Cert.AdamSgBsRefIdeal.nD,
      r.2.mem ((c.tc : Thread Cert.AdamSgBsRefIdeal.nD Cert.AdamSgBsRefIdeal.τ).loc Cert.AdamSgBsRefIdeal.main_arg0) = m ((c.tc : Thread Cert.AdamSgBsRefIdeal.nD Cert.AdamSgBsRefIdeal.τ).loc Cert.AdamSgBsRefIdeal.main_arg0)
      ∧ r.2.mem ((c.tc : Thread Cert.AdamSgBsRefIdeal.nD Cert.AdamSgBsRefIdeal.τ).loc Cert.AdamSgBsRefIdeal.main_arg1) = m ((c.tc : Thread Cert.AdamSgBsRefIdeal.nD Cert.AdamSgBsRefIdeal.τ).loc Cert.AdamSgBsRefIdeal.main_arg1)
      ∧ r.2.mem ((c.tc : Thread Cert.AdamSgBsRefIdeal.nD Cert.AdamSgBsRefIdeal.τ).loc Cert.AdamSgBsRefIdeal.main_arg2) = m ((c.tc : Thread Cert.AdamSgBsRefIdeal.nD Cert.AdamSgBsRefIdeal.τ).loc Cert.AdamSgBsRefIdeal.main_arg2)
      ∧ r.2.mem ((c.tc : Thread Cert.AdamSgBsRefIdeal.nD Cert.AdamSgBsRefIdeal.τ).loc Cert.AdamSgBsRefIdeal.main_arg3) = m ((c.tc : Thread Cert.AdamSgBsRefIdeal.nD Cert.AdamSgBsRefIdeal.τ).loc Cert.AdamSgBsRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnRefIdeal [hAdamLnRefIdeal : Cert.AdamLnRefIdeal.Facts] : Prop :=
  ∀ (m : (ℓ : Loc Cert.AdamLnRefIdeal.nD Cert.AdamLnRefIdeal.τ Cert.AdamLnRefIdeal.sig) → Buf (Elt Ideal) ℓ) (g : Dev Cert.AdamLnRefIdeal.nD → PrngReg), Pre_AdamLnRefIdeal m →
    θ_run (Cert.AdamLnRefIdeal.defs (F := Ideal)) (onTc (τ := Cert.AdamLnRefIdeal.τ) (Cert.AdamLnRefIdeal.main (F := Ideal))) ⟨m, fun _ => 0, g⟩ (fun r => (∀ c : Dev Cert.AdamLnRefIdeal.nD,
      r.2.mem ((c.tc : Thread Cert.AdamLnRefIdeal.nD Cert.AdamLnRefIdeal.τ).loc Cert.AdamLnRefIdeal.main_arg0) = m ((c.tc : Thread Cert.AdamLnRefIdeal.nD Cert.AdamLnRefIdeal.τ).loc Cert.AdamLnRefIdeal.main_arg0)
      ∧ r.2.mem ((c.tc : Thread Cert.AdamLnRefIdeal.nD Cert.AdamLnRefIdeal.τ).loc Cert.AdamLnRefIdeal.main_arg1) = m ((c.tc : Thread Cert.AdamLnRefIdeal.nD Cert.AdamLnRefIdeal.τ).loc Cert.AdamLnRefIdeal.main_arg1)
      ∧ r.2.mem ((c.tc : Thread Cert.AdamLnRefIdeal.nD Cert.AdamLnRefIdeal.τ).loc Cert.AdamLnRefIdeal.main_arg2) = m ((c.tc : Thread Cert.AdamLnRefIdeal.nD Cert.AdamLnRefIdeal.τ).loc Cert.AdamLnRefIdeal.main_arg2)
      ∧ r.2.mem ((c.tc : Thread Cert.AdamLnRefIdeal.nD Cert.AdamLnRefIdeal.τ).loc Cert.AdamLnRefIdeal.main_arg3) = m ((c.tc : Thread Cert.AdamLnRefIdeal.nD Cert.AdamLnRefIdeal.τ).loc Cert.AdamLnRefIdeal.main_arg3))
      ∧ r.2.sem = fun _ => 0)

def quiescent_AdamHgIn [hAdamHgIn : Cert.AdamHgIn.Facts] : Prop :=
  ∀ (m : (ℓ : Loc Cert.AdamHgIn.nD Cert.AdamHgIn.τ Cert.AdamHgIn.sig) → Buf (Elt Bits) ℓ) (g : Dev Cert.AdamHgIn.nD → PrngReg), Pre_AdamHgIn m →
    θ_run (Cert.AdamHgIn.defs (F := Bits)) (onTc (τ := Cert.AdamHgIn.τ) (Cert.AdamHgIn.main (F := Bits))) ⟨m, fun _ => 0, g⟩ (fun r => (∀ c : Dev Cert.AdamHgIn.nD,
      r.2.mem ((c.tc : Thread Cert.AdamHgIn.nD Cert.AdamHgIn.τ).loc Cert.AdamHgIn.main_arg0) = m ((c.tc : Thread Cert.AdamHgIn.nD Cert.AdamHgIn.τ).loc Cert.AdamHgIn.main_arg0)
      ∧ r.2.mem ((c.tc : Thread Cert.AdamHgIn.nD Cert.AdamHgIn.τ).loc Cert.AdamHgIn.main_arg1) = m ((c.tc : Thread Cert.AdamHgIn.nD Cert.AdamHgIn.τ).loc Cert.AdamHgIn.main_arg1)
      ∧ r.2.mem ((c.tc : Thread Cert.AdamHgIn.nD Cert.AdamHgIn.τ).loc Cert.AdamHgIn.main_arg2) = m ((c.tc : Thread Cert.AdamHgIn.nD Cert.AdamHgIn.τ).loc Cert.AdamHgIn.main_arg2)
      ∧ r.2.mem ((c.tc : Thread Cert.AdamHgIn.nD Cert.AdamHgIn.τ).loc Cert.AdamHgIn.main_arg3) = m ((c.tc : Thread Cert.AdamHgIn.nD Cert.AdamHgIn.τ).loc Cert.AdamHgIn.main_arg3)
      ∧ r.2.mem ((c.tc : Thread Cert.AdamHgIn.nD Cert.AdamHgIn.τ).loc Cert.AdamHgIn.main_arg4) = m ((c.tc : Thread Cert.AdamHgIn.nD Cert.AdamHgIn.τ).loc Cert.AdamHgIn.main_arg4)
      ∧ r.2.mem ((c.tc : Thread Cert.AdamHgIn.nD Cert.AdamHgIn.τ).loc Cert.AdamHgIn.main_arg5) = m ((c.tc : Thread Cert.AdamHgIn.nD Cert.AdamHgIn.τ).loc Cert.AdamHgIn.main_arg5))
      ∧ r.2.sem = fun _ => 0)

def quiescent_AdamHgInIdeal [hAdamHgInIdeal : Cert.AdamHgInIdeal.Facts] : Prop :=
  ∀ (m : (ℓ : Loc Cert.AdamHgInIdeal.nD Cert.AdamHgInIdeal.τ Cert.AdamHgInIdeal.sig) → Buf (Elt Ideal) ℓ) (g : Dev Cert.AdamHgInIdeal.nD → PrngReg), Pre_AdamHgInIdeal m →
    θ_run (Cert.AdamHgInIdeal.defs (F := Ideal)) (onTc (τ := Cert.AdamHgInIdeal.τ) (Cert.AdamHgInIdeal.main (F := Ideal))) ⟨m, fun _ => 0, g⟩ (fun r => (∀ c : Dev Cert.AdamHgInIdeal.nD,
      r.2.mem ((c.tc : Thread Cert.AdamHgInIdeal.nD Cert.AdamHgInIdeal.τ).loc Cert.AdamHgInIdeal.main_arg0) = m ((c.tc : Thread Cert.AdamHgInIdeal.nD Cert.AdamHgInIdeal.τ).loc Cert.AdamHgInIdeal.main_arg0)
      ∧ r.2.mem ((c.tc : Thread Cert.AdamHgInIdeal.nD Cert.AdamHgInIdeal.τ).loc Cert.AdamHgInIdeal.main_arg1) = m ((c.tc : Thread Cert.AdamHgInIdeal.nD Cert.AdamHgInIdeal.τ).loc Cert.AdamHgInIdeal.main_arg1)
      ∧ r.2.mem ((c.tc : Thread Cert.AdamHgInIdeal.nD Cert.AdamHgInIdeal.τ).loc Cert.AdamHgInIdeal.main_arg2) = m ((c.tc : Thread Cert.AdamHgInIdeal.nD Cert.AdamHgInIdeal.τ).loc Cert.AdamHgInIdeal.main_arg2)
      ∧ r.2.mem ((c.tc : Thread Cert.AdamHgInIdeal.nD Cert.AdamHgInIdeal.τ).loc Cert.AdamHgInIdeal.main_arg3) = m ((c.tc : Thread Cert.AdamHgInIdeal.nD Cert.AdamHgInIdeal.τ).loc Cert.AdamHgInIdeal.main_arg3)
      ∧ r.2.mem ((c.tc : Thread Cert.AdamHgInIdeal.nD Cert.AdamHgInIdeal.τ).loc Cert.AdamHgInIdeal.main_arg4) = m ((c.tc : Thread Cert.AdamHgInIdeal.nD Cert.AdamHgInIdeal.τ).loc Cert.AdamHgInIdeal.main_arg4)
      ∧ r.2.mem ((c.tc : Thread Cert.AdamHgInIdeal.nD Cert.AdamHgInIdeal.τ).loc Cert.AdamHgInIdeal.main_arg5) = m ((c.tc : Thread Cert.AdamHgInIdeal.nD Cert.AdamHgInIdeal.τ).loc Cert.AdamHgInIdeal.main_arg5))
      ∧ r.2.sem = fun _ => 0)

def quiescent_AdamHgInRefIdeal [hAdamHgInRefIdeal : Cert.AdamHgInRefIdeal.Facts] : Prop :=
  ∀ (m : (ℓ : Loc Cert.AdamHgInRefIdeal.nD Cert.AdamHgInRefIdeal.τ Cert.AdamHgInRefIdeal.sig) → Buf (Elt Ideal) ℓ) (g : Dev Cert.AdamHgInRefIdeal.nD → PrngReg), Pre_AdamHgInRefIdeal m →
    θ_run (Cert.AdamHgInRefIdeal.defs (F := Ideal)) (onTc (τ := Cert.AdamHgInRefIdeal.τ) (Cert.AdamHgInRefIdeal.main (F := Ideal))) ⟨m, fun _ => 0, g⟩ (fun r => (∀ c : Dev Cert.AdamHgInRefIdeal.nD,
      r.2.mem ((c.tc : Thread Cert.AdamHgInRefIdeal.nD Cert.AdamHgInRefIdeal.τ).loc Cert.AdamHgInRefIdeal.main_arg0) = m ((c.tc : Thread Cert.AdamHgInRefIdeal.nD Cert.AdamHgInRefIdeal.τ).loc Cert.AdamHgInRefIdeal.main_arg0)
      ∧ r.2.mem ((c.tc : Thread Cert.AdamHgInRefIdeal.nD Cert.AdamHgInRefIdeal.τ).loc Cert.AdamHgInRefIdeal.main_arg1) = m ((c.tc : Thread Cert.AdamHgInRefIdeal.nD Cert.AdamHgInRefIdeal.τ).loc Cert.AdamHgInRefIdeal.main_arg1)
      ∧ r.2.mem ((c.tc : Thread Cert.AdamHgInRefIdeal.nD Cert.AdamHgInRefIdeal.τ).loc Cert.AdamHgInRefIdeal.main_arg2) = m ((c.tc : Thread Cert.AdamHgInRefIdeal.nD Cert.AdamHgInRefIdeal.τ).loc Cert.AdamHgInRefIdeal.main_arg2)
      ∧ r.2.mem ((c.tc : Thread Cert.AdamHgInRefIdeal.nD Cert.AdamHgInRefIdeal.τ).loc Cert.AdamHgInRefIdeal.main_arg3) = m ((c.tc : Thread Cert.AdamHgInRefIdeal.nD Cert.AdamHgInRefIdeal.τ).loc Cert.AdamHgInRefIdeal.main_arg3)
      ∧ r.2.mem ((c.tc : Thread Cert.AdamHgInRefIdeal.nD Cert.AdamHgInRefIdeal.τ).loc Cert.AdamHgInRefIdeal.main_arg4) = m ((c.tc : Thread Cert.AdamHgInRefIdeal.nD Cert.AdamHgInRefIdeal.τ).loc Cert.AdamHgInRefIdeal.main_arg4)
      ∧ r.2.mem ((c.tc : Thread Cert.AdamHgInRefIdeal.nD Cert.AdamHgInRefIdeal.τ).loc Cert.AdamHgInRefIdeal.main_arg5) = m ((c.tc : Thread Cert.AdamHgInRefIdeal.nD Cert.AdamHgInRefIdeal.τ).loc Cert.AdamHgInRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamSgIn [hAdamSgIn : Cert.AdamSgIn.Facts] : Prop :=
  ∀ (m : (ℓ : Loc Cert.AdamSgIn.nD Cert.AdamSgIn.τ Cert.AdamSgIn.sig) → Buf (Elt Bits) ℓ) (g : Dev Cert.AdamSgIn.nD → PrngReg), Pre_AdamSgIn m →
    θ_run (Cert.AdamSgIn.defs (F := Bits)) (onTc (τ := Cert.AdamSgIn.τ) (Cert.AdamSgIn.main (F := Bits))) ⟨m, fun _ => 0, g⟩ (fun r => (∀ c : Dev Cert.AdamSgIn.nD,
      r.2.mem ((c.tc : Thread Cert.AdamSgIn.nD Cert.AdamSgIn.τ).loc Cert.AdamSgIn.main_arg0) = m ((c.tc : Thread Cert.AdamSgIn.nD Cert.AdamSgIn.τ).loc Cert.AdamSgIn.main_arg0)
      ∧ r.2.mem ((c.tc : Thread Cert.AdamSgIn.nD Cert.AdamSgIn.τ).loc Cert.AdamSgIn.main_arg1) = m ((c.tc : Thread Cert.AdamSgIn.nD Cert.AdamSgIn.τ).loc Cert.AdamSgIn.main_arg1)
      ∧ r.2.mem ((c.tc : Thread Cert.AdamSgIn.nD Cert.AdamSgIn.τ).loc Cert.AdamSgIn.main_arg2) = m ((c.tc : Thread Cert.AdamSgIn.nD Cert.AdamSgIn.τ).loc Cert.AdamSgIn.main_arg2)
      ∧ r.2.mem ((c.tc : Thread Cert.AdamSgIn.nD Cert.AdamSgIn.τ).loc Cert.AdamSgIn.main_arg3) = m ((c.tc : Thread Cert.AdamSgIn.nD Cert.AdamSgIn.τ).loc Cert.AdamSgIn.main_arg3)
      ∧ r.2.mem ((c.tc : Thread Cert.AdamSgIn.nD Cert.AdamSgIn.τ).loc Cert.AdamSgIn.main_arg4) = m ((c.tc : Thread Cert.AdamSgIn.nD Cert.AdamSgIn.τ).loc Cert.AdamSgIn.main_arg4)
      ∧ r.2.mem ((c.tc : Thread Cert.AdamSgIn.nD Cert.AdamSgIn.τ).loc Cert.AdamSgIn.main_arg5) = m ((c.tc : Thread Cert.AdamSgIn.nD Cert.AdamSgIn.τ).loc Cert.AdamSgIn.main_arg5))
      ∧ r.2.sem = fun _ => 0)

def quiescent_AdamSgInIdeal [hAdamSgInIdeal : Cert.AdamSgInIdeal.Facts] : Prop :=
  ∀ (m : (ℓ : Loc Cert.AdamSgInIdeal.nD Cert.AdamSgInIdeal.τ Cert.AdamSgInIdeal.sig) → Buf (Elt Ideal) ℓ) (g : Dev Cert.AdamSgInIdeal.nD → PrngReg), Pre_AdamSgInIdeal m →
    θ_run (Cert.AdamSgInIdeal.defs (F := Ideal)) (onTc (τ := Cert.AdamSgInIdeal.τ) (Cert.AdamSgInIdeal.main (F := Ideal))) ⟨m, fun _ => 0, g⟩ (fun r => (∀ c : Dev Cert.AdamSgInIdeal.nD,
      r.2.mem ((c.tc : Thread Cert.AdamSgInIdeal.nD Cert.AdamSgInIdeal.τ).loc Cert.AdamSgInIdeal.main_arg0) = m ((c.tc : Thread Cert.AdamSgInIdeal.nD Cert.AdamSgInIdeal.τ).loc Cert.AdamSgInIdeal.main_arg0)
      ∧ r.2.mem ((c.tc : Thread Cert.AdamSgInIdeal.nD Cert.AdamSgInIdeal.τ).loc Cert.AdamSgInIdeal.main_arg1) = m ((c.tc : Thread Cert.AdamSgInIdeal.nD Cert.AdamSgInIdeal.τ).loc Cert.AdamSgInIdeal.main_arg1)
      ∧ r.2.mem ((c.tc : Thread Cert.AdamSgInIdeal.nD Cert.AdamSgInIdeal.τ).loc Cert.AdamSgInIdeal.main_arg2) = m ((c.tc : Thread Cert.AdamSgInIdeal.nD Cert.AdamSgInIdeal.τ).loc Cert.AdamSgInIdeal.main_arg2)
      ∧ r.2.mem ((c.tc : Thread Cert.AdamSgInIdeal.nD Cert.AdamSgInIdeal.τ).loc Cert.AdamSgInIdeal.main_arg3) = m ((c.tc : Thread Cert.AdamSgInIdeal.nD Cert.AdamSgInIdeal.τ).loc Cert.AdamSgInIdeal.main_arg3)
      ∧ r.2.mem ((c.tc : Thread Cert.AdamSgInIdeal.nD Cert.AdamSgInIdeal.τ).loc Cert.AdamSgInIdeal.main_arg4) = m ((c.tc : Thread Cert.AdamSgInIdeal.nD Cert.AdamSgInIdeal.τ).loc Cert.AdamSgInIdeal.main_arg4)
      ∧ r.2.mem ((c.tc : Thread Cert.AdamSgInIdeal.nD Cert.AdamSgInIdeal.τ).loc Cert.AdamSgInIdeal.main_arg5) = m ((c.tc : Thread Cert.AdamSgInIdeal.nD Cert.AdamSgInIdeal.τ).loc Cert.AdamSgInIdeal.main_arg5))
      ∧ r.2.sem = fun _ => 0)

def quiescent_AdamSgInRefIdeal [hAdamSgInRefIdeal : Cert.AdamSgInRefIdeal.Facts] : Prop :=
  ∀ (m : (ℓ : Loc Cert.AdamSgInRefIdeal.nD Cert.AdamSgInRefIdeal.τ Cert.AdamSgInRefIdeal.sig) → Buf (Elt Ideal) ℓ) (g : Dev Cert.AdamSgInRefIdeal.nD → PrngReg), Pre_AdamSgInRefIdeal m →
    θ_run (Cert.AdamSgInRefIdeal.defs (F := Ideal)) (onTc (τ := Cert.AdamSgInRefIdeal.τ) (Cert.AdamSgInRefIdeal.main (F := Ideal))) ⟨m, fun _ => 0, g⟩ (fun r => (∀ c : Dev Cert.AdamSgInRefIdeal.nD,
      r.2.mem ((c.tc : Thread Cert.AdamSgInRefIdeal.nD Cert.AdamSgInRefIdeal.τ).loc Cert.AdamSgInRefIdeal.main_arg0) = m ((c.tc : Thread Cert.AdamSgInRefIdeal.nD Cert.AdamSgInRefIdeal.τ).loc Cert.AdamSgInRefIdeal.main_arg0)
      ∧ r.2.mem ((c.tc : Thread Cert.AdamSgInRefIdeal.nD Cert.AdamSgInRefIdeal.τ).loc Cert.AdamSgInRefIdeal.main_arg1) = m ((c.tc : Thread Cert.AdamSgInRefIdeal.nD Cert.AdamSgInRefIdeal.τ).loc Cert.AdamSgInRefIdeal.main_arg1)
      ∧ r.2.mem ((c.tc : Thread Cert.AdamSgInRefIdeal.nD Cert.AdamSgInRefIdeal.τ).loc Cert.AdamSgInRefIdeal.main_arg2) = m ((c.tc : Thread Cert.AdamSgInRefIdeal.nD Cert.AdamSgInRefIdeal.τ).loc Cert.AdamSgInRefIdeal.main_arg2)
      ∧ r.2.mem ((c.tc : Thread Cert.AdamSgInRefIdeal.nD Cert.AdamSgInRefIdeal.τ).loc Cert.AdamSgInRefIdeal.main_arg3) = m ((c.tc : Thread Cert.AdamSgInRefIdeal.nD Cert.AdamSgInRefIdeal.τ).loc Cert.AdamSgInRefIdeal.main_arg3)
      ∧ r.2.mem ((c.tc : Thread Cert.AdamSgInRefIdeal.nD Cert.AdamSgInRefIdeal.τ).loc Cert.AdamSgInRefIdeal.main_arg4) = m ((c.tc : Thread Cert.AdamSgInRefIdeal.nD Cert.AdamSgInRefIdeal.τ).loc Cert.AdamSgInRefIdeal.main_arg4)
      ∧ r.2.mem ((c.tc : Thread Cert.AdamSgInRefIdeal.nD Cert.AdamSgInRefIdeal.τ).loc Cert.AdamSgInRefIdeal.main_arg5) = m ((c.tc : Thread Cert.AdamSgInRefIdeal.nD Cert.AdamSgInRefIdeal.τ).loc Cert.AdamSgInRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6)
      ∧ r.2.mem ((c.tc : Thread Cert.AdamUp.nD Cert.AdamUp.τ).loc Cert.AdamUp.main_arg7) = m ((c.tc : Thread Cert.AdamUp.nD Cert.AdamUp.τ).loc Cert.AdamUp.main_arg7)
      ∧ r.2.mem ((c.tc : Thread Cert.AdamUp.nD Cert.AdamUp.τ).loc Cert.AdamUp.main_arg8) = m ((c.tc : Thread Cert.AdamUp.nD Cert.AdamUp.τ).loc Cert.AdamUp.main_arg8)
      ∧ r.2.mem ((c.tc : Thread Cert.AdamUp.nD Cert.AdamUp.τ).loc Cert.AdamUp.main_arg9) = m ((c.tc : Thread Cert.AdamUp.nD Cert.AdamUp.τ).loc Cert.AdamUp.main_arg9))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
      ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
      ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8)
      ∧ r.2.mem ((c.tc : Thread Cert.AdamUpIdeal.nD Cert.AdamUpIdeal.τ).loc Cert.AdamUpIdeal.main_arg9) = m ((c.tc : Thread Cert.AdamUpIdeal.nD Cert.AdamUpIdeal.τ).loc Cert.AdamUpIdeal.main_arg9))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6)
      ∧ r.2.mem ((c.tc : Thread Cert.AdamUpRefIdeal.nD Cert.AdamUpRefIdeal.τ).loc Cert.AdamUpRefIdeal.main_arg7) = m ((c.tc : Thread Cert.AdamUpRefIdeal.nD Cert.AdamUpRefIdeal.τ).loc Cert.AdamUpRefIdeal.main_arg7)
      ∧ r.2.mem ((c.tc : Thread Cert.AdamUpRefIdeal.nD Cert.AdamUpRefIdeal.τ).loc Cert.AdamUpRefIdeal.main_arg8) = m ((c.tc : Thread Cert.AdamUpRefIdeal.nD Cert.AdamUpRefIdeal.τ).loc Cert.AdamUpRefIdeal.main_arg8)
      ∧ r.2.mem ((c.tc : Thread Cert.AdamUpRefIdeal.nD Cert.AdamUpRefIdeal.τ).loc Cert.AdamUpRefIdeal.main_arg9) = m ((c.tc : Thread Cert.AdamUpRefIdeal.nD Cert.AdamUpRefIdeal.τ).loc Cert.AdamUpRefIdeal.main_arg9))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6)
      ∧ r.2.mem ((c.tc : Thread Cert.AdamDown.nD Cert.AdamDown.τ).loc Cert.AdamDown.main_arg7) = m ((c.tc : Thread Cert.AdamDown.nD Cert.AdamDown.τ).loc Cert.AdamDown.main_arg7)
      ∧ r.2.mem ((c.tc : Thread Cert.AdamDown.nD Cert.AdamDown.τ).loc Cert.AdamDown.main_arg8) = m ((c.tc : Thread Cert.AdamDown.nD Cert.AdamDown.τ).loc Cert.AdamDown.main_arg8)
      ∧ r.2.mem ((c.tc : Thread Cert.AdamDown.nD Cert.AdamDown.τ).loc Cert.AdamDown.main_arg9) = m ((c.tc : Thread Cert.AdamDown.nD Cert.AdamDown.τ).loc Cert.AdamDown.main_arg9))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
      ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7)
      ∧ r.2.mem ((c.tc : Thread Cert.AdamDownIdeal.nD Cert.AdamDownIdeal.τ).loc Cert.AdamDownIdeal.main_arg8) = m ((c.tc : Thread Cert.AdamDownIdeal.nD Cert.AdamDownIdeal.τ).loc Cert.AdamDownIdeal.main_arg8)
      ∧ r.2.mem ((c.tc : Thread Cert.AdamDownIdeal.nD Cert.AdamDownIdeal.τ).loc Cert.AdamDownIdeal.main_arg9) = m ((c.tc : Thread Cert.AdamDownIdeal.nD Cert.AdamDownIdeal.τ).loc Cert.AdamDownIdeal.main_arg9))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6)
      ∧ r.2.mem ((c.tc : Thread Cert.AdamDownRefIdeal.nD Cert.AdamDownRefIdeal.τ).loc Cert.AdamDownRefIdeal.main_arg7) = m ((c.tc : Thread Cert.AdamDownRefIdeal.nD Cert.AdamDownRefIdeal.τ).loc Cert.AdamDownRefIdeal.main_arg7)
      ∧ r.2.mem ((c.tc : Thread Cert.AdamDownRefIdeal.nD Cert.AdamDownRefIdeal.τ).loc Cert.AdamDownRefIdeal.main_arg8) = m ((c.tc : Thread Cert.AdamDownRefIdeal.nD Cert.AdamDownRefIdeal.τ).loc Cert.AdamDownRefIdeal.main_arg8)
      ∧ r.2.mem ((c.tc : Thread Cert.AdamDownRefIdeal.nD Cert.AdamDownRefIdeal.τ).loc Cert.AdamDownRefIdeal.main_arg9) = m ((c.tc : Thread Cert.AdamDownRefIdeal.nD Cert.AdamDownRefIdeal.τ).loc Cert.AdamDownRefIdeal.main_arg9))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8)
      ∧ r.2.mem ((c.tc : Thread Cert.SumSmall.nD Cert.SumSmall.τ).loc Cert.SumSmall.main_arg9) = m ((c.tc : Thread Cert.SumSmall.nD Cert.SumSmall.τ).loc Cert.SumSmall.main_arg9)
      ∧ r.2.mem ((c.tc : Thread Cert.SumSmall.nD Cert.SumSmall.τ).loc Cert.SumSmall.main_arg10) = m ((c.tc : Thread Cert.SumSmall.nD Cert.SumSmall.τ).loc Cert.SumSmall.main_arg10)
      ∧ r.2.mem ((c.tc : Thread Cert.SumSmall.nD Cert.SumSmall.τ).loc Cert.SumSmall.main_arg11) = m ((c.tc : Thread Cert.SumSmall.nD Cert.SumSmall.τ).loc Cert.SumSmall.main_arg11)
      ∧ r.2.mem ((c.tc : Thread Cert.SumSmall.nD Cert.SumSmall.τ).loc Cert.SumSmall.main_arg12) = m ((c.tc : Thread Cert.SumSmall.nD Cert.SumSmall.τ).loc Cert.SumSmall.main_arg12)
      ∧ r.2.mem ((c.tc : Thread Cert.SumSmall.nD Cert.SumSmall.τ).loc Cert.SumSmall.main_arg13) = m ((c.tc : Thread Cert.SumSmall.nD Cert.SumSmall.τ).loc Cert.SumSmall.main_arg13)
      ∧ r.2.mem ((c.tc : Thread Cert.SumSmall.nD Cert.SumSmall.τ).loc Cert.SumSmall.main_arg14) = m ((c.tc : Thread Cert.SumSmall.nD Cert.SumSmall.τ).loc Cert.SumSmall.main_arg14)
      ∧ r.2.mem ((c.tc : Thread Cert.SumSmall.nD Cert.SumSmall.τ).loc Cert.SumSmall.main_arg15) = m ((c.tc : Thread Cert.SumSmall.nD Cert.SumSmall.τ).loc Cert.SumSmall.main_arg15)
      ∧ r.2.mem ((c.tc : Thread Cert.SumSmall.nD Cert.SumSmall.τ).loc Cert.SumSmall.main_arg16) = m ((c.tc : Thread Cert.SumSmall.nD Cert.SumSmall.τ).loc Cert.SumSmall.main_arg16)
      ∧ r.2.mem ((c.tc : Thread Cert.SumSmall.nD Cert.SumSmall.τ).loc Cert.SumSmall.main_arg17) = m ((c.tc : Thread Cert.SumSmall.nD Cert.SumSmall.τ).loc Cert.SumSmall.main_arg17))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
      ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
      ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
      ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11)
      ∧ r.2.mem ((c.tc : Thread Cert.SumSmallIdeal.nD Cert.SumSmallIdeal.τ).loc Cert.SumSmallIdeal.main_arg12) = m ((c.tc : Thread Cert.SumSmallIdeal.nD Cert.SumSmallIdeal.τ).loc Cert.SumSmallIdeal.main_arg12)
      ∧ r.2.mem ((c.tc : Thread Cert.SumSmallIdeal.nD Cert.SumSmallIdeal.τ).loc Cert.SumSmallIdeal.main_arg13) = m ((c.tc : Thread Cert.SumSmallIdeal.nD Cert.SumSmallIdeal.τ).loc Cert.SumSmallIdeal.main_arg13)
      ∧ r.2.mem ((c.tc : Thread Cert.SumSmallIdeal.nD Cert.SumSmallIdeal.τ).loc Cert.SumSmallIdeal.main_arg14) = m ((c.tc : Thread Cert.SumSmallIdeal.nD Cert.SumSmallIdeal.τ).loc Cert.SumSmallIdeal.main_arg14)
      ∧ r.2.mem ((c.tc : Thread Cert.SumSmallIdeal.nD Cert.SumSmallIdeal.τ).loc Cert.SumSmallIdeal.main_arg15) = m ((c.tc : Thread Cert.SumSmallIdeal.nD Cert.SumSmallIdeal.τ).loc Cert.SumSmallIdeal.main_arg15)
      ∧ r.2.mem ((c.tc : Thread Cert.SumSmallIdeal.nD Cert.SumSmallIdeal.τ).loc Cert.SumSmallIdeal.main_arg16) = m ((c.tc : Thread Cert.SumSmallIdeal.nD Cert.SumSmallIdeal.τ).loc Cert.SumSmallIdeal.main_arg16)
      ∧ r.2.mem ((c.tc : Thread Cert.SumSmallIdeal.nD Cert.SumSmallIdeal.τ).loc Cert.SumSmallIdeal.main_arg17) = m ((c.tc : Thread Cert.SumSmallIdeal.nD Cert.SumSmallIdeal.τ).loc Cert.SumSmallIdeal.main_arg17))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5)
      ∧ r.2.mem ((c.tc : Thread Cert.SumSmallRefIdeal.nD Cert.SumSmallRefIdeal.τ).loc Cert.SumSmallRefIdeal.main_arg6) = m ((c.tc : Thread Cert.SumSmallRefIdeal.nD Cert.SumSmallRefIdeal.τ).loc Cert.SumSmallRefIdeal.main_arg6)
      ∧ r.2.mem ((c.tc : Thread Cert.SumSmallRefIdeal.nD Cert.SumSmallRefIdeal.τ).loc Cert.SumSmallRefIdeal.main_arg7) = m ((c.tc : Thread Cert.SumSmallRefIdeal.nD Cert.SumSmallRefIdeal.τ).loc Cert.SumSmallRefIdeal.main_arg7)
      ∧ r.2.mem ((c.tc : Thread Cert.SumSmallRefIdeal.nD Cert.SumSmallRefIdeal.τ).loc Cert.SumSmallRefIdeal.main_arg8) = m ((c.tc : Thread Cert.SumSmallRefIdeal.nD Cert.SumSmallRefIdeal.τ).loc Cert.SumSmallRefIdeal.main_arg8)
      ∧ r.2.mem ((c.tc : Thread Cert.SumSmallRefIdeal.nD Cert.SumSmallRefIdeal.τ).loc Cert.SumSmallRefIdeal.main_arg9) = m ((c.tc : Thread Cert.SumSmallRefIdeal.nD Cert.SumSmallRefIdeal.τ).loc Cert.SumSmallRefIdeal.main_arg9)
      ∧ r.2.mem ((c.tc : Thread Cert.SumSmallRefIdeal.nD Cert.SumSmallRefIdeal.τ).loc Cert.SumSmallRefIdeal.main_arg10) = m ((c.tc : Thread Cert.SumSmallRefIdeal.nD Cert.SumSmallRefIdeal.τ).loc Cert.SumSmallRefIdeal.main_arg10)
      ∧ r.2.mem ((c.tc : Thread Cert.SumSmallRefIdeal.nD Cert.SumSmallRefIdeal.τ).loc Cert.SumSmallRefIdeal.main_arg11) = m ((c.tc : Thread Cert.SumSmallRefIdeal.nD Cert.SumSmallRefIdeal.τ).loc Cert.SumSmallRefIdeal.main_arg11)
      ∧ r.2.mem ((c.tc : Thread Cert.SumSmallRefIdeal.nD Cert.SumSmallRefIdeal.τ).loc Cert.SumSmallRefIdeal.main_arg12) = m ((c.tc : Thread Cert.SumSmallRefIdeal.nD Cert.SumSmallRefIdeal.τ).loc Cert.SumSmallRefIdeal.main_arg12)
      ∧ r.2.mem ((c.tc : Thread Cert.SumSmallRefIdeal.nD Cert.SumSmallRefIdeal.τ).loc Cert.SumSmallRefIdeal.main_arg13) = m ((c.tc : Thread Cert.SumSmallRefIdeal.nD Cert.SumSmallRefIdeal.τ).loc Cert.SumSmallRefIdeal.main_arg13)
      ∧ r.2.mem ((c.tc : Thread Cert.SumSmallRefIdeal.nD Cert.SumSmallRefIdeal.τ).loc Cert.SumSmallRefIdeal.main_arg14) = m ((c.tc : Thread Cert.SumSmallRefIdeal.nD Cert.SumSmallRefIdeal.τ).loc Cert.SumSmallRefIdeal.main_arg14)
      ∧ r.2.mem ((c.tc : Thread Cert.SumSmallRefIdeal.nD Cert.SumSmallRefIdeal.τ).loc Cert.SumSmallRefIdeal.main_arg15) = m ((c.tc : Thread Cert.SumSmallRefIdeal.nD Cert.SumSmallRefIdeal.τ).loc Cert.SumSmallRefIdeal.main_arg15)
      ∧ r.2.mem ((c.tc : Thread Cert.SumSmallRefIdeal.nD Cert.SumSmallRefIdeal.τ).loc Cert.SumSmallRefIdeal.main_arg16) = m ((c.tc : Thread Cert.SumSmallRefIdeal.nD Cert.SumSmallRefIdeal.τ).loc Cert.SumSmallRefIdeal.main_arg16)
      ∧ r.2.mem ((c.tc : Thread Cert.SumSmallRefIdeal.nD Cert.SumSmallRefIdeal.τ).loc Cert.SumSmallRefIdeal.main_arg17) = m ((c.tc : Thread Cert.SumSmallRefIdeal.nD Cert.SumSmallRefIdeal.τ).loc Cert.SumSmallRefIdeal.main_arg17))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_LnLossIdeal_pre_finite_loss [hLnLossIdeal : Cert.LnLossIdeal.Facts] [hPre_finite_loss : Cert.Pre_finite_loss.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_finite_loss m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4))
      ∧ r.2.sem = fun _ => 0)

def quiescent_LnLossRefIdeal_pre_finite_loss [hLnLossRefIdeal : Cert.LnLossRefIdeal.Facts] [hPre_finite_loss : Cert.Pre_finite_loss.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal_finite_loss m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4))
      ∧ r.2.sem = fun _ => 0)

def quiescent_SgFwd [hSgFwd : Cert.SgFwd.Facts] : Prop :=
  ∀ (m : (ℓ : Loc Cert.SgFwd.nD Cert.SgFwd.τ Cert.SgFwd.sig) → Buf (Elt Bits) ℓ) (g : Dev Cert.SgFwd.nD → PrngReg), Pre_SgFwd m →
    θ_run (Cert.SgFwd.defs (F := Bits)) (onTc (τ := Cert.SgFwd.τ) (Cert.SgFwd.main (F := Bits))) ⟨m, fun _ => 0, g⟩ (fun r => (∀ c : Dev Cert.SgFwd.nD,
      r.2.mem ((c.tc : Thread Cert.SgFwd.nD Cert.SgFwd.τ).loc Cert.SgFwd.main_arg0) = m ((c.tc : Thread Cert.SgFwd.nD Cert.SgFwd.τ).loc Cert.SgFwd.main_arg0)
      ∧ r.2.mem ((c.tc : Thread Cert.SgFwd.nD Cert.SgFwd.τ).loc Cert.SgFwd.main_arg1) = m ((c.tc : Thread Cert.SgFwd.nD Cert.SgFwd.τ).loc Cert.SgFwd.main_arg1)
      ∧ r.2.mem ((c.tc : Thread Cert.SgFwd.nD Cert.SgFwd.τ).loc Cert.SgFwd.main_arg2) = m ((c.tc : Thread Cert.SgFwd.nD Cert.SgFwd.τ).loc Cert.SgFwd.main_arg2)
      ∧ r.2.mem ((c.tc : Thread Cert.SgFwd.nD Cert.SgFwd.τ).loc Cert.SgFwd.main_arg3) = m ((c.tc : Thread Cert.SgFwd.nD Cert.SgFwd.τ).loc Cert.SgFwd.main_arg3)
      ∧ r.2.mem ((c.tc : Thread Cert.SgFwd.nD Cert.SgFwd.τ).loc Cert.SgFwd.main_arg4) = m ((c.tc : Thread Cert.SgFwd.nD Cert.SgFwd.τ).loc Cert.SgFwd.main_arg4))
      ∧ r.2.sem = fun _ => 0)

def quiescent_SgFwdIdeal [hSgFwdIdeal : Cert.SgFwdIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg), Pre_SgFwdIdeal m →
    θ_run (Cert.SgFwdIdeal.defs (F := Ideal)) (onTc (τ := Cert.SgFwdIdeal.τ) (Cert.SgFwdIdeal.main (F := Ideal))) ⟨m, fun _ => 0, g⟩ (fun r => (∀ c : Dev Cert.SgFwdIdeal.nD,
      r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
      ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
      ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
      ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
      ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ r.2.sem = fun _ => 0)

def quiescent_SgFwdRefIdeal [hSgFwdRefIdeal : Cert.SgFwdRefIdeal.Facts] : Prop :=
  ∀ (m : (ℓ : Loc Cert.SgFwdRefIdeal.nD Cert.SgFwdRefIdeal.τ Cert.SgFwdRefIdeal.sig) → Buf (Elt Ideal) ℓ) (g : Dev Cert.SgFwdRefIdeal.nD → PrngReg), Pre_SgFwdRefIdeal m →
    θ_run (Cert.SgFwdRefIdeal.defs (F := Ideal)) (onTc (τ := Cert.SgFwdRefIdeal.τ) (Cert.SgFwdRefIdeal.main (F := Ideal))) ⟨m, fun _ => 0, g⟩ (fun r => (∀ c : Dev Cert.SgFwdRefIdeal.nD,
      r.2.mem ((c.tc : Thread Cert.SgFwdRefIdeal.nD Cert.SgFwdRefIdeal.τ).loc Cert.SgFwdRefIdeal.main_arg0) = m ((c.tc : Thread Cert.SgFwdRefIdeal.nD Cert.SgFwdRefIdeal.τ).loc Cert.SgFwdRefIdeal.main_arg0)
      ∧ r.2.mem ((c.tc : Thread Cert.SgFwdRefIdeal.nD Cert.SgFwdRefIdeal.τ).loc Cert.SgFwdRefIdeal.main_arg1) = m ((c.tc : Thread Cert.SgFwdRefIdeal.nD Cert.SgFwdRefIdeal.τ).loc Cert.SgFwdRefIdeal.main_arg1)
      ∧ r.2.mem ((c.tc : Thread Cert.SgFwdRefIdeal.nD Cert.SgFwdRefIdeal.τ).loc Cert.SgFwdRefIdeal.main_arg2) = m ((c.tc : Thread Cert.SgFwdRefIdeal.nD Cert.SgFwdRefIdeal.τ).loc Cert.SgFwdRefIdeal.main_arg2)
      ∧ r.2.mem ((c.tc : Thread Cert.SgFwdRefIdeal.nD Cert.SgFwdRefIdeal.τ).loc Cert.SgFwdRefIdeal.main_arg3) = m ((c.tc : Thread Cert.SgFwdRefIdeal.nD Cert.SgFwdRefIdeal.τ).loc Cert.SgFwdRefIdeal.main_arg3)
      ∧ r.2.mem ((c.tc : Thread Cert.SgFwdRefIdeal.nD Cert.SgFwdRefIdeal.τ).loc Cert.SgFwdRefIdeal.main_arg4) = m ((c.tc : Thread Cert.SgFwdRefIdeal.nD Cert.SgFwdRefIdeal.τ).loc Cert.SgFwdRefIdeal.main_arg4))
      ∧ r.2.sem = fun _ => 0)

def quiescent_SgBwd [hSgBwd : Cert.SgBwd.Facts] : Prop :=
  ∀ (m : (ℓ : Loc Cert.SgBwd.nD Cert.SgBwd.τ Cert.SgBwd.sig) → Buf (Elt Bits) ℓ) (g : Dev Cert.SgBwd.nD → PrngReg), Pre_SgBwd m →
    θ_run (Cert.SgBwd.defs (F := Bits)) (onTc (τ := Cert.SgBwd.τ) (Cert.SgBwd.main (F := Bits))) ⟨m, fun _ => 0, g⟩ (fun r => (∀ c : Dev Cert.SgBwd.nD,
      r.2.mem ((c.tc : Thread Cert.SgBwd.nD Cert.SgBwd.τ).loc Cert.SgBwd.main_arg0) = m ((c.tc : Thread Cert.SgBwd.nD Cert.SgBwd.τ).loc Cert.SgBwd.main_arg0)
      ∧ r.2.mem ((c.tc : Thread Cert.SgBwd.nD Cert.SgBwd.τ).loc Cert.SgBwd.main_arg1) = m ((c.tc : Thread Cert.SgBwd.nD Cert.SgBwd.τ).loc Cert.SgBwd.main_arg1)
      ∧ r.2.mem ((c.tc : Thread Cert.SgBwd.nD Cert.SgBwd.τ).loc Cert.SgBwd.main_arg2) = m ((c.tc : Thread Cert.SgBwd.nD Cert.SgBwd.τ).loc Cert.SgBwd.main_arg2)
      ∧ r.2.mem ((c.tc : Thread Cert.SgBwd.nD Cert.SgBwd.τ).loc Cert.SgBwd.main_arg3) = m ((c.tc : Thread Cert.SgBwd.nD Cert.SgBwd.τ).loc Cert.SgBwd.main_arg3)
      ∧ r.2.mem ((c.tc : Thread Cert.SgBwd.nD Cert.SgBwd.τ).loc Cert.SgBwd.main_arg4) = m ((c.tc : Thread Cert.SgBwd.nD Cert.SgBwd.τ).loc Cert.SgBwd.main_arg4)
      ∧ r.2.mem ((c.tc : Thread Cert.SgBwd.nD Cert.SgBwd.τ).loc Cert.SgBwd.main_arg5) = m ((c.tc : Thread Cert.SgBwd.nD Cert.SgBwd.τ).loc Cert.SgBwd.main_arg5))
      ∧ r.2.sem = fun _ => 0)

def quiescent_SgBwdIdeal [hSgBwdIdeal : Cert.SgBwdIdeal.Facts] : Prop :=
  ∀ (m : (ℓ : Loc Cert.SgBwdIdeal.nD Cert.SgBwdIdeal.τ Cert.SgBwdIdeal.sig) → Buf (Elt Ideal) ℓ) (g : Dev Cert.SgBwdIdeal.nD → PrngReg), Pre_SgBwdIdeal m →
    θ_run (Cert.SgBwdIdeal.defs (F := Ideal)) (onTc (τ := Cert.SgBwdIdeal.τ) (Cert.SgBwdIdeal.main (F := Ideal))) ⟨m, fun _ => 0, g⟩ (fun r => (∀ c : Dev Cert.SgBwdIdeal.nD,
      r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
      ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
      ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
      ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
      ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
      ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5))
      ∧ r.2.sem = fun _ => 0)

def quiescent_SgBwdIdeal_pre_finite_sg [hSgBwdIdeal : Cert.SgBwdIdeal.Facts] [hPre_finite_sg : Cert.Pre_finite_sg.Facts] : Prop :=
  ∀ (m : (ℓ : Loc Cert.SgBwdIdeal.nD Cert.SgBwdIdeal.τ Cert.SgBwdIdeal.sig) → Buf (Elt Ideal) ℓ) (g : Dev Cert.SgBwdIdeal.nD → PrngReg), Pre_SgBwdIdeal_finite_sg m →
    θ_run (Cert.SgBwdIdeal.defs (F := Ideal)) (onTc (τ := Cert.SgBwdIdeal.τ) (Cert.SgBwdIdeal.main (F := Ideal))) ⟨m, fun _ => 0, g⟩ (fun r => (∀ c : Dev Cert.SgBwdIdeal.nD,
      r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
      ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
      ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
      ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
      ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
      ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5))
      ∧ r.2.sem = fun _ => 0)

def quiescent_SgBwdRefIdeal [hSgBwdRefIdeal : Cert.SgBwdRefIdeal.Facts] : Prop :=
  ∀ (m : (ℓ : Loc Cert.SgBwdRefIdeal.nD Cert.SgBwdRefIdeal.τ Cert.SgBwdRefIdeal.sig) → Buf (Elt Ideal) ℓ) (g : Dev Cert.SgBwdRefIdeal.nD → PrngReg), Pre_SgBwdRefIdeal m →
    θ_run (Cert.SgBwdRefIdeal.defs (F := Ideal)) (onTc (τ := Cert.SgBwdRefIdeal.τ) (Cert.SgBwdRefIdeal.main (F := Ideal))) ⟨m, fun _ => 0, g⟩ (fun r => (∀ c : Dev Cert.SgBwdRefIdeal.nD,
      r.2.mem ((c.tc : Thread Cert.SgBwdRefIdeal.nD Cert.SgBwdRefIdeal.τ).loc Cert.SgBwdRefIdeal.main_arg0) = m ((c.tc : Thread Cert.SgBwdRefIdeal.nD Cert.SgBwdRefIdeal.τ).loc Cert.SgBwdRefIdeal.main_arg0)
      ∧ r.2.mem ((c.tc : Thread Cert.SgBwdRefIdeal.nD Cert.SgBwdRefIdeal.τ).loc Cert.SgBwdRefIdeal.main_arg1) = m ((c.tc : Thread Cert.SgBwdRefIdeal.nD Cert.SgBwdRefIdeal.τ).loc Cert.SgBwdRefIdeal.main_arg1)
      ∧ r.2.mem ((c.tc : Thread Cert.SgBwdRefIdeal.nD Cert.SgBwdRefIdeal.τ).loc Cert.SgBwdRefIdeal.main_arg2) = m ((c.tc : Thread Cert.SgBwdRefIdeal.nD Cert.SgBwdRefIdeal.τ).loc Cert.SgBwdRefIdeal.main_arg2)
      ∧ r.2.mem ((c.tc : Thread Cert.SgBwdRefIdeal.nD Cert.SgBwdRefIdeal.τ).loc Cert.SgBwdRefIdeal.main_arg3) = m ((c.tc : Thread Cert.SgBwdRefIdeal.nD Cert.SgBwdRefIdeal.τ).loc Cert.SgBwdRefIdeal.main_arg3)
      ∧ r.2.mem ((c.tc : Thread Cert.SgBwdRefIdeal.nD Cert.SgBwdRefIdeal.τ).loc Cert.SgBwdRefIdeal.main_arg4) = m ((c.tc : Thread Cert.SgBwdRefIdeal.nD Cert.SgBwdRefIdeal.τ).loc Cert.SgBwdRefIdeal.main_arg4)
      ∧ r.2.mem ((c.tc : Thread Cert.SgBwdRefIdeal.nD Cert.SgBwdRefIdeal.τ).loc Cert.SgBwdRefIdeal.main_arg5) = m ((c.tc : Thread Cert.SgBwdRefIdeal.nD Cert.SgBwdRefIdeal.τ).loc Cert.SgBwdRefIdeal.main_arg5))
      ∧ r.2.sem = fun _ => 0)

def quiescent_SgBwdRefIdeal_pre_finite_sg [hSgBwdRefIdeal : Cert.SgBwdRefIdeal.Facts] [hPre_finite_sg : Cert.Pre_finite_sg.Facts] : Prop :=
  ∀ (m : (ℓ : Loc Cert.SgBwdRefIdeal.nD Cert.SgBwdRefIdeal.τ Cert.SgBwdRefIdeal.sig) → Buf (Elt Ideal) ℓ) (g : Dev Cert.SgBwdRefIdeal.nD → PrngReg), Pre_SgBwdRefIdeal_finite_sg m →
    θ_run (Cert.SgBwdRefIdeal.defs (F := Ideal)) (onTc (τ := Cert.SgBwdRefIdeal.τ) (Cert.SgBwdRefIdeal.main (F := Ideal))) ⟨m, fun _ => 0, g⟩ (fun r => (∀ c : Dev Cert.SgBwdRefIdeal.nD,
      r.2.mem ((c.tc : Thread Cert.SgBwdRefIdeal.nD Cert.SgBwdRefIdeal.τ).loc Cert.SgBwdRefIdeal.main_arg0) = m ((c.tc : Thread Cert.SgBwdRefIdeal.nD Cert.SgBwdRefIdeal.τ).loc Cert.SgBwdRefIdeal.main_arg0)
      ∧ r.2.mem ((c.tc : Thread Cert.SgBwdRefIdeal.nD Cert.SgBwdRefIdeal.τ).loc Cert.SgBwdRefIdeal.main_arg1) = m ((c.tc : Thread Cert.SgBwdRefIdeal.nD Cert.SgBwdRefIdeal.τ).loc Cert.SgBwdRefIdeal.main_arg1)
      ∧ r.2.mem ((c.tc : Thread Cert.SgBwdRefIdeal.nD Cert.SgBwdRefIdeal.τ).loc Cert.SgBwdRefIdeal.main_arg2) = m ((c.tc : Thread Cert.SgBwdRefIdeal.nD Cert.SgBwdRefIdeal.τ).loc Cert.SgBwdRefIdeal.main_arg2)
      ∧ r.2.mem ((c.tc : Thread Cert.SgBwdRefIdeal.nD Cert.SgBwdRefIdeal.τ).loc Cert.SgBwdRefIdeal.main_arg3) = m ((c.tc : Thread Cert.SgBwdRefIdeal.nD Cert.SgBwdRefIdeal.τ).loc Cert.SgBwdRefIdeal.main_arg3)
      ∧ r.2.mem ((c.tc : Thread Cert.SgBwdRefIdeal.nD Cert.SgBwdRefIdeal.τ).loc Cert.SgBwdRefIdeal.main_arg4) = m ((c.tc : Thread Cert.SgBwdRefIdeal.nD Cert.SgBwdRefIdeal.τ).loc Cert.SgBwdRefIdeal.main_arg4)
      ∧ r.2.mem ((c.tc : Thread Cert.SgBwdRefIdeal.nD Cert.SgBwdRefIdeal.τ).loc Cert.SgBwdRefIdeal.main_arg5) = m ((c.tc : Thread Cert.SgBwdRefIdeal.nD Cert.SgBwdRefIdeal.τ).loc Cert.SgBwdRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DZ_DZIdeal : Prop :=
  True

def algebraic_DZIdeal_DZRefIdeal [hDZIdeal : Cert.DZIdeal.Facts] [hDZRefIdeal : Cert.DZRefIdeal.Facts] : Prop :=
  ∀ (m : (ℓ : Loc Cert.DZIdeal.nD Cert.DZIdeal.τ Cert.DZIdeal.sig) → Buf (Elt Ideal) ℓ) (g : Dev Cert.DZIdeal.nD → PrngReg)
    (m' : (ℓ : Loc Cert.DZRefIdeal.nD Cert.DZRefIdeal.τ Cert.DZRefIdeal.sig) → Buf (Elt Ideal) ℓ) (g' : Dev Cert.DZRefIdeal.nD → PrngReg), Pre_DZIdeal m →
    (∀ c : Dev Cert.DZIdeal.nD,
      m' ((c.tc : Thread Cert.DZRefIdeal.nD Cert.DZRefIdeal.τ).loc Cert.DZRefIdeal.main_arg0) = m ((c.tc : Thread Cert.DZIdeal.nD Cert.DZIdeal.τ).loc Cert.DZIdeal.main_arg0)
      ∧ m' ((c.tc : Thread Cert.DZRefIdeal.nD Cert.DZRefIdeal.τ).loc Cert.DZRefIdeal.main_arg1) = m ((c.tc : Thread Cert.DZIdeal.nD Cert.DZIdeal.τ).loc Cert.DZIdeal.main_arg1)
      ∧ m' ((c.tc : Thread Cert.DZRefIdeal.nD Cert.DZRefIdeal.τ).loc Cert.DZRefIdeal.main_arg2) = m ((c.tc : Thread Cert.DZIdeal.nD Cert.DZIdeal.τ).loc Cert.DZIdeal.main_arg2)) →
    ∃ (v0 : (c : Dev Cert.DZIdeal.nD) → Buf (Elt Ideal) ((c.tc : Thread Cert.DZIdeal.nD Cert.DZIdeal.τ).loc Cert.DZIdeal.main_v0)),
      θ_run (Cert.DZIdeal.defs (F := Ideal)) (onTc (τ := Cert.DZIdeal.τ) (Cert.DZIdeal.main (F := Ideal))) ⟨m, fun _ => 0, g⟩ (fun r => ∀ c : Dev Cert.DZIdeal.nD,
          r.2.mem ((c.tc : Thread Cert.DZIdeal.nD Cert.DZIdeal.τ).loc Cert.DZIdeal.main_v0) = v0 c
          ∧ r.2.mem ((c.tc : Thread Cert.DZIdeal.nD Cert.DZIdeal.τ).loc Cert.DZIdeal.main_arg0) = m ((c.tc : Thread Cert.DZIdeal.nD Cert.DZIdeal.τ).loc Cert.DZIdeal.main_arg0)
          ∧ r.2.mem ((c.tc : Thread Cert.DZIdeal.nD Cert.DZIdeal.τ).loc Cert.DZIdeal.main_arg1) = m ((c.tc : Thread Cert.DZIdeal.nD Cert.DZIdeal.τ).loc Cert.DZIdeal.main_arg1)
          ∧ r.2.mem ((c.tc : Thread Cert.DZIdeal.nD Cert.DZIdeal.τ).loc Cert.DZIdeal.main_arg2) = m ((c.tc : Thread Cert.DZIdeal.nD Cert.DZIdeal.τ).loc Cert.DZIdeal.main_arg2))
      ∧ θ_run (Cert.DZRefIdeal.defs (F := Ideal)) (onTc (τ := Cert.DZRefIdeal.τ) (Cert.DZRefIdeal.main (F := Ideal))) ⟨m', fun _ => 0, g'⟩ (fun r => ∀ c : Dev Cert.DZRefIdeal.nD,
          r.2.mem ((c.tc : Thread Cert.DZRefIdeal.nD Cert.DZRefIdeal.τ).loc Cert.DZRefIdeal.main_v5) = v0 c
          ∧ r.2.mem ((c.tc : Thread Cert.DZRefIdeal.nD Cert.DZRefIdeal.τ).loc Cert.DZRefIdeal.main_arg0) = m' ((c.tc : Thread Cert.DZRefIdeal.nD Cert.DZRefIdeal.τ).loc Cert.DZRefIdeal.main_arg0)
          ∧ r.2.mem ((c.tc : Thread Cert.DZRefIdeal.nD Cert.DZRefIdeal.τ).loc Cert.DZRefIdeal.main_arg1) = m' ((c.tc : Thread Cert.DZRefIdeal.nD Cert.DZRefIdeal.τ).loc Cert.DZRefIdeal.main_arg1)
          ∧ r.2.mem ((c.tc : Thread Cert.DZRefIdeal.nD Cert.DZRefIdeal.τ).loc Cert.DZRefIdeal.main_arg2) = m' ((c.tc : Thread Cert.DZRefIdeal.nD Cert.DZRefIdeal.τ).loc Cert.DZRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v18) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)
      ∧ m' ((c.tc : Thread Cert.DUpRefIdeal.nD Cert.DUpRefIdeal.τ).loc Cert.DUpRefIdeal.main_arg3) = m ((c.tc : Thread Cert.DUpIdeal.nD Cert.DUpIdeal.τ).loc Cert.DUpIdeal.main_arg3)) →
    ∃ (v0 : (c : Dev Cert.DUpIdeal.nD) → Buf (Elt Ideal) ((c.tc : Thread Cert.DUpIdeal.nD Cert.DUpIdeal.τ).loc Cert.DUpIdeal.main_v0)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v0) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2)
          ∧ r.2.mem ((c.tc : Thread Cert.DUpIdeal.nD Cert.DUpIdeal.τ).loc Cert.DUpIdeal.main_arg3) = m ((c.tc : Thread Cert.DUpIdeal.nD Cert.DUpIdeal.τ).loc Cert.DUpIdeal.main_arg3))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v17) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2)
          ∧ r.2.mem ((c.tc : Thread Cert.DUpRefIdeal.nD Cert.DUpRefIdeal.τ).loc Cert.DUpRefIdeal.main_arg3) = m' ((c.tc : Thread Cert.DUpRefIdeal.nD Cert.DUpRefIdeal.τ).loc Cert.DUpRefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)
      ∧ m' ((c.tc : Thread Cert.DOutRefIdeal.nD Cert.DOutRefIdeal.τ).loc Cert.DOutRefIdeal.main_arg2) = m ((c.tc : Thread Cert.DOutIdeal.nD Cert.DOutIdeal.τ).loc Cert.DOutIdeal.main_arg2)) →
    ∃ (v0 : (c : Dev Cert.DOutIdeal.nD) → Buf (Elt Ideal) ((c.tc : Thread Cert.DOutIdeal.nD Cert.DOutIdeal.τ).loc Cert.DOutIdeal.main_v0)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1)
          ∧ r.2.mem ((c.tc : Thread Cert.DOutIdeal.nD Cert.DOutIdeal.τ).loc Cert.DOutIdeal.main_arg2) = m ((c.tc : Thread Cert.DOutIdeal.nD Cert.DOutIdeal.τ).loc Cert.DOutIdeal.main_arg2))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v4) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1)
          ∧ r.2.mem ((c.tc : Thread Cert.DOutRefIdeal.nD Cert.DOutRefIdeal.τ).loc Cert.DOutRefIdeal.main_arg2) = m' ((c.tc : Thread Cert.DOutRefIdeal.nD Cert.DOutRefIdeal.τ).loc Cert.DOutRefIdeal.main_arg2))

def preserves_DwSgIn_DwSgInIdeal : Prop :=
  True

def algebraic_DwSgInIdeal_DwSgInRefIdeal [hDwSgInIdeal : Cert.DwSgInIdeal.Facts] [hDwSgInRefIdeal : Cert.DwSgInRefIdeal.Facts] : Prop :=
  ∀ (m : (ℓ : Loc Cert.DwSgInIdeal.nD Cert.DwSgInIdeal.τ Cert.DwSgInIdeal.sig) → Buf (Elt Ideal) ℓ) (g : Dev Cert.DwSgInIdeal.nD → PrngReg)
    (m' : (ℓ : Loc Cert.DwSgInRefIdeal.nD Cert.DwSgInRefIdeal.τ Cert.DwSgInRefIdeal.sig) → Buf (Elt Ideal) ℓ) (g' : Dev Cert.DwSgInRefIdeal.nD → PrngReg), Pre_DwSgInIdeal m →
    (∀ c : Dev Cert.DwSgInIdeal.nD,
      m' ((c.tc : Thread Cert.DwSgInRefIdeal.nD Cert.DwSgInRefIdeal.τ).loc Cert.DwSgInRefIdeal.main_arg0) = m ((c.tc : Thread Cert.DwSgInIdeal.nD Cert.DwSgInIdeal.τ).loc Cert.DwSgInIdeal.main_arg0)
      ∧ m' ((c.tc : Thread Cert.DwSgInRefIdeal.nD Cert.DwSgInRefIdeal.τ).loc Cert.DwSgInRefIdeal.main_arg1) = m ((c.tc : Thread Cert.DwSgInIdeal.nD Cert.DwSgInIdeal.τ).loc Cert.DwSgInIdeal.main_arg1)) →
    ∃ (v0 : (c : Dev Cert.DwSgInIdeal.nD) → Buf (Elt Ideal) ((c.tc : Thread Cert.DwSgInIdeal.nD Cert.DwSgInIdeal.τ).loc Cert.DwSgInIdeal.main_v0)),
      θ_run (Cert.DwSgInIdeal.defs (F := Ideal)) (onTc (τ := Cert.DwSgInIdeal.τ) (Cert.DwSgInIdeal.main (F := Ideal))) ⟨m, fun _ => 0, g⟩ (fun r => ∀ c : Dev Cert.DwSgInIdeal.nD,
          r.2.mem ((c.tc : Thread Cert.DwSgInIdeal.nD Cert.DwSgInIdeal.τ).loc Cert.DwSgInIdeal.main_v0) = v0 c
          ∧ r.2.mem ((c.tc : Thread Cert.DwSgInIdeal.nD Cert.DwSgInIdeal.τ).loc Cert.DwSgInIdeal.main_arg0) = m ((c.tc : Thread Cert.DwSgInIdeal.nD Cert.DwSgInIdeal.τ).loc Cert.DwSgInIdeal.main_arg0)
          ∧ r.2.mem ((c.tc : Thread Cert.DwSgInIdeal.nD Cert.DwSgInIdeal.τ).loc Cert.DwSgInIdeal.main_arg1) = m ((c.tc : Thread Cert.DwSgInIdeal.nD Cert.DwSgInIdeal.τ).loc Cert.DwSgInIdeal.main_arg1))
      ∧ θ_run (Cert.DwSgInRefIdeal.defs (F := Ideal)) (onTc (τ := Cert.DwSgInRefIdeal.τ) (Cert.DwSgInRefIdeal.main (F := Ideal))) ⟨m', fun _ => 0, g'⟩ (fun r => ∀ c : Dev Cert.DwSgInRefIdeal.nD,
          r.2.mem ((c.tc : Thread Cert.DwSgInRefIdeal.nD Cert.DwSgInRefIdeal.τ).loc Cert.DwSgInRefIdeal.main_v8) = v0 c
          ∧ r.2.mem ((c.tc : Thread Cert.DwSgInRefIdeal.nD Cert.DwSgInRefIdeal.τ).loc Cert.DwSgInRefIdeal.main_arg0) = m' ((c.tc : Thread Cert.DwSgInRefIdeal.nD Cert.DwSgInRefIdeal.τ).loc Cert.DwSgInRefIdeal.main_arg0)
          ∧ r.2.mem ((c.tc : Thread Cert.DwSgInRefIdeal.nD Cert.DwSgInRefIdeal.τ).loc Cert.DwSgInRefIdeal.main_arg1) = m' ((c.tc : Thread Cert.DwSgInRefIdeal.nD Cert.DwSgInRefIdeal.τ).loc Cert.DwSgInRefIdeal.main_arg1))

def preserves_DSgIn_DSgInIdeal : Prop :=
  True

def algebraic_DSgInIdeal_DSgInRefIdeal [hDSgInIdeal : Cert.DSgInIdeal.Facts] [hDSgInRefIdeal : Cert.DSgInRefIdeal.Facts] : Prop :=
  ∀ (m : (ℓ : Loc Cert.DSgInIdeal.nD Cert.DSgInIdeal.τ Cert.DSgInIdeal.sig) → Buf (Elt Ideal) ℓ) (g : Dev Cert.DSgInIdeal.nD → PrngReg)
    (m' : (ℓ : Loc Cert.DSgInRefIdeal.nD Cert.DSgInRefIdeal.τ Cert.DSgInRefIdeal.sig) → Buf (Elt Ideal) ℓ) (g' : Dev Cert.DSgInRefIdeal.nD → PrngReg), Pre_DSgInIdeal m →
    (∀ c : Dev Cert.DSgInIdeal.nD,
      m' ((c.tc : Thread Cert.DSgInRefIdeal.nD Cert.DSgInRefIdeal.τ).loc Cert.DSgInRefIdeal.main_arg0) = m ((c.tc : Thread Cert.DSgInIdeal.nD Cert.DSgInIdeal.τ).loc Cert.DSgInIdeal.main_arg0)
      ∧ m' ((c.tc : Thread Cert.DSgInRefIdeal.nD Cert.DSgInRefIdeal.τ).loc Cert.DSgInRefIdeal.main_arg1) = m ((c.tc : Thread Cert.DSgInIdeal.nD Cert.DSgInIdeal.τ).loc Cert.DSgInIdeal.main_arg1)
      ∧ m' ((c.tc : Thread Cert.DSgInRefIdeal.nD Cert.DSgInRefIdeal.τ).loc Cert.DSgInRefIdeal.main_arg2) = m ((c.tc : Thread Cert.DSgInIdeal.nD Cert.DSgInIdeal.τ).loc Cert.DSgInIdeal.main_arg2)
      ∧ m' ((c.tc : Thread Cert.DSgInRefIdeal.nD Cert.DSgInRefIdeal.τ).loc Cert.DSgInRefIdeal.main_arg3) = m ((c.tc : Thread Cert.DSgInIdeal.nD Cert.DSgInIdeal.τ).loc Cert.DSgInIdeal.main_arg3)) →
    ∃ (v0 : (c : Dev Cert.DSgInIdeal.nD) → Buf (Elt Ideal) ((c.tc : Thread Cert.DSgInIdeal.nD Cert.DSgInIdeal.τ).loc Cert.DSgInIdeal.main_v0)),
      θ_run (Cert.DSgInIdeal.defs (F := Ideal)) (onTc (τ := Cert.DSgInIdeal.τ) (Cert.DSgInIdeal.main (F := Ideal))) ⟨m, fun _ => 0, g⟩ (fun r => ∀ c : Dev Cert.DSgInIdeal.nD,
          r.2.mem ((c.tc : Thread Cert.DSgInIdeal.nD Cert.DSgInIdeal.τ).loc Cert.DSgInIdeal.main_v0) = v0 c
          ∧ r.2.mem ((c.tc : Thread Cert.DSgInIdeal.nD Cert.DSgInIdeal.τ).loc Cert.DSgInIdeal.main_arg0) = m ((c.tc : Thread Cert.DSgInIdeal.nD Cert.DSgInIdeal.τ).loc Cert.DSgInIdeal.main_arg0)
          ∧ r.2.mem ((c.tc : Thread Cert.DSgInIdeal.nD Cert.DSgInIdeal.τ).loc Cert.DSgInIdeal.main_arg1) = m ((c.tc : Thread Cert.DSgInIdeal.nD Cert.DSgInIdeal.τ).loc Cert.DSgInIdeal.main_arg1)
          ∧ r.2.mem ((c.tc : Thread Cert.DSgInIdeal.nD Cert.DSgInIdeal.τ).loc Cert.DSgInIdeal.main_arg2) = m ((c.tc : Thread Cert.DSgInIdeal.nD Cert.DSgInIdeal.τ).loc Cert.DSgInIdeal.main_arg2)
          ∧ r.2.mem ((c.tc : Thread Cert.DSgInIdeal.nD Cert.DSgInIdeal.τ).loc Cert.DSgInIdeal.main_arg3) = m ((c.tc : Thread Cert.DSgInIdeal.nD Cert.DSgInIdeal.τ).loc Cert.DSgInIdeal.main_arg3))
      ∧ θ_run (Cert.DSgInRefIdeal.defs (F := Ideal)) (onTc (τ := Cert.DSgInRefIdeal.τ) (Cert.DSgInRefIdeal.main (F := Ideal))) ⟨m', fun _ => 0, g'⟩ (fun r => ∀ c : Dev Cert.DSgInRefIdeal.nD,
          r.2.mem ((c.tc : Thread Cert.DSgInRefIdeal.nD Cert.DSgInRefIdeal.τ).loc Cert.DSgInRefIdeal.main_v7) = v0 c
          ∧ r.2.mem ((c.tc : Thread Cert.DSgInRefIdeal.nD Cert.DSgInRefIdeal.τ).loc Cert.DSgInRefIdeal.main_arg0) = m' ((c.tc : Thread Cert.DSgInRefIdeal.nD Cert.DSgInRefIdeal.τ).loc Cert.DSgInRefIdeal.main_arg0)
          ∧ r.2.mem ((c.tc : Thread Cert.DSgInRefIdeal.nD Cert.DSgInRefIdeal.τ).loc Cert.DSgInRefIdeal.main_arg1) = m' ((c.tc : Thread Cert.DSgInRefIdeal.nD Cert.DSgInRefIdeal.τ).loc Cert.DSgInRefIdeal.main_arg1)
          ∧ r.2.mem ((c.tc : Thread Cert.DSgInRefIdeal.nD Cert.DSgInRefIdeal.τ).loc Cert.DSgInRefIdeal.main_arg2) = m' ((c.tc : Thread Cert.DSgInRefIdeal.nD Cert.DSgInRefIdeal.τ).loc Cert.DSgInRefIdeal.main_arg2)
          ∧ r.2.mem ((c.tc : Thread Cert.DSgInRefIdeal.nD Cert.DSgInRefIdeal.τ).loc Cert.DSgInRefIdeal.main_arg3) = m' ((c.tc : Thread Cert.DSgInRefIdeal.nD Cert.DSgInRefIdeal.τ).loc Cert.DSgInRefIdeal.main_arg3))

def preserves_DwHgIn_DwHgInIdeal : Prop :=
  True

def algebraic_DwHgInIdeal_DwHgInRefIdeal [hDwHgInIdeal : Cert.DwHgInIdeal.Facts] [hDwHgInRefIdeal : Cert.DwHgInRefIdeal.Facts] : Prop :=
  ∀ (m : (ℓ : Loc Cert.DwHgInIdeal.nD Cert.DwHgInIdeal.τ Cert.DwHgInIdeal.sig) → Buf (Elt Ideal) ℓ) (g : Dev Cert.DwHgInIdeal.nD → PrngReg)
    (m' : (ℓ : Loc Cert.DwHgInRefIdeal.nD Cert.DwHgInRefIdeal.τ Cert.DwHgInRefIdeal.sig) → Buf (Elt Ideal) ℓ) (g' : Dev Cert.DwHgInRefIdeal.nD → PrngReg), Pre_DwHgInIdeal m →
    (∀ c : Dev Cert.DwHgInIdeal.nD,
      m' ((c.tc : Thread Cert.DwHgInRefIdeal.nD Cert.DwHgInRefIdeal.τ).loc Cert.DwHgInRefIdeal.main_arg0) = m ((c.tc : Thread Cert.DwHgInIdeal.nD Cert.DwHgInIdeal.τ).loc Cert.DwHgInIdeal.main_arg0)
      ∧ m' ((c.tc : Thread Cert.DwHgInRefIdeal.nD Cert.DwHgInRefIdeal.τ).loc Cert.DwHgInRefIdeal.main_arg1) = m ((c.tc : Thread Cert.DwHgInIdeal.nD Cert.DwHgInIdeal.τ).loc Cert.DwHgInIdeal.main_arg1)
      ∧ m' ((c.tc : Thread Cert.DwHgInRefIdeal.nD Cert.DwHgInRefIdeal.τ).loc Cert.DwHgInRefIdeal.main_arg2) = m ((c.tc : Thread Cert.DwHgInIdeal.nD Cert.DwHgInIdeal.τ).loc Cert.DwHgInIdeal.main_arg2)) →
    ∃ (v0 : (c : Dev Cert.DwHgInIdeal.nD) → Buf (Elt Ideal) ((c.tc : Thread Cert.DwHgInIdeal.nD Cert.DwHgInIdeal.τ).loc Cert.DwHgInIdeal.main_v0)),
      θ_run (Cert.DwHgInIdeal.defs (F := Ideal)) (onTc (τ := Cert.DwHgInIdeal.τ) (Cert.DwHgInIdeal.main (F := Ideal))) ⟨m, fun _ => 0, g⟩ (fun r => ∀ c : Dev Cert.DwHgInIdeal.nD,
          r.2.mem ((c.tc : Thread Cert.DwHgInIdeal.nD Cert.DwHgInIdeal.τ).loc Cert.DwHgInIdeal.main_v0) = v0 c
          ∧ r.2.mem ((c.tc : Thread Cert.DwHgInIdeal.nD Cert.DwHgInIdeal.τ).loc Cert.DwHgInIdeal.main_arg0) = m ((c.tc : Thread Cert.DwHgInIdeal.nD Cert.DwHgInIdeal.τ).loc Cert.DwHgInIdeal.main_arg0)
          ∧ r.2.mem ((c.tc : Thread Cert.DwHgInIdeal.nD Cert.DwHgInIdeal.τ).loc Cert.DwHgInIdeal.main_arg1) = m ((c.tc : Thread Cert.DwHgInIdeal.nD Cert.DwHgInIdeal.τ).loc Cert.DwHgInIdeal.main_arg1)
          ∧ r.2.mem ((c.tc : Thread Cert.DwHgInIdeal.nD Cert.DwHgInIdeal.τ).loc Cert.DwHgInIdeal.main_arg2) = m ((c.tc : Thread Cert.DwHgInIdeal.nD Cert.DwHgInIdeal.τ).loc Cert.DwHgInIdeal.main_arg2))
      ∧ θ_run (Cert.DwHgInRefIdeal.defs (F := Ideal)) (onTc (τ := Cert.DwHgInRefIdeal.τ) (Cert.DwHgInRefIdeal.main (F := Ideal))) ⟨m', fun _ => 0, g'⟩ (fun r => ∀ c : Dev Cert.DwHgInRefIdeal.nD,
          r.2.mem ((c.tc : Thread Cert.DwHgInRefIdeal.nD Cert.DwHgInRefIdeal.τ).loc Cert.DwHgInRefIdeal.main_v26) = v0 c
          ∧ r.2.mem ((c.tc : Thread Cert.DwHgInRefIdeal.nD Cert.DwHgInRefIdeal.τ).loc Cert.DwHgInRefIdeal.main_arg0) = m' ((c.tc : Thread Cert.DwHgInRefIdeal.nD Cert.DwHgInRefIdeal.τ).loc Cert.DwHgInRefIdeal.main_arg0)
          ∧ r.2.mem ((c.tc : Thread Cert.DwHgInRefIdeal.nD Cert.DwHgInRefIdeal.τ).loc Cert.DwHgInRefIdeal.main_arg1) = m' ((c.tc : Thread Cert.DwHgInRefIdeal.nD Cert.DwHgInRefIdeal.τ).loc Cert.DwHgInRefIdeal.main_arg1)
          ∧ r.2.mem ((c.tc : Thread Cert.DwHgInRefIdeal.nD Cert.DwHgInRefIdeal.τ).loc Cert.DwHgInRefIdeal.main_arg2) = m' ((c.tc : Thread Cert.DwHgInRefIdeal.nD Cert.DwHgInRefIdeal.τ).loc Cert.DwHgInRefIdeal.main_arg2))

def preserves_DHgIn_DHgInIdeal : Prop :=
  True

def algebraic_DHgInIdeal_DHgInRefIdeal [hDHgInIdeal : Cert.DHgInIdeal.Facts] [hDHgInRefIdeal : Cert.DHgInRefIdeal.Facts] : Prop :=
  ∀ (m : (ℓ : Loc Cert.DHgInIdeal.nD Cert.DHgInIdeal.τ Cert.DHgInIdeal.sig) → Buf (Elt Ideal) ℓ) (g : Dev Cert.DHgInIdeal.nD → PrngReg)
    (m' : (ℓ : Loc Cert.DHgInRefIdeal.nD Cert.DHgInRefIdeal.τ Cert.DHgInRefIdeal.sig) → Buf (Elt Ideal) ℓ) (g' : Dev Cert.DHgInRefIdeal.nD → PrngReg), Pre_DHgInIdeal m →
    (∀ c : Dev Cert.DHgInIdeal.nD,
      m' ((c.tc : Thread Cert.DHgInRefIdeal.nD Cert.DHgInRefIdeal.τ).loc Cert.DHgInRefIdeal.main_arg0) = m ((c.tc : Thread Cert.DHgInIdeal.nD Cert.DHgInIdeal.τ).loc Cert.DHgInIdeal.main_arg0)
      ∧ m' ((c.tc : Thread Cert.DHgInRefIdeal.nD Cert.DHgInRefIdeal.τ).loc Cert.DHgInRefIdeal.main_arg1) = m ((c.tc : Thread Cert.DHgInIdeal.nD Cert.DHgInIdeal.τ).loc Cert.DHgInIdeal.main_arg1)
      ∧ m' ((c.tc : Thread Cert.DHgInRefIdeal.nD Cert.DHgInRefIdeal.τ).loc Cert.DHgInRefIdeal.main_arg2) = m ((c.tc : Thread Cert.DHgInIdeal.nD Cert.DHgInIdeal.τ).loc Cert.DHgInIdeal.main_arg2)
      ∧ m' ((c.tc : Thread Cert.DHgInRefIdeal.nD Cert.DHgInRefIdeal.τ).loc Cert.DHgInRefIdeal.main_arg3) = m ((c.tc : Thread Cert.DHgInIdeal.nD Cert.DHgInIdeal.τ).loc Cert.DHgInIdeal.main_arg3)) →
    ∃ (v0 : (c : Dev Cert.DHgInIdeal.nD) → Buf (Elt Ideal) ((c.tc : Thread Cert.DHgInIdeal.nD Cert.DHgInIdeal.τ).loc Cert.DHgInIdeal.main_v0)),
      θ_run (Cert.DHgInIdeal.defs (F := Ideal)) (onTc (τ := Cert.DHgInIdeal.τ) (Cert.DHgInIdeal.main (F := Ideal))) ⟨m, fun _ => 0, g⟩ (fun r => ∀ c : Dev Cert.DHgInIdeal.nD,
          r.2.mem ((c.tc : Thread Cert.DHgInIdeal.nD Cert.DHgInIdeal.τ).loc Cert.DHgInIdeal.main_v0) = v0 c
          ∧ r.2.mem ((c.tc : Thread Cert.DHgInIdeal.nD Cert.DHgInIdeal.τ).loc Cert.DHgInIdeal.main_arg0) = m ((c.tc : Thread Cert.DHgInIdeal.nD Cert.DHgInIdeal.τ).loc Cert.DHgInIdeal.main_arg0)
          ∧ r.2.mem ((c.tc : Thread Cert.DHgInIdeal.nD Cert.DHgInIdeal.τ).loc Cert.DHgInIdeal.main_arg1) = m ((c.tc : Thread Cert.DHgInIdeal.nD Cert.DHgInIdeal.τ).loc Cert.DHgInIdeal.main_arg1)
          ∧ r.2.mem ((c.tc : Thread Cert.DHgInIdeal.nD Cert.DHgInIdeal.τ).loc Cert.DHgInIdeal.main_arg2) = m ((c.tc : Thread Cert.DHgInIdeal.nD Cert.DHgInIdeal.τ).loc Cert.DHgInIdeal.main_arg2)
          ∧ r.2.mem ((c.tc : Thread Cert.DHgInIdeal.nD Cert.DHgInIdeal.τ).loc Cert.DHgInIdeal.main_arg3) = m ((c.tc : Thread Cert.DHgInIdeal.nD Cert.DHgInIdeal.τ).loc Cert.DHgInIdeal.main_arg3))
      ∧ θ_run (Cert.DHgInRefIdeal.defs (F := Ideal)) (onTc (τ := Cert.DHgInRefIdeal.τ) (Cert.DHgInRefIdeal.main (F := Ideal))) ⟨m', fun _ => 0, g'⟩ (fun r => ∀ c : Dev Cert.DHgInRefIdeal.nD,
          r.2.mem ((c.tc : Thread Cert.DHgInRefIdeal.nD Cert.DHgInRefIdeal.τ).loc Cert.DHgInRefIdeal.main_v25) = v0 c
          ∧ r.2.mem ((c.tc : Thread Cert.DHgInRefIdeal.nD Cert.DHgInRefIdeal.τ).loc Cert.DHgInRefIdeal.main_arg0) = m' ((c.tc : Thread Cert.DHgInRefIdeal.nD Cert.DHgInRefIdeal.τ).loc Cert.DHgInRefIdeal.main_arg0)
          ∧ r.2.mem ((c.tc : Thread Cert.DHgInRefIdeal.nD Cert.DHgInRefIdeal.τ).loc Cert.DHgInRefIdeal.main_arg1) = m' ((c.tc : Thread Cert.DHgInRefIdeal.nD Cert.DHgInRefIdeal.τ).loc Cert.DHgInRefIdeal.main_arg1)
          ∧ r.2.mem ((c.tc : Thread Cert.DHgInRefIdeal.nD Cert.DHgInRefIdeal.τ).loc Cert.DHgInRefIdeal.main_arg2) = m' ((c.tc : Thread Cert.DHgInRefIdeal.nD Cert.DHgInRefIdeal.τ).loc Cert.DHgInRefIdeal.main_arg2)
          ∧ r.2.mem ((c.tc : Thread Cert.DHgInRefIdeal.nD Cert.DHgInRefIdeal.τ).loc Cert.DHgInRefIdeal.main_arg3) = m' ((c.tc : Thread Cert.DHgInRefIdeal.nD Cert.DHgInRefIdeal.τ).loc Cert.DHgInRefIdeal.main_arg3))

def preserves_HgIn_HgInIdeal : Prop :=
  True

def algebraic_HgInIdeal_HgInRefIdeal [hHgInIdeal : Cert.HgInIdeal.Facts] [hHgInRefIdeal : Cert.HgInRefIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.HgInRefIdeal.nD Cert.HgInRefIdeal.τ Cert.HgInRefIdeal.sig) → Buf (Elt Ideal) ℓ) (g' : Dev Cert.HgInRefIdeal.nD → PrngReg), Pre_HgInIdeal m →
    (∀ c : Dev Cert.HgInIdeal.nD,
      m' ((c.tc : Thread Cert.HgInRefIdeal.nD Cert.HgInRefIdeal.τ).loc Cert.HgInRefIdeal.main_arg0) = m ((c.tc : Thread Cert.HgInIdeal.nD Cert.HgInIdeal.τ).loc Cert.HgInIdeal.main_arg0)
      ∧ m' ((c.tc : Thread Cert.HgInRefIdeal.nD Cert.HgInRefIdeal.τ).loc Cert.HgInRefIdeal.main_arg1) = m ((c.tc : Thread Cert.HgInIdeal.nD Cert.HgInIdeal.τ).loc Cert.HgInIdeal.main_arg1)) →
    ∃ (v0 : (c : Dev Cert.HgInIdeal.nD) → Buf (Elt Ideal) ((c.tc : Thread Cert.HgInIdeal.nD Cert.HgInIdeal.τ).loc Cert.HgInIdeal.main_v0)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v0) = v0 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ θ_run (Cert.HgInRefIdeal.defs (F := Ideal)) (onTc (τ := Cert.HgInRefIdeal.τ) (Cert.HgInRefIdeal.main (F := Ideal))) ⟨m', fun _ => 0, g'⟩ (fun r => ∀ c : Dev Cert.HgInRefIdeal.nD,
          r.2.mem ((c.tc : Thread Cert.HgInRefIdeal.nD Cert.HgInRefIdeal.τ).loc Cert.HgInRefIdeal.main_v13) = v0 c
          ∧ r.2.mem ((c.tc : Thread Cert.HgInRefIdeal.nD Cert.HgInRefIdeal.τ).loc Cert.HgInRefIdeal.main_arg0) = m' ((c.tc : Thread Cert.HgInRefIdeal.nD Cert.HgInRefIdeal.τ).loc Cert.HgInRefIdeal.main_arg0)
          ∧ r.2.mem ((c.tc : Thread Cert.HgInRefIdeal.nD Cert.HgInRefIdeal.τ).loc Cert.HgInRefIdeal.main_arg1) = m' ((c.tc : Thread Cert.HgInRefIdeal.nD Cert.HgInRefIdeal.τ).loc Cert.HgInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v10) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_SgIn_SgInIdeal : Prop :=
  True

def algebraic_SgInIdeal_SgInRefIdeal [hSgInIdeal : Cert.SgInIdeal.Facts] [hSgInRefIdeal : Cert.SgInRefIdeal.Facts] : Prop :=
  ∀ (m : (ℓ : Loc Cert.SgInIdeal.nD Cert.SgInIdeal.τ Cert.SgInIdeal.sig) → Buf (Elt Ideal) ℓ) (g : Dev Cert.SgInIdeal.nD → PrngReg)
    (m' : (ℓ : Loc Cert.SgInRefIdeal.nD Cert.SgInRefIdeal.τ Cert.SgInRefIdeal.sig) → Buf (Elt Ideal) ℓ) (g' : Dev Cert.SgInRefIdeal.nD → PrngReg), Pre_SgInIdeal m →
    (∀ c : Dev Cert.SgInIdeal.nD,
      m' ((c.tc : Thread Cert.SgInRefIdeal.nD Cert.SgInRefIdeal.τ).loc Cert.SgInRefIdeal.main_arg0) = m ((c.tc : Thread Cert.SgInIdeal.nD Cert.SgInIdeal.τ).loc Cert.SgInIdeal.main_arg0)
      ∧ m' ((c.tc : Thread Cert.SgInRefIdeal.nD Cert.SgInRefIdeal.τ).loc Cert.SgInRefIdeal.main_arg1) = m ((c.tc : Thread Cert.SgInIdeal.nD Cert.SgInIdeal.τ).loc Cert.SgInIdeal.main_arg1)) →
    ∃ (v0 : (c : Dev Cert.SgInIdeal.nD) → Buf (Elt Ideal) ((c.tc : Thread Cert.SgInIdeal.nD Cert.SgInIdeal.τ).loc Cert.SgInIdeal.main_v0)),
      θ_run (Cert.SgInIdeal.defs (F := Ideal)) (onTc (τ := Cert.SgInIdeal.τ) (Cert.SgInIdeal.main (F := Ideal))) ⟨m, fun _ => 0, g⟩ (fun r => ∀ c : Dev Cert.SgInIdeal.nD,
          r.2.mem ((c.tc : Thread Cert.SgInIdeal.nD Cert.SgInIdeal.τ).loc Cert.SgInIdeal.main_v0) = v0 c
          ∧ r.2.mem ((c.tc : Thread Cert.SgInIdeal.nD Cert.SgInIdeal.τ).loc Cert.SgInIdeal.main_arg0) = m ((c.tc : Thread Cert.SgInIdeal.nD Cert.SgInIdeal.τ).loc Cert.SgInIdeal.main_arg0)
          ∧ r.2.mem ((c.tc : Thread Cert.SgInIdeal.nD Cert.SgInIdeal.τ).loc Cert.SgInIdeal.main_arg1) = m ((c.tc : Thread Cert.SgInIdeal.nD Cert.SgInIdeal.τ).loc Cert.SgInIdeal.main_arg1))
      ∧ θ_run (Cert.SgInRefIdeal.defs (F := Ideal)) (onTc (τ := Cert.SgInRefIdeal.τ) (Cert.SgInRefIdeal.main (F := Ideal))) ⟨m', fun _ => 0, g'⟩ (fun r => ∀ c : Dev Cert.SgInRefIdeal.nD,
          r.2.mem ((c.tc : Thread Cert.SgInRefIdeal.nD Cert.SgInRefIdeal.τ).loc Cert.SgInRefIdeal.main_v4) = v0 c
          ∧ r.2.mem ((c.tc : Thread Cert.SgInRefIdeal.nD Cert.SgInRefIdeal.τ).loc Cert.SgInRefIdeal.main_arg0) = m' ((c.tc : Thread Cert.SgInRefIdeal.nD Cert.SgInRefIdeal.τ).loc Cert.SgInRefIdeal.main_arg0)
          ∧ r.2.mem ((c.tc : Thread Cert.SgInRefIdeal.nD Cert.SgInRefIdeal.τ).loc Cert.SgInRefIdeal.main_arg1) = m' ((c.tc : Thread Cert.SgInRefIdeal.nD Cert.SgInRefIdeal.τ).loc Cert.SgInRefIdeal.main_arg1))

def preserves_AdamLb_AdamLbIdeal : Prop :=
  True

def algebraic_AdamLbIdeal_AdamLbRefIdeal [hAdamLbIdeal : Cert.AdamLbIdeal.Facts] [hAdamLbRefIdeal : Cert.AdamLbRefIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg)
    (m' : (ℓ : Loc Cert.AdamLbRefIdeal.nD Cert.AdamLbRefIdeal.τ Cert.AdamLbRefIdeal.sig) → Buf (Elt Ideal) ℓ) (g' : Dev Cert.AdamLbRefIdeal.nD → PrngReg), Pre_AdamLbIdeal m →
    (∀ c : Dev Cert.AdamLbIdeal.nD,
      m' ((c.tc : Thread Cert.AdamLbRefIdeal.nD Cert.AdamLbRefIdeal.τ).loc Cert.AdamLbRefIdeal.main_arg0) = m ((c.tc : Thread Cert.AdamLbIdeal.nD Cert.AdamLbIdeal.τ).loc Cert.AdamLbIdeal.main_arg0)
      ∧ m' ((c.tc : Thread Cert.AdamLbRefIdeal.nD Cert.AdamLbRefIdeal.τ).loc Cert.AdamLbRefIdeal.main_arg1) = m ((c.tc : Thread Cert.AdamLbIdeal.nD Cert.AdamLbIdeal.τ).loc Cert.AdamLbIdeal.main_arg1)
      ∧ m' ((c.tc : Thread Cert.AdamLbRefIdeal.nD Cert.AdamLbRefIdeal.τ).loc Cert.AdamLbRefIdeal.main_arg2) = m ((c.tc : Thread Cert.AdamLbIdeal.nD Cert.AdamLbIdeal.τ).loc Cert.AdamLbIdeal.main_arg2)
      ∧ m' ((c.tc : Thread Cert.AdamLbRefIdeal.nD Cert.AdamLbRefIdeal.τ).loc Cert.AdamLbRefIdeal.main_arg3) = m ((c.tc : Thread Cert.AdamLbIdeal.nD Cert.AdamLbIdeal.τ).loc Cert.AdamLbIdeal.main_arg3)) →
    ∃ (v0 : (c : Dev Cert.AdamLbIdeal.nD) → Buf (Elt Ideal) ((c.tc : Thread Cert.AdamLbIdeal.nD Cert.AdamLbIdeal.τ).loc Cert.AdamLbIdeal.main_v0_0)) (v1 : (c : Dev Cert.AdamLbIdeal.nD) → Buf (Elt Ideal) ((c.tc : Thread Cert.AdamLbIdeal.nD Cert.AdamLbIdeal.τ).loc Cert.AdamLbIdeal.main_v0_1)) (v2 : (c : Dev Cert.AdamLbIdeal.nD) → Buf (Elt Ideal) ((c.tc : Thread Cert.AdamLbIdeal.nD Cert.AdamLbIdeal.τ).loc Cert.AdamLbIdeal.main_v0_2)) (v3 : (c : Dev Cert.AdamLbIdeal.nD) → Buf (Elt Ideal) ((c.tc : Thread Cert.AdamLbIdeal.nD Cert.AdamLbIdeal.τ).loc Cert.AdamLbIdeal.main_v0_3)),
      θ_run (Cert.AdamLbIdeal.defs (F := Ideal)) (onTc (τ := Cert.AdamLbIdeal.τ) (Cert.AdamLbIdeal.main (F := Ideal))) ⟨m, fun _ => 0, g⟩ (fun r => ∀ c : Dev Cert.AdamLbIdeal.nD,
          r.2.mem ((c.tc : Thread Cert.AdamLbIdeal.nD Cert.AdamLbIdeal.τ).loc Cert.AdamLbIdeal.main_v0_0) = v0 c
          ∧ r.2.mem ((c.tc : Thread Cert.AdamLbIdeal.nD Cert.AdamLbIdeal.τ).loc Cert.AdamLbIdeal.main_v0_1) = v1 c
          ∧ r.2.mem ((c.tc : Thread Cert.AdamLbIdeal.nD Cert.AdamLbIdeal.τ).loc Cert.AdamLbIdeal.main_v0_2) = v2 c
          ∧ r.2.mem ((c.tc : Thread Cert.AdamLbIdeal.nD Cert.AdamLbIdeal.τ).loc Cert.AdamLbIdeal.main_v0_3) = v3 c
          ∧ r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
          ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
          ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
          ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3))
      ∧ θ_run (Cert.AdamLbRefIdeal.defs (F := Ideal)) (onTc (τ := Cert.AdamLbRefIdeal.τ) (Cert.AdamLbRefIdeal.main (F := Ideal))) ⟨m', fun _ => 0, g'⟩ (fun r => ∀ c : Dev Cert.AdamLbRefIdeal.nD,
          r.2.mem ((c.tc : Thread Cert.AdamLbRefIdeal.nD Cert.AdamLbRefIdeal.τ).loc Cert.AdamLbRefIdeal.main_arg1) = v0 c
          ∧ r.2.mem ((c.tc : Thread Cert.AdamLbRefIdeal.nD Cert.AdamLbRefIdeal.τ).loc Cert.AdamLbRefIdeal.main_v23) = v1 c
          ∧ r.2.mem ((c.tc : Thread Cert.AdamLbRefIdeal.nD Cert.AdamLbRefIdeal.τ).loc Cert.AdamLbRefIdeal.main_v4) = v2 c
          ∧ r.2.mem ((c.tc : Thread Cert.AdamLbRefIdeal.nD Cert.AdamLbRefIdeal.τ).loc Cert.AdamLbRefIdeal.main_v10) = v3 c
          ∧ r.2.mem ((c.tc : Thread Cert.AdamLbRefIdeal.nD Cert.AdamLbRefIdeal.τ).loc Cert.AdamLbRefIdeal.main_arg0) = m' ((c.tc : Thread Cert.AdamLbRefIdeal.nD Cert.AdamLbRefIdeal.τ).loc Cert.AdamLbRefIdeal.main_arg0)
          ∧ r.2.mem ((c.tc : Thread Cert.AdamLbRefIdeal.nD Cert.AdamLbRefIdeal.τ).loc Cert.AdamLbRefIdeal.main_arg1) = m' ((c.tc : Thread Cert.AdamLbRefIdeal.nD Cert.AdamLbRefIdeal.τ).loc Cert.AdamLbRefIdeal.main_arg1)
          ∧ r.2.mem ((c.tc : Thread Cert.AdamLbRefIdeal.nD Cert.AdamLbRefIdeal.τ).loc Cert.AdamLbRefIdeal.main_arg2) = m' ((c.tc : Thread Cert.AdamLbRefIdeal.nD Cert.AdamLbRefIdeal.τ).loc Cert.AdamLbRefIdeal.main_arg2)
          ∧ r.2.mem ((c.tc : Thread Cert.AdamLbRefIdeal.nD Cert.AdamLbRefIdeal.τ).loc Cert.AdamLbRefIdeal.main_arg3) = m' ((c.tc : Thread Cert.AdamLbRefIdeal.nD Cert.AdamLbRefIdeal.τ).loc Cert.AdamLbRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_arg1) = v0 c
          ∧ r.2.mem ((c.tc : Thread Cert.AdamNormRefIdeal.nD Cert.AdamNormRefIdeal.τ).loc Cert.AdamNormRefIdeal.main_v23) = v1 c
          ∧ r.2.mem ((c.tc : Thread Cert.AdamNormRefIdeal.nD Cert.AdamNormRefIdeal.τ).loc Cert.AdamNormRefIdeal.main_v4) = v2 c
          ∧ r.2.mem ((c.tc : Thread Cert.AdamNormRefIdeal.nD Cert.AdamNormRefIdeal.τ).loc Cert.AdamNormRefIdeal.main_v10) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamSgLn_AdamSgLnIdeal : Prop :=
  True

def algebraic_AdamSgLnIdeal_AdamSgLnRefIdeal [hAdamSgLnIdeal : Cert.AdamSgLnIdeal.Facts] [hAdamSgLnRefIdeal : Cert.AdamSgLnRefIdeal.Facts] : Prop :=
  ∀ (m : (ℓ : Loc Cert.AdamSgLnIdeal.nD Cert.AdamSgLnIdeal.τ Cert.AdamSgLnIdeal.sig) → Buf (Elt Ideal) ℓ) (g : Dev Cert.AdamSgLnIdeal.nD → PrngReg)
    (m' : (ℓ : Loc Cert.AdamSgLnRefIdeal.nD Cert.AdamSgLnRefIdeal.τ Cert.AdamSgLnRefIdeal.sig) → Buf (Elt Ideal) ℓ) (g' : Dev Cert.AdamSgLnRefIdeal.nD → PrngReg), Pre_AdamSgLnIdeal m →
    (∀ c : Dev Cert.AdamSgLnIdeal.nD,
      m' ((c.tc : Thread Cert.AdamSgLnRefIdeal.nD Cert.AdamSgLnRefIdeal.τ).loc Cert.AdamSgLnRefIdeal.main_arg0) = m ((c.tc : Thread Cert.AdamSgLnIdeal.nD Cert.AdamSgLnIdeal.τ).loc Cert.AdamSgLnIdeal.main_arg0)
      ∧ m' ((c.tc : Thread Cert.AdamSgLnRefIdeal.nD Cert.AdamSgLnRefIdeal.τ).loc Cert.AdamSgLnRefIdeal.main_arg1) = m ((c.tc : Thread Cert.AdamSgLnIdeal.nD Cert.AdamSgLnIdeal.τ).loc Cert.AdamSgLnIdeal.main_arg1)
      ∧ m' ((c.tc : Thread Cert.AdamSgLnRefIdeal.nD Cert.AdamSgLnRefIdeal.τ).loc Cert.AdamSgLnRefIdeal.main_arg2) = m ((c.tc : Thread Cert.AdamSgLnIdeal.nD Cert.AdamSgLnIdeal.τ).loc Cert.AdamSgLnIdeal.main_arg2)
      ∧ m' ((c.tc : Thread Cert.AdamSgLnRefIdeal.nD Cert.AdamSgLnRefIdeal.τ).loc Cert.AdamSgLnRefIdeal.main_arg3) = m ((c.tc : Thread Cert.AdamSgLnIdeal.nD Cert.AdamSgLnIdeal.τ).loc Cert.AdamSgLnIdeal.main_arg3)) →
    ∃ (v0 : (c : Dev Cert.AdamSgLnIdeal.nD) → Buf (Elt Ideal) ((c.tc : Thread Cert.AdamSgLnIdeal.nD Cert.AdamSgLnIdeal.τ).loc Cert.AdamSgLnIdeal.main_v0_0)) (v1 : (c : Dev Cert.AdamSgLnIdeal.nD) → Buf (Elt Ideal) ((c.tc : Thread Cert.AdamSgLnIdeal.nD Cert.AdamSgLnIdeal.τ).loc Cert.AdamSgLnIdeal.main_v0_1)) (v2 : (c : Dev Cert.AdamSgLnIdeal.nD) → Buf (Elt Ideal) ((c.tc : Thread Cert.AdamSgLnIdeal.nD Cert.AdamSgLnIdeal.τ).loc Cert.AdamSgLnIdeal.main_v0_2)) (v3 : (c : Dev Cert.AdamSgLnIdeal.nD) → Buf (Elt Ideal) ((c.tc : Thread Cert.AdamSgLnIdeal.nD Cert.AdamSgLnIdeal.τ).loc Cert.AdamSgLnIdeal.main_v0_3)),
      θ_run (Cert.AdamSgLnIdeal.defs (F := Ideal)) (onTc (τ := Cert.AdamSgLnIdeal.τ) (Cert.AdamSgLnIdeal.main (F := Ideal))) ⟨m, fun _ => 0, g⟩ (fun r => ∀ c : Dev Cert.AdamSgLnIdeal.nD,
          r.2.mem ((c.tc : Thread Cert.AdamSgLnIdeal.nD Cert.AdamSgLnIdeal.τ).loc Cert.AdamSgLnIdeal.main_v0_0) = v0 c
          ∧ r.2.mem ((c.tc : Thread Cert.AdamSgLnIdeal.nD Cert.AdamSgLnIdeal.τ).loc Cert.AdamSgLnIdeal.main_v0_1) = v1 c
          ∧ r.2.mem ((c.tc : Thread Cert.AdamSgLnIdeal.nD Cert.AdamSgLnIdeal.τ).loc Cert.AdamSgLnIdeal.main_v0_2) = v2 c
          ∧ r.2.mem ((c.tc : Thread Cert.AdamSgLnIdeal.nD Cert.AdamSgLnIdeal.τ).loc Cert.AdamSgLnIdeal.main_v0_3) = v3 c
          ∧ r.2.mem ((c.tc : Thread Cert.AdamSgLnIdeal.nD Cert.AdamSgLnIdeal.τ).loc Cert.AdamSgLnIdeal.main_arg0) = m ((c.tc : Thread Cert.AdamSgLnIdeal.nD Cert.AdamSgLnIdeal.τ).loc Cert.AdamSgLnIdeal.main_arg0)
          ∧ r.2.mem ((c.tc : Thread Cert.AdamSgLnIdeal.nD Cert.AdamSgLnIdeal.τ).loc Cert.AdamSgLnIdeal.main_arg1) = m ((c.tc : Thread Cert.AdamSgLnIdeal.nD Cert.AdamSgLnIdeal.τ).loc Cert.AdamSgLnIdeal.main_arg1)
          ∧ r.2.mem ((c.tc : Thread Cert.AdamSgLnIdeal.nD Cert.AdamSgLnIdeal.τ).loc Cert.AdamSgLnIdeal.main_arg2) = m ((c.tc : Thread Cert.AdamSgLnIdeal.nD Cert.AdamSgLnIdeal.τ).loc Cert.AdamSgLnIdeal.main_arg2)
          ∧ r.2.mem ((c.tc : Thread Cert.AdamSgLnIdeal.nD Cert.AdamSgLnIdeal.τ).loc Cert.AdamSgLnIdeal.main_arg3) = m ((c.tc : Thread Cert.AdamSgLnIdeal.nD Cert.AdamSgLnIdeal.τ).loc Cert.AdamSgLnIdeal.main_arg3))
      ∧ θ_run (Cert.AdamSgLnRefIdeal.defs (F := Ideal)) (onTc (τ := Cert.AdamSgLnRefIdeal.τ) (Cert.AdamSgLnRefIdeal.main (F := Ideal))) ⟨m', fun _ => 0, g'⟩ (fun r => ∀ c : Dev Cert.AdamSgLnRefIdeal.nD,
          r.2.mem ((c.tc : Thread Cert.AdamSgLnRefIdeal.nD Cert.AdamSgLnRefIdeal.τ).loc Cert.AdamSgLnRefIdeal.main_arg1) = v0 c
          ∧ r.2.mem ((c.tc : Thread Cert.AdamSgLnRefIdeal.nD Cert.AdamSgLnRefIdeal.τ).loc Cert.AdamSgLnRefIdeal.main_v23) = v1 c
          ∧ r.2.mem ((c.tc : Thread Cert.AdamSgLnRefIdeal.nD Cert.AdamSgLnRefIdeal.τ).loc Cert.AdamSgLnRefIdeal.main_v4) = v2 c
          ∧ r.2.mem ((c.tc : Thread Cert.AdamSgLnRefIdeal.nD Cert.AdamSgLnRefIdeal.τ).loc Cert.AdamSgLnRefIdeal.main_v10) = v3 c
          ∧ r.2.mem ((c.tc : Thread Cert.AdamSgLnRefIdeal.nD Cert.AdamSgLnRefIdeal.τ).loc Cert.AdamSgLnRefIdeal.main_arg0) = m' ((c.tc : Thread Cert.AdamSgLnRefIdeal.nD Cert.AdamSgLnRefIdeal.τ).loc Cert.AdamSgLnRefIdeal.main_arg0)
          ∧ r.2.mem ((c.tc : Thread Cert.AdamSgLnRefIdeal.nD Cert.AdamSgLnRefIdeal.τ).loc Cert.AdamSgLnRefIdeal.main_arg1) = m' ((c.tc : Thread Cert.AdamSgLnRefIdeal.nD Cert.AdamSgLnRefIdeal.τ).loc Cert.AdamSgLnRefIdeal.main_arg1)
          ∧ r.2.mem ((c.tc : Thread Cert.AdamSgLnRefIdeal.nD Cert.AdamSgLnRefIdeal.τ).loc Cert.AdamSgLnRefIdeal.main_arg2) = m' ((c.tc : Thread Cert.AdamSgLnRefIdeal.nD Cert.AdamSgLnRefIdeal.τ).loc Cert.AdamSgLnRefIdeal.main_arg2)
          ∧ r.2.mem ((c.tc : Thread Cert.AdamSgLnRefIdeal.nD Cert.AdamSgLnRefIdeal.τ).loc Cert.AdamSgLnRefIdeal.main_arg3) = m' ((c.tc : Thread Cert.AdamSgLnRefIdeal.nD Cert.AdamSgLnRefIdeal.τ).loc Cert.AdamSgLnRefIdeal.main_arg3))

def preserves_AdamSgWs_AdamSgWsIdeal : Prop :=
  True

def algebraic_AdamSgWsIdeal_AdamSgWsRefIdeal [hAdamSgWsIdeal : Cert.AdamSgWsIdeal.Facts] [hAdamSgWsRefIdeal : Cert.AdamSgWsRefIdeal.Facts] : Prop :=
  ∀ (m : (ℓ : Loc Cert.AdamSgWsIdeal.nD Cert.AdamSgWsIdeal.τ Cert.AdamSgWsIdeal.sig) → Buf (Elt Ideal) ℓ) (g : Dev Cert.AdamSgWsIdeal.nD → PrngReg)
    (m' : (ℓ : Loc Cert.AdamSgWsRefIdeal.nD Cert.AdamSgWsRefIdeal.τ Cert.AdamSgWsRefIdeal.sig) → Buf (Elt Ideal) ℓ) (g' : Dev Cert.AdamSgWsRefIdeal.nD → PrngReg), Pre_AdamSgWsIdeal m →
    (∀ c : Dev Cert.AdamSgWsIdeal.nD,
      m' ((c.tc : Thread Cert.AdamSgWsRefIdeal.nD Cert.AdamSgWsRefIdeal.τ).loc Cert.AdamSgWsRefIdeal.main_arg0) = m ((c.tc : Thread Cert.AdamSgWsIdeal.nD Cert.AdamSgWsIdeal.τ).loc Cert.AdamSgWsIdeal.main_arg0)
      ∧ m' ((c.tc : Thread Cert.AdamSgWsRefIdeal.nD Cert.AdamSgWsRefIdeal.τ).loc Cert.AdamSgWsRefIdeal.main_arg1) = m ((c.tc : Thread Cert.AdamSgWsIdeal.nD Cert.AdamSgWsIdeal.τ).loc Cert.AdamSgWsIdeal.main_arg1)
      ∧ m' ((c.tc : Thread Cert.AdamSgWsRefIdeal.nD Cert.AdamSgWsRefIdeal.τ).loc Cert.AdamSgWsRefIdeal.main_arg2) = m ((c.tc : Thread Cert.AdamSgWsIdeal.nD Cert.AdamSgWsIdeal.τ).loc Cert.AdamSgWsIdeal.main_arg2)
      ∧ m' ((c.tc : Thread Cert.AdamSgWsRefIdeal.nD Cert.AdamSgWsRefIdeal.τ).loc Cert.AdamSgWsRefIdeal.main_arg3) = m ((c.tc : Thread Cert.AdamSgWsIdeal.nD Cert.AdamSgWsIdeal.τ).loc Cert.AdamSgWsIdeal.main_arg3)) →
    ∃ (v0 : (c : Dev Cert.AdamSgWsIdeal.nD) → Buf (Elt Ideal) ((c.tc : Thread Cert.AdamSgWsIdeal.nD Cert.AdamSgWsIdeal.τ).loc Cert.AdamSgWsIdeal.main_v4_0)) (v1 : (c : Dev Cert.AdamSgWsIdeal.nD) → Buf (Elt Ideal) ((c.tc : Thread Cert.AdamSgWsIdeal.nD Cert.AdamSgWsIdeal.τ).loc Cert.AdamSgWsIdeal.main_v4_1)) (v2 : (c : Dev Cert.AdamSgWsIdeal.nD) → Buf (Elt Ideal) ((c.tc : Thread Cert.AdamSgWsIdeal.nD Cert.AdamSgWsIdeal.τ).loc Cert.AdamSgWsIdeal.main_v4_2)) (v3 : (c : Dev Cert.AdamSgWsIdeal.nD) → Buf (Elt Ideal) ((c.tc : Thread Cert.AdamSgWsIdeal.nD Cert.AdamSgWsIdeal.τ).loc Cert.AdamSgWsIdeal.main_v4_3)),
      θ_run (Cert.AdamSgWsIdeal.defs (F := Ideal)) (onTc (τ := Cert.AdamSgWsIdeal.τ) (Cert.AdamSgWsIdeal.main (F := Ideal))) ⟨m, fun _ => 0, g⟩ (fun r => ∀ c : Dev Cert.AdamSgWsIdeal.nD,
          r.2.mem ((c.tc : Thread Cert.AdamSgWsIdeal.nD Cert.AdamSgWsIdeal.τ).loc Cert.AdamSgWsIdeal.main_v4_0) = v0 c
          ∧ r.2.mem ((c.tc : Thread Cert.AdamSgWsIdeal.nD Cert.AdamSgWsIdeal.τ).loc Cert.AdamSgWsIdeal.main_v4_1) = v1 c
          ∧ r.2.mem ((c.tc : Thread Cert.AdamSgWsIdeal.nD Cert.AdamSgWsIdeal.τ).loc Cert.AdamSgWsIdeal.main_v4_2) = v2 c
          ∧ r.2.mem ((c.tc : Thread Cert.AdamSgWsIdeal.nD Cert.AdamSgWsIdeal.τ).loc Cert.AdamSgWsIdeal.main_v4_3) = v3 c
          ∧ r.2.mem ((c.tc : Thread Cert.AdamSgWsIdeal.nD Cert.AdamSgWsIdeal.τ).loc Cert.AdamSgWsIdeal.main_arg0) = m ((c.tc : Thread Cert.AdamSgWsIdeal.nD Cert.AdamSgWsIdeal.τ).loc Cert.AdamSgWsIdeal.main_arg0)
          ∧ r.2.mem ((c.tc : Thread Cert.AdamSgWsIdeal.nD Cert.AdamSgWsIdeal.τ).loc Cert.AdamSgWsIdeal.main_arg1) = m ((c.tc : Thread Cert.AdamSgWsIdeal.nD Cert.AdamSgWsIdeal.τ).loc Cert.AdamSgWsIdeal.main_arg1)
          ∧ r.2.mem ((c.tc : Thread Cert.AdamSgWsIdeal.nD Cert.AdamSgWsIdeal.τ).loc Cert.AdamSgWsIdeal.main_arg2) = m ((c.tc : Thread Cert.AdamSgWsIdeal.nD Cert.AdamSgWsIdeal.τ).loc Cert.AdamSgWsIdeal.main_arg2)
          ∧ r.2.mem ((c.tc : Thread Cert.AdamSgWsIdeal.nD Cert.AdamSgWsIdeal.τ).loc Cert.AdamSgWsIdeal.main_arg3) = m ((c.tc : Thread Cert.AdamSgWsIdeal.nD Cert.AdamSgWsIdeal.τ).loc Cert.AdamSgWsIdeal.main_arg3))
      ∧ θ_run (Cert.AdamSgWsRefIdeal.defs (F := Ideal)) (onTc (τ := Cert.AdamSgWsRefIdeal.τ) (Cert.AdamSgWsRefIdeal.main (F := Ideal))) ⟨m', fun _ => 0, g'⟩ (fun r => ∀ c : Dev Cert.AdamSgWsRefIdeal.nD,
          r.2.mem ((c.tc : Thread Cert.AdamSgWsRefIdeal.nD Cert.AdamSgWsRefIdeal.τ).loc Cert.AdamSgWsRefIdeal.main_v24) = v0 c
          ∧ r.2.mem ((c.tc : Thread Cert.AdamSgWsRefIdeal.nD Cert.AdamSgWsRefIdeal.τ).loc Cert.AdamSgWsRefIdeal.main_v25) = v1 c
          ∧ r.2.mem ((c.tc : Thread Cert.AdamSgWsRefIdeal.nD Cert.AdamSgWsRefIdeal.τ).loc Cert.AdamSgWsRefIdeal.main_v26) = v2 c
          ∧ r.2.mem ((c.tc : Thread Cert.AdamSgWsRefIdeal.nD Cert.AdamSgWsRefIdeal.τ).loc Cert.AdamSgWsRefIdeal.main_v27) = v3 c
          ∧ r.2.mem ((c.tc : Thread Cert.AdamSgWsRefIdeal.nD Cert.AdamSgWsRefIdeal.τ).loc Cert.AdamSgWsRefIdeal.main_arg0) = m' ((c.tc : Thread Cert.AdamSgWsRefIdeal.nD Cert.AdamSgWsRefIdeal.τ).loc Cert.AdamSgWsRefIdeal.main_arg0)
          ∧ r.2.mem ((c.tc : Thread Cert.AdamSgWsRefIdeal.nD Cert.AdamSgWsRefIdeal.τ).loc Cert.AdamSgWsRefIdeal.main_arg1) = m' ((c.tc : Thread Cert.AdamSgWsRefIdeal.nD Cert.AdamSgWsRefIdeal.τ).loc Cert.AdamSgWsRefIdeal.main_arg1)
          ∧ r.2.mem ((c.tc : Thread Cert.AdamSgWsRefIdeal.nD Cert.AdamSgWsRefIdeal.τ).loc Cert.AdamSgWsRefIdeal.main_arg2) = m' ((c.tc : Thread Cert.AdamSgWsRefIdeal.nD Cert.AdamSgWsRefIdeal.τ).loc Cert.AdamSgWsRefIdeal.main_arg2)
          ∧ r.2.mem ((c.tc : Thread Cert.AdamSgWsRefIdeal.nD Cert.AdamSgWsRefIdeal.τ).loc Cert.AdamSgWsRefIdeal.main_arg3) = m' ((c.tc : Thread Cert.AdamSgWsRefIdeal.nD Cert.AdamSgWsRefIdeal.τ).loc Cert.AdamSgWsRefIdeal.main_arg3))

def preserves_AdamSgBs_AdamSgBsIdeal : Prop :=
  True

def algebraic_AdamSgBsIdeal_AdamSgBsRefIdeal [hAdamSgBsIdeal : Cert.AdamSgBsIdeal.Facts] [hAdamSgBsRefIdeal : Cert.AdamSgBsRefIdeal.Facts] : Prop :=
  ∀ (m : (ℓ : Loc Cert.AdamSgBsIdeal.nD Cert.AdamSgBsIdeal.τ Cert.AdamSgBsIdeal.sig) → Buf (Elt Ideal) ℓ) (g : Dev Cert.AdamSgBsIdeal.nD → PrngReg)
    (m' : (ℓ : Loc Cert.AdamSgBsRefIdeal.nD Cert.AdamSgBsRefIdeal.τ Cert.AdamSgBsRefIdeal.sig) → Buf (Elt Ideal) ℓ) (g' : Dev Cert.AdamSgBsRefIdeal.nD → PrngReg), Pre_AdamSgBsIdeal m →
    (∀ c : Dev Cert.AdamSgBsIdeal.nD,
      m' ((c.tc : Thread Cert.AdamSgBsRefIdeal.nD Cert.AdamSgBsRefIdeal.τ).loc Cert.AdamSgBsRefIdeal.main_arg0) = m ((c.tc : Thread Cert.AdamSgBsIdeal.nD Cert.AdamSgBsIdeal.τ).loc Cert.AdamSgBsIdeal.main_arg0)
      ∧ m' ((c.tc : Thread Cert.AdamSgBsRefIdeal.nD Cert.AdamSgBsRefIdeal.τ).loc Cert.AdamSgBsRefIdeal.main_arg1) = m ((c.tc : Thread Cert.AdamSgBsIdeal.nD Cert.AdamSgBsIdeal.τ).loc Cert.AdamSgBsIdeal.main_arg1)
      ∧ m' ((c.tc : Thread Cert.AdamSgBsRefIdeal.nD Cert.AdamSgBsRefIdeal.τ).loc Cert.AdamSgBsRefIdeal.main_arg2) = m ((c.tc : Thread Cert.AdamSgBsIdeal.nD Cert.AdamSgBsIdeal.τ).loc Cert.AdamSgBsIdeal.main_arg2)
      ∧ m' ((c.tc : Thread Cert.AdamSgBsRefIdeal.nD Cert.AdamSgBsRefIdeal.τ).loc Cert.AdamSgBsRefIdeal.main_arg3) = m ((c.tc : Thread Cert.AdamSgBsIdeal.nD Cert.AdamSgBsIdeal.τ).loc Cert.AdamSgBsIdeal.main_arg3)) →
    ∃ (v0 : (c : Dev Cert.AdamSgBsIdeal.nD) → Buf (Elt Ideal) ((c.tc : Thread Cert.AdamSgBsIdeal.nD Cert.AdamSgBsIdeal.τ).loc Cert.AdamSgBsIdeal.main_v4_0)) (v1 : (c : Dev Cert.AdamSgBsIdeal.nD) → Buf (Elt Ideal) ((c.tc : Thread Cert.AdamSgBsIdeal.nD Cert.AdamSgBsIdeal.τ).loc Cert.AdamSgBsIdeal.main_v4_1)) (v2 : (c : Dev Cert.AdamSgBsIdeal.nD) → Buf (Elt Ideal) ((c.tc : Thread Cert.AdamSgBsIdeal.nD Cert.AdamSgBsIdeal.τ).loc Cert.AdamSgBsIdeal.main_v4_2)) (v3 : (c : Dev Cert.AdamSgBsIdeal.nD) → Buf (Elt Ideal) ((c.tc : Thread Cert.AdamSgBsIdeal.nD Cert.AdamSgBsIdeal.τ).loc Cert.AdamSgBsIdeal.main_v4_3)),
      θ_run (Cert.AdamSgBsIdeal.defs (F := Ideal)) (onTc (τ := Cert.AdamSgBsIdeal.τ) (Cert.AdamSgBsIdeal.main (F := Ideal))) ⟨m, fun _ => 0, g⟩ (fun r => ∀ c : Dev Cert.AdamSgBsIdeal.nD,
          r.2.mem ((c.tc : Thread Cert.AdamSgBsIdeal.nD Cert.AdamSgBsIdeal.τ).loc Cert.AdamSgBsIdeal.main_v4_0) = v0 c
          ∧ r.2.mem ((c.tc : Thread Cert.AdamSgBsIdeal.nD Cert.AdamSgBsIdeal.τ).loc Cert.AdamSgBsIdeal.main_v4_1) = v1 c
          ∧ r.2.mem ((c.tc : Thread Cert.AdamSgBsIdeal.nD Cert.AdamSgBsIdeal.τ).loc Cert.AdamSgBsIdeal.main_v4_2) = v2 c
          ∧ r.2.mem ((c.tc : Thread Cert.AdamSgBsIdeal.nD Cert.AdamSgBsIdeal.τ).loc Cert.AdamSgBsIdeal.main_v4_3) = v3 c
          ∧ r.2.mem ((c.tc : Thread Cert.AdamSgBsIdeal.nD Cert.AdamSgBsIdeal.τ).loc Cert.AdamSgBsIdeal.main_arg0) = m ((c.tc : Thread Cert.AdamSgBsIdeal.nD Cert.AdamSgBsIdeal.τ).loc Cert.AdamSgBsIdeal.main_arg0)
          ∧ r.2.mem ((c.tc : Thread Cert.AdamSgBsIdeal.nD Cert.AdamSgBsIdeal.τ).loc Cert.AdamSgBsIdeal.main_arg1) = m ((c.tc : Thread Cert.AdamSgBsIdeal.nD Cert.AdamSgBsIdeal.τ).loc Cert.AdamSgBsIdeal.main_arg1)
          ∧ r.2.mem ((c.tc : Thread Cert.AdamSgBsIdeal.nD Cert.AdamSgBsIdeal.τ).loc Cert.AdamSgBsIdeal.main_arg2) = m ((c.tc : Thread Cert.AdamSgBsIdeal.nD Cert.AdamSgBsIdeal.τ).loc Cert.AdamSgBsIdeal.main_arg2)
          ∧ r.2.mem ((c.tc : Thread Cert.AdamSgBsIdeal.nD Cert.AdamSgBsIdeal.τ).loc Cert.AdamSgBsIdeal.main_arg3) = m ((c.tc : Thread Cert.AdamSgBsIdeal.nD Cert.AdamSgBsIdeal.τ).loc Cert.AdamSgBsIdeal.main_arg3))
      ∧ θ_run (Cert.AdamSgBsRefIdeal.defs (F := Ideal)) (onTc (τ := Cert.AdamSgBsRefIdeal.τ) (Cert.AdamSgBsRefIdeal.main (F := Ideal))) ⟨m', fun _ => 0, g'⟩ (fun r => ∀ c : Dev Cert.AdamSgBsRefIdeal.nD,
          r.2.mem ((c.tc : Thread Cert.AdamSgBsRefIdeal.nD Cert.AdamSgBsRefIdeal.τ).loc Cert.AdamSgBsRefIdeal.main_v24) = v0 c
          ∧ r.2.mem ((c.tc : Thread Cert.AdamSgBsRefIdeal.nD Cert.AdamSgBsRefIdeal.τ).loc Cert.AdamSgBsRefIdeal.main_v25) = v1 c
          ∧ r.2.mem ((c.tc : Thread Cert.AdamSgBsRefIdeal.nD Cert.AdamSgBsRefIdeal.τ).loc Cert.AdamSgBsRefIdeal.main_v26) = v2 c
          ∧ r.2.mem ((c.tc : Thread Cert.AdamSgBsRefIdeal.nD Cert.AdamSgBsRefIdeal.τ).loc Cert.AdamSgBsRefIdeal.main_v27) = v3 c
          ∧ r.2.mem ((c.tc : Thread Cert.AdamSgBsRefIdeal.nD Cert.AdamSgBsRefIdeal.τ).loc Cert.AdamSgBsRefIdeal.main_arg0) = m' ((c.tc : Thread Cert.AdamSgBsRefIdeal.nD Cert.AdamSgBsRefIdeal.τ).loc Cert.AdamSgBsRefIdeal.main_arg0)
          ∧ r.2.mem ((c.tc : Thread Cert.AdamSgBsRefIdeal.nD Cert.AdamSgBsRefIdeal.τ).loc Cert.AdamSgBsRefIdeal.main_arg1) = m' ((c.tc : Thread Cert.AdamSgBsRefIdeal.nD Cert.AdamSgBsRefIdeal.τ).loc Cert.AdamSgBsRefIdeal.main_arg1)
          ∧ r.2.mem ((c.tc : Thread Cert.AdamSgBsRefIdeal.nD Cert.AdamSgBsRefIdeal.τ).loc Cert.AdamSgBsRefIdeal.main_arg2) = m' ((c.tc : Thread Cert.AdamSgBsRefIdeal.nD Cert.AdamSgBsRefIdeal.τ).loc Cert.AdamSgBsRefIdeal.main_arg2)
          ∧ r.2.mem ((c.tc : Thread Cert.AdamSgBsRefIdeal.nD Cert.AdamSgBsRefIdeal.τ).loc Cert.AdamSgBsRefIdeal.main_arg3) = m' ((c.tc : Thread Cert.AdamSgBsRefIdeal.nD Cert.AdamSgBsRefIdeal.τ).loc Cert.AdamSgBsRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v4_0)) (v1 : (c : Dev Cert.AdamConvWIdeal.nD) → Buf (Elt Ideal) ((c.tc : Thread Cert.AdamConvWIdeal.nD Cert.AdamConvWIdeal.τ).loc Cert.AdamConvWIdeal.main_v4_1)) (v2 : (c : Dev Cert.AdamConvWIdeal.nD) → Buf (Elt Ideal) ((c.tc : Thread Cert.AdamConvWIdeal.nD Cert.AdamConvWIdeal.τ).loc Cert.AdamConvWIdeal.main_v4_2)) (v3 : (c : Dev Cert.AdamConvWIdeal.nD) → Buf (Elt Ideal) ((c.tc : Thread Cert.AdamConvWIdeal.nD Cert.AdamConvWIdeal.τ).loc Cert.AdamConvWIdeal.main_v4_3)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v4_0) = v0 c
          ∧ r.2.mem ((c.tc : Thread Cert.AdamConvWIdeal.nD Cert.AdamConvWIdeal.τ).loc Cert.AdamConvWIdeal.main_v4_1) = v1 c
          ∧ r.2.mem ((c.tc : Thread Cert.AdamConvWIdeal.nD Cert.AdamConvWIdeal.τ).loc Cert.AdamConvWIdeal.main_v4_2) = v2 c
          ∧ r.2.mem ((c.tc : Thread Cert.AdamConvWIdeal.nD Cert.AdamConvWIdeal.τ).loc Cert.AdamConvWIdeal.main_v4_3) = v3 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v24) = v0 c
          ∧ r.2.mem ((c.tc : Thread Cert.AdamConvWRefIdeal.nD Cert.AdamConvWRefIdeal.τ).loc Cert.AdamConvWRefIdeal.main_v25) = v1 c
          ∧ r.2.mem ((c.tc : Thread Cert.AdamConvWRefIdeal.nD Cert.AdamConvWRefIdeal.τ).loc Cert.AdamConvWRefIdeal.main_v26) = v2 c
          ∧ r.2.mem ((c.tc : Thread Cert.AdamConvWRefIdeal.nD Cert.AdamConvWRefIdeal.τ).loc Cert.AdamConvWRefIdeal.main_v27) = v3 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)) (v3 : (c : Dev Cert.AdamConvBIdeal.nD) → Buf (Elt Ideal) ((c.tc : Thread Cert.AdamConvBIdeal.nD Cert.AdamConvBIdeal.τ).loc Cert.AdamConvBIdeal.main_v0_3)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_v0_3) = v3 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_arg1) = v0 c
          ∧ r.2.mem ((c.tc : Thread Cert.AdamConvBRefIdeal.nD Cert.AdamConvBRefIdeal.τ).loc Cert.AdamConvBRefIdeal.main_v23) = v1 c
          ∧ r.2.mem ((c.tc : Thread Cert.AdamConvBRefIdeal.nD Cert.AdamConvBRefIdeal.τ).loc Cert.AdamConvBRefIdeal.main_v4) = v2 c
          ∧ r.2.mem ((c.tc : Thread Cert.AdamConvBRefIdeal.nD Cert.AdamConvBRefIdeal.τ).loc Cert.AdamConvBRefIdeal.main_v10) = v3 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamLn_AdamLnIdeal : Prop :=
  True

def algebraic_AdamLnIdeal_AdamLnRefIdeal [hAdamLnIdeal : Cert.AdamLnIdeal.Facts] [hAdamLnRefIdeal : Cert.AdamLnRefIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnRefIdeal.nD Cert.AdamLnRefIdeal.τ Cert.AdamLnRefIdeal.sig) → Buf (Elt Ideal) ℓ) (g' : Dev Cert.AdamLnRefIdeal.nD → PrngReg), Pre_AdamLnIdeal m →
    (∀ c : Dev Cert.AdamLnIdeal.nD,
      m' ((c.tc : Thread Cert.AdamLnRefIdeal.nD Cert.AdamLnRefIdeal.τ).loc Cert.AdamLnRefIdeal.main_arg0) = m ((c.tc : Thread Cert.AdamLnIdeal.nD Cert.AdamLnIdeal.τ).loc Cert.AdamLnIdeal.main_arg0)
      ∧ m' ((c.tc : Thread Cert.AdamLnRefIdeal.nD Cert.AdamLnRefIdeal.τ).loc Cert.AdamLnRefIdeal.main_arg1) = m ((c.tc : Thread Cert.AdamLnIdeal.nD Cert.AdamLnIdeal.τ).loc Cert.AdamLnIdeal.main_arg1)
      ∧ m' ((c.tc : Thread Cert.AdamLnRefIdeal.nD Cert.AdamLnRefIdeal.τ).loc Cert.AdamLnRefIdeal.main_arg2) = m ((c.tc : Thread Cert.AdamLnIdeal.nD Cert.AdamLnIdeal.τ).loc Cert.AdamLnIdeal.main_arg2)
      ∧ m' ((c.tc : Thread Cert.AdamLnRefIdeal.nD Cert.AdamLnRefIdeal.τ).loc Cert.AdamLnRefIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)) (v3 : (c : Dev Cert.AdamLnIdeal.nD) → Buf (Elt Ideal) ((c.tc : Thread Cert.AdamLnIdeal.nD Cert.AdamLnIdeal.τ).loc Cert.AdamLnIdeal.main_v0_3)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_v0_3) = v3 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnRefIdeal.defs (F := Ideal)) (onTc (τ := Cert.AdamLnRefIdeal.τ) (Cert.AdamLnRefIdeal.main (F := Ideal))) ⟨m', fun _ => 0, g'⟩ (fun r => ∀ c : Dev Cert.AdamLnRefIdeal.nD,
          r.2.mem ((c.tc : Thread Cert.AdamLnRefIdeal.nD Cert.AdamLnRefIdeal.τ).loc Cert.AdamLnRefIdeal.main_arg1) = v0 c
          ∧ r.2.mem ((c.tc : Thread Cert.AdamLnRefIdeal.nD Cert.AdamLnRefIdeal.τ).loc Cert.AdamLnRefIdeal.main_v23) = v1 c
          ∧ r.2.mem ((c.tc : Thread Cert.AdamLnRefIdeal.nD Cert.AdamLnRefIdeal.τ).loc Cert.AdamLnRefIdeal.main_v4) = v2 c
          ∧ r.2.mem ((c.tc : Thread Cert.AdamLnRefIdeal.nD Cert.AdamLnRefIdeal.τ).loc Cert.AdamLnRefIdeal.main_v10) = v3 c
          ∧ r.2.mem ((c.tc : Thread Cert.AdamLnRefIdeal.nD Cert.AdamLnRefIdeal.τ).loc Cert.AdamLnRefIdeal.main_arg0) = m' ((c.tc : Thread Cert.AdamLnRefIdeal.nD Cert.AdamLnRefIdeal.τ).loc Cert.AdamLnRefIdeal.main_arg0)
          ∧ r.2.mem ((c.tc : Thread Cert.AdamLnRefIdeal.nD Cert.AdamLnRefIdeal.τ).loc Cert.AdamLnRefIdeal.main_arg1) = m' ((c.tc : Thread Cert.AdamLnRefIdeal.nD Cert.AdamLnRefIdeal.τ).loc Cert.AdamLnRefIdeal.main_arg1)
          ∧ r.2.mem ((c.tc : Thread Cert.AdamLnRefIdeal.nD Cert.AdamLnRefIdeal.τ).loc Cert.AdamLnRefIdeal.main_arg2) = m' ((c.tc : Thread Cert.AdamLnRefIdeal.nD Cert.AdamLnRefIdeal.τ).loc Cert.AdamLnRefIdeal.main_arg2)
          ∧ r.2.mem ((c.tc : Thread Cert.AdamLnRefIdeal.nD Cert.AdamLnRefIdeal.τ).loc Cert.AdamLnRefIdeal.main_arg3) = m' ((c.tc : Thread Cert.AdamLnRefIdeal.nD Cert.AdamLnRefIdeal.τ).loc Cert.AdamLnRefIdeal.main_arg3))

def preserves_AdamHgIn_AdamHgInIdeal : Prop :=
  True

def algebraic_AdamHgInIdeal_AdamHgInRefIdeal [hAdamHgInIdeal : Cert.AdamHgInIdeal.Facts] [hAdamHgInRefIdeal : Cert.AdamHgInRefIdeal.Facts] : Prop :=
  ∀ (m : (ℓ : Loc Cert.AdamHgInIdeal.nD Cert.AdamHgInIdeal.τ Cert.AdamHgInIdeal.sig) → Buf (Elt Ideal) ℓ) (g : Dev Cert.AdamHgInIdeal.nD → PrngReg)
    (m' : (ℓ : Loc Cert.AdamHgInRefIdeal.nD Cert.AdamHgInRefIdeal.τ Cert.AdamHgInRefIdeal.sig) → Buf (Elt Ideal) ℓ) (g' : Dev Cert.AdamHgInRefIdeal.nD → PrngReg), Pre_AdamHgInIdeal m →
    (∀ c : Dev Cert.AdamHgInIdeal.nD,
      m' ((c.tc : Thread Cert.AdamHgInRefIdeal.nD Cert.AdamHgInRefIdeal.τ).loc Cert.AdamHgInRefIdeal.main_arg0) = m ((c.tc : Thread Cert.AdamHgInIdeal.nD Cert.AdamHgInIdeal.τ).loc Cert.AdamHgInIdeal.main_arg0)
      ∧ m' ((c.tc : Thread Cert.AdamHgInRefIdeal.nD Cert.AdamHgInRefIdeal.τ).loc Cert.AdamHgInRefIdeal.main_arg1) = m ((c.tc : Thread Cert.AdamHgInIdeal.nD Cert.AdamHgInIdeal.τ).loc Cert.AdamHgInIdeal.main_arg1)
      ∧ m' ((c.tc : Thread Cert.AdamHgInRefIdeal.nD Cert.AdamHgInRefIdeal.τ).loc Cert.AdamHgInRefIdeal.main_arg2) = m ((c.tc : Thread Cert.AdamHgInIdeal.nD Cert.AdamHgInIdeal.τ).loc Cert.AdamHgInIdeal.main_arg2)
      ∧ m' ((c.tc : Thread Cert.AdamHgInRefIdeal.nD Cert.AdamHgInRefIdeal.τ).loc Cert.AdamHgInRefIdeal.main_arg3) = m ((c.tc : Thread Cert.AdamHgInIdeal.nD Cert.AdamHgInIdeal.τ).loc Cert.AdamHgInIdeal.main_arg3)
      ∧ m' ((c.tc : Thread Cert.AdamHgInRefIdeal.nD Cert.AdamHgInRefIdeal.τ).loc Cert.AdamHgInRefIdeal.main_arg4) = m ((c.tc : Thread Cert.AdamHgInIdeal.nD Cert.AdamHgInIdeal.τ).loc Cert.AdamHgInIdeal.main_arg4)
      ∧ m' ((c.tc : Thread Cert.AdamHgInRefIdeal.nD Cert.AdamHgInRefIdeal.τ).loc Cert.AdamHgInRefIdeal.main_arg5) = m ((c.tc : Thread Cert.AdamHgInIdeal.nD Cert.AdamHgInIdeal.τ).loc Cert.AdamHgInIdeal.main_arg5)) →
    ∃ (v0 : (c : Dev Cert.AdamHgInIdeal.nD) → Buf (Elt Ideal) ((c.tc : Thread Cert.AdamHgInIdeal.nD Cert.AdamHgInIdeal.τ).loc Cert.AdamHgInIdeal.main_v0_0)) (v1 : (c : Dev Cert.AdamHgInIdeal.nD) → Buf (Elt Ideal) ((c.tc : Thread Cert.AdamHgInIdeal.nD Cert.AdamHgInIdeal.τ).loc Cert.AdamHgInIdeal.main_v0_1)) (v2 : (c : Dev Cert.AdamHgInIdeal.nD) → Buf (Elt Ideal) ((c.tc : Thread Cert.AdamHgInIdeal.nD Cert.AdamHgInIdeal.τ).loc Cert.AdamHgInIdeal.main_v0_2)) (v3 : (c : Dev Cert.AdamHgInIdeal.nD) → Buf (Elt Ideal) ((c.tc : Thread Cert.AdamHgInIdeal.nD Cert.AdamHgInIdeal.τ).loc Cert.AdamHgInIdeal.main_v0_3)),
      θ_run (Cert.AdamHgInIdeal.defs (F := Ideal)) (onTc (τ := Cert.AdamHgInIdeal.τ) (Cert.AdamHgInIdeal.main (F := Ideal))) ⟨m, fun _ => 0, g⟩ (fun r => ∀ c : Dev Cert.AdamHgInIdeal.nD,
          r.2.mem ((c.tc : Thread Cert.AdamHgInIdeal.nD Cert.AdamHgInIdeal.τ).loc Cert.AdamHgInIdeal.main_v0_0) = v0 c
          ∧ r.2.mem ((c.tc : Thread Cert.AdamHgInIdeal.nD Cert.AdamHgInIdeal.τ).loc Cert.AdamHgInIdeal.main_v0_1) = v1 c
          ∧ r.2.mem ((c.tc : Thread Cert.AdamHgInIdeal.nD Cert.AdamHgInIdeal.τ).loc Cert.AdamHgInIdeal.main_v0_2) = v2 c
          ∧ r.2.mem ((c.tc : Thread Cert.AdamHgInIdeal.nD Cert.AdamHgInIdeal.τ).loc Cert.AdamHgInIdeal.main_v0_3) = v3 c
          ∧ r.2.mem ((c.tc : Thread Cert.AdamHgInIdeal.nD Cert.AdamHgInIdeal.τ).loc Cert.AdamHgInIdeal.main_arg0) = m ((c.tc : Thread Cert.AdamHgInIdeal.nD Cert.AdamHgInIdeal.τ).loc Cert.AdamHgInIdeal.main_arg0)
          ∧ r.2.mem ((c.tc : Thread Cert.AdamHgInIdeal.nD Cert.AdamHgInIdeal.τ).loc Cert.AdamHgInIdeal.main_arg1) = m ((c.tc : Thread Cert.AdamHgInIdeal.nD Cert.AdamHgInIdeal.τ).loc Cert.AdamHgInIdeal.main_arg1)
          ∧ r.2.mem ((c.tc : Thread Cert.AdamHgInIdeal.nD Cert.AdamHgInIdeal.τ).loc Cert.AdamHgInIdeal.main_arg2) = m ((c.tc : Thread Cert.AdamHgInIdeal.nD Cert.AdamHgInIdeal.τ).loc Cert.AdamHgInIdeal.main_arg2)
          ∧ r.2.mem ((c.tc : Thread Cert.AdamHgInIdeal.nD Cert.AdamHgInIdeal.τ).loc Cert.AdamHgInIdeal.main_arg3) = m ((c.tc : Thread Cert.AdamHgInIdeal.nD Cert.AdamHgInIdeal.τ).loc Cert.AdamHgInIdeal.main_arg3)
          ∧ r.2.mem ((c.tc : Thread Cert.AdamHgInIdeal.nD Cert.AdamHgInIdeal.τ).loc Cert.AdamHgInIdeal.main_arg4) = m ((c.tc : Thread Cert.AdamHgInIdeal.nD Cert.AdamHgInIdeal.τ).loc Cert.AdamHgInIdeal.main_arg4)
          ∧ r.2.mem ((c.tc : Thread Cert.AdamHgInIdeal.nD Cert.AdamHgInIdeal.τ).loc Cert.AdamHgInIdeal.main_arg5) = m ((c.tc : Thread Cert.AdamHgInIdeal.nD Cert.AdamHgInIdeal.τ).loc Cert.AdamHgInIdeal.main_arg5))
      ∧ θ_run (Cert.AdamHgInRefIdeal.defs (F := Ideal)) (onTc (τ := Cert.AdamHgInRefIdeal.τ) (Cert.AdamHgInRefIdeal.main (F := Ideal))) ⟨m', fun _ => 0, g'⟩ (fun r => ∀ c : Dev Cert.AdamHgInRefIdeal.nD,
          r.2.mem ((c.tc : Thread Cert.AdamHgInRefIdeal.nD Cert.AdamHgInRefIdeal.τ).loc Cert.AdamHgInRefIdeal.main_v6) = v0 c
          ∧ r.2.mem ((c.tc : Thread Cert.AdamHgInRefIdeal.nD Cert.AdamHgInRefIdeal.τ).loc Cert.AdamHgInRefIdeal.main_v30) = v1 c
          ∧ r.2.mem ((c.tc : Thread Cert.AdamHgInRefIdeal.nD Cert.AdamHgInRefIdeal.τ).loc Cert.AdamHgInRefIdeal.main_v11) = v2 c
          ∧ r.2.mem ((c.tc : Thread Cert.AdamHgInRefIdeal.nD Cert.AdamHgInRefIdeal.τ).loc Cert.AdamHgInRefIdeal.main_v17) = v3 c
          ∧ r.2.mem ((c.tc : Thread Cert.AdamHgInRefIdeal.nD Cert.AdamHgInRefIdeal.τ).loc Cert.AdamHgInRefIdeal.main_arg0) = m' ((c.tc : Thread Cert.AdamHgInRefIdeal.nD Cert.AdamHgInRefIdeal.τ).loc Cert.AdamHgInRefIdeal.main_arg0)
          ∧ r.2.mem ((c.tc : Thread Cert.AdamHgInRefIdeal.nD Cert.AdamHgInRefIdeal.τ).loc Cert.AdamHgInRefIdeal.main_arg1) = m' ((c.tc : Thread Cert.AdamHgInRefIdeal.nD Cert.AdamHgInRefIdeal.τ).loc Cert.AdamHgInRefIdeal.main_arg1)
          ∧ r.2.mem ((c.tc : Thread Cert.AdamHgInRefIdeal.nD Cert.AdamHgInRefIdeal.τ).loc Cert.AdamHgInRefIdeal.main_arg2) = m' ((c.tc : Thread Cert.AdamHgInRefIdeal.nD Cert.AdamHgInRefIdeal.τ).loc Cert.AdamHgInRefIdeal.main_arg2)
          ∧ r.2.mem ((c.tc : Thread Cert.AdamHgInRefIdeal.nD Cert.AdamHgInRefIdeal.τ).loc Cert.AdamHgInRefIdeal.main_arg3) = m' ((c.tc : Thread Cert.AdamHgInRefIdeal.nD Cert.AdamHgInRefIdeal.τ).loc Cert.AdamHgInRefIdeal.main_arg3)
          ∧ r.2.mem ((c.tc : Thread Cert.AdamHgInRefIdeal.nD Cert.AdamHgInRefIdeal.τ).loc Cert.AdamHgInRefIdeal.main_arg4) = m' ((c.tc : Thread Cert.AdamHgInRefIdeal.nD Cert.AdamHgInRefIdeal.τ).loc Cert.AdamHgInRefIdeal.main_arg4)
          ∧ r.2.mem ((c.tc : Thread Cert.AdamHgInRefIdeal.nD Cert.AdamHgInRefIdeal.τ).loc Cert.AdamHgInRefIdeal.main_arg5) = m' ((c.tc : Thread Cert.AdamHgInRefIdeal.nD Cert.AdamHgInRefIdeal.τ).loc Cert.AdamHgInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamSgIn_AdamSgInIdeal : Prop :=
  True

def algebraic_AdamSgInIdeal_AdamSgInRefIdeal [hAdamSgInIdeal : Cert.AdamSgInIdeal.Facts] [hAdamSgInRefIdeal : Cert.AdamSgInRefIdeal.Facts] : Prop :=
  ∀ (m : (ℓ : Loc Cert.AdamSgInIdeal.nD Cert.AdamSgInIdeal.τ Cert.AdamSgInIdeal.sig) → Buf (Elt Ideal) ℓ) (g : Dev Cert.AdamSgInIdeal.nD → PrngReg)
    (m' : (ℓ : Loc Cert.AdamSgInRefIdeal.nD Cert.AdamSgInRefIdeal.τ Cert.AdamSgInRefIdeal.sig) → Buf (Elt Ideal) ℓ) (g' : Dev Cert.AdamSgInRefIdeal.nD → PrngReg), Pre_AdamSgInIdeal m →
    (∀ c : Dev Cert.AdamSgInIdeal.nD,
      m' ((c.tc : Thread Cert.AdamSgInRefIdeal.nD Cert.AdamSgInRefIdeal.τ).loc Cert.AdamSgInRefIdeal.main_arg0) = m ((c.tc : Thread Cert.AdamSgInIdeal.nD Cert.AdamSgInIdeal.τ).loc Cert.AdamSgInIdeal.main_arg0)
      ∧ m' ((c.tc : Thread Cert.AdamSgInRefIdeal.nD Cert.AdamSgInRefIdeal.τ).loc Cert.AdamSgInRefIdeal.main_arg1) = m ((c.tc : Thread Cert.AdamSgInIdeal.nD Cert.AdamSgInIdeal.τ).loc Cert.AdamSgInIdeal.main_arg1)
      ∧ m' ((c.tc : Thread Cert.AdamSgInRefIdeal.nD Cert.AdamSgInRefIdeal.τ).loc Cert.AdamSgInRefIdeal.main_arg2) = m ((c.tc : Thread Cert.AdamSgInIdeal.nD Cert.AdamSgInIdeal.τ).loc Cert.AdamSgInIdeal.main_arg2)
      ∧ m' ((c.tc : Thread Cert.AdamSgInRefIdeal.nD Cert.AdamSgInRefIdeal.τ).loc Cert.AdamSgInRefIdeal.main_arg3) = m ((c.tc : Thread Cert.AdamSgInIdeal.nD Cert.AdamSgInIdeal.τ).loc Cert.AdamSgInIdeal.main_arg3)
      ∧ m' ((c.tc : Thread Cert.AdamSgInRefIdeal.nD Cert.AdamSgInRefIdeal.τ).loc Cert.AdamSgInRefIdeal.main_arg4) = m ((c.tc : Thread Cert.AdamSgInIdeal.nD Cert.AdamSgInIdeal.τ).loc Cert.AdamSgInIdeal.main_arg4)
      ∧ m' ((c.tc : Thread Cert.AdamSgInRefIdeal.nD Cert.AdamSgInRefIdeal.τ).loc Cert.AdamSgInRefIdeal.main_arg5) = m ((c.tc : Thread Cert.AdamSgInIdeal.nD Cert.AdamSgInIdeal.τ).loc Cert.AdamSgInIdeal.main_arg5)) →
    ∃ (v0 : (c : Dev Cert.AdamSgInIdeal.nD) → Buf (Elt Ideal) ((c.tc : Thread Cert.AdamSgInIdeal.nD Cert.AdamSgInIdeal.τ).loc Cert.AdamSgInIdeal.main_v0_0)) (v1 : (c : Dev Cert.AdamSgInIdeal.nD) → Buf (Elt Ideal) ((c.tc : Thread Cert.AdamSgInIdeal.nD Cert.AdamSgInIdeal.τ).loc Cert.AdamSgInIdeal.main_v0_1)) (v2 : (c : Dev Cert.AdamSgInIdeal.nD) → Buf (Elt Ideal) ((c.tc : Thread Cert.AdamSgInIdeal.nD Cert.AdamSgInIdeal.τ).loc Cert.AdamSgInIdeal.main_v0_2)) (v3 : (c : Dev Cert.AdamSgInIdeal.nD) → Buf (Elt Ideal) ((c.tc : Thread Cert.AdamSgInIdeal.nD Cert.AdamSgInIdeal.τ).loc Cert.AdamSgInIdeal.main_v0_3)),
      θ_run (Cert.AdamSgInIdeal.defs (F := Ideal)) (onTc (τ := Cert.AdamSgInIdeal.τ) (Cert.AdamSgInIdeal.main (F := Ideal))) ⟨m, fun _ => 0, g⟩ (fun r => ∀ c : Dev Cert.AdamSgInIdeal.nD,
          r.2.mem ((c.tc : Thread Cert.AdamSgInIdeal.nD Cert.AdamSgInIdeal.τ).loc Cert.AdamSgInIdeal.main_v0_0) = v0 c
          ∧ r.2.mem ((c.tc : Thread Cert.AdamSgInIdeal.nD Cert.AdamSgInIdeal.τ).loc Cert.AdamSgInIdeal.main_v0_1) = v1 c
          ∧ r.2.mem ((c.tc : Thread Cert.AdamSgInIdeal.nD Cert.AdamSgInIdeal.τ).loc Cert.AdamSgInIdeal.main_v0_2) = v2 c
          ∧ r.2.mem ((c.tc : Thread Cert.AdamSgInIdeal.nD Cert.AdamSgInIdeal.τ).loc Cert.AdamSgInIdeal.main_v0_3) = v3 c
          ∧ r.2.mem ((c.tc : Thread Cert.AdamSgInIdeal.nD Cert.AdamSgInIdeal.τ).loc Cert.AdamSgInIdeal.main_arg0) = m ((c.tc : Thread Cert.AdamSgInIdeal.nD Cert.AdamSgInIdeal.τ).loc Cert.AdamSgInIdeal.main_arg0)
          ∧ r.2.mem ((c.tc : Thread Cert.AdamSgInIdeal.nD Cert.AdamSgInIdeal.τ).loc Cert.AdamSgInIdeal.main_arg1) = m ((c.tc : Thread Cert.AdamSgInIdeal.nD Cert.AdamSgInIdeal.τ).loc Cert.AdamSgInIdeal.main_arg1)
          ∧ r.2.mem ((c.tc : Thread Cert.AdamSgInIdeal.nD Cert.AdamSgInIdeal.τ).loc Cert.AdamSgInIdeal.main_arg2) = m ((c.tc : Thread Cert.AdamSgInIdeal.nD Cert.AdamSgInIdeal.τ).loc Cert.AdamSgInIdeal.main_arg2)
          ∧ r.2.mem ((c.tc : Thread Cert.AdamSgInIdeal.nD Cert.AdamSgInIdeal.τ).loc Cert.AdamSgInIdeal.main_arg3) = m ((c.tc : Thread Cert.AdamSgInIdeal.nD Cert.AdamSgInIdeal.τ).loc Cert.AdamSgInIdeal.main_arg3)
          ∧ r.2.mem ((c.tc : Thread Cert.AdamSgInIdeal.nD Cert.AdamSgInIdeal.τ).loc Cert.AdamSgInIdeal.main_arg4) = m ((c.tc : Thread Cert.AdamSgInIdeal.nD Cert.AdamSgInIdeal.τ).loc Cert.AdamSgInIdeal.main_arg4)
          ∧ r.2.mem ((c.tc : Thread Cert.AdamSgInIdeal.nD Cert.AdamSgInIdeal.τ).loc Cert.AdamSgInIdeal.main_arg5) = m ((c.tc : Thread Cert.AdamSgInIdeal.nD Cert.AdamSgInIdeal.τ).loc Cert.AdamSgInIdeal.main_arg5))
      ∧ θ_run (Cert.AdamSgInRefIdeal.defs (F := Ideal)) (onTc (τ := Cert.AdamSgInRefIdeal.τ) (Cert.AdamSgInRefIdeal.main (F := Ideal))) ⟨m', fun _ => 0, g'⟩ (fun r => ∀ c : Dev Cert.AdamSgInRefIdeal.nD,
          r.2.mem ((c.tc : Thread Cert.AdamSgInRefIdeal.nD Cert.AdamSgInRefIdeal.τ).loc Cert.AdamSgInRefIdeal.main_v6) = v0 c
          ∧ r.2.mem ((c.tc : Thread Cert.AdamSgInRefIdeal.nD Cert.AdamSgInRefIdeal.τ).loc Cert.AdamSgInRefIdeal.main_v30) = v1 c
          ∧ r.2.mem ((c.tc : Thread Cert.AdamSgInRefIdeal.nD Cert.AdamSgInRefIdeal.τ).loc Cert.AdamSgInRefIdeal.main_v11) = v2 c
          ∧ r.2.mem ((c.tc : Thread Cert.AdamSgInRefIdeal.nD Cert.AdamSgInRefIdeal.τ).loc Cert.AdamSgInRefIdeal.main_v17) = v3 c
          ∧ r.2.mem ((c.tc : Thread Cert.AdamSgInRefIdeal.nD Cert.AdamSgInRefIdeal.τ).loc Cert.AdamSgInRefIdeal.main_arg0) = m' ((c.tc : Thread Cert.AdamSgInRefIdeal.nD Cert.AdamSgInRefIdeal.τ).loc Cert.AdamSgInRefIdeal.main_arg0)
          ∧ r.2.mem ((c.tc : Thread Cert.AdamSgInRefIdeal.nD Cert.AdamSgInRefIdeal.τ).loc Cert.AdamSgInRefIdeal.main_arg1) = m' ((c.tc : Thread Cert.AdamSgInRefIdeal.nD Cert.AdamSgInRefIdeal.τ).loc Cert.AdamSgInRefIdeal.main_arg1)
          ∧ r.2.mem ((c.tc : Thread Cert.AdamSgInRefIdeal.nD Cert.AdamSgInRefIdeal.τ).loc Cert.AdamSgInRefIdeal.main_arg2) = m' ((c.tc : Thread Cert.AdamSgInRefIdeal.nD Cert.AdamSgInRefIdeal.τ).loc Cert.AdamSgInRefIdeal.main_arg2)
          ∧ r.2.mem ((c.tc : Thread Cert.AdamSgInRefIdeal.nD Cert.AdamSgInRefIdeal.τ).loc Cert.AdamSgInRefIdeal.main_arg3) = m' ((c.tc : Thread Cert.AdamSgInRefIdeal.nD Cert.AdamSgInRefIdeal.τ).loc Cert.AdamSgInRefIdeal.main_arg3)
          ∧ r.2.mem ((c.tc : Thread Cert.AdamSgInRefIdeal.nD Cert.AdamSgInRefIdeal.τ).loc Cert.AdamSgInRefIdeal.main_arg4) = m' ((c.tc : Thread Cert.AdamSgInRefIdeal.nD Cert.AdamSgInRefIdeal.τ).loc Cert.AdamSgInRefIdeal.main_arg4)
          ∧ r.2.mem ((c.tc : Thread Cert.AdamSgInRefIdeal.nD Cert.AdamSgInRefIdeal.τ).loc Cert.AdamSgInRefIdeal.main_arg5) = m' ((c.tc : Thread Cert.AdamSgInRefIdeal.nD Cert.AdamSgInRefIdeal.τ).loc Cert.AdamSgInRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)
      ∧ m' ((c.tc : Thread Cert.AdamUpRefIdeal.nD Cert.AdamUpRefIdeal.τ).loc Cert.AdamUpRefIdeal.main_arg7) = m ((c.tc : Thread Cert.AdamUpIdeal.nD Cert.AdamUpIdeal.τ).loc Cert.AdamUpIdeal.main_arg7)
      ∧ m' ((c.tc : Thread Cert.AdamUpRefIdeal.nD Cert.AdamUpRefIdeal.τ).loc Cert.AdamUpRefIdeal.main_arg8) = m ((c.tc : Thread Cert.AdamUpIdeal.nD Cert.AdamUpIdeal.τ).loc Cert.AdamUpIdeal.main_arg8)
      ∧ m' ((c.tc : Thread Cert.AdamUpRefIdeal.nD Cert.AdamUpRefIdeal.τ).loc Cert.AdamUpRefIdeal.main_arg9) = m ((c.tc : Thread Cert.AdamUpIdeal.nD Cert.AdamUpIdeal.τ).loc Cert.AdamUpIdeal.main_arg9)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
          ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
          ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8)
          ∧ r.2.mem ((c.tc : Thread Cert.AdamUpIdeal.nD Cert.AdamUpIdeal.τ).loc Cert.AdamUpIdeal.main_arg9) = m ((c.tc : Thread Cert.AdamUpIdeal.nD Cert.AdamUpIdeal.τ).loc Cert.AdamUpIdeal.main_arg9))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v41) = v0 c
          ∧ r.2.mem ((c.tc : Thread Cert.AdamUpRefIdeal.nD Cert.AdamUpRefIdeal.τ).loc Cert.AdamUpRefIdeal.main_v46) = v1 c
          ∧ r.2.mem ((c.tc : Thread Cert.AdamUpRefIdeal.nD Cert.AdamUpRefIdeal.τ).loc Cert.AdamUpRefIdeal.main_v51) = v2 c
          ∧ r.2.mem ((c.tc : Thread Cert.AdamUpRefIdeal.nD Cert.AdamUpRefIdeal.τ).loc Cert.AdamUpRefIdeal.main_v56) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6)
          ∧ r.2.mem ((c.tc : Thread Cert.AdamUpRefIdeal.nD Cert.AdamUpRefIdeal.τ).loc Cert.AdamUpRefIdeal.main_arg7) = m' ((c.tc : Thread Cert.AdamUpRefIdeal.nD Cert.AdamUpRefIdeal.τ).loc Cert.AdamUpRefIdeal.main_arg7)
          ∧ r.2.mem ((c.tc : Thread Cert.AdamUpRefIdeal.nD Cert.AdamUpRefIdeal.τ).loc Cert.AdamUpRefIdeal.main_arg8) = m' ((c.tc : Thread Cert.AdamUpRefIdeal.nD Cert.AdamUpRefIdeal.τ).loc Cert.AdamUpRefIdeal.main_arg8)
          ∧ r.2.mem ((c.tc : Thread Cert.AdamUpRefIdeal.nD Cert.AdamUpRefIdeal.τ).loc Cert.AdamUpRefIdeal.main_arg9) = m' ((c.tc : Thread Cert.AdamUpRefIdeal.nD Cert.AdamUpRefIdeal.τ).loc Cert.AdamUpRefIdeal.main_arg9))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)
      ∧ m' ((c.tc : Thread Cert.AdamDownRefIdeal.nD Cert.AdamDownRefIdeal.τ).loc Cert.AdamDownRefIdeal.main_arg7) = m ((c.tc : Thread Cert.AdamDownIdeal.nD Cert.AdamDownIdeal.τ).loc Cert.AdamDownIdeal.main_arg7)
      ∧ m' ((c.tc : Thread Cert.AdamDownRefIdeal.nD Cert.AdamDownRefIdeal.τ).loc Cert.AdamDownRefIdeal.main_arg8) = m ((c.tc : Thread Cert.AdamDownIdeal.nD Cert.AdamDownIdeal.τ).loc Cert.AdamDownIdeal.main_arg8)
      ∧ m' ((c.tc : Thread Cert.AdamDownRefIdeal.nD Cert.AdamDownRefIdeal.τ).loc Cert.AdamDownRefIdeal.main_arg9) = m ((c.tc : Thread Cert.AdamDownIdeal.nD Cert.AdamDownIdeal.τ).loc Cert.AdamDownIdeal.main_arg9)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
          ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7)
          ∧ r.2.mem ((c.tc : Thread Cert.AdamDownIdeal.nD Cert.AdamDownIdeal.τ).loc Cert.AdamDownIdeal.main_arg8) = m ((c.tc : Thread Cert.AdamDownIdeal.nD Cert.AdamDownIdeal.τ).loc Cert.AdamDownIdeal.main_arg8)
          ∧ r.2.mem ((c.tc : Thread Cert.AdamDownIdeal.nD Cert.AdamDownIdeal.τ).loc Cert.AdamDownIdeal.main_arg9) = m ((c.tc : Thread Cert.AdamDownIdeal.nD Cert.AdamDownIdeal.τ).loc Cert.AdamDownIdeal.main_arg9))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v41) = v0 c
          ∧ r.2.mem ((c.tc : Thread Cert.AdamDownRefIdeal.nD Cert.AdamDownRefIdeal.τ).loc Cert.AdamDownRefIdeal.main_v46) = v1 c
          ∧ r.2.mem ((c.tc : Thread Cert.AdamDownRefIdeal.nD Cert.AdamDownRefIdeal.τ).loc Cert.AdamDownRefIdeal.main_v51) = v2 c
          ∧ r.2.mem ((c.tc : Thread Cert.AdamDownRefIdeal.nD Cert.AdamDownRefIdeal.τ).loc Cert.AdamDownRefIdeal.main_v56) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6)
          ∧ r.2.mem ((c.tc : Thread Cert.AdamDownRefIdeal.nD Cert.AdamDownRefIdeal.τ).loc Cert.AdamDownRefIdeal.main_arg7) = m' ((c.tc : Thread Cert.AdamDownRefIdeal.nD Cert.AdamDownRefIdeal.τ).loc Cert.AdamDownRefIdeal.main_arg7)
          ∧ r.2.mem ((c.tc : Thread Cert.AdamDownRefIdeal.nD Cert.AdamDownRefIdeal.τ).loc Cert.AdamDownRefIdeal.main_arg8) = m' ((c.tc : Thread Cert.AdamDownRefIdeal.nD Cert.AdamDownRefIdeal.τ).loc Cert.AdamDownRefIdeal.main_arg8)
          ∧ r.2.mem ((c.tc : Thread Cert.AdamDownRefIdeal.nD Cert.AdamDownRefIdeal.τ).loc Cert.AdamDownRefIdeal.main_arg9) = m' ((c.tc : Thread Cert.AdamDownRefIdeal.nD Cert.AdamDownRefIdeal.τ).loc Cert.AdamDownRefIdeal.main_arg9))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v22) = v0 c
          ∧ r.2.mem ((c.tc : Thread Cert.LnFwdRefIdeal.nD Cert.LnFwdRefIdeal.τ).loc Cert.LnFwdRefIdeal.main_v23) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v35) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)
      ∧ m' ((c.tc : Thread Cert.SumSmallRefIdeal.nD Cert.SumSmallRefIdeal.τ).loc Cert.SumSmallRefIdeal.main_arg6) = m ((c.tc : Thread Cert.SumSmallIdeal.nD Cert.SumSmallIdeal.τ).loc Cert.SumSmallIdeal.main_arg6)
      ∧ m' ((c.tc : Thread Cert.SumSmallRefIdeal.nD Cert.SumSmallRefIdeal.τ).loc Cert.SumSmallRefIdeal.main_arg7) = m ((c.tc : Thread Cert.SumSmallIdeal.nD Cert.SumSmallIdeal.τ).loc Cert.SumSmallIdeal.main_arg7)
      ∧ m' ((c.tc : Thread Cert.SumSmallRefIdeal.nD Cert.SumSmallRefIdeal.τ).loc Cert.SumSmallRefIdeal.main_arg8) = m ((c.tc : Thread Cert.SumSmallIdeal.nD Cert.SumSmallIdeal.τ).loc Cert.SumSmallIdeal.main_arg8)
      ∧ m' ((c.tc : Thread Cert.SumSmallRefIdeal.nD Cert.SumSmallRefIdeal.τ).loc Cert.SumSmallRefIdeal.main_arg9) = m ((c.tc : Thread Cert.SumSmallIdeal.nD Cert.SumSmallIdeal.τ).loc Cert.SumSmallIdeal.main_arg9)
      ∧ m' ((c.tc : Thread Cert.SumSmallRefIdeal.nD Cert.SumSmallRefIdeal.τ).loc Cert.SumSmallRefIdeal.main_arg10) = m ((c.tc : Thread Cert.SumSmallIdeal.nD Cert.SumSmallIdeal.τ).loc Cert.SumSmallIdeal.main_arg10)
      ∧ m' ((c.tc : Thread Cert.SumSmallRefIdeal.nD Cert.SumSmallRefIdeal.τ).loc Cert.SumSmallRefIdeal.main_arg11) = m ((c.tc : Thread Cert.SumSmallIdeal.nD Cert.SumSmallIdeal.τ).loc Cert.SumSmallIdeal.main_arg11)
      ∧ m' ((c.tc : Thread Cert.SumSmallRefIdeal.nD Cert.SumSmallRefIdeal.τ).loc Cert.SumSmallRefIdeal.main_arg12) = m ((c.tc : Thread Cert.SumSmallIdeal.nD Cert.SumSmallIdeal.τ).loc Cert.SumSmallIdeal.main_arg12)
      ∧ m' ((c.tc : Thread Cert.SumSmallRefIdeal.nD Cert.SumSmallRefIdeal.τ).loc Cert.SumSmallRefIdeal.main_arg13) = m ((c.tc : Thread Cert.SumSmallIdeal.nD Cert.SumSmallIdeal.τ).loc Cert.SumSmallIdeal.main_arg13)
      ∧ m' ((c.tc : Thread Cert.SumSmallRefIdeal.nD Cert.SumSmallRefIdeal.τ).loc Cert.SumSmallRefIdeal.main_arg14) = m ((c.tc : Thread Cert.SumSmallIdeal.nD Cert.SumSmallIdeal.τ).loc Cert.SumSmallIdeal.main_arg14)
      ∧ m' ((c.tc : Thread Cert.SumSmallRefIdeal.nD Cert.SumSmallRefIdeal.τ).loc Cert.SumSmallRefIdeal.main_arg15) = m ((c.tc : Thread Cert.SumSmallIdeal.nD Cert.SumSmallIdeal.τ).loc Cert.SumSmallIdeal.main_arg15)
      ∧ m' ((c.tc : Thread Cert.SumSmallRefIdeal.nD Cert.SumSmallRefIdeal.τ).loc Cert.SumSmallRefIdeal.main_arg16) = m ((c.tc : Thread Cert.SumSmallIdeal.nD Cert.SumSmallIdeal.τ).loc Cert.SumSmallIdeal.main_arg16)
      ∧ m' ((c.tc : Thread Cert.SumSmallRefIdeal.nD Cert.SumSmallRefIdeal.τ).loc Cert.SumSmallRefIdeal.main_arg17) = m ((c.tc : Thread Cert.SumSmallIdeal.nD Cert.SumSmallIdeal.τ).loc Cert.SumSmallIdeal.main_arg17)) →
    ∃ (v0 : (c : Dev Cert.SumSmallIdeal.nD) → Buf (Elt Ideal) ((c.tc : Thread Cert.SumSmallIdeal.nD Cert.SumSmallIdeal.τ).loc Cert.SumSmallIdeal.main_v25)) (v1 : (c : Dev Cert.SumSmallIdeal.nD) → Buf (Elt Ideal) ((c.tc : Thread Cert.SumSmallIdeal.nD Cert.SumSmallIdeal.τ).loc Cert.SumSmallIdeal.main_v27)) (v2 : (c : Dev Cert.SumSmallIdeal.nD) → Buf (Elt Ideal) ((c.tc : Thread Cert.SumSmallIdeal.nD Cert.SumSmallIdeal.τ).loc Cert.SumSmallIdeal.main_v29)) (v3 : (c : Dev Cert.SumSmallIdeal.nD) → Buf (Elt Ideal) ((c.tc : Thread Cert.SumSmallIdeal.nD Cert.SumSmallIdeal.τ).loc Cert.SumSmallIdeal.main_v31)) (v4 : (c : Dev Cert.SumSmallIdeal.nD) → Buf (Elt Ideal) ((c.tc : Thread Cert.SumSmallIdeal.nD Cert.SumSmallIdeal.τ).loc Cert.SumSmallIdeal.main_v60)) (v5 : (c : Dev Cert.SumSmallIdeal.nD) → Buf (Elt Ideal) ((c.tc : Thread Cert.SumSmallIdeal.nD Cert.SumSmallIdeal.τ).loc Cert.SumSmallIdeal.main_v61)) (v6 : (c : Dev Cert.SumSmallIdeal.nD) → Buf (Elt Ideal) ((c.tc : Thread Cert.SumSmallIdeal.nD Cert.SumSmallIdeal.τ).loc Cert.SumSmallIdeal.main_v64)) (v7 : (c : Dev Cert.SumSmallIdeal.nD) → Buf (Elt Ideal) ((c.tc : Thread Cert.SumSmallIdeal.nD Cert.SumSmallIdeal.τ).loc Cert.SumSmallIdeal.main_v65)) (v8 : (c : Dev Cert.SumSmallIdeal.nD) → Buf (Elt Ideal) ((c.tc : Thread Cert.SumSmallIdeal.nD Cert.SumSmallIdeal.τ).loc Cert.SumSmallIdeal.main_v66)) (v9 : (c : Dev Cert.SumSmallIdeal.nD) → Buf (Elt Ideal) ((c.tc : Thread Cert.SumSmallIdeal.nD Cert.SumSmallIdeal.τ).loc Cert.SumSmallIdeal.main_v67)) (v10 : (c : Dev Cert.SumSmallIdeal.nD) → Buf (Elt Ideal) ((c.tc : Thread Cert.SumSmallIdeal.nD Cert.SumSmallIdeal.τ).loc Cert.SumSmallIdeal.main_v68)) (v11 : (c : Dev Cert.SumSmallIdeal.nD) → Buf (Elt Ideal) ((c.tc : Thread Cert.SumSmallIdeal.nD Cert.SumSmallIdeal.τ).loc Cert.SumSmallIdeal.main_v69)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v25) = v0 c
          ∧ r.2.mem ((c.tc : Thread Cert.SumSmallIdeal.nD Cert.SumSmallIdeal.τ).loc Cert.SumSmallIdeal.main_v27) = v1 c
          ∧ r.2.mem ((c.tc : Thread Cert.SumSmallIdeal.nD Cert.SumSmallIdeal.τ).loc Cert.SumSmallIdeal.main_v29) = v2 c
          ∧ r.2.mem ((c.tc : Thread Cert.SumSmallIdeal.nD Cert.SumSmallIdeal.τ).loc Cert.SumSmallIdeal.main_v31) = v3 c
          ∧ r.2.mem ((c.tc : Thread Cert.SumSmallIdeal.nD Cert.SumSmallIdeal.τ).loc Cert.SumSmallIdeal.main_v60) = v4 c
          ∧ r.2.mem ((c.tc : Thread Cert.SumSmallIdeal.nD Cert.SumSmallIdeal.τ).loc Cert.SumSmallIdeal.main_v61) = v5 c
          ∧ r.2.mem ((c.tc : Thread Cert.SumSmallIdeal.nD Cert.SumSmallIdeal.τ).loc Cert.SumSmallIdeal.main_v64) = v6 c
          ∧ r.2.mem ((c.tc : Thread Cert.SumSmallIdeal.nD Cert.SumSmallIdeal.τ).loc Cert.SumSmallIdeal.main_v65) = v7 c
          ∧ r.2.mem ((c.tc : Thread Cert.SumSmallIdeal.nD Cert.SumSmallIdeal.τ).loc Cert.SumSmallIdeal.main_v66) = v8 c
          ∧ r.2.mem ((c.tc : Thread Cert.SumSmallIdeal.nD Cert.SumSmallIdeal.τ).loc Cert.SumSmallIdeal.main_v67) = v9 c
          ∧ r.2.mem ((c.tc : Thread Cert.SumSmallIdeal.nD Cert.SumSmallIdeal.τ).loc Cert.SumSmallIdeal.main_v68) = v10 c
          ∧ r.2.mem ((c.tc : Thread Cert.SumSmallIdeal.nD Cert.SumSmallIdeal.τ).loc Cert.SumSmallIdeal.main_v69) = v11 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
          ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
          ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
          ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11)
          ∧ r.2.mem ((c.tc : Thread Cert.SumSmallIdeal.nD Cert.SumSmallIdeal.τ).loc Cert.SumSmallIdeal.main_arg12) = m ((c.tc : Thread Cert.SumSmallIdeal.nD Cert.SumSmallIdeal.τ).loc Cert.SumSmallIdeal.main_arg12)
          ∧ r.2.mem ((c.tc : Thread Cert.SumSmallIdeal.nD Cert.SumSmallIdeal.τ).loc Cert.SumSmallIdeal.main_arg13) = m ((c.tc : Thread Cert.SumSmallIdeal.nD Cert.SumSmallIdeal.τ).loc Cert.SumSmallIdeal.main_arg13)
          ∧ r.2.mem ((c.tc : Thread Cert.SumSmallIdeal.nD Cert.SumSmallIdeal.τ).loc Cert.SumSmallIdeal.main_arg14) = m ((c.tc : Thread Cert.SumSmallIdeal.nD Cert.SumSmallIdeal.τ).loc Cert.SumSmallIdeal.main_arg14)
          ∧ r.2.mem ((c.tc : Thread Cert.SumSmallIdeal.nD Cert.SumSmallIdeal.τ).loc Cert.SumSmallIdeal.main_arg15) = m ((c.tc : Thread Cert.SumSmallIdeal.nD Cert.SumSmallIdeal.τ).loc Cert.SumSmallIdeal.main_arg15)
          ∧ r.2.mem ((c.tc : Thread Cert.SumSmallIdeal.nD Cert.SumSmallIdeal.τ).loc Cert.SumSmallIdeal.main_arg16) = m ((c.tc : Thread Cert.SumSmallIdeal.nD Cert.SumSmallIdeal.τ).loc Cert.SumSmallIdeal.main_arg16)
          ∧ r.2.mem ((c.tc : Thread Cert.SumSmallIdeal.nD Cert.SumSmallIdeal.τ).loc Cert.SumSmallIdeal.main_arg17) = m ((c.tc : Thread Cert.SumSmallIdeal.nD Cert.SumSmallIdeal.τ).loc Cert.SumSmallIdeal.main_arg17))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_v1) = v1 c
          ∧ r.2.mem ((c.tc : Thread Cert.SumSmallRefIdeal.nD Cert.SumSmallRefIdeal.τ).loc Cert.SumSmallRefIdeal.main_v2) = v2 c
          ∧ r.2.mem ((c.tc : Thread Cert.SumSmallRefIdeal.nD Cert.SumSmallRefIdeal.τ).loc Cert.SumSmallRefIdeal.main_v3) = v3 c
          ∧ r.2.mem ((c.tc : Thread Cert.SumSmallRefIdeal.nD Cert.SumSmallRefIdeal.τ).loc Cert.SumSmallRefIdeal.main_v18) = v4 c
          ∧ r.2.mem ((c.tc : Thread Cert.SumSmallRefIdeal.nD Cert.SumSmallRefIdeal.τ).loc Cert.SumSmallRefIdeal.main_v19) = v5 c
          ∧ r.2.mem ((c.tc : Thread Cert.SumSmallRefIdeal.nD Cert.SumSmallRefIdeal.τ).loc Cert.SumSmallRefIdeal.main_v22) = v6 c
          ∧ r.2.mem ((c.tc : Thread Cert.SumSmallRefIdeal.nD Cert.SumSmallRefIdeal.τ).loc Cert.SumSmallRefIdeal.main_v23) = v7 c
          ∧ r.2.mem ((c.tc : Thread Cert.SumSmallRefIdeal.nD Cert.SumSmallRefIdeal.τ).loc Cert.SumSmallRefIdeal.main_v24) = v8 c
          ∧ r.2.mem ((c.tc : Thread Cert.SumSmallRefIdeal.nD Cert.SumSmallRefIdeal.τ).loc Cert.SumSmallRefIdeal.main_v25) = v9 c
          ∧ r.2.mem ((c.tc : Thread Cert.SumSmallRefIdeal.nD Cert.SumSmallRefIdeal.τ).loc Cert.SumSmallRefIdeal.main_v26) = v10 c
          ∧ r.2.mem ((c.tc : Thread Cert.SumSmallRefIdeal.nD Cert.SumSmallRefIdeal.τ).loc Cert.SumSmallRefIdeal.main_v27) = v11 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5)
          ∧ r.2.mem ((c.tc : Thread Cert.SumSmallRefIdeal.nD Cert.SumSmallRefIdeal.τ).loc Cert.SumSmallRefIdeal.main_arg6) = m' ((c.tc : Thread Cert.SumSmallRefIdeal.nD Cert.SumSmallRefIdeal.τ).loc Cert.SumSmallRefIdeal.main_arg6)
          ∧ r.2.mem ((c.tc : Thread Cert.SumSmallRefIdeal.nD Cert.SumSmallRefIdeal.τ).loc Cert.SumSmallRefIdeal.main_arg7) = m' ((c.tc : Thread Cert.SumSmallRefIdeal.nD Cert.SumSmallRefIdeal.τ).loc Cert.SumSmallRefIdeal.main_arg7)
          ∧ r.2.mem ((c.tc : Thread Cert.SumSmallRefIdeal.nD Cert.SumSmallRefIdeal.τ).loc Cert.SumSmallRefIdeal.main_arg8) = m' ((c.tc : Thread Cert.SumSmallRefIdeal.nD Cert.SumSmallRefIdeal.τ).loc Cert.SumSmallRefIdeal.main_arg8)
          ∧ r.2.mem ((c.tc : Thread Cert.SumSmallRefIdeal.nD Cert.SumSmallRefIdeal.τ).loc Cert.SumSmallRefIdeal.main_arg9) = m' ((c.tc : Thread Cert.SumSmallRefIdeal.nD Cert.SumSmallRefIdeal.τ).loc Cert.SumSmallRefIdeal.main_arg9)
          ∧ r.2.mem ((c.tc : Thread Cert.SumSmallRefIdeal.nD Cert.SumSmallRefIdeal.τ).loc Cert.SumSmallRefIdeal.main_arg10) = m' ((c.tc : Thread Cert.SumSmallRefIdeal.nD Cert.SumSmallRefIdeal.τ).loc Cert.SumSmallRefIdeal.main_arg10)
          ∧ r.2.mem ((c.tc : Thread Cert.SumSmallRefIdeal.nD Cert.SumSmallRefIdeal.τ).loc Cert.SumSmallRefIdeal.main_arg11) = m' ((c.tc : Thread Cert.SumSmallRefIdeal.nD Cert.SumSmallRefIdeal.τ).loc Cert.SumSmallRefIdeal.main_arg11)
          ∧ r.2.mem ((c.tc : Thread Cert.SumSmallRefIdeal.nD Cert.SumSmallRefIdeal.τ).loc Cert.SumSmallRefIdeal.main_arg12) = m' ((c.tc : Thread Cert.SumSmallRefIdeal.nD Cert.SumSmallRefIdeal.τ).loc Cert.SumSmallRefIdeal.main_arg12)
          ∧ r.2.mem ((c.tc : Thread Cert.SumSmallRefIdeal.nD Cert.SumSmallRefIdeal.τ).loc Cert.SumSmallRefIdeal.main_arg13) = m' ((c.tc : Thread Cert.SumSmallRefIdeal.nD Cert.SumSmallRefIdeal.τ).loc Cert.SumSmallRefIdeal.main_arg13)
          ∧ r.2.mem ((c.tc : Thread Cert.SumSmallRefIdeal.nD Cert.SumSmallRefIdeal.τ).loc Cert.SumSmallRefIdeal.main_arg14) = m' ((c.tc : Thread Cert.SumSmallRefIdeal.nD Cert.SumSmallRefIdeal.τ).loc Cert.SumSmallRefIdeal.main_arg14)
          ∧ r.2.mem ((c.tc : Thread Cert.SumSmallRefIdeal.nD Cert.SumSmallRefIdeal.τ).loc Cert.SumSmallRefIdeal.main_arg15) = m' ((c.tc : Thread Cert.SumSmallRefIdeal.nD Cert.SumSmallRefIdeal.τ).loc Cert.SumSmallRefIdeal.main_arg15)
          ∧ r.2.mem ((c.tc : Thread Cert.SumSmallRefIdeal.nD Cert.SumSmallRefIdeal.τ).loc Cert.SumSmallRefIdeal.main_arg16) = m' ((c.tc : Thread Cert.SumSmallRefIdeal.nD Cert.SumSmallRefIdeal.τ).loc Cert.SumSmallRefIdeal.main_arg16)
          ∧ r.2.mem ((c.tc : Thread Cert.SumSmallRefIdeal.nD Cert.SumSmallRefIdeal.τ).loc Cert.SumSmallRefIdeal.main_arg17) = m' ((c.tc : Thread Cert.SumSmallRefIdeal.nD Cert.SumSmallRefIdeal.τ).loc Cert.SumSmallRefIdeal.main_arg17))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v59) = v0 c
          ∧ r.2.mem ((c.tc : Thread Cert.LnBwdRefIdeal.nD Cert.LnBwdRefIdeal.τ).loc Cert.LnBwdRefIdeal.main_v58) = v1 c
          ∧ r.2.mem ((c.tc : Thread Cert.LnBwdRefIdeal.nD Cert.LnBwdRefIdeal.τ).loc Cert.LnBwdRefIdeal.main_v32) = v2 c
          ∧ r.2.mem ((c.tc : Thread Cert.LnBwdRefIdeal.nD Cert.LnBwdRefIdeal.τ).loc Cert.LnBwdRefIdeal.main_v29) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_LnLoss_LnLossIdeal : Prop :=
  True

def algebraic_LnLossIdeal_LnLossRefIdeal_pre_finite_loss [hLnLossIdeal : Cert.LnLossIdeal.Facts] [hLnLossRefIdeal : Cert.LnLossRefIdeal.Facts] [hPre_finite_loss : Cert.Pre_finite_loss.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal_finite_loss m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)
      ∧ m' ((c.tc : Thread Cert.LnLossRefIdeal.nD Cert.LnLossRefIdeal.τ).loc Cert.LnLossRefIdeal.main_arg4) = m ((c.tc : Thread Cert.LnLossIdeal.nD Cert.LnLossIdeal.τ).loc Cert.LnLossIdeal.main_arg4)) →
    ∃ (v0 : (c : Dev Cert.LnLossIdeal.nD) → Buf (Elt Ideal) ((c.tc : Thread Cert.LnLossIdeal.nD Cert.LnLossIdeal.τ).loc Cert.LnLossIdeal.main_v0_0)) (v1 : (c : Dev Cert.LnLossIdeal.nD) → Buf (Elt Ideal) ((c.tc : Thread Cert.LnLossIdeal.nD Cert.LnLossIdeal.τ).loc Cert.LnLossIdeal.main_v0_1)) (v2 : (c : Dev Cert.LnLossIdeal.nD) → Buf (Elt Ideal) ((c.tc : Thread Cert.LnLossIdeal.nD Cert.LnLossIdeal.τ).loc Cert.LnLossIdeal.main_v0_2)) (v3 : (c : Dev Cert.LnLossIdeal.nD) → Buf (Elt Ideal) ((c.tc : Thread Cert.LnLossIdeal.nD Cert.LnLossIdeal.τ).loc Cert.LnLossIdeal.main_v0_3)) (v4 : (c : Dev Cert.LnLossIdeal.nD) → Buf (Elt Ideal) ((c.tc : Thread Cert.LnLossIdeal.nD Cert.LnLossIdeal.τ).loc Cert.LnLossIdeal.main_v0_4)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v0_0) = v0 c
          ∧ r.2.mem ((c.tc : Thread Cert.LnLossIdeal.nD Cert.LnLossIdeal.τ).loc Cert.LnLossIdeal.main_v0_1) = v1 c
          ∧ r.2.mem ((c.tc : Thread Cert.LnLossIdeal.nD Cert.LnLossIdeal.τ).loc Cert.LnLossIdeal.main_v0_2) = v2 c
          ∧ r.2.mem ((c.tc : Thread Cert.LnLossIdeal.nD Cert.LnLossIdeal.τ).loc Cert.LnLossIdeal.main_v0_3) = v3 c
          ∧ r.2.mem ((c.tc : Thread Cert.LnLossIdeal.nD Cert.LnLossIdeal.τ).loc Cert.LnLossIdeal.main_v0_4) = v4 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v72) = v0 c
          ∧ r.2.mem ((c.tc : Thread Cert.LnLossRefIdeal.nD Cert.LnLossRefIdeal.τ).loc Cert.LnLossRefIdeal.main_v73) = v1 c
          ∧ r.2.mem ((c.tc : Thread Cert.LnLossRefIdeal.nD Cert.LnLossRefIdeal.τ).loc Cert.LnLossRefIdeal.main_v71) = v2 c
          ∧ r.2.mem ((c.tc : Thread Cert.LnLossRefIdeal.nD Cert.LnLossRefIdeal.τ).loc Cert.LnLossRefIdeal.main_v45) = v3 c
          ∧ r.2.mem ((c.tc : Thread Cert.LnLossRefIdeal.nD Cert.LnLossRefIdeal.τ).loc Cert.LnLossRefIdeal.main_v42) = v4 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3)
          ∧ r.2.mem ((c.tc : Thread Cert.LnLossRefIdeal.nD Cert.LnLossRefIdeal.τ).loc Cert.LnLossRefIdeal.main_arg4) = m' ((c.tc : Thread Cert.LnLossRefIdeal.nD Cert.LnLossRefIdeal.τ).loc Cert.LnLossRefIdeal.main_arg4))

def preserves_SgFwd_SgFwdIdeal : Prop :=
  True

def algebraic_SgFwdIdeal_SgFwdRefIdeal [hSgFwdIdeal : Cert.SgFwdIdeal.Facts] [hSgFwdRefIdeal : Cert.SgFwdRefIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg)
    (m' : (ℓ : Loc Cert.SgFwdRefIdeal.nD Cert.SgFwdRefIdeal.τ Cert.SgFwdRefIdeal.sig) → Buf (Elt Ideal) ℓ) (g' : Dev Cert.SgFwdRefIdeal.nD → PrngReg), Pre_SgFwdIdeal m →
    (∀ c : Dev Cert.SgFwdIdeal.nD,
      m' ((c.tc : Thread Cert.SgFwdRefIdeal.nD Cert.SgFwdRefIdeal.τ).loc Cert.SgFwdRefIdeal.main_arg0) = m ((c.tc : Thread Cert.SgFwdIdeal.nD Cert.SgFwdIdeal.τ).loc Cert.SgFwdIdeal.main_arg0)
      ∧ m' ((c.tc : Thread Cert.SgFwdRefIdeal.nD Cert.SgFwdRefIdeal.τ).loc Cert.SgFwdRefIdeal.main_arg1) = m ((c.tc : Thread Cert.SgFwdIdeal.nD Cert.SgFwdIdeal.τ).loc Cert.SgFwdIdeal.main_arg1)
      ∧ m' ((c.tc : Thread Cert.SgFwdRefIdeal.nD Cert.SgFwdRefIdeal.τ).loc Cert.SgFwdRefIdeal.main_arg2) = m ((c.tc : Thread Cert.SgFwdIdeal.nD Cert.SgFwdIdeal.τ).loc Cert.SgFwdIdeal.main_arg2)
      ∧ m' ((c.tc : Thread Cert.SgFwdRefIdeal.nD Cert.SgFwdRefIdeal.τ).loc Cert.SgFwdRefIdeal.main_arg3) = m ((c.tc : Thread Cert.SgFwdIdeal.nD Cert.SgFwdIdeal.τ).loc Cert.SgFwdIdeal.main_arg3)
      ∧ m' ((c.tc : Thread Cert.SgFwdRefIdeal.nD Cert.SgFwdRefIdeal.τ).loc Cert.SgFwdRefIdeal.main_arg4) = m ((c.tc : Thread Cert.SgFwdIdeal.nD Cert.SgFwdIdeal.τ).loc Cert.SgFwdIdeal.main_arg4)) →
    ∃ (v0 : (c : Dev Cert.SgFwdIdeal.nD) → Buf (Elt Ideal) ((c.tc : Thread Cert.SgFwdIdeal.nD Cert.SgFwdIdeal.τ).loc Cert.SgFwdIdeal.main_v2)),
      θ_run (Cert.SgFwdIdeal.defs (F := Ideal)) (onTc (τ := Cert.SgFwdIdeal.τ) (Cert.SgFwdIdeal.main (F := Ideal))) ⟨m, fun _ => 0, g⟩ (fun r => ∀ c : Dev Cert.SgFwdIdeal.nD,
          r.2.mem ((c.tc : Thread Cert.SgFwdIdeal.nD Cert.SgFwdIdeal.τ).loc Cert.SgFwdIdeal.main_v2) = v0 c
          ∧ r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
          ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
          ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
          ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
          ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ θ_run (Cert.SgFwdRefIdeal.defs (F := Ideal)) (onTc (τ := Cert.SgFwdRefIdeal.τ) (Cert.SgFwdRefIdeal.main (F := Ideal))) ⟨m', fun _ => 0, g'⟩ (fun r => ∀ c : Dev Cert.SgFwdRefIdeal.nD,
          r.2.mem ((c.tc : Thread Cert.SgFwdRefIdeal.nD Cert.SgFwdRefIdeal.τ).loc Cert.SgFwdRefIdeal.main_v44) = v0 c
          ∧ r.2.mem ((c.tc : Thread Cert.SgFwdRefIdeal.nD Cert.SgFwdRefIdeal.τ).loc Cert.SgFwdRefIdeal.main_arg0) = m' ((c.tc : Thread Cert.SgFwdRefIdeal.nD Cert.SgFwdRefIdeal.τ).loc Cert.SgFwdRefIdeal.main_arg0)
          ∧ r.2.mem ((c.tc : Thread Cert.SgFwdRefIdeal.nD Cert.SgFwdRefIdeal.τ).loc Cert.SgFwdRefIdeal.main_arg1) = m' ((c.tc : Thread Cert.SgFwdRefIdeal.nD Cert.SgFwdRefIdeal.τ).loc Cert.SgFwdRefIdeal.main_arg1)
          ∧ r.2.mem ((c.tc : Thread Cert.SgFwdRefIdeal.nD Cert.SgFwdRefIdeal.τ).loc Cert.SgFwdRefIdeal.main_arg2) = m' ((c.tc : Thread Cert.SgFwdRefIdeal.nD Cert.SgFwdRefIdeal.τ).loc Cert.SgFwdRefIdeal.main_arg2)
          ∧ r.2.mem ((c.tc : Thread Cert.SgFwdRefIdeal.nD Cert.SgFwdRefIdeal.τ).loc Cert.SgFwdRefIdeal.main_arg3) = m' ((c.tc : Thread Cert.SgFwdRefIdeal.nD Cert.SgFwdRefIdeal.τ).loc Cert.SgFwdRefIdeal.main_arg3)
          ∧ r.2.mem ((c.tc : Thread Cert.SgFwdRefIdeal.nD Cert.SgFwdRefIdeal.τ).loc Cert.SgFwdRefIdeal.main_arg4) = m' ((c.tc : Thread Cert.SgFwdRefIdeal.nD Cert.SgFwdRefIdeal.τ).loc Cert.SgFwdRefIdeal.main_arg4))

def preserves_SgBwd_SgBwdIdeal : Prop :=
  IdealRules.named_const.Statement Cert.SgBwdIdeal.κ "sqrt_half" .f32 0x3F3504F3#32 (((Real.sqrt 2)⁻¹ : ℝ) : EReal)
  ∧ IdealRules.named_const.Statement Cert.SgBwdIdeal.κ "inv_sqrt_2pi" .f32 0x3ECC422A#32 (((Real.sqrt (2 * Real.pi))⁻¹ : ℝ) : EReal)

def algebraic_SgBwdIdeal_SgBwdRefIdeal_pre_finite_sg [hSgBwdIdeal : Cert.SgBwdIdeal.Facts] [hSgBwdRefIdeal : Cert.SgBwdRefIdeal.Facts] [hPre_finite_sg : Cert.Pre_finite_sg.Facts] : Prop :=
  ∀ (m : (ℓ : Loc Cert.SgBwdIdeal.nD Cert.SgBwdIdeal.τ Cert.SgBwdIdeal.sig) → Buf (Elt Ideal) ℓ) (g : Dev Cert.SgBwdIdeal.nD → PrngReg)
    (m' : (ℓ : Loc Cert.SgBwdRefIdeal.nD Cert.SgBwdRefIdeal.τ Cert.SgBwdRefIdeal.sig) → Buf (Elt Ideal) ℓ) (g' : Dev Cert.SgBwdRefIdeal.nD → PrngReg), Pre_SgBwdIdeal_finite_sg m →
    (∀ c : Dev Cert.SgBwdIdeal.nD,
      m' ((c.tc : Thread Cert.SgBwdRefIdeal.nD Cert.SgBwdRefIdeal.τ).loc Cert.SgBwdRefIdeal.main_arg0) = m ((c.tc : Thread Cert.SgBwdIdeal.nD Cert.SgBwdIdeal.τ).loc Cert.SgBwdIdeal.main_arg0)
      ∧ m' ((c.tc : Thread Cert.SgBwdRefIdeal.nD Cert.SgBwdRefIdeal.τ).loc Cert.SgBwdRefIdeal.main_arg1) = m ((c.tc : Thread Cert.SgBwdIdeal.nD Cert.SgBwdIdeal.τ).loc Cert.SgBwdIdeal.main_arg1)
      ∧ m' ((c.tc : Thread Cert.SgBwdRefIdeal.nD Cert.SgBwdRefIdeal.τ).loc Cert.SgBwdRefIdeal.main_arg2) = m ((c.tc : Thread Cert.SgBwdIdeal.nD Cert.SgBwdIdeal.τ).loc Cert.SgBwdIdeal.main_arg2)
      ∧ m' ((c.tc : Thread Cert.SgBwdRefIdeal.nD Cert.SgBwdRefIdeal.τ).loc Cert.SgBwdRefIdeal.main_arg3) = m ((c.tc : Thread Cert.SgBwdIdeal.nD Cert.SgBwdIdeal.τ).loc Cert.SgBwdIdeal.main_arg3)
      ∧ m' ((c.tc : Thread Cert.SgBwdRefIdeal.nD Cert.SgBwdRefIdeal.τ).loc Cert.SgBwdRefIdeal.main_arg4) = m ((c.tc : Thread Cert.SgBwdIdeal.nD Cert.SgBwdIdeal.τ).loc Cert.SgBwdIdeal.main_arg4)
      ∧ m' ((c.tc : Thread Cert.SgBwdRefIdeal.nD Cert.SgBwdRefIdeal.τ).loc Cert.SgBwdRefIdeal.main_arg5) = m ((c.tc : Thread Cert.SgBwdIdeal.nD Cert.SgBwdIdeal.τ).loc Cert.SgBwdIdeal.main_arg5)) →
    ∃ (v0 : (c : Dev Cert.SgBwdIdeal.nD) → Buf (Elt Ideal) ((c.tc : Thread Cert.SgBwdIdeal.nD Cert.SgBwdIdeal.τ).loc Cert.SgBwdIdeal.main_v2_0)) (v1 : (c : Dev Cert.SgBwdIdeal.nD) → Buf (Elt Ideal) ((c.tc : Thread Cert.SgBwdIdeal.nD Cert.SgBwdIdeal.τ).loc Cert.SgBwdIdeal.main_v2_1)) (v2 : (c : Dev Cert.SgBwdIdeal.nD) → Buf (Elt Ideal) ((c.tc : Thread Cert.SgBwdIdeal.nD Cert.SgBwdIdeal.τ).loc Cert.SgBwdIdeal.main_v2_2)) (v3 : (c : Dev Cert.SgBwdIdeal.nD) → Buf (Elt Ideal) ((c.tc : Thread Cert.SgBwdIdeal.nD Cert.SgBwdIdeal.τ).loc Cert.SgBwdIdeal.main_v2_3)) (v4 : (c : Dev Cert.SgBwdIdeal.nD) → Buf (Elt Ideal) ((c.tc : Thread Cert.SgBwdIdeal.nD Cert.SgBwdIdeal.τ).loc Cert.SgBwdIdeal.main_v2_4)),
      θ_run (Cert.SgBwdIdeal.defs (F := Ideal)) (onTc (τ := Cert.SgBwdIdeal.τ) (Cert.SgBwdIdeal.main (F := Ideal))) ⟨m, fun _ => 0, g⟩ (fun r => ∀ c : Dev Cert.SgBwdIdeal.nD,
          r.2.mem ((c.tc : Thread Cert.SgBwdIdeal.nD Cert.SgBwdIdeal.τ).loc Cert.SgBwdIdeal.main_v2_0) = v0 c
          ∧ r.2.mem ((c.tc : Thread Cert.SgBwdIdeal.nD Cert.SgBwdIdeal.τ).loc Cert.SgBwdIdeal.main_v2_1) = v1 c
          ∧ r.2.mem ((c.tc : Thread Cert.SgBwdIdeal.nD Cert.SgBwdIdeal.τ).loc Cert.SgBwdIdeal.main_v2_2) = v2 c
          ∧ r.2.mem ((c.tc : Thread Cert.SgBwdIdeal.nD Cert.SgBwdIdeal.τ).loc Cert.SgBwdIdeal.main_v2_3) = v3 c
          ∧ r.2.mem ((c.tc : Thread Cert.SgBwdIdeal.nD Cert.SgBwdIdeal.τ).loc Cert.SgBwdIdeal.main_v2_4) = v4 c
          ∧ r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
          ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
          ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
          ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
          ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
          ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5))
      ∧ θ_run (Cert.SgBwdRefIdeal.defs (F := Ideal)) (onTc (τ := Cert.SgBwdRefIdeal.τ) (Cert.SgBwdRefIdeal.main (F := Ideal))) ⟨m', fun _ => 0, g'⟩ (fun r => ∀ c : Dev Cert.SgBwdRefIdeal.nD,
          r.2.mem ((c.tc : Thread Cert.SgBwdRefIdeal.nD Cert.SgBwdRefIdeal.τ).loc Cert.SgBwdRefIdeal.main_v88) = v0 c
          ∧ r.2.mem ((c.tc : Thread Cert.SgBwdRefIdeal.nD Cert.SgBwdRefIdeal.τ).loc Cert.SgBwdRefIdeal.main_v55) = v1 c
          ∧ r.2.mem ((c.tc : Thread Cert.SgBwdRefIdeal.nD Cert.SgBwdRefIdeal.τ).loc Cert.SgBwdRefIdeal.main_v90) = v2 c
          ∧ r.2.mem ((c.tc : Thread Cert.SgBwdRefIdeal.nD Cert.SgBwdRefIdeal.τ).loc Cert.SgBwdRefIdeal.main_v61) = v3 c
          ∧ r.2.mem ((c.tc : Thread Cert.SgBwdRefIdeal.nD Cert.SgBwdRefIdeal.τ).loc Cert.SgBwdRefIdeal.main_v58) = v4 c
          ∧ r.2.mem ((c.tc : Thread Cert.SgBwdRefIdeal.nD Cert.SgBwdRefIdeal.τ).loc Cert.SgBwdRefIdeal.main_arg0) = m' ((c.tc : Thread Cert.SgBwdRefIdeal.nD Cert.SgBwdRefIdeal.τ).loc Cert.SgBwdRefIdeal.main_arg0)
          ∧ r.2.mem ((c.tc : Thread Cert.SgBwdRefIdeal.nD Cert.SgBwdRefIdeal.τ).loc Cert.SgBwdRefIdeal.main_arg1) = m' ((c.tc : Thread Cert.SgBwdRefIdeal.nD Cert.SgBwdRefIdeal.τ).loc Cert.SgBwdRefIdeal.main_arg1)
          ∧ r.2.mem ((c.tc : Thread Cert.SgBwdRefIdeal.nD Cert.SgBwdRefIdeal.τ).loc Cert.SgBwdRefIdeal.main_arg2) = m' ((c.tc : Thread Cert.SgBwdRefIdeal.nD Cert.SgBwdRefIdeal.τ).loc Cert.SgBwdRefIdeal.main_arg2)
          ∧ r.2.mem ((c.tc : Thread Cert.SgBwdRefIdeal.nD Cert.SgBwdRefIdeal.τ).loc Cert.SgBwdRefIdeal.main_arg3) = m' ((c.tc : Thread Cert.SgBwdRefIdeal.nD Cert.SgBwdRefIdeal.τ).loc Cert.SgBwdRefIdeal.main_arg3)
          ∧ r.2.mem ((c.tc : Thread Cert.SgBwdRefIdeal.nD Cert.SgBwdRefIdeal.τ).loc Cert.SgBwdRefIdeal.main_arg4) = m' ((c.tc : Thread Cert.SgBwdRefIdeal.nD Cert.SgBwdRefIdeal.τ).loc Cert.SgBwdRefIdeal.main_arg4)
          ∧ r.2.mem ((c.tc : Thread Cert.SgBwdRefIdeal.nD Cert.SgBwdRefIdeal.τ).loc Cert.SgBwdRefIdeal.main_arg5) = m' ((c.tc : Thread Cert.SgBwdRefIdeal.nD Cert.SgBwdRefIdeal.τ).loc Cert.SgBwdRefIdeal.main_arg5))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hDwDownRefIdeal : Cert.DwDownRefIdeal.Facts) (hDZ : Cert.DZ.Facts) (hDZIdeal : Cert.DZIdeal.Facts) (hDZRefIdeal : Cert.DZRefIdeal.Facts) (hDwUp : Cert.DwUp.Facts) (hDwUpIdeal : Cert.DwUpIdeal.Facts) (hDwUpRefIdeal : Cert.DwUpRefIdeal.Facts) (hDUp : Cert.DUp.Facts) (hDUpIdeal : Cert.DUpIdeal.Facts) (hDUpRefIdeal : Cert.DUpRefIdeal.Facts) (hDwOut : Cert.DwOut.Facts) (hDwOutIdeal : Cert.DwOutIdeal.Facts) (hDwOutRefIdeal : Cert.DwOutRefIdeal.Facts) (hDOut : Cert.DOut.Facts) (hDOutIdeal : Cert.DOutIdeal.Facts) (hDOutRefIdeal : Cert.DOutRefIdeal.Facts) (hDwSgIn : Cert.DwSgIn.Facts) (hDwSgInIdeal : Cert.DwSgInIdeal.Facts) (hDwSgInRefIdeal : Cert.DwSgInRefIdeal.Facts) (hDSgIn : Cert.DSgIn.Facts) (hDSgInIdeal : Cert.DSgInIdeal.Facts) (hDSgInRefIdeal : Cert.DSgInRefIdeal.Facts) (hDwHgIn : Cert.DwHgIn.Facts) (hDwHgInIdeal : Cert.DwHgInIdeal.Facts) (hDwHgInRefIdeal : Cert.DwHgInRefIdeal.Facts) (hDHgIn : Cert.DHgIn.Facts) (hDHgInIdeal : Cert.DHgInIdeal.Facts) (hDHgInRefIdeal : Cert.DHgInRefIdeal.Facts) (hHgIn : Cert.HgIn.Facts) (hHgInIdeal : Cert.HgInIdeal.Facts) (hHgInRefIdeal : Cert.HgInRefIdeal.Facts) (hMixOut : Cert.MixOut.Facts) (hMixOutIdeal : Cert.MixOutIdeal.Facts) (hMixOutRefIdeal : Cert.MixOutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSgIn : Cert.SgIn.Facts) (hSgInIdeal : Cert.SgInIdeal.Facts) (hSgInRefIdeal : Cert.SgInRefIdeal.Facts) (hAdamLb : Cert.AdamLb.Facts) (hAdamLbIdeal : Cert.AdamLbIdeal.Facts) (hAdamLbRefIdeal : Cert.AdamLbRefIdeal.Facts) (hAdamNorm : Cert.AdamNorm.Facts) (hAdamNormIdeal : Cert.AdamNormIdeal.Facts) (hAdamNormRefIdeal : Cert.AdamNormRefIdeal.Facts) (hAdamSgLn : Cert.AdamSgLn.Facts) (hAdamSgLnIdeal : Cert.AdamSgLnIdeal.Facts) (hAdamSgLnRefIdeal : Cert.AdamSgLnRefIdeal.Facts) (hAdamSgWs : Cert.AdamSgWs.Facts) (hAdamSgWsIdeal : Cert.AdamSgWsIdeal.Facts) (hAdamSgWsRefIdeal : Cert.AdamSgWsRefIdeal.Facts) (hAdamSgBs : Cert.AdamSgBs.Facts) (hAdamSgBsIdeal : Cert.AdamSgBsIdeal.Facts) (hAdamSgBsRefIdeal : Cert.AdamSgBsRefIdeal.Facts) (hAdamConvW : Cert.AdamConvW.Facts) (hAdamConvWIdeal : Cert.AdamConvWIdeal.Facts) (hAdamConvWRefIdeal : Cert.AdamConvWRefIdeal.Facts) (hAdamConvB : Cert.AdamConvB.Facts) (hAdamConvBIdeal : Cert.AdamConvBIdeal.Facts) (hAdamConvBRefIdeal : Cert.AdamConvBRefIdeal.Facts) (hAdamLn : Cert.AdamLn.Facts) (hAdamLnIdeal : Cert.AdamLnIdeal.Facts) (hAdamLnRefIdeal : Cert.AdamLnRefIdeal.Facts) (hAdamHgIn : Cert.AdamHgIn.Facts) (hAdamHgInIdeal : Cert.AdamHgInIdeal.Facts) (hAdamHgInRefIdeal : Cert.AdamHgInRefIdeal.Facts) (hAdamOut : Cert.AdamOut.Facts) (hAdamOutIdeal : Cert.AdamOutIdeal.Facts) (hAdamOutRefIdeal : Cert.AdamOutRefIdeal.Facts) (hAdamSgIn : Cert.AdamSgIn.Facts) (hAdamSgInIdeal : Cert.AdamSgInIdeal.Facts) (hAdamSgInRefIdeal : Cert.AdamSgInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hLnFwd : Cert.LnFwd.Facts) (hLnFwdIdeal : Cert.LnFwdIdeal.Facts) (hLnFwdRefIdeal : Cert.LnFwdRefIdeal.Facts) (hFfnFwd : Cert.FfnFwd.Facts) (hFfnFwdIdeal : Cert.FfnFwdIdeal.Facts) (hFfnFwdRefIdeal : Cert.FfnFwdRefIdeal.Facts) (hSumSmall : Cert.SumSmall.Facts) (hSumSmallIdeal : Cert.SumSmallIdeal.Facts) (hSumSmallRefIdeal : Cert.SumSmallRefIdeal.Facts) (hLnBwd : Cert.LnBwd.Facts) (hLnBwdIdeal : Cert.LnBwdIdeal.Facts) (hLnBwdRefIdeal : Cert.LnBwdRefIdeal.Facts) (hLnLoss : Cert.LnLoss.Facts) (hLnLossIdeal : Cert.LnLossIdeal.Facts) (hLnLossRefIdeal : Cert.LnLossRefIdeal.Facts) (hSgFwd : Cert.SgFwd.Facts) (hSgFwdIdeal : Cert.SgFwdIdeal.Facts) (hSgFwdRefIdeal : Cert.SgFwdRefIdeal.Facts) (hSgBwd : Cert.SgBwd.Facts) (hSgBwdIdeal : Cert.SgBwdIdeal.Facts) (hSgBwdRefIdeal : Cert.SgBwdRefIdeal.Facts) (hPre_finite : Cert.Pre_finite.Facts) (hPre_finite_ln : Cert.Pre_finite_ln.Facts) (hPre_finite_loss : Cert.Pre_finite_loss.Facts) (hPre_finite_sg : Cert.Pre_finite_sg.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DZ (hDZ := hDZ)
    ∧ quiescent_DZIdeal (hDZIdeal := hDZIdeal)
    ∧ quiescent_DZRefIdeal (hDZRefIdeal := hDZRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DUp (hDUp := hDUp)
    ∧ quiescent_DUpIdeal (hDUpIdeal := hDUpIdeal)
    ∧ quiescent_DUpRefIdeal (hDUpRefIdeal := hDUpRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DOut (hDOut := hDOut)
    ∧ quiescent_DOutIdeal (hDOutIdeal := hDOutIdeal)
    ∧ quiescent_DOutRefIdeal (hDOutRefIdeal := hDOutRefIdeal)
    ∧ quiescent_DwSgIn (hDwSgIn := hDwSgIn)
    ∧ quiescent_DwSgInIdeal (hDwSgInIdeal := hDwSgInIdeal)
    ∧ quiescent_DwSgInRefIdeal (hDwSgInRefIdeal := hDwSgInRefIdeal)
    ∧ quiescent_DSgIn (hDSgIn := hDSgIn)
    ∧ quiescent_DSgInIdeal (hDSgInIdeal := hDSgInIdeal)
    ∧ quiescent_DSgInRefIdeal (hDSgInRefIdeal := hDSgInRefIdeal)
    ∧ quiescent_DwHgIn (hDwHgIn := hDwHgIn)
    ∧ quiescent_DwHgInIdeal (hDwHgInIdeal := hDwHgInIdeal)
    ∧ quiescent_DwHgInRefIdeal (hDwHgInRefIdeal := hDwHgInRefIdeal)
    ∧ quiescent_DHgIn (hDHgIn := hDHgIn)
    ∧ quiescent_DHgInIdeal (hDHgInIdeal := hDHgInIdeal)
    ∧ quiescent_DHgInRefIdeal (hDHgInRefIdeal := hDHgInRefIdeal)
    ∧ quiescent_HgIn (hHgIn := hHgIn)
    ∧ quiescent_HgInIdeal (hHgInIdeal := hHgInIdeal)
    ∧ quiescent_HgInRefIdeal (hHgInRefIdeal := hHgInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_SgIn (hSgIn := hSgIn)
    ∧ quiescent_SgInIdeal (hSgInIdeal := hSgInIdeal)
    ∧ quiescent_SgInRefIdeal (hSgInRefIdeal := hSgInRefIdeal)
    ∧ quiescent_AdamLb (hAdamLb := hAdamLb)
    ∧ quiescent_AdamLbIdeal (hAdamLbIdeal := hAdamLbIdeal)
    ∧ quiescent_AdamLbRefIdeal (hAdamLbRefIdeal := hAdamLbRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamSgLn (hAdamSgLn := hAdamSgLn)
    ∧ quiescent_AdamSgLnIdeal (hAdamSgLnIdeal := hAdamSgLnIdeal)
    ∧ quiescent_AdamSgLnRefIdeal (hAdamSgLnRefIdeal := hAdamSgLnRefIdeal)
    ∧ quiescent_AdamSgWs (hAdamSgWs := hAdamSgWs)
    ∧ quiescent_AdamSgWsIdeal (hAdamSgWsIdeal := hAdamSgWsIdeal)
    ∧ quiescent_AdamSgWsRefIdeal (hAdamSgWsRefIdeal := hAdamSgWsRefIdeal)
    ∧ quiescent_AdamSgBs (hAdamSgBs := hAdamSgBs)
    ∧ quiescent_AdamSgBsIdeal (hAdamSgBsIdeal := hAdamSgBsIdeal)
    ∧ quiescent_AdamSgBsRefIdeal (hAdamSgBsRefIdeal := hAdamSgBsRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamLn (hAdamLn := hAdamLn)
    ∧ quiescent_AdamLnIdeal (hAdamLnIdeal := hAdamLnIdeal)
    ∧ quiescent_AdamLnRefIdeal (hAdamLnRefIdeal := hAdamLnRefIdeal)
    ∧ quiescent_AdamHgIn (hAdamHgIn := hAdamHgIn)
    ∧ quiescent_AdamHgInIdeal (hAdamHgInIdeal := hAdamHgInIdeal)
    ∧ quiescent_AdamHgInRefIdeal (hAdamHgInRefIdeal := hAdamHgInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSgIn (hAdamSgIn := hAdamSgIn)
    ∧ quiescent_AdamSgInIdeal (hAdamSgInIdeal := hAdamSgInIdeal)
    ∧ quiescent_AdamSgInRefIdeal (hAdamSgInRefIdeal := hAdamSgInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LnLoss (hLnLoss := hLnLoss)
    ∧ quiescent_LnLossIdeal (hLnLossIdeal := hLnLossIdeal)
    ∧ quiescent_LnLossIdeal_pre_finite_loss (hLnLossIdeal := hLnLossIdeal) (hPre_finite_loss := hPre_finite_loss)
    ∧ quiescent_LnLossRefIdeal (hLnLossRefIdeal := hLnLossRefIdeal)
    ∧ quiescent_LnLossRefIdeal_pre_finite_loss (hLnLossRefIdeal := hLnLossRefIdeal) (hPre_finite_loss := hPre_finite_loss)
    ∧ quiescent_SgFwd (hSgFwd := hSgFwd)
    ∧ quiescent_SgFwdIdeal (hSgFwdIdeal := hSgFwdIdeal)
    ∧ quiescent_SgFwdRefIdeal (hSgFwdRefIdeal := hSgFwdRefIdeal)
    ∧ quiescent_SgBwd (hSgBwd := hSgBwd)
    ∧ quiescent_SgBwdIdeal (hSgBwdIdeal := hSgBwdIdeal)
    ∧ quiescent_SgBwdIdeal_pre_finite_sg (hSgBwdIdeal := hSgBwdIdeal) (hPre_finite_sg := hPre_finite_sg)
    ∧ quiescent_SgBwdRefIdeal (hSgBwdRefIdeal := hSgBwdRefIdeal)
    ∧ quiescent_SgBwdRefIdeal_pre_finite_sg (hSgBwdRefIdeal := hSgBwdRefIdeal) (hPre_finite_sg := hPre_finite_sg)
    ∧ preserves_Kernel_KernelIdeal
    ∧ algebraic_KernelIdeal_ReferenceIdeal_pre_finite (hKernelIdeal := hKernelIdeal) (hReferenceIdeal := hReferenceIdeal) (hPre_finite := hPre_finite)
    ∧ preserves_DwDown_DwDownIdeal
    ∧ algebraic_DwDownIdeal_DwDownRefIdeal (hDwDownIdeal := hDwDownIdeal) (hDwDownRefIdeal := hDwDownRefIdeal)
    ∧ preserves_DZ_DZIdeal
    ∧ algebraic_DZIdeal_DZRefIdeal (hDZIdeal := hDZIdeal) (hDZRefIdeal := hDZRefIdeal)
    ∧ preserves_DwUp_DwUpIdeal
    ∧ algebraic_DwUpIdeal_DwUpRefIdeal (hDwUpIdeal := hDwUpIdeal) (hDwUpRefIdeal := hDwUpRefIdeal)
    ∧ preserves_DUp_DUpIdeal
    ∧ algebraic_DUpIdeal_DUpRefIdeal (hDUpIdeal := hDUpIdeal) (hDUpRefIdeal := hDUpRefIdeal)
    ∧ preserves_DwOut_DwOutIdeal
    ∧ algebraic_DwOutIdeal_DwOutRefIdeal (hDwOutIdeal := hDwOutIdeal) (hDwOutRefIdeal := hDwOutRefIdeal)
    ∧ preserves_DOut_DOutIdeal
    ∧ algebraic_DOutIdeal_DOutRefIdeal (hDOutIdeal := hDOutIdeal) (hDOutRefIdeal := hDOutRefIdeal)
    ∧ preserves_DwSgIn_DwSgInIdeal
    ∧ algebraic_DwSgInIdeal_DwSgInRefIdeal (hDwSgInIdeal := hDwSgInIdeal) (hDwSgInRefIdeal := hDwSgInRefIdeal)
    ∧ preserves_DSgIn_DSgInIdeal
    ∧ algebraic_DSgInIdeal_DSgInRefIdeal (hDSgInIdeal := hDSgInIdeal) (hDSgInRefIdeal := hDSgInRefIdeal)
    ∧ preserves_DwHgIn_DwHgInIdeal
    ∧ algebraic_DwHgInIdeal_DwHgInRefIdeal (hDwHgInIdeal := hDwHgInIdeal) (hDwHgInRefIdeal := hDwHgInRefIdeal)
    ∧ preserves_DHgIn_DHgInIdeal
    ∧ algebraic_DHgInIdeal_DHgInRefIdeal (hDHgInIdeal := hDHgInIdeal) (hDHgInRefIdeal := hDHgInRefIdeal)
    ∧ preserves_HgIn_HgInIdeal
    ∧ algebraic_HgInIdeal_HgInRefIdeal (hHgInIdeal := hHgInIdeal) (hHgInRefIdeal := hHgInRefIdeal)
    ∧ preserves_MixOut_MixOutIdeal
    ∧ algebraic_MixOutIdeal_MixOutRefIdeal (hMixOutIdeal := hMixOutIdeal) (hMixOutRefIdeal := hMixOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_SgIn_SgInIdeal
    ∧ algebraic_SgInIdeal_SgInRefIdeal (hSgInIdeal := hSgInIdeal) (hSgInRefIdeal := hSgInRefIdeal)
    ∧ preserves_AdamLb_AdamLbIdeal
    ∧ algebraic_AdamLbIdeal_AdamLbRefIdeal (hAdamLbIdeal := hAdamLbIdeal) (hAdamLbRefIdeal := hAdamLbRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamSgLn_AdamSgLnIdeal
    ∧ algebraic_AdamSgLnIdeal_AdamSgLnRefIdeal (hAdamSgLnIdeal := hAdamSgLnIdeal) (hAdamSgLnRefIdeal := hAdamSgLnRefIdeal)
    ∧ preserves_AdamSgWs_AdamSgWsIdeal
    ∧ algebraic_AdamSgWsIdeal_AdamSgWsRefIdeal (hAdamSgWsIdeal := hAdamSgWsIdeal) (hAdamSgWsRefIdeal := hAdamSgWsRefIdeal)
    ∧ preserves_AdamSgBs_AdamSgBsIdeal
    ∧ algebraic_AdamSgBsIdeal_AdamSgBsRefIdeal (hAdamSgBsIdeal := hAdamSgBsIdeal) (hAdamSgBsRefIdeal := hAdamSgBsRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamLn_AdamLnIdeal
    ∧ algebraic_AdamLnIdeal_AdamLnRefIdeal (hAdamLnIdeal := hAdamLnIdeal) (hAdamLnRefIdeal := hAdamLnRefIdeal)
    ∧ preserves_AdamHgIn_AdamHgInIdeal
    ∧ algebraic_AdamHgInIdeal_AdamHgInRefIdeal (hAdamHgInIdeal := hAdamHgInIdeal) (hAdamHgInRefIdeal := hAdamHgInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSgIn_AdamSgInIdeal
    ∧ algebraic_AdamSgInIdeal_AdamSgInRefIdeal (hAdamSgInIdeal := hAdamSgInIdeal) (hAdamSgInRefIdeal := hAdamSgInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_LnFwd_LnFwdIdeal
    ∧ algebraic_LnFwdIdeal_LnFwdRefIdeal (hLnFwdIdeal := hLnFwdIdeal) (hLnFwdRefIdeal := hLnFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_SumSmall_SumSmallIdeal
    ∧ algebraic_SumSmallIdeal_SumSmallRefIdeal (hSumSmallIdeal := hSumSmallIdeal) (hSumSmallRefIdeal := hSumSmallRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LnLoss_LnLossIdeal
    ∧ algebraic_LnLossIdeal_LnLossRefIdeal_pre_finite_loss (hLnLossIdeal := hLnLossIdeal) (hLnLossRefIdeal := hLnLossRefIdeal) (hPre_finite_loss := hPre_finite_loss)
    ∧ preserves_SgFwd_SgFwdIdeal
    ∧ algebraic_SgFwdIdeal_SgFwdRefIdeal (hSgFwdIdeal := hSgFwdIdeal) (hSgFwdRefIdeal := hSgFwdRefIdeal)
    ∧ preserves_SgBwd_SgBwdIdeal
    ∧ algebraic_SgBwdIdeal_SgBwdRefIdeal_pre_finite_sg (hSgBwdIdeal := hSgBwdIdeal) (hSgBwdRefIdeal := hSgBwdRefIdeal) (hPre_finite_sg := hPre_finite_sg)
-- ==== Pre_finite.lean ====
abbrev S2x4096x5632 : Shape := ⟨3, ![2, 4096, 5632]⟩
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩

class Facts : Prop where
  bitsLt_bf16_f32 : FTy.bits .bf16 < FTy.bits .f32
  bcast_S_S2x4096x5632 : S_.BroadcastsInDim S2x4096x5632 (![] : Fin 0 → Fin S2x4096x5632.rank)
  reducesTo_S2x4096x5632_S_d0_1_2 : S2x4096x5632.ReducesTo [0, 1, 2] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v15 : IVec S_ 1) (main_v16 : FVec F S1x5632 .f32) (main_cst_4 : FVec F S_ .f32) : IVec S_ 1 :=
  let main_v17 : FVec F S1x5632 .f32 := broadcastInDim S1x5632 ![] bcast_S_S1x5632 main_cst_4
  let main_v18 : IVec S1x5632 1 := cmpf .olt main_v16 main_v17
  let main_c_5 : IVec S_ 1 := constantI S_ 1 1#1
  let main_v19 : IVec S_ 1 := (fun x v => Host.reduce IntOp.andi x v reducesTo_S1x5632_S_d0_1 h_S_) main_v18 main_c_5
  let main_v20 : IVec S_ 1 := andi main_v15 main_v19
  main_v20

def fn {F : FTy → Type} [FloatOps F] (main_arg0 : FVec F S2x4096x5632 .bf16) (main_arg1 : FVec F S4096x5632 .bf16) (main_arg2 : FVec F S3x5632 .f32) (main_arg3 : FVec F S1x5632 .f32) : IVec S_ 1 :=
  let main_v0 : FVec F S2x4096x5632 .f32 := (extf .f32 · bitsLt_bf16_f32) main_arg0
  let main_v1 : FVec F S2x4096x5632 .f32 := Host.absf main_v0
  let main_cst : FVec F S_ .f32 := constant S_ .f32 0x7F800000#32
  let main_v2 : FVec F S2x4096x5632 .f32 := broadcastInDim S2x4096x5632 ![] bcast_S_S2x4096x5632 main_cst
  let main_v3 : IVec S2x4096x5632 1 := cmpf .olt main_v1 main_v2
  let main_c : IVec S_ 1 := constantI S_ 1 1#1
  let main_v4 : IVec S_ 1 := (fun x v => Host.reduce IntOp.andi x v reducesTo_S2x4096x5632_S_d0_1_2 h_S_) main_v3 main_c
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : IVec S_ 1 := andi main_v4 main_v9
  let main_v11 : FVec F S3x5632 .f32 := Host.absf main_arg2
  let main_cst_2 : FVec F S_ .f32 := constant S_ .f32 0x7F800000#32
  let main_v12 : FVec F S3x5632 .f32 := broadcastInDim S3x5632 ![] bcast_S_S3x5632 main_cst_2
  let main_v13 : IVec S3x5632 1 := cmpf .olt main_v11 main_v12
  let main_c_3 : IVec S_ 1 := constantI S_ 1 1#1
  let main_v14 : IVec S_ 1 := (fun x v => Host.reduce IntOp.andi x v reducesTo_S3x5632_S_d0_1 h_S_) main_v13 main_c_3
  let main_v15 : IVec S_ 1 := andi main_v10 main_v14
  let main_v16 : FVec F S1x5632 .f32 := Host.absf main_arg3
  let main_cst_4 : FVec F S_ .f32 := constant S_ .f32 0x7F800000#32
  fn_part1 (F := F) main_v15 main_v16 main_cst_4
-- ==== Pre_finite_ln.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S4096x2048 .f32) (main_arg2 : FVec F S4096x2048 .f32) (main_arg3 : FVec F S1x2048 .f32) : IVec S_ 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  main_v8
-- ==== Pre_finite_loss.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S4096x2048 .f32) (main_arg2 : FVec F S4096x2048 .f32) (main_arg3 : FVec F S1x2048 .f32) (main_arg4 : FVec F S1x2048 .f32) : IVec S_ 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg4
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Pre_finite_sg.lean ====
abbrev S4096x4096 : Shape := ⟨2, ![4096, 4096]⟩
abbrev S4096x2048 : Shape := ⟨2, ![4096, 2048]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S16x128x128 : S_.BroadcastsInDim S16x128x128 (![] : Fin 0 → Fin S16x128x128.rank)
  reducesTo_S16x128x128_S_d0_1_2 : S16x128x128.ReducesTo [0, 1, 2] S_

variable [Facts]

def fn_part1 {F : FTy → Type} [FloatOps F] (main_v13 : IVec S_ 1) (main_v16 : IVec S16x128x128 1) : IVec S_ 1 :=
  let main_c_5 : IVec S_ 1 := constantI S_ 1 1#1
  let main_v17 : IVec S_ 1 := (fun x v => Host.reduce IntOp.andi x v reducesTo_S16x128x128_S_d0_1_2 h_S_) main_v16 main_c_5
  let main_v18 : IVec S_ 1 := andi main_v13 main_v17
  main_v18

def fn {F : FTy → Type} [FloatOps F] (main_arg0 : FVec F S4096x4096 .f32) (main_arg1 : FVec F S4096x2048 .f32) (main_arg2 : FVec F S1x2048 .f32) (main_arg3 : FVec F S1x2048 .f32) (main_arg4 : FVec F S16x128x128 .f32) (main_arg5 : FVec F S16x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S16x128x128 .f32 := Host.absf main_arg4
  let main_cst_4 : FVec F S_ .f32 := constant S_ .f32 0x7F800000#32
  let main_v15 : FVec F S16x128x128 .f32 := broadcastInDim S16x128x128 ![] bcast_S_S16x128x128 main_cst_4
  let main_v16 : IVec S16x128x128 1 := cmpf .olt main_v14 main_v15
  fn_part1 (F := F) main_v13 main_v16
-- ==== Kernel.lean ====
abbrev S2x4096x5632 : Shape := ⟨3, ![2, 4096, 5632]⟩
abbrev S4096x5632 : Shape := ⟨2, ![4096, 5632]⟩
abbrev S3x5632 : Shape := ⟨2, ![3, 5632]⟩
abbrev S1x5632 : Shape := ⟨2, ![1, 5632]⟩
abbrev S2x1024x1408 : Shape := ⟨3, ![2, 1024, 1408]⟩
abbrev S1x16x1408 : Shape := ⟨3, ![1, 16, 1408]⟩
abbrev S2x16x1408 : Shape := ⟨3, ![2, 16, 1408]⟩
abbrev S1024x1408 : Shape := ⟨2, ![1024, 1408]⟩
abbrev S16x1408 : Shape := ⟨2, ![16, 1408]⟩
abbrev S3x1408 : Shape := ⟨2, ![3, 1408]⟩
abbrev S1x1408 : Shape := ⟨2, ![1, 1408]⟩
abbrev S1x1024x1408 : Shape := ⟨3, ![1, 1024, 1408]⟩
abbrev S1056x1408 : Shape := ⟨2, ![1056, 1408]⟩
abbrev S1040x1408 : Shape := ⟨2, ![1040, 1408]⟩
abbrev S1408 : Shape := ⟨1, ![1408]⟩

abbrev nBuf : Space → Nat
  | .hbm => 7
  | .vmem => 20
  | .smem => 0
  | _ => 0

abbrev bufTy : (tb : Table) → Fin (tcTables nBuf tb) → BufTy
  | .hbm, ⟨0, _⟩ => ⟨S2x4096x5632, .bf16⟩
  | .hbm, ⟨1, _⟩ => ⟨S4096x5632, .bf16⟩
  | .hbm, ⟨2, _⟩ => ⟨S3x5632, .f32⟩
  | .hbm, ⟨3, _⟩ => ⟨S1x5632, .f32⟩
  | .hbm, ⟨4, _⟩ => ⟨S2x4096x5632, .bf16⟩
  | .hbm, ⟨5, _⟩ => ⟨S3x5632, .f32⟩
  | .hbm, ⟨6, _⟩ => ⟨S1x5632, .f32⟩
  | .local _ .vmem, ⟨0, _⟩ => ⟨S2x1024x1408, .bf16⟩
  | .local _ .vmem, ⟨1, _⟩ => ⟨S2x1024x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S2x16x1408, .bf16⟩
  | .local _ .vmem, ⟨5, _⟩ => ⟨S2x16x1408, .bf16⟩
  | .local _ .vmem, ⟨6, _⟩ => ⟨S1024x1408, .bf16⟩
  | .local _ .vmem, ⟨7, _⟩ => ⟨S1024x1408, .bf16⟩
  | .local _ .vmem, ⟨8, _⟩ => ⟨S16x1408, .bf16⟩
  | .local _ .vmem, ⟨9, _⟩ => ⟨S16x1408, .bf16⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S2x1024x1408, .bf16⟩
  | .local _ .vmem, ⟨15, _⟩ => ⟨S2x1024x1408, .bf16⟩
  | .local _ .vmem, ⟨16, _⟩ => ⟨S3x1408, .f32⟩
  | .local _ .vmem, ⟨17, _⟩ => ⟨S3x1408, .f32⟩
  | .local _ .vmem, ⟨18, _⟩ => ⟨S1x1408, .f32⟩
  | .local _ .vmem, ⟨19, _⟩ => ⟨S1x1408, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x4096x5632 : Shape := ⟨3, ![2, 4096, 5632]⟩
abbrev S4096x5632 : Shape := ⟨2, ![4096, 5632]⟩
abbrev S3x5632 : Shape := ⟨2, ![3, 5632]⟩
abbrev S1x5632 : Shape := ⟨2, ![1, 5632]⟩
abbrev S1x4096x5632 : Shape := ⟨3, ![1, 4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 121
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S4096x5632, .bf16⟩
  | .hbm, ⟨2, _⟩ => ⟨S3x5632, .f32⟩
  | .hbm, ⟨3, _⟩ => ⟨S1x5632, .f32⟩
  | .hbm, ⟨4, _⟩ => ⟨S2x4096x5632, .f32⟩
  | .hbm, ⟨5, _⟩ => ⟨S1x4096x5632, .f32⟩
  | .hbm, ⟨6, _⟩ => ⟨S4096x5632, .f32⟩
  | .hbm, ⟨7, _⟩ => ⟨S1x4096x5632, .f32⟩
  | .hbm, ⟨8, _⟩ => ⟨S4096x5632, .f32⟩
  | .hbm, ⟨9, _⟩ => ⟨S_, .f32⟩
  | .hbm, ⟨10, _⟩ => ⟨S2x5632, .f32⟩
  | .hbm, ⟨11, _⟩ => ⟨S4098x5632, .f32⟩
  | .hbm, ⟨12, _⟩ => ⟨S_, .f32⟩
  | .hbm, ⟨13, _⟩ => ⟨S2x5632, .f32⟩
  | .hbm, ⟨14, _⟩ => ⟨S1x5632, .f32⟩
  | .hbm, ⟨15, _⟩ => ⟨S5632, .f32⟩
  | .hbm, ⟨16, _⟩ => ⟨S4096x5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S4096x5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S5632, .f32⟩
  | .hbm, ⟨32, _⟩ => ⟨S4096x5632, .f32⟩
  | .hbm, ⟨33, _⟩ => ⟨S1x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S5632, .f32⟩
  | .hbm, ⟨38, _⟩ => ⟨S1x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S_, .f32⟩
  | .hbm, ⟨44, _⟩ => ⟨S4096x5632, .f32⟩
  | .hbm, ⟨45, _⟩ => ⟨S4096x5632, .f32⟩
  | .hbm, ⟨46, _⟩ => ⟨S_, .f32⟩
  | .hbm, ⟨47, _⟩ => ⟨S4096x5632, .f32⟩
  | .hbm, ⟨48, _⟩ => ⟨S4096x5632, .f32⟩
  | .hbm, ⟨49, _⟩ => ⟨S_, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S4096x5632, .f32⟩
  | .hbm, ⟨69, _⟩ => ⟨S4096x5632, .f32⟩
  | .hbm, ⟨70, _⟩ => ⟨S4096x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S5632, .f32⟩
  | .hbm, ⟨76, _⟩ => ⟨S_, .f32⟩
  | .hbm, ⟨77, _⟩ => ⟨S4098x5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S4096x5632, .f32⟩
  | .hbm, ⟨82, _⟩ => ⟨S4096x5632, .f32⟩
  | .hbm, ⟨83, _⟩ => ⟨S4096x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S5632, .f32⟩
  | .hbm, ⟨89, _⟩ => ⟨S_, .f32⟩
  | .hbm, ⟨90, _⟩ => ⟨S4098x5632, .f32⟩
  | .hbm, ⟨91, _⟩ => ⟨S4098x5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S3x5632, .f32⟩
  | .hbm, ⟨96, _⟩ => ⟨S4096x5632, .f32⟩
  | .hbm, ⟨97, _⟩ => ⟨S4096x5632, .f32⟩
  | .hbm, ⟨98, _⟩ => ⟨S4096x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S5632, .f32⟩
  | .hbm, ⟨104, _⟩ => ⟨S_, .f32⟩
  | .hbm, ⟨105, _⟩ => ⟨S4098x5632, .f32⟩
  | .hbm, ⟨106, _⟩ => ⟨S4098x5632, .f32⟩
  | .hbm, ⟨107, _⟩ => ⟨S1x5632, .f32⟩
  | .hbm, ⟨108, _⟩ => ⟨S_, .f32⟩
  | .hbm, ⟨109, _⟩ => ⟨S3x5632, .f32⟩
  | .hbm, ⟨110, _⟩ => ⟨S3x5632, .f32⟩
  | .hbm, ⟨111, _⟩ => ⟨S2x5632, .f32⟩
  | .hbm, ⟨112, _⟩ => ⟨S4096x5632, .f32⟩
  | .hbm, ⟨113, _⟩ => ⟨S1x4096x5632, .f32⟩
  | .hbm, ⟨114, _⟩ => ⟨S_, .f32⟩
  | .hbm, ⟨115, _⟩ => ⟨S2x4096x5632, .f32⟩
  | .hbm, ⟨116, _⟩ => ⟨S1x4096x5632, .f32⟩
  | .hbm, ⟨117, _⟩ => ⟨S_, .f32⟩
  | .hbm, ⟨118, _⟩ => ⟨S2x4096x5632, .f32⟩
  | .hbm, ⟨119, _⟩ => ⟨S2x4096x5632, .f32⟩
  | .hbm, ⟨120, _⟩ => ⟨S2x4096x5632, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== DwDown.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DZ.lean ====
abbrev S4096x2048 : Shape := ⟨2, ![4096, 2048]⟩
abbrev S5632x2048 : Shape := ⟨2, ![5632, 2048]⟩
abbrev S8x128 : Shape := ⟨2, ![8, 128]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S8x128, .f32⟩
  | .hbm, ⟨3, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DZRefIdeal.lean ====
abbrev S4096x2048 : Shape := ⟨2, ![4096, 2048]⟩
abbrev S5632x2048 : Shape := ⟨2, ![5632, 2048]⟩
abbrev S8x128 : Shape := ⟨2, ![8, 128]⟩
abbrev S_ : Shape := ⟨0, ![]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S8x128, .f32⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S4096x5632, .f32⟩
  | .hbm, ⟨9, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwUp.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg1 c1408_i32
  let c5632_i32 : BitVec 32 := 5632#32
  let v1 : BitVec 32 := Scalar.divsi v0 c5632_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5632_i32 c0_i32_1
  let v8 : BitVec 32 := Scalar.extui v7
  let c0_i32_2 : BitVec 32 := 0#32
  let v9 : BitVec 1 := Scalar.cmpi .slt c5632_i32 c0_i32_2
  let v10 : BitVec 32 := Scalar.extui v9
  let v11 : BitVec 32 := Scalar.subi v8 v10
  let v12 : BitVec 1 := Scalar.cmpi .ne v6 v11
  let v13 : BitVec 32 := Scalar.remsi v0 c5632_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1408_i32_4 : BitVec 32 := 1408#32
  let v18 : BitVec 32 := Scalar.muli arg1 c1408_i32_4
  let c5632_i32_5 : BitVec 32 := 5632#32
  let c0_i32_6 : BitVec 32 := 0#32
  let v19 : BitVec 1 := Scalar.cmpi .eq c5632_i32_5 c0_i32_6
  let c1_i32_7 : BitVec 32 := 1#32
  let v20 : BitVec 32 := Scalar.select v19 c1_i32_7 c5632_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1408_i32_11 : BitVec 32 := 1408#32
  let v29 : BitVec 32 := Scalar.divsi v28 c1408_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1408_i32_11 c0_i32_14
  let v36 : BitVec 32 := Scalar.extui v35
  let c0_i32_15 : BitVec 32 := 0#32
  let v37 : BitVec 1 := Scalar.cmpi .slt c1408_i32_11 c0_i32_15
  let v38 : BitVec 32 := Scalar.extui v37
  let v39 : BitVec 32 := Scalar.subi v36 v38
  let v40 : BitVec 1 := Scalar.cmpi .ne v34 v39
  let v41 : BitVec 32 := Scalar.remsi v28 c1408_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg1 c1408_i32
  let c1408_i32_0 : BitVec 32 := 1408#32
  let v1 : BitVec 32 := Scalar.divsi v0 c1408_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1408_i32_0 c0_i32_2
  let v8 : BitVec 32 := Scalar.extui v7
  let c0_i32_3 : BitVec 32 := 0#32
  let v9 : BitVec 1 := Scalar.cmpi .slt c1408_i32_0 c0_i32_3
  let v10 : BitVec 32 := Scalar.extui v9
  let v11 : BitVec 32 := Scalar.subi v8 v10
  let v12 : BitVec 1 := Scalar.cmpi .ne v6 v11
  let v13 : BitVec 32 := Scalar.remsi v0 c1408_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1408_i32_5 : BitVec 32 := 1408#32
  let v18 : BitVec 32 := Scalar.muli arg1 c1408_i32_5
  let c1408_i32_6 : BitVec 32 := 1408#32
  let c0_i32_7 : BitVec 32 := 0#32
  let v19 : BitVec 1 := Scalar.cmpi .eq c1408_i32_6 c0_i32_7
  let c1_i32_8 : BitVec 32 := 1#32
  let v20 : BitVec 32 := Scalar.select v19 c1_i32_8 c1408_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1408_i32_12 : BitVec 32 := 1408#32
  let v29 : BitVec 32 := Scalar.divsi v28 c1408_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1408_i32_12 c0_i32_15
  let v36 : BitVec 32 := Scalar.extui v35
  let c0_i32_16 : BitVec 32 := 0#32
  let v37 : BitVec 1 := Scalar.cmpi .slt c1408_i32_12 c0_i32_16
  let v38 : BitVec 32 := Scalar.extui v37
  let v39 : BitVec 32 := Scalar.subi v36 v38
  let v40 : BitVec 1 := Scalar.cmpi .ne v34 v39
  let v41 : BitVec 32 := Scalar.remsi v28 c1408_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2048, .f32⟩
  | .hbm, ⟨3, _⟩ => ⟨S_, .f32⟩
  | .hbm, ⟨4, _⟩ => ⟨S2048x11264, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S1x4096x5632, .f32⟩
  | .hbm, ⟨9, _⟩ => ⟨S1x4096x5632, .f32⟩
  | .hbm, ⟨10, _⟩ => ⟨S2x4096x5632, .f32⟩
  | .hbm, ⟨11, _⟩ => ⟨S2x4096x5632, .f32⟩
  | .hbm, ⟨12, _⟩ => ⟨S1x4096x5632, .f32⟩
  | .hbm, ⟨13, _⟩ => ⟨S4096x5632, .f32⟩
  | .hbm, ⟨14, _⟩ => ⟨S1x4096x5632, .f32⟩
  | .hbm, ⟨15, _⟩ => ⟨S4096x5632, .f32⟩
  | .hbm, ⟨16, _⟩ => ⟨S4096x11264, .f32⟩
  | .hbm, ⟨17, _⟩ => ⟨S11264x2048, .f32⟩
  | .hbm, ⟨18, _⟩ => ⟨S2048x11264, .f32⟩
  | .hbm, ⟨19, _⟩ => ⟨S2048x8x1408, .f32⟩
  | .hbm, ⟨20, _⟩ => ⟨S8x2048x1408, .f32⟩
  | .hbm, ⟨21, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== DUp.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S8x128 : Shape := ⟨2, ![8, 128]⟩
abbrev S1x1024x5632 : Shape := ⟨3, ![1, 1024, 5632]⟩
abbrev S4x512x1408 : Shape := ⟨3, ![4, 512, 1408]⟩
abbrev S1024x512 : Shape := ⟨2, ![1024, 512]⟩
abbrev S1x1024x1408 : Shape := ⟨3, ![1, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 5
  | .vmem => 9
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .hbm, ⟨3, _⟩ => ⟨S8x128, .f32⟩
  | .hbm, ⟨4, _⟩ => ⟨S4096x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_21 : BitVec 32 := 0#32
  let v28 : BitVec 1 := Scalar.cmpi .ne v27 c0_i32_21
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5632_i32 : BitVec 32 := 5632#32
  let v0 : BitVec 32 := Scalar.muli arg2 c5632_i32
  let c5632_i32_0 : BitVec 32 := 5632#32
  let v1 : BitVec 32 := Scalar.divsi v0 c5632_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5632_i32_0 c0_i32_2
  let v8 : BitVec 32 := Scalar.extui v7
  let c0_i32_3 : BitVec 32 := 0#32
  let v9 : BitVec 1 := Scalar.cmpi .slt c5632_i32_0 c0_i32_3
  let v10 : BitVec 32 := Scalar.extui v9
  let v11 : BitVec 32 := Scalar.subi v8 v10
  let v12 : BitVec 1 := Scalar.cmpi .ne v6 v11
  let v13 : BitVec 32 := Scalar.remsi v0 c5632_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c5632_i32_5 : BitVec 32 := 5632#32
  let v18 : BitVec 32 := Scalar.muli arg2 c5632_i32_5
  let c5632_i32_6 : BitVec 32 := 5632#32
  let c0_i32_7 : BitVec 32 := 0#32
  let v19 : BitVec 1 := Scalar.cmpi .eq c5632_i32_6 c0_i32_7
  let c1_i32_8 : BitVec 32 := 1#32
  let v20 : BitVec 32 := Scalar.select v19 c1_i32_8 c5632_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c5632_i32_12 : BitVec 32 := 5632#32
  let v29 : BitVec 32 := Scalar.divsi v28 c5632_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c5632_i32_12 c0_i32_15
  let v36 : BitVec 32 := Scalar.extui v35
  let c0_i32_16 : BitVec 32 := 0#32
  let v37 : BitVec 1 := Scalar.cmpi .slt c5632_i32_12 c0_i32_16
  let v38 : BitVec 32 := Scalar.extui v37
  let v39 : BitVec 32 := Scalar.subi v36 v38
  let v40 : BitVec 1 := Scalar.cmpi .ne v34 v39
  let v41 : BitVec 32 := Scalar.remsi v28 c5632_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUpRefIdeal.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S8x128 : Shape := ⟨2, ![8, 128]⟩
abbrev S2048x8x1408 : Shape := ⟨3, ![2048, 8, 1408]⟩
abbrev S2048x11264 : Shape := ⟨2, ![2048, 11264]⟩
abbrev S_ : Shape := ⟨0, ![]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .hbm, ⟨3, _⟩ => ⟨S8x128, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S_, .f32⟩
  | .hbm, ⟨8, _⟩ => ⟨S4096x2048, .f32⟩
  | .hbm, ⟨9, _⟩ => ⟨S4096x11264, .f32⟩
  | .hbm, ⟨10, _⟩ => ⟨S4096x5632, .f32⟩
  | .hbm, ⟨11, _⟩ => ⟨S4096x5632, .f32⟩
  | .hbm, ⟨12, _⟩ => ⟨S1x4096x5632, .f32⟩
  | .hbm, ⟨13, _⟩ => ⟨S1x4096x5632, .f32⟩
  | .hbm, ⟨14, _⟩ => ⟨S2x4096x5632, .f32⟩
  | .hbm, ⟨15, _⟩ => ⟨S2x4096x5632, .f32⟩
  | .hbm, ⟨16, _⟩ => ⟨S1x4096x5632, .f32⟩
  | .hbm, ⟨17, _⟩ => ⟨S4096x5632, .f32⟩
  | .hbm, ⟨18, _⟩ => ⟨S1x4096x5632, .f32⟩
  | .hbm, ⟨19, _⟩ => ⟨S4096x5632, .f32⟩
  | .hbm, ⟨20, _⟩ => ⟨S4096x11264, .f32⟩
  | .hbm, ⟨21, _⟩ => ⟨S4096x2048, .f32⟩
  | .hbm, ⟨22, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DOut.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutRefIdeal.lean ====
abbrev S4096x2048 : Shape := ⟨2, ![4096, 2048]⟩
abbrev S2048x2048 : Shape := ⟨2, ![2048, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwSgIn.lean ====
abbrev S4096x2048 : Shape := ⟨2, ![4096, 2048]⟩
abbrev S4096x4096 : Shape := ⟨2, ![4096, 4096]⟩
abbrev S8x2048x512 : Shape := ⟨3, ![8, 2048, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli arg1 c512_i32_5
  let c512_i32_6 : BitVec 32 := 512#32
  let c0_i32_7 : BitVec 32 := 0#32
  let v19 : BitVec 1 := Scalar.cmpi .eq c512_i32_6 c0_i32_7
  let c1_i32_8 : BitVec 32 := 1#32
  let v20 : BitVec 32 := Scalar.select v19 c1_i32_8 c512_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c512_i32_12 : BitVec 32 := 512#32
  let v29 : BitVec 32 := Scalar.divsi v28 c512_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c512_i32_12 c0_i32_15
  let v36 : BitVec 32 := Scalar.extui v35
  let c0_i32_16 : BitVec 32 := 0#32
  let v37 : BitVec 1 := Scalar.cmpi .slt c512_i32_12 c0_i32_16
  let v38 : BitVec 32 := Scalar.extui v37
  let v39 : BitVec 32 := Scalar.subi v36 v38
  let v40 : BitVec 1 := Scalar.cmpi .ne v34 v39
  let v41 : BitVec 32 := Scalar.remsi v28 c512_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSgInRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S_, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DSgIn.lean ====
abbrev S4096x4096 : Shape := ⟨2, ![4096, 4096]⟩
abbrev S8x2048x512 : Shape := ⟨3, ![8, 2048, 512]⟩
abbrev S4096x2048 : Shape := ⟨2, ![4096, 2048]⟩
abbrev S8x128 : Shape := ⟨2, ![8, 128]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x2048, .f32⟩
  | .hbm, ⟨3, _⟩ => ⟨S8x128, .f32⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DSgInRefIdeal.lean ====
abbrev S4096x4096 : Shape := ⟨2, ![4096, 4096]⟩
abbrev S8x2048x512 : Shape := ⟨3, ![8, 2048, 512]⟩
abbrev S4096x2048 : Shape := ⟨2, ![4096, 2048]⟩
abbrev S8x128 : Shape := ⟨2, ![8, 128]⟩
abbrev S2048x8x512 : Shape := ⟨3, ![2048, 8, 512]⟩
abbrev S2048x4096 : Shape := ⟨2, ![2048, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x2048, .f32⟩
  | .hbm, ⟨3, _⟩ => ⟨S8x128, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S_, .f32⟩
  | .hbm, ⟨8, _⟩ => ⟨S4096x2048, .f32⟩
  | .hbm, ⟨9, _⟩ => ⟨S4096x4096, .f32⟩
  | .hbm, ⟨10, _⟩ => ⟨S4096x4096, .f32⟩
  | .hbm, ⟨11, _⟩ => ⟨S4096x2048, .f32⟩
  | .hbm, ⟨12, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DwHgIn.lean ====
abbrev S4096x2048 : Shape := ⟨2, ![4096, 2048]⟩
abbrev S4x4096x2048 : Shape := ⟨3, ![4, 4096, 2048]⟩
abbrev S8x128 : Shape := ⟨2, ![8, 128]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S8x128, .f32⟩
  | .hbm, ⟨3, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg2.toNat, v45.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwHgInRefIdeal.lean ====
abbrev S4096x2048 : Shape := ⟨2, ![4096, 2048]⟩
abbrev S4x4096x2048 : Shape := ⟨3, ![4, 4096, 2048]⟩
abbrev S8x128 : Shape := ⟨2, ![8, 128]⟩
abbrev S_ : Shape := ⟨0, ![]⟩
abbrev S2048x8192 : Shape := ⟨2, ![2048, 8192]⟩
abbrev S4096x8192 : Shape := ⟨2, ![4096, 8192]⟩
abbrev S1x4096x2048 : Shape := ⟨3, ![1, 4096, 2048]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S8x128, .f32⟩
  | .hbm, ⟨3, _⟩ => ⟨S4096x2048, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S4x4096x2048, .f32⟩
  | .hbm, ⟨16, _⟩ => ⟨S4x4096x2048, .f32⟩
  | .hbm, ⟨17, _⟩ => ⟨S1x4096x2048, .f32⟩
  | .hbm, ⟨18, _⟩ => ⟨S4096x2048, .f32⟩
  | .hbm, ⟨19, _⟩ => ⟨S1x4096x2048, .f32⟩
  | .hbm, ⟨20, _⟩ => ⟨S4096x2048, .f32⟩
  | .hbm, ⟨21, _⟩ => ⟨S1x4096x2048, .f32⟩
  | .hbm, ⟨22, _⟩ => ⟨S4096x2048, .f32⟩
  | .hbm, ⟨23, _⟩ => ⟨S1x4096x2048, .f32⟩
  | .hbm, ⟨24, _⟩ => ⟨S4096x2048, .f32⟩
  | .hbm, ⟨25, _⟩ => ⟨S4096x8192, .f32⟩
  | .hbm, ⟨26, _⟩ => ⟨S8192x2048, .f32⟩
  | .hbm, ⟨27, _⟩ => ⟨S2048x8192, .f32⟩
  | .hbm, ⟨28, _⟩ => ⟨S2048x8x1024, .f32⟩
  | .hbm, ⟨29, _⟩ => ⟨S8x2048x1024, .f32⟩
  | .hbm, ⟨30, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== DHgIn.lean ====
abbrev S4x4096x2048 : Shape := ⟨3, ![4, 4096, 2048]⟩
abbrev S8x2048x1024 : Shape := ⟨3, ![8, 2048, 1024]⟩
abbrev S4096x2048 : Shape := ⟨2, ![4096, 2048]⟩
abbrev S8x128 : Shape := ⟨2, ![8, 128]⟩
abbrev S1x1024x2048 : Shape := ⟨3, ![1, 1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x2048, .bf16⟩
  | .hbm, ⟨1, _⟩ => ⟨S8x2048x1024, .bf16⟩
  | .hbm, ⟨2, _⟩ => ⟨S4096x2048, .f32⟩
  | .hbm, ⟨3, _⟩ => ⟨S8x128, .f32⟩
  | .hbm, ⟨4, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_13 : BitVec 32 := 3#32
  let v19 : BitVec 1 := Scalar.cmpi .eq arg2 c3_i32_13
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2048_i32_5 : BitVec 32 := 2048#32
  let v18 : BitVec 32 := Scalar.muli arg2 c2048_i32_5
  let c2048_i32_6 : BitVec 32 := 2048#32
  let c0_i32_7 : BitVec 32 := 0#32
  let v19 : BitVec 1 := Scalar.cmpi .eq c2048_i32_6 c0_i32_7
  let c1_i32_8 : BitVec 32 := 1#32
  let v20 : BitVec 32 := Scalar.select v19 c1_i32_8 c2048_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2048_i32_12 : BitVec 32 := 2048#32
  let v29 : BitVec 32 := Scalar.divsi v28 c2048_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2048_i32_12 c0_i32_15
  let v36 : BitVec 32 := Scalar.extui v35
  let c0_i32_16 : BitVec 32 := 0#32
  let v37 : BitVec 1 := Scalar.cmpi .slt c2048_i32_12 c0_i32_16
  let v38 : BitVec 32 := Scalar.extui v37
  let v39 : BitVec 32 := Scalar.subi v36 v38
  let v40 : BitVec 1 := Scalar.cmpi .ne v34 v39
  let v41 : BitVec 32 := Scalar.remsi v28 c2048_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHgInRefIdeal.lean ====
abbrev S4x4096x2048 : Shape := ⟨3, ![4, 4096, 2048]⟩
abbrev S8x2048x1024 : Shape := ⟨3, ![8, 2048, 1024]⟩
abbrev S4096x2048 : Shape := ⟨2, ![4096, 2048]⟩
abbrev S8x128 : Shape := ⟨2, ![8, 128]⟩
abbrev S2048x8x1024 : Shape := ⟨3, ![2048, 8, 1024]⟩
abbrev S2048x8192 : Shape := ⟨2, ![2048, 8192]⟩
abbrev S_ : Shape := ⟨0, ![]⟩
abbrev S4096x8192 : Shape := ⟨2, ![4096, 8192]⟩
abbrev S1x4096x2048 : Shape := ⟨3, ![1, 4096, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S8x2048x1024, .bf16⟩
  | .hbm, ⟨2, _⟩ => ⟨S4096x2048, .f32⟩
  | .hbm, ⟨3, _⟩ => ⟨S8x128, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S_, .f32⟩
  | .hbm, ⟨8, _⟩ => ⟨S4096x2048, .f32⟩
  | .hbm, ⟨9, _⟩ => ⟨S4096x8192, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S1x4096x2048, .f32⟩
  | .hbm, ⟨15, _⟩ => ⟨S1x4096x2048, .f32⟩
  | .hbm, ⟨16, _⟩ => ⟨S1x4096x2048, .f32⟩
  | .hbm, ⟨17, _⟩ => ⟨S1x4096x2048, .f32⟩
  | .hbm, ⟨18, _⟩ => ⟨S4x4096x2048, .f32⟩
  | .hbm, ⟨19, _⟩ => ⟨S4x4096x2048, .f32⟩
  | .hbm, ⟨20, _⟩ => ⟨S1x4096x2048, .f32⟩
  | .hbm, ⟨21, _⟩ => ⟨S4096x2048, .f32⟩
  | .hbm, ⟨22, _⟩ => ⟨S1x4096x2048, .f32⟩
  | .hbm, ⟨23, _⟩ => ⟨S4096x2048, .f32⟩
  | .hbm, ⟨24, _⟩ => ⟨S1x4096x2048, .f32⟩
  | .hbm, ⟨25, _⟩ => ⟨S4096x2048, .f32⟩
  | .hbm, ⟨26, _⟩ => ⟨S1x4096x2048, .f32⟩
  | .hbm, ⟨27, _⟩ => ⟨S4096x2048, .f32⟩
  | .hbm, ⟨28, _⟩ => ⟨S4096x8192, .f32⟩
  | .hbm, ⟨29, _⟩ => ⟨S4096x2048, .f32⟩
  | .hbm, ⟨30, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== HgIn.lean ====
abbrev S4096x2048 : Shape := ⟨2, ![4096, 2048]⟩
abbrev S8x2048x1024 : Shape := ⟨3, ![8, 2048, 1024]⟩
abbrev S4x4096x2048 : Shape := ⟨3, ![4, 4096, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4x4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S1x4096x2048 : Shape := ⟨3, ![1, 4096, 2048]⟩
abbrev S4x4096x2048 : Shape := ⟨3, ![4, 4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S4x4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg1 c1408_i32
  let c1408_i32_0 : BitVec 32 := 1408#32
  let v1 : BitVec 32 := Scalar.divsi v0 c1408_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1408_i32_0 c0_i32_2
  let v8 : BitVec 32 := Scalar.extui v7
  let c0_i32_3 : BitVec 32 := 0#32
  let v9 : BitVec 1 := Scalar.cmpi .slt c1408_i32_0 c0_i32_3
  let v10 : BitVec 32 := Scalar.extui v9
  let v11 : BitVec 32 := Scalar.subi v8 v10
  let v12 : BitVec 1 := Scalar.cmpi .ne v6 v11
  let v13 : BitVec 32 := Scalar.remsi v0 c1408_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1408_i32_5 : BitVec 32 := 1408#32
  let v18 : BitVec 32 := Scalar.muli arg1 c1408_i32_5
  let c1408_i32_6 : BitVec 32 := 1408#32
  let c0_i32_7 : BitVec 32 := 0#32
  let v19 : BitVec 1 := Scalar.cmpi .eq c1408_i32_6 c0_i32_7
  let c1_i32_8 : BitVec 32 := 1#32
  let v20 : BitVec 32 := Scalar.select v19 c1_i32_8 c1408_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1408_i32_12 : BitVec 32 := 1408#32
  let v29 : BitVec 32 := Scalar.divsi v28 c1408_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1408_i32_12 c0_i32_15
  let v36 : BitVec 32 := Scalar.extui v35
  let c0_i32_16 : BitVec 32 := 0#32
  let v37 : BitVec 1 := Scalar.cmpi .slt c1408_i32_12 c0_i32_16
  let v38 : BitVec 32 := Scalar.extui v37
  let v39 : BitVec 32 := Scalar.subi v36 v38
  let v40 : BitVec 1 := Scalar.cmpi .ne v34 v39
  let v41 : BitVec 32 := Scalar.remsi v28 c1408_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg1 c1408_i32
  let c5632_i32 : BitVec 32 := 5632#32
  let v1 : BitVec 32 := Scalar.divsi v0 c5632_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5632_i32 c0_i32_1
  let v8 : BitVec 32 := Scalar.extui v7
  let c0_i32_2 : BitVec 32 := 0#32
  let v9 : BitVec 1 := Scalar.cmpi .slt c5632_i32 c0_i32_2
  let v10 : BitVec 32 := Scalar.extui v9
  let v11 : BitVec 32 := Scalar.subi v8 v10
  let v12 : BitVec 1 := Scalar.cmpi .ne v6 v11
  let v13 : BitVec 32 := Scalar.remsi v0 c5632_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1408_i32_4 : BitVec 32 := 1408#32
  let v18 : BitVec 32 := Scalar.muli arg1 c1408_i32_4
  let c5632_i32_5 : BitVec 32 := 5632#32
  let c0_i32_6 : BitVec 32 := 0#32
  let v19 : BitVec 1 := Scalar.cmpi .eq c5632_i32_5 c0_i32_6
  let c1_i32_7 : BitVec 32 := 1#32
  let v20 : BitVec 32 := Scalar.select v19 c1_i32_7 c5632_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1408_i32_11 : BitVec 32 := 1408#32
  let v29 : BitVec 32 := Scalar.divsi v28 c1408_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1408_i32_11 c0_i32_14
  let v36 : BitVec 32 := Scalar.extui v35
  let c0_i32_15 : BitVec 32 := 0#32
  let v37 : BitVec 1 := Scalar.cmpi .slt c1408_i32_11 c0_i32_15
  let v38 : BitVec 32 := Scalar.extui v37
  let v39 : BitVec 32 := Scalar.subi v36 v38
  let v40 : BitVec 1 := Scalar.cmpi .ne v34 v39
  let v41 : BitVec 32 := Scalar.remsi v28 c1408_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | .hbm, ⟨12, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SgIn.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli arg1 c512_i32_5
  let c512_i32_6 : BitVec 32 := 512#32
  let c0_i32_7 : BitVec 32 := 0#32
  let v19 : BitVec 1 := Scalar.cmpi .eq c512_i32_6 c0_i32_7
  let c1_i32_8 : BitVec 32 := 1#32
  let v20 : BitVec 32 := Scalar.select v19 c1_i32_8 c512_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c512_i32_12 : BitVec 32 := 512#32
  let v29 : BitVec 32 := Scalar.divsi v28 c512_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c512_i32_12 c0_i32_15
  let v36 : BitVec 32 := Scalar.extui v35
  let c0_i32_16 : BitVec 32 := 0#32
  let v37 : BitVec 1 := Scalar.cmpi .slt c512_i32_12 c0_i32_16
  let v38 : BitVec 32 := Scalar.extui v37
  let v39 : BitVec 32 := Scalar.subi v36 v38
  let v40 : BitVec 1 := Scalar.cmpi .ne v34 v39
  let v41 : BitVec 32 := Scalar.remsi v28 c512_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgInRefIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamLb.lean ====
abbrev S3x2048 : Shape := ⟨2, ![3, 2048]⟩

abbrev nBuf : Space → Nat
  | .hbm => 8
  | .vmem => 8
  | .smem => 0
  | _ => 0

abbrev bufTy : (tb : Table) → Fin (tcTables nBuf tb) → BufTy
  | .hbm, ⟨0, _⟩ => ⟨S3x2048, .f32⟩
  | .hbm, ⟨1, _⟩ => ⟨S3x2048, .f32⟩
  | .hbm, ⟨2, _⟩ => ⟨S3x2048, .f32⟩
  | .hbm, ⟨3, _⟩ => ⟨S3x2048, .f32⟩
  | .hbm, ⟨4, _⟩ => ⟨S3x2048, .f32⟩
  | .hbm, ⟨5, _⟩ => ⟨S3x2048, .f32⟩
  | .hbm, ⟨6, _⟩ => ⟨S3x2048, .f32⟩
  | .hbm, ⟨7, _⟩ => ⟨S3x2048, .f32⟩
  | .local _ .vmem, ⟨0, _⟩ => ⟨S3x2048, .f32⟩
  | .local _ .vmem, ⟨1, _⟩ => ⟨S3x2048, .f32⟩
  | .local _ .vmem, ⟨2, _⟩ => ⟨S3x2048, .f32⟩
  | .local _ .vmem, ⟨3, _⟩ => ⟨S3x2048, .f32⟩
  | .local _ .vmem, ⟨4, _⟩ => ⟨S3x2048, .f32⟩
  | .local _ .vmem, ⟨5, _⟩ => ⟨S3x2048, .f32⟩
  | .local _ .vmem, ⟨6, _⟩ => ⟨S3x2048, .f32⟩
  | .local _ .vmem, ⟨7, _⟩ => ⟨S3x2048, .f32⟩
  | _, _ => ⟨S3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLbRefIdeal.lean ====
abbrev S3x2048 : Shape := ⟨2, ![3, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x2048, .f32⟩
  | .hbm, ⟨1, _⟩ => ⟨S3x2048, .f32⟩
  | .hbm, ⟨2, _⟩ => ⟨S3x2048, .f32⟩
  | .hbm, ⟨3, _⟩ => ⟨S3x2048, .f32⟩
  | .hbm, ⟨4, _⟩ => ⟨S_, .f32⟩
  | .hbm, ⟨5, _⟩ => ⟨S3x2048, .f32⟩
  | .hbm, ⟨6, _⟩ => ⟨S3x2048, .f32⟩
  | .hbm, ⟨7, _⟩ => ⟨S_, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S_, .f32⟩
  | .hbm, ⟨12, _⟩ => ⟨S3x2048, .f32⟩
  | .hbm, ⟨13, _⟩ => ⟨S3x2048, .f32⟩
  | .hbm, ⟨14, _⟩ => ⟨S3x2048, .f32⟩
  | .hbm, ⟨15, _⟩ => ⟨S_, .f32⟩
  | .hbm, ⟨16, _⟩ => ⟨S3x2048, .f32⟩
  | .hbm, ⟨17, _⟩ => ⟨S3x2048, .f32⟩
  | .hbm, ⟨18, _⟩ => ⟨S3x2048, .f32⟩
  | .hbm, ⟨19, _⟩ => ⟨S_, .f32⟩
  | .hbm, ⟨20, _⟩ => ⟨S3x2048, .f32⟩
  | .hbm, ⟨21, _⟩ => ⟨S3x2048, .f32⟩
  | .hbm, ⟨22, _⟩ => ⟨S_, .f32⟩
  | .hbm, ⟨23, _⟩ => ⟨S3x2048, .f32⟩
  | .hbm, ⟨24, _⟩ => ⟨S3x2048, .f32⟩
  | .hbm, ⟨25, _⟩ => ⟨S3x2048, .f32⟩
  | .hbm, ⟨26, _⟩ => ⟨S_, .f32⟩
  | .hbm, ⟨27, _⟩ => ⟨S3x2048, .f32⟩
  | .hbm, ⟨28, _⟩ => ⟨S3x2048, .f32⟩
  | .hbm, ⟨29, _⟩ => ⟨S3x2048, .f32⟩
  | .hbm, ⟨30, _⟩ => ⟨S_, .f32⟩
  | .hbm, ⟨31, _⟩ => ⟨S3x2048, .f32⟩
  | .hbm, ⟨32, _⟩ => ⟨S3x2048, .f32⟩
  | .hbm, ⟨33, _⟩ => ⟨S3x2048, .f32⟩
  | .hbm, ⟨34, _⟩ => ⟨S_, .f32⟩
  | .hbm, ⟨35, _⟩ => ⟨S3x2048, .f32⟩
  | .hbm, ⟨36, _⟩ => ⟨S3x2048, .f32⟩
  | _, _ => ⟨S3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSgLn.lean ====
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSgLnRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSgWs.lean ====
abbrev S1x16x128x128 : Shape := ⟨4, ![1, 16, 128, 128]⟩
abbrev S2048x128 : Shape := ⟨2, ![2048, 128]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S1x16x128x128, .f32⟩
  | .hbm, ⟨1, _⟩ => ⟨S1x16x128x128, .f32⟩
  | .hbm, ⟨2, _⟩ => ⟨S1x16x128x128, .f32⟩
  | .hbm, ⟨3, _⟩ => ⟨S1x16x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSgWsRefIdeal.lean ====
abbrev S1x16x128x128 : Shape := ⟨4, ![1, 16, 128, 128]⟩
abbrev S_ : Shape := ⟨0, ![]⟩
abbrev S2048x128 : Shape := ⟨2, ![2048, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x16x128x128, .f32⟩
  | .hbm, ⟨1, _⟩ => ⟨S1x16x128x128, .f32⟩
  | .hbm, ⟨2, _⟩ => ⟨S1x16x128x128, .f32⟩
  | .hbm, ⟨3, _⟩ => ⟨S1x16x128x128, .f32⟩
  | .hbm, ⟨4, _⟩ => ⟨S_, .f32⟩
  | .hbm, ⟨5, _⟩ => ⟨S1x16x128x128, .f32⟩
  | .hbm, ⟨6, _⟩ => ⟨S1x16x128x128, .f32⟩
  | .hbm, ⟨7, _⟩ => ⟨S_, .f32⟩
  | .hbm, ⟨8, _⟩ => ⟨S1x16x128x128, .f32⟩
  | .hbm, ⟨9, _⟩ => ⟨S1x16x128x128, .f32⟩
  | .hbm, ⟨10, _⟩ => ⟨S1x16x128x128, .f32⟩
  | .hbm, ⟨11, _⟩ => ⟨S_, .f32⟩
  | .hbm, ⟨12, _⟩ => ⟨S1x16x128x128, .f32⟩
  | .hbm, ⟨13, _⟩ => ⟨S1x16x128x128, .f32⟩
  | .hbm, ⟨14, _⟩ => ⟨S1x16x128x128, .f32⟩
  | .hbm, ⟨15, _⟩ => ⟨S_, .f32⟩
  | .hbm, ⟨16, _⟩ => ⟨S1x16x128x128, .f32⟩
  | .hbm, ⟨17, _⟩ => ⟨S1x16x128x128, .f32⟩
  | .hbm, ⟨18, _⟩ => ⟨S1x16x128x128, .f32⟩
  | .hbm, ⟨19, _⟩ => ⟨S_, .f32⟩
  | .hbm, ⟨20, _⟩ => ⟨S1x16x128x128, .f32⟩
  | .hbm, ⟨21, _⟩ => ⟨S1x16x128x128, .f32⟩
  | .hbm, ⟨22, _⟩ => ⟨S_, .f32⟩
  | .hbm, ⟨23, _⟩ => ⟨S1x16x128x128, .f32⟩
  | .hbm, ⟨24, _⟩ => ⟨S1x16x128x128, .f32⟩
  | .hbm, ⟨25, _⟩ => ⟨S1x16x128x128, .f32⟩
  | .hbm, ⟨26, _⟩ => ⟨S_, .f32⟩
  | .hbm, ⟨27, _⟩ => ⟨S1x16x128x128, .f32⟩
  | .hbm, ⟨28, _⟩ => ⟨S1x16x128x128, .f32⟩
  | .hbm, ⟨29, _⟩ => ⟨S1x16x128x128, .f32⟩
  | .hbm, ⟨30, _⟩ => ⟨S_, .f32⟩
  | .hbm, ⟨31, _⟩ => ⟨S1x16x128x128, .f32⟩
  | .hbm, ⟨32, _⟩ => ⟨S1x16x128x128, .f32⟩
  | .hbm, ⟨33, _⟩ => ⟨S1x16x128x128, .f32⟩
  | .hbm, ⟨34, _⟩ => ⟨S_, .f32⟩
  | .hbm, ⟨35, _⟩ => ⟨S1x16x128x128, .f32⟩
  | .hbm, ⟨36, _⟩ => ⟨S1x16x128x128, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S2048x128, .f32⟩
  | _, _ => ⟨S1x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamSgBs.lean ====
abbrev S1x16x128 : Shape := ⟨3, ![1, 16, 128]⟩
abbrev S16x128 : Shape := ⟨2, ![16, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSgBsRefIdeal.lean ====
abbrev S1x16x128 : Shape := ⟨3, ![1, 16, 128]⟩
abbrev S_ : Shape := ⟨0, ![]⟩
abbrev S16x128 : Shape := ⟨2, ![16, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S_, .f32⟩
  | .hbm, ⟨5, _⟩ => ⟨S1x16x128, .f32⟩
  | .hbm, ⟨6, _⟩ => ⟨S1x16x128, .f32⟩
  | .hbm, ⟨7, _⟩ => ⟨S_, .f32⟩
  | .hbm, ⟨8, _⟩ => ⟨S1x16x128, .f32⟩
  | .hbm, ⟨9, _⟩ => ⟨S1x16x128, .f32⟩
  | .hbm, ⟨10, _⟩ => ⟨S1x16x128, .f32⟩
  | .hbm, ⟨11, _⟩ => ⟨S_, .f32⟩
  | .hbm, ⟨12, _⟩ => ⟨S1x16x128, .f32⟩
  | .hbm, ⟨13, _⟩ => ⟨S1x16x128, .f32⟩
  | .hbm, ⟨14, _⟩ => ⟨S1x16x128, .f32⟩
  | .hbm, ⟨15, _⟩ => ⟨S_, .f32⟩
  | .hbm, ⟨16, _⟩ => ⟨S1x16x128, .f32⟩
  | .hbm, ⟨17, _⟩ => ⟨S1x16x128, .f32⟩
  | .hbm, ⟨18, _⟩ => ⟨S1x16x128, .f32⟩
  | .hbm, ⟨19, _⟩ => ⟨S_, .f32⟩
  | .hbm, ⟨20, _⟩ => ⟨S1x16x128, .f32⟩
  | .hbm, ⟨21, _⟩ => ⟨S1x16x128, .f32⟩
  | .hbm, ⟨22, _⟩ => ⟨S_, .f32⟩
  | .hbm, ⟨23, _⟩ => ⟨S1x16x128, .f32⟩
  | .hbm, ⟨24, _⟩ => ⟨S1x16x128, .f32⟩
  | .hbm, ⟨25, _⟩ => ⟨S1x16x128, .f32⟩
  | .hbm, ⟨26, _⟩ => ⟨S_, .f32⟩
  | .hbm, ⟨27, _⟩ => ⟨S1x16x128, .f32⟩
  | .hbm, ⟨28, _⟩ => ⟨S1x16x128, .f32⟩
  | .hbm, ⟨29, _⟩ => ⟨S1x16x128, .f32⟩
  | .hbm, ⟨30, _⟩ => ⟨S_, .f32⟩
  | .hbm, ⟨31, _⟩ => ⟨S1x16x128, .f32⟩
  | .hbm, ⟨32, _⟩ => ⟨S1x16x128, .f32⟩
  | .hbm, ⟨33, _⟩ => ⟨S1x16x128, .f32⟩
  | .hbm, ⟨34, _⟩ => ⟨S_, .f32⟩
  | .hbm, ⟨35, _⟩ => ⟨S1x16x128, .f32⟩
  | .hbm, ⟨36, _⟩ => ⟨S1x16x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | _, _ => ⟨S1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamConvW.lean ====
abbrev S2x3x704 : Shape := ⟨3, ![2, 3, 704]⟩
abbrev S33x128 : Shape := ⟨2, ![33, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S33x128, .f32⟩
  | .hbm, ⟨5, _⟩ => ⟨S33x128, .f32⟩
  | .hbm, ⟨6, _⟩ => ⟨S33x128, .f32⟩
  | .hbm, ⟨7, _⟩ => ⟨S33x128, .f32⟩
  | .hbm, ⟨8, _⟩ => ⟨S33x128, .f32⟩
  | .hbm, ⟨9, _⟩ => ⟨S33x128, .f32⟩
  | .hbm, ⟨10, _⟩ => ⟨S33x128, .f32⟩
  | .hbm, ⟨11, _⟩ => ⟨S33x128, .f32⟩
  | .local _ .vmem, ⟨0, _⟩ => ⟨S33x128, .f32⟩
  | .local _ .vmem, ⟨1, _⟩ => ⟨S33x128, .f32⟩
  | .local _ .vmem, ⟨2, _⟩ => ⟨S33x128, .f32⟩
  | .local _ .vmem, ⟨3, _⟩ => ⟨S33x128, .f32⟩
  | .local _ .vmem, ⟨4, _⟩ => ⟨S33x128, .f32⟩
  | .local _ .vmem, ⟨5, _⟩ => ⟨S33x128, .f32⟩
  | .local _ .vmem, ⟨6, _⟩ => ⟨S33x128, .f32⟩
  | .local _ .vmem, ⟨7, _⟩ => ⟨S33x128, .f32⟩
  | _, _ => ⟨S2x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S33x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S33x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S33x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S33x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S33x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S33x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S33x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S33x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvWRefIdeal.lean ====
abbrev S2x3x704 : Shape := ⟨3, ![2, 3, 704]⟩
abbrev S_ : Shape := ⟨0, ![]⟩
abbrev S33x128 : Shape := ⟨2, ![33, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S_, .f32⟩
  | .hbm, ⟨5, _⟩ => ⟨S2x3x704, .f32⟩
  | .hbm, ⟨6, _⟩ => ⟨S2x3x704, .f32⟩
  | .hbm, ⟨7, _⟩ => ⟨S_, .f32⟩
  | .hbm, ⟨8, _⟩ => ⟨S2x3x704, .f32⟩
  | .hbm, ⟨9, _⟩ => ⟨S2x3x704, .f32⟩
  | .hbm, ⟨10, _⟩ => ⟨S2x3x704, .f32⟩
  | .hbm, ⟨11, _⟩ => ⟨S_, .f32⟩
  | .hbm, ⟨12, _⟩ => ⟨S2x3x704, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S_, .f32⟩
  | .hbm, ⟨23, _⟩ => ⟨S2x3x704, .f32⟩
  | .hbm, ⟨24, _⟩ => ⟨S2x3x704, .f32⟩
  | .hbm, ⟨25, _⟩ => ⟨S2x3x704, .f32⟩
  | .hbm, ⟨26, _⟩ => ⟨S_, .f32⟩
  | .hbm, ⟨27, _⟩ => ⟨S2x3x704, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S33x128, .f32⟩
  | .hbm, ⟨38, _⟩ => ⟨S33x128, .f32⟩
  | .hbm, ⟨39, _⟩ => ⟨S33x128, .f32⟩
  | .hbm, ⟨40, _⟩ => ⟨S33x128, .f32⟩
  | _, _ => ⟨S2x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamConvB.lean ====
abbrev S2x5632 : Shape := ⟨2, ![2, 5632]⟩

abbrev nBuf : Space → Nat
  | .hbm => 8
  | .vmem => 8
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .hbm, ⟨7, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | .local _ .vmem, ⟨7, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvBRefIdeal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLn.lean ====
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | .local _ .vmem, ⟨7, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLnRefIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHgIn.lean ====
abbrev S2048x1024 : Shape := ⟨2, ![2048, 1024]⟩
abbrev S8x2048x1024 : Shape := ⟨3, ![8, 2048, 1024]⟩
abbrev S8 : Shape := ⟨1, ![8]⟩
abbrev S256x1024 : Shape := ⟨2, ![256, 1024]⟩
abbrev S8x256x1024 : Shape := ⟨3, ![8, 256, 1024]⟩
abbrev S1 : Shape := ⟨1, ![1]⟩
abbrev S1x256x1024 : Shape := ⟨3, ![1, 256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S2048x1024, .bf16⟩
  | .hbm, ⟨5, _⟩ => ⟨S8, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamHgInRefIdeal.lean ====
abbrev S2048x1024 : Shape := ⟨2, ![2048, 1024]⟩
abbrev S8x2048x1024 : Shape := ⟨3, ![8, 2048, 1024]⟩
abbrev S8 : Shape := ⟨1, ![8]⟩
abbrev S8x1x1 : Shape := ⟨3, ![8, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x2048x1024, .bf16⟩
  | .hbm, ⟨4, _⟩ => ⟨S2048x1024, .bf16⟩
  | .hbm, ⟨5, _⟩ => ⟨S8, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .i1⟩
  | .hbm, ⟨10, _⟩ => ⟨S2048x1024, .f32⟩
  | .hbm, ⟨11, _⟩ => ⟨S8x2048x1024, .f32⟩
  | .hbm, ⟨12, _⟩ => ⟨S8x2048x1024, .i1⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamOut.lean ====
abbrev S256x2048 : Shape := ⟨2, ![256, 2048]⟩
abbrev S8x256x2048 : Shape := ⟨3, ![8, 256, 2048]⟩
abbrev S8 : Shape := ⟨1, ![8]⟩
abbrev S1 : Shape := ⟨1, ![1]⟩
abbrev S1x256x2048 : Shape := ⟨3, ![1, 256, 2048]⟩

abbrev nBuf : Space → Nat
  | .hbm => 10
  | .vmem => 9
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .bf16⟩
  | .hbm, ⟨5, _⟩ => ⟨S8, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S256x2048, .f32⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .smem, ⟨0, _⟩ => ⟨S8, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamOutRefIdeal.lean ====
abbrev S256x2048 : Shape := ⟨2, ![256, 2048]⟩
abbrev S8x256x2048 : Shape := ⟨3, ![8, 256, 2048]⟩
abbrev S8 : Shape := ⟨1, ![8]⟩
abbrev S8x1x1 : Shape := ⟨3, ![8, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .bf16⟩
  | .hbm, ⟨5, _⟩ => ⟨S8, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .i1⟩
  | .hbm, ⟨10, _⟩ => ⟨S256x2048, .f32⟩
  | .hbm, ⟨11, _⟩ => ⟨S8x256x2048, .f32⟩
  | .hbm, ⟨12, _⟩ => ⟨S8x256x2048, .i1⟩
  | .hbm, ⟨13, _⟩ => ⟨S8x256x2048, .f32⟩
  | .hbm, ⟨14, _⟩ => ⟨S8x256x2048, .f32⟩
  | .hbm, ⟨15, _⟩ => ⟨S_, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamSgIn.lean ====
abbrev S2048x512 : Shape := ⟨2, ![2048, 512]⟩
abbrev S8x2048x512 : Shape := ⟨3, ![8, 2048, 512]⟩
abbrev S8 : Shape := ⟨1, ![8]⟩
abbrev S256x512 : Shape := ⟨2, ![256, 512]⟩
abbrev S8x256x512 : Shape := ⟨3, ![8, 256, 512]⟩
abbrev S1 : Shape := ⟨1, ![1]⟩
abbrev S1x256x512 : Shape := ⟨3, ![1, 256, 512]⟩

abbrev nBuf : Space → Nat
  | .hbm => 10
  | .vmem => 18
  | .smem => 1
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .bf16⟩
  | .hbm, ⟨5, _⟩ => ⟨S8, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S8, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamSgInRefIdeal.lean ====
abbrev S2048x512 : Shape := ⟨2, ![2048, 512]⟩
abbrev S8x2048x512 : Shape := ⟨3, ![8, 2048, 512]⟩
abbrev S8 : Shape := ⟨1, ![8]⟩
abbrev S8x1x1 : Shape := ⟨3, ![8, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .bf16⟩
  | .hbm, ⟨5, _⟩ => ⟨S8, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .i1⟩
  | .hbm, ⟨10, _⟩ => ⟨S2048x512, .f32⟩
  | .hbm, ⟨11, _⟩ => ⟨S8x2048x512, .f32⟩
  | .hbm, ⟨12, _⟩ => ⟨S8x2048x512, .i1⟩
  | .hbm, ⟨13, _⟩ => ⟨S8x2048x512, .f32⟩
  | .hbm, ⟨14, _⟩ => ⟨S8x2048x512, .f32⟩
  | .hbm, ⟨15, _⟩ => ⟨S_, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamUp.lean ====
abbrev S2x2048x1408 : Shape := ⟨3, ![2, 2048, 1408]⟩
abbrev S8x2048x1408 : Shape := ⟨3, ![8, 2048, 1408]⟩
abbrev S2048x1408 : Shape := ⟨2, ![2048, 1408]⟩
abbrev S8 : Shape := ⟨1, ![8]⟩
abbrev S1x256x1408 : Shape := ⟨3, ![1, 256, 1408]⟩
abbrev S8x256x1408 : Shape := ⟨3, ![8, 256, 1408]⟩
abbrev S256x1408 : Shape := ⟨2, ![256, 1408]⟩
abbrev S1 : Shape := ⟨1, ![1]⟩

abbrev nBuf : Space → Nat
  | .hbm => 14
  | .vmem => 18
  | .smem => 1
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S8x2048x1408, .bf16⟩
  | .hbm, ⟨4, _⟩ => ⟨S2048x1408, .bf16⟩
  | .hbm, ⟨5, _⟩ => ⟨S8, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S8x256x1408, .bf16⟩
  | .local _ .vmem, ⟨3, _⟩ => ⟨S8x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S256x1408, .bf16⟩
  | .local _ .vmem, ⟨9, _⟩ => ⟨S256x1408, .bf16⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S8, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamUpRefIdeal.lean ====
abbrev S2x2048x1408 : Shape := ⟨3, ![2, 2048, 1408]⟩
abbrev S8x2048x1408 : Shape := ⟨3, ![8, 2048, 1408]⟩
abbrev S2048x1408 : Shape := ⟨2, ![2048, 1408]⟩
abbrev S8 : Shape := ⟨1, ![8]⟩
abbrev S1x2048x1408 : Shape := ⟨3, ![1, 2048, 1408]⟩
abbrev S8x1x1 : Shape := ⟨3, ![8, 1, 1]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S8x2048x1408, .bf16⟩
  | .hbm, ⟨4, _⟩ => ⟨S2048x1408, .bf16⟩
  | .hbm, ⟨5, _⟩ => ⟨S8, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S1x2048x1408, .f32⟩
  | .hbm, ⟨11, _⟩ => ⟨S2048x1408, .f32⟩
  | .hbm, ⟨12, _⟩ => ⟨S8x1x1, .f32⟩
  | .hbm, ⟨13, _⟩ => ⟨S_, .f32⟩
  | .hbm, ⟨14, _⟩ => ⟨S8x1x1, .f32⟩
  | .hbm, ⟨15, _⟩ => ⟨S8x1x1, .i1⟩
  | .hbm, ⟨16, _⟩ => ⟨S2048x1408, .f32⟩
  | .hbm, ⟨17, _⟩ => ⟨S8x2048x1408, .f32⟩
  | .hbm, ⟨18, _⟩ => ⟨S8x2048x1408, .i1⟩
  | .hbm, ⟨19, _⟩ => ⟨S8x2048x1408, .f32⟩
  | .hbm, ⟨20, _⟩ => ⟨S8x2048x1408, .f32⟩
  | .hbm, ⟨21, _⟩ => ⟨S_, .f32⟩
  | .hbm, ⟨22, _⟩ => ⟨S2048x1408, .f32⟩
  | .hbm, ⟨23, _⟩ => ⟨S1x2048x1408, .f32⟩
  | .hbm, ⟨24, _⟩ => ⟨S2048x1408, .f32⟩
  | .hbm, ⟨25, _⟩ => ⟨S1x2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S2048x1408, .f32⟩
  | .hbm, ⟨42, _⟩ => ⟨S_, .f32⟩
  | .hbm, ⟨43, _⟩ => ⟨S2048x1408, .f32⟩
  | .hbm, ⟨44, _⟩ => ⟨S2048x1408, .f32⟩
  | .hbm, ⟨45, _⟩ => ⟨S_, .f32⟩
  | .hbm, ⟨46, _⟩ => ⟨S2048x1408, .f32⟩
  | .hbm, ⟨47, _⟩ => ⟨S2048x1408, .f32⟩
  | .hbm, ⟨48, _⟩ => ⟨S2048x1408, .f32⟩
  | .hbm, ⟨49, _⟩ => ⟨S_, .f32⟩
  | .hbm, ⟨50, _⟩ => ⟨S2048x1408, .f32⟩
  | .hbm, ⟨51, _⟩ => ⟨S2048x1408, .f32⟩
  | .hbm, ⟨52, _⟩ => ⟨S2048x1408, .f32⟩
  | .hbm, ⟨53, _⟩ => ⟨S_, .f32⟩
  | .hbm, ⟨54, _⟩ => ⟨S2048x1408, .f32⟩
  | .hbm, ⟨55, _⟩ => ⟨S2048x1408, .f32⟩
  | .hbm, ⟨56, _⟩ => ⟨S2048x1408, .f32⟩
  | .hbm, ⟨57, _⟩ => ⟨S_, .f32⟩
  | .hbm, ⟨58, _⟩ => ⟨S2048x1408, .f32⟩
  | .hbm, ⟨59, _⟩ => ⟨S2048x1408, .f32⟩
  | .hbm, ⟨60, _⟩ => ⟨S1x2048x1408, .f32⟩
  | .hbm, ⟨61, _⟩ => ⟨S2048x1408, .f32⟩
  | .hbm, ⟨62, _⟩ => ⟨S1x2048x1408, .f32⟩
  | .hbm, ⟨63, _⟩ => ⟨S1x2048x1408, .f32⟩
  | .hbm, ⟨64, _⟩ => ⟨S2x2048x1408, .f32⟩
  | .hbm, ⟨65, _⟩ => ⟨S1x2048x1408, .f32⟩
  | .hbm, ⟨66, _⟩ => ⟨S2048x1408, .f32⟩
  | .hbm, ⟨67, _⟩ => ⟨S1x2048x1408, .f32⟩
  | .hbm, ⟨68, _⟩ => ⟨S1x2048x1408, .f32⟩
  | .hbm, ⟨69, _⟩ => ⟨S2x2048x1408, .f32⟩
  | .hbm, ⟨70, _⟩ => ⟨S1x2048x1408, .f32⟩
  | .hbm, ⟨71, _⟩ => ⟨S2048x1408, .f32⟩
  | .hbm, ⟨72, _⟩ => ⟨S1x2048x1408, .f32⟩
  | .hbm, ⟨73, _⟩ => ⟨S1x2048x1408, .f32⟩
  | .hbm, ⟨74, _⟩ => ⟨S2x2048x1408, .f32⟩
  | .hbm, ⟨75, _⟩ => ⟨S1x2048x1408, .f32⟩
  | .hbm, ⟨76, _⟩ => ⟨S2048x1408, .f32⟩
  | .hbm, ⟨77, _⟩ => ⟨S1x2048x1408, .f32⟩
  | .hbm, ⟨78, _⟩ => ⟨S1x2048x1408, .f32⟩
  | .hbm, ⟨79, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== AdamDown.lean ====
abbrev S2x704x2048 : Shape := ⟨3, ![2, 704, 2048]⟩
abbrev S8x704x2048 : Shape := ⟨3, ![8, 704, 2048]⟩
abbrev S704x2048 : Shape := ⟨2, ![704, 2048]⟩
abbrev S8 : Shape := ⟨1, ![8]⟩
abbrev S1x176x2048 : Shape := ⟨3, ![1, 176, 2048]⟩
abbrev S8x176x2048 : Shape := ⟨3, ![8, 176, 2048]⟩
abbrev S176x2048 : Shape := ⟨2, ![176, 2048]⟩
abbrev S1 : Shape := ⟨1, ![1]⟩

abbrev nBuf : Space → Nat
  | .hbm => 14
  | .vmem => 18
  | .smem => 1
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S8x704x2048, .bf16⟩
  | .hbm, ⟨4, _⟩ => ⟨S704x2048, .bf16⟩
  | .hbm, ⟨5, _⟩ => ⟨S8, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .hbm, ⟨13, _⟩ => ⟨S2x704x2048, .f32⟩
  | .local _ .vmem, ⟨0, _⟩ => ⟨S1x176x2048, .f32⟩
  | .local _ .vmem, ⟨1, _⟩ => ⟨S1x176x2048, .f32⟩
  | .local _ .vmem, ⟨2, _⟩ => ⟨S8x176x2048, .bf16⟩
  | .local _ .vmem, ⟨3, _⟩ => ⟨S8x176x2048, .bf16⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S176x2048, .bf16⟩
  | .local _ .vmem, ⟨9, _⟩ => ⟨S176x2048, .bf16⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .smem, ⟨0, _⟩ => ⟨S8, .f32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamDownRefIdeal.lean ====
abbrev S2x704x2048 : Shape := ⟨3, ![2, 704, 2048]⟩
abbrev S8x704x2048 : Shape := ⟨3, ![8, 704, 2048]⟩
abbrev S704x2048 : Shape := ⟨2, ![704, 2048]⟩
abbrev S8 : Shape := ⟨1, ![8]⟩
abbrev S1x704x2048 : Shape := ⟨3, ![1, 704, 2048]⟩
abbrev S8x1x1 : Shape := ⟨3, ![8, 1, 1]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S8x704x2048, .bf16⟩
  | .hbm, ⟨4, _⟩ => ⟨S704x2048, .bf16⟩
  | .hbm, ⟨5, _⟩ => ⟨S8, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S1x704x2048, .f32⟩
  | .hbm, ⟨11, _⟩ => ⟨S704x2048, .f32⟩
  | .hbm, ⟨12, _⟩ => ⟨S8x1x1, .f32⟩
  | .hbm, ⟨13, _⟩ => ⟨S_, .f32⟩
  | .hbm, ⟨14, _⟩ => ⟨S8x1x1, .f32⟩
  | .hbm, ⟨15, _⟩ => ⟨S8x1x1, .i1⟩
  | .hbm, ⟨16, _⟩ => ⟨S704x2048, .f32⟩
  | .hbm, ⟨17, _⟩ => ⟨S8x704x2048, .f32⟩
  | .hbm, ⟨18, _⟩ => ⟨S8x704x2048, .i1⟩
  | .hbm, ⟨19, _⟩ => ⟨S8x704x2048, .f32⟩
  | .hbm, ⟨20, _⟩ => ⟨S8x704x2048, .f32⟩
  | .hbm, ⟨21, _⟩ => ⟨S_, .f32⟩
  | .hbm, ⟨22, _⟩ => ⟨S704x2048, .f32⟩
  | .hbm, ⟨23, _⟩ => ⟨S1x704x2048, .f32⟩
  | .hbm, ⟨24, _⟩ => ⟨S704x2048, .f32⟩
  | .hbm, ⟨25, _⟩ => ⟨S1x704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | .hbm, ⟨45, _⟩ => ⟨S_, .f32⟩
  | .hbm, ⟨46, _⟩ => ⟨S704x2048, .f32⟩
  | .hbm, ⟨47, _⟩ => ⟨S704x2048, .f32⟩
  | .hbm, ⟨48, _⟩ => ⟨S704x2048, .f32⟩
  | .hbm, ⟨49, _⟩ => ⟨S_, .f32⟩
  | .hbm, ⟨50, _⟩ => ⟨S704x2048, .f32⟩
  | .hbm, ⟨51, _⟩ => ⟨S704x2048, .f32⟩
  | .hbm, ⟨52, _⟩ => ⟨S704x2048, .f32⟩
  | .hbm, ⟨53, _⟩ => ⟨S_, .f32⟩
  | .hbm, ⟨54, _⟩ => ⟨S704x2048, .f32⟩
  | .hbm, ⟨55, _⟩ => ⟨S704x2048, .f32⟩
  | .hbm, ⟨56, _⟩ => ⟨S704x2048, .f32⟩
  | .hbm, ⟨57, _⟩ => ⟨S_, .f32⟩
  | .hbm, ⟨58, _⟩ => ⟨S704x2048, .f32⟩
  | .hbm, ⟨59, _⟩ => ⟨S704x2048, .f32⟩
  | .hbm, ⟨60, _⟩ => ⟨S1x704x2048, .f32⟩
  | .hbm, ⟨61, _⟩ => ⟨S704x2048, .f32⟩
  | .hbm, ⟨62, _⟩ => ⟨S1x704x2048, .f32⟩
  | .hbm, ⟨63, _⟩ => ⟨S1x704x2048, .f32⟩
  | .hbm, ⟨64, _⟩ => ⟨S2x704x2048, .f32⟩
  | .hbm, ⟨65, _⟩ => ⟨S1x704x2048, .f32⟩
  | .hbm, ⟨66, _⟩ => ⟨S704x2048, .f32⟩
  | .hbm, ⟨67, _⟩ => ⟨S1x704x2048, .f32⟩
  | .hbm, ⟨68, _⟩ => ⟨S1x704x2048, .f32⟩
  | .hbm, ⟨69, _⟩ => ⟨S2x704x2048, .f32⟩
  | .hbm, ⟨70, _⟩ => ⟨S1x704x2048, .f32⟩
  | .hbm, ⟨71, _⟩ => ⟨S704x2048, .f32⟩
  | .hbm, ⟨72, _⟩ => ⟨S1x704x2048, .f32⟩
  | .hbm, ⟨73, _⟩ => ⟨S1x704x2048, .f32⟩
  | .hbm, ⟨74, _⟩ => ⟨S2x704x2048, .f32⟩
  | .hbm, ⟨75, _⟩ => ⟨S1x704x2048, .f32⟩
  | .hbm, ⟨76, _⟩ => ⟨S704x2048, .f32⟩
  | .hbm, ⟨77, _⟩ => ⟨S1x704x2048, .f32⟩
  | .hbm, ⟨78, _⟩ => ⟨S1x704x2048, .f32⟩
  | .hbm, ⟨79, _⟩ => ⟨S2x704x2048, .f32⟩
  | _, _ => ⟨S2x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== LnFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== FfnFwd.lean ====
abbrev S2x4096x5632 : Shape := ⟨3, ![2, 4096, 5632]⟩
abbrev S3x5632 : Shape := ⟨2, ![3, 5632]⟩
abbrev S1x5632 : Shape := ⟨2, ![1, 5632]⟩
abbrev S4096x5632 : Shape := ⟨2, ![4096, 5632]⟩
abbrev S2x1024x1408 : Shape := ⟨3, ![2, 1024, 1408]⟩
abbrev S1x16x1408 : Shape := ⟨3, ![1, 16, 1408]⟩
abbrev S3x1408 : Shape := ⟨2, ![3, 1408]⟩
abbrev S1x1408 : Shape := ⟨2, ![1, 1408]⟩
abbrev S1024x1408 : Shape := ⟨2, ![1024, 1408]⟩
abbrev S16x1408 : Shape := ⟨2, ![16, 1408]⟩
abbrev S1x1024x1408 : Shape := ⟨3, ![1, 1024, 1408]⟩
abbrev S1040x1408 : Shape := ⟨2, ![1040, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2x4096x5632, .bf16⟩
  | .hbm, ⟨1, _⟩ => ⟨S3x5632, .f32⟩
  | .hbm, ⟨2, _⟩ => ⟨S1x5632, .f32⟩
  | .hbm, ⟨3, _⟩ => ⟨S4096x5632, .bf16⟩
  | .local _ .vmem, ⟨0, _⟩ => ⟨S2x1024x1408, .bf16⟩
  | .local _ .vmem, ⟨1, _⟩ => ⟨S2x1024x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S3x1408, .f32⟩
  | .local _ .vmem, ⟨5, _⟩ => ⟨S3x1408, .f32⟩
  | .local _ .vmem, ⟨6, _⟩ => ⟨S1x1408, .f32⟩
  | .local _ .vmem, ⟨7, _⟩ => ⟨S1x1408, .f32⟩
  | .local _ .vmem, ⟨8, _⟩ => ⟨S1024x1408, .bf16⟩
  | .local _ .vmem, ⟨9, _⟩ => ⟨S1024x1408, .bf16⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnFwdRefIdeal.lean ====
abbrev S2x4096x5632 : Shape := ⟨3, ![2, 4096, 5632]⟩
abbrev S3x5632 : Shape := ⟨2, ![3, 5632]⟩
abbrev S1x5632 : Shape := ⟨2, ![1, 5632]⟩
abbrev S1x4096x5632 : Shape := ⟨3, ![1, 4096, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S3x5632, .f32⟩
  | .hbm, ⟨2, _⟩ => ⟨S1x5632, .f32⟩
  | .hbm, ⟨3, _⟩ => ⟨S2x4096x5632, .f32⟩
  | .hbm, ⟨4, _⟩ => ⟨S1x4096x5632, .f32⟩
  | .hbm, ⟨5, _⟩ => ⟨S4096x5632, .f32⟩
  | .hbm, ⟨6, _⟩ => ⟨S1x4096x5632, .f32⟩
  | .hbm, ⟨7, _⟩ => ⟨S4096x5632, .f32⟩
  | .hbm, ⟨8, _⟩ => ⟨S_, .f32⟩
  | .hbm, ⟨9, _⟩ => ⟨S2x5632, .f32⟩
  | .hbm, ⟨10, _⟩ => ⟨S4098x5632, .f32⟩
  | .hbm, ⟨11, _⟩ => ⟨S1x5632, .f32⟩
  | .hbm, ⟨12, _⟩ => ⟨S5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S5632, .f32⟩
  | .hbm, ⟨35, _⟩ => ⟨S1x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S4096x5632, .f32⟩
  | .hbm, ⟨42, _⟩ => ⟨S4096x5632, .f32⟩
  | .hbm, ⟨43, _⟩ => ⟨S_, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== SumSmall.lean ====
abbrev S8x3x2048 : Shape := ⟨3, ![8, 3, 2048]⟩
abbrev S8x1x2048 : Shape := ⟨3, ![8, 1, 2048]⟩
abbrev S8x16x128x128 : Shape := ⟨4, ![8, 16, 128, 128]⟩
abbrev S8x16x128 : Shape := ⟨3, ![8, 16, 128]⟩
abbrev S8x3x5632 : Shape := ⟨3, ![8, 3, 5632]⟩
abbrev S8x1x5632 : Shape := ⟨3, ![8, 1, 5632]⟩
abbrev S8x6144 : Shape := ⟨2, ![8, 6144]⟩
abbrev S8x2048 : Shape := ⟨2, ![8, 2048]⟩
abbrev S8x262144 : Shape := ⟨2, ![8, 262144]⟩
abbrev S8x16896 : Shape := ⟨2, ![8, 16896]⟩
abbrev S8x5632 : Shape := ⟨2, ![8, 5632]⟩
abbrev S8x333824 : Shape := ⟨2, ![8, 333824]⟩
abbrev S8x4096 : Shape := ⟨2, ![8, 4096]⟩
abbrev S8x337920 : Shape := ⟨2, ![8, 337920]⟩
abbrev S8x2640x128 : Shape := ⟨3, ![8, 2640, 128]⟩
abbrev S2640x128 : Shape := ⟨2, ![2640, 128]⟩
abbrev S1x2640x128 : Shape := ⟨3, ![1, 2640, 128]⟩
abbrev S337920 : Shape := ⟨1, ![337920]⟩
abbrev S6144 : Shape := ⟨1, ![6144]⟩
abbrev S3x2048 : Shape := ⟨2, ![3, 2048]⟩
abbrev S2048 : Shape := ⟨1, ![2048]⟩
abbrev S1x2048 : Shape := ⟨2, ![1, 2048]⟩
abbrev S262144 : Shape := ⟨1, ![262144]⟩
abbrev S16x128x128 : Shape := ⟨3, ![16, 128, 128]⟩
abbrev S16x128 : Shape := ⟨2, ![16, 128]⟩
abbrev S16896 : Shape := ⟨1, ![16896]⟩
abbrev S3x5632 : Shape := ⟨2, ![3, 5632]⟩
abbrev S5632 : Shape := ⟨1, ![5632]⟩
abbrev S1x5632 : Shape := ⟨2, ![1, 5632]⟩
abbrev S1x16x128x128 : Shape := ⟨4, ![1, 16, 128, 128]⟩
abbrev S1x16x128 : Shape := ⟨3, ![1, 16, 128]⟩
abbrev S1x3x5632 : Shape := ⟨3, ![1, 3, 5632]⟩
abbrev S2x3x5632 : Shape := ⟨3, ![2, 3, 5632]⟩
abbrev S2x5632 : Shape := ⟨2, ![2, 5632]⟩
abbrev S2x2048 : Shape := ⟨2, ![2, 2048]⟩

abbrev nBuf : Space → Nat
  | .hbm => 88
  | .vmem => 2
  | .smem => 0
  | _ => 0

abbrev bufTy : (tb : Table) → Fin (tcTables nBuf tb) → BufTy
  | .hbm, ⟨0, _⟩ => ⟨S8x3x2048, .f32⟩
  | .hbm, ⟨1, _⟩ => ⟨S8x1x2048, .f32⟩
  | .hbm, ⟨2, _⟩ => ⟨S8x1x2048, .f32⟩
  | .hbm, ⟨3, _⟩ => ⟨S8x1x2048, .f32⟩
  | .hbm, ⟨4, _⟩ => ⟨S8x16x128x128, .f32⟩
  | .hbm, ⟨5, _⟩ => ⟨S8x16x128, .f32⟩
  | .hbm, ⟨6, _⟩ => ⟨S8x3x5632, .f32⟩
  | .hbm, ⟨7, _⟩ => ⟨S8x3x5632, .f32⟩
  | .hbm, ⟨8, _⟩ => ⟨S8x1x5632, .f32⟩
  | .hbm, ⟨9, _⟩ => ⟨S8x1x5632, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x6144, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S8x262144, .f32⟩
  | .hbm, ⟨23, _⟩ => ⟨S8x2048, .f32⟩
  | .hbm, ⟨24, _⟩ => ⟨S8x16896, .f32⟩
  | .hbm, ⟨25, _⟩ => ⟨S8x16896, .f32⟩
  | .hbm, ⟨26, _⟩ => ⟨S8x5632, .f32⟩
  | .hbm, ⟨27, _⟩ => ⟨S8x5632, .f32⟩
  | .hbm, ⟨28, _⟩ => ⟨S8x2048, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S8x2048, .f32⟩
  | .hbm, ⟨35, _⟩ => ⟨S8x2048, .f32⟩
  | .hbm, ⟨36, _⟩ => ⟨S8x333824, .f32⟩
  | .hbm, ⟨37, _⟩ => ⟨S8x4096, .f32⟩
  | .hbm, ⟨38, _⟩ => ⟨S8x337920, .f32⟩
  | .hbm, ⟨39, _⟩ => ⟨S8x2640x128, .f32⟩
  | .hbm, ⟨40, _⟩ => ⟨S2640x128, .f32⟩
  | .hbm, ⟨41, _⟩ => ⟨S337920, .f32⟩
  | .hbm, ⟨42, _⟩ => ⟨S6144, .f32⟩
  | .hbm, ⟨43, _⟩ => ⟨S3x2048, .f32⟩
  | .hbm, ⟨44, _⟩ => ⟨S2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S262144, .f32⟩
  | .hbm, ⟨51, _⟩ => ⟨S16x128x128, .f32⟩
  | .hbm, ⟨52, _⟩ => ⟨S2048, .f32⟩
  | .hbm, ⟨53, _⟩ => ⟨S16x128, .f32⟩
  | .hbm, ⟨54, _⟩ => ⟨S16896, .f32⟩
  | .hbm, ⟨55, _⟩ => ⟨S3x5632, .f32⟩
  | .hbm, ⟨56, _⟩ => ⟨S16896, .f32⟩
  | .hbm, ⟨57, _⟩ => ⟨S3x5632, .f32⟩
  | .hbm, ⟨58, _⟩ => ⟨S5632, .f32⟩
  | .hbm, ⟨59, _⟩ => ⟨S1x5632, .f32⟩
  | .hbm, ⟨60, _⟩ => ⟨S5632, .f32⟩
  | .hbm, ⟨61, _⟩ => ⟨S1x5632, .f32⟩
  | .hbm, ⟨62, _⟩ => ⟨S2048, .f32⟩
  | .hbm, ⟨63, _⟩ => ⟨S1x2048, .f32⟩
  | .hbm, ⟨64, _⟩ => ⟨S2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S2048, .f32⟩
  | .hbm, ⟨71, _⟩ => ⟨S1x2048, .f32⟩
  | .hbm, ⟨72, _⟩ => ⟨S2048, .f32⟩
  | .hbm, ⟨73, _⟩ => ⟨S1x2048, .f32⟩
  | .hbm, ⟨74, _⟩ => ⟨S2048, .f32⟩
  | .hbm, ⟨75, _⟩ => ⟨S1x2048, .f32⟩
  | .hbm, ⟨76, _⟩ => ⟨S2048, .f32⟩
  | .hbm, ⟨77, _⟩ => ⟨S1x2048, .f32⟩
  | .hbm, ⟨78, _⟩ => ⟨S1x16x128x128, .f32⟩
  | .hbm, ⟨79, _⟩ => ⟨S1x16x128, .f32⟩
  | .hbm, ⟨80, _⟩ => ⟨S1x3x5632, .f32⟩
  | .hbm, ⟨81, _⟩ => ⟨S1x3x5632, .f32⟩
  | .hbm, ⟨82, _⟩ => ⟨S2x3x5632, .f32⟩
  | .hbm, ⟨83, _⟩ => ⟨S2x5632, .f32⟩
  | .hbm, ⟨84, _⟩ => ⟨S2x2048, .f32⟩
  | .hbm, ⟨85, _⟩ => ⟨S2x2048, .f32⟩
  | .hbm, ⟨86, _⟩ => ⟨S2x2048, .f32⟩
  | .hbm, ⟨87, _⟩ => ⟨S2x2048, .f32⟩
  | .local _ .vmem, ⟨0, _⟩ => ⟨S8x2640x128, .f32⟩
  | .local _ .vmem, ⟨1, _⟩ => ⟨S2640x128, .f32⟩
  | _, _ => ⟨S8x3x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x3x2048 : Shape := ⟨3, ![8, 3, 2048]⟩
abbrev S8x1x2048 : Shape := ⟨3, ![8, 1, 2048]⟩
abbrev S8x16x128x128 : Shape := ⟨4, ![8, 16, 128, 128]⟩
abbrev S8x16x128 : Shape := ⟨3, ![8, 16, 128]⟩
abbrev S8x3x5632 : Shape := ⟨3, ![8, 3, 5632]⟩
abbrev S8x1x5632 : Shape := ⟨3, ![8, 1, 5632]⟩
abbrev S_ : Shape := ⟨0, ![]⟩
abbrev S3x2048 : Shape := ⟨2, ![3, 2048]⟩
abbrev S1x2048 : Shape := ⟨2, ![1, 2048]⟩
abbrev S16x128x128 : Shape := ⟨3, ![16, 128, 128]⟩
abbrev S16x128 : Shape := ⟨2, ![16, 128]⟩
abbrev S3x5632 : Shape := ⟨2, ![3, 5632]⟩
abbrev S1x5632 : Shape := ⟨2, ![1, 5632]⟩
abbrev S1x16x128x128 : Shape := ⟨4, ![1, 16, 128, 128]⟩
abbrev S1x16x128 : Shape := ⟨3, ![1, 16, 128]⟩
abbrev S1x3x5632 : Shape := ⟨3, ![1, 3, 5632]⟩
abbrev S2x3x5632 : Shape := ⟨3, ![2, 3, 5632]⟩
abbrev S2x5632 : Shape := ⟨2, ![2, 5632]⟩
abbrev S2x2048 : Shape := ⟨2, ![2, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x3x2048, .f32⟩
  | .hbm, ⟨1, _⟩ => ⟨S8x1x2048, .f32⟩
  | .hbm, ⟨2, _⟩ => ⟨S8x1x2048, .f32⟩
  | .hbm, ⟨3, _⟩ => ⟨S8x1x2048, .f32⟩
  | .hbm, ⟨4, _⟩ => ⟨S8x16x128x128, .f32⟩
  | .hbm, ⟨5, _⟩ => ⟨S8x16x128, .f32⟩
  | .hbm, ⟨6, _⟩ => ⟨S8x3x5632, .f32⟩
  | .hbm, ⟨7, _⟩ => ⟨S8x3x5632, .f32⟩
  | .hbm, ⟨8, _⟩ => ⟨S8x1x5632, .f32⟩
  | .hbm, ⟨9, _⟩ => ⟨S8x1x5632, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S_, .f32⟩
  | .hbm, ⟨19, _⟩ => ⟨S3x2048, .f32⟩
  | .hbm, ⟨20, _⟩ => ⟨S_, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S_, .f32⟩
  | .hbm, ⟨27, _⟩ => ⟨S16x128x128, .f32⟩
  | .hbm, ⟨28, _⟩ => ⟨S_, .f32⟩
  | .hbm, ⟨29, _⟩ => ⟨S16x128, .f32⟩
  | .hbm, ⟨30, _⟩ => ⟨S_, .f32⟩
  | .hbm, ⟨31, _⟩ => ⟨S3x5632, .f32⟩
  | .hbm, ⟨32, _⟩ => ⟨S_, .f32⟩
  | .hbm, ⟨33, _⟩ => ⟨S3x5632, .f32⟩
  | .hbm, ⟨34, _⟩ => ⟨S_, .f32⟩
  | .hbm, ⟨35, _⟩ => ⟨S1x5632, .f32⟩
  | .hbm, ⟨36, _⟩ => ⟨S_, .f32⟩
  | .hbm, ⟨37, _⟩ => ⟨S1x5632, .f32⟩
  | .hbm, ⟨38, _⟩ => ⟨S_, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S_, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x16x128x128, .f32⟩
  | .hbm, ⟨55, _⟩ => ⟨S1x16x128, .f32⟩
  | .hbm, ⟨56, _⟩ => ⟨S1x3x5632, .f32⟩
  | .hbm, ⟨57, _⟩ => ⟨S1x3x5632, .f32⟩
  | .hbm, ⟨58, _⟩ => ⟨S2x3x5632, .f32⟩
  | .hbm, ⟨59, _⟩ => ⟨S2x5632, .f32⟩
  | .hbm, ⟨60, _⟩ => ⟨S2x2048, .f32⟩
  | .hbm, ⟨61, _⟩ => ⟨S2x2048, .f32⟩
  | .hbm, ⟨62, _⟩ => ⟨S2x2048, .f32⟩
  | .hbm, ⟨63, _⟩ => ⟨S2x2048, .f32⟩
  | _, _ => ⟨S8x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_cst_2 : Ref sig .tc := ⟨.hbm, 24, rfl⟩
abbrev main_v3 : Ref sig .tc := ⟨.hbm, 25, rfl⟩
abbrev main_cst_3 : Ref sig .tc := ⟨.hbm, 26, rfl⟩
abbrev main_v4 : Ref sig .tc := ⟨.hbm, 27, rfl⟩
abbrev main_cst_4 : Ref sig .tc := ⟨.hbm, 28, rfl⟩
abbrev main_v5 : Ref sig .tc := ⟨.hbm, 29, rfl⟩
abbrev main_cst_5 : Ref sig .tc := ⟨.hbm, 30, rfl⟩
abbrev main_v6 : Ref sig .tc := ⟨.hbm, 31, rfl⟩
abbrev main_cst_6 : Ref sig .tc := ⟨.hbm, 32, rfl⟩
abbrev main_v7 : Ref sig .tc := ⟨.hbm, 33, rfl⟩
abbrev main_cst_7 : Ref sig .tc := ⟨.hbm, 34, rfl⟩
abbrev main_v8 : Ref sig .tc := ⟨.hbm, 35, rfl⟩
abbrev main_cst_8 : Ref sig .tc := ⟨.hbm, 36, rfl⟩
abbrev main_v9 : Ref sig .tc := ⟨.hbm, 37, rfl⟩
abbrev main_cst_9 : Ref sig .tc := ⟨.hbm, 38, rfl⟩
abbrev main_v10 : Ref sig .tc := ⟨.hbm, 39, rfl⟩
abbrev main_cst_10 : Ref sig .tc := ⟨.hbm, 40, rfl⟩
abbrev main_v11 : Ref sig .tc := ⟨.hbm, 41, rfl⟩
abbrev main_cst_11 : Ref sig .tc := ⟨.hbm, 42, rfl⟩
abbrev main_v12 : Ref sig .tc := ⟨.hbm, 43, rfl⟩
abbrev main_cst_12 : Ref sig .tc := ⟨.hbm, 44, rfl⟩
abbrev main_v13 : Ref sig .tc := ⟨.hbm, 45, rfl⟩
abbrev main_cst_13 : Ref sig .tc := ⟨.hbm, 46, rfl⟩
abbrev main_v14 : Ref sig .tc := ⟨.hbm, 47, rfl⟩
abbrev main_cst_14 : Ref sig .tc := ⟨.hbm, 48, rfl⟩
abbrev main_v15 : Ref sig .tc := ⟨.hbm, 49, rfl⟩
abbrev main_cst_15 : Ref sig .tc := ⟨.hbm, 50, rfl⟩
abbrev main_v16 : Ref sig .tc := ⟨.hbm, 51, rfl⟩
abbrev main_cst_16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩

abbrev nD : Nat := 1
abbrev τ : Topo := Topo.v7x

variable {F : FTy → Type} [FloatOps F]
-- ==== LnBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096x2048, .f32⟩
  | .hbm, ⟨79, _⟩ => ⟨S4096x2048, .f32⟩
  | .hbm, ⟨80, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== LnLoss.lean ====
abbrev S4096x2048 : Shape := ⟨2, ![4096, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x128, .f32⟩
  | .hbm, ⟨6, _⟩ => ⟨S4096x2048, .bf16⟩
  | .hbm, ⟨7, _⟩ => ⟨S4096x2048, .f32⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x128, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x2048, .f32⟩
  | .hbm, ⟨75, _⟩ => ⟨S4096x2048, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x2048, .f32⟩
  | .hbm, ⟨97, _⟩ => ⟨S4096x2048, .f32⟩
  | .hbm, ⟨98, _⟩ => ⟨S_, .f32⟩
  | .hbm, ⟨99, _⟩ => ⟨S4096x2048, .f32⟩
  | .hbm, ⟨100, _⟩ => ⟨S4096x2048, .f32⟩
  | .hbm, ⟨101, _⟩ => ⟨S1x128, .f32⟩
  | .hbm, ⟨102, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_22 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== SgFwd.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S16x128x1 : Shape := ⟨3, ![16, 128, 1]⟩
abbrev S4096x2048 : Shape := ⟨2, ![4096, 2048]⟩
abbrev S512x4096 : Shape := ⟨2, ![512, 4096]⟩
abbrev S512x2048 : Shape := ⟨2, ![512, 2048]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S16x128x1, .f32⟩
  | .hbm, ⟨6, _⟩ => ⟨S16x128x128, .f32⟩
  | .hbm, ⟨7, _⟩ => ⟨S4096x2048, .bf16⟩
  | .local _ .vmem, ⟨0, _⟩ => ⟨S512x4096, .f32⟩
  | .local _ .vmem, ⟨1, _⟩ => ⟨S512x4096, .f32⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S16x128x128, .f32⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SgFwdRefIdeal.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S32x128x16x128, .f32⟩
  | .hbm, ⟨42, _⟩ => ⟨S_, .f32⟩
  | .hbm, ⟨43, _⟩ => ⟨S128x128, .f32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S1x128x128, .f32⟩
  | .hbm, ⟨54, _⟩ => ⟨S16x128x128, .f32⟩
  | .hbm, ⟨55, _⟩ => ⟨S16x128x128, .f32⟩
  | .hbm, ⟨56, _⟩ => ⟨S16x32x128x128, .f32⟩
  | .hbm, ⟨57, _⟩ => ⟨S32x128x16x128, .f32⟩
  | .hbm, ⟨58, _⟩ => ⟨S128x16, .f32⟩
  | .hbm, ⟨59, _⟩ => ⟨S128x16x1, .f32⟩
  | .hbm, ⟨60, _⟩ => ⟨S1x128x16x1, .f32⟩
  | .hbm, ⟨61, _⟩ => ⟨S32x128x16x128, .f32⟩
  | .hbm, ⟨62, _⟩ => ⟨S32x128x16x128, .f32⟩
  | .hbm, ⟨63, _⟩ => ⟨S4096x2048, .f32⟩
  | .hbm, ⟨64, _⟩ => ⟨S4096x2048, .f32⟩
  | .hbm, ⟨65, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_cst : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== SgBwd.lean ====
abbrev S4096x4096 : Shape := ⟨2, ![4096, 4096]⟩
abbrev S4096x2048 : Shape := ⟨2, ![4096, 2048]⟩
abbrev S1x2048 : Shape := ⟨2, ![1, 2048]⟩
abbrev S16x128x128 : Shape := ⟨3, ![16, 128, 128]⟩
abbrev S16x128 : Shape := ⟨2, ![16, 128]⟩
abbrev S16x128x1 : Shape := ⟨3, ![16, 128, 1]⟩
abbrev S16x8x128 : Shape := ⟨3, ![16, 8, 128]⟩
abbrev S512x4096 : Shape := ⟨2, ![512, 4096]⟩
abbrev S512x2048 : Shape := ⟨2, ![512, 2048]⟩
abbrev S128x128 : Shape := ⟨2, ![128, 128]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S1x8x128 : Shape := ⟨3, ![1, 8, 128]⟩
abbrev S2048 : Shape := ⟨1, ![2048]⟩

abbrev nBuf : Space → Nat
  | .hbm => 13
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S16x128x128, .f32⟩
  | .hbm, ⟨5, _⟩ => ⟨S16x128, .f32⟩
  | .hbm, ⟨6, _⟩ => ⟨S16x128x1, .f32⟩
  | .hbm, ⟨7, _⟩ => ⟨S16x128x128, .f32⟩
  | .hbm, ⟨8, _⟩ => ⟨S4096x4096, .bf16⟩
  | .hbm, ⟨9, _⟩ => ⟨S16x128x128, .f32⟩
  | .hbm, ⟨10, _⟩ => ⟨S16x8x128, .f32⟩
  | .hbm, ⟨11, _⟩ => ⟨S1x2048, .f32⟩
  | .hbm, ⟨12, _⟩ => ⟨S1x2048, .f32⟩
  | .local _ .vmem, ⟨0, _⟩ => ⟨S512x4096, .f32⟩
  | .local _ .vmem, ⟨1, _⟩ => ⟨S512x4096, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S16x128x128, .f32⟩
  | .local _ .vmem, ⟨8, _⟩ => ⟨S512x4096, .bf16⟩
  | .local _ .vmem, ⟨9, _⟩ => ⟨S512x4096, .bf16⟩
  | .local _ .vmem, ⟨10, _⟩ => ⟨S16x128x128, .f32⟩
  | .local _ .vmem, ⟨11, _⟩ => ⟨S16x8x128, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SgBwdIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== SgBwdRefIdeal.lean ====
abbrev S4096x4096 : Shape := ⟨2, ![4096, 4096]⟩
abbrev S4096x2048 : Shape := ⟨2, ![4096, 2048]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16 : Shape := ⟨2, ![128, 16]⟩
abbrev S128x16x1 : Shape := ⟨3, ![128, 16, 1]⟩
abbrev S1x128x16x1 : Shape := ⟨4, ![1, 128, 16, 1]⟩
abbrev S2048 : Shape := ⟨1, ![2048]⟩
abbrev S16x1x128 : Shape := ⟨3, ![16, 1, 128]⟩
abbrev S16x8x128 : Shape := ⟨3, ![16, 8, 128]⟩

abbrev nBuf : Space → Nat
  | .hbm => 124
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S16x128x128, .f32⟩
  | .hbm, ⟨5, _⟩ => ⟨S16x128, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S32x128x16x128, .f32⟩
  | .hbm, ⟨40, _⟩ => ⟨S_, .f32⟩
  | .hbm, ⟨41, _⟩ => ⟨S128x128, .f32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S16x128x128, .f32⟩
  | .hbm, ⟨53, _⟩ => ⟨S16x128x128, .f32⟩
  | .hbm, ⟨54, _⟩ => ⟨S16x32x128x128, .f32⟩
  | .hbm, ⟨55, _⟩ => ⟨S32x128x16x128, .f32⟩
  | .hbm, ⟨56, _⟩ => ⟨S128x16, .f32⟩
  | .hbm, ⟨57, _⟩ => ⟨S128x16x1, .f32⟩
  | .hbm, ⟨58, _⟩ => ⟨S1x128x16x1, .f32⟩
  | .hbm, ⟨59, _⟩ => ⟨S32x128x16x128, .f32⟩
  | .hbm, ⟨60, _⟩ => ⟨S32x128x16x128, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S32x128x16x128, .f32⟩
  | .hbm, ⟨66, _⟩ => ⟨S_, .f32⟩
  | .hbm, ⟨67, _⟩ => ⟨S128x16, .f32⟩
  | .hbm, ⟨68, _⟩ => ⟨S1x128x16x1, .f32⟩
  | .hbm, ⟨69, _⟩ => ⟨S_, .f32⟩
  | .hbm, ⟨70, _⟩ => ⟨S128x16, .f32⟩
  | .hbm, ⟨71, _⟩ => ⟨S128x16x1, .f32⟩
  | .hbm, ⟨72, _⟩ => ⟨S_, .f32⟩
  | .hbm, ⟨73, _⟩ => ⟨S128x16, .f32⟩
  | .hbm, ⟨74, _⟩ => ⟨S16x128, .f32⟩
  | .hbm, ⟨75, _⟩ => ⟨S16x32x128x128, .f32⟩
  | .hbm, ⟨76, _⟩ => ⟨S16x128x128, .f32⟩
  | .hbm, ⟨77, _⟩ => ⟨S16x32x128x128, .f32⟩
  | .hbm, ⟨78, _⟩ => ⟨S32x128x16x128, .f32⟩
  | .hbm, ⟨79, _⟩ => ⟨S16x128x128, .f32⟩
  | .hbm, ⟨80, _⟩ => ⟨S16x128x128, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S4096x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x2048, .f32⟩
  | .hbm, ⟨96, _⟩ => ⟨S4096x2048, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S4096x2048, .f32⟩
  | .hbm, ⟨107, _⟩ => ⟨S4096x2048, .f32⟩
  | .hbm, ⟨108, _⟩ => ⟨S4096x2048, .f32⟩
  | .hbm, ⟨109, _⟩ => ⟨S_, .f32⟩
  | .hbm, ⟨110, _⟩ => ⟨S4096, .f32⟩
  | .hbm, ⟨111, _⟩ => ⟨S4096x1, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S_, .f32⟩
  | .hbm, ⟨116, _⟩ => ⟨S4096, .f32⟩
  | .hbm, ⟨117, _⟩ => ⟨S4096x2048, .f32⟩
  | .hbm, ⟨118, _⟩ => ⟨S4096x2048, .f32⟩
  | .hbm, ⟨119, _⟩ => ⟨S4096x4096, .f32⟩
  | .hbm, ⟨120, _⟩ => ⟨S4096x4096, .f32⟩
  | .hbm, ⟨121, _⟩ => ⟨S4096x4096, .bf16⟩
  | .hbm, ⟨122, _⟩ => ⟨S16x1x128, .f32⟩
  | .hbm, ⟨123, _⟩ => ⟨S16x8x128, .f32⟩
  | .local _ .vmem, ⟨0, _⟩ => ⟨S4096x4096, .f32⟩
  | .local _ .vmem, ⟨1, _⟩ => ⟨S4096x4096, .f32⟩
  | .local _ .vmem, ⟨2, _⟩ => ⟨S4096x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_cst : Ref sig .tc := ⟨.hbm, 48, rfl⟩
abbrev main_call0_v5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "sqrt_half" => some (((Real.sqrt 2)⁻¹ : ℝ) : EReal)
  | "two_over_sqrt_pi" => some ((2 * (Real.sqrt Real.pi)⁻¹ : ℝ) : EReal)
  | _ => none

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Mm.Sums.lean ====
/- A long sum cut into equal stretches. -/
module

public import Idealize.ShloMosaic.Lib.Pointwise

@[expose] public section

noncomputable section

namespace Cert.Spec

open Idealize.ShloMosaic

theorem stretch_lt {b n : ℕ} (s : Fin b) (k : Fin n) : n * s.val + k.val < b * n :=
  calc n * s.val + k.val < n * s.val + n := Nat.add_lt_add_left k.isLt _
    _ = n * (s.val + 1) := rfl
    _ ≤ n * b := Nat.mul_le_mul_left n s.isLt
    _ = b * n := Nat.mul_comm n b

/-- A sum over `b * n` places is the sum over `b` stretches of `n` places each. -/
theorem sum_stretches {N : ℕ} (b n : ℕ) (h : b * n = N) (f : Fin N → EReal) :
    ∑ k : Fin N, f k = ∑ s : Fin b, ∑ k : Fin n, f ⟨n * s.val + k.val, (stretch_lt s k).trans_eq h⟩ := by
  subst h
  rw [← Fintype.sum_prod_type', ← finProdFinEquiv.sum_comp]
  exact Finset.sum_congr rfl fun x _ => congrArg f (Fin.ext (Nat.add_comm _ _))

/-- Two stretches. -/
theorem sum_two {N : ℕ} (n : ℕ) (h : 2 * n = N) (f : Fin N → EReal) :
    ∑ k : Fin N, f k = (∑ k : Fin n, f ⟨n * 0 + k.val, by have := k.isLt; omega⟩)
      + ∑ k : Fin n, f ⟨n * 1 + k.val, by have := k.isLt; omega⟩ :=
  (sum_stretches 2 n h f).trans (Fin.sum_univ_two _)

/-- Four stretches. -/
theorem sum_four {N : ℕ} (n : ℕ) (h : 4 * n = N) (f : Fin N → EReal) :
    ∑ k : Fin N, f k = (∑ k : Fin n, f ⟨n * 0 + k.val, by have := k.isLt; omega⟩)
      + (∑ k : Fin n, f ⟨n * 1 + k.val, by have := k.isLt; omega⟩)
      + (∑ k : Fin n, f ⟨n * 2 + k.val, by have := k.isLt; omega⟩)
      + ∑ k : Fin n, f ⟨n * 3 + k.val, by have := k.isLt; omega⟩ :=
  (sum_stretches 4 n h f).trans (Fin.sum_univ_four _)

/-- An array is read at the same place when the three numbers of the place agree. -/
theorem read3 {a b c : ℕ} {α : Type} (f : (⟨3, ![a, b, c]⟩ : Shape).Idx → α) {i i' : Fin a} {j j' : Fin b} {k k' : Fin c}
    (hi : i.val = i'.val) (hj : j.val = j'.val) (hk : k.val = k'.val) : f (ix3 i j k) = f (ix3 i' j' k') := by
  obtain rfl := Fin.ext hi
  obtain rfl := Fin.ext hj
  obtain rfl := Fin.ext hk
  rfl

end Cert.Spec

end
-- ==== Proof.Mm.DwDown.lean ====
/- The gradient of the second feed-forward weight: what the kernel leaves and what the reference computes. -/
module

public import proofs.«01_k».proof.Proof.Gen.DwDownIdeal.Value
public import proofs.«01_k».proof.Proof.Gen.DwDownRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwDownIdeal.Mm

open Cert.DwDownIdeal Cert.DwDownIdeal.Gen Idealize.ShloMosaic Idealize.ShloMosaic.TcCoe Idealize.SL.Sem
open Idealize.ShloMosaic.Pipeline (Dat)

theorem at0 : ∀ t : Fin cfg0.N, win0_0.index t = ![t.val % 2, t.val / 4] := (by decide +kernel : ∀ t : Fin grid0.N, _)
theorem at1 : ∀ t : Fin cfg0.N, win0_1.index t = ![t.val % 2, t.val / 2 % 2] := (by decide +kernel : ∀ t : Fin grid0.N, _)
theorem at2 : ∀ t : Fin cfg0.N, win0_2.index t = ![t.val / 4, t.val / 2 % 2] := (by decide +kernel : ∀ t : Fin grid0.N, _)
theorem points (t : Fin cfg0.N) : t.val < 16 := t.isLt.trans_eq N_0

variable (m : (ℓ : Loc nD τ sig) → Buf (Elt Ideal) ℓ) (c : Dev nD)

/-- The arguments. -/
abbrev argA : FVec Ideal S4096x5632 .bf16 := m ((c : Thread nD τ).loc main_arg0)
abbrev argB : FVec Ideal S4096x2048 .bf16 := m ((c : Thread nD τ).loc main_arg1)

/-- The row and the column of the product that an entry of point `t`'s block is. -/
def rowOf (t : Fin cfg0.N) (p : Fin 1408) : Fin 5632 := ⟨1408 * (t.val / 4) + p.val, by have := points t; omega⟩
def colOf (t : Fin cfg0.N) (q : Fin 1024) : Fin 2048 := ⟨1024 * (t.val / 2 % 2) + q.val, by have := points t; omega⟩

/-- The factors that meet at place `k` of the summed axis, and their product. -/
def entA (A : FVec Ideal S4096x5632 .bf16) (x : Fin 5632) (k : Fin 4096) : EReal := A (ix2 k x)
def entB (B : FVec Ideal S4096x2048 .bf16) (y : Fin 2048) (k : Fin 4096) : EReal := B (ix2 k y)
def term (A : FVec Ideal S4096x5632 .bf16) (B : FVec Ideal S4096x2048 .bf16) (x : Fin 5632) (y : Fin 2048) (k : Fin 4096) : EReal := entA A x k * entB B y k

theorem blk0 (t : Fin cfg0.N) (p : Fin 1408) (k : Fin 2048) :
    iblk m c 0 t (ix2 k p) = entA (argA m c) (rowOf t p) ⟨2048 * (t.val % 2) + k.val, by have := k.isLt; omega⟩ := by
  have hp := points t
  blk_ext! [iblk, V, at0 t, rowOf, argA, entA]

theorem blk1 (t : Fin cfg0.N) (q : Fin 1024) (k : Fin 2048) :
    iblk m c 1 t (ix2 k q) = entB (argB m c) (colOf t q) ⟨2048 * (t.val % 2) + k.val, by have := k.isLt; omega⟩ := by
  have hp := points t
  blk_ext! [iblk, V, at1 t, colOf, argB, entB]

theorem dot_at (t : Fin cfg0.N) (p : Fin 1408) (q : Fin 1024) :
    k0_pay1 (iblk m c 0 t) (iblk m c 1 t) (ix2 p q)
      = ∑ k : Fin 2048, term (argA m c) (argB m c) (rowOf t p) (colOf t q) ⟨2048 * (t.val % 2) + k.val, by have := k.isLt; omega⟩ := by
  pointwise [k0_pay1]
  simp only [blk0, blk1, term]

/-- What the first of the two points of a block keeps. -/
theorem acc_at (t : Fin cfg0.N) (h : t.val % 2 = 0) (p : Fin 1408) (q : Fin 1024) :
    (outsAt0 m c t.val t.isLt).2 (ix2 p q) = k0_pay1 (iblk m c 0 t) (iblk m c 1 t) (ix2 p q) := by
  rw [outsAt0_A m c t h (by omega)]
  frame_out
  pointwise [k0_pay2]

/-- What the second of the two points of a block leaves. -/
theorem out_at (t : Fin cfg0.N) (h : t.val % 2 = 1) (p : Fin 1408) (q : Fin 1024) :
    (outsAt0 m c t.val t.isLt).1 (ix2 p q) = ∑ k : Fin 4096, term (argA m c) (argB m c) (rowOf t p) (colOf t q) k := by
  rw [outsAt0_B m c t (by omega) h]
  frame_out
  have hb : t.val - 1 < cfg0.N := (Nat.sub_le _ _).trans_lt t.isLt
  have hp := points t
  have hacc := acc_at m c ⟨t.val - 1, hb⟩ (by dsimp only; omega) p q
  pointwise [k0_pay3]
  rw [Cert.Spec.sum_two 2048 rfl]
  rw [read_unread_whole]
  refine congrArg₂ (· + ·) (hacc.trans ((dot_at m c _ p q).trans (Finset.sum_congr rfl fun k _ => ?_)))
    ((dot_at m c t p q).trans (Finset.sum_congr rfl fun k _ => ?_))
  · have e1 : rowOf ⟨t.val - 1, hb⟩ p = rowOf t p := Fin.ext (by dsimp only [rowOf]; omega)
    have e2 : colOf ⟨t.val - 1, hb⟩ q = colOf t q := Fin.ext (by dsimp only [colOf]; omega)
    rw [e1, e2]
    exact congrArg _ (Fin.ext (by dsimp only; omega))
  · exact congrArg _ (Fin.ext (by dsimp only; omega))

/-- The result. -/
def res (A : FVec Ideal S4096x5632 .bf16) (B : FVec Ideal S4096x2048 .bf16) : FVec Ideal S5632x2048 .bf16 := fun i =>
  (∑ k : Fin 4096, term A B (i 0) (i 1) k)

theorem res_at (x : Fin 5632) (z : Fin 2048) :
    (∑ k : Fin 4096, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t ((flush0_2 t).mp hf), res_at]
  generalize res (argA m c) (argB m c) = G
  blk_ext! [at2 t, rowOf, colOf]

end Cert.DwDownIdeal.Mm

namespace Cert.DwDownRefIdeal.Mm

open Cert.DwDownRefIdeal Cert.DwDownRefIdeal.Gen Idealize.ShloMosaic Idealize.ShloMosaic.TcCoe Idealize.SL.Sem

/-- The reference's result from its arguments. -/
def out (A : FVec Ideal S4096x5632 .bf16) (B : FVec Ideal S4096x2048 .bf16) : FVec Ideal S5632x2048 .bf16 :=
  truncf .bf16 (transpose S5632x2048 [1, 0] (Host.dotGeneral dot_S4096x2048_S4096x5632_S2048x5632_0_0_1_1_n_n none (extf .f32 B bitsLt_bf16_f32) (extf .f32 A bitsLt_bf16_f32)) transposes_S2048x5632_S5632x2048_1_0) bitsLt_bf16_f32

theorem out_eq (A : FVec Ideal S4096x5632 .bf16) (B : FVec Ideal S4096x2048 .bf16) : out A B = Cert.DwDownIdeal.Mm.res A B := by
  funext i
  idx_vars i
  pointwise [out]
  pointwise [Cert.DwDownIdeal.Mm.res]
  skip
  refine Finset.sum_congr rfl fun k _ => ?_
  rw [mul_comm]
  rfl

end Cert.DwDownRefIdeal.Mm

end
-- ==== Proof.Mm.DZ.lean ====
/- The gradient at the gated hidden array: what the kernel leaves and what the reference computes. -/
module

public import proofs.«01_k».proof.Proof.Gen.DZIdeal.Value
public import proofs.«01_k».proof.Proof.Gen.DZRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DZIdeal.Mm

open Cert.DZIdeal Cert.DZIdeal.Gen Idealize.ShloMosaic Idealize.ShloMosaic.TcCoe Idealize.SL.Sem
open Idealize.ShloMosaic.Pipeline (Dat)

theorem at0 : ∀ t : Fin cfg0.N, win0_0.index t = ![t.val / 4, 0] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![t.val / 4, t.val % 4] := (by decide +kernel : ∀ t : Fin grid0.N, _)
theorem points (t : Fin cfg0.N) : t.val < 16 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S5632x2048 .bf16 := m ((c : Thread nD τ).loc main_arg1)

/-- The row and the column of the product that an entry of point `t`'s block is. -/
def rowOf (t : Fin cfg0.N) (p : Fin 1024) : Fin 4096 := ⟨1024 * (t.val / 4) + p.val, by have := points t; omega⟩
def colOf (t : Fin cfg0.N) (q : Fin 1408) : Fin 5632 := ⟨1408 * (t.val % 4) + q.val, by have := points t; omega⟩

/-- The factors that meet at place `k` of the summed axis, and their product. -/
def entA (A : FVec Ideal S4096x2048 .bf16) (x : Fin 4096) (k : Fin 2048) : EReal := A (ix2 x k)
def entB (B : FVec Ideal S5632x2048 .bf16) (y : Fin 5632) (k : Fin 2048) : EReal := B (ix2 y k)
def term (A : FVec Ideal S4096x2048 .bf16) (B : FVec Ideal S5632x2048 .bf16) (x : Fin 4096) (y : Fin 5632) (k : Fin 2048) : EReal := entA A x k * entB B y k

theorem blk0 (t : Fin cfg0.N) (p : Fin 1024) (k : Fin 2048) :
    iblk m c 0 t (ix2 p k) = entA (argA m c) (rowOf t p) ⟨k.val, k.isLt⟩ := by
  have hp := points t
  blk_ext! [iblk, V, at0 t, rowOf, argA, entA]

theorem blk1 (t : Fin cfg0.N) (q : Fin 1408) (k : Fin 2048) :
    iblk m c 1 t (ix2 q k) = entB (argB m c) (colOf t q) ⟨k.val, k.isLt⟩ := by
  have hp := points t
  blk_ext! [iblk, V, at1 t, colOf, argB, entB]

theorem dot_at (t : Fin cfg0.N) (p : Fin 1024) (q : Fin 1408) :
    k0_pay1 (iblk m c 0 t) (iblk m c 1 t) (ix2 p q)
      = ∑ k : Fin 2048, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 1408) :
    outsAt0 m c t (ix2 p q) = ∑ k : Fin 2048, term (argA m c) (argB m c) (rowOf t p) (colOf t q) k := by
  unfold outsAt0
  frame_out
  exact dot_at m c t p q

/-- The result. -/
def res (A : FVec Ideal S4096x2048 .bf16) (B : FVec Ideal S5632x2048 .bf16) : FVec Ideal S4096x5632 .bf16 := fun i =>
  (∑ k : Fin 2048, term A B (i 0) (i 1) k)

theorem res_at (x : Fin 4096) (z : Fin 5632) :
    (∑ k : Fin 2048, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t, res_at]
  generalize res (argA m c) (argB m c) = G
  blk_ext! [at2 t, rowOf, colOf]

end Cert.DZIdeal.Mm

namespace Cert.DZRefIdeal.Mm

open Cert.DZRefIdeal Cert.DZRefIdeal.Gen Idealize.ShloMosaic Idealize.ShloMosaic.TcCoe Idealize.SL.Sem

/-- The reference's result from its arguments. -/
def out (A : FVec Ideal S4096x2048 .bf16) (B : FVec Ideal S5632x2048 .bf16) : FVec Ideal S4096x5632 .bf16 :=
  truncf .bf16 (Host.dotGeneral dot_S4096x2048_S5632x2048_S4096x5632_1_1_0_0_n_n none (extf .f32 A bitsLt_bf16_f32) (extf .f32 B bitsLt_bf16_f32)) bitsLt_bf16_f32

theorem out_eq (A : FVec Ideal S4096x2048 .bf16) (B : FVec Ideal S5632x2048 .bf16) : out A B = Cert.DZIdeal.Mm.res A B := by
  funext i
  idx_vars i
  pointwise [out]
  pointwise [Cert.DZIdeal.Mm.res]
  skip
  refine Finset.sum_congr rfl fun k _ => ?_
  skip
  rfl

end Cert.DZRefIdeal.Mm

end
-- ==== Proof.Mm.DwUp.lean ====
/- The gradient of the first feed-forward weight: what the kernel leaves and what the reference computes. -/
module

public import proofs.«01_k».proof.Proof.Gen.DwUpIdeal.Value
public import proofs.«01_k».proof.Proof.Gen.DwUpRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwUpIdeal.Mm

open Cert.DwUpIdeal Cert.DwUpIdeal.Gen Idealize.ShloMosaic Idealize.ShloMosaic.TcCoe Idealize.SL.Sem
open Idealize.ShloMosaic.Pipeline (Dat)

theorem at0 : ∀ t : Fin cfg0.N, win0_0.index t = ![t.val % 2, t.val / 16] := (by decide +kernel : ∀ t : Fin grid0.N, _)
theorem at1 : ∀ t : Fin cfg0.N, win0_1.index t = ![(t.val / 2 % 8) / 4, t.val % 2, (t.val / 2 % 8) % 4] := (by decide +kernel : ∀ t : Fin grid0.N, _)
theorem at2 : ∀ t : Fin cfg0.N, win0_2.index t = ![t.val / 2 % 8, t.val / 16, 0] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S2x4096x5632 .bf16 := m ((c : Thread nD τ).loc main_arg1)

/-- The row and the column of the product that an entry of point `t`'s block is. -/
def rowOf (t : Fin cfg0.N) (p : Fin 1024) : Fin 2048 := ⟨1024 * (t.val / 16) + p.val, by have := points t; omega⟩
def colOf (t : Fin cfg0.N) (q : Fin 1408) : Fin 11264 := ⟨1408 * (t.val / 2 % 8) + q.val, by have := points t; omega⟩

/-- The factors that meet at place `k` of the summed axis, and their product. -/
def entA (A : FVec Ideal S4096x2048 .bf16) (x : Fin 2048) (k : Fin 4096) : EReal := A (ix2 k x)
def entB (B : FVec Ideal S2x4096x5632 .bf16) (y : Fin 11264) (k : Fin 4096) : EReal := B (ix3 ⟨y.val / 5632, by have := y.isLt; omega⟩ k ⟨y.val % 5632, by omega⟩)
def term (A : FVec Ideal S4096x2048 .bf16) (B : FVec Ideal S2x4096x5632 .bf16) (x : Fin 2048) (y : Fin 11264) (k : Fin 4096) : EReal := entA A x k * entB B y k

theorem blk0 (t : Fin cfg0.N) (p : Fin 1024) (k : Fin 2048) :
    iblk m c 0 t (ix2 k p) = entA (argA m c) (rowOf t p) ⟨2048 * (t.val % 2) + k.val, by have := k.isLt; omega⟩ := by
  have hp := points t
  blk_ext! [iblk, V, at0 t, rowOf, argA, entA]

theorem blk1 (t : Fin cfg0.N) (q : Fin 1408) (k : Fin 2048) :
    iblk m c 1 t (ix3 0 k q) = entB (argB m c) (colOf t q) ⟨2048 * (t.val % 2) + k.val, by have := k.isLt; omega⟩ := by
  have hp := points t
  blk_ext! [iblk, V, at1 t, colOf, argB, entB]

theorem dot_at (t : Fin cfg0.N) (p : Fin 1024) (q : Fin 1408) :
    k0_pay1 (iblk m c 0 t) (iblk m c 1 t) (ix2 p q)
      = ∑ k : Fin 2048, term (argA m c) (argB m c) (rowOf t p) (colOf t q) ⟨2048 * (t.val % 2) + k.val, by have := k.isLt; omega⟩ := by
  pointwise [k0_pay1]
  simp only [blk0, blk1, term]

/-- What the first of the two points of a block keeps. -/
theorem acc_at (t : Fin cfg0.N) (h : t.val % 2 = 0) (p : Fin 1024) (q : Fin 1408) :
    (outsAt0 m c t.val t.isLt).2 (ix2 p q) = k0_pay1 (iblk m c 0 t) (iblk m c 1 t) (ix2 p q) := by
  rw [outsAt0_A m c t h (by omega)]
  frame_out
  pointwise [k0_pay2]

/-- What the second of the two points of a block leaves. -/
theorem out_at (t : Fin cfg0.N) (h : t.val % 2 = 1) (p : Fin 1024) (q : Fin 1408) :
    (outsAt0 m c t.val t.isLt).1 (ix3 0 p q) = ∑ k : Fin 4096, term (argA m c) (argB m c) (rowOf t p) (colOf t q) k := by
  rw [outsAt0_B m c t (by omega) h]
  frame_out
  have hb : t.val - 1 < cfg0.N := (Nat.sub_le _ _).trans_lt t.isLt
  have hp := points t
  have hacc := acc_at m c ⟨t.val - 1, hb⟩ (by dsimp only; omega) p q
  pointwise [k0_pay3]
  rw [Cert.Spec.sum_two 2048 rfl]
  rw [read_unread_whole]
  refine congrArg₂ (· + ·) (hacc.trans ((dot_at m c _ p q).trans (Finset.sum_congr rfl fun k _ => ?_)))
    ((dot_at m c t p q).trans (Finset.sum_congr rfl fun k _ => ?_))
  · have e1 : rowOf ⟨t.val - 1, hb⟩ p = rowOf t p := Fin.ext (by dsimp only [rowOf]; omega)
    have e2 : colOf ⟨t.val - 1, hb⟩ q = colOf t q := Fin.ext (by dsimp only [colOf]; omega)
    rw [e1, e2]
    exact congrArg _ (Fin.ext (by dsimp only; omega))
  · exact congrArg _ (Fin.ext (by dsimp only; omega))

/-- The result. -/
def res (A : FVec Ideal S4096x2048 .bf16) (B : FVec Ideal S2x4096x5632 .bf16) : FVec Ideal S8x2048x1408 .bf16 := fun i =>
  (∑ k : Fin 4096, term A B (i 1) ⟨(i 0).val * 1408 + (i 2).val, by have := (i 0).isLt; have := (i 2).isLt; dsimp at *; omega⟩ k)

theorem res_at (x : Fin 2048) (z : Fin 11264) :
    (∑ k : Fin 4096, term (argA m c) (argB m c) x z k)
      = res (argA m c) (argB m c) (ix3 ⟨z.val / 1408, by have := z.isLt; omega⟩ x ⟨z.val % 1408, by omega⟩) :=
  Finset.sum_congr rfl fun k _ => congrArg (fun z => term (argA m c) (argB m c) x z k) (Fin.ext (Nat.div_add_mod' z.val 1408).symm)

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  obtain rfl : y0 = 0 := Subsingleton.elim _ _
  rw [out_at m c t ((flush0_2 t).mp hf), res_at]
  generalize res (argA m c) (argB m c) = G
  blk_ext! [at2 t, rowOf, colOf]

end Cert.DwUpIdeal.Mm

namespace Cert.DwUpRefIdeal.Mm

open Cert.DwUpRefIdeal Cert.DwUpRefIdeal.Gen Idealize.ShloMosaic Idealize.ShloMosaic.TcCoe Idealize.SL.Sem

/-- The reference's result from its arguments. -/
def out (A : FVec Ideal S4096x2048 .bf16) (B : FVec Ideal S2x4096x5632 .bf16) : FVec Ideal S8x2048x1408 .bf16 :=
  truncf .bf16 (transpose S8x2048x1408 [1, 0, 2] (shapeCast _ (transpose S2048x11264 [1, 0] (Host.dotGeneral dot_S4096x11264_S4096x2048_S11264x2048_0_0_1_1_n_n none (concatenate S4096x11264 1 [⟨S4096x5632, (shapeCast _ (extractStridedSlice S1x4096x5632 ![0, 0, 0] (extf .f32 B bitsLt_bf16_f32) slices_S2x4096x5632_S1x4096x5632_0_0_0) shapeCasts_S1x4096x5632_S4096x5632)⟩, ⟨S4096x5632, (shapeCast _ (extractStridedSlice S1x4096x5632 ![1, 0, 0] (extf .f32 B bitsLt_bf16_f32) slices_S2x4096x5632_S1x4096x5632_1_0_0) shapeCasts_S1x4096x5632_S4096x5632)⟩] concatenates_S4096x5632_S4096x5632_S4096x11264_d1) (extf .f32 A bitsLt_bf16_f32)) transposes_S11264x2048_S2048x11264_1_0) shapeCasts_S2048x11264_S2048x8x1408) transposes_S2048x8x1408_S8x2048x1408_1_0_2) bitsLt_bf16_f32

theorem out_eq (A : FVec Ideal S4096x2048 .bf16) (B : FVec Ideal S2x4096x5632 .bf16) : out A B = Cert.DwUpIdeal.Mm.res A B := by
  funext i
  idx_vars i
  pointwise [out]
  pointwise [Cert.DwUpIdeal.Mm.res, Cert.DwUpIdeal.Mm.term, Cert.DwUpIdeal.Mm.entA, Cert.DwUpIdeal.Mm.entB]
  refine Finset.sum_congr rfl fun k _ => ?_
  rw [mul_comm]
  refine congrArg (A (ix2 k i1) * ·) ?_
  have h0 := i0.isLt
  split_ifs
  all_goals exact Cert.Spec.read3 B (by simp only [Fin.isValue, Fin.val_zero, Fin.val_one, Fin.reduceFinMk, Fin.val_ofNat, Fin.coe_ofNat_eq_mod]; omega) rfl (by dsimp only; omega)

end Cert.DwUpRefIdeal.Mm

end
-- ==== Proof.Mm.DUp.lean ====
/- The gradient at the feed-forward input: what the kernel leaves and what the reference computes. -/
module

public import proofs.«01_k».proof.Proof.Gen.DUpIdeal.Value
public import proofs.«01_k».proof.Proof.Gen.DUpRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DUpIdeal.Mm

open Cert.DUpIdeal Cert.DUpIdeal.Gen Idealize.ShloMosaic Idealize.ShloMosaic.TcCoe Idealize.SL.Sem
open Idealize.ShloMosaic.Pipeline (Dat)

theorem at0 : ∀ t : Fin cfg0.N, win0_0.index t = ![t.val % 2, t.val / 8, 0] := (by decide +kernel : ∀ t : Fin grid0.N, _)
theorem at1 : ∀ t : Fin cfg0.N, win0_1.index t = ![t.val % 2, t.val / 2 % 4, 0] := (by decide +kernel : ∀ t : Fin grid0.N, _)
theorem at2 : ∀ t : Fin cfg0.N, win0_2.index t = ![t.val / 8, t.val / 2 % 4] := (by decide +kernel : ∀ t : Fin grid0.N, _)
theorem at3 : ∀ t : Fin cfg0.N, win0_3.index t = ![t.val / 8, t.val / 2 % 4] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S2x4096x5632 .bf16 := m ((c : Thread nD τ).loc main_arg0)
abbrev argB : FVec Ideal S8x2048x1408 .bf16 := m ((c : Thread nD τ).loc main_arg1)
abbrev argD : FVec Ideal S4096x2048 .f32 := m ((c : Thread nD τ).loc main_arg2)

/-- The row and the column of the product that an entry of point `t`'s block is. -/
def rowOf (t : Fin cfg0.N) (p : Fin 1024) : Fin 4096 := ⟨1024 * (t.val / 8) + p.val, by have := points t; omega⟩
def colOf (t : Fin cfg0.N) (q : Fin 512) : Fin 2048 := ⟨512 * (t.val / 2 % 4) + q.val, by have := points t; omega⟩

/-- The factors that meet at place `k` of the summed axis, and their product. -/
def entA (A : FVec Ideal S2x4096x5632 .bf16) (x : Fin 4096) (k : Fin 11264) : EReal := A (ix3 ⟨k.val / 5632, by have := k.isLt; omega⟩ x ⟨k.val % 5632, by omega⟩)
def entB (B : FVec Ideal S8x2048x1408 .bf16) (y : Fin 2048) (k : Fin 11264) : EReal := B (ix3 ⟨k.val / 1408, by have := k.isLt; omega⟩ y ⟨k.val % 1408, by omega⟩)
def term (A : FVec Ideal S2x4096x5632 .bf16) (B : FVec Ideal S8x2048x1408 .bf16) (x : Fin 4096) (y : Fin 2048) (k : Fin 11264) : EReal := entA A x k * entB B y k

theorem blk0 (t : Fin cfg0.N) (p : Fin 1024) (k : Fin 5632) :
    iblk m c 0 t (ix3 0 p k) = entA (argA m c) (rowOf t p) ⟨5632 * (t.val % 2) + k.val, by have := k.isLt; omega⟩ := by
  have hp := points t
  blk_ext! [iblk, V, at0 t, rowOf, argA, entA]

theorem blk1 (t : Fin cfg0.N) (s : ℕ) (hs : s < 4) (q : Fin 512) (l : Fin 1408) :
    iblk m c 1 t (ix3 ⟨s, hs⟩ q l) = entB (argB m c) (colOf t q) ⟨5632 * (t.val % 2) + (1408 * s + l.val), by have := l.isLt; omega⟩ := by
  have hp := points t
  blk_ext! [iblk, V, at1 t, colOf, argB, entB]

theorem blk2 (t : Fin cfg0.N) (p : Fin 1024) (q : Fin 512) :
    iblk m c 2 t (ix2 p q) = argD m c (ix2 (rowOf t p) (colOf t q)) := by
  have hp := points t
  blk_ext! [iblk, V, at2 t, rowOf, colOf, argD]

/-- The blocks a point reads. -/
abbrev blkA (t : Fin cfg0.N) : FVec Ideal S1x1024x5632 .bf16 := iblk m c 0 t
abbrev blkB (t : Fin cfg0.N) : FVec Ideal S4x512x1408 .bf16 := iblk m c 1 t

/-- One point's share of an entry. -/
def part (t : Fin cfg0.N) (p : Fin 1024) (q : Fin 512) : EReal :=
  ∑ k : Fin 5632, term (argA m c) (argB m c) (rowOf t p) (colOf t q) ⟨5632 * (t.val % 2) + k.val, by have := k.isLt; omega⟩

/-- The 4 products of a point make up its share. -/
theorem part_at (t : Fin cfg0.N) (p : Fin 1024) (q : Fin 512) :
    (∑ x : Fin 1408, blkA m c t (ix3 0 p ⟨x.val, by have := x.isLt; omega⟩) * blkB m c t (ix3 0 q x)) + (∑ x : Fin 1408, blkA m c t (ix3 0 p ⟨1408 + x.val, by have := x.isLt; omega⟩) * blkB m c t (ix3 1 q x)) + (∑ x : Fin 1408, blkA m c t (ix3 0 p ⟨2816 + x.val, by have := x.isLt; omega⟩) * blkB m c t (ix3 2 q x)) + (∑ x : Fin 1408, blkA m c t (ix3 0 p ⟨4224 + x.val, by have := x.isLt; omega⟩) * blkB m c t (ix3 3 q x)) = part m c t p q := by
  unfold part
  rw [Cert.Spec.sum_four 1408 rfl]
  refine congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)
  · exact congrArg₂ (fun a b : EReal => a * b) ((blk0 m c t p _).trans (congrArg (entA (argA m c) (rowOf t p)) (Fin.ext (by dsimp only <;> omega))))
      ((blk1 m c t 0 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 1 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 2 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 3 (by omega) q x).trans (congrArg (entB (argB m c) (colOf t q)) (Fin.ext (by dsimp only <;> omega))))

/-- A point's share, told from another point of the same block. -/
theorem part_same (t u : Fin cfg0.N) (h : u.val / 2 = t.val / 2) (j : ℕ) (hj : u.val % 2 = j) (hl : j < 2)
    (p : Fin 1024) (q : Fin 512) :
    part m c u p q = ∑ k : Fin 5632, term (argA m c) (argB m c) (rowOf t p) (colOf t q) ⟨5632 * j + k.val, by have := k.isLt; omega⟩ := by
  have e1 : rowOf u p = rowOf t p := Fin.ext (by dsimp only [rowOf]; omega)
  have e2 : colOf u q = colOf t q := Fin.ext (by dsimp only [colOf]; omega)
  subst hj
  unfold part
  rw [e1, e2]

/-- What the first point of a block keeps. -/
theorem acc_first (t : Fin cfg0.N) (h : t.val % 2 = 0) (p : Fin 1024) (q : Fin 512) :
    (outsAt0 m c t.val t.isLt).2 (ix2 p q) = part m c t p q := by
  rw [outsAt0_A m c t h (by omega)]
  frame_out
  pointwise [k0_pay1, k0_pay2, k0_pay3]
  exact part_at m c t p q

/-- What the last point of a block leaves. -/
theorem out_last (t : Fin cfg0.N) (h : t.val % 2 = 1) (hb : t.val - 1 < cfg0.N) (p : Fin 1024) (q : Fin 512) :
    (outsAt0 m c t.val t.isLt).1 (ix2 p q)
      = (outsAt0 m c (t.val - 1) hb).2 (ix2 p q) + part m c t p q + argD m c (ix2 (rowOf t p) (colOf t q)) := by
  rw [outsAt0_B m c t (by omega) h]
  frame_out
  pointwise [k0_pay1, k0_pay2, k0_pay3]
  rw [read_unread_whole]
  exact congrArg₂ (· + ·) (congrArg ((outsAt0 m c (t.val - 1) hb).2 (ix2 p q) + ·) (part_at m c t p q)) (blk2 m c t p q)

/-- The last point's entries, from the arguments. -/
theorem out_at (t : Fin cfg0.N) (h : t.val % 2 = 1) (p : Fin 1024) (q : Fin 512) :
    (outsAt0 m c t.val t.isLt).1 (ix2 p q)
      = (∑ k : Fin 11264, term (argA m c) (argB m c) (rowOf t p) (colOf t q) k) + argD m c (ix2 (rowOf t p) (colOf t q)) := by
  have hp := points t
  have h1 : t.val - 1 < cfg0.N := (Nat.sub_le _ _).trans_lt t.isLt
  rw [out_last m c t h h1, Cert.Spec.sum_two 5632 rfl]
  refine congrArg (· + argD m c (ix2 (rowOf t p) (colOf t q))) (congrArg₂ (· + ·)
    ((acc_first m c ⟨t.val - 1, h1⟩ (by dsimp only; omega) p q).trans ?_) ?_)
  · exact part_same m c t ⟨t.val - 1, h1⟩ (by dsimp only; omega) 0 (by dsimp only; omega) (by omega) p q
  · exact part_same m c t t rfl 1 h (by omega) p q

/-- The result. -/
def res (A : FVec Ideal S2x4096x5632 .bf16) (B : FVec Ideal S8x2048x1408 .bf16) (E : FVec Ideal S4096x2048 .f32) : FVec Ideal S4096x2048 .f32 := fun i =>
  (∑ k : Fin 11264, term A B (i 0) (i 1) k) + E i

theorem res_at (x : Fin 4096) (z : Fin 2048) :
    (∑ k : Fin 11264, term (argA m c) (argB m c) x z k) + argD m c (ix2 x z)
      = res (argA m c) (argB m c) (argD m c) (ix2 x z) :=
  rfl

/-- The result array. -/
theorem arr : (dats m 0 c).arrAt 3 cfg0.N = res (argA m c) (argB m c) (argD m c) := by
  refine (dats m 0 c).arrAt_eq_of_covers 3 _ (by decide +kernel) fun t hf y => ?_
  blk_simp
  rw [after0_3]
  idx_vars y
  have hp := points t
  rw [out_at m c t ((flush0_3 t).mp hf), res_at]
  generalize res (argA m c) (argB m c) (argD m c) = G
  blk_ext! [at3 t, rowOf, colOf]

end Cert.DUpIdeal.Mm

namespace Cert.DUpRefIdeal.Mm

open Cert.DUpRefIdeal Cert.DUpRefIdeal.Gen Idealize.ShloMosaic Idealize.ShloMosaic.TcCoe Idealize.SL.Sem

/-- The reference's result from its arguments. -/
def out (A : FVec Ideal S2x4096x5632 .bf16) (B : FVec Ideal S8x2048x1408 .bf16) (E : FVec Ideal S4096x2048 .f32) : FVec Ideal S4096x2048 .f32 :=
  addf (Host.dotGeneral dot_S4096x11264_S2048x11264_S4096x2048_1_1_0_0_n_n none (concatenate S4096x11264 1 [⟨S4096x5632, (shapeCast _ (extractStridedSlice S1x4096x5632 ![0, 0, 0] (extf .f32 A bitsLt_bf16_f32) slices_S2x4096x5632_S1x4096x5632_0_0_0) shapeCasts_S1x4096x5632_S4096x5632)⟩, ⟨S4096x5632, (shapeCast _ (extractStridedSlice S1x4096x5632 ![1, 0, 0] (extf .f32 A bitsLt_bf16_f32) slices_S2x4096x5632_S1x4096x5632_1_0_0) shapeCasts_S1x4096x5632_S4096x5632)⟩] concatenates_S4096x5632_S4096x5632_S4096x11264_d1) (shapeCast _ (transpose S2048x8x1408 [1, 0, 2] (extf .f32 B bitsLt_bf16_f32) transposes_S8x2048x1408_S2048x8x1408_1_0_2) shapeCasts_S2048x8x1408_S2048x11264)) E

theorem out_eq (A : FVec Ideal S2x4096x5632 .bf16) (B : FVec Ideal S8x2048x1408 .bf16) (E : FVec Ideal S4096x2048 .f32) : out A B E = Cert.DUpIdeal.Mm.res A B E := by
  funext i
  idx_vars i
  pointwise [out]
  pointwise [Cert.DUpIdeal.Mm.res, Cert.DUpIdeal.Mm.term, Cert.DUpIdeal.Mm.entA, Cert.DUpIdeal.Mm.entB]
  refine congrArg (· + E (ix2 i0 i1)) ?_
  rw [Cert.Spec.sum_two (N := 11264) 5632 rfl]
  refine congrArg₂ (· + ·) (Finset.sum_congr rfl fun k _ => ?_) (Finset.sum_congr rfl fun k _ => ?_)
  · exact congrArg₂ (fun a b : EReal => a * b)
      (Cert.Spec.read3 A (by simp only [Fin.isValue, Fin.val_zero, Fin.val_one]; omega) rfl (by dsimp only <;> omega))
      (Cert.Spec.read3 B (by dsimp only <;> omega) rfl (by dsimp only <;> omega))
  · exact congrArg₂ (fun a b : EReal => a * b)
      (Cert.Spec.read3 A (by simp only [Fin.isValue, Fin.val_zero, Fin.val_one]; omega) rfl (by dsimp only <;> omega))
      (Cert.Spec.read3 B (by dsimp only <;> omega) rfl (by dsimp only <;> omega))

end Cert.DUpRefIdeal.Mm

end
-- ==== Proof.Mm.DwOut.lean ====
/- The gradient of a mixer's output weight: what the kernel leaves and what the reference computes. -/
module

public import proofs.«01_k».proof.Proof.Gen.DwOutIdeal.Value
public import proofs.«01_k».proof.Proof.Gen.DwOutRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwOutIdeal.Mm

open Cert.DwOutIdeal Cert.DwOutIdeal.Gen Idealize.ShloMosaic Idealize.ShloMosaic.TcCoe Idealize.SL.Sem
open Idealize.ShloMosaic.Pipeline (Dat)

theorem at0 : ∀ t : Fin cfg0.N, win0_0.index t = ![t.val % 2, t.val / 4] := (by decide +kernel : ∀ t : Fin grid0.N, _)
theorem at1 : ∀ t : Fin cfg0.N, win0_1.index t = ![t.val % 2, t.val / 2 % 2] := (by decide +kernel : ∀ t : Fin grid0.N, _)
theorem at2 : ∀ t : Fin cfg0.N, win0_2.index t = ![t.val / 4, t.val / 2 % 2] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S4096x2048 .bf16 := m ((c : Thread nD τ).loc main_arg1)

/-- The row and the column of the product that an entry of point `t`'s block is. -/
def rowOf (t : Fin cfg0.N) (p : Fin 1024) : Fin 2048 := ⟨1024 * (t.val / 4) + p.val, by have := points t; omega⟩
def colOf (t : Fin cfg0.N) (q : Fin 1024) : Fin 2048 := ⟨1024 * (t.val / 2 % 2) + q.val, by have := points t; omega⟩

/-- The factors that meet at place `k` of the summed axis, and their product. -/
def entA (A : FVec Ideal S4096x2048 .bf16) (x : Fin 2048) (k : Fin 4096) : EReal := A (ix2 k x)
def entB (B : FVec Ideal S4096x2048 .bf16) (y : Fin 2048) (k : Fin 4096) : EReal := B (ix2 k y)
def term (A : FVec Ideal S4096x2048 .bf16) (B : FVec Ideal S4096x2048 .bf16) (x : Fin 2048) (y : Fin 2048) (k : Fin 4096) : EReal := entA A x k * entB B y k

theorem blk0 (t : Fin cfg0.N) (p : Fin 1024) (k : Fin 2048) :
    iblk m c 0 t (ix2 k p) = entA (argA m c) (rowOf t p) ⟨2048 * (t.val % 2) + k.val, by have := k.isLt; omega⟩ := by
  have hp := points t
  blk_ext! [iblk, V, at0 t, rowOf, argA, entA]

theorem blk1 (t : Fin cfg0.N) (q : Fin 1024) (k : Fin 2048) :
    iblk m c 1 t (ix2 k q) = entB (argB m c) (colOf t q) ⟨2048 * (t.val % 2) + k.val, by have := k.isLt; omega⟩ := by
  have hp := points t
  blk_ext! [iblk, V, at1 t, colOf, argB, entB]

theorem dot_at (t : Fin cfg0.N) (p : Fin 1024) (q : Fin 1024) :
    k0_pay1 (iblk m c 0 t) (iblk m c 1 t) (ix2 p q)
      = ∑ k : Fin 2048, term (argA m c) (argB m c) (rowOf t p) (colOf t q) ⟨2048 * (t.val % 2) + k.val, by have := k.isLt; omega⟩ := by
  pointwise [k0_pay1]
  simp only [blk0, blk1, term]

/-- What the first of the two points of a block keeps. -/
theorem acc_at (t : Fin cfg0.N) (h : t.val % 2 = 0) (p : Fin 1024) (q : Fin 1024) :
    (outsAt0 m c t.val t.isLt).2 (ix2 p q) = k0_pay1 (iblk m c 0 t) (iblk m c 1 t) (ix2 p q) := by
  rw [outsAt0_A m c t h (by omega)]
  frame_out
  pointwise [k0_pay2]

/-- What the second of the two points of a block leaves. -/
theorem out_at (t : Fin cfg0.N) (h : t.val % 2 = 1) (p : Fin 1024) (q : Fin 1024) :
    (outsAt0 m c t.val t.isLt).1 (ix2 p q) = ∑ k : Fin 4096, term (argA m c) (argB m c) (rowOf t p) (colOf t q) k := by
  rw [outsAt0_B m c t (by omega) h]
  frame_out
  have hb : t.val - 1 < cfg0.N := (Nat.sub_le _ _).trans_lt t.isLt
  have hp := points t
  have hacc := acc_at m c ⟨t.val - 1, hb⟩ (by dsimp only; omega) p q
  pointwise [k0_pay3]
  rw [Cert.Spec.sum_two 2048 rfl]
  rw [read_unread_whole]
  refine congrArg₂ (· + ·) (hacc.trans ((dot_at m c _ p q).trans (Finset.sum_congr rfl fun k _ => ?_)))
    ((dot_at m c t p q).trans (Finset.sum_congr rfl fun k _ => ?_))
  · have e1 : rowOf ⟨t.val - 1, hb⟩ p = rowOf t p := Fin.ext (by dsimp only [rowOf]; omega)
    have e2 : colOf ⟨t.val - 1, hb⟩ q = colOf t q := Fin.ext (by dsimp only [colOf]; omega)
    rw [e1, e2]
    exact congrArg _ (Fin.ext (by dsimp only; omega))
  · exact congrArg _ (Fin.ext (by dsimp only; omega))

/-- The result. -/
def res (A : FVec Ideal S4096x2048 .bf16) (B : FVec Ideal S4096x2048 .bf16) : FVec Ideal S2048x2048 .bf16 := fun i =>
  (∑ k : Fin 4096, term A B (i 0) (i 1) k)

theorem res_at (x : Fin 2048) (z : Fin 2048) :
    (∑ k : Fin 4096, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t ((flush0_2 t).mp hf), res_at]
  generalize res (argA m c) (argB m c) = G
  blk_ext! [at2 t, rowOf, colOf]

end Cert.DwOutIdeal.Mm

namespace Cert.DwOutRefIdeal.Mm

open Cert.DwOutRefIdeal Cert.DwOutRefIdeal.Gen Idealize.ShloMosaic Idealize.ShloMosaic.TcCoe Idealize.SL.Sem

/-- The reference's result from its arguments. -/
def out (A : FVec Ideal S4096x2048 .bf16) (B : FVec Ideal S4096x2048 .bf16) : FVec Ideal S2048x2048 .bf16 :=
  truncf .bf16 (transpose S2048x2048 [1, 0] (Host.dotGeneral dot_S4096x2048_S4096x2048_S2048x2048_0_0_1_1_n_n none (extf .f32 B bitsLt_bf16_f32) (extf .f32 A bitsLt_bf16_f32)) transposes_S2048x2048_S2048x2048_1_0) bitsLt_bf16_f32

theorem out_eq (A : FVec Ideal S4096x2048 .bf16) (B : FVec Ideal S4096x2048 .bf16) : out A B = Cert.DwOutIdeal.Mm.res A B := by
  funext i
  idx_vars i
  pointwise [out]
  pointwise [Cert.DwOutIdeal.Mm.res]
  skip
  refine Finset.sum_congr rfl fun k _ => ?_
  rw [mul_comm]
  rfl

end Cert.DwOutRefIdeal.Mm

end
-- ==== Proof.Mm.DOut.lean ====
/- The gradient at a mixer's output: what the kernel leaves and what the reference computes. -/
module

public import proofs.«01_k».proof.Proof.Gen.DOutIdeal.Value
public import proofs.«01_k».proof.Proof.Gen.DOutRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DOutIdeal.Mm

open Cert.DOutIdeal Cert.DOutIdeal.Gen Idealize.ShloMosaic Idealize.ShloMosaic.TcCoe Idealize.SL.Sem
open Idealize.ShloMosaic.Pipeline (Dat)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem points (t : Fin cfg0.N) : t.val < 4 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S2048x2048 .bf16 := m ((c : Thread nD τ).loc main_arg1)

/-- The row and the column of the product that an entry of point `t`'s block is. -/
def rowOf (t : Fin cfg0.N) (p : Fin 1024) : Fin 4096 := ⟨1024 * (t.val) + p.val, by have := points t; omega⟩
def colOf (t : Fin cfg0.N) (q : Fin 2048) : Fin 2048 := ⟨2048 * (0) + q.val, by have := points t; omega⟩

/-- The factors that meet at place `k` of the summed axis, and their product. -/
def entA (A : FVec Ideal S4096x2048 .bf16) (x : Fin 4096) (k : Fin 2048) : EReal := A (ix2 x k)
def entB (B : FVec Ideal S2048x2048 .bf16) (y : Fin 2048) (k : Fin 2048) : EReal := B (ix2 y k)
def term (A : FVec Ideal S4096x2048 .bf16) (B : FVec Ideal S2048x2048 .bf16) (x : Fin 4096) (y : Fin 2048) (k : Fin 2048) : EReal := entA A x k * entB B y k

theorem blk0 (t : Fin cfg0.N) (p : Fin 1024) (k : Fin 2048) :
    iblk m c 0 t (ix2 p k) = entA (argA m c) (rowOf t p) ⟨k.val, k.isLt⟩ := by
  have hp := points t
  blk_ext! [iblk, V, at0 t, rowOf, argA, entA]

theorem blk1 (t : Fin cfg0.N) (q : Fin 2048) (k : Fin 2048) :
    iblk m c 1 t (ix2 q k) = entB (argB m c) (colOf t q) ⟨k.val, k.isLt⟩ := by
  have hp := points t
  blk_ext! [iblk, V, at1 t, colOf, argB, entB]

theorem dot_at (t : Fin cfg0.N) (p : Fin 1024) (q : Fin 2048) :
    k0_pay1 (iblk m c 0 t) (iblk m c 1 t) (ix2 p q)
      = ∑ k : Fin 2048, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 2048) :
    outsAt0 m c t (ix2 p q) = ∑ k : Fin 2048, term (argA m c) (argB m c) (rowOf t p) (colOf t q) k := by
  unfold outsAt0
  frame_out
  exact dot_at m c t p q

/-- The result. -/
def res (A : FVec Ideal S4096x2048 .bf16) (B : FVec Ideal S2048x2048 .bf16) : FVec Ideal S4096x2048 .f32 := fun i =>
  (∑ k : Fin 2048, term A B (i 0) (i 1) k)

theorem res_at (x : Fin 4096) (z : Fin 2048) :
    (∑ k : Fin 2048, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t, res_at]
  generalize res (argA m c) (argB m c) = G
  blk_ext! [at2 t, rowOf, colOf]

end Cert.DOutIdeal.Mm

namespace Cert.DOutRefIdeal.Mm

open Cert.DOutRefIdeal Cert.DOutRefIdeal.Gen Idealize.ShloMosaic Idealize.ShloMosaic.TcCoe Idealize.SL.Sem

/-- The reference's result from its arguments. -/
def out (A : FVec Ideal S4096x2048 .bf16) (B : FVec Ideal S2048x2048 .bf16) : FVec Ideal S4096x2048 .f32 :=
  Host.dotGeneral dot_S4096x2048_S2048x2048_S4096x2048_1_1_0_0_n_n none (extf .f32 A bitsLt_bf16_f32) (extf .f32 B bitsLt_bf16_f32)

theorem out_eq (A : FVec Ideal S4096x2048 .bf16) (B : FVec Ideal S2048x2048 .bf16) : out A B = Cert.DOutIdeal.Mm.res A B := by
  funext i
  idx_vars i
  pointwise [out]
  pointwise [Cert.DOutIdeal.Mm.res]
  skip
  refine Finset.sum_congr rfl fun k _ => ?_
  skip
  rfl

end Cert.DOutRefIdeal.Mm

end
-- ==== Proof.Mm.DwSgIn.lean ====
/- The gradient of the gating mixer's input weight: what the kernel leaves and what the reference computes. -/
module

public import proofs.«01_k».proof.Proof.Gen.DwSgInIdeal.Value
public import proofs.«01_k».proof.Proof.Gen.DwSgInRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwSgInIdeal.Mm

open Cert.DwSgInIdeal Cert.DwSgInIdeal.Gen Idealize.ShloMosaic Idealize.ShloMosaic.TcCoe Idealize.SL.Sem
open Idealize.ShloMosaic.Pipeline (Dat)

theorem at0 : ∀ t : Fin cfg0.N, win0_0.index t = ![0, t.val / 8] := (by decide +kernel : ∀ t : Fin grid0.N, _)
theorem at1 : ∀ t : Fin cfg0.N, win0_1.index t = ![0, t.val % 8] := (by decide +kernel : ∀ t : Fin grid0.N, _)
theorem at2 : ∀ t : Fin cfg0.N, win0_2.index t = ![t.val % 8, t.val / 8, 0] := (by decide +kernel : ∀ t : Fin grid0.N, _)
theorem points (t : Fin cfg0.N) : t.val < 16 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S4096x4096 .bf16 := m ((c : Thread nD τ).loc main_arg1)

/-- The row and the column of the product that an entry of point `t`'s block is. -/
def rowOf (t : Fin cfg0.N) (p : Fin 1024) : Fin 2048 := ⟨1024 * (t.val / 8) + p.val, by have := points t; omega⟩
def colOf (t : Fin cfg0.N) (q : Fin 512) : Fin 4096 := ⟨512 * (t.val % 8) + q.val, by have := points t; omega⟩

/-- The factors that meet at place `k` of the summed axis, and their product. -/
def entA (A : FVec Ideal S4096x2048 .bf16) (x : Fin 2048) (k : Fin 4096) : EReal := A (ix2 k x)
def entB (B : FVec Ideal S4096x4096 .bf16) (y : Fin 4096) (k : Fin 4096) : EReal := B (ix2 k y)
def term (A : FVec Ideal S4096x2048 .bf16) (B : FVec Ideal S4096x4096 .bf16) (x : Fin 2048) (y : Fin 4096) (k : Fin 4096) : EReal := entA A x k * entB B y k

theorem blk0 (t : Fin cfg0.N) (p : Fin 1024) (k : Fin 4096) :
    iblk m c 0 t (ix2 k p) = entA (argA m c) (rowOf t p) ⟨k.val, k.isLt⟩ := by
  have hp := points t
  blk_ext! [iblk, V, at0 t, rowOf, argA, entA]

theorem blk1 (t : Fin cfg0.N) (q : Fin 512) (k : Fin 4096) :
    iblk m c 1 t (ix2 k q) = entB (argB m c) (colOf t q) ⟨k.val, k.isLt⟩ := by
  have hp := points t
  blk_ext! [iblk, V, at1 t, colOf, argB, entB]

theorem dot_at (t : Fin cfg0.N) (p : Fin 1024) (q : Fin 512) :
    k0_pay1 (iblk m c 0 t) (iblk m c 1 t) (ix3 0 p q)
      = ∑ k : Fin 4096, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 512) :
    out0_2 (iblk m c 0 t) (iblk m c 1 t) (ix3 0 p q) = ∑ k : Fin 4096, term (argA m c) (argB m c) (rowOf t p) (colOf t q) k := by
  unfold out0_2
  frame_out
  exact dot_at m c t p q

/-- The result. -/
def res (A : FVec Ideal S4096x2048 .bf16) (B : FVec Ideal S4096x4096 .bf16) : FVec Ideal S8x2048x512 .bf16 := fun i =>
  (∑ k : Fin 4096, term A B (i 1) ⟨(i 0).val * 512 + (i 2).val, by have := (i 0).isLt; have := (i 2).isLt; dsimp at *; omega⟩ k)

theorem res_at (x : Fin 2048) (z : Fin 4096) :
    (∑ k : Fin 4096, term (argA m c) (argB m c) x z k)
      = res (argA m c) (argB m c) (ix3 ⟨z.val / 512, by have := z.isLt; omega⟩ x ⟨z.val % 512, by omega⟩) :=
  Finset.sum_congr rfl fun k _ => congrArg (fun z => term (argA m c) (argB m c) x z k) (Fin.ext (Nat.div_add_mod' z.val 512).symm)

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  obtain rfl : y0 = 0 := Subsingleton.elim _ _
  rw [out_at m c t, res_at]
  generalize res (argA m c) (argB m c) = G
  blk_ext! [at2 t, rowOf, colOf]

end Cert.DwSgInIdeal.Mm

namespace Cert.DwSgInRefIdeal.Mm

open Cert.DwSgInRefIdeal Cert.DwSgInRefIdeal.Gen Idealize.ShloMosaic Idealize.ShloMosaic.TcCoe Idealize.SL.Sem

/-- The reference's result from its arguments. -/
def out (A : FVec Ideal S4096x2048 .bf16) (B : FVec Ideal S4096x4096 .bf16) : FVec Ideal S8x2048x512 .bf16 :=
  truncf .bf16 (transpose S8x2048x512 [1, 0, 2] (shapeCast _ (transpose S2048x4096 [1, 0] (Host.dotGeneral dot_S4096x4096_S4096x2048_S4096x2048_0_0_1_1_n_n none (extf .f32 B bitsLt_bf16_f32) (extf .f32 A bitsLt_bf16_f32)) transposes_S4096x2048_S2048x4096_1_0) shapeCasts_S2048x4096_S2048x8x512) transposes_S2048x8x512_S8x2048x512_1_0_2) bitsLt_bf16_f32

theorem out_eq (A : FVec Ideal S4096x2048 .bf16) (B : FVec Ideal S4096x4096 .bf16) : out A B = Cert.DwSgInIdeal.Mm.res A B := by
  funext i
  idx_vars i
  pointwise [out]
  pointwise [Cert.DwSgInIdeal.Mm.res]
  skip
  refine Finset.sum_congr rfl fun k _ => ?_
  rw [mul_comm]
  rfl

end Cert.DwSgInRefIdeal.Mm

end
-- ==== Proof.Mm.DSgIn.lean ====
/- The gradient at the gating mixer's input: what the kernel leaves and what the reference computes. -/
module

public import proofs.«01_k».proof.Proof.Gen.DSgInIdeal.Value
public import proofs.«01_k».proof.Proof.Gen.DSgInRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DSgInIdeal.Mm

open Cert.DSgInIdeal Cert.DSgInIdeal.Gen Idealize.ShloMosaic Idealize.ShloMosaic.TcCoe Idealize.SL.Sem
open Idealize.ShloMosaic.Pipeline (Dat)

theorem at0 : ∀ t : Fin cfg0.N, win0_0.index t = ![t.val / 4, t.val % 2] := (by decide +kernel : ∀ t : Fin grid0.N, _)
theorem at1 : ∀ t : Fin cfg0.N, win0_1.index t = ![t.val % 2, t.val / 2 % 2, 0] := (by decide +kernel : ∀ t : Fin grid0.N, _)
theorem at2 : ∀ t : Fin cfg0.N, win0_2.index t = ![t.val / 4, t.val / 2 % 2] := (by decide +kernel : ∀ t : Fin grid0.N, _)
theorem at3 : ∀ t : Fin cfg0.N, win0_3.index t = ![t.val / 4, t.val / 2 % 2] := (by decide +kernel : ∀ t : Fin grid0.N, _)
theorem points (t : Fin cfg0.N) : t.val < 16 := t.isLt.trans_eq N_0

variable (m : (ℓ : Loc nD τ sig) → Buf (Elt Ideal) ℓ) (c : Dev nD)

/-- The arguments. -/
abbrev argA : FVec Ideal S4096x4096 .bf16 := m ((c : Thread nD τ).loc main_arg0)
abbrev argB : FVec Ideal S8x2048x512 .bf16 := m ((c : Thread nD τ).loc main_arg1)
abbrev argD : FVec Ideal S4096x2048 .f32 := m ((c : Thread nD τ).loc main_arg2)

/-- The row and the column of the product that an entry of point `t`'s block is. -/
def rowOf (t : Fin cfg0.N) (p : Fin 1024) : Fin 4096 := ⟨1024 * (t.val / 4) + p.val, by have := points t; omega⟩
def colOf (t : Fin cfg0.N) (q : Fin 1024) : Fin 2048 := ⟨1024 * (t.val / 2 % 2) + q.val, by have := points t; omega⟩

/-- The factors that meet at place `k` of the summed axis, and their product. -/
def entA (A : FVec Ideal S4096x4096 .bf16) (x : Fin 4096) (k : Fin 4096) : EReal := A (ix2 x k)
def entB (B : FVec Ideal S8x2048x512 .bf16) (y : Fin 2048) (k : Fin 4096) : EReal := B (ix3 ⟨k.val / 512, by have := k.isLt; omega⟩ y ⟨k.val % 512, by omega⟩)
def term (A : FVec Ideal S4096x4096 .bf16) (B : FVec Ideal S8x2048x512 .bf16) (x : Fin 4096) (y : Fin 2048) (k : Fin 4096) : EReal := entA A x k * entB B y k

theorem blk0 (t : Fin cfg0.N) (p : Fin 1024) (k : Fin 2048) :
    iblk m c 0 t (ix2 p k) = entA (argA m c) (rowOf t p) ⟨2048 * (t.val % 2) + k.val, by have := k.isLt; omega⟩ := by
  have hp := points t
  blk_ext! [iblk, V, at0 t, rowOf, argA, entA]

theorem blk1 (t : Fin cfg0.N) (s : ℕ) (hs : s < 4) (q : Fin 1024) (l : Fin 512) :
    iblk m c 1 t (ix3 ⟨s, hs⟩ q l) = entB (argB m c) (colOf t q) ⟨2048 * (t.val % 2) + (512 * s + l.val), by have := l.isLt; omega⟩ := by
  have hp := points t
  blk_ext! [iblk, V, at1 t, colOf, argB, entB]

theorem blk2 (t : Fin cfg0.N) (p : Fin 1024) (q : Fin 1024) :
    iblk m c 2 t (ix2 p q) = argD m c (ix2 (rowOf t p) (colOf t q)) := by
  have hp := points t
  blk_ext! [iblk, V, at2 t, rowOf, colOf, argD]

/-- The blocks a point reads. -/
abbrev blkA (t : Fin cfg0.N) : FVec Ideal S1024x2048 .bf16 := iblk m c 0 t
abbrev blkB (t : Fin cfg0.N) : FVec Ideal S4x1024x512 .bf16 := iblk m c 1 t

/-- One point's share of an entry. -/
def part (t : Fin cfg0.N) (p : Fin 1024) (q : Fin 1024) : EReal :=
  ∑ k : Fin 2048, term (argA m c) (argB m c) (rowOf t p) (colOf t q) ⟨2048 * (t.val % 2) + k.val, by have := k.isLt; omega⟩

/-- The 4 products of a point make up its share. -/
theorem part_at (t : Fin cfg0.N) (p : Fin 1024) (q : Fin 1024) :
    (∑ x : Fin 512, blkA m c t (ix2 p ⟨x.val, by have := x.isLt; omega⟩) * blkB m c t (ix3 0 q x)) + (∑ x : Fin 512, blkA m c t (ix2 p ⟨512 + x.val, by have := x.isLt; omega⟩) * blkB m c t (ix3 1 q x)) + (∑ x : Fin 512, blkA m c t (ix2 p ⟨1024 + x.val, by have := x.isLt; omega⟩) * blkB m c t (ix3 2 q x)) + (∑ x : Fin 512, blkA m c t (ix2 p ⟨1536 + x.val, by have := x.isLt; omega⟩) * blkB m c t (ix3 3 q x)) = part m c t p q := by
  unfold part
  rw [Cert.Spec.sum_four 512 rfl]
  refine congrArg₂ (· + ·) (congrArg₂ (· + ·) (congrArg₂ (· + ·) (Finset.sum_congr rfl fun x _ => ?_) (Finset.sum_congr rfl fun x _ => ?_)) (Finset.sum_congr rfl fun x _ => ?_)) (Finset.sum_congr rfl fun x _ => ?_)
  · exact congrArg₂ (fun a b : EReal => a * b) ((blk0 m c t p _).trans (congrArg (entA (argA m c) (rowOf t p)) (Fin.ext (by dsimp only <;> omega))))
      ((blk1 m c t 0 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 1 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 2 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 3 (by omega) q x).trans (congrArg (entB (argB m c) (colOf t q)) (Fin.ext (by dsimp only <;> omega))))

/-- A point's share, told from another point of the same block. -/
theorem part_same (t u : Fin cfg0.N) (h : u.val / 2 = t.val / 2) (j : ℕ) (hj : u.val % 2 = j) (hl : j < 2)
    (p : Fin 1024) (q : Fin 1024) :
    part m c u p q = ∑ k : Fin 2048, term (argA m c) (argB m c) (rowOf t p) (colOf t q) ⟨2048 * j + k.val, by have := k.isLt; omega⟩ := by
  have e1 : rowOf u p = rowOf t p := Fin.ext (by dsimp only [rowOf]; omega)
  have e2 : colOf u q = colOf t q := Fin.ext (by dsimp only [colOf]; omega)
  subst hj
  unfold part
  rw [e1, e2]

/-- What the first point of a block keeps. -/
theorem acc_first (t : Fin cfg0.N) (h : t.val % 2 = 0) (p : Fin 1024) (q : Fin 1024) :
    (outsAt0 m c t.val t.isLt).2 (ix2 p q) = part m c t p q := by
  rw [outsAt0_A m c t h (by omega)]
  frame_out
  pointwise [k0_pay1, k0_pay2, k0_pay3]
  exact part_at m c t p q

/-- What the last point of a block leaves. -/
theorem out_last (t : Fin cfg0.N) (h : t.val % 2 = 1) (hb : t.val - 1 < cfg0.N) (p : Fin 1024) (q : Fin 1024) :
    (outsAt0 m c t.val t.isLt).1 (ix2 p q)
      = (outsAt0 m c (t.val - 1) hb).2 (ix2 p q) + part m c t p q + argD m c (ix2 (rowOf t p) (colOf t q)) := by
  rw [outsAt0_B m c t (by omega) h]
  frame_out
  pointwise [k0_pay1, k0_pay2, k0_pay3]
  rw [read_unread_whole]
  exact congrArg₂ (· + ·) (congrArg ((outsAt0 m c (t.val - 1) hb).2 (ix2 p q) + ·) (part_at m c t p q)) (blk2 m c t p q)

/-- The last point's entries, from the arguments. -/
theorem out_at (t : Fin cfg0.N) (h : t.val % 2 = 1) (p : Fin 1024) (q : Fin 1024) :
    (outsAt0 m c t.val t.isLt).1 (ix2 p q)
      = (∑ k : Fin 4096, term (argA m c) (argB m c) (rowOf t p) (colOf t q) k) + argD m c (ix2 (rowOf t p) (colOf t q)) := by
  have hp := points t
  have h1 : t.val - 1 < cfg0.N := (Nat.sub_le _ _).trans_lt t.isLt
  rw [out_last m c t h h1, Cert.Spec.sum_two 2048 rfl]
  refine congrArg (· + argD m c (ix2 (rowOf t p) (colOf t q))) (congrArg₂ (· + ·)
    ((acc_first m c ⟨t.val - 1, h1⟩ (by dsimp only; omega) p q).trans ?_) ?_)
  · exact part_same m c t ⟨t.val - 1, h1⟩ (by dsimp only; omega) 0 (by dsimp only; omega) (by omega) p q
  · exact part_same m c t t rfl 1 h (by omega) p q

/-- The result. -/
def res (A : FVec Ideal S4096x4096 .bf16) (B : FVec Ideal S8x2048x512 .bf16) (E : FVec Ideal S4096x2048 .f32) : FVec Ideal S4096x2048 .f32 := fun i =>
  (∑ k : Fin 4096, term A B (i 0) (i 1) k) + E i

theorem res_at (x : Fin 4096) (z : Fin 2048) :
    (∑ k : Fin 4096, term (argA m c) (argB m c) x z k) + argD m c (ix2 x z)
      = res (argA m c) (argB m c) (argD m c) (ix2 x z) :=
  rfl

/-- The result array. -/
theorem arr : (dats m 0 c).arrAt 3 cfg0.N = res (argA m c) (argB m c) (argD m c) := by
  refine (dats m 0 c).arrAt_eq_of_covers 3 _ (by decide +kernel) fun t hf y => ?_
  blk_simp
  rw [after0_3]
  idx_vars y
  have hp := points t
  rw [out_at m c t ((flush0_3 t).mp hf), res_at]
  generalize res (argA m c) (argB m c) (argD m c) = G
  blk_ext! [at3 t, rowOf, colOf]

end Cert.DSgInIdeal.Mm

namespace Cert.DSgInRefIdeal.Mm

open Cert.DSgInRefIdeal Cert.DSgInRefIdeal.Gen Idealize.ShloMosaic Idealize.ShloMosaic.TcCoe Idealize.SL.Sem

/-- The reference's result from its arguments. -/
def out (A : FVec Ideal S4096x4096 .bf16) (B : FVec Ideal S8x2048x512 .bf16) (E : FVec Ideal S4096x2048 .f32) : FVec Ideal S4096x2048 .f32 :=
  addf (Host.dotGeneral dot_S4096x4096_S2048x4096_S4096x2048_1_1_0_0_n_n none (extf .f32 A bitsLt_bf16_f32) (shapeCast _ (transpose S2048x8x512 [1, 0, 2] (extf .f32 B bitsLt_bf16_f32) transposes_S8x2048x512_S2048x8x512_1_0_2) shapeCasts_S2048x8x512_S2048x4096)) E

theorem out_eq (A : FVec Ideal S4096x4096 .bf16) (B : FVec Ideal S8x2048x512 .bf16) (E : FVec Ideal S4096x2048 .f32) : out A B E = Cert.DSgInIdeal.Mm.res A B E := by
  funext i
  idx_vars i
  pointwise [out]
  pointwise [Cert.DSgInIdeal.Mm.res]
  refine congrArg₂ (· + ·) ?_ rfl
  refine Finset.sum_congr rfl fun k _ => ?_
  skip
  rfl

end Cert.DSgInRefIdeal.Mm

end
-- ==== Proof.Mm.DwHgIn.lean ====
/- The gradient of the recurrent mixer's input weight: what the kernel leaves and what the reference computes. -/
module

public import proofs.«01_k».proof.Proof.Gen.DwHgInIdeal.Value
public import proofs.«01_k».proof.Proof.Gen.DwHgInRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwHgInIdeal.Mm

open Cert.DwHgInIdeal Cert.DwHgInIdeal.Gen Idealize.ShloMosaic Idealize.ShloMosaic.TcCoe Idealize.SL.Sem
open Idealize.ShloMosaic.Pipeline (Dat)

theorem at0 : ∀ t : Fin cfg0.N, win0_0.index t = ![t.val % 2, t.val / 16] := (by decide +kernel : ∀ t : Fin grid0.N, _)
theorem at1 : ∀ t : Fin cfg0.N, win0_1.index t = ![(t.val / 2 % 8) / 2, t.val % 2, (t.val / 2 % 8) % 2] := (by decide +kernel : ∀ t : Fin grid0.N, _)
theorem at2 : ∀ t : Fin cfg0.N, win0_2.index t = ![t.val / 2 % 8, t.val / 16, 0] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S4x4096x2048 .bf16 := m ((c : Thread nD τ).loc main_arg1)

/-- The row and the column of the product that an entry of point `t`'s block is. -/
def rowOf (t : Fin cfg0.N) (p : Fin 1024) : Fin 2048 := ⟨1024 * (t.val / 16) + p.val, by have := points t; omega⟩
def colOf (t : Fin cfg0.N) (q : Fin 1024) : Fin 8192 := ⟨1024 * (t.val / 2 % 8) + q.val, by have := points t; omega⟩

/-- The factors that meet at place `k` of the summed axis, and their product. -/
def entA (A : FVec Ideal S4096x2048 .bf16) (x : Fin 2048) (k : Fin 4096) : EReal := A (ix2 k x)
def entB (B : FVec Ideal S4x4096x2048 .bf16) (y : Fin 8192) (k : Fin 4096) : EReal := B (ix3 ⟨y.val / 2048, by have := y.isLt; omega⟩ k ⟨y.val % 2048, by omega⟩)
def term (A : FVec Ideal S4096x2048 .bf16) (B : FVec Ideal S4x4096x2048 .bf16) (x : Fin 2048) (y : Fin 8192) (k : Fin 4096) : EReal := entA A x k * entB B y k

theorem blk0 (t : Fin cfg0.N) (p : Fin 1024) (k : Fin 2048) :
    iblk m c 0 t (ix2 k p) = entA (argA m c) (rowOf t p) ⟨2048 * (t.val % 2) + k.val, by have := k.isLt; omega⟩ := by
  have hp := points t
  blk_ext! [iblk, V, at0 t, rowOf, argA, entA]

theorem blk1 (t : Fin cfg0.N) (q : Fin 1024) (k : Fin 2048) :
    iblk m c 1 t (ix3 0 k q) = entB (argB m c) (colOf t q) ⟨2048 * (t.val % 2) + k.val, by have := k.isLt; omega⟩ := by
  have hp := points t
  blk_ext! [iblk, V, at1 t, colOf, argB, entB]

theorem dot_at (t : Fin cfg0.N) (p : Fin 1024) (q : Fin 1024) :
    k0_pay1 (iblk m c 0 t) (iblk m c 1 t) (ix2 p q)
      = ∑ k : Fin 2048, term (argA m c) (argB m c) (rowOf t p) (colOf t q) ⟨2048 * (t.val % 2) + k.val, by have := k.isLt; omega⟩ := by
  pointwise [k0_pay1]
  simp only [blk0, blk1, term]

/-- What the first of the two points of a block keeps. -/
theorem acc_at (t : Fin cfg0.N) (h : t.val % 2 = 0) (p : Fin 1024) (q : Fin 1024) :
    (outsAt0 m c t.val t.isLt).2 (ix2 p q) = k0_pay1 (iblk m c 0 t) (iblk m c 1 t) (ix2 p q) := by
  rw [outsAt0_A m c t h (by omega)]
  frame_out
  pointwise [k0_pay2]

/-- What the second of the two points of a block leaves. -/
theorem out_at (t : Fin cfg0.N) (h : t.val % 2 = 1) (p : Fin 1024) (q : Fin 1024) :
    (outsAt0 m c t.val t.isLt).1 (ix3 0 p q) = ∑ k : Fin 4096, term (argA m c) (argB m c) (rowOf t p) (colOf t q) k := by
  rw [outsAt0_B m c t (by omega) h]
  frame_out
  have hb : t.val - 1 < cfg0.N := (Nat.sub_le _ _).trans_lt t.isLt
  have hp := points t
  have hacc := acc_at m c ⟨t.val - 1, hb⟩ (by dsimp only; omega) p q
  pointwise [k0_pay3]
  rw [Cert.Spec.sum_two 2048 rfl]
  rw [read_unread_whole]
  refine congrArg₂ (· + ·) (hacc.trans ((dot_at m c _ p q).trans (Finset.sum_congr rfl fun k _ => ?_)))
    ((dot_at m c t p q).trans (Finset.sum_congr rfl fun k _ => ?_))
  · have e1 : rowOf ⟨t.val - 1, hb⟩ p = rowOf t p := Fin.ext (by dsimp only [rowOf]; omega)
    have e2 : colOf ⟨t.val - 1, hb⟩ q = colOf t q := Fin.ext (by dsimp only [colOf]; omega)
    rw [e1, e2]
    exact congrArg _ (Fin.ext (by dsimp only; omega))
  · exact congrArg _ (Fin.ext (by dsimp only; omega))

/-- The result. -/
def res (A : FVec Ideal S4096x2048 .bf16) (B : FVec Ideal S4x4096x2048 .bf16) : FVec Ideal S8x2048x1024 .bf16 := fun i =>
  (∑ k : Fin 4096, term A B (i 1) ⟨(i 0).val * 1024 + (i 2).val, by have := (i 0).isLt; have := (i 2).isLt; dsimp at *; omega⟩ k)

theorem res_at (x : Fin 2048) (z : Fin 8192) :
    (∑ k : Fin 4096, term (argA m c) (argB m c) x z k)
      = res (argA m c) (argB m c) (ix3 ⟨z.val / 1024, by have := z.isLt; omega⟩ x ⟨z.val % 1024, by omega⟩) :=
  Finset.sum_congr rfl fun k _ => congrArg (fun z => term (argA m c) (argB m c) x z k) (Fin.ext (Nat.div_add_mod' z.val 1024).symm)

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  obtain rfl : y0 = 0 := Subsingleton.elim _ _
  rw [out_at m c t ((flush0_2 t).mp hf), res_at]
  generalize res (argA m c) (argB m c) = G
  blk_ext! [at2 t, rowOf, colOf]

end Cert.DwHgInIdeal.Mm

namespace Cert.DwHgInRefIdeal.Mm

open Cert.DwHgInRefIdeal Cert.DwHgInRefIdeal.Gen Idealize.ShloMosaic Idealize.ShloMosaic.TcCoe Idealize.SL.Sem

/-- The reference's result from its arguments. -/
def out (A : FVec Ideal S4096x2048 .bf16) (B : FVec Ideal S4x4096x2048 .bf16) : FVec Ideal S8x2048x1024 .bf16 :=
  truncf .bf16 (transpose S8x2048x1024 [1, 0, 2] (shapeCast _ (transpose S2048x8192 [1, 0] (Host.dotGeneral dot_S4096x8192_S4096x2048_S8192x2048_0_0_1_1_n_n none ((concatenate S4096x8192 1 [⟨S4096x2048, ((shapeCast _ (extractStridedSlice S1x4096x2048 ![0, 0, 0] (extf .f32 B bitsLt_bf16_f32) slices_S4x4096x2048_S1x4096x2048_0_0_0) shapeCasts_S1x4096x2048_S4096x2048) : FVec Ideal S4096x2048 .f32)⟩, ⟨S4096x2048, ((shapeCast _ (extractStridedSlice S1x4096x2048 ![1, 0, 0] (extf .f32 B bitsLt_bf16_f32) slices_S4x4096x2048_S1x4096x2048_1_0_0) shapeCasts_S1x4096x2048_S4096x2048) : FVec Ideal S4096x2048 .f32)⟩, ⟨S4096x2048, ((shapeCast _ (extractStridedSlice S1x4096x2048 ![2, 0, 0] (extf .f32 B bitsLt_bf16_f32) slices_S4x4096x2048_S1x4096x2048_2_0_0) shapeCasts_S1x4096x2048_S4096x2048) : FVec Ideal S4096x2048 .f32)⟩, ⟨S4096x2048, ((shapeCast _ (extractStridedSlice S1x4096x2048 ![3, 0, 0] (extf .f32 B bitsLt_bf16_f32) slices_S4x4096x2048_S1x4096x2048_3_0_0) shapeCasts_S1x4096x2048_S4096x2048) : FVec Ideal S4096x2048 .f32)⟩] concatenates_S4096x2048_S4096x2048_S4096x2048_S4096x2048_S4096x8192_d1 : FVec Ideal S4096x8192 .f32)) (extf .f32 A bitsLt_bf16_f32)) transposes_S8192x2048_S2048x8192_1_0) shapeCasts_S2048x8192_S2048x8x1024) transposes_S2048x8x1024_S8x2048x1024_1_0_2) bitsLt_bf16_f32

theorem out_eq (A : FVec Ideal S4096x2048 .bf16) (B : FVec Ideal S4x4096x2048 .bf16) : out A B = Cert.DwHgInIdeal.Mm.res A B := by
  funext i
  idx_vars i
  pointwise [out]
  pointwise [Cert.DwHgInIdeal.Mm.res, Cert.DwHgInIdeal.Mm.term, Cert.DwHgInIdeal.Mm.entA, Cert.DwHgInIdeal.Mm.entB]
  refine Finset.sum_congr rfl fun k _ => ?_
  rw [mul_comm]
  refine congrArg (A (ix2 k i1) * ·) ?_
  have h0 := i0.isLt
  split_ifs
  all_goals exact Cert.Spec.read3 B (by simp only [Fin.isValue, Fin.val_zero, Fin.val_one, Fin.reduceFinMk, Fin.val_ofNat, Fin.coe_ofNat_eq_mod]; omega) rfl (by dsimp only; omega)

end Cert.DwHgInRefIdeal.Mm

end
-- ==== Proof.Mm.DHgIn.lean ====
/- The gradient at the recurrent mixer's input: what the kernel leaves and what the reference computes. -/
module

public import proofs.«01_k».proof.Proof.Gen.DHgInIdeal.Value
public import proofs.«01_k».proof.Proof.Gen.DHgInRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DHgInIdeal.Mm

open Cert.DHgInIdeal Cert.DHgInIdeal.Gen Idealize.ShloMosaic Idealize.ShloMosaic.TcCoe Idealize.SL.Sem
open Idealize.ShloMosaic.Pipeline (Dat)

theorem at0 : ∀ t : Fin cfg0.N, win0_0.index t = ![t.val % 4, t.val / 8, 0] := (by decide +kernel : ∀ t : Fin grid0.N, _)
theorem at1 : ∀ t : Fin cfg0.N, win0_1.index t = ![t.val % 4, t.val / 4 % 2, 0] := (by decide +kernel : ∀ t : Fin grid0.N, _)
theorem at2 : ∀ t : Fin cfg0.N, win0_2.index t = ![t.val / 8, t.val / 4 % 2] := (by decide +kernel : ∀ t : Fin grid0.N, _)
theorem at3 : ∀ t : Fin cfg0.N, win0_3.index t = ![t.val / 8, t.val / 4 % 2] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S4x4096x2048 .bf16 := m ((c : Thread nD τ).loc main_arg0)
abbrev argB : FVec Ideal S8x2048x1024 .bf16 := m ((c : Thread nD τ).loc main_arg1)
abbrev argD : FVec Ideal S4096x2048 .f32 := m ((c : Thread nD τ).loc main_arg2)

/-- The row and the column of the product that an entry of point `t`'s block is. -/
def rowOf (t : Fin cfg0.N) (p : Fin 1024) : Fin 4096 := ⟨1024 * (t.val / 8) + p.val, by have := points t; omega⟩
def colOf (t : Fin cfg0.N) (q : Fin 1024) : Fin 2048 := ⟨1024 * (t.val / 4 % 2) + q.val, by have := points t; omega⟩

/-- The factors that meet at place `k` of the summed axis, and their product. -/
def entA (A : FVec Ideal S4x4096x2048 .bf16) (x : Fin 4096) (k : Fin 8192) : EReal := A (ix3 ⟨k.val / 2048, by have := k.isLt; omega⟩ x ⟨k.val % 2048, by omega⟩)
def entB (B : FVec Ideal S8x2048x1024 .bf16) (y : Fin 2048) (k : Fin 8192) : EReal := B (ix3 ⟨k.val / 1024, by have := k.isLt; omega⟩ y ⟨k.val % 1024, by omega⟩)
def term (A : FVec Ideal S4x4096x2048 .bf16) (B : FVec Ideal S8x2048x1024 .bf16) (x : Fin 4096) (y : Fin 2048) (k : Fin 8192) : EReal := entA A x k * entB B y k

theorem blk0 (t : Fin cfg0.N) (p : Fin 1024) (k : Fin 2048) :
    iblk m c 0 t (ix3 0 p k) = entA (argA m c) (rowOf t p) ⟨2048 * (t.val % 4) + k.val, by have := k.isLt; omega⟩ := by
  have hp := points t
  blk_ext! [iblk, V, at0 t, rowOf, argA, entA]

theorem blk1 (t : Fin cfg0.N) (s : ℕ) (hs : s < 2) (q : Fin 1024) (l : Fin 1024) :
    iblk m c 1 t (ix3 ⟨s, hs⟩ q l) = entB (argB m c) (colOf t q) ⟨2048 * (t.val % 4) + (1024 * s + l.val), by have := l.isLt; omega⟩ := by
  have hp := points t
  blk_ext! [iblk, V, at1 t, colOf, argB, entB]

theorem blk2 (t : Fin cfg0.N) (p : Fin 1024) (q : Fin 1024) :
    iblk m c 2 t (ix2 p q) = argD m c (ix2 (rowOf t p) (colOf t q)) := by
  have hp := points t
  blk_ext! [iblk, V, at2 t, rowOf, colOf, argD]

/-- The blocks a point reads. -/
abbrev blkA (t : Fin cfg0.N) : FVec Ideal S1x1024x2048 .bf16 := iblk m c 0 t
abbrev blkB (t : Fin cfg0.N) : FVec Ideal S2x1024x1024 .bf16 := iblk m c 1 t

/-- One point's share of an entry. -/
def part (t : Fin cfg0.N) (p : Fin 1024) (q : Fin 1024) : EReal :=
  ∑ k : Fin 2048, term (argA m c) (argB m c) (rowOf t p) (colOf t q) ⟨2048 * (t.val % 4) + k.val, by have := k.isLt; omega⟩

/-- The 2 products of a point make up its share. -/
theorem part_at (t : Fin cfg0.N) (p : Fin 1024) (q : Fin 1024) :
    (∑ x : Fin 1024, blkA m c t (ix3 0 p ⟨x.val, by have := x.isLt; omega⟩) * blkB m c t (ix3 0 q x)) + (∑ x : Fin 1024, blkA m c t (ix3 0 p ⟨1024 + x.val, by have := x.isLt; omega⟩) * blkB m c t (ix3 1 q x)) = part m c t p q := by
  unfold part
  rw [Cert.Spec.sum_two 1024 rfl]
  refine congrArg₂ (· + ·) (Finset.sum_congr rfl fun x _ => ?_) (Finset.sum_congr rfl fun x _ => ?_)
  · exact congrArg₂ (fun a b : EReal => a * b) ((blk0 m c t p _).trans (congrArg (entA (argA m c) (rowOf t p)) (Fin.ext (by dsimp only <;> omega))))
      ((blk1 m c t 0 (by omega) q x).trans (congrArg (entB (argB m c) (colOf t q)) (Fin.ext (by dsimp only <;> omega))))
  · exact congrArg₂ (fun a b : EReal => a * b) ((blk0 m c t p _).trans (congrArg (entA (argA m c) (rowOf t p)) (Fin.ext (by dsimp only <;> omega))))
      ((blk1 m c t 1 (by omega) q x).trans (congrArg (entB (argB m c) (colOf t q)) (Fin.ext (by dsimp only <;> omega))))

/-- A point's share, told from another point of the same block. -/
theorem part_same (t u : Fin cfg0.N) (h : u.val / 4 = t.val / 4) (j : ℕ) (hj : u.val % 4 = j) (hl : j < 4)
    (p : Fin 1024) (q : Fin 1024) :
    part m c u p q = ∑ k : Fin 2048, term (argA m c) (argB m c) (rowOf t p) (colOf t q) ⟨2048 * j + k.val, by have := k.isLt; omega⟩ := by
  have e1 : rowOf u p = rowOf t p := Fin.ext (by dsimp only [rowOf]; omega)
  have e2 : colOf u q = colOf t q := Fin.ext (by dsimp only [colOf]; omega)
  subst hj
  unfold part
  rw [e1, e2]

/-- What the first point of a block keeps. -/
theorem acc_first (t : Fin cfg0.N) (h : t.val % 4 = 0) (p : Fin 1024) (q : Fin 1024) :
    (outsAt0 m c t.val t.isLt).2 (ix2 p q) = part m c t p q := by
  rw [outsAt0_A m c t h (by omega) (by omega)]
  frame_out
  pointwise [k0_pay1, k0_pay2, k0_pay3, k0_pay4]
  exact part_at m c t p q

/-- What a middle point of a block keeps. -/
theorem acc_next (t : Fin cfg0.N) (h : 1 ≤ t.val % 4 ∧ t.val % 4 ≤ 2) (hb : t.val - 1 < cfg0.N) (p : Fin 1024) (q : Fin 1024) :
    (outsAt0 m c t.val t.isLt).2 (ix2 p q) = (outsAt0 m c (t.val - 1) hb).2 (ix2 p q) + part m c t p q := by
  rw [outsAt0_B m c t (by omega) h (by omega)]
  frame_out
  pointwise [k0_pay1, k0_pay2, k0_pay3, k0_pay4]
  rw [read_unread_whole]
  exact congrArg ((outsAt0 m c (t.val - 1) hb).2 (ix2 p q) + ·) (part_at m c t p q)

/-- What the last point of a block leaves. -/
theorem out_last (t : Fin cfg0.N) (h : t.val % 4 = 3) (hb : t.val - 1 < cfg0.N) (p : Fin 1024) (q : Fin 1024) :
    (outsAt0 m c t.val t.isLt).1 (ix2 p q)
      = (outsAt0 m c (t.val - 1) hb).2 (ix2 p q) + part m c t p q + argD m c (ix2 (rowOf t p) (colOf t q)) := by
  rw [outsAt0_C m c t (by omega) (by omega) h]
  frame_out
  pointwise [k0_pay1, k0_pay2, k0_pay3, k0_pay4]
  rw [read_unread_whole]
  exact congrArg₂ (· + ·) (congrArg ((outsAt0 m c (t.val - 1) hb).2 (ix2 p q) + ·) (part_at m c t p q)) (blk2 m c t p q)

/-- The last point's entries, from the arguments. -/
theorem out_at (t : Fin cfg0.N) (h : t.val % 4 = 3) (p : Fin 1024) (q : Fin 1024) :
    (outsAt0 m c t.val t.isLt).1 (ix2 p q)
      = (∑ k : Fin 8192, term (argA m c) (argB m c) (rowOf t p) (colOf t q) k) + argD m c (ix2 (rowOf t p) (colOf t q)) := by
  have hp := points t
  have h1 : t.val - 1 < cfg0.N := (Nat.sub_le _ _).trans_lt t.isLt
  have h2 : t.val - 1 - 1 < cfg0.N := (Nat.sub_le _ _).trans_lt h1
  have h3 : t.val - 1 - 1 - 1 < cfg0.N := (Nat.sub_le _ _).trans_lt h2
  rw [out_last m c t h h1, Cert.Spec.sum_four 2048 rfl]
  refine congrArg (· + argD m c (ix2 (rowOf t p) (colOf t q))) (congrArg₂ (· + ·)
    ((acc_next m c ⟨t.val - 1, h1⟩ (by dsimp only; omega) h2 p q).trans (congrArg₂ (· + ·)
      ((acc_next m c ⟨t.val - 1 - 1, h2⟩ (by dsimp only; omega) h3 p q).trans (congrArg₂ (· + ·)
        ((acc_first m c ⟨t.val - 1 - 1 - 1, h3⟩ (by dsimp only; omega) p q).trans ?_) ?_)) ?_)) ?_)
  · exact part_same m c t ⟨t.val - 1 - 1 - 1, h3⟩ (by dsimp only; omega) 0 (by dsimp only; omega) (by omega) p q
  · exact part_same m c t ⟨t.val - 1 - 1, h2⟩ (by dsimp only; omega) 1 (by dsimp only; omega) (by omega) p q
  · exact part_same m c t ⟨t.val - 1, h1⟩ (by dsimp only; omega) 2 (by dsimp only; omega) (by omega) p q
  · exact part_same m c t t rfl 3 h (by omega) p q

/-- The result. -/
def res (A : FVec Ideal S4x4096x2048 .bf16) (B : FVec Ideal S8x2048x1024 .bf16) (E : FVec Ideal S4096x2048 .f32) : FVec Ideal S4096x2048 .f32 := fun i =>
  (∑ k : Fin 8192, term A B (i 0) (i 1) k) + E i

theorem res_at (x : Fin 4096) (z : Fin 2048) :
    (∑ k : Fin 8192, term (argA m c) (argB m c) x z k) + argD m c (ix2 x z)
      = res (argA m c) (argB m c) (argD m c) (ix2 x z) :=
  rfl

/-- The result array. -/
theorem arr : (dats m 0 c).arrAt 3 cfg0.N = res (argA m c) (argB m c) (argD m c) := by
  refine (dats m 0 c).arrAt_eq_of_covers 3 _ (by decide +kernel) fun t hf y => ?_
  blk_simp
  rw [after0_3]
  idx_vars y
  have hp := points t
  rw [out_at m c t ((flush0_3 t).mp hf), res_at]
  generalize res (argA m c) (argB m c) (argD m c) = G
  blk_ext! [at3 t, rowOf, colOf]

end Cert.DHgInIdeal.Mm

namespace Cert.DHgInRefIdeal.Mm

open Cert.DHgInRefIdeal Cert.DHgInRefIdeal.Gen Idealize.ShloMosaic Idealize.ShloMosaic.TcCoe Idealize.SL.Sem

/-- The reference's result from its arguments. -/
def out (A : FVec Ideal S4x4096x2048 .bf16) (B : FVec Ideal S8x2048x1024 .bf16) (E : FVec Ideal S4096x2048 .f32) : FVec Ideal S4096x2048 .f32 :=
  addf (Host.dotGeneral dot_S4096x8192_S2048x8192_S4096x2048_1_1_0_0_n_n none ((concatenate S4096x8192 1 [⟨S4096x2048, ((shapeCast _ (extractStridedSlice S1x4096x2048 ![0, 0, 0] (extf .f32 A bitsLt_bf16_f32) slices_S4x4096x2048_S1x4096x2048_0_0_0) shapeCasts_S1x4096x2048_S4096x2048) : FVec Ideal S4096x2048 .f32)⟩, ⟨S4096x2048, ((shapeCast _ (extractStridedSlice S1x4096x2048 ![1, 0, 0] (extf .f32 A bitsLt_bf16_f32) slices_S4x4096x2048_S1x4096x2048_1_0_0) shapeCasts_S1x4096x2048_S4096x2048) : FVec Ideal S4096x2048 .f32)⟩, ⟨S4096x2048, ((shapeCast _ (extractStridedSlice S1x4096x2048 ![2, 0, 0] (extf .f32 A bitsLt_bf16_f32) slices_S4x4096x2048_S1x4096x2048_2_0_0) shapeCasts_S1x4096x2048_S4096x2048) : FVec Ideal S4096x2048 .f32)⟩, ⟨S4096x2048, ((shapeCast _ (extractStridedSlice S1x4096x2048 ![3, 0, 0] (extf .f32 A bitsLt_bf16_f32) slices_S4x4096x2048_S1x4096x2048_3_0_0) shapeCasts_S1x4096x2048_S4096x2048) : FVec Ideal S4096x2048 .f32)⟩] concatenates_S4096x2048_S4096x2048_S4096x2048_S4096x2048_S4096x8192_d1 : FVec Ideal S4096x8192 .f32)) (shapeCast _ (transpose S2048x8x1024 [1, 0, 2] (extf .f32 B bitsLt_bf16_f32) transposes_S8x2048x1024_S2048x8x1024_1_0_2) shapeCasts_S2048x8x1024_S2048x8192)) E

theorem out_eq (A : FVec Ideal S4x4096x2048 .bf16) (B : FVec Ideal S8x2048x1024 .bf16) (E : FVec Ideal S4096x2048 .f32) : out A B E = Cert.DHgInIdeal.Mm.res A B E := by
  funext i
  idx_vars i
  pointwise [out]
  pointwise [Cert.DHgInIdeal.Mm.res, Cert.DHgInIdeal.Mm.term, Cert.DHgInIdeal.Mm.entA, Cert.DHgInIdeal.Mm.entB]
  refine congrArg (· + E (ix2 i0 i1)) (Finset.sum_congr rfl fun k _ => ?_)
  refine congrArg (· * _) ?_
  have h0 := k.isLt
  split_ifs
  all_goals exact Cert.Spec.read3 A (by simp only [Fin.isValue, Fin.val_zero, Fin.val_one, Fin.reduceFinMk, Fin.val_ofNat, Fin.coe_ofNat_eq_mod]; omega) rfl (by dsimp only; omega)

end Cert.DHgInRefIdeal.Mm

end
-- ==== Proof.Mm.HgIn.lean ====
/- The recurrent mixer's input product: what the kernel leaves and what the reference computes. -/
module

public import proofs.«01_k».proof.Proof.Gen.HgInIdeal.Value
public import proofs.«01_k».proof.Proof.Gen.HgInRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HgInIdeal.Mm

open Cert.HgInIdeal Cert.HgInIdeal.Gen Idealize.ShloMosaic Idealize.ShloMosaic.TcCoe Idealize.SL.Sem
open Idealize.ShloMosaic.Pipeline (Dat)

theorem at0 : ∀ t : Fin cfg0.N, win0_0.index t = ![t.val / 8, 0] := (by decide +kernel : ∀ t : Fin grid0.N, _)
theorem at1 : ∀ t : Fin cfg0.N, win0_1.index t = ![t.val % 8, 0, 0] := (by decide +kernel : ∀ t : Fin grid0.N, _)
theorem at2 : ∀ t : Fin cfg0.N, win0_2.index t = ![(t.val % 8) / 2, t.val / 8, (t.val % 8) % 2] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S8x2048x1024 .bf16 := m ((c : Thread nD τ).loc main_arg1)

/-- The row and the column of the product that an entry of point `t`'s block is. -/
def rowOf (t : Fin cfg0.N) (p : Fin 1024) : Fin 4096 := ⟨1024 * (t.val / 8) + p.val, by have := points t; omega⟩
def colOf (t : Fin cfg0.N) (q : Fin 1024) : Fin 8192 := ⟨1024 * (t.val % 8) + q.val, by have := points t; omega⟩

/-- The factors that meet at place `k` of the summed axis, and their product. -/
def entA (A : FVec Ideal S4096x2048 .bf16) (x : Fin 4096) (k : Fin 2048) : EReal := A (ix2 x k)
def entB (B : FVec Ideal S8x2048x1024 .bf16) (y : Fin 8192) (k : Fin 2048) : EReal := B (ix3 ⟨y.val / 1024, by have := y.isLt; omega⟩ k ⟨y.val % 1024, by omega⟩)
def term (A : FVec Ideal S4096x2048 .bf16) (B : FVec Ideal S8x2048x1024 .bf16) (x : Fin 4096) (y : Fin 8192) (k : Fin 2048) : EReal := entA A x k * entB B y k

theorem blk0 (t : Fin cfg0.N) (p : Fin 1024) (k : Fin 2048) :
    iblk m c 0 t (ix2 p k) = entA (argA m c) (rowOf t p) ⟨k.val, k.isLt⟩ := by
  have hp := points t
  blk_ext! [iblk, V, at0 t, rowOf, argA, entA]

theorem blk1 (t : Fin cfg0.N) (q : Fin 1024) (k : Fin 2048) :
    iblk m c 1 t (ix3 0 k q) = entB (argB m c) (colOf t q) ⟨k.val, k.isLt⟩ := by
  have hp := points t
  blk_ext! [iblk, V, at1 t, colOf, argB, entB]

theorem dot_at (t : Fin cfg0.N) (p : Fin 1024) (q : Fin 1024) :
    k0_pay1 (iblk m c 0 t) (iblk m c 1 t) (ix3 0 p q)
      = ∑ k : Fin 2048, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 1024) :
    out0_2 (iblk m c 0 t) (iblk m c 1 t) (ix3 0 p q) = ∑ k : Fin 2048, term (argA m c) (argB m c) (rowOf t p) (colOf t q) k := by
  unfold out0_2
  frame_out
  exact dot_at m c t p q

/-- The result. -/
def res (A : FVec Ideal S4096x2048 .bf16) (B : FVec Ideal S8x2048x1024 .bf16) : FVec Ideal S4x4096x2048 .f32 := fun i =>
  (∑ k : Fin 2048, term A B (i 1) ⟨(i 0).val * 2048 + (i 2).val, by have := (i 0).isLt; have := (i 2).isLt; dsimp at *; omega⟩ k)

theorem res_at (x : Fin 4096) (z : Fin 8192) :
    (∑ k : Fin 2048, term (argA m c) (argB m c) x z k)
      = res (argA m c) (argB m c) (ix3 ⟨z.val / 2048, by have := z.isLt; omega⟩ x ⟨z.val % 2048, by omega⟩) :=
  Finset.sum_congr rfl fun k _ => congrArg (fun z => term (argA m c) (argB m c) x z k) (Fin.ext (Nat.div_add_mod' z.val 2048).symm)

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  obtain rfl : y0 = 0 := Subsingleton.elim _ _
  rw [out_at m c t, res_at]
  generalize res (argA m c) (argB m c) = G
  blk_ext! [at2 t, rowOf, colOf]

end Cert.HgInIdeal.Mm

namespace Cert.HgInRefIdeal.Mm

open Cert.HgInRefIdeal Cert.HgInRefIdeal.Gen Idealize.ShloMosaic Idealize.ShloMosaic.TcCoe Idealize.SL.Sem

/-- The reference's result from its arguments. -/
def out (A : FVec Ideal S4096x2048 .bf16) (B : FVec Ideal S8x2048x1024 .bf16) : FVec Ideal S4x4096x2048 .f32 :=
  (concatenate S4x4096x2048 0 [⟨S1x4096x2048, ((broadcastInDim S1x4096x2048 ![1, 2] bcast_S4096x2048_S1x4096x2048_1_2 (extractStridedSlice S4096x2048 ![0, 0] (Host.dotGeneral dot_S4096x2048_S2048x8192_S4096x8192_1_0_0_1_n_n none (extf .f32 A bitsLt_bf16_f32) (shapeCast _ (transpose S2048x8x1024 [1, 0, 2] (extf .f32 B bitsLt_bf16_f32) transposes_S8x2048x1024_S2048x8x1024_1_0_2) shapeCasts_S2048x8x1024_S2048x8192)) slices_S4096x8192_S4096x2048_0_0)) : FVec Ideal S1x4096x2048 .f32)⟩, ⟨S1x4096x2048, ((broadcastInDim S1x4096x2048 ![1, 2] bcast_S4096x2048_S1x4096x2048_1_2 (extractStridedSlice S4096x2048 ![0, 2048] (Host.dotGeneral dot_S4096x2048_S2048x8192_S4096x8192_1_0_0_1_n_n none (extf .f32 A bitsLt_bf16_f32) (shapeCast _ (transpose S2048x8x1024 [1, 0, 2] (extf .f32 B bitsLt_bf16_f32) transposes_S8x2048x1024_S2048x8x1024_1_0_2) shapeCasts_S2048x8x1024_S2048x8192)) slices_S4096x8192_S4096x2048_0_2048)) : FVec Ideal S1x4096x2048 .f32)⟩, ⟨S1x4096x2048, ((broadcastInDim S1x4096x2048 ![1, 2] bcast_S4096x2048_S1x4096x2048_1_2 (extractStridedSlice S4096x2048 ![0, 4096] (Host.dotGeneral dot_S4096x2048_S2048x8192_S4096x8192_1_0_0_1_n_n none (extf .f32 A bitsLt_bf16_f32) (shapeCast _ (transpose S2048x8x1024 [1, 0, 2] (extf .f32 B bitsLt_bf16_f32) transposes_S8x2048x1024_S2048x8x1024_1_0_2) shapeCasts_S2048x8x1024_S2048x8192)) slices_S4096x8192_S4096x2048_0_4096)) : FVec Ideal S1x4096x2048 .f32)⟩, ⟨S1x4096x2048, ((broadcastInDim S1x4096x2048 ![1, 2] bcast_S4096x2048_S1x4096x2048_1_2 (extractStridedSlice S4096x2048 ![0, 6144] (Host.dotGeneral dot_S4096x2048_S2048x8192_S4096x8192_1_0_0_1_n_n none (extf .f32 A bitsLt_bf16_f32) (shapeCast _ (transpose S2048x8x1024 [1, 0, 2] (extf .f32 B bitsLt_bf16_f32) transposes_S8x2048x1024_S2048x8x1024_1_0_2) shapeCasts_S2048x8x1024_S2048x8192)) slices_S4096x8192_S4096x2048_0_6144)) : FVec Ideal S1x4096x2048 .f32)⟩] concatenates_S1x4096x2048_S1x4096x2048_S1x4096x2048_S1x4096x2048_S4x4096x2048_d0 : FVec Ideal S4x4096x2048 .f32)

theorem out_eq (A : FVec Ideal S4096x2048 .bf16) (B : FVec Ideal S8x2048x1024 .bf16) : out A B = Cert.HgInIdeal.Mm.res A B := by
  funext i
  idx_vars i
  pointwise [out]
  pointwise [Cert.HgInIdeal.Mm.res, Cert.HgInIdeal.Mm.term, Cert.HgInIdeal.Mm.entA, Cert.HgInIdeal.Mm.entB]
  have h0 := i0.isLt
  split_ifs
  all_goals exact Finset.sum_congr rfl fun k _ => congrArg (A (ix2 i1 k) * ·) (Cert.Spec.read3 B (by dsimp only; omega) rfl (by dsimp only; omega))

end Cert.HgInRefIdeal.Mm

end
-- ==== Proof.Mm.MixOut.lean ====
/- A mixer's output product: what the kernel leaves and what the reference computes. -/
module

public import proofs.«01_k».proof.Proof.Gen.MixOutIdeal.Value
public import proofs.«01_k».proof.Proof.Gen.MixOutRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixOutIdeal.Mm

open Cert.MixOutIdeal Cert.MixOutIdeal.Gen Idealize.ShloMosaic Idealize.ShloMosaic.TcCoe Idealize.SL.Sem
open Idealize.ShloMosaic.Pipeline (Dat)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem points (t : Fin cfg0.N) : t.val < 4 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S2048x2048 .bf16 := m ((c : Thread nD τ).loc main_arg1)

/-- The row and the column of the product that an entry of point `t`'s block is. -/
def rowOf (t : Fin cfg0.N) (p : Fin 1024) : Fin 4096 := ⟨1024 * (t.val) + p.val, by have := points t; omega⟩
def colOf (t : Fin cfg0.N) (q : Fin 2048) : Fin 2048 := ⟨2048 * (0) + q.val, by have := points t; omega⟩

/-- The factors that meet at place `k` of the summed axis, and their product. -/
def entA (A : FVec Ideal S4096x2048 .bf16) (x : Fin 4096) (k : Fin 2048) : EReal := A (ix2 x k)
def entB (B : FVec Ideal S2048x2048 .bf16) (y : Fin 2048) (k : Fin 2048) : EReal := B (ix2 k y)
def term (A : FVec Ideal S4096x2048 .bf16) (B : FVec Ideal S2048x2048 .bf16) (x : Fin 4096) (y : Fin 2048) (k : Fin 2048) : EReal := entA A x k * entB B y k

theorem blk0 (t : Fin cfg0.N) (p : Fin 1024) (k : Fin 2048) :
    iblk m c 0 t (ix2 p k) = entA (argA m c) (rowOf t p) ⟨k.val, k.isLt⟩ := by
  have hp := points t
  blk_ext! [iblk, V, at0 t, rowOf, argA, entA]

theorem blk1 (t : Fin cfg0.N) (q : Fin 2048) (k : Fin 2048) :
    iblk m c 1 t (ix2 k q) = entB (argB m c) (colOf t q) ⟨k.val, k.isLt⟩ := by
  have hp := points t
  blk_ext! [iblk, V, at1 t, colOf, argB, entB]

theorem dot_at (t : Fin cfg0.N) (p : Fin 1024) (q : Fin 2048) :
    k0_pay1 (iblk m c 0 t) (iblk m c 1 t) (ix2 p q)
      = ∑ k : Fin 2048, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 2048) :
    out0_2 (iblk m c 0 t) (iblk m c 1 t) (ix2 p q) = ∑ k : Fin 2048, term (argA m c) (argB m c) (rowOf t p) (colOf t q) k := by
  unfold out0_2
  frame_out
  exact dot_at m c t p q

/-- The result. -/
def res (A : FVec Ideal S4096x2048 .bf16) (B : FVec Ideal S2048x2048 .bf16) : FVec Ideal S4096x2048 .f32 := fun i =>
  (∑ k : Fin 2048, term A B (i 0) (i 1) k)

theorem res_at (x : Fin 4096) (z : Fin 2048) :
    (∑ k : Fin 2048, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t, res_at]
  generalize res (argA m c) (argB m c) = G
  blk_ext! [at2 t, rowOf, colOf]

end Cert.MixOutIdeal.Mm

namespace Cert.MixOutRefIdeal.Mm

open Cert.MixOutRefIdeal Cert.MixOutRefIdeal.Gen Idealize.ShloMosaic Idealize.ShloMosaic.TcCoe Idealize.SL.Sem

/-- The reference's result from its arguments. -/
def out (A : FVec Ideal S4096x2048 .bf16) (B : FVec Ideal S2048x2048 .bf16) : FVec Ideal S4096x2048 .f32 :=
  Host.dotGeneral dot_S4096x2048_S2048x2048_S4096x2048_1_0_0_1_n_n none (extf .f32 A bitsLt_bf16_f32) (extf .f32 B bitsLt_bf16_f32)

theorem out_eq (A : FVec Ideal S4096x2048 .bf16) (B : FVec Ideal S2048x2048 .bf16) : out A B = Cert.MixOutIdeal.Mm.res A B := by
  funext i
  idx_vars i
  pointwise [out]
  pointwise [Cert.MixOutIdeal.Mm.res]
  skip
  refine Finset.sum_congr rfl fun k _ => ?_
  skip
  rfl

end Cert.MixOutRefIdeal.Mm

end
-- ==== Proof.Mm.Up.lean ====
/- The first feed-forward product: what the kernel leaves and what the reference computes. -/
module

public import proofs.«01_k».proof.Proof.Gen.UpIdeal.Value
public import proofs.«01_k».proof.Proof.Gen.UpRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpIdeal.Mm

open Cert.UpIdeal Cert.UpIdeal.Gen Idealize.ShloMosaic Idealize.ShloMosaic.TcCoe Idealize.SL.Sem
open Idealize.ShloMosaic.Pipeline (Dat)

theorem at0 : ∀ t : Fin cfg0.N, win0_0.index t = ![t.val / 8, 0] := (by decide +kernel : ∀ t : Fin grid0.N, _)
theorem at1 : ∀ t : Fin cfg0.N, win0_1.index t = ![t.val % 8, 0, 0] := (by decide +kernel : ∀ t : Fin grid0.N, _)
theorem at2 : ∀ t : Fin cfg0.N, win0_2.index t = ![(t.val % 8) / 4, t.val / 8, (t.val % 8) % 4] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S8x2048x1408 .bf16 := m ((c : Thread nD τ).loc main_arg1)

/-- The row and the column of the product that an entry of point `t`'s block is. -/
def rowOf (t : Fin cfg0.N) (p : Fin 1024) : Fin 4096 := ⟨1024 * (t.val / 8) + p.val, by have := points t; omega⟩
def colOf (t : Fin cfg0.N) (q : Fin 1408) : Fin 11264 := ⟨1408 * (t.val % 8) + q.val, by have := points t; omega⟩

/-- The factors that meet at place `k` of the summed axis, and their product. -/
def entA (A : FVec Ideal S4096x2048 .bf16) (x : Fin 4096) (k : Fin 2048) : EReal := A (ix2 x k)
def entB (B : FVec Ideal S8x2048x1408 .bf16) (y : Fin 11264) (k : Fin 2048) : EReal := B (ix3 ⟨y.val / 1408, by have := y.isLt; omega⟩ k ⟨y.val % 1408, by omega⟩)
def term (A : FVec Ideal S4096x2048 .bf16) (B : FVec Ideal S8x2048x1408 .bf16) (x : Fin 4096) (y : Fin 11264) (k : Fin 2048) : EReal := entA A x k * entB B y k

theorem blk0 (t : Fin cfg0.N) (p : Fin 1024) (k : Fin 2048) :
    iblk m c 0 t (ix2 p k) = entA (argA m c) (rowOf t p) ⟨k.val, k.isLt⟩ := by
  have hp := points t
  blk_ext! [iblk, V, at0 t, rowOf, argA, entA]

theorem blk1 (t : Fin cfg0.N) (q : Fin 1408) (k : Fin 2048) :
    iblk m c 1 t (ix3 0 k q) = entB (argB m c) (colOf t q) ⟨k.val, k.isLt⟩ := by
  have hp := points t
  blk_ext! [iblk, V, at1 t, colOf, argB, entB]

theorem dot_at (t : Fin cfg0.N) (p : Fin 1024) (q : Fin 1408) :
    k0_pay1 (iblk m c 0 t) (iblk m c 1 t) (ix3 0 p q)
      = ∑ k : Fin 2048, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 1408) :
    out0_2 (iblk m c 0 t) (iblk m c 1 t) (ix3 0 p q) = ∑ k : Fin 2048, term (argA m c) (argB m c) (rowOf t p) (colOf t q) k := by
  unfold out0_2
  frame_out
  exact dot_at m c t p q

/-- The result. -/
def res (A : FVec Ideal S4096x2048 .bf16) (B : FVec Ideal S8x2048x1408 .bf16) : FVec Ideal S2x4096x5632 .bf16 := fun i =>
  (∑ k : Fin 2048, term A B (i 1) ⟨(i 0).val * 5632 + (i 2).val, by have := (i 0).isLt; have := (i 2).isLt; dsimp at *; omega⟩ k)

theorem res_at (x : Fin 4096) (z : Fin 11264) :
    (∑ k : Fin 2048, term (argA m c) (argB m c) x z k)
      = res (argA m c) (argB m c) (ix3 ⟨z.val / 5632, by have := z.isLt; omega⟩ x ⟨z.val % 5632, by omega⟩) :=
  Finset.sum_congr rfl fun k _ => congrArg (fun z => term (argA m c) (argB m c) x z k) (Fin.ext (Nat.div_add_mod' z.val 5632).symm)

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  obtain rfl : y0 = 0 := Subsingleton.elim _ _
  rw [out_at m c t, res_at]
  generalize res (argA m c) (argB m c) = G
  blk_ext! [at2 t, rowOf, colOf]

end Cert.UpIdeal.Mm

namespace Cert.UpRefIdeal.Mm

open Cert.UpRefIdeal Cert.UpRefIdeal.Gen Idealize.ShloMosaic Idealize.ShloMosaic.TcCoe Idealize.SL.Sem

/-- The reference's result from its arguments. -/
def out (A : FVec Ideal S4096x2048 .bf16) (B : FVec Ideal S8x2048x1408 .bf16) : FVec Ideal S2x4096x5632 .bf16 :=
  truncf .bf16 (concatenate S2x4096x5632 0 [⟨S1x4096x5632, (broadcastInDim S1x4096x5632 ![1, 2] bcast_S4096x5632_S1x4096x5632_1_2 (extractStridedSlice S4096x5632 ![0, 0] (Host.dotGeneral dot_S4096x2048_S2048x11264_S4096x11264_1_0_0_1_n_n none (extf .f32 A bitsLt_bf16_f32) (shapeCast _ (transpose S2048x8x1408 [1, 0, 2] (extf .f32 B bitsLt_bf16_f32) transposes_S8x2048x1408_S2048x8x1408_1_0_2) shapeCasts_S2048x8x1408_S2048x11264)) slices_S4096x11264_S4096x5632_0_0))⟩, ⟨S1x4096x5632, (broadcastInDim S1x4096x5632 ![1, 2] bcast_S4096x5632_S1x4096x5632_1_2 (extractStridedSlice S4096x5632 ![0, 5632] (Host.dotGeneral dot_S4096x2048_S2048x11264_S4096x11264_1_0_0_1_n_n none (extf .f32 A bitsLt_bf16_f32) (shapeCast _ (transpose S2048x8x1408 [1, 0, 2] (extf .f32 B bitsLt_bf16_f32) transposes_S8x2048x1408_S2048x8x1408_1_0_2) shapeCasts_S2048x8x1408_S2048x11264)) slices_S4096x11264_S4096x5632_0_5632))⟩] concatenates_S1x4096x5632_S1x4096x5632_S2x4096x5632_d0) bitsLt_bf16_f32

theorem out_eq (A : FVec Ideal S4096x2048 .bf16) (B : FVec Ideal S8x2048x1408 .bf16) : out A B = Cert.UpIdeal.Mm.res A B := by
  funext i
  idx_vars i
  pointwise [out]
  pointwise [Cert.UpIdeal.Mm.res, Cert.UpIdeal.Mm.term, Cert.UpIdeal.Mm.entA, Cert.UpIdeal.Mm.entB]
  have h0 := i0.isLt
  split_ifs
  all_goals exact Finset.sum_congr rfl fun k _ => congrArg (A (ix2 i1 k) * ·) (Cert.Spec.read3 B (by dsimp only; omega) rfl (by dsimp only; omega))

end Cert.UpRefIdeal.Mm

end
-- ==== Proof.Mm.Down.lean ====
/- The second feed-forward product: what the kernel leaves and what the reference computes. -/
module

public import proofs.«01_k».proof.Proof.Gen.DownIdeal.Value
public import proofs.«01_k».proof.Proof.Gen.DownRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownIdeal.Mm

open Cert.DownIdeal Cert.DownIdeal.Gen Idealize.ShloMosaic Idealize.ShloMosaic.TcCoe Idealize.SL.Sem
open Idealize.ShloMosaic.Pipeline (Dat)

theorem at0 : ∀ t : Fin cfg0.N, win0_0.index t = ![t.val / 4, t.val % 2] := (by decide +kernel : ∀ t : Fin grid0.N, _)
theorem at1 : ∀ t : Fin cfg0.N, win0_1.index t = ![t.val % 2, t.val / 2 % 2] := (by decide +kernel : ∀ t : Fin grid0.N, _)
theorem at2 : ∀ t : Fin cfg0.N, win0_2.index t = ![t.val / 4, t.val / 2 % 2] := (by decide +kernel : ∀ t : Fin grid0.N, _)
theorem points (t : Fin cfg0.N) : t.val < 16 := t.isLt.trans_eq N_0

variable (m : (ℓ : Loc nD τ sig) → Buf (Elt Ideal) ℓ) (c : Dev nD)

/-- The arguments. -/
abbrev argA : FVec Ideal S4096x5632 .bf16 := m ((c : Thread nD τ).loc main_arg0)
abbrev argB : FVec Ideal S5632x2048 .bf16 := m ((c : Thread nD τ).loc main_arg1)

/-- The row and the column of the product that an entry of point `t`'s block is. -/
def rowOf (t : Fin cfg0.N) (p : Fin 1024) : Fin 4096 := ⟨1024 * (t.val / 4) + p.val, by have := points t; omega⟩
def colOf (t : Fin cfg0.N) (q : Fin 1024) : Fin 2048 := ⟨1024 * (t.val / 2 % 2) + q.val, by have := points t; omega⟩

/-- The factors that meet at place `k` of the summed axis, and their product. -/
def entA (A : FVec Ideal S4096x5632 .bf16) (x : Fin 4096) (k : Fin 5632) : EReal := A (ix2 x k)
def entB (B : FVec Ideal S5632x2048 .bf16) (y : Fin 2048) (k : Fin 5632) : EReal := B (ix2 k y)
def term (A : FVec Ideal S4096x5632 .bf16) (B : FVec Ideal S5632x2048 .bf16) (x : Fin 4096) (y : Fin 2048) (k : Fin 5632) : EReal := entA A x k * entB B y k

theorem blk0 (t : Fin cfg0.N) (p : Fin 1024) (k : Fin 2816) :
    iblk m c 0 t (ix2 p k) = entA (argA m c) (rowOf t p) ⟨2816 * (t.val % 2) + k.val, by have := k.isLt; omega⟩ := by
  have hp := points t
  blk_ext! [iblk, V, at0 t, rowOf, argA, entA]

theorem blk1 (t : Fin cfg0.N) (q : Fin 1024) (k : Fin 2816) :
    iblk m c 1 t (ix2 k q) = entB (argB m c) (colOf t q) ⟨2816 * (t.val % 2) + k.val, by have := k.isLt; omega⟩ := by
  have hp := points t
  blk_ext! [iblk, V, at1 t, colOf, argB, entB]

theorem dot_at (t : Fin cfg0.N) (p : Fin 1024) (q : Fin 1024) :
    k0_pay1 (iblk m c 0 t) (iblk m c 1 t) (ix2 p q)
      = ∑ k : Fin 2816, term (argA m c) (argB m c) (rowOf t p) (colOf t q) ⟨2816 * (t.val % 2) + k.val, by have := k.isLt; omega⟩ := by
  pointwise [k0_pay1]
  simp only [blk0, blk1, term]

/-- What the first of the two points of a block keeps. -/
theorem acc_at (t : Fin cfg0.N) (h : t.val % 2 = 0) (p : Fin 1024) (q : Fin 1024) :
    (outsAt0 m c t.val t.isLt).2 (ix2 p q) = k0_pay1 (iblk m c 0 t) (iblk m c 1 t) (ix2 p q) := by
  rw [outsAt0_A m c t h (by omega)]
  frame_out
  pointwise [k0_pay2]

/-- What the second of the two points of a block leaves. -/
theorem out_at (t : Fin cfg0.N) (h : t.val % 2 = 1) (p : Fin 1024) (q : Fin 1024) :
    (outsAt0 m c t.val t.isLt).1 (ix2 p q) = ∑ k : Fin 5632, term (argA m c) (argB m c) (rowOf t p) (colOf t q) k := by
  rw [outsAt0_B m c t (by omega) h]
  frame_out
  have hb : t.val - 1 < cfg0.N := (Nat.sub_le _ _).trans_lt t.isLt
  have hp := points t
  have hacc := acc_at m c ⟨t.val - 1, hb⟩ (by dsimp only; omega) p q
  pointwise [k0_pay3]
  rw [Cert.Spec.sum_two 2816 rfl]
  rw [read_unread_whole]
  refine congrArg₂ (· + ·) (hacc.trans ((dot_at m c _ p q).trans (Finset.sum_congr rfl fun k _ => ?_)))
    ((dot_at m c t p q).trans (Finset.sum_congr rfl fun k _ => ?_))
  · have e1 : rowOf ⟨t.val - 1, hb⟩ p = rowOf t p := Fin.ext (by dsimp only [rowOf]; omega)
    have e2 : colOf ⟨t.val - 1, hb⟩ q = colOf t q := Fin.ext (by dsimp only [colOf]; omega)
    rw [e1, e2]
    exact congrArg _ (Fin.ext (by dsimp only; omega))
  · exact congrArg _ (Fin.ext (by dsimp only; omega))

/-- The result. -/
def res (A : FVec Ideal S4096x5632 .bf16) (B : FVec Ideal S5632x2048 .bf16) : FVec Ideal S4096x2048 .f32 := fun i =>
  (∑ k : Fin 5632, term A B (i 0) (i 1) k)

theorem res_at (x : Fin 4096) (z : Fin 2048) :
    (∑ k : Fin 5632, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t ((flush0_2 t).mp hf), res_at]
  generalize res (argA m c) (argB m c) = G
  blk_ext! [at2 t, rowOf, colOf]

end Cert.DownIdeal.Mm

namespace Cert.DownRefIdeal.Mm

open Cert.DownRefIdeal Cert.DownRefIdeal.Gen Idealize.ShloMosaic Idealize.ShloMosaic.TcCoe Idealize.SL.Sem

/-- The reference's result from its arguments. -/
def out (A : FVec Ideal S4096x5632 .bf16) (B : FVec Ideal S5632x2048 .bf16) : FVec Ideal S4096x2048 .f32 :=
  Host.dotGeneral dot_S4096x5632_S5632x2048_S4096x2048_1_0_0_1_n_n none (extf .f32 A bitsLt_bf16_f32) (extf .f32 B bitsLt_bf16_f32)

theorem out_eq (A : FVec Ideal S4096x5632 .bf16) (B : FVec Ideal S5632x2048 .bf16) : out A B = Cert.DownIdeal.Mm.res A B := by
  funext i
  idx_vars i
  pointwise [out]
  pointwise [Cert.DownIdeal.Mm.res]
  skip
  refine Finset.sum_congr rfl fun k _ => ?_
  skip
  rfl

end Cert.DownRefIdeal.Mm

end
-- ==== Proof.Mm.SgIn.lean ====
/- The gating mixer's input product: what the kernel leaves and what the reference computes. -/
module

public import proofs.«01_k».proof.Proof.Gen.SgInIdeal.Value
public import proofs.«01_k».proof.Proof.Gen.SgInRefIdeal.Run
public import proofs.«01_k».proof.Proof.Mm.Sums
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SgInIdeal.Mm

open Cert.SgInIdeal Cert.SgInIdeal.Gen Idealize.ShloMosaic Idealize.ShloMosaic.TcCoe Idealize.SL.Sem
open Idealize.ShloMosaic.Pipeline (Dat)

theorem at0 : ∀ t : Fin cfg0.N, win0_0.index t = ![t.val / 8, 0] := (by decide +kernel : ∀ t : Fin grid0.N, _)
theorem at1 : ∀ t : Fin cfg0.N, win0_1.index t = ![t.val % 8, 0, 0] := (by decide +kernel : ∀ t : Fin grid0.N, _)
theorem at2 : ∀ t : Fin cfg0.N, win0_2.index t = ![t.val / 8, t.val % 8] := (by decide +kernel : ∀ t : Fin grid0.N, _)
theorem points (t : Fin cfg0.N) : t.val < 32 := t.isLt.trans_eq N_0

variable (m : (ℓ : Loc nD τ sig) → Buf (Elt Ideal) ℓ) (c : Dev nD)

/-- The arguments. -/
abbrev argA : FVec Ideal S4096x2048 .bf16 := m ((c : Thread nD τ).loc main_arg0)
abbrev argB : FVec Ideal S8x2048x512 .bf16 := m ((c : Thread nD τ).loc main_arg1)

/-- The row and the column of the product that an entry of point `t`'s block is. -/
def rowOf (t : Fin cfg0.N) (p : Fin 1024) : Fin 4096 := ⟨1024 * (t.val / 8) + p.val, by have := points t; omega⟩
def colOf (t : Fin cfg0.N) (q : Fin 512) : Fin 4096 := ⟨512 * (t.val % 8) + q.val, by have := points t; omega⟩

/-- The factors that meet at place `k` of the summed axis, and their product. -/
def entA (A : FVec Ideal S4096x2048 .bf16) (x : Fin 4096) (k : Fin 2048) : EReal := A (ix2 x k)
def entB (B : FVec Ideal S8x2048x512 .bf16) (y : Fin 4096) (k : Fin 2048) : EReal := B (ix3 ⟨y.val / 512, by have := y.isLt; omega⟩ k ⟨y.val % 512, by omega⟩)
def term (A : FVec Ideal S4096x2048 .bf16) (B : FVec Ideal S8x2048x512 .bf16) (x : Fin 4096) (y : Fin 4096) (k : Fin 2048) : EReal := entA A x k * entB B y k

theorem blk0 (t : Fin cfg0.N) (p : Fin 1024) (k : Fin 2048) :
    iblk m c 0 t (ix2 p k) = entA (argA m c) (rowOf t p) ⟨k.val, k.isLt⟩ := by
  have hp := points t
  blk_ext! [iblk, V, at0 t, rowOf, argA, entA]

theorem blk1 (t : Fin cfg0.N) (q : Fin 512) (k : Fin 2048) :
    iblk m c 1 t (ix3 0 k q) = entB (argB m c) (colOf t q) ⟨k.val, k.isLt⟩ := by
  have hp := points t
  blk_ext! [iblk, V, at1 t, colOf, argB, entB]

theorem dot_at (t : Fin cfg0.N) (p : Fin 1024) (q : Fin 512) :
    k0_pay1 (iblk m c 0 t) (iblk m c 1 t) (ix2 p q)
      = ∑ k : Fin 2048, term (argA m c) (argB m c) (rowOf t p) (colOf t q) ⟨k.val, k.isLt⟩ := by
  pointwise [k0_pay1]
  simp only [blk0, blk1, term]

/-- What a point leaves. -/
theorem out_at (t : Fin cfg0.N) (p : Fin 1024) (q : Fin 512) :
    out0_2 (iblk m c 0 t) (iblk m c 1 t) (ix2 p q) = ∑ k : Fin 2048, term (argA m c) (argB m c) (rowOf t p) (colOf t q) k := by
  unfold out0_2
  frame_out
  exact dot_at m c t p q

/-- The result. -/
def res (A : FVec Ideal S4096x2048 .bf16) (B : FVec Ideal S8x2048x512 .bf16) : FVec Ideal S4096x4096 .f32 := fun i =>
  (∑ k : Fin 2048, term A B (i 0) (i 1) k)

theorem res_at (x : Fin 4096) (z : Fin 4096) :
    (∑ k : Fin 2048, term (argA m c) (argB m c) x z k)
      = res (argA m c) (argB m c) (ix2 x z) :=
  rfl

/-- The result array. -/
theorem arr : (dats m 0 c).arrAt 2 cfg0.N = res (argA m c) (argB m c) := by
  refine (dats m 0 c).arrAt_eq_of_covers 2 _ (by decide +kernel) fun t hf y => ?_
  blk_simp
  rw [after0_2]
  idx_vars y
  have hp := points t
  rw [out_at m c t, res_at]
  generalize res (argA m c) (argB m c) = G
  blk_ext! [at2 t, rowOf, colOf]

end Cert.SgInIdeal.Mm

namespace Cert.SgInRefIdeal.Mm

open Cert.SgInRefIdeal Cert.SgInRefIdeal.Gen Idealize.ShloMosaic Idealize.ShloMosaic.TcCoe Idealize.SL.Sem

/-- The reference's result from its arguments. -/
def out (A : FVec Ideal S4096x2048 .bf16) (B : FVec Ideal S8x2048x512 .bf16) : FVec Ideal S4096x4096 .f32 :=
  Host.dotGeneral dot_S4096x2048_S2048x4096_S4096x4096_1_0_0_1_n_n none (extf .f32 A bitsLt_bf16_f32) (shapeCast _ (transpose S2048x8x512 [1, 0, 2] (extf .f32 B bitsLt_bf16_f32) transposes_S8x2048x512_S2048x8x512_1_0_2) shapeCasts_S2048x8x512_S2048x4096)

theorem out_eq (A : FVec Ideal S4096x2048 .bf16) (B : FVec Ideal S8x2048x512 .bf16) : out A B = Cert.SgInIdeal.Mm.res A B := by
  funext i
  idx_vars i
  pointwise [out]
  pointwise [Cert.SgInIdeal.Mm.res]
  skip
  refine Finset.sum_congr rfl fun k _ => ?_
  skip
  rfl

end Cert.SgInRefIdeal.Mm

end
-- ==== Proof.Adam.Step.lean ====
/- One AdamW step of one entry, and the sum of the eight devices' gradients. -/
module

public import Idealize.ShloMosaic.PureOps.Ideal
public import Idealize.ShloMosaic.Lib.Pointwise

@[expose] public section

noncomputable section

namespace Cert.Adam

open Idealize.ShloMosaic

/-- The new first moment, from the gradient and the old one. -/
def mean (g m : EReal) : EReal :=
  Ideal.ofBits .f32 0x3F666666#32 * m + Ideal.ofBits .f32 0x3DCCCCCD#32 * g

/-- The new second moment, from the gradient and the old one. -/
def square (g v : EReal) : EReal :=
  Ideal.ofBits .f32 0x3F7FBE77#32 * v + Ideal.ofBits .f32 0x3A83126F#32 * (g * g)

/-- The change of the weight. -/
def change (w g m v : EReal) : EReal :=
  Ideal.ofBits .f32 0xBA83126F#32 *
    (Ideal.div (Ideal.div (mean g m) (Ideal.ofBits .f32 0x3F26BD02#32))
      (Ideal.sqrt (Ideal.div (square g v) (Ideal.ofBits .f32 0x3C231ACC#32)) + Ideal.ofBits .f32 0x322BCC77#32)
      + Ideal.ofBits .f32 0x3C23D70A#32 * w)

/-- One device's share of the gradient: where `a` marks this device its own array, elsewhere what it received. -/
def share (a own part : EReal) : EReal :=
  if Ideal.ofBits .f32 0x3F000000#32 < a then own else part

/-- The gradient: the sum of the eight devices' shares. -/
def total (a : Fin 8 → EReal) (own : EReal) (part : Fin 8 → EReal) : EReal :=
  ∑ d, share (a d) own (part d)

/-- A choice between two arrays by the mark, entry by entry. -/
theorem pick_eq {s : Shape} (a : Ideal .f32) (A B : FVec Ideal s .bf16) :
    Scalar.select (Scalar.cmpf (F := Ideal) (φ := .f32) .ogt a (Scalar.ofBits .f32 0x3F000000#32)) A B
      = fun j => share a (A j) (B j) := by
  funext j
  pointwise [share]
  split_ifs <;> rfl

end Cert.Adam

end
-- ==== Proof.Adam.AdamLb.lean ====
/- The AdamW step of the recurrence's lower-bound logits: what the kernel leaves and what the reference computes. -/
module

public import proofs.«01_k».proof.Proof.Gen.AdamLbIdeal.Value
public import proofs.«01_k».proof.Proof.Gen.AdamLbRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamLbIdeal.Adam

open Cert.AdamLbIdeal Cert.AdamLbIdeal.Gen Idealize.ShloMosaic Idealize.ShloMosaic.TcCoe Idealize.SL.Sem
open Idealize.ShloMosaic.Pipeline (Dat)
open Cert.Adam

/-- The types of the arguments. -/
abbrev Wt : Type := FVec Ideal S3x2048 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 3) : Fin 3 := ⟨3 * t.val + p.val, by have := points t; omega⟩

theorem blk0 (t : Fin cfg0.N) (p : Fin 3) (q : Fin 2048) :
    iblk m c 0 t (ix2 p q) = argW m c (ix2 (rowOf t p) q) := by
  have hp := points t
  blk_ext! [iblk, V, at0 t, rowOf, argW]

theorem blk1 (t : Fin cfg0.N) (p : Fin 3) (q : Fin 2048) :
    iblk m c 1 t (ix2 p q) = argG m c (ix2 (rowOf t p) q) := by
  have hp := points t
  blk_ext! [iblk, V, at1 t, rowOf, argG]

theorem blk2 (t : Fin cfg0.N) (p : Fin 3) (q : Fin 2048) :
    iblk m c 2 t (ix2 p q) = argM m c (ix2 (rowOf t p) q) := by
  have hp := points t
  blk_ext! [iblk, V, at2 t, rowOf, argM]

theorem blk3 (t : Fin cfg0.N) (p : Fin 3) (q : Fin 2048) :
    iblk m c 3 t (ix2 p q) = argV m c (ix2 (rowOf t p) q) := by
  have hp := points t
  blk_ext! [iblk, V, at3 t, rowOf, argV]

/-- The results: the gradient, the change of the weight, the new moments. -/
def resG (W G M V : Wt) : Wt := fun i => G i
def resD (W G M V : Wt) : Wt := fun i => change (W i) (G i) (M i) (V i)
def resM (W G M V : Wt) : Wt := fun i => mean (G i) (M i)
def resV (W G M V : Wt) : Wt := fun i => square (G i) (V i)

/-- The results of these arguments. -/
abbrev newG : Wt := resG (argW m c) (argG m c) (argM m c) (argV m c)
abbrev newD : Wt := resD (argW m c) (argG m c) (argM m c) (argV m c)
abbrev newM : Wt := resM (argW m c) (argG m c) (argM m c) (argV m c)
abbrev newV : Wt := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3]
    simp only [blk0, blk1, blk2, blk3, resV, change, mean, square]
  rw [e]
  generalize newV m c = R
  blk_ext! [at7 t, rowOf]

end Cert.AdamLbIdeal.Adam

namespace Cert.AdamLbRefIdeal.Adam

open Cert.AdamLbRefIdeal Cert.AdamLbRefIdeal.Gen Idealize.ShloMosaic Idealize.ShloMosaic.TcCoe Idealize.SL.Sem
open Cert.Adam
open Cert.AdamLbIdeal.Adam (resG resD resM resV)

/-- The types of the arguments. -/
abbrev Wt : Type := FVec Ideal S3x2048 .f32

def outG (W G M V : Wt) : Wt :=
  G

theorem eqG (W G M V : Wt) : outG W G M V = resG W G M V := by
  funext i
  idx_vars i
  pointwise [outG, resG, change, mean, square]

def outD (W G M V : Wt) : Wt :=
  mulf (broadcastInDim S3x2048 ![] bcast_S_S3x2048 (constant S_ .f32 0xBA83126F#32)) (addf (Host.divf (Host.divf (addf (mulf (broadcastInDim S3x2048 ![] bcast_S_S3x2048 (constant S_ .f32 0x3F666666#32)) M) (mulf (broadcastInDim S3x2048 ![] bcast_S_S3x2048 (constant S_ .f32 0x3DCCCCCD#32)) G)) (broadcastInDim S3x2048 ![] bcast_S_S3x2048 (constant S_ .f32 0x3F26BD02#32))) (addf (Host.sqrt (Host.divf (addf (mulf (broadcastInDim S3x2048 ![] bcast_S_S3x2048 (constant S_ .f32 0x3F7FBE77#32)) V) (mulf (broadcastInDim S3x2048 ![] bcast_S_S3x2048 (constant S_ .f32 0x3A83126F#32)) (mulf G G))) (broadcastInDim S3x2048 ![] bcast_S_S3x2048 (constant S_ .f32 0x3C231ACC#32)))) (broadcastInDim S3x2048 ![] bcast_S_S3x2048 (constant S_ .f32 0x322BCC77#32)))) (mulf (broadcastInDim S3x2048 ![] bcast_S_S3x2048 (constant S_ .f32 0x3C23D70A#32)) W))

theorem eqD (W G M V : Wt) : outD W G M V = resD W G M V := by
  funext i
  idx_vars i
  pointwise [outD, resD, change, mean, square]

def outM (W G M V : Wt) : Wt :=
  addf (mulf (broadcastInDim S3x2048 ![] bcast_S_S3x2048 (constant S_ .f32 0x3F666666#32)) M) (mulf (broadcastInDim S3x2048 ![] bcast_S_S3x2048 (constant S_ .f32 0x3DCCCCCD#32)) G)

theorem eqM (W G M V : Wt) : outM W G M V = resM W G M V := by
  funext i
  idx_vars i
  pointwise [outM, resM, change, mean, square]

def outV (W G M V : Wt) : Wt :=
  addf (mulf (broadcastInDim S3x2048 ![] bcast_S_S3x2048 (constant S_ .f32 0x3F7FBE77#32)) V) (mulf (broadcastInDim S3x2048 ![] bcast_S_S3x2048 (constant S_ .f32 0x3A83126F#32)) (mulf G G))

theorem eqV (W G M V : Wt) : outV W G M V = resV W G M V := by
  funext i
  idx_vars i
  pointwise [outV, resV, change, mean, square]

end Cert.AdamLbRefIdeal.Adam

end
-- ==== Proof.Adam.AdamNorm.lean ====
/- The AdamW step of the recurrent mixer's norm: what the kernel leaves and what the reference computes. -/
module

public import proofs.«01_k».proof.Proof.Gen.AdamNormIdeal.Value
public import proofs.«01_k».proof.Proof.Gen.AdamNormRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamNormIdeal.Adam

open Cert.AdamNormIdeal Cert.AdamNormIdeal.Gen Idealize.ShloMosaic Idealize.ShloMosaic.TcCoe Idealize.SL.Sem
open Idealize.ShloMosaic.Pipeline (Dat)
open Cert.Adam

/-- The types of the arguments. -/
abbrev Wt : Type := FVec Ideal S1x2048 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 1) : Fin 1 := ⟨1 * t.val + p.val, by have := points t; omega⟩

theorem blk0 (t : Fin cfg0.N) (p : Fin 1) (q : Fin 2048) :
    iblk m c 0 t (ix2 p q) = argW m c (ix2 (rowOf t p) q) := by
  have hp := points t
  blk_ext! [iblk, V, at0 t, rowOf, argW]

theorem blk1 (t : Fin cfg0.N) (p : Fin 1) (q : Fin 2048) :
    iblk m c 1 t (ix2 p q) = argG m c (ix2 (rowOf t p) q) := by
  have hp := points t
  blk_ext! [iblk, V, at1 t, rowOf, argG]

theorem blk2 (t : Fin cfg0.N) (p : Fin 1) (q : Fin 2048) :
    iblk m c 2 t (ix2 p q) = argM m c (ix2 (rowOf t p) q) := by
  have hp := points t
  blk_ext! [iblk, V, at2 t, rowOf, argM]

theorem blk3 (t : Fin cfg0.N) (p : Fin 1) (q : Fin 2048) :
    iblk m c 3 t (ix2 p q) = argV m c (ix2 (rowOf t p) q) := by
  have hp := points t
  blk_ext! [iblk, V, at3 t, rowOf, argV]

/-- The results: the gradient, the change of the weight, the new moments. -/
def resG (W G M V : Wt) : Wt := fun i => G i
def resD (W G M V : Wt) : Wt := fun i => change (W i) (G i) (M i) (V i)
def resM (W G M V : Wt) : Wt := fun i => mean (G i) (M i)
def resV (W G M V : Wt) : Wt := fun i => square (G i) (V i)

/-- The results of these arguments. -/
abbrev newG : Wt := resG (argW m c) (argG m c) (argM m c) (argV m c)
abbrev newD : Wt := resD (argW m c) (argG m c) (argM m c) (argV m c)
abbrev newM : Wt := resM (argW m c) (argG m c) (argM m c) (argV m c)
abbrev newV : Wt := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3]
    simp only [blk0, blk1, blk2, blk3, resV, change, mean, square]
  rw [e]
  generalize newV m c = R
  blk_ext! [at7 t, rowOf]

end Cert.AdamNormIdeal.Adam

namespace Cert.AdamNormRefIdeal.Adam

open Cert.AdamNormRefIdeal Cert.AdamNormRefIdeal.Gen Idealize.ShloMosaic Idealize.ShloMosaic.TcCoe Idealize.SL.Sem
open Cert.Adam
open Cert.AdamNormIdeal.Adam (resG resD resM resV)

/-- The types of the arguments. -/
abbrev Wt : Type := FVec Ideal S1x2048 .f32

def outG (W G M V : Wt) : Wt :=
  G

theorem eqG (W G M V : Wt) : outG W G M V = resG W G M V := by
  funext i
  idx_vars i
  pointwise [outG, resG, change, mean, square]

def outD (W G M V : Wt) : Wt :=
  mulf (broadcastInDim S1x2048 ![] bcast_S_S1x2048 (constant S_ .f32 0xBA83126F#32)) (addf (Host.divf (Host.divf (addf (mulf (broadcastInDim S1x2048 ![] bcast_S_S1x2048 (constant S_ .f32 0x3F666666#32)) M) (mulf (broadcastInDim S1x2048 ![] bcast_S_S1x2048 (constant S_ .f32 0x3DCCCCCD#32)) G)) (broadcastInDim S1x2048 ![] bcast_S_S1x2048 (constant S_ .f32 0x3F26BD02#32))) (addf (Host.sqrt (Host.divf (addf (mulf (broadcastInDim S1x2048 ![] bcast_S_S1x2048 (constant S_ .f32 0x3F7FBE77#32)) V) (mulf (broadcastInDim S1x2048 ![] bcast_S_S1x2048 (constant S_ .f32 0x3A83126F#32)) (mulf G G))) (broadcastInDim S1x2048 ![] bcast_S_S1x2048 (constant S_ .f32 0x3C231ACC#32)))) (broadcastInDim S1x2048 ![] bcast_S_S1x2048 (constant S_ .f32 0x322BCC77#32)))) (mulf (broadcastInDim S1x2048 ![] bcast_S_S1x2048 (constant S_ .f32 0x3C23D70A#32)) W))

theorem eqD (W G M V : Wt) : outD W G M V = resD W G M V := by
  funext i
  idx_vars i
  pointwise [outD, resD, change, mean, square]

def outM (W G M V : Wt) : Wt :=
  addf (mulf (broadcastInDim S1x2048 ![] bcast_S_S1x2048 (constant S_ .f32 0x3F666666#32)) M) (mulf (broadcastInDim S1x2048 ![] bcast_S_S1x2048 (constant S_ .f32 0x3DCCCCCD#32)) G)

theorem eqM (W G M V : Wt) : outM W G M V = resM W G M V := by
  funext i
  idx_vars i
  pointwise [outM, resM, change, mean, square]

def outV (W G M V : Wt) : Wt :=
  addf (mulf (broadcastInDim S1x2048 ![] bcast_S_S1x2048 (constant S_ .f32 0x3F7FBE77#32)) V) (mulf (broadcastInDim S1x2048 ![] bcast_S_S1x2048 (constant S_ .f32 0x3A83126F#32)) (mulf G G))

theorem eqV (W G M V : Wt) : outV W G M V = resV W G M V := by
  funext i
  idx_vars i
  pointwise [outV, resV, change, mean, square]

end Cert.AdamNormRefIdeal.Adam

end
-- ==== Proof.Adam.AdamSgLn.lean ====
/- The AdamW step of a norm vector of the gating mixer: what the kernel leaves and what the reference computes. -/
module

public import proofs.«01_k».proof.Proof.Gen.AdamSgLnIdeal.Value
public import proofs.«01_k».proof.Proof.Gen.AdamSgLnRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamSgLnIdeal.Adam

open Cert.AdamSgLnIdeal Cert.AdamSgLnIdeal.Gen Idealize.ShloMosaic Idealize.ShloMosaic.TcCoe Idealize.SL.Sem
open Idealize.ShloMosaic.Pipeline (Dat)
open Cert.Adam

/-- The types of the arguments. -/
abbrev Wt : Type := FVec Ideal S1x256 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 1) : Fin 1 := ⟨1 * t.val + p.val, by have := points t; omega⟩

theorem blk0 (t : Fin cfg0.N) (p : Fin 1) (q : Fin 256) :
    iblk m c 0 t (ix2 p q) = argW m c (ix2 (rowOf t p) q) := by
  have hp := points t
  blk_ext! [iblk, V, at0 t, rowOf, argW]

theorem blk1 (t : Fin cfg0.N) (p : Fin 1) (q : Fin 256) :
    iblk m c 1 t (ix2 p q) = argG m c (ix2 (rowOf t p) q) := by
  have hp := points t
  blk_ext! [iblk, V, at1 t, rowOf, argG]

theorem blk2 (t : Fin cfg0.N) (p : Fin 1) (q : Fin 256) :
    iblk m c 2 t (ix2 p q) = argM m c (ix2 (rowOf t p) q) := by
  have hp := points t
  blk_ext! [iblk, V, at2 t, rowOf, argM]

theorem blk3 (t : Fin cfg0.N) (p : Fin 1) (q : Fin 256) :
    iblk m c 3 t (ix2 p q) = argV m c (ix2 (rowOf t p) q) := by
  have hp := points t
  blk_ext! [iblk, V, at3 t, rowOf, argV]

/-- The results: the gradient, the change of the weight, the new moments. -/
def resG (W G M V : Wt) : Wt := fun i => G i
def resD (W G M V : Wt) : Wt := fun i => change (W i) (G i) (M i) (V i)
def resM (W G M V : Wt) : Wt := fun i => mean (G i) (M i)
def resV (W G M V : Wt) : Wt := fun i => square (G i) (V i)

/-- The results of these arguments. -/
abbrev newG : Wt := resG (argW m c) (argG m c) (argM m c) (argV m c)
abbrev newD : Wt := resD (argW m c) (argG m c) (argM m c) (argV m c)
abbrev newM : Wt := resM (argW m c) (argG m c) (argM m c) (argV m c)
abbrev newV : Wt := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3]
    simp only [blk0, blk1, blk2, blk3, resV, change, mean, square]
  rw [e]
  generalize newV m c = R
  blk_ext! [at7 t, rowOf]

end Cert.AdamSgLnIdeal.Adam

namespace Cert.AdamSgLnRefIdeal.Adam

open Cert.AdamSgLnRefIdeal Cert.AdamSgLnRefIdeal.Gen Idealize.ShloMosaic Idealize.ShloMosaic.TcCoe Idealize.SL.Sem
open Cert.Adam
open Cert.AdamSgLnIdeal.Adam (resG resD resM resV)

/-- The types of the arguments. -/
abbrev Wt : Type := FVec Ideal S1x256 .f32

def outG (W G M V : Wt) : Wt :=
  G

theorem eqG (W G M V : Wt) : outG W G M V = resG W G M V := by
  funext i
  idx_vars i
  pointwise [outG, resG, change, mean, square]

def outD (W G M V : Wt) : Wt :=
  mulf (broadcastInDim S1x256 ![] bcast_S_S1x256 (constant S_ .f32 0xBA83126F#32)) (addf (Host.divf (Host.divf (addf (mulf (broadcastInDim S1x256 ![] bcast_S_S1x256 (constant S_ .f32 0x3F666666#32)) M) (mulf (broadcastInDim S1x256 ![] bcast_S_S1x256 (constant S_ .f32 0x3DCCCCCD#32)) G)) (broadcastInDim S1x256 ![] bcast_S_S1x256 (constant S_ .f32 0x3F26BD02#32))) (addf (Host.sqrt (Host.divf (addf (mulf (broadcastInDim S1x256 ![] bcast_S_S1x256 (constant S_ .f32 0x3F7FBE77#32)) V) (mulf (broadcastInDim S1x256 ![] bcast_S_S1x256 (constant S_ .f32 0x3A83126F#32)) (mulf G G))) (broadcastInDim S1x256 ![] bcast_S_S1x256 (constant S_ .f32 0x3C231ACC#32)))) (broadcastInDim S1x256 ![] bcast_S_S1x256 (constant S_ .f32 0x322BCC77#32)))) (mulf (broadcastInDim S1x256 ![] bcast_S_S1x256 (constant S_ .f32 0x3C23D70A#32)) W))

theorem eqD (W G M V : Wt) : outD W G M V = resD W G M V := by
  funext i
  idx_vars i
  pointwise [outD, resD, change, mean, square]

def outM (W G M V : Wt) : Wt :=
  addf (mulf (broadcastInDim S1x256 ![] bcast_S_S1x256 (constant S_ .f32 0x3F666666#32)) M) (mulf (broadcastInDim S1x256 ![] bcast_S_S1x256 (constant S_ .f32 0x3DCCCCCD#32)) G)

theorem eqM (W G M V : Wt) : outM W G M V = resM W G M V := by
  funext i
  idx_vars i
  pointwise [outM, resM, change, mean, square]

def outV (W G M V : Wt) : Wt :=
  addf (mulf (broadcastInDim S1x256 ![] bcast_S_S1x256 (constant S_ .f32 0x3F7FBE77#32)) V) (mulf (broadcastInDim S1x256 ![] bcast_S_S1x256 (constant S_ .f32 0x3A83126F#32)) (mulf G G))

theorem eqV (W G M V : Wt) : outV W G M V = resV W G M V := by
  funext i
  idx_vars i
  pointwise [outV, resV, change, mean, square]

end Cert.AdamSgLnRefIdeal.Adam

end
-- ==== Proof.Adam.AdamSgWs.lean ====
/- The AdamW step of the gating mixer's weights along the sequence: what the kernel leaves and what the reference computes. -/
module

public import proofs.«01_k».proof.Proof.Gen.AdamSgWsIdeal.Value
public import proofs.«01_k».proof.Proof.Gen.AdamSgWsRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamSgWsIdeal.Adam

open Cert.AdamSgWsIdeal Cert.AdamSgWsIdeal.Gen Idealize.ShloMosaic Idealize.ShloMosaic.TcCoe Idealize.SL.Sem
open Idealize.ShloMosaic.Pipeline (Dat)
open Cert.Adam

/-- The types of the arguments. -/
abbrev Wt : Type := FVec Ideal S1x16x128x128 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 256) : Fin 2048 := ⟨256 * t.val + p.val, by have := points t; omega⟩

/-- An argument laid out as the call takes it. -/
def flat (A : Wt) : FVec Ideal S2048x128 .f32 := shapeCast S2048x128 A shapeCasts_S1x16x128x128_S2048x128

theorem blk0 (t : Fin cfg0.N) (p : Fin 256) (q : Fin 128) :
    iblk m c 0 t (ix2 p q) = flat (argW m c) (ix2 (rowOf t p) q) := by
  have hp := points t
  have e : V m c (Pipeline.arrRef spec0 0) = flat (argW m c) := by
    unfold V
    after_results_simp <;> rfl
  unfold iblk
  rw [e]
  generalize flat (argW m c) = G
  blk_ext! [at0 t, rowOf]

theorem blk1 (t : Fin cfg0.N) (p : Fin 256) (q : Fin 128) :
    iblk m c 1 t (ix2 p q) = flat (argG m c) (ix2 (rowOf t p) q) := by
  have hp := points t
  have e : V m c (Pipeline.arrRef spec0 1) = flat (argG m c) := by
    unfold V
    after_results_simp <;> rfl
  unfold iblk
  rw [e]
  generalize flat (argG m c) = G
  blk_ext! [at1 t, rowOf]

theorem blk2 (t : Fin cfg0.N) (p : Fin 256) (q : Fin 128) :
    iblk m c 2 t (ix2 p q) = flat (argM m c) (ix2 (rowOf t p) q) := by
  have hp := points t
  have e : V m c (Pipeline.arrRef spec0 2) = flat (argM m c) := by
    unfold V
    after_results_simp <;> rfl
  unfold iblk
  rw [e]
  generalize flat (argM m c) = G
  blk_ext! [at2 t, rowOf]

theorem blk3 (t : Fin cfg0.N) (p : Fin 256) (q : Fin 128) :
    iblk m c 3 t (ix2 p q) = flat (argV m c) (ix2 (rowOf t p) q) := by
  have hp := points t
  have e : V m c (Pipeline.arrRef spec0 3) = flat (argV m c) := by
    unfold V
    after_results_simp <;> rfl
  unfold iblk
  rw [e]
  generalize flat (argV m c) = G
  blk_ext! [at3 t, rowOf]

/-- The results: the gradient, the change of the weight, the new moments. -/
def resG (W G M V : Wt) : FVec Ideal S2048x128 .f32 := fun i => flat (G) i
def resD (W G M V : Wt) : FVec Ideal S2048x128 .f32 := fun i => change (flat (W) i) (flat (G) i) (flat (M) i) (flat (V) i)
def resM (W G M V : Wt) : FVec Ideal S2048x128 .f32 := fun i => mean (flat (G) i) (flat (M) i)
def resV (W G M V : Wt) : FVec Ideal S2048x128 .f32 := fun i => square (flat (G) i) (flat (V) i)

/-- The results of these arguments. -/
abbrev newG : FVec Ideal S2048x128 .f32 := resG (argW m c) (argG m c) (argM m c) (argV m c)
abbrev newD : FVec Ideal S2048x128 .f32 := resD (argW m c) (argG m c) (argM m c) (argV m c)
abbrev newM : FVec Ideal S2048x128 .f32 := resM (argW m c) (argG m c) (argM m c) (argV m c)
abbrev newV : FVec Ideal S2048x128 .f32 := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3, k0_pay4]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3, k0_pay4]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3, k0_pay4]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3, k0_pay4]
    simp only [blk0, blk1, blk2, blk3, resV, change, mean, square]
  rw [e]
  generalize newV m c = R
  blk_ext! [at7 t, rowOf]

end Cert.AdamSgWsIdeal.Adam

namespace Cert.AdamSgWsRefIdeal.Adam

open Cert.AdamSgWsRefIdeal Cert.AdamSgWsRefIdeal.Gen Idealize.ShloMosaic Idealize.ShloMosaic.TcCoe Idealize.SL.Sem
open Cert.Adam
open Cert.AdamSgWsIdeal.Adam (flat resG resD resM resV)

/-- The types of the arguments. -/
abbrev Wt : Type := FVec Ideal S1x16x128x128 .f32

def outG (W G M V : Wt) : FVec Ideal S2048x128 .f32 :=
  shapeCast _ G shapeCasts_S1x16x128x128_S2048x128

theorem eqG (W G M V : Wt) : outG W G M V = resG W G M V := by
  funext i
  idx_vars i
  pointwise [outG, resG, change, mean, square, flat]

def outD (W G M V : Wt) : FVec Ideal S2048x128 .f32 :=
  shapeCast _ (mulf (broadcastInDim S1x16x128x128 ![] bcast_S_S1x16x128x128 (constant S_ .f32 0xBA83126F#32)) (addf (Host.divf (Host.divf (addf (mulf (broadcastInDim S1x16x128x128 ![] bcast_S_S1x16x128x128 (constant S_ .f32 0x3F666666#32)) M) (mulf (broadcastInDim S1x16x128x128 ![] bcast_S_S1x16x128x128 (constant S_ .f32 0x3DCCCCCD#32)) G)) (broadcastInDim S1x16x128x128 ![] bcast_S_S1x16x128x128 (constant S_ .f32 0x3F26BD02#32))) (addf (Host.sqrt (Host.divf (addf (mulf (broadcastInDim S1x16x128x128 ![] bcast_S_S1x16x128x128 (constant S_ .f32 0x3F7FBE77#32)) V) (mulf (broadcastInDim S1x16x128x128 ![] bcast_S_S1x16x128x128 (constant S_ .f32 0x3A83126F#32)) (mulf G G))) (broadcastInDim S1x16x128x128 ![] bcast_S_S1x16x128x128 (constant S_ .f32 0x3C231ACC#32)))) (broadcastInDim S1x16x128x128 ![] bcast_S_S1x16x128x128 (constant S_ .f32 0x322BCC77#32)))) (mulf (broadcastInDim S1x16x128x128 ![] bcast_S_S1x16x128x128 (constant S_ .f32 0x3C23D70A#32)) W))) shapeCasts_S1x16x128x128_S2048x128

theorem eqD (W G M V : Wt) : outD W G M V = resD W G M V := by
  funext i
  idx_vars i
  pointwise [outD, resD, change, mean, square, flat]

def outM (W G M V : Wt) : FVec Ideal S2048x128 .f32 :=
  shapeCast _ (addf (mulf (broadcastInDim S1x16x128x128 ![] bcast_S_S1x16x128x128 (constant S_ .f32 0x3F666666#32)) M) (mulf (broadcastInDim S1x16x128x128 ![] bcast_S_S1x16x128x128 (constant S_ .f32 0x3DCCCCCD#32)) G)) shapeCasts_S1x16x128x128_S2048x128

theorem eqM (W G M V : Wt) : outM W G M V = resM W G M V := by
  funext i
  idx_vars i
  pointwise [outM, resM, change, mean, square, flat]

def outV (W G M V : Wt) : FVec Ideal S2048x128 .f32 :=
  shapeCast _ (addf (mulf (broadcastInDim S1x16x128x128 ![] bcast_S_S1x16x128x128 (constant S_ .f32 0x3F7FBE77#32)) V) (mulf (broadcastInDim S1x16x128x128 ![] bcast_S_S1x16x128x128 (constant S_ .f32 0x3A83126F#32)) (mulf G G))) shapeCasts_S1x16x128x128_S2048x128

theorem eqV (W G M V : Wt) : outV W G M V = resV W G M V := by
  funext i
  idx_vars i
  pointwise [outV, resV, change, mean, square, flat]

end Cert.AdamSgWsRefIdeal.Adam

end
-- ==== Proof.Adam.AdamSgBs.lean ====
/- The AdamW step of the gating mixer's biases: what the kernel leaves and what the reference computes. -/
module

public import proofs.«01_k».proof.Proof.Gen.AdamSgBsIdeal.Value
public import proofs.«01_k».proof.Proof.Gen.AdamSgBsRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamSgBsIdeal.Adam

open Cert.AdamSgBsIdeal Cert.AdamSgBsIdeal.Gen Idealize.ShloMosaic Idealize.ShloMosaic.TcCoe Idealize.SL.Sem
open Idealize.ShloMosaic.Pipeline (Dat)
open Cert.Adam

/-- The types of the arguments. -/
abbrev Wt : Type := FVec Ideal S1x16x128 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 16) : Fin 16 := ⟨16 * t.val + p.val, by have := points t; omega⟩

/-- An argument laid out as the call takes it. -/
def flat (A : Wt) : FVec Ideal S16x128 .f32 := shapeCast S16x128 A shapeCasts_S1x16x128_S16x128

theorem blk0 (t : Fin cfg0.N) (p : Fin 16) (q : Fin 128) :
    iblk m c 0 t (ix2 p q) = flat (argW m c) (ix2 (rowOf t p) q) := by
  have hp := points t
  have e : V m c (Pipeline.arrRef spec0 0) = flat (argW m c) := by
    unfold V
    after_results_simp <;> rfl
  unfold iblk
  rw [e]
  generalize flat (argW m c) = G
  blk_ext! [at0 t, rowOf]

theorem blk1 (t : Fin cfg0.N) (p : Fin 16) (q : Fin 128) :
    iblk m c 1 t (ix2 p q) = flat (argG m c) (ix2 (rowOf t p) q) := by
  have hp := points t
  have e : V m c (Pipeline.arrRef spec0 1) = flat (argG m c) := by
    unfold V
    after_results_simp <;> rfl
  unfold iblk
  rw [e]
  generalize flat (argG m c) = G
  blk_ext! [at1 t, rowOf]

theorem blk2 (t : Fin cfg0.N) (p : Fin 16) (q : Fin 128) :
    iblk m c 2 t (ix2 p q) = flat (argM m c) (ix2 (rowOf t p) q) := by
  have hp := points t
  have e : V m c (Pipeline.arrRef spec0 2) = flat (argM m c) := by
    unfold V
    after_results_simp <;> rfl
  unfold iblk
  rw [e]
  generalize flat (argM m c) = G
  blk_ext! [at2 t, rowOf]

theorem blk3 (t : Fin cfg0.N) (p : Fin 16) (q : Fin 128) :
    iblk m c 3 t (ix2 p q) = flat (argV m c) (ix2 (rowOf t p) q) := by
  have hp := points t
  have e : V m c (Pipeline.arrRef spec0 3) = flat (argV m c) := by
    unfold V
    after_results_simp <;> rfl
  unfold iblk
  rw [e]
  generalize flat (argV m c) = G
  blk_ext! [at3 t, rowOf]

/-- The results: the gradient, the change of the weight, the new moments. -/
def resG (W G M V : Wt) : FVec Ideal S16x128 .f32 := fun i => flat (G) i
def resD (W G M V : Wt) : FVec Ideal S16x128 .f32 := fun i => change (flat (W) i) (flat (G) i) (flat (M) i) (flat (V) i)
def resM (W G M V : Wt) : FVec Ideal S16x128 .f32 := fun i => mean (flat (G) i) (flat (M) i)
def resV (W G M V : Wt) : FVec Ideal S16x128 .f32 := fun i => square (flat (G) i) (flat (V) i)

/-- The results of these arguments. -/
abbrev newG : FVec Ideal S16x128 .f32 := resG (argW m c) (argG m c) (argM m c) (argV m c)
abbrev newD : FVec Ideal S16x128 .f32 := resD (argW m c) (argG m c) (argM m c) (argV m c)
abbrev newM : FVec Ideal S16x128 .f32 := resM (argW m c) (argG m c) (argM m c) (argV m c)
abbrev newV : FVec Ideal S16x128 .f32 := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3, k0_pay4]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3, k0_pay4]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3, k0_pay4]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3, k0_pay4]
    simp only [blk0, blk1, blk2, blk3, resV, change, mean, square]
  rw [e]
  generalize newV m c = R
  blk_ext! [at7 t, rowOf]

end Cert.AdamSgBsIdeal.Adam

namespace Cert.AdamSgBsRefIdeal.Adam

open Cert.AdamSgBsRefIdeal Cert.AdamSgBsRefIdeal.Gen Idealize.ShloMosaic Idealize.ShloMosaic.TcCoe Idealize.SL.Sem
open Cert.Adam
open Cert.AdamSgBsIdeal.Adam (flat resG resD resM resV)

/-- The types of the arguments. -/
abbrev Wt : Type := FVec Ideal S1x16x128 .f32

def outG (W G M V : Wt) : FVec Ideal S16x128 .f32 :=
  shapeCast _ G shapeCasts_S1x16x128_S16x128

theorem eqG (W G M V : Wt) : outG W G M V = resG W G M V := by
  funext i
  idx_vars i
  pointwise [outG, resG, change, mean, square, flat]

def outD (W G M V : Wt) : FVec Ideal S16x128 .f32 :=
  shapeCast _ (mulf (broadcastInDim S1x16x128 ![] bcast_S_S1x16x128 (constant S_ .f32 0xBA83126F#32)) (addf (Host.divf (Host.divf (addf (mulf (broadcastInDim S1x16x128 ![] bcast_S_S1x16x128 (constant S_ .f32 0x3F666666#32)) M) (mulf (broadcastInDim S1x16x128 ![] bcast_S_S1x16x128 (constant S_ .f32 0x3DCCCCCD#32)) G)) (broadcastInDim S1x16x128 ![] bcast_S_S1x16x128 (constant S_ .f32 0x3F26BD02#32))) (addf (Host.sqrt (Host.divf (addf (mulf (broadcastInDim S1x16x128 ![] bcast_S_S1x16x128 (constant S_ .f32 0x3F7FBE77#32)) V) (mulf (broadcastInDim S1x16x128 ![] bcast_S_S1x16x128 (constant S_ .f32 0x3A83126F#32)) (mulf G G))) (broadcastInDim S1x16x128 ![] bcast_S_S1x16x128 (constant S_ .f32 0x3C231ACC#32)))) (broadcastInDim S1x16x128 ![] bcast_S_S1x16x128 (constant S_ .f32 0x322BCC77#32)))) (mulf (broadcastInDim S1x16x128 ![] bcast_S_S1x16x128 (constant S_ .f32 0x3C23D70A#32)) W))) shapeCasts_S1x16x128_S16x128

theorem eqD (W G M V : Wt) : outD W G M V = resD W G M V := by
  funext i
  idx_vars i
  pointwise [outD, resD, change, mean, square, flat]

def outM (W G M V : Wt) : FVec Ideal S16x128 .f32 :=
  shapeCast _ (addf (mulf (broadcastInDim S1x16x128 ![] bcast_S_S1x16x128 (constant S_ .f32 0x3F666666#32)) M) (mulf (broadcastInDim S1x16x128 ![] bcast_S_S1x16x128 (constant S_ .f32 0x3DCCCCCD#32)) G)) shapeCasts_S1x16x128_S16x128

theorem eqM (W G M V : Wt) : outM W G M V = resM W G M V := by
  funext i
  idx_vars i
  pointwise [outM, resM, change, mean, square, flat]

def outV (W G M V : Wt) : FVec Ideal S16x128 .f32 :=
  shapeCast _ (addf (mulf (broadcastInDim S1x16x128 ![] bcast_S_S1x16x128 (constant S_ .f32 0x3F7FBE77#32)) V) (mulf (broadcastInDim S1x16x128 ![] bcast_S_S1x16x128 (constant S_ .f32 0x3A83126F#32)) (mulf G G))) shapeCasts_S1x16x128_S16x128

theorem eqV (W G M V : Wt) : outV W G M V = resV W G M V := by
  funext i
  idx_vars i
  pointwise [outV, resV, change, mean, square, flat]

end Cert.AdamSgBsRefIdeal.Adam

end
-- ==== Proof.Adam.AdamConvW.lean ====
/- The AdamW step of the convolution's weights: what the kernel leaves and what the reference computes. -/
module

public import proofs.«01_k».proof.Proof.Gen.AdamConvWIdeal.Value
public import proofs.«01_k».proof.Proof.Gen.AdamConvWRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamConvWIdeal.Adam

open Cert.AdamConvWIdeal Cert.AdamConvWIdeal.Gen Idealize.ShloMosaic Idealize.ShloMosaic.TcCoe Idealize.SL.Sem
open Idealize.ShloMosaic.Pipeline (Dat)
open Cert.Adam

/-- The types of the arguments. -/
abbrev Wt : Type := FVec Ideal S2x3x704 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 33) : Fin 33 := ⟨33 * t.val + p.val, by have := points t; omega⟩

/-- An argument laid out as the call takes it. -/
def flat (A : Wt) : FVec Ideal S33x128 .f32 := shapeCast S33x128 A shapeCasts_S2x3x704_S33x128

theorem blk0 (t : Fin cfg0.N) (p : Fin 33) (q : Fin 128) :
    iblk m c 0 t (ix2 p q) = flat (argW m c) (ix2 (rowOf t p) q) := by
  have hp := points t
  have e : V m c (Pipeline.arrRef spec0 0) = flat (argW m c) := by
    unfold V
    after_results_simp <;> rfl
  unfold iblk
  rw [e]
  generalize flat (argW m c) = G
  blk_ext! [at0 t, rowOf]

theorem blk1 (t : Fin cfg0.N) (p : Fin 33) (q : Fin 128) :
    iblk m c 1 t (ix2 p q) = flat (argG m c) (ix2 (rowOf t p) q) := by
  have hp := points t
  have e : V m c (Pipeline.arrRef spec0 1) = flat (argG m c) := by
    unfold V
    after_results_simp <;> rfl
  unfold iblk
  rw [e]
  generalize flat (argG m c) = G
  blk_ext! [at1 t, rowOf]

theorem blk2 (t : Fin cfg0.N) (p : Fin 33) (q : Fin 128) :
    iblk m c 2 t (ix2 p q) = flat (argM m c) (ix2 (rowOf t p) q) := by
  have hp := points t
  have e : V m c (Pipeline.arrRef spec0 2) = flat (argM m c) := by
    unfold V
    after_results_simp <;> rfl
  unfold iblk
  rw [e]
  generalize flat (argM m c) = G
  blk_ext! [at2 t, rowOf]

theorem blk3 (t : Fin cfg0.N) (p : Fin 33) (q : Fin 128) :
    iblk m c 3 t (ix2 p q) = flat (argV m c) (ix2 (rowOf t p) q) := by
  have hp := points t
  have e : V m c (Pipeline.arrRef spec0 3) = flat (argV m c) := by
    unfold V
    after_results_simp <;> rfl
  unfold iblk
  rw [e]
  generalize flat (argV m c) = G
  blk_ext! [at3 t, rowOf]

/-- The results: the gradient, the change of the weight, the new moments. -/
def resG (W G M V : Wt) : FVec Ideal S33x128 .f32 := fun i => flat (G) i
def resD (W G M V : Wt) : FVec Ideal S33x128 .f32 := fun i => change (flat (W) i) (flat (G) i) (flat (M) i) (flat (V) i)
def resM (W G M V : Wt) : FVec Ideal S33x128 .f32 := fun i => mean (flat (G) i) (flat (M) i)
def resV (W G M V : Wt) : FVec Ideal S33x128 .f32 := fun i => square (flat (G) i) (flat (V) i)

/-- The results of these arguments. -/
abbrev newG : FVec Ideal S33x128 .f32 := resG (argW m c) (argG m c) (argM m c) (argV m c)
abbrev newD : FVec Ideal S33x128 .f32 := resD (argW m c) (argG m c) (argM m c) (argV m c)
abbrev newM : FVec Ideal S33x128 .f32 := resM (argW m c) (argG m c) (argM m c) (argV m c)
abbrev newV : FVec Ideal S33x128 .f32 := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3, k0_pay4]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3, k0_pay4]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3, k0_pay4]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3, k0_pay4]
    simp only [blk0, blk1, blk2, blk3, resV, change, mean, square]
  rw [e]
  generalize newV m c = R
  blk_ext! [at7 t, rowOf]

end Cert.AdamConvWIdeal.Adam

namespace Cert.AdamConvWRefIdeal.Adam

open Cert.AdamConvWRefIdeal Cert.AdamConvWRefIdeal.Gen Idealize.ShloMosaic Idealize.ShloMosaic.TcCoe Idealize.SL.Sem
open Cert.Adam
open Cert.AdamConvWIdeal.Adam (flat resG resD resM resV)

/-- The types of the arguments. -/
abbrev Wt : Type := FVec Ideal S2x3x704 .f32

def outG (W G M V : Wt) : FVec Ideal S33x128 .f32 :=
  shapeCast _ G shapeCasts_S2x3x704_S33x128

theorem eqG (W G M V : Wt) : outG W G M V = resG W G M V := by
  funext i
  idx_vars i
  pointwise [outG, resG, change, mean, square, flat]

def outD (W G M V : Wt) : FVec Ideal S33x128 .f32 :=
  shapeCast _ (mulf (broadcastInDim S2x3x704 ![] bcast_S_S2x3x704 (constant S_ .f32 0xBA83126F#32)) (addf (Host.divf (Host.divf (addf (mulf (broadcastInDim S2x3x704 ![] bcast_S_S2x3x704 (constant S_ .f32 0x3F666666#32)) M) (mulf (broadcastInDim S2x3x704 ![] bcast_S_S2x3x704 (constant S_ .f32 0x3DCCCCCD#32)) G)) (broadcastInDim S2x3x704 ![] bcast_S_S2x3x704 (constant S_ .f32 0x3F26BD02#32))) (addf (Host.sqrt (Host.divf (addf (mulf (broadcastInDim S2x3x704 ![] bcast_S_S2x3x704 (constant S_ .f32 0x3F7FBE77#32)) V) (mulf (broadcastInDim S2x3x704 ![] bcast_S_S2x3x704 (constant S_ .f32 0x3A83126F#32)) (mulf G G))) (broadcastInDim S2x3x704 ![] bcast_S_S2x3x704 (constant S_ .f32 0x3C231ACC#32)))) (broadcastInDim S2x3x704 ![] bcast_S_S2x3x704 (constant S_ .f32 0x322BCC77#32)))) (mulf (broadcastInDim S2x3x704 ![] bcast_S_S2x3x704 (constant S_ .f32 0x3C23D70A#32)) W))) shapeCasts_S2x3x704_S33x128

theorem eqD (W G M V : Wt) : outD W G M V = resD W G M V := by
  funext i
  idx_vars i
  pointwise [outD, resD, change, mean, square, flat]

def outM (W G M V : Wt) : FVec Ideal S33x128 .f32 :=
  shapeCast _ (addf (mulf (broadcastInDim S2x3x704 ![] bcast_S_S2x3x704 (constant S_ .f32 0x3F666666#32)) M) (mulf (broadcastInDim S2x3x704 ![] bcast_S_S2x3x704 (constant S_ .f32 0x3DCCCCCD#32)) G)) shapeCasts_S2x3x704_S33x128

theorem eqM (W G M V : Wt) : outM W G M V = resM W G M V := by
  funext i
  idx_vars i
  pointwise [outM, resM, change, mean, square, flat]

def outV (W G M V : Wt) : FVec Ideal S33x128 .f32 :=
  shapeCast _ (addf (mulf (broadcastInDim S2x3x704 ![] bcast_S_S2x3x704 (constant S_ .f32 0x3F7FBE77#32)) V) (mulf (broadcastInDim S2x3x704 ![] bcast_S_S2x3x704 (constant S_ .f32 0x3A83126F#32)) (mulf G G))) shapeCasts_S2x3x704_S33x128

theorem eqV (W G M V : Wt) : outV W G M V = resV W G M V := by
  funext i
  idx_vars i
  pointwise [outV, resV, change, mean, square, flat]

end Cert.AdamConvWRefIdeal.Adam

end
-- ==== Proof.Adam.AdamConvB.lean ====
/- The AdamW step of the convolution's biases: what the kernel leaves and what the reference computes. -/
module

public import proofs.«01_k».proof.Proof.Gen.AdamConvBIdeal.Value
public import proofs.«01_k».proof.Proof.Gen.AdamConvBRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamConvBIdeal.Adam

open Cert.AdamConvBIdeal Cert.AdamConvBIdeal.Gen Idealize.ShloMosaic Idealize.ShloMosaic.TcCoe Idealize.SL.Sem
open Idealize.ShloMosaic.Pipeline (Dat)
open Cert.Adam

/-- The types of the arguments. -/
abbrev Wt : Type := FVec Ideal S2x5632 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 2) : Fin 2 := ⟨2 * t.val + p.val, by have := points t; omega⟩

theorem blk0 (t : Fin cfg0.N) (p : Fin 2) (q : Fin 5632) :
    iblk m c 0 t (ix2 p q) = argW m c (ix2 (rowOf t p) q) := by
  have hp := points t
  blk_ext! [iblk, V, at0 t, rowOf, argW]

theorem blk1 (t : Fin cfg0.N) (p : Fin 2) (q : Fin 5632) :
    iblk m c 1 t (ix2 p q) = argG m c (ix2 (rowOf t p) q) := by
  have hp := points t
  blk_ext! [iblk, V, at1 t, rowOf, argG]

theorem blk2 (t : Fin cfg0.N) (p : Fin 2) (q : Fin 5632) :
    iblk m c 2 t (ix2 p q) = argM m c (ix2 (rowOf t p) q) := by
  have hp := points t
  blk_ext! [iblk, V, at2 t, rowOf, argM]

theorem blk3 (t : Fin cfg0.N) (p : Fin 2) (q : Fin 5632) :
    iblk m c 3 t (ix2 p q) = argV m c (ix2 (rowOf t p) q) := by
  have hp := points t
  blk_ext! [iblk, V, at3 t, rowOf, argV]

/-- The results: the gradient, the change of the weight, the new moments. -/
def resG (W G M V : Wt) : Wt := fun i => G i
def resD (W G M V : Wt) : Wt := fun i => change (W i) (G i) (M i) (V i)
def resM (W G M V : Wt) : Wt := fun i => mean (G i) (M i)
def resV (W G M V : Wt) : Wt := fun i => square (G i) (V i)

/-- The results of these arguments. -/
abbrev newG : Wt := resG (argW m c) (argG m c) (argM m c) (argV m c)
abbrev newD : Wt := resD (argW m c) (argG m c) (argM m c) (argV m c)
abbrev newM : Wt := resM (argW m c) (argG m c) (argM m c) (argV m c)
abbrev newV : Wt := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3]
    simp only [blk0, blk1, blk2, blk3, resV, change, mean, square]
  rw [e]
  generalize newV m c = R
  blk_ext! [at7 t, rowOf]

end Cert.AdamConvBIdeal.Adam

namespace Cert.AdamConvBRefIdeal.Adam

open Cert.AdamConvBRefIdeal Cert.AdamConvBRefIdeal.Gen Idealize.ShloMosaic Idealize.ShloMosaic.TcCoe Idealize.SL.Sem
open Cert.Adam
open Cert.AdamConvBIdeal.Adam (resG resD resM resV)

/-- The types of the arguments. -/
abbrev Wt : Type := FVec Ideal S2x5632 .f32

def outG (W G M V : Wt) : Wt :=
  G

theorem eqG (W G M V : Wt) : outG W G M V = resG W G M V := by
  funext i
  idx_vars i
  pointwise [outG, resG, change, mean, square]

def outD (W G M V : Wt) : Wt :=
  mulf (broadcastInDim S2x5632 ![] bcast_S_S2x5632 (constant S_ .f32 0xBA83126F#32)) (addf (Host.divf (Host.divf (addf (mulf (broadcastInDim S2x5632 ![] bcast_S_S2x5632 (constant S_ .f32 0x3F666666#32)) M) (mulf (broadcastInDim S2x5632 ![] bcast_S_S2x5632 (constant S_ .f32 0x3DCCCCCD#32)) G)) (broadcastInDim S2x5632 ![] bcast_S_S2x5632 (constant S_ .f32 0x3F26BD02#32))) (addf (Host.sqrt (Host.divf (addf (mulf (broadcastInDim S2x5632 ![] bcast_S_S2x5632 (constant S_ .f32 0x3F7FBE77#32)) V) (mulf (broadcastInDim S2x5632 ![] bcast_S_S2x5632 (constant S_ .f32 0x3A83126F#32)) (mulf G G))) (broadcastInDim S2x5632 ![] bcast_S_S2x5632 (constant S_ .f32 0x3C231ACC#32)))) (broadcastInDim S2x5632 ![] bcast_S_S2x5632 (constant S_ .f32 0x322BCC77#32)))) (mulf (broadcastInDim S2x5632 ![] bcast_S_S2x5632 (constant S_ .f32 0x3C23D70A#32)) W))

theorem eqD (W G M V : Wt) : outD W G M V = resD W G M V := by
  funext i
  idx_vars i
  pointwise [outD, resD, change, mean, square]

def outM (W G M V : Wt) : Wt :=
  addf (mulf (broadcastInDim S2x5632 ![] bcast_S_S2x5632 (constant S_ .f32 0x3F666666#32)) M) (mulf (broadcastInDim S2x5632 ![] bcast_S_S2x5632 (constant S_ .f32 0x3DCCCCCD#32)) G)

theorem eqM (W G M V : Wt) : outM W G M V = resM W G M V := by
  funext i
  idx_vars i
  pointwise [outM, resM, change, mean, square]

def outV (W G M V : Wt) : Wt :=
  addf (mulf (broadcastInDim S2x5632 ![] bcast_S_S2x5632 (constant S_ .f32 0x3F7FBE77#32)) V) (mulf (broadcastInDim S2x5632 ![] bcast_S_S2x5632 (constant S_ .f32 0x3A83126F#32)) (mulf G G))

theorem eqV (W G M V : Wt) : outV W G M V = resV W G M V := by
  funext i
  idx_vars i
  pointwise [outV, resV, change, mean, square]

end Cert.AdamConvBRefIdeal.Adam

end
-- ==== Proof.Adam.AdamLn.lean ====
/- The AdamW step of a layer norm's vectors: what the kernel leaves and what the reference computes. -/
module

public import proofs.«01_k».proof.Proof.Gen.AdamLnIdeal.Value
public import proofs.«01_k».proof.Proof.Gen.AdamLnRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamLnIdeal.Adam

open Cert.AdamLnIdeal Cert.AdamLnIdeal.Gen Idealize.ShloMosaic Idealize.ShloMosaic.TcCoe Idealize.SL.Sem
open Idealize.ShloMosaic.Pipeline (Dat)
open Cert.Adam

/-- The types of the arguments. -/
abbrev Wt : Type := FVec Ideal S2x2048 .f32

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, gradient and the two moments. -/
abbrev argW : Wt := m ((c : Thread nD τ).loc main_arg0)
abbrev argG : Wt := m ((c : Thread nD τ).loc main_arg1)
abbrev argM : Wt := m ((c : Thread nD τ).loc main_arg2)
abbrev argV : Wt := m ((c : Thread nD τ).loc main_arg3)

/-- The row that an entry of point `t`'s block is. -/
def rowOf (t : Fin cfg0.N) (p : Fin 2) : Fin 2 := ⟨2 * t.val + p.val, by have := points t; omega⟩

theorem blk0 (t : Fin cfg0.N) (p : Fin 2) (q : Fin 2048) :
    iblk m c 0 t (ix2 p q) = argW m c (ix2 (rowOf t p) q) := by
  have hp := points t
  blk_ext! [iblk, V, at0 t, rowOf, argW]

theorem blk1 (t : Fin cfg0.N) (p : Fin 2) (q : Fin 2048) :
    iblk m c 1 t (ix2 p q) = argG m c (ix2 (rowOf t p) q) := by
  have hp := points t
  blk_ext! [iblk, V, at1 t, rowOf, argG]

theorem blk2 (t : Fin cfg0.N) (p : Fin 2) (q : Fin 2048) :
    iblk m c 2 t (ix2 p q) = argM m c (ix2 (rowOf t p) q) := by
  have hp := points t
  blk_ext! [iblk, V, at2 t, rowOf, argM]

theorem blk3 (t : Fin cfg0.N) (p : Fin 2) (q : Fin 2048) :
    iblk m c 3 t (ix2 p q) = argV m c (ix2 (rowOf t p) q) := by
  have hp := points t
  blk_ext! [iblk, V, at3 t, rowOf, argV]

/-- The results: the gradient, the change of the weight, the new moments. -/
def resG (W G M V : Wt) : Wt := fun i => G i
def resD (W G M V : Wt) : Wt := fun i => change (W i) (G i) (M i) (V i)
def resM (W G M V : Wt) : Wt := fun i => mean (G i) (M i)
def resV (W G M V : Wt) : Wt := fun i => square (G i) (V i)

/-- The results of these arguments. -/
abbrev newG : Wt := resG (argW m c) (argG m c) (argM m c) (argV m c)
abbrev newD : Wt := resD (argW m c) (argG m c) (argM m c) (argV m c)
abbrev newM : Wt := resM (argW m c) (argG m c) (argM m c) (argV m c)
abbrev newV : Wt := resV (argW m c) (argG m c) (argM m c) (argV m c)

theorem arrG : (dats m 0 c).arrAt 4 cfg0.N = newG m c := by
  refine (dats m 0 c).arrAt_eq_of_covers 4 _ (by decide +kernel) fun t hf y => ?_
  blk_simp
  rw [after0_4]
  idx_vars y
  have hp := points t
  have e : out0_4 (iblk m c 0 t) (iblk m c 1 t) (iblk m c 2 t) (iblk m c 3 t) (ix2 y0 y1) = newG m c (ix2 (rowOf t y0) y1) := by
    unfold out0_4
    frame_out
    pointwise [k0_pay1, k0_pay2, k0_pay3]
    simp only [blk0, blk1, blk2, blk3, resG, change, mean, square]
  rw [e]
  generalize newG m c = R
  blk_ext! [at4 t, rowOf]

theorem arrD : (dats m 0 c).arrAt 5 cfg0.N = newD m c := by
  refine (dats m 0 c).arrAt_eq_of_covers 5 _ (by decide +kernel) fun t hf y => ?_
  blk_simp
  rw [after0_5]
  idx_vars y
  have hp := points t
  have e : out0_5 (iblk m c 0 t) (iblk m c 1 t) (iblk m c 2 t) (iblk m c 3 t) (ix2 y0 y1) = newD m c (ix2 (rowOf t y0) y1) := by
    unfold out0_5
    frame_out
    pointwise [k0_pay1, k0_pay2, k0_pay3]
    simp only [blk0, blk1, blk2, blk3, resD, change, mean, square]
  rw [e]
  generalize newD m c = R
  blk_ext! [at5 t, rowOf]

theorem arrM : (dats m 0 c).arrAt 6 cfg0.N = newM m c := by
  refine (dats m 0 c).arrAt_eq_of_covers 6 _ (by decide +kernel) fun t hf y => ?_
  blk_simp
  rw [after0_6]
  idx_vars y
  have hp := points t
  have e : out0_6 (iblk m c 0 t) (iblk m c 1 t) (iblk m c 2 t) (iblk m c 3 t) (ix2 y0 y1) = newM m c (ix2 (rowOf t y0) y1) := by
    unfold out0_6
    frame_out
    pointwise [k0_pay1, k0_pay2, k0_pay3]
    simp only [blk0, blk1, blk2, blk3, resM, change, mean, square]
  rw [e]
  generalize newM m c = R
  blk_ext! [at6 t, rowOf]

theorem arrV : (dats m 0 c).arrAt 7 cfg0.N = newV m c := by
  refine (dats m 0 c).arrAt_eq_of_covers 7 _ (by decide +kernel) fun t hf y => ?_
  blk_simp
  rw [after0_7]
  idx_vars y
  have hp := points t
  have e : out0_7 (iblk m c 0 t) (iblk m c 1 t) (iblk m c 2 t) (iblk m c 3 t) (ix2 y0 y1) = newV m c (ix2 (rowOf t y0) y1) := by
    unfold out0_7
    frame_out
    pointwise [k0_pay1, k0_pay2, k0_pay3]
    simp only [blk0, blk1, blk2, blk3, resV, change, mean, square]
  rw [e]
  generalize newV m c = R
  blk_ext! [at7 t, rowOf]

end Cert.AdamLnIdeal.Adam

namespace Cert.AdamLnRefIdeal.Adam

open Cert.AdamLnRefIdeal Cert.AdamLnRefIdeal.Gen Idealize.ShloMosaic Idealize.ShloMosaic.TcCoe Idealize.SL.Sem
open Cert.Adam
open Cert.AdamLnIdeal.Adam (resG resD resM resV)

/-- The types of the arguments. -/
abbrev Wt : Type := FVec Ideal S2x2048 .f32

def outG (W G M V : Wt) : Wt :=
  G

theorem eqG (W G M V : Wt) : outG W G M V = resG W G M V := by
  funext i
  idx_vars i
  pointwise [outG, resG, change, mean, square]

def outD (W G M V : Wt) : Wt :=
  mulf (broadcastInDim S2x2048 ![] bcast_S_S2x2048 (constant S_ .f32 0xBA83126F#32)) (addf (Host.divf (Host.divf (addf (mulf (broadcastInDim S2x2048 ![] bcast_S_S2x2048 (constant S_ .f32 0x3F666666#32)) M) (mulf (broadcastInDim S2x2048 ![] bcast_S_S2x2048 (constant S_ .f32 0x3DCCCCCD#32)) G)) (broadcastInDim S2x2048 ![] bcast_S_S2x2048 (constant S_ .f32 0x3F26BD02#32))) (addf (Host.sqrt (Host.divf (addf (mulf (broadcastInDim S2x2048 ![] bcast_S_S2x2048 (constant S_ .f32 0x3F7FBE77#32)) V) (mulf (broadcastInDim S2x2048 ![] bcast_S_S2x2048 (constant S_ .f32 0x3A83126F#32)) (mulf G G))) (broadcastInDim S2x2048 ![] bcast_S_S2x2048 (constant S_ .f32 0x3C231ACC#32)))) (broadcastInDim S2x2048 ![] bcast_S_S2x2048 (constant S_ .f32 0x322BCC77#32)))) (mulf (broadcastInDim S2x2048 ![] bcast_S_S2x2048 (constant S_ .f32 0x3C23D70A#32)) W))

theorem eqD (W G M V : Wt) : outD W G M V = resD W G M V := by
  funext i
  idx_vars i
  pointwise [outD, resD, change, mean, square]

def outM (W G M V : Wt) : Wt :=
  addf (mulf (broadcastInDim S2x2048 ![] bcast_S_S2x2048 (constant S_ .f32 0x3F666666#32)) M) (mulf (broadcastInDim S2x2048 ![] bcast_S_S2x2048 (constant S_ .f32 0x3DCCCCCD#32)) G)

theorem eqM (W G M V : Wt) : outM W G M V = resM W G M V := by
  funext i
  idx_vars i
  pointwise [outM, resM, change, mean, square]

def outV (W G M V : Wt) : Wt :=
  addf (mulf (broadcastInDim S2x2048 ![] bcast_S_S2x2048 (constant S_ .f32 0x3F7FBE77#32)) V) (mulf (broadcastInDim S2x2048 ![] bcast_S_S2x2048 (constant S_ .f32 0x3A83126F#32)) (mulf G G))

theorem eqV (W G M V : Wt) : outV W G M V = resV W G M V := by
  funext i
  idx_vars i
  pointwise [outV, resV, change, mean, square]

end Cert.AdamLnRefIdeal.Adam

end
-- ==== Proof.Adam.AdamHgIn.lean ====
/- The AdamW step of the recurrent mixer's input weight: what the kernel leaves and what the reference computes. -/
module

public import proofs.«01_k».proof.Proof.Gen.AdamHgInIdeal.Value
public import proofs.«01_k».proof.Proof.Gen.AdamHgInRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamHgInIdeal.Adam

open Cert.AdamHgInIdeal Cert.AdamHgInIdeal.Gen Idealize.ShloMosaic Idealize.ShloMosaic.TcCoe Idealize.SL.Sem
open Idealize.ShloMosaic.Pipeline (Dat)
open Cert.Adam

/-- The types of the arguments. -/
abbrev Wt : Type := FVec Ideal S2048x1024 .f32
abbrev Sent : Type := FVec Ideal S8x2048x1024 .bf16
abbrev Own : Type := FVec Ideal S2048x1024 .bf16

theorem at0 : ∀ t : Fin cfg0.N, win0_0.index t = ![t.val, 0] := (by decide +kernel : ∀ t : Fin grid0.N, _)
theorem at1 : ∀ t : Fin cfg0.N, win0_1.index t = ![0, t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments: weight, the two moments, what the devices sent, this device's own share, its mark. -/
abbrev argW : Wt := m ((c : Thread nD τ).loc main_arg0)
abbrev argM : Wt := m ((c : Thread nD τ).loc main_arg1)
abbrev argV : Wt := m ((c : Thread nD τ).loc main_arg2)
abbrev argP : Sent := m ((c : Thread nD τ).loc main_arg3)
abbrev argO : Own := m ((c : Thread nD τ).loc main_arg4)
abbrev argA : FVec Ideal S8 .f32 := m ((c : Thread nD τ).loc main_arg5)

/-- The row that an entry of point `t`'s block is. -/
def rowOf (t : Fin cfg0.N) (p : Fin 256) : Fin 2048 := ⟨256 * t.val + p.val, by have := points t; omega⟩

theorem blk0 (t : Fin cfg0.N) (p : Fin 256) (q : Fin 1024) :
    iblk m c 0 t (ix2 p q) = argW m c (ix2 (rowOf t p) q) := by
  have hp := points t
  blk_ext! [iblk, V, at0 t, rowOf, argW]

theorem blk2 (t : Fin cfg0.N) (p : Fin 256) (q : Fin 1024) :
    iblk m c 2 t (ix2 p q) = argM m c (ix2 (rowOf t p) q) := by
  have hp := points t
  blk_ext! [iblk, V, at2 t, rowOf, argM]

theorem blk3 (t : Fin cfg0.N) (p : Fin 256) (q : Fin 1024) :
    iblk m c 3 t (ix2 p q) = argV m c (ix2 (rowOf t p) q) := by
  have hp := points t
  blk_ext! [iblk, V, at3 t, rowOf, argV]

theorem blk1 (t : Fin cfg0.N) (d : Fin 8) (p : Fin 256) (q : Fin 1024) :
    iblk m c 1 t (ix3 d p q) = argP m c (ix3 d (rowOf t p) q) := by
  have hp := points t
  blk_ext! [iblk, V, at1 t, rowOf, argP]

theorem blk4 (t : Fin cfg0.N) (p : Fin 256) (q : Fin 1024) :
    iblk m c 4 t (ix2 p q) = argO m c (ix2 (rowOf t p) q) := by
  have hp := points t
  blk_ext! [iblk, V, at4 t, rowOf, argO]

theorem blk5 (t : Fin cfg0.N) (d : Fin 8) : iblk m c 5 t (ix1 d) = argA m c (ix1 d) := by
  have hp := points t
  blk_ext! [iblk, V, at5 t, argA]

/-- The gradient of an entry. -/
def grad (P : Sent) (O : Own) (A : FVec Ideal S8 .f32) (x : Fin 2048) (y : Fin 1024) : EReal :=
  total (fun d => A (ix1 d)) (O (ix2 x y)) (fun d => P (ix3 d x y))

/-- The results at an entry: the gradient, the change of the weight, the new moments. -/
def entG (W M V : Wt) (P : Sent) (O : Own) (A : FVec Ideal S8 .f32) (x : Fin 2048) (y : Fin 1024) : EReal := grad P O A x y
def entD (W M V : Wt) (P : Sent) (O : Own) (A : FVec Ideal S8 .f32) (x : Fin 2048) (y : Fin 1024) : EReal :=
  change (W (ix2 x y)) (grad P O A x y) (M (ix2 x y)) (V (ix2 x y))
def entM (W M V : Wt) (P : Sent) (O : Own) (A : FVec Ideal S8 .f32) (x : Fin 2048) (y : Fin 1024) : EReal := mean (grad P O A x y) (M (ix2 x y))
def entV (W M V : Wt) (P : Sent) (O : Own) (A : FVec Ideal S8 .f32) (x : Fin 2048) (y : Fin 1024) : EReal := square (grad P O A x y) (V (ix2 x y))

def resG (W M V : Wt) (P : Sent) (O : Own) (A : FVec Ideal S8 .f32) : Wt := fun i => entG W M V P O A (i 0) (i 1)
def resD (W M V : Wt) (P : Sent) (O : Own) (A : FVec Ideal S8 .f32) : Wt := fun i => entD W M V P O A (i 0) (i 1)
def resM (W M V : Wt) (P : Sent) (O : Own) (A : FVec Ideal S8 .f32) : Wt := fun i => entM W M V P O A (i 0) (i 1)
def resV (W M V : Wt) (P : Sent) (O : Own) (A : FVec Ideal S8 .f32) : Wt := fun i => entV W M V P O A (i 0) (i 1)
/-- The results of these arguments. -/
abbrev newG : Wt := resG (argW m c) (argM m c) (argV m c) (argP m c) (argO m c) (argA m c)
abbrev newD : Wt := resD (argW m c) (argM m c) (argV m c) (argP m c) (argO m c) (argA m c)
abbrev newM : Wt := resM (argW m c) (argM m c) (argV m c) (argP m c) (argO m c) (argA m c)
abbrev newV : Wt := resV (argW m c) (argM m c) (argV m c) (argP m c) (argO m c) (argA m c)

theorem outG (t : Fin cfg0.N) (p : Fin 256) (q : Fin 1024) :
    (outsAt0 m c t).1 (ix2 p q) = entG (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entG, change, mean, square, grad, total, Fin.sum_univ_eight]

theorem arrG : (dats m 0 c).arrAt 6 cfg0.N = newG m c := by
  refine (dats m 0 c).arrAt_eq_of_covers 6 _ (by decide +kernel) fun t hf y => ?_
  blk_simp
  rw [after0_6]
  idx_vars y
  have hp := points t
  have e : (outsAt0 m c t).1 (ix2 y0 y1) = newG m c (ix2 (rowOf t y0) y1) := outG m c t y0 y1
  rw [e]
  generalize newG m c = R
  blk_ext! [at6 t, rowOf]

theorem outD (t : Fin cfg0.N) (p : Fin 256) (q : Fin 1024) :
    (outsAt0 m c t).2.1 (ix2 p q) = entD (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entD, change, mean, square, grad, total, Fin.sum_univ_eight]

theorem arrD : (dats m 0 c).arrAt 7 cfg0.N = newD m c := by
  refine (dats m 0 c).arrAt_eq_of_covers 7 _ (by decide +kernel) fun t hf y => ?_
  blk_simp
  rw [after0_7]
  idx_vars y
  have hp := points t
  have e : (outsAt0 m c t).2.1 (ix2 y0 y1) = newD m c (ix2 (rowOf t y0) y1) := outD m c t y0 y1
  rw [e]
  generalize newD m c = R
  blk_ext! [at7 t, rowOf]

theorem outM (t : Fin cfg0.N) (p : Fin 256) (q : Fin 1024) :
    (outsAt0 m c t).2.2.1 (ix2 p q) = entM (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entM, change, mean, square, grad, total, Fin.sum_univ_eight]

theorem arrM : (dats m 0 c).arrAt 8 cfg0.N = newM m c := by
  refine (dats m 0 c).arrAt_eq_of_covers 8 _ (by decide +kernel) fun t hf y => ?_
  blk_simp
  rw [after0_8]
  idx_vars y
  have hp := points t
  have e : (outsAt0 m c t).2.2.1 (ix2 y0 y1) = newM m c (ix2 (rowOf t y0) y1) := outM m c t y0 y1
  rw [e]
  generalize newM m c = R
  blk_ext! [at8 t, rowOf]

theorem outV (t : Fin cfg0.N) (p : Fin 256) (q : Fin 1024) :
    (outsAt0 m c t).2.2.2 (ix2 p q) = entV (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entV, change, mean, square, grad, total, Fin.sum_univ_eight]

theorem arrV : (dats m 0 c).arrAt 9 cfg0.N = newV m c := by
  refine (dats m 0 c).arrAt_eq_of_covers 9 _ (by decide +kernel) fun t hf y => ?_
  blk_simp
  rw [after0_9]
  idx_vars y
  have hp := points t
  have e : (outsAt0 m c t).2.2.2 (ix2 y0 y1) = newV m c (ix2 (rowOf t y0) y1) := outV m c t y0 y1
  rw [e]
  generalize newV m c = R
  blk_ext! [at9 t, rowOf]

end Cert.AdamHgInIdeal.Adam

namespace Cert.AdamHgInRefIdeal.Adam

open Cert.AdamHgInRefIdeal Cert.AdamHgInRefIdeal.Gen Idealize.ShloMosaic Idealize.ShloMosaic.TcCoe Idealize.SL.Sem
open Cert.Adam
open Cert.AdamHgInIdeal.Adam (resG resD resM resV entG entD entM entV grad)

/-- The types of the arguments. -/
abbrev Wt : Type := FVec Ideal S2048x1024 .f32
abbrev Sent : Type := FVec Ideal S8x2048x1024 .bf16
abbrev Own : Type := FVec Ideal S2048x1024 .bf16

/-- The sum over the devices, and its entries. -/
def sumV (P : Sent) (O : Own) (A : FVec Ideal S8 .f32) : Wt :=
  Host.reduceAdd (select (broadcastInDim S8x2048x1024 ![0, 1, 2] bcast_S8x1x1_S8x2048x1024_0_1_2 (cmpf .ogt (broadcastInDim S8x1x1 ![0] bcast_S8_S8x1x1_0 A) (broadcastInDim S8x1x1 ![] bcast_S_S8x1x1 (constant S_ .f32 0x3F000000#32)))) (broadcastInDim S8x2048x1024 ![1, 2] bcast_S2048x1024_S8x2048x1024_1_2 (extf .f32 O bitsLt_bf16_f32)) (extf .f32 P bitsLt_bf16_f32)) (constant S_ .f32 0x00000000#32) reducesTo_S8x2048x1024_S2048x1024_d0 h_S_

theorem sumV_at (P : Sent) (O : Own) (A : FVec Ideal S8 .f32) (x : Fin 2048) (y : Fin 1024) :
    sumV P O A (ix2 x y) = grad P O A x y := by
  pointwise [sumV, grad, total, share]

def outG (W M V : Wt) (P : Sent) (O : Own) (A : FVec Ideal S8 .f32) : Wt :=
  sumV P O A

theorem eqG (W M V : Wt) (P : Sent) (O : Own) (A : FVec Ideal S8 .f32) : outG W M V P O A = resG W M V P O A := by
  funext i
  idx_vars i
  pointwise [outG, resG, entG, change, mean, square]
  simp only [sumV_at]

def outD (W M V : Wt) (P : Sent) (O : Own) (A : FVec Ideal S8 .f32) : Wt :=
  mulf (broadcastInDim S2048x1024 ![] bcast_S_S2048x1024 (constant S_ .f32 0xBA83126F#32)) (addf (Host.divf (Host.divf (addf (mulf (broadcastInDim S2048x1024 ![] bcast_S_S2048x1024 (constant S_ .f32 0x3F666666#32)) M) (mulf (broadcastInDim S2048x1024 ![] bcast_S_S2048x1024 (constant S_ .f32 0x3DCCCCCD#32)) (sumV P O A))) (broadcastInDim S2048x1024 ![] bcast_S_S2048x1024 (constant S_ .f32 0x3F26BD02#32))) (addf (Host.sqrt (Host.divf (addf (mulf (broadcastInDim S2048x1024 ![] bcast_S_S2048x1024 (constant S_ .f32 0x3F7FBE77#32)) V) (mulf (broadcastInDim S2048x1024 ![] bcast_S_S2048x1024 (constant S_ .f32 0x3A83126F#32)) (mulf (sumV P O A) (sumV P O A)))) (broadcastInDim S2048x1024 ![] bcast_S_S2048x1024 (constant S_ .f32 0x3C231ACC#32)))) (broadcastInDim S2048x1024 ![] bcast_S_S2048x1024 (constant S_ .f32 0x322BCC77#32)))) (mulf (broadcastInDim S2048x1024 ![] bcast_S_S2048x1024 (constant S_ .f32 0x3C23D70A#32)) W))

theorem eqD (W M V : Wt) (P : Sent) (O : Own) (A : FVec Ideal S8 .f32) : outD W M V P O A = resD W M V P O A := by
  funext i
  idx_vars i
  pointwise [outD, resD, entD, change, mean, square]
  simp only [sumV_at]

def outM (W M V : Wt) (P : Sent) (O : Own) (A : FVec Ideal S8 .f32) : Wt :=
  addf (mulf (broadcastInDim S2048x1024 ![] bcast_S_S2048x1024 (constant S_ .f32 0x3F666666#32)) M) (mulf (broadcastInDim S2048x1024 ![] bcast_S_S2048x1024 (constant S_ .f32 0x3DCCCCCD#32)) (sumV P O A))

theorem eqM (W M V : Wt) (P : Sent) (O : Own) (A : FVec Ideal S8 .f32) : outM W M V P O A = resM W M V P O A := by
  funext i
  idx_vars i
  pointwise [outM, resM, entM, change, mean, square]
  simp only [sumV_at]

def outV (W M V : Wt) (P : Sent) (O : Own) (A : FVec Ideal S8 .f32) : Wt :=
  addf (mulf (broadcastInDim S2048x1024 ![] bcast_S_S2048x1024 (constant S_ .f32 0x3F7FBE77#32)) V) (mulf (broadcastInDim S2048x1024 ![] bcast_S_S2048x1024 (constant S_ .f32 0x3A83126F#32)) (mulf (sumV P O A) (sumV P O A)))

theorem eqV (W M V : Wt) (P : Sent) (O : Own) (A : FVec Ideal S8 .f32) : outV W M V P O A = resV W M V P O A := by
  funext i
  idx_vars i
  pointwise [outV, resV, entV, change, mean, square]
  simp only [sumV_at]

end Cert.AdamHgInRefIdeal.Adam

end
-- ==== Proof.Adam.AdamOut.lean ====
/- The AdamW step of a mixer's output weight: what the kernel leaves and what the reference computes. -/
module

public import proofs.«01_k».proof.Proof.Gen.AdamOutIdeal.Value
public import proofs.«01_k».proof.Proof.Gen.AdamOutRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamOutIdeal.Adam

open Cert.AdamOutIdeal Cert.AdamOutIdeal.Gen Idealize.ShloMosaic Idealize.ShloMosaic.TcCoe Idealize.SL.Sem
open Idealize.ShloMosaic.Pipeline (Dat)
open Cert.Adam

/-- The types of the arguments. -/
abbrev Wt : Type := FVec Ideal S256x2048 .f32
abbrev Sent : Type := FVec Ideal S8x256x2048 .bf16
abbrev Own : Type := FVec Ideal S256x2048 .bf16

theorem at0 : ∀ t : Fin cfg0.N, win0_0.index t = ![t.val, 0] := (by decide +kernel : ∀ t : Fin grid0.N, _)
theorem at1 : ∀ t : Fin cfg0.N, win0_1.index t = ![0, t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem points (t : Fin cfg0.N) : t.val < 1 := t.isLt.trans_eq N_0

variable (m : (ℓ : Loc nD τ sig) → Buf (Elt Ideal) ℓ) (c : Dev nD)

/-- The arguments: weight, the two moments, what the devices sent, this device's own share, its mark. -/
abbrev argW : Wt := m ((c : Thread nD τ).loc main_arg0)
abbrev argM : Wt := m ((c : Thread nD τ).loc main_arg1)
abbrev argV : Wt := m ((c : Thread nD τ).loc main_arg2)
abbrev argP : Sent := m ((c : Thread nD τ).loc main_arg3)
abbrev argO : Own := m ((c : Thread nD τ).loc main_arg4)
abbrev argA : FVec Ideal S8 .f32 := m ((c : Thread nD τ).loc main_arg5)

/-- The row that an entry of point `t`'s block is. -/
def rowOf (t : Fin cfg0.N) (p : Fin 256) : Fin 256 := ⟨256 * t.val + p.val, by have := points t; omega⟩

theorem blk0 (t : Fin cfg0.N) (p : Fin 256) (q : Fin 2048) :
    iblk m c 0 t (ix2 p q) = argW m c (ix2 (rowOf t p) q) := by
  have hp := points t
  blk_ext! [iblk, V, at0 t, rowOf, argW]

theorem blk2 (t : Fin cfg0.N) (p : Fin 256) (q : Fin 2048) :
    iblk m c 2 t (ix2 p q) = argM m c (ix2 (rowOf t p) q) := by
  have hp := points t
  blk_ext! [iblk, V, at2 t, rowOf, argM]

theorem blk3 (t : Fin cfg0.N) (p : Fin 256) (q : Fin 2048) :
    iblk m c 3 t (ix2 p q) = argV m c (ix2 (rowOf t p) q) := by
  have hp := points t
  blk_ext! [iblk, V, at3 t, rowOf, argV]

theorem blk1 (t : Fin cfg0.N) (d : Fin 8) (p : Fin 256) (q : Fin 2048) :
    iblk m c 1 t (ix3 d p q) = argP m c (ix3 d (rowOf t p) q) := by
  have hp := points t
  blk_ext! [iblk, V, at1 t, rowOf, argP]

theorem blk4 (t : Fin cfg0.N) (p : Fin 256) (q : Fin 2048) :
    iblk m c 4 t (ix2 p q) = argO m c (ix2 (rowOf t p) q) := by
  have hp := points t
  blk_ext! [iblk, V, at4 t, rowOf, argO]

theorem blk5 (t : Fin cfg0.N) (d : Fin 8) : iblk m c 5 t (ix1 d) = argA m c (ix1 d) := by
  have hp := points t
  blk_ext! [iblk, V, at5 t, argA]

/-- The gradient of an entry. -/
def grad (P : Sent) (O : Own) (A : FVec Ideal S8 .f32) (x : Fin 256) (y : Fin 2048) : EReal :=
  total (fun d => A (ix1 d)) (O (ix2 x y)) (fun d => P (ix3 d x y))

/-- The results at an entry: the gradient, the change of the weight, the new moments. -/
def entG (W M V : Wt) (P : Sent) (O : Own) (A : FVec Ideal S8 .f32) (x : Fin 256) (y : Fin 2048) : EReal := grad P O A x y
def entD (W M V : Wt) (P : Sent) (O : Own) (A : FVec Ideal S8 .f32) (x : Fin 256) (y : Fin 2048) : EReal :=
  change (W (ix2 x y)) (grad P O A x y) (M (ix2 x y)) (V (ix2 x y))
def entM (W M V : Wt) (P : Sent) (O : Own) (A : FVec Ideal S8 .f32) (x : Fin 256) (y : Fin 2048) : EReal := mean (grad P O A x y) (M (ix2 x y))
def entV (W M V : Wt) (P : Sent) (O : Own) (A : FVec Ideal S8 .f32) (x : Fin 256) (y : Fin 2048) : EReal := square (grad P O A x y) (V (ix2 x y))

def resG (W M V : Wt) (P : Sent) (O : Own) (A : FVec Ideal S8 .f32) : Wt := fun i => entG W M V P O A (i 0) (i 1)
def resD (W M V : Wt) (P : Sent) (O : Own) (A : FVec Ideal S8 .f32) : Wt := fun i => entD W M V P O A (i 0) (i 1)
def resM (W M V : Wt) (P : Sent) (O : Own) (A : FVec Ideal S8 .f32) : Wt := fun i => entM W M V P O A (i 0) (i 1)
def resV (W M V : Wt) (P : Sent) (O : Own) (A : FVec Ideal S8 .f32) : Wt := fun i => entV W M V P O A (i 0) (i 1)
/-- The results of these arguments. -/
abbrev newG : Wt := resG (argW m c) (argM m c) (argV m c) (argP m c) (argO m c) (argA m c)
abbrev newD : Wt := resD (argW m c) (argM m c) (argV m c) (argP m c) (argO m c) (argA m c)
abbrev newM : Wt := resM (argW m c) (argM m c) (argV m c) (argP m c) (argO m c) (argA m c)
abbrev newV : Wt := resV (argW m c) (argM m c) (argV m c) (argP m c) (argO m c) (argA m c)

theorem outG (t : Fin cfg0.N) (p : Fin 256) (q : Fin 2048) :
    (outsAt0 m c t).1 (ix2 p q) = entG (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entG, change, mean, square, grad, total, Fin.sum_univ_eight]

theorem arrG : (dats m 0 c).arrAt 6 cfg0.N = newG m c := by
  refine (dats m 0 c).arrAt_eq_of_covers 6 _ (by decide +kernel) fun t hf y => ?_
  blk_simp
  rw [after0_6]
  idx_vars y
  have hp := points t
  have e : (outsAt0 m c t).1 (ix2 y0 y1) = newG m c (ix2 (rowOf t y0) y1) := outG m c t y0 y1
  rw [e]
  generalize newG m c = R
  blk_ext! [at6 t, rowOf]

theorem outD (t : Fin cfg0.N) (p : Fin 256) (q : Fin 2048) :
    (outsAt0 m c t).2.1 (ix2 p q) = entD (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entD, change, mean, square, grad, total, Fin.sum_univ_eight]

theorem arrD : (dats m 0 c).arrAt 7 cfg0.N = newD m c := by
  refine (dats m 0 c).arrAt_eq_of_covers 7 _ (by decide +kernel) fun t hf y => ?_
  blk_simp
  rw [after0_7]
  idx_vars y
  have hp := points t
  have e : (outsAt0 m c t).2.1 (ix2 y0 y1) = newD m c (ix2 (rowOf t y0) y1) := outD m c t y0 y1
  rw [e]
  generalize newD m c = R
  blk_ext! [at7 t, rowOf]

theorem outM (t : Fin cfg0.N) (p : Fin 256) (q : Fin 2048) :
    (outsAt0 m c t).2.2.1 (ix2 p q) = entM (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entM, change, mean, square, grad, total, Fin.sum_univ_eight]

theorem arrM : (dats m 0 c).arrAt 8 cfg0.N = newM m c := by
  refine (dats m 0 c).arrAt_eq_of_covers 8 _ (by decide +kernel) fun t hf y => ?_
  blk_simp
  rw [after0_8]
  idx_vars y
  have hp := points t
  have e : (outsAt0 m c t).2.2.1 (ix2 y0 y1) = newM m c (ix2 (rowOf t y0) y1) := outM m c t y0 y1
  rw [e]
  generalize newM m c = R
  blk_ext! [at8 t, rowOf]

theorem outV (t : Fin cfg0.N) (p : Fin 256) (q : Fin 2048) :
    (outsAt0 m c t).2.2.2 (ix2 p q) = entV (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entV, change, mean, square, grad, total, Fin.sum_univ_eight]

theorem arrV : (dats m 0 c).arrAt 9 cfg0.N = newV m c := by
  refine (dats m 0 c).arrAt_eq_of_covers 9 _ (by decide +kernel) fun t hf y => ?_
  blk_simp
  rw [after0_9]
  idx_vars y
  have hp := points t
  have e : (outsAt0 m c t).2.2.2 (ix2 y0 y1) = newV m c (ix2 (rowOf t y0) y1) := outV m c t y0 y1
  rw [e]
  generalize newV m c = R
  blk_ext! [at9 t, rowOf]

end Cert.AdamOutIdeal.Adam

namespace Cert.AdamOutRefIdeal.Adam

open Cert.AdamOutRefIdeal Cert.AdamOutRefIdeal.Gen Idealize.ShloMosaic Idealize.ShloMosaic.TcCoe Idealize.SL.Sem
open Cert.Adam
open Cert.AdamOutIdeal.Adam (resG resD resM resV entG entD entM entV grad)

/-- The types of the arguments. -/
abbrev Wt : Type := FVec Ideal S256x2048 .f32
abbrev Sent : Type := FVec Ideal S8x256x2048 .bf16
abbrev Own : Type := FVec Ideal S256x2048 .bf16

/-- The sum over the devices, and its entries. -/
def sumV (P : Sent) (O : Own) (A : FVec Ideal S8 .f32) : Wt :=
  Host.reduceAdd (select (broadcastInDim S8x256x2048 ![0, 1, 2] bcast_S8x1x1_S8x256x2048_0_1_2 (cmpf .ogt (broadcastInDim S8x1x1 ![0] bcast_S8_S8x1x1_0 A) (broadcastInDim S8x1x1 ![] bcast_S_S8x1x1 (constant S_ .f32 0x3F000000#32)))) (broadcastInDim S8x256x2048 ![1, 2] bcast_S256x2048_S8x256x2048_1_2 (extf .f32 O bitsLt_bf16_f32)) (extf .f32 P bitsLt_bf16_f32)) (constant S_ .f32 0x00000000#32) reducesTo_S8x256x2048_S256x2048_d0 h_S_

theorem sumV_at (P : Sent) (O : Own) (A : FVec Ideal S8 .f32) (x : Fin 256) (y : Fin 2048) :
    sumV P O A (ix2 x y) = grad P O A x y := by
  pointwise [sumV, grad, total, share]

def outG (W M V : Wt) (P : Sent) (O : Own) (A : FVec Ideal S8 .f32) : Wt :=
  sumV P O A

theorem eqG (W M V : Wt) (P : Sent) (O : Own) (A : FVec Ideal S8 .f32) : outG W M V P O A = resG W M V P O A := by
  funext i
  idx_vars i
  pointwise [outG, resG, entG, change, mean, square]
  simp only [sumV_at]

def outD (W M V : Wt) (P : Sent) (O : Own) (A : FVec Ideal S8 .f32) : Wt :=
  mulf (broadcastInDim S256x2048 ![] bcast_S_S256x2048 (constant S_ .f32 0xBA83126F#32)) (addf (Host.divf (Host.divf (addf (mulf (broadcastInDim S256x2048 ![] bcast_S_S256x2048 (constant S_ .f32 0x3F666666#32)) M) (mulf (broadcastInDim S256x2048 ![] bcast_S_S256x2048 (constant S_ .f32 0x3DCCCCCD#32)) (sumV P O A))) (broadcastInDim S256x2048 ![] bcast_S_S256x2048 (constant S_ .f32 0x3F26BD02#32))) (addf (Host.sqrt (Host.divf (addf (mulf (broadcastInDim S256x2048 ![] bcast_S_S256x2048 (constant S_ .f32 0x3F7FBE77#32)) V) (mulf (broadcastInDim S256x2048 ![] bcast_S_S256x2048 (constant S_ .f32 0x3A83126F#32)) (mulf (sumV P O A) (sumV P O A)))) (broadcastInDim S256x2048 ![] bcast_S_S256x2048 (constant S_ .f32 0x3C231ACC#32)))) (broadcastInDim S256x2048 ![] bcast_S_S256x2048 (constant S_ .f32 0x322BCC77#32)))) (mulf (broadcastInDim S256x2048 ![] bcast_S_S256x2048 (constant S_ .f32 0x3C23D70A#32)) W))

theorem eqD (W M V : Wt) (P : Sent) (O : Own) (A : FVec Ideal S8 .f32) : outD W M V P O A = resD W M V P O A := by
  funext i
  idx_vars i
  pointwise [outD, resD, entD, change, mean, square]
  simp only [sumV_at]

def outM (W M V : Wt) (P : Sent) (O : Own) (A : FVec Ideal S8 .f32) : Wt :=
  addf (mulf (broadcastInDim S256x2048 ![] bcast_S_S256x2048 (constant S_ .f32 0x3F666666#32)) M) (mulf (broadcastInDim S256x2048 ![] bcast_S_S256x2048 (constant S_ .f32 0x3DCCCCCD#32)) (sumV P O A))

theorem eqM (W M V : Wt) (P : Sent) (O : Own) (A : FVec Ideal S8 .f32) : outM W M V P O A = resM W M V P O A := by
  funext i
  idx_vars i
  pointwise [outM, resM, entM, change, mean, square]
  simp only [sumV_at]

def outV (W M V : Wt) (P : Sent) (O : Own) (A : FVec Ideal S8 .f32) : Wt :=
  addf (mulf (broadcastInDim S256x2048 ![] bcast_S_S256x2048 (constant S_ .f32 0x3F7FBE77#32)) V) (mulf (broadcastInDim S256x2048 ![] bcast_S_S256x2048 (constant S_ .f32 0x3A83126F#32)) (mulf (sumV P O A) (sumV P O A)))

theorem eqV (W M V : Wt) (P : Sent) (O : Own) (A : FVec Ideal S8 .f32) : outV W M V P O A = resV W M V P O A := by
  funext i
  idx_vars i
  pointwise [outV, resV, entV, change, mean, square]
  simp only [sumV_at]

end Cert.AdamOutRefIdeal.Adam

end
-- ==== Proof.Adam.AdamSgIn.lean ====
/- The AdamW step of the gating mixer's input weight: what the kernel leaves and what the reference computes. -/
module

public import proofs.«01_k».proof.Proof.Gen.AdamSgInIdeal.Value
public import proofs.«01_k».proof.Proof.Gen.AdamSgInRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamSgInIdeal.Adam

open Cert.AdamSgInIdeal Cert.AdamSgInIdeal.Gen Idealize.ShloMosaic Idealize.ShloMosaic.TcCoe Idealize.SL.Sem
open Idealize.ShloMosaic.Pipeline (Dat)
open Cert.Adam

/-- The types of the arguments. -/
abbrev Wt : Type := FVec Ideal S2048x512 .f32
abbrev Sent : Type := FVec Ideal S8x2048x512 .bf16
abbrev Own : Type := FVec Ideal S2048x512 .bf16

theorem at0 : ∀ t : Fin cfg0.N, win0_0.index t = ![t.val, 0] := (by decide +kernel : ∀ t : Fin grid0.N, _)
theorem at1 : ∀ t : Fin cfg0.N, win0_1.index t = ![0, t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments: weight, the two moments, what the devices sent, this device's own share, its mark. -/
abbrev argW : Wt := m ((c : Thread nD τ).loc main_arg0)
abbrev argM : Wt := m ((c : Thread nD τ).loc main_arg1)
abbrev argV : Wt := m ((c : Thread nD τ).loc main_arg2)
abbrev argP : Sent := m ((c : Thread nD τ).loc main_arg3)
abbrev argO : Own := m ((c : Thread nD τ).loc main_arg4)
abbrev argA : FVec Ideal S8 .f32 := m ((c : Thread nD τ).loc main_arg5)

/-- The row that an entry of point `t`'s block is. -/
def rowOf (t : Fin cfg0.N) (p : Fin 256) : Fin 2048 := ⟨256 * t.val + p.val, by have := points t; omega⟩

theorem blk0 (t : Fin cfg0.N) (p : Fin 256) (q : Fin 512) :
    iblk m c 0 t (ix2 p q) = argW m c (ix2 (rowOf t p) q) := by
  have hp := points t
  blk_ext! [iblk, V, at0 t, rowOf, argW]

theorem blk2 (t : Fin cfg0.N) (p : Fin 256) (q : Fin 512) :
    iblk m c 2 t (ix2 p q) = argM m c (ix2 (rowOf t p) q) := by
  have hp := points t
  blk_ext! [iblk, V, at2 t, rowOf, argM]

theorem blk3 (t : Fin cfg0.N) (p : Fin 256) (q : Fin 512) :
    iblk m c 3 t (ix2 p q) = argV m c (ix2 (rowOf t p) q) := by
  have hp := points t
  blk_ext! [iblk, V, at3 t, rowOf, argV]

theorem blk1 (t : Fin cfg0.N) (d : Fin 8) (p : Fin 256) (q : Fin 512) :
    iblk m c 1 t (ix3 d p q) = argP m c (ix3 d (rowOf t p) q) := by
  have hp := points t
  blk_ext! [iblk, V, at1 t, rowOf, argP]

theorem blk4 (t : Fin cfg0.N) (p : Fin 256) (q : Fin 512) :
    iblk m c 4 t (ix2 p q) = argO m c (ix2 (rowOf t p) q) := by
  have hp := points t
  blk_ext! [iblk, V, at4 t, rowOf, argO]

theorem blk5 (t : Fin cfg0.N) (d : Fin 8) : iblk m c 5 t (ix1 d) = argA m c (ix1 d) := by
  have hp := points t
  blk_ext! [iblk, V, at5 t, argA]

/-- The gradient of an entry. -/
def grad (P : Sent) (O : Own) (A : FVec Ideal S8 .f32) (x : Fin 2048) (y : Fin 512) : EReal :=
  total (fun d => A (ix1 d)) (O (ix2 x y)) (fun d => P (ix3 d x y))

/-- The results at an entry: the gradient, the change of the weight, the new moments. -/
def entG (W M V : Wt) (P : Sent) (O : Own) (A : FVec Ideal S8 .f32) (x : Fin 2048) (y : Fin 512) : EReal := grad P O A x y
def entD (W M V : Wt) (P : Sent) (O : Own) (A : FVec Ideal S8 .f32) (x : Fin 2048) (y : Fin 512) : EReal :=
  change (W (ix2 x y)) (grad P O A x y) (M (ix2 x y)) (V (ix2 x y))
def entM (W M V : Wt) (P : Sent) (O : Own) (A : FVec Ideal S8 .f32) (x : Fin 2048) (y : Fin 512) : EReal := mean (grad P O A x y) (M (ix2 x y))
def entV (W M V : Wt) (P : Sent) (O : Own) (A : FVec Ideal S8 .f32) (x : Fin 2048) (y : Fin 512) : EReal := square (grad P O A x y) (V (ix2 x y))

def resG (W M V : Wt) (P : Sent) (O : Own) (A : FVec Ideal S8 .f32) : Wt := fun i => entG W M V P O A (i 0) (i 1)
def resD (W M V : Wt) (P : Sent) (O : Own) (A : FVec Ideal S8 .f32) : Wt := fun i => entD W M V P O A (i 0) (i 1)
def resM (W M V : Wt) (P : Sent) (O : Own) (A : FVec Ideal S8 .f32) : Wt := fun i => entM W M V P O A (i 0) (i 1)
def resV (W M V : Wt) (P : Sent) (O : Own) (A : FVec Ideal S8 .f32) : Wt := fun i => entV W M V P O A (i 0) (i 1)
/-- The results of these arguments. -/
abbrev newG : Wt := resG (argW m c) (argM m c) (argV m c) (argP m c) (argO m c) (argA m c)
abbrev newD : Wt := resD (argW m c) (argM m c) (argV m c) (argP m c) (argO m c) (argA m c)
abbrev newM : Wt := resM (argW m c) (argM m c) (argV m c) (argP m c) (argO m c) (argA m c)
abbrev newV : Wt := resV (argW m c) (argM m c) (argV m c) (argP m c) (argO m c) (argA m c)

theorem outG (t : Fin cfg0.N) (p : Fin 256) (q : Fin 512) :
    (outsAt0 m c t).1 (ix2 p q) = entG (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entG, change, mean, square, grad, total, Fin.sum_univ_eight]

theorem arrG : (dats m 0 c).arrAt 6 cfg0.N = newG m c := by
  refine (dats m 0 c).arrAt_eq_of_covers 6 _ (by decide +kernel) fun t hf y => ?_
  blk_simp
  rw [after0_6]
  idx_vars y
  have hp := points t
  have e : (outsAt0 m c t).1 (ix2 y0 y1) = newG m c (ix2 (rowOf t y0) y1) := outG m c t y0 y1
  rw [e]
  generalize newG m c = R
  blk_ext! [at6 t, rowOf]

theorem outD (t : Fin cfg0.N) (p : Fin 256) (q : Fin 512) :
    (outsAt0 m c t).2.1 (ix2 p q) = entD (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entD, change, mean, square, grad, total, Fin.sum_univ_eight]

theorem arrD : (dats m 0 c).arrAt 7 cfg0.N = newD m c := by
  refine (dats m 0 c).arrAt_eq_of_covers 7 _ (by decide +kernel) fun t hf y => ?_
  blk_simp
  rw [after0_7]
  idx_vars y
  have hp := points t
  have e : (outsAt0 m c t).2.1 (ix2 y0 y1) = newD m c (ix2 (rowOf t y0) y1) := outD m c t y0 y1
  rw [e]
  generalize newD m c = R
  blk_ext! [at7 t, rowOf]

theorem outM (t : Fin cfg0.N) (p : Fin 256) (q : Fin 512) :
    (outsAt0 m c t).2.2.1 (ix2 p q) = entM (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entM, change, mean, square, grad, total, Fin.sum_univ_eight]

theorem arrM : (dats m 0 c).arrAt 8 cfg0.N = newM m c := by
  refine (dats m 0 c).arrAt_eq_of_covers 8 _ (by decide +kernel) fun t hf y => ?_
  blk_simp
  rw [after0_8]
  idx_vars y
  have hp := points t
  have e : (outsAt0 m c t).2.2.1 (ix2 y0 y1) = newM m c (ix2 (rowOf t y0) y1) := outM m c t y0 y1
  rw [e]
  generalize newM m c = R
  blk_ext! [at8 t, rowOf]

theorem outV (t : Fin cfg0.N) (p : Fin 256) (q : Fin 512) :
    (outsAt0 m c t).2.2.2 (ix2 p q) = entV (argW m c) (argM m c) (argV m c) (argP m c) (argO m c) (argA m c) (rowOf t p) q := by
  unfold outsAt0
  frame_out
  simp only [k0_pay1, k0_pay2, k0_pay3, k0_pay4, k0_pay5, pick_eq]
  pointwise []
  simp only [blk0, blk1, blk2, blk3, blk4, blk5, entV, change, mean, square, grad, total, Fin.sum_univ_eight]

theorem arrV : (dats m 0 c).arrAt 9 cfg0.N = newV m c := by
  refine (dats m 0 c).arrAt_eq_of_covers 9 _ (by decide +kernel) fun t hf y => ?_
  blk_simp
  rw [after0_9]
  idx_vars y
  have hp := points t
  have e : (outsAt0 m c t).2.2.2 (ix2 y0 y1) = newV m c (ix2 (rowOf t y0) y1) := outV m c t y0 y1
  rw [e]
  generalize newV m c = R
  blk_ext! [at9 t, rowOf]

end Cert.AdamSgInIdeal.Adam

namespace Cert.AdamSgInRefIdeal.Adam

open Cert.AdamSgInRefIdeal Cert.AdamSgInRefIdeal.Gen Idealize.ShloMosaic Idealize.ShloMosaic.TcCoe Idealize.SL.Sem
open Cert.Adam
open Cert.AdamSgInIdeal.Adam (resG resD resM resV entG entD entM entV grad)

/-- The types of the arguments. -/
abbrev Wt : Type := FVec Ideal S2048x512 .f32
abbrev Sent : Type := FVec Ideal S8x2048x512 .bf16
abbrev Own : Type := FVec Ideal S2048x512 .bf16

/-- The sum over the devices, and its entries. -/
def sumV (P : Sent) (O : Own) (A : FVec Ideal S8 .f32) : Wt :=
  Host.reduceAdd (select (broadcastInDim S8x2048x512 ![0, 1, 2] bcast_S8x1x1_S8x2048x512_0_1_2 (cmpf .ogt (broadcastInDim S8x1x1 ![0] bcast_S8_S8x1x1_0 A) (broadcastInDim S8x1x1 ![] bcast_S_S8x1x1 (constant S_ .f32 0x3F000000#32)))) (broadcastInDim S8x2048x512 ![1, 2] bcast_S2048x512_S8x2048x512_1_2 (extf .f32 O bitsLt_bf16_f32)) (extf .f32 P bitsLt_bf16_f32)) (constant S_ .f32 0x00000000#32) reducesTo_S8x2048x512_S2048x512_d0 h_S_

theorem sumV_at (P : Sent) (O : Own) (A : FVec Ideal S8 .f32) (x : Fin 2048) (y : Fin 512) :
    sumV P O A (ix2 x y) = grad P O A x y := by
  pointwise [sumV, grad, total, share]

def outG (W M V : Wt) (P : Sent) (O : Own) (A : FVec Ideal S8 .f32) : Wt :=
  sumV P O A

theorem eqG (W M V : Wt) (P : Sent) (O : Own) (A : FVec Ideal S8 .f32) : outG W M V P O A = resG W M V P O A := by
  funext i
  idx_vars i
  pointwise [outG, resG, entG, change, mean, square]
  simp only [sumV_at]

def outD (W M V : Wt) (P : Sent) (O : Own) (A : FVec Ideal S8 .f32) : Wt :=
  mulf (broadcastInDim S2048x512 ![] bcast_S_S2048x512 (constant S_ .f32 0xBA83126F#32)) (addf (Host.divf (Host.divf (addf (mulf (broadcastInDim S2048x512 ![] bcast_S_S2048x512 (constant S_ .f32 0x3F666666#32)) M) (mulf (broadcastInDim S2048x512 ![] bcast_S_S2048x512 (constant S_ .f32 0x3DCCCCCD#32)) (sumV P O A))) (broadcastInDim S2048x512 ![] bcast_S_S2048x512 (constant S_ .f32 0x3F26BD02#32))) (addf (Host.sqrt (Host.divf (addf (mulf (broadcastInDim S2048x512 ![] bcast_S_S2048x512 (constant S_ .f32 0x3F7FBE77#32)) V) (mulf (broadcastInDim S2048x512 ![] bcast_S_S2048x512 (constant S_ .f32 0x3A83126F#32)) (mulf (sumV P O A) (sumV P O A)))) (broadcastInDim S2048x512 ![] bcast_S_S2048x512 (constant S_ .f32 0x3C231ACC#32)))) (broadcastInDim S2048x512 ![] bcast_S_S2048x512 (constant S_ .f32 0x322BCC77#32)))) (mulf (broadcastInDim S2048x512 ![] bcast_S_S2048x512 (constant S_ .f32 0x3C23D70A#32)) W))

theorem eqD (W M V : Wt) (P : Sent) (O : Own) (A : FVec Ideal S8 .f32) : outD W M V P O A = resD W M V P O A := by
  funext i
  idx_vars i
  pointwise [outD, resD, entD, change, mean, square]
  simp only [sumV_at]

def outM (W M V : Wt) (P : Sent) (O : Own) (A : FVec Ideal S8 .f32) : Wt :=
  addf (mulf (broadcastInDim S2048x512 ![] bcast_S_S2048x512 (constant S_ .f32 0x3F666666#32)) M) (mulf (broadcastInDim S2048x512 ![] bcast_S_S2048x512 (constant S_ .f32 0x3DCCCCCD#32)) (sumV P O A))

theorem eqM (W M V : Wt) (P : Sent) (O : Own) (A : FVec Ideal S8 .f32) : outM W M V P O A = resM W M V P O A := by
  funext i
  idx_vars i
  pointwise [outM, resM, entM, change, mean, square]
  simp only [sumV_at]

def outV (W M V : Wt) (P : Sent) (O : Own) (A : FVec Ideal S8 .f32) : Wt :=
  addf (mulf (broadcastInDim S2048x512 ![] bcast_S_S2048x512 (constant S_ .f32 0x3F7FBE77#32)) V) (mulf (broadcastInDim S2048x512 ![] bcast_S_S2048x512 (constant S_ .f32 0x3A83126F#32)) (mulf (sumV P O A) (sumV P O A)))

theorem eqV (W M V : Wt) (P : Sent) (O : Own) (A : FVec Ideal S8 .f32) : outV W M V P O A = resV W M V P O A := by
  funext i
  idx_vars i
  pointwise [outV, resV, entV, change, mean, square]
  simp only [sumV_at]

end Cert.AdamSgInRefIdeal.Adam

end
-- ==== Proof.Adam.AdamUp.lean ====
/- The AdamW step of the first feed-forward weight: what the kernel leaves and what the reference computes. -/
module

public import proofs.«01_k».proof.Proof.Gen.AdamUpIdeal.Value
public import proofs.«01_k».proof.Proof.Gen.AdamUpRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamUpIdeal.Adam

open Cert.AdamUpIdeal Cert.AdamUpIdeal.Gen Idealize.ShloMosaic Idealize.ShloMosaic.TcCoe Idealize.SL.Sem
open Idealize.ShloMosaic.Pipeline (Dat)
open Cert.Adam

/-- The types of the arguments. -/
abbrev Wt : Type := FVec Ideal S2x2048x1408 .f32
abbrev Sent : Type := FVec Ideal S8x2048x1408 .bf16
abbrev Own : Type := FVec Ideal S2048x1408 .bf16

theorem at0 : ∀ t : Fin cfg0.N, win0_0.index t = ![0, t.val, 0] := (by decide +kernel : ∀ t : Fin grid0.N, _)
theorem at1 : ∀ t : Fin cfg0.N, win0_1.index t = ![0, t.val, 0] := (by decide +kernel : ∀ t : Fin grid0.N, _)
theorem at2 : ∀ t : Fin cfg0.N, win0_2.index t = ![0, t.val, 0] := (by decide +kernel : ∀ t : Fin grid0.N, _)
theorem at3 : ∀ t : Fin cfg0.N, win0_3.index t = ![0, t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0] := (by decide +kernel : ∀ t : Fin grid0.N, _)
theorem at6 : ∀ t : Fin cfg0.N, win0_6.index t = ![0, t.val, 0] := (by decide +kernel : ∀ t : Fin grid0.N, _)
theorem at7 : ∀ t : Fin cfg0.N, win0_7.index t = ![0, t.val, 0] := (by decide +kernel : ∀ t : Fin grid0.N, _)
theorem at8 : ∀ t : Fin cfg0.N, win0_8.index t = ![0, t.val, 0] := (by decide +kernel : ∀ t : Fin grid0.N, _)
theorem at9 : ∀ t : Fin cfg0.N, win0_9.index t = ![0, t.val, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments: weight, the two moments, what the devices sent, this device's own share, its mark. -/
abbrev argW : Wt := m ((c : Thread nD τ).loc main_arg0)
abbrev argM : Wt := m ((c : Thread nD τ).loc main_arg1)
abbrev argV : Wt := m ((c : Thread nD τ).loc main_arg2)
abbrev argP : Sent := m ((c : Thread nD τ).loc main_arg3)
abbrev argO : Own := m ((c : Thread nD τ).loc main_arg4)
abbrev argA : FVec Ideal S8 .f32 := m ((c : Thread nD τ).loc main_arg5)
abbrev argH : Wt := m ((c : Thread nD τ).loc main_arg6)
abbrev argI : Wt := m ((c : Thread nD τ).loc main_arg7)
abbrev argJ : Wt := m ((c : Thread nD τ).loc main_arg8)
abbrev argK : Wt := m ((c : Thread nD τ).loc main_arg9)

/-- The row that an entry of point `t`'s block is. -/
def rowOf (t : Fin cfg0.N) (p : Fin 256) : Fin 2048 := ⟨256 * t.val + p.val, by have := points t; omega⟩

theorem blk0 (t : Fin cfg0.N) (p : Fin 256) (q : Fin 1408) :
    iblk m c 0 t (ix3 0 p q) = argW m c (ix3 0 (rowOf t p) q) := by
  have hp := points t
  blk_ext! [iblk, V, at0 t, rowOf, argW]

theorem blk2 (t : Fin cfg0.N) (p : Fin 256) (q : Fin 1408) :
    iblk m c 2 t (ix3 0 p q) = argM m c (ix3 0 (rowOf t p) q) := by
  have hp := points t
  blk_ext! [iblk, V, at2 t, rowOf, argM]

theorem blk3 (t : Fin cfg0.N) (p : Fin 256) (q : Fin 1408) :
    iblk m c 3 t (ix3 0 p q) = argV m c (ix3 0 (rowOf t p) q) := by
  have hp := points t
  blk_ext! [iblk, V, at3 t, rowOf, argV]

theorem blk1 (t : Fin cfg0.N) (d : Fin 8) (p : Fin 256) (q : Fin 1408) :
    iblk m c 1 t (ix3 d p q) = argP m c (ix3 d (rowOf t p) q) := by
  have hp := points t
  blk_ext! [iblk, V, at1 t, rowOf, argP]

theorem blk4 (t : Fin cfg0.N) (p : Fin 256) (q : Fin 1408) :
    iblk m c 4 t (ix2 p q) = argO m c (ix2 (rowOf t p) q) := by
  have hp := points t
  blk_ext! [iblk, V, at4 t, rowOf, argO]

theorem blk5 (t : Fin cfg0.N) (d : Fin 8) : iblk m c 5 t (ix1 d) = argA m c (ix1 d) := by
  have hp := points t
  blk_ext! [iblk, V, at5 t, argA]

/-- The gradient of an entry. -/
def grad (P : Sent) (O : Own) (A : FVec Ideal S8 .f32) (x : Fin 2048) (y : Fin 1408) : EReal :=
  total (fun d => A (ix1 d)) (O (ix2 x y)) (fun d => P (ix3 d x y))

/-- The results at an entry: the gradient, the change of the weight, the new moments. -/
def entG (W M V : Wt) (P : Sent) (O : Own) (A : FVec Ideal S8 .f32) (x : Fin 2048) (y : Fin 1408) : EReal := grad P O A x y
def entD (W M V : Wt) (P : Sent) (O : Own) (A : FVec Ideal S8 .f32) (x : Fin 2048) (y : Fin 1408) : EReal :=
  change (W (ix3 0 x y)) (grad P O A x y) (M (ix3 0 x y)) (V (ix3 0 x y))
def entM (W M V : Wt) (P : Sent) (O : Own) (A : FVec Ideal S8 .f32) (x : Fin 2048) (y : Fin 1408) : EReal := mean (grad P O A x y) (M (ix3 0 x y))
def entV (W M V : Wt) (P : Sent) (O : Own) (A : FVec Ideal S8 .f32) (x : Fin 2048) (y : Fin 1408) : EReal := square (grad P O A x y) (V (ix3 0 x y))

/-- The result: this layer's entries, over the other layer as it came. -/
def resG (W M V : Wt) (P : Sent) (O : Own) (A : FVec Ideal S8 .f32) (H : Wt) : Wt := fun i =>
  if (i 0).val = 0 then entG W M V P O A (i 1) (i 2) else H i

/-- The result: this layer's entries, over the other layer as it came. -/
def resD (W M V : Wt) (P : Sent) (O : Own) (A : FVec Ideal S8 .f32) (H : Wt) : Wt := fun i =>
  if (i 0).val = 0 then entD W M V P O A (i 1) (i 2) else H i

/-- The result: this layer's entries, over the other layer as it came. -/
def resM (W M V : Wt) (P : Sent) (O : Own) (A : FVec Ideal S8 .f32) (H : Wt) : Wt := fun i =>
  if (i 0).val = 0 then entM W M V P O A (i 1) (i 2) else H i

/-- The result: this layer's entries, over the other layer as it came. -/
def resV (W M V : Wt) (P : Sent) (O : Own) (A : FVec Ideal S8 .f32) (H : Wt) : Wt := fun i =>
  if (i 0).val = 0 then entV W M V P O A (i 1) (i 2) else H i

/-- The results of these arguments. -/
abbrev newG : Wt := resG (argW m c) (argM m c) (argV m c) (argP m c) (argO m c) (argA m c) (argH m c)
abbrev newD : Wt := resD (argW m c) (argM m c) (argV m c) (argP m c) (argO m c) (argA m c) (argI m c)
abbrev newM : Wt := resM (argW m c) (argM m c) (argV m c) (argP m c) (argO m c) (argA m c) (argJ m c)
abbrev newV : Wt := resV (argW m c) (argM m c) (argV m c) (argP m c) (argO m c) (argA m c) (argK m c)

theorem outG (t : Fin cfg0.N) (p : Fin 256) (q : Fin 1408) :
    (outsAt0 m c t).1 (ix3 0 p q) = entG (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entG, change, mean, square, grad, total, Fin.sum_univ_eight]

theorem prevG : V m c (Pipeline.arrRef spec0 6) = argH m c := by
  unfold V
  after_results_simp <;> rfl

theorem arrG : (dats m 0 c).arrAt 6 cfg0.N = newG m c := by
  refine ((dats m 0 c).arrAt_eq_of_coversWhere 6 (newG m c) (P := fun i => (i 0).val = 0)
    (fun β => β (0 : Fin _) = 0) (by decide +kernel) (fun t hf y => ?_) (fun j => by blk_simp [Pipeline.Window.cell_apply] <;> omega)).trans ?_
  · blk_simp
    rw [after0_6]
    idx_vars y
    obtain rfl : y0 = 0 := Subsingleton.elim _ _
    have hp := points t
    have e : (outsAt0 m c t).1 (ix3 0 y1 y2) = newG m c (ix3 0 (rowOf t y1) y2) := outG m c t y1 y2
    rw [e]
    generalize newG m c = R
    blk_ext! [at6 t, rowOf]
  · rw [A_eq, prevG]
    funext i
    by_cases h : (i 0).val = 0 <;> simp [newG, resG, h]

theorem outD (t : Fin cfg0.N) (p : Fin 256) (q : Fin 1408) :
    (outsAt0 m c t).2.1 (ix3 0 p q) = entD (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entD, change, mean, square, grad, total, Fin.sum_univ_eight]

theorem prevD : V m c (Pipeline.arrRef spec0 7) = argI m c := by
  unfold V
  after_results_simp <;> rfl

theorem arrD : (dats m 0 c).arrAt 7 cfg0.N = newD m c := by
  refine ((dats m 0 c).arrAt_eq_of_coversWhere 7 (newD m c) (P := fun i => (i 0).val = 0)
    (fun β => β (0 : Fin _) = 0) (by decide +kernel) (fun t hf y => ?_) (fun j => by blk_simp [Pipeline.Window.cell_apply] <;> omega)).trans ?_
  · blk_simp
    rw [after0_7]
    idx_vars y
    obtain rfl : y0 = 0 := Subsingleton.elim _ _
    have hp := points t
    have e : (outsAt0 m c t).2.1 (ix3 0 y1 y2) = newD m c (ix3 0 (rowOf t y1) y2) := outD m c t y1 y2
    rw [e]
    generalize newD m c = R
    blk_ext! [at7 t, rowOf]
  · rw [A_eq, prevD]
    funext i
    by_cases h : (i 0).val = 0 <;> simp [newD, resD, h]

theorem outM (t : Fin cfg0.N) (p : Fin 256) (q : Fin 1408) :
    (outsAt0 m c t).2.2.1 (ix3 0 p q) = entM (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entM, change, mean, square, grad, total, Fin.sum_univ_eight]

theorem prevM : V m c (Pipeline.arrRef spec0 8) = argJ m c := by
  unfold V
  after_results_simp <;> rfl

theorem arrM : (dats m 0 c).arrAt 8 cfg0.N = newM m c := by
  refine ((dats m 0 c).arrAt_eq_of_coversWhere 8 (newM m c) (P := fun i => (i 0).val = 0)
    (fun β => β (0 : Fin _) = 0) (by decide +kernel) (fun t hf y => ?_) (fun j => by blk_simp [Pipeline.Window.cell_apply] <;> omega)).trans ?_
  · blk_simp
    rw [after0_8]
    idx_vars y
    obtain rfl : y0 = 0 := Subsingleton.elim _ _
    have hp := points t
    have e : (outsAt0 m c t).2.2.1 (ix3 0 y1 y2) = newM m c (ix3 0 (rowOf t y1) y2) := outM m c t y1 y2
    rw [e]
    generalize newM m c = R
    blk_ext! [at8 t, rowOf]
  · rw [A_eq, prevM]
    funext i
    by_cases h : (i 0).val = 0 <;> simp [newM, resM, h]

theorem outV (t : Fin cfg0.N) (p : Fin 256) (q : Fin 1408) :
    (outsAt0 m c t).2.2.2 (ix3 0 p q) = entV (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entV, change, mean, square, grad, total, Fin.sum_univ_eight]

theorem prevV : V m c (Pipeline.arrRef spec0 9) = argK m c := by
  unfold V
  after_results_simp <;> rfl

theorem arrV : (dats m 0 c).arrAt 9 cfg0.N = newV m c := by
  refine ((dats m 0 c).arrAt_eq_of_coversWhere 9 (newV m c) (P := fun i => (i 0).val = 0)
    (fun β => β (0 : Fin _) = 0) (by decide +kernel) (fun t hf y => ?_) (fun j => by blk_simp [Pipeline.Window.cell_apply] <;> omega)).trans ?_
  · blk_simp
    rw [after0_9]
    idx_vars y
    obtain rfl : y0 = 0 := Subsingleton.elim _ _
    have hp := points t
    have e : (outsAt0 m c t).2.2.2 (ix3 0 y1 y2) = newV m c (ix3 0 (rowOf t y1) y2) := outV m c t y1 y2
    rw [e]
    generalize newV m c = R
    blk_ext! [at9 t, rowOf]
  · rw [A_eq, prevV]
    funext i
    by_cases h : (i 0).val = 0 <;> simp [newV, resV, h]

end Cert.AdamUpIdeal.Adam

namespace Cert.AdamUpRefIdeal.Adam

open Cert.AdamUpRefIdeal Cert.AdamUpRefIdeal.Gen Idealize.ShloMosaic Idealize.ShloMosaic.TcCoe Idealize.SL.Sem
open Cert.Adam
open Cert.AdamUpIdeal.Adam (resG resD resM resV entG entD entM entV grad)

/-- The types of the arguments. -/
abbrev Wt : Type := FVec Ideal S2x2048x1408 .f32
abbrev Sent : Type := FVec Ideal S8x2048x1408 .bf16
abbrev Own : Type := FVec Ideal S2048x1408 .bf16

/-- The sum over the devices, and its entries. -/
def sumV (P : Sent) (O : Own) (A : FVec Ideal S8 .f32) : FVec Ideal S2048x1408 .f32 :=
  Host.reduceAdd (select (broadcastInDim S8x2048x1408 ![0, 1, 2] bcast_S8x1x1_S8x2048x1408_0_1_2 (cmpf .ogt (broadcastInDim S8x1x1 ![0] bcast_S8_S8x1x1_0 A) (broadcastInDim S8x1x1 ![] bcast_S_S8x1x1 (constant S_ .f32 0x3F000000#32)))) (broadcastInDim S8x2048x1408 ![1, 2] bcast_S2048x1408_S8x2048x1408_1_2 (extf .f32 O bitsLt_bf16_f32)) (extf .f32 P bitsLt_bf16_f32)) (constant S_ .f32 0x00000000#32) reducesTo_S8x2048x1408_S2048x1408_d0 h_S_

theorem sumV_at (P : Sent) (O : Own) (A : FVec Ideal S8 .f32) (x : Fin 2048) (y : Fin 1408) :
    sumV P O A (ix2 x y) = grad P O A x y := by
  pointwise [sumV, grad, total, share]

/-- This layer's entries, over the other layer as it came. -/
def two (E : FVec Ideal S2048x1408 .f32) (H : Wt) : Wt :=
  concatenate S2x2048x1408 0 [⟨S1x2048x1408, (broadcastInDim S1x2048x1408 ![1, 2] bcast_S2048x1408_S1x2048x1408_1_2 E : FVec Ideal S1x2048x1408 .f32)⟩, ⟨S1x2048x1408, ((broadcastInDim S1x2048x1408 ![1, 2] bcast_S2048x1408_S1x2048x1408_1_2 (shapeCast _ (extractStridedSlice S1x2048x1408 ![1, 0, 0] H slices_S2x2048x1408_S1x2048x1408_1_0_0) shapeCasts_S1x2048x1408_S2048x1408)) : FVec Ideal S1x2048x1408 .f32)⟩] concatenates_S1x2048x1408_S1x2048x1408_S2x2048x1408_d0

theorem two_eq (E : FVec Ideal S2048x1408 .f32) (H : Wt) (f : Fin 2048 → Fin 1408 → EReal) (h : ∀ x y, E (ix2 x y) = f x y) :
    two E H = fun i => if (i 0).val = 0 then f (i 1) (i 2) else H i := by
  funext i
  idx_vars i
  pointwise [two]
  simp only [h]
  obtain rfl | rfl : i0 = 0 ∨ i0 = 1 := by omega
  · rfl
  · rfl

def outG (W M V : Wt) (P : Sent) (O : Own) (A : FVec Ideal S8 .f32) (H : Wt) : Wt :=
  two (sumV P O A) H

theorem eqG (W M V : Wt) (P : Sent) (O : Own) (A : FVec Ideal S8 .f32) (H : Wt) : outG W M V P O A H = resG W M V P O A H :=
  two_eq _ H (fun x y => entG W M V P O A x y) fun x y => by
    pointwise [entG, change, mean, square]
    simp only [sumV_at]

def outD (W M V : Wt) (P : Sent) (O : Own) (A : FVec Ideal S8 .f32) (H : Wt) : Wt :=
  two (mulf (broadcastInDim S2048x1408 ![] bcast_S_S2048x1408 (constant S_ .f32 0xBA83126F#32)) (addf (Host.divf (Host.divf (addf (mulf (broadcastInDim S2048x1408 ![] bcast_S_S2048x1408 (constant S_ .f32 0x3F666666#32)) (shapeCast _ (extractStridedSlice S1x2048x1408 ![0, 0, 0] M slices_S2x2048x1408_S1x2048x1408_0_0_0) shapeCasts_S1x2048x1408_S2048x1408)) (mulf (broadcastInDim S2048x1408 ![] bcast_S_S2048x1408 (constant S_ .f32 0x3DCCCCCD#32)) (sumV P O A))) (broadcastInDim S2048x1408 ![] bcast_S_S2048x1408 (constant S_ .f32 0x3F26BD02#32))) (addf (Host.sqrt (Host.divf (addf (mulf (broadcastInDim S2048x1408 ![] bcast_S_S2048x1408 (constant S_ .f32 0x3F7FBE77#32)) (shapeCast _ (extractStridedSlice S1x2048x1408 ![0, 0, 0] V slices_S2x2048x1408_S1x2048x1408_0_0_0) shapeCasts_S1x2048x1408_S2048x1408)) (mulf (broadcastInDim S2048x1408 ![] bcast_S_S2048x1408 (constant S_ .f32 0x3A83126F#32)) (mulf (sumV P O A) (sumV P O A)))) (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) (shapeCast _ (extractStridedSlice S1x2048x1408 ![0, 0, 0] W slices_S2x2048x1408_S1x2048x1408_0_0_0) shapeCasts_S1x2048x1408_S2048x1408)))) H

theorem eqD (W M V : Wt) (P : Sent) (O : Own) (A : FVec Ideal S8 .f32) (H : Wt) : outD W M V P O A H = resD W M V P O A H :=
  two_eq _ H (fun x y => entD W M V P O A x y) fun x y => by
    pointwise [entD, change, mean, square]
    simp only [sumV_at]

def outM (W M V : Wt) (P : Sent) (O : Own) (A : FVec Ideal S8 .f32) (H : Wt) : Wt :=
  two (addf (mulf (broadcastInDim S2048x1408 ![] bcast_S_S2048x1408 (constant S_ .f32 0x3F666666#32)) (shapeCast _ (extractStridedSlice S1x2048x1408 ![0, 0, 0] M slices_S2x2048x1408_S1x2048x1408_0_0_0) shapeCasts_S1x2048x1408_S2048x1408)) (mulf (broadcastInDim S2048x1408 ![] bcast_S_S2048x1408 (constant S_ .f32 0x3DCCCCCD#32)) (sumV P O A))) H

theorem eqM (W M V : Wt) (P : Sent) (O : Own) (A : FVec Ideal S8 .f32) (H : Wt) : outM W M V P O A H = resM W M V P O A H :=
  two_eq _ H (fun x y => entM W M V P O A x y) fun x y => by
    pointwise [entM, change, mean, square]
    simp only [sumV_at]

def outV (W M V : Wt) (P : Sent) (O : Own) (A : FVec Ideal S8 .f32) (H : Wt) : Wt :=
  two (addf (mulf (broadcastInDim S2048x1408 ![] bcast_S_S2048x1408 (constant S_ .f32 0x3F7FBE77#32)) (shapeCast _ (extractStridedSlice S1x2048x1408 ![0, 0, 0] V slices_S2x2048x1408_S1x2048x1408_0_0_0) shapeCasts_S1x2048x1408_S2048x1408)) (mulf (broadcastInDim S2048x1408 ![] bcast_S_S2048x1408 (constant S_ .f32 0x3A83126F#32)) (mulf (sumV P O A) (sumV P O A)))) H

theorem eqV (W M V : Wt) (P : Sent) (O : Own) (A : FVec Ideal S8 .f32) (H : Wt) : outV W M V P O A H = resV W M V P O A H :=
  two_eq _ H (fun x y => entV W M V P O A x y) fun x y => by
    pointwise [entV, change, mean, square]
    simp only [sumV_at]

end Cert.AdamUpRefIdeal.Adam

end
-- ==== Proof.Adam.AdamDown.lean ====
/- The AdamW step of the second feed-forward weight: what the kernel leaves and what the reference computes. -/
module

public import proofs.«01_k».proof.Proof.Gen.AdamDownIdeal.Value
public import proofs.«01_k».proof.Proof.Gen.AdamDownRefIdeal.Run
public import proofs.«01_k».proof.Proof.Adam.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamDownIdeal.Adam

open Cert.AdamDownIdeal Cert.AdamDownIdeal.Gen Idealize.ShloMosaic Idealize.ShloMosaic.TcCoe Idealize.SL.Sem
open Idealize.ShloMosaic.Pipeline (Dat)
open Cert.Adam

/-- The types of the arguments. -/
abbrev Wt : Type := FVec Ideal S2x704x2048 .f32
abbrev Sent : Type := FVec Ideal S8x704x2048 .bf16
abbrev Own : Type := FVec Ideal S704x2048 .bf16

theorem at0 : ∀ t : Fin cfg0.N, win0_0.index t = ![0, t.val, 0] := (by decide +kernel : ∀ t : Fin grid0.N, _)
theorem at1 : ∀ t : Fin cfg0.N, win0_1.index t = ![0, t.val, 0] := (by decide +kernel : ∀ t : Fin grid0.N, _)
theorem at2 : ∀ t : Fin cfg0.N, win0_2.index t = ![0, t.val, 0] := (by decide +kernel : ∀ t : Fin grid0.N, _)
theorem at3 : ∀ t : Fin cfg0.N, win0_3.index t = ![0, t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0] := (by decide +kernel : ∀ t : Fin grid0.N, _)
theorem at6 : ∀ t : Fin cfg0.N, win0_6.index t = ![0, t.val, 0] := (by decide +kernel : ∀ t : Fin grid0.N, _)
theorem at7 : ∀ t : Fin cfg0.N, win0_7.index t = ![0, t.val, 0] := (by decide +kernel : ∀ t : Fin grid0.N, _)
theorem at8 : ∀ t : Fin cfg0.N, win0_8.index t = ![0, t.val, 0] := (by decide +kernel : ∀ t : Fin grid0.N, _)
theorem at9 : ∀ t : Fin cfg0.N, win0_9.index t = ![0, t.val, 0] := (by decide +kernel : ∀ t : Fin grid0.N, _)
theorem points (t : Fin cfg0.N) : t.val < 4 := t.isLt.trans_eq N_0

variable (m : (ℓ : Loc nD τ sig) → Buf (Elt Ideal) ℓ) (c : Dev nD)

/-- The arguments: weight, the two moments, what the devices sent, this device's own share, its mark. -/
abbrev argW : Wt := m ((c : Thread nD τ).loc main_arg0)
abbrev argM : Wt := m ((c : Thread nD τ).loc main_arg1)
abbrev argV : Wt := m ((c : Thread nD τ).loc main_arg2)
abbrev argP : Sent := m ((c : Thread nD τ).loc main_arg3)
abbrev argO : Own := m ((c : Thread nD τ).loc main_arg4)
abbrev argA : FVec Ideal S8 .f32 := m ((c : Thread nD τ).loc main_arg5)
abbrev argH : Wt := m ((c : Thread nD τ).loc main_arg6)
abbrev argI : Wt := m ((c : Thread nD τ).loc main_arg7)
abbrev argJ : Wt := m ((c : Thread nD τ).loc main_arg8)
abbrev argK : Wt := m ((c : Thread nD τ).loc main_arg9)

/-- The row that an entry of point `t`'s block is. -/
def rowOf (t : Fin cfg0.N) (p : Fin 176) : Fin 704 := ⟨176 * t.val + p.val, by have := points t; omega⟩

theorem blk0 (t : Fin cfg0.N) (p : Fin 176) (q : Fin 2048) :
    iblk m c 0 t (ix3 0 p q) = argW m c (ix3 0 (rowOf t p) q) := by
  have hp := points t
  blk_ext! [iblk, V, at0 t, rowOf, argW]

theorem blk2 (t : Fin cfg0.N) (p : Fin 176) (q : Fin 2048) :
    iblk m c 2 t (ix3 0 p q) = argM m c (ix3 0 (rowOf t p) q) := by
  have hp := points t
  blk_ext! [iblk, V, at2 t, rowOf, argM]

theorem blk3 (t : Fin cfg0.N) (p : Fin 176) (q : Fin 2048) :
    iblk m c 3 t (ix3 0 p q) = argV m c (ix3 0 (rowOf t p) q) := by
  have hp := points t
  blk_ext! [iblk, V, at3 t, rowOf, argV]

theorem blk1 (t : Fin cfg0.N) (d : Fin 8) (p : Fin 176) (q : Fin 2048) :
    iblk m c 1 t (ix3 d p q) = argP m c (ix3 d (rowOf t p) q) := by
  have hp := points t
  blk_ext! [iblk, V, at1 t, rowOf, argP]

theorem blk4 (t : Fin cfg0.N) (p : Fin 176) (q : Fin 2048) :
    iblk m c 4 t (ix2 p q) = argO m c (ix2 (rowOf t p) q) := by
  have hp := points t
  blk_ext! [iblk, V, at4 t, rowOf, argO]

theorem blk5 (t : Fin cfg0.N) (d : Fin 8) : iblk m c 5 t (ix1 d) = argA m c (ix1 d) := by
  have hp := points t
  blk_ext! [iblk, V, at5 t, argA]

/-- The gradient of an entry. -/
def grad (P : Sent) (O : Own) (A : FVec Ideal S8 .f32) (x : Fin 704) (y : Fin 2048) : EReal :=
  total (fun d => A (ix1 d)) (O (ix2 x y)) (fun d => P (ix3 d x y))

/-- The results at an entry: the gradient, the change of the weight, the new moments. -/
def entG (W M V : Wt) (P : Sent) (O : Own) (A : FVec Ideal S8 .f32) (x : Fin 704) (y : Fin 2048) : EReal := grad P O A x y
def entD (W M V : Wt) (P : Sent) (O : Own) (A : FVec Ideal S8 .f32) (x : Fin 704) (y : Fin 2048) : EReal :=
  change (W (ix3 0 x y)) (grad P O A x y) (M (ix3 0 x y)) (V (ix3 0 x y))
def entM (W M V : Wt) (P : Sent) (O : Own) (A : FVec Ideal S8 .f32) (x : Fin 704) (y : Fin 2048) : EReal := mean (grad P O A x y) (M (ix3 0 x y))
def entV (W M V : Wt) (P : Sent) (O : Own) (A : FVec Ideal S8 .f32) (x : Fin 704) (y : Fin 2048) : EReal := square (grad P O A x y) (V (ix3 0 x y))

/-- The result: this layer's entries, over the other layer as it came. -/
def resG (W M V : Wt) (P : Sent) (O : Own) (A : FVec Ideal S8 .f32) (H : Wt) : Wt := fun i =>
  if (i 0).val = 0 then entG W M V P O A (i 1) (i 2) else H i

/-- The result: this layer's entries, over the other layer as it came. -/
def resD (W M V : Wt) (P : Sent) (O : Own) (A : FVec Ideal S8 .f32) (H : Wt) : Wt := fun i =>
  if (i 0).val = 0 then entD W M V P O A (i 1) (i 2) else H i

/-- The result: this layer's entries, over the other layer as it came. -/
def resM (W M V : Wt) (P : Sent) (O : Own) (A : FVec Ideal S8 .f32) (H : Wt) : Wt := fun i =>
  if (i 0).val = 0 then entM W M V P O A (i 1) (i 2) else H i

/-- The result: this layer's entries, over the other layer as it came. -/
def resV (W M V : Wt) (P : Sent) (O : Own) (A : FVec Ideal S8 .f32) (H : Wt) : Wt := fun i =>
  if (i 0).val = 0 then entV W M V P O A (i 1) (i 2) else H i

/-- The results of these arguments. -/
abbrev newG : Wt := resG (argW m c) (argM m c) (argV m c) (argP m c) (argO m c) (argA m c) (argH m c)
abbrev newD : Wt := resD (argW m c) (argM m c) (argV m c) (argP m c) (argO m c) (argA m c) (argI m c)
abbrev newM : Wt := resM (argW m c) (argM m c) (argV m c) (argP m c) (argO m c) (argA m c) (argJ m c)
abbrev newV : Wt := resV (argW m c) (argM m c) (argV m c) (argP m c) (argO m c) (argA m c) (argK m c)

theorem outG (t : Fin cfg0.N) (p : Fin 176) (q : Fin 2048) :
    (outsAt0 m c t).1 (ix3 0 p q) = entG (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entG, change, mean, square, grad, total, Fin.sum_univ_eight]

theorem prevG : V m c (Pipeline.arrRef spec0 6) = argH m c := by
  unfold V
  after_results_simp <;> rfl

theorem arrG : (dats m 0 c).arrAt 6 cfg0.N = newG m c := by
  refine ((dats m 0 c).arrAt_eq_of_coversWhere 6 (newG m c) (P := fun i => (i 0).val = 0)
    (fun β => β (0 : Fin _) = 0) (by decide +kernel) (fun t hf y => ?_) (fun j => by blk_simp [Pipeline.Window.cell_apply] <;> omega)).trans ?_
  · blk_simp
    rw [after0_6]
    idx_vars y
    obtain rfl : y0 = 0 := Subsingleton.elim _ _
    have hp := points t
    have e : (outsAt0 m c t).1 (ix3 0 y1 y2) = newG m c (ix3 0 (rowOf t y1) y2) := outG m c t y1 y2
    rw [e]
    generalize newG m c = R
    blk_ext! [at6 t, rowOf]
  · rw [A_eq, prevG]
    funext i
    by_cases h : (i 0).val = 0 <;> simp [newG, resG, h]

theorem outD (t : Fin cfg0.N) (p : Fin 176) (q : Fin 2048) :
    (outsAt0 m c t).2.1 (ix3 0 p q) = entD (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entD, change, mean, square, grad, total, Fin.sum_univ_eight]

theorem prevD : V m c (Pipeline.arrRef spec0 7) = argI m c := by
  unfold V
  after_results_simp <;> rfl

theorem arrD : (dats m 0 c).arrAt 7 cfg0.N = newD m c := by
  refine ((dats m 0 c).arrAt_eq_of_coversWhere 7 (newD m c) (P := fun i => (i 0).val = 0)
    (fun β => β (0 : Fin _) = 0) (by decide +kernel) (fun t hf y => ?_) (fun j => by blk_simp [Pipeline.Window.cell_apply] <;> omega)).trans ?_
  · blk_simp
    rw [after0_7]
    idx_vars y
    obtain rfl : y0 = 0 := Subsingleton.elim _ _
    have hp := points t
    have e : (outsAt0 m c t).2.1 (ix3 0 y1 y2) = newD m c (ix3 0 (rowOf t y1) y2) := outD m c t y1 y2
    rw [e]
    generalize newD m c = R
    blk_ext! [at7 t, rowOf]
  · rw [A_eq, prevD]
    funext i
    by_cases h : (i 0).val = 0 <;> simp [newD, resD, h]

theorem outM (t : Fin cfg0.N) (p : Fin 176) (q : Fin 2048) :
    (outsAt0 m c t).2.2.1 (ix3 0 p q) = entM (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entM, change, mean, square, grad, total, Fin.sum_univ_eight]

theorem prevM : V m c (Pipeline.arrRef spec0 8) = argJ m c := by
  unfold V
  after_results_simp <;> rfl

theorem arrM : (dats m 0 c).arrAt 8 cfg0.N = newM m c := by
  refine ((dats m 0 c).arrAt_eq_of_coversWhere 8 (newM m c) (P := fun i => (i 0).val = 0)
    (fun β => β (0 : Fin _) = 0) (by decide +kernel) (fun t hf y => ?_) (fun j => by blk_simp [Pipeline.Window.cell_apply] <;> omega)).trans ?_
  · blk_simp
    rw [after0_8]
    idx_vars y
    obtain rfl : y0 = 0 := Subsingleton.elim _ _
    have hp := points t
    have e : (outsAt0 m c t).2.2.1 (ix3 0 y1 y2) = newM m c (ix3 0 (rowOf t y1) y2) := outM m c t y1 y2
    rw [e]
    generalize newM m c = R
    blk_ext! [at8 t, rowOf]
  · rw [A_eq, prevM]
    funext i
    by_cases h : (i 0).val = 0 <;> simp [newM, resM, h]

theorem outV (t : Fin cfg0.N) (p : Fin 176) (q : Fin 2048) :
    (outsAt0 m c t).2.2.2 (ix3 0 p q) = entV (argW m c) (argM m c) (argV m c) (argP m c) (argO m c) (argA m c) (rowOf t p) q := by
  unfold outsAt0
  frame_out
  simp only [k0_pay1, k0_pay2, k0_pay3, k0_pay4, k0_pay5, k0_pay6, k0_pay7, k0_pay8, k0_pay9, pick_eq]
  pointwise []
  simp only [blk0, blk1, blk2, blk3, blk4, blk5, entV, change, mean, square, grad, total, Fin.sum_univ_eight]

theorem prevV : V m c (Pipeline.arrRef spec0 9) = argK m c := by
  unfold V
  after_results_simp <;> rfl

theorem arrV : (dats m 0 c).arrAt 9 cfg0.N = newV m c := by
  refine ((dats m 0 c).arrAt_eq_of_coversWhere 9 (newV m c) (P := fun i => (i 0).val = 0)
    (fun β => β (0 : Fin _) = 0) (by decide +kernel) (fun t hf y => ?_) (fun j => by blk_simp [Pipeline.Window.cell_apply] <;> omega)).trans ?_
  · blk_simp
    rw [after0_9]
    idx_vars y
    obtain rfl : y0 = 0 := Subsingleton.elim _ _
    have hp := points t
    have e : (outsAt0 m c t).2.2.2 (ix3 0 y1 y2) = newV m c (ix3 0 (rowOf t y1) y2) := outV m c t y1 y2
    rw [e]
    generalize newV m c = R
    blk_ext! [at9 t, rowOf]
  · rw [A_eq, prevV]
    funext i
    by_cases h : (i 0).val = 0 <;> simp [newV, resV, h]

end Cert.AdamDownIdeal.Adam

namespace Cert.AdamDownRefIdeal.Adam

open Cert.AdamDownRefIdeal Cert.AdamDownRefIdeal.Gen Idealize.ShloMosaic Idealize.ShloMosaic.TcCoe Idealize.SL.Sem
open Cert.Adam
open Cert.AdamDownIdeal.Adam (resG resD resM resV entG entD entM entV grad)

/-- The types of the arguments. -/
abbrev Wt : Type := FVec Ideal S2x704x2048 .f32
abbrev Sent : Type := FVec Ideal S8x704x2048 .bf16
abbrev Own : Type := FVec Ideal S704x2048 .bf16

/-- The sum over the devices, and its entries. -/
def sumV (P : Sent) (O : Own) (A : FVec Ideal S8 .f32) : FVec Ideal S704x2048 .f32 :=
  Host.reduceAdd (select (broadcastInDim S8x704x2048 ![0, 1, 2] bcast_S8x1x1_S8x704x2048_0_1_2 (cmpf .ogt (broadcastInDim S8x1x1 ![0] bcast_S8_S8x1x1_0 A) (broadcastInDim S8x1x1 ![] bcast_S_S8x1x1 (constant S_ .f32 0x3F000000#32)))) (broadcastInDim S8x704x2048 ![1, 2] bcast_S704x2048_S8x704x2048_1_2 (extf .f32 O bitsLt_bf16_f32)) (extf .f32 P bitsLt_bf16_f32)) (constant S_ .f32 0x00000000#32) reducesTo_S8x704x2048_S704x2048_d0 h_S_

theorem sumV_at (P : Sent) (O : Own) (A : FVec Ideal S8 .f32) (x : Fin 704) (y : Fin 2048) :
    sumV P O A (ix2 x y) = grad P O A x y := by
  pointwise [sumV, grad, total, share]

/-- This layer's entries, over the other layer as it came. -/
def two (E : FVec Ideal S704x2048 .f32) (H : Wt) : Wt :=
  concatenate S2x704x2048 0 [⟨S1x704x2048, (broadcastInDim S1x704x2048 ![1, 2] bcast_S704x2048_S1x704x2048_1_2 E : FVec Ideal S1x704x2048 .f32)⟩, ⟨S1x704x2048, ((broadcastInDim S1x704x2048 ![1, 2] bcast_S704x2048_S1x704x2048_1_2 (shapeCast _ (extractStridedSlice S1x704x2048 ![1, 0, 0] H slices_S2x704x2048_S1x704x2048_1_0_0) shapeCasts_S1x704x2048_S704x2048)) : FVec Ideal S1x704x2048 .f32)⟩] concatenates_S1x704x2048_S1x704x2048_S2x704x2048_d0

theorem two_eq (E : FVec Ideal S704x2048 .f32) (H : Wt) (f : Fin 704 → Fin 2048 → EReal) (h : ∀ x y, E (ix2 x y) = f x y) :
    two E H = fun i => if (i 0).val = 0 then f (i 1) (i 2) else H i := by
  funext i
  idx_vars i
  pointwise [two]
  simp only [h]
  obtain rfl | rfl : i0 = 0 ∨ i0 = 1 := by omega
  · rfl
  · rfl

def outG (W M V : Wt) (P : Sent) (O : Own) (A : FVec Ideal S8 .f32) (H : Wt) : Wt :=
  two (sumV P O A) H

theorem eqG (W M V : Wt) (P : Sent) (O : Own) (A : FVec Ideal S8 .f32) (H : Wt) : outG W M V P O A H = resG W M V P O A H :=
  two_eq _ H (fun x y => entG W M V P O A x y) fun x y => by
    pointwise [entG, change, mean, square]
    simp only [sumV_at]

def outD (W M V : Wt) (P : Sent) (O : Own) (A : FVec Ideal S8 .f32) (H : Wt) : Wt :=
  two (mulf (broadcastInDim S704x2048 ![] bcast_S_S704x2048 (constant S_ .f32 0xBA83126F#32)) (addf (Host.divf (Host.divf (addf (mulf (broadcastInDim S704x2048 ![] bcast_S_S704x2048 (constant S_ .f32 0x3F666666#32)) (shapeCast _ (extractStridedSlice S1x704x2048 ![0, 0, 0] M slices_S2x704x2048_S1x704x2048_0_0_0) shapeCasts_S1x704x2048_S704x2048)) (mulf (broadcastInDim S704x2048 ![] bcast_S_S704x2048 (constant S_ .f32 0x3DCCCCCD#32)) (sumV P O A))) (broadcastInDim S704x2048 ![] bcast_S_S704x2048 (constant S_ .f32 0x3F26BD02#32))) (addf (Host.sqrt (Host.divf (addf (mulf (broadcastInDim S704x2048 ![] bcast_S_S704x2048 (constant S_ .f32 0x3F7FBE77#32)) (shapeCast _ (extractStridedSlice S1x704x2048 ![0, 0, 0] V slices_S2x704x2048_S1x704x2048_0_0_0) shapeCasts_S1x704x2048_S704x2048)) (mulf (broadcastInDim S704x2048 ![] bcast_S_S704x2048 (constant S_ .f32 0x3A83126F#32)) (mulf (sumV P O A) (sumV P O A)))) (broadcastInDim S704x2048 ![] bcast_S_S704x2048 (constant S_ .f32 0x3C231ACC#32)))) (broadcastInDim S704x2048 ![] bcast_S_S704x2048 (constant S_ .f32 0x322BCC77#32)))) (mulf (broadcastInDim S704x2048 ![] bcast_S_S704x2048 (constant S_ .f32 0x3C23D70A#32)) (shapeCast _ (extractStridedSlice S1x704x2048 ![0, 0, 0] W slices_S2x704x2048_S1x704x2048_0_0_0) shapeCasts_S1x704x2048_S704x2048)))) H

theorem eqD (W M V : Wt) (P : Sent) (O : Own) (A : FVec Ideal S8 .f32) (H : Wt) : outD W M V P O A H = resD W M V P O A H :=
  two_eq _ H (fun x y => entD W M V P O A x y) fun x y => by
    pointwise [entD, change, mean, square]
    simp only [sumV_at]

def outM (W M V : Wt) (P : Sent) (O : Own) (A : FVec Ideal S8 .f32) (H : Wt) : Wt :=
  two (addf (mulf (broadcastInDim S704x2048 ![] bcast_S_S704x2048 (constant S_ .f32 0x3F666666#32)) (shapeCast _ (extractStridedSlice S1x704x2048 ![0, 0, 0] M slices_S2x704x2048_S1x704x2048_0_0_0) shapeCasts_S1x704x2048_S704x2048)) (mulf (broadcastInDim S704x2048 ![] bcast_S_S704x2048 (constant S_ .f32 0x3DCCCCCD#32)) (sumV P O A))) H

theorem eqM (W M V : Wt) (P : Sent) (O : Own) (A : FVec Ideal S8 .f32) (H : Wt) : outM W M V P O A H = resM W M V P O A H :=
  two_eq _ H (fun x y => entM W M V P O A x y) fun x y => by
    pointwise [entM, change, mean, square]
    simp only [sumV_at]

def outV (W M V : Wt) (P : Sent) (O : Own) (A : FVec Ideal S8 .f32) (H : Wt) : Wt :=
  two (addf (mulf (broadcastInDim S704x2048 ![] bcast_S_S704x2048 (constant S_ .f32 0x3F7FBE77#32)) (shapeCast _ (extractStridedSlice S1x704x2048 ![0, 0, 0] V slices_S2x704x2048_S1x704x2048_0_0_0) shapeCasts_S1x704x2048_S704x2048)) (mulf (broadcastInDim S704x2048 ![] bcast_S_S704x2048 (constant S_ .f32 0x3A83126F#32)) (mulf (sumV P O A) (sumV P O A)))) H

theorem eqV (W M V : Wt) (P : Sent) (O : Own) (A : FVec Ideal S8 .f32) (H : Wt) : outV W M V P O A H = resV W M V P O A H :=
  two_eq _ H (fun x y => entV W M V P O A x y) fun x y => by
    pointwise [entV, change, mean, square]
    simp only [sumV_at]

end Cert.AdamDownRefIdeal.Adam

end
-- ==== Proof.Ln.Spec.lean ====
/- The layer norm of a row of 2048 numbers, as sums and products of its entries. -/
module

public import Idealize.ShloMosaic.PureOps.Ideal
public import Idealize.ShloMosaic.Lib.Pointwise

@[expose] public section

noncomputable section

namespace Cert.Ln

open Idealize.ShloMosaic

/-- The residual: the branch's output plus the stream, scaled. -/
def resid (h s : EReal) : EReal := Ideal.ofBits .f32 0x3FB504F3#32 * h + s

/-- A row's mean. -/
def mean (s : Fin 2048 → EReal) : EReal := Ideal.div (∑ j, s j) (Ideal.ofBits .f32 0x45000000#32)

/-- An entry's distance from the mean. -/
def dev (s : Fin 2048 → EReal) (j : Fin 2048) : EReal := s j - mean s

/-- One over the row's standard deviation. -/
def rstd (s : Fin 2048 → EReal) : EReal :=
  Ideal.rsqrt (mean (fun j => dev s j * dev s j) + Ideal.ofBits .f32 0x3727C5AC#32)

/-- The normalised entry. -/
def hat (s : Fin 2048 → EReal) (j : Fin 2048) : EReal := dev s j * rstd s

end Cert.Ln

end
-- ==== Proof.Ln.LnFwd.lean ====
/- The layer norm after a residual: the kernel's blocks and the reference. -/
module

public import proofs.«01_k».proof.Proof.Ln.Spec
public import proofs.«01_k».proof.Proof.Gen.LnFwdIdeal.Value
public import proofs.«01_k».proof.Proof.Gen.LnFwdRefIdeal.Run
public import Idealize.ShloMosaic.Lib.Pipeline.ValueKit
public import Idealize.ShloMosaic.Lib.Pointwise

@[expose] public section

set_option maxRecDepth 16384
set_option maxHeartbeats 1000000

noncomputable section

namespace Cert.LnFwdIdeal.Ln

open Cert.LnFwdIdeal Cert.LnFwdIdeal.Gen Cert.LnFwdIdeal.Value Idealize.ShloMosaic Idealize.ShloMosaic.TcCoe Idealize.SL.Sem
open Cert.Ln

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments: the stream, the branch's output, the scale and the shift. -/
abbrev argH : FVec Ideal S4096x2048 .f32 := m ((c : Thread nD τ).loc main_arg0)
abbrev argS : FVec Ideal S4096x2048 .f32 := m ((c : Thread nD τ).loc main_arg1)
abbrev argG : FVec Ideal S1x2048 .f32 := m ((c : Thread nD τ).loc main_arg2)
abbrev argB : FVec Ideal S1x2048 .f32 := m ((c : Thread nD τ).loc main_arg3)

/-- The row that a row of point `t`'s block is. -/
def rowOf (t : Fin cfg0.N) (p : Fin 512) : Fin 4096 := ⟨512 * t.val + p.val, by have := points t; omega⟩

theorem blk0 (t : Fin cfg0.N) (p : Fin 512) (q : Fin 2048) : iblk m c 0 t (ix2 p q) = argH m c (ix2 (rowOf t p) q) := by
  have hp := points t
  blk_ext! [iblk, V, at0 t, rowOf, argH]
theorem blk1 (t : Fin cfg0.N) (p : Fin 512) (q : Fin 2048) : iblk m c 1 t (ix2 p q) = argS m c (ix2 (rowOf t p) q) := by
  have hp := points t
  blk_ext! [iblk, V, at1 t, rowOf, argS]
theorem blk2 (t : Fin cfg0.N) (p : Fin 1) (q : Fin 2048) : iblk m c 2 t (ix2 p q) = argG m c (ix2 p q) := by
  have hp := points t
  blk_ext! [iblk, V, at2 t, argG]
theorem blk3 (t : Fin cfg0.N) (p : Fin 1) (q : Fin 2048) : iblk m c 3 t (ix2 p q) = argB m c (ix2 p q) := by
  have hp := points t
  blk_ext! [iblk, V, at3 t, argB]

section
variable (H S : FVec Ideal S4096x2048 .f32) (G B : FVec Ideal S1x2048 .f32)

/-- A row of the residual. -/
def row (x : Fin 4096) (j : Fin 2048) : EReal := resid (H (ix2 x j)) (S (ix2 x j))

/-- The result in both widths. -/
def res : FVec Ideal S4096x2048 .f32 := fun i => hat (row H S (i 0)) (i 1) * G (ix2 0 (i 1)) + B (ix2 0 (i 1))
def resN : FVec Ideal S4096x2048 .bf16 := fun i => hat (row H S (i 0)) (i 1) * G (ix2 0 (i 1)) + B (ix2 0 (i 1))
end

theorem pay_at (t : Fin cfg0.N) (p : Fin 512) (q : Fin 2048) :
    k0_pay1 (iblk m c 0 t) (iblk m c 1 t) (iblk m c 2 t) (iblk m c 3 t) (ix2 p q)
      = res (argH m c) (argS m c) (argG m c) (argB m c) (ix2 (rowOf t p) q) := by
  pointwise [k0_pay1]
  simp only [blk0, blk1, blk2, blk3]
  rfl

theorem out4 (t : Fin cfg0.N) (p : Fin 512) (q : Fin 2048) : out0_4 (iblk m c 0 t) (iblk m c 1 t) (iblk m c 2 t) (iblk m c 3 t) (ix2 p q)
      = res (argH m c) (argS m c) (argG m c) (argB m c) (ix2 (rowOf t p) q) := by
  unfold out0_4
  frame_out
  exact pay_at m c t p q

theorem out5 (t : Fin cfg0.N) (p : Fin 512) (q : Fin 2048) : out0_5 (iblk m c 0 t) (iblk m c 1 t) (iblk m c 2 t) (iblk m c 3 t) (ix2 p q)
      = resN (argH m c) (argS m c) (argG m c) (argB m c) (ix2 (rowOf t p) q) := by
  unfold out0_5
  frame_out
  pointwise [k0_pay2]
  exact pay_at m c t p q

theorem arr4 : (dats m 0 c).arrAt 4 cfg0.N = res (argH m c) (argS m c) (argG m c) (argB m c) := by
  refine (dats m 0 c).arrAt_eq_of_covers 4 _ (by decide +kernel) fun t hf y => ?_
  blk_simp
  rw [after0_4]
  idx_vars y
  have hp := points t
  refine (out4 m c t y0 y1).trans ?_
  generalize res (argH m c) (argS m c) (argG m c) (argB m c) = R
  blk_ext! [at4 t, rowOf]

theorem arr5 : (dats m 0 c).arrAt 5 cfg0.N = resN (argH m c) (argS m c) (argG m c) (argB m c) := by
  refine (dats m 0 c).arrAt_eq_of_covers 5 _ (by decide +kernel) fun t hf y => ?_
  blk_simp
  rw [after0_5]
  idx_vars y
  have hp := points t
  refine (out5 m c t y0 y1).trans ?_
  generalize resN (argH m c) (argS m c) (argG m c) (argB m c) = R
  blk_ext! [at5 t, rowOf]

end Cert.LnFwdIdeal.Ln

namespace Cert.LnFwdRefIdeal.Ln

open Cert.LnFwdRefIdeal Cert.LnFwdRefIdeal.Gen Idealize.ShloMosaic Idealize.ShloMosaic.TcCoe Idealize.SL.Sem
open Cert.Ln
open Cert.LnFwdIdeal.Ln (res resN row)

section
variable (H S : FVec Ideal S4096x2048 .f32) (G B : FVec Ideal S1x2048 .f32)

/-- The reference's result. -/
def out : FVec Ideal S4096x2048 .f32 :=
  addf (mulf (mulf (subf (addf (mulf (broadcastInDim S4096x2048 ![] bcast_S_S4096x2048 (constant S_ .f32 0x3FB504F3#32)) H) S) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FB504F3#32)) H) S) (constant S_ .f32 0x00000000#32) reducesTo_S4096x2048_S4096_d1 h_S_)) (broadcastInDim S4096x1 ![] bcast_S_S4096x1 (constant S_ .f32 0x45000000#32))))) (broadcastInDim S4096x2048 ![0, 1] bcast_S4096x1_S4096x2048_0_1 (Host.rsqrt (addf (Host.divf (broadcastInDim S4096x1 ![0] bcast_S4096_S4096x1_0 (Host.reduceAdd (mulf (subf (addf (mulf (broadcastInDim S4096x2048 ![] bcast_S_S4096x2048 (constant S_ .f32 0x3FB504F3#32)) H) S) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FB504F3#32)) H) S) (constant S_ .f32 0x00000000#32) reducesTo_S4096x2048_S4096_d1 h_S_)) (broadcastInDim S4096x1 ![] bcast_S_S4096x1 (constant S_ .f32 0x45000000#32))))) (subf (addf (mulf (broadcastInDim S4096x2048 ![] bcast_S_S4096x2048 (constant S_ .f32 0x3FB504F3#32)) H) S) (broadcastInDim S4096x2048 ![0, 1] bcast_S4096x1_S4096x2048_0_1 (Host.divf (broadcastInDim S4096x1 ![0] bcast_S4096_S4096x1_0 (Host.reduceAdd (addf (mulf (broadcastInDim S4096x2048 ![] bcast_S_S4096x2048 (constant S_ .f32 0x3FB504F3#32)) H) S) (constant S_ .f32 0x00000000#32) reducesTo_S4096x2048_S4096_d1 h_S_)) (broadcastInDim S4096x1 ![] bcast_S_S4096x1 (constant S_ .f32 0x45000000#32)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 G)) (broadcastInDim S4096x2048 ![0, 1] bcast_S1x2048_S4096x2048_0_1 B)

theorem out_eq : out H S G B = res H S G B := by
  funext i
  idx_vars i
  pointwise [out]
  rfl

theorem outN_eq : truncf .bf16 (out H S G B) bitsLt_bf16_f32 = resN H S G B := by
  funext i
  exact congrFun (out_eq H S G B) i
end

end Cert.LnFwdRefIdeal.Ln

end
-- ==== Proof.Ffn.Spec.lean ====
/- The gradient of the gated causal convolution, entry by entry, as a function of the whole arrays. -/
module

public import Idealize.ShloMosaic.Lib.Pointwise

@[expose] public section

set_option maxRecDepth 16384

noncomputable section

namespace Cert.Spec

open Idealize.ShloMosaic

/-- The two halves of the hidden array: half 0 is convolved, half 1 is the multiplier. -/
abbrev Hid := (⟨3, ![2, 4096, 5632]⟩ : Shape).Idx → EReal
/-- One number per token and channel. -/
abbrev Tok := (⟨2, ![4096, 5632]⟩ : Shape).Idx → EReal
/-- The three taps of the convolution. -/
abbrev Taps := (⟨2, ![3, 5632]⟩ : Shape).Idx → EReal
/-- The bias. -/
abbrev Bias := (⟨2, ![1, 5632]⟩ : Shape).Idx → EReal

/-- Every entry is a real number. -/
def AllReal {S : Shape} (X : S.Idx → EReal) : Prop := ∀ i, ∃ r : ℝ, X i = (r : EReal)

/-- Half 0 with two rows of zeros in front: entry `s` is row `s - 2`. -/
def padded (H : Hid) (l : Fin 5632) (s : ℕ) : EReal :=
  if h : 2 ≤ s ∧ s - 2 < 4096 then H (ix3 0 ⟨s - 2, h.2⟩ l) else 0

/-- The convolution at token `t`. -/
def conv (H : Hid) (W : Taps) (B : Bias) (l : Fin 5632) (t : ℕ) : EReal :=
  W (ix2 0 l) * padded H l t + W (ix2 1 l) * padded H l (t + 1) + W (ix2 2 l) * padded H l (t + 2) + B (ix2 0 l)

/-- The derivative of `x * logistic x`. -/
def slope (x : EReal) : EReal := Ideal.logistic x * (1 + x * (1 - Ideal.logistic x))

/-- The gradient at the convolution's output, zero past the last token. -/
def dConv (H : Hid) (Z : Tok) (W : Taps) (B : Bias) (l : Fin 5632) (t : ℕ) : EReal :=
  if h : t < 4096 then Z (ix2 ⟨t, h⟩ l) * H (ix3 1 ⟨t, h⟩ l) * slope (conv H W B l t) else 0

/-- The gradient at the hidden array. -/
def dHid (H : Hid) (Z : Tok) (W : Taps) (B : Bias) : Hid := fun i =>
  if (i 0).val = 0 then
    W (ix2 2 (i 2)) * dConv H Z W B (i 2) (i 1).val + W (ix2 1 (i 2)) * dConv H Z W B (i 2) ((i 1).val + 1)
      + W (ix2 0 (i 2)) * dConv H Z W B (i 2) ((i 1).val + 2)
  else Z (ix2 (i 1) (i 2)) * (conv H W B (i 2) (i 1).val * Ideal.logistic (conv H W B (i 2) (i 1).val))

/-- The gradient at the taps. -/
def dTaps (H : Hid) (Z : Tok) (W : Taps) (B : Bias) : Taps := fun i =>
  ∑ t ∈ Finset.range 4096, dConv H Z W B (i 1) t * padded H (i 1) (t + (i 0).val)

/-- The gradient at the bias. -/
def dBias (H : Hid) (Z : Tok) (W : Taps) (B : Bias) : Bias := fun i =>
  ∑ t ∈ Finset.range 4096, dConv H Z W B (i 1) t

end Cert.Spec

end
-- ==== Proof.Ffn.Ref.lean ====
/- The three results of the reference, entry by entry. -/
module

public import proofs.«01_k».proof.Proof.Ffn.Spec
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Ffn

open Cert.ReferenceIdeal Cert.ReferenceIdeal.Value Idealize.ShloMosaic Idealize.ShloMosaic.TcCoe Idealize.SL.Sem Cert.Spec

variable (m : (ℓ : Loc nD τ sig) → Buf (Elt Ideal) ℓ) (c : Dev nD)

/-- The reference's four arguments. -/
abbrev argH : Hid := m ((c : Thread nD τ).loc main_arg0)
abbrev argZ : Tok := m ((c : Thread nD τ).loc main_arg1)
abbrev argW : Taps := m ((c : Thread nD τ).loc main_arg2)
abbrev argB : Bias := m ((c : Thread nD τ).loc main_arg3)

open Cert.ReferenceIdeal.Gen

/-! ## The reference's vectors, by name -/

section
variable (H : FVec Ideal S2x4096x5632 .bf16) (Z : FVec Ideal S4096x5632 .bf16) (W : FVec Ideal S3x5632 .f32)
  (B : FVec Ideal S1x5632 .f32)

/-- Zero, spread over the tokens. -/
def zeroV : FVec Ideal S4096x5632 .f32 := broadcastInDim S4096x5632 ![] bcast_S_S4096x5632 (constant S_ .f32 0x00000000#32)
/-- One, spread over the tokens. -/
def oneV : FVec Ideal S4096x5632 .f32 := broadcastInDim S4096x5632 ![] bcast_S_S4096x5632 (constant S_ .f32 0x3F800000#32)
/-- Half 0 with its two rows of zeros. -/
def padV : FVec Ideal S4098x5632 .f32 :=
  concatenate S4098x5632 0 [⟨S2x5632, broadcastInDim S2x5632 ![] bcast_S_S2x5632 (constant S_ .f32 0x00000000#32)⟩,
    ⟨S4096x5632, shapeCast S4096x5632 (extractStridedSlice S1x4096x5632 ![0, 0, 0] (extf .f32 H bitsLt_bf16_f32)
      slices_S2x4096x5632_S1x4096x5632_0_0_0) shapeCasts_S1x4096x5632_S4096x5632⟩] concatenates_S2x5632_S4096x5632_S4098x5632_d0
/-- Half 1. -/
def mulV : FVec Ideal S4096x5632 .f32 :=
  shapeCast S4096x5632 (extractStridedSlice S1x4096x5632 ![1, 0, 0] (extf .f32 H bitsLt_bf16_f32)
    slices_S2x4096x5632_S1x4096x5632_1_0_0) shapeCasts_S1x4096x5632_S4096x5632
/-- The incoming gradient. -/
def inV : FVec Ideal S4096x5632 .f32 := extf .f32 Z bitsLt_bf16_f32
/-- Tap 0 over the tokens. -/
def tap0V : FVec Ideal S4096x5632 .f32 :=
  broadcastInDim S4096x5632 ![0, 1] bcast_S1x5632_S4096x5632_0_1 (broadcastInDim S1x5632 ![1] bcast_S5632_S1x5632_1
    (shapeCast S5632 (extractStridedSlice S1x5632 ![0, 0] W slices_S3x5632_S1x5632_0_0) shapeCasts_S1x5632_S5632))
/-- Tap 1 over the tokens. -/
def tap1V : FVec Ideal S4096x5632 .f32 :=
  broadcastInDim S4096x5632 ![0, 1] bcast_S1x5632_S4096x5632_0_1 (broadcastInDim S1x5632 ![1] bcast_S5632_S1x5632_1
    (shapeCast S5632 (extractStridedSlice S1x5632 ![1, 0] W slices_S3x5632_S1x5632_1_0) shapeCasts_S1x5632_S5632))
/-- Tap 2 over the tokens. -/
def tap2V : FVec Ideal S4096x5632 .f32 :=
  broadcastInDim S4096x5632 ![0, 1] bcast_S1x5632_S4096x5632_0_1 (broadcastInDim S1x5632 ![1] bcast_S5632_S1x5632_1
    (shapeCast S5632 (extractStridedSlice S1x5632 ![2, 0] W slices_S3x5632_S1x5632_2_0) shapeCasts_S1x5632_S5632))
/-- The bias over the tokens. -/
def biasV : FVec Ideal S4096x5632 .f32 :=
  broadcastInDim S4096x5632 ![0, 1] bcast_S1x5632_S4096x5632_0_1 (broadcastInDim S1x5632 ![1] bcast_S5632_S1x5632_1
    (shapeCast S5632 B shapeCasts_S1x5632_S5632))
/-- The padded half from row 0, 1 and 2 on. -/
def sh0V : FVec Ideal S4096x5632 .f32 := extractStridedSlice S4096x5632 ![0, 0] (padV H) slices_S4098x5632_S4096x5632_0_0
@[inherit_doc sh0V]
def sh1V : FVec Ideal S4096x5632 .f32 := extractStridedSlice S4096x5632 ![1, 0] (padV H) slices_S4098x5632_S4096x5632_1_0
@[inherit_doc sh0V]
def sh2V : FVec Ideal S4096x5632 .f32 := extractStridedSlice S4096x5632 ![2, 0] (padV H) slices_S4098x5632_S4096x5632_2_0
/-- The convolution. -/
def convV : FVec Ideal S4096x5632 .f32 :=
  addf (addf (addf (addf zeroV (mulf (tap0V W) (sh0V H))) (mulf (tap1V W) (sh1V H))) (mulf (tap2V W) (sh2V H))) (biasV B)
/-- The logistic function of a vector, spelt by its quotient. -/
def sigV (x : FVec Ideal S4096x5632 .f32) : FVec Ideal S4096x5632 .f32 :=
  Host.divf oneV (addf oneV (Host.exp (Host.negf x)))
/-- The gradient at `x` of `x * sig x`, from the gradient `g` at the product. -/
def siluV (x g : FVec Ideal S4096x5632 .f32) : FVec Ideal S4096x5632 .f32 :=
  addf (mulf g (sigV x)) (mulf (mulf x g) (mulf (sigV x) (subf oneV (sigV x))))
/-- The gradient at the convolution. -/
def gradV : FVec Ideal S4096x5632 .f32 := siluV (convV H W B) (mulf (inV Z) (mulV H))
/-- A vector's column sums. -/
def colV (x : FVec Ideal S4096x5632 .f32) : FVec Ideal S1x5632 .f32 :=
  broadcastInDim S1x5632 ![1] bcast_S5632_S1x5632_1 (Host.reduceAdd (shapeCast S1x5632
    (Host.reduceAdd x (constant S_ .f32 0x00000000#32) reducesTo_S4096x5632_S5632_d0 h_S_) shapeCasts_S5632_S1x5632)
    (constant S_ .f32 0x00000000#32) reducesTo_S1x5632_S5632_d0 h_S_)
/-- The taps' gradient. -/
def dtapV : FVec Ideal S3x5632 .f32 :=
  addf (addf (pad S3x5632 ![2, 0] ![0, 0] ![0, 0] (colV (mulf (gradV H Z W B) (sh2V H))) (constant S_ .f32 0x00000000#32) pads_S1x5632_S3x5632_200_000 h_S_)
    (pad S3x5632 ![1, 0] ![1, 0] ![0, 0] (colV (mulf (gradV H Z W B) (sh1V H))) (constant S_ .f32 0x00000000#32) pads_S1x5632_S3x5632_110_000 h_S_))
    (pad S3x5632 ![0, 0] ![2, 0] ![0, 0] (colV (mulf (gradV H Z W B) (sh0V H))) (constant S_ .f32 0x00000000#32) pads_S1x5632_S3x5632_020_000 h_S_)
/-- The gradient at half 0. -/
def halfV : FVec Ideal S4096x5632 .f32 :=
  extractStridedSlice S4096x5632 ![2, 0]
    (addf (addf (pad S4098x5632 ![2, 0] ![0, 0] ![0, 0] (mulf (tap2V W) (gradV H Z W B)) (constant S_ .f32 0x00000000#32) pads_S4096x5632_S4098x5632_200_000 h_S_)
      (pad S4098x5632 ![1, 0] ![1, 0] ![0, 0] (mulf (tap1V W) (gradV H Z W B)) (constant S_ .f32 0x00000000#32) pads_S4096x5632_S4098x5632_110_000 h_S_))
      (pad S4098x5632 ![0, 0] ![2, 0] ![0, 0] (mulf (tap0V W) (gradV H Z W B)) (constant S_ .f32 0x00000000#32) pads_S4096x5632_S4098x5632_020_000 h_S_))
    slices_S4098x5632_S4096x5632_2_0
/-- The gradient at the hidden array. -/
def hidV : FVec Ideal S2x4096x5632 .bf16 :=
  truncf .bf16 (addf (pad S2x4096x5632 ![1, 0, 0] ![0, 0, 0] ![0, 0, 0] (broadcastInDim S1x4096x5632 ![1, 2] bcast_S4096x5632_S1x4096x5632_1_2
      (mulf (mulf (convV H W B) (sigV (convV H W B))) (inV Z))) (constant S_ .f32 0x00000000#32) pads_S1x4096x5632_S2x4096x5632_100_000_000 h_S_)
    (pad S2x4096x5632 ![0, 0, 0] ![1, 0, 0] ![0, 0, 0] (broadcastInDim S1x4096x5632 ![1, 2] bcast_S4096x5632_S1x4096x5632_1_2
      (halfV H Z W B)) (constant S_ .f32 0x00000000#32) pads_S1x4096x5632_S2x4096x5632_010_000_000 h_S_)) bitsLt_bf16_f32

end

theorem out0_eq : res_out0 m c = hidV (argH m c) (argZ m c) (argW m c) (argB m c) := rfl
theorem out1_eq : res_out1 m c = dtapV (argH m c) (argZ m c) (argW m c) (argB m c) := rfl
theorem out2_eq : res_out2 m c = colV (gradV (argH m c) (argZ m c) (argW m c) (argB m c)) := rfl

/-! ## The same, entry by entry -/

section
variable (H : FVec Ideal S2x4096x5632 .bf16) (Z : FVec Ideal S4096x5632 .bf16) (W : FVec Ideal S3x5632 .f32)
  (B : FVec Ideal S1x5632 .f32) (t : Fin 4096) (l : Fin 5632)

theorem padV_at (s : Fin 4098) : padV H (ix2 s l) = padded H l s.val := by
  pointwise [padV]
  unfold padded
  by_cases h : s.val < 2
  · rw [dif_pos h, dif_neg (by omega)]
  · rw [dif_neg h, dif_pos ⟨by omega, by omega⟩]

theorem mulV_at : mulV H (ix2 t l) = H (ix3 1 t l) := by
  pointwise [mulV]

theorem sh0V_at : sh0V H (ix2 t l) = padded H l t.val := by
  pointwise [sh0V]
  rw [padV_at]
theorem sh1V_at : sh1V H (ix2 t l) = padded H l (t.val + 1) := by
  pointwise [sh1V]
  exact (padV_at _ _ _).trans (congrArg (padded H l) (Nat.add_comm _ _))
theorem sh2V_at : sh2V H (ix2 t l) = padded H l (t.val + 2) := by
  pointwise [sh2V]
  exact (padV_at _ _ _).trans (congrArg (padded H l) (Nat.add_comm _ _))
theorem tap0V_at : tap0V W (ix2 t l) = W (ix2 0 l) := by
  pointwise [tap0V]
theorem tap1V_at : tap1V W (ix2 t l) = W (ix2 1 l) := by
  pointwise [tap1V]
theorem tap2V_at : tap2V W (ix2 t l) = W (ix2 2 l) := by
  pointwise [tap2V]

theorem convV_at : convV H W B (ix2 t l) = conv H W B l t.val := by
  pointwise [convV, zeroV, biasV]
  rw [sh0V_at, sh1V_at, sh2V_at, tap0V_at, tap1V_at, tap2V_at]
  rfl

theorem sigV_at (x : FVec Ideal S4096x5632 .f32) : sigV x (ix2 t l) = Ideal.logistic (x (ix2 t l)) := by
  pointwise [sigV, oneV]
  rfl

theorem colV_at (x : FVec Ideal S4096x5632 .f32) : colV x (ix2 0 l) = ∑ t : Fin 4096, x (ix2 t l) := by
  pointwise [colV]
  exact Fin.sum_univ_one _

variable (hH : AllReal H) (hZ : AllReal Z) (hW : AllReal W) (hB : AllReal B)

include hH in
theorem padded_real (s : ℕ) : ∃ r : ℝ, padded H l s = (r : EReal) := by
  unfold padded
  split
  · exact hH _
  · exact ⟨0, rfl⟩

include hH hW hB in
theorem conv_real (s : ℕ) : ∃ r : ℝ, conv H W B l s = (r : EReal) := by
  obtain ⟨p0, h0⟩ := padded_real H l hH s
  obtain ⟨p1, h1⟩ := padded_real H l hH (s + 1)
  obtain ⟨p2, h2⟩ := padded_real H l hH (s + 2)
  obtain ⟨w0, e0⟩ := hW (ix2 0 l)
  obtain ⟨w1, e1⟩ := hW (ix2 1 l)
  obtain ⟨w2, e2⟩ := hW (ix2 2 l)
  obtain ⟨b, eb⟩ := hB (ix2 0 l)
  refine ⟨w0 * p0 + w1 * p1 + w2 * p2 + b, ?_⟩
  unfold conv
  rw [h0, h1, h2, e0, e1, e2, eb]
  norm_cast

/-- The two spellings of the derivative of `x * logistic x` agree on real numbers. -/
theorem slope_real (g x : ℝ) :
    (g : EReal) * Ideal.logistic (x : EReal) + (x : EReal) * g * (Ideal.logistic (x : EReal) * (1 - Ideal.logistic (x : EReal)))
      = g * Spec.slope (x : EReal) := by
  unfold Spec.slope
  rw [Ideal.logistic_coe]
  generalize (1 + Real.exp (-x))⁻¹ = s
  rw [← EReal.coe_one]
  norm_cast
  ring

include hH hZ hW hB in
theorem gradV_at : gradV H Z W B (ix2 t l) = dConv H Z W B l t.val := by
  pointwise [gradV, siluV, oneV, inV]
  rw [convV_at, sigV_at, convV_at, mulV_at]
  obtain ⟨x, hx⟩ := conv_real H W B l hH hW hB t.val
  obtain ⟨a, ha⟩ := hH (ix3 1 t l)
  obtain ⟨b, hb⟩ := hZ (ix2 t l)
  unfold dConv
  rw [dif_pos t.isLt, hx, ha, hb, ← EReal.coe_mul]
  exact slope_real _ _

include hH hZ hW hB in
theorem dbias_at : colV (gradV H Z W B) (ix2 0 l) = dBias H Z W B (ix2 0 l) := by
  rw [colV_at]
  simp only [gradV_at H Z W B _ l hH hZ hW hB]
  exact Fin.sum_univ_eq_sum_range (dConv H Z W B l) 4096

include hH hZ hW hB in
theorem dtapV_at (j : Fin 3) : dtapV H Z W B (ix2 j l) = dTaps H Z W B (ix2 j l) := by
  pointwise [dtapV]
  unfold dTaps
  refine Eq.trans ?_ (Fin.sum_univ_eq_sum_range (fun t => dConv H Z W B l t * padded H l (t + j.val)) 4096)
  fin_cases j
  all_goals
    simp [colV_at]
    refine Finset.sum_congr rfl fun t _ => ?_
    pointwise
    rw [gradV_at H Z W B t l hH hZ hW hB]
    first | rw [sh0V_at] | rw [sh1V_at] | rw [sh2V_at]

include hH hZ hW hB in
theorem halfV_at : halfV H Z W B (ix2 t l) = dHid H Z W B (ix3 0 t l) := by
  pointwise [halfV]
  have e0 := gradV_at H Z W B t l hH hZ hW hB
  have e1 : (if h : 1 ≤ 2 + t.val ∧ 2 + t.val - 1 < 4096 then
      tap1V W (ix2 ⟨2 + t.val - 1, h.2⟩ l) * gradV H Z W B (ix2 ⟨2 + t.val - 1, h.2⟩ l) else 0)
        = W (ix2 1 l) * dConv H Z W B l (t.val + 1) := by
    split
    · rw [tap1V_at, gradV_at H Z W B _ l hH hZ hW hB]
      congr 2
      dsimp only; omega
    · unfold dConv
      rw [dif_neg (by omega), mul_zero]
  have e2 : (if h : 2 + t.val < 4096 then
      tap0V W (ix2 ⟨2 + t.val, h⟩ l) * gradV H Z W B (ix2 ⟨2 + t.val, h⟩ l) else 0)
        = W (ix2 0 l) * dConv H Z W B l (t.val + 2) := by
    split
    · rw [tap0V_at, gradV_at H Z W B _ l hH hZ hW hB]
      congr 2
      dsimp only; omega
    · unfold dConv
      rw [dif_neg (by omega), mul_zero]
  rw [e1, e2, e0, tap2V_at]
  rfl

include hH hZ hW hB in
theorem hidV_at (z : Fin 2) : hidV H Z W B (ix3 z t l) = dHid H Z W B (ix3 z t l) := by
  pointwise [hidV]
  fin_cases z
  · simp [halfV_at H Z W B t l hH hZ hW hB]
  · simp [convV_at, sigV_at, inV, dHid]
    exact mul_comm _ _

end

/-! ## The three results -/

section
variable (hH : AllReal (argH m c)) (hZ : AllReal (argZ m c)) (hW : AllReal (argW m c)) (hB : AllReal (argB m c))
include hH hZ hW hB

theorem out0 : res_out0 m c = dHid (argH m c) (argZ m c) (argW m c) (argB m c) := by
  rw [out0_eq]; funext i; idx_vars i; exact hidV_at _ _ _ _ _ _ hH hZ hW hB _
theorem out1 : res_out1 m c = dTaps (argH m c) (argZ m c) (argW m c) (argB m c) := by
  rw [out1_eq]; funext i; idx_vars i; exact dtapV_at _ _ _ _ _ hH hZ hW hB _
theorem out2 : res_out2 m c = dBias (argH m c) (argZ m c) (argW m c) (argB m c) := by
  rw [out2_eq]; funext i; idx_vars i; obtain rfl : i0 = 0 := Subsingleton.elim _ _; exact dbias_at _ _ _ _ _ hH hZ hW hB

end

end Cert.ReferenceIdeal.Ffn
-- ==== Proof.Ffn.Fwd.lean ====
/- The gated causal convolution: the kernel's blocks and the reference. -/
module

public import proofs.«01_k».proof.Proof.Ffn.Ref
public import proofs.«01_k».proof.Proof.Gen.FfnFwdIdeal.Value
public import proofs.«01_k».proof.Proof.Gen.FfnFwdRefIdeal.Run
public import Idealize.ShloMosaic.Lib.Pipeline.ValueKit
public import Idealize.ShloMosaic.Lib.Pointwise

@[expose] public section

set_option maxRecDepth 16384
set_option maxHeartbeats 1000000

noncomputable section

namespace Cert.FfnFwdIdeal.Ffn

open Cert.FfnFwdIdeal Cert.FfnFwdIdeal.Gen Cert.FfnFwdIdeal.Value Idealize.ShloMosaic Idealize.ShloMosaic.TcCoe Idealize.SL.Sem
open Cert.Spec

theorem at0 : ∀ t : Fin cfg0.N, win0_0.index t = ![0, t.val % 4, t.val / 4] := (by decide +kernel : ∀ t : Fin grid0.N, _)
theorem at1 : ∀ t : Fin cfg0.N, win0_1.index t = ![0, t.val % 4 * 64 - 1, t.val / 4] := (by decide +kernel : ∀ t : Fin grid0.N, _)
theorem at2 : ∀ t : Fin cfg0.N, win0_2.index t = ![0, t.val / 4] := (by decide +kernel : ∀ t : Fin grid0.N, _)
theorem at3 : ∀ t : Fin cfg0.N, win0_3.index t = ![0, t.val / 4] := (by decide +kernel : ∀ t : Fin grid0.N, _)
theorem at4 : ∀ t : Fin cfg0.N, win0_4.index t = ![t.val % 4, t.val / 4] := (by decide +kernel : ∀ t : Fin grid0.N, _)
theorem rowBlock : ∀ t : Fin cfg0.N, (grid0.coords t 1).val = t.val % 4 := (by decide +kernel : ∀ t : Fin grid0.N, _)
theorem points (t : Fin cfg0.N) : t.val < 16 := t.isLt.trans_eq N_0

/-- The test for the first row block. -/
theorem first (r : ℕ) (hr : r < 4) : Scalar.cmpi .eq (BitVec.ofNat 32 r) 0#32 = if r = 0 then 1#1 else 0#1 := by
  interval_cases r <;> decide

variable (m : (ℓ : Loc nD τ sig) → Buf (Elt Ideal) ℓ) (c : Dev nD)

/-- The arguments: the two halves, the taps and the bias. -/
abbrev argH : Hid := m ((c : Thread nD τ).loc main_arg0)
abbrev argW : Taps := m ((c : Thread nD τ).loc main_arg1)
abbrev argB : Bias := m ((c : Thread nD τ).loc main_arg2)

/-- The channel and the token of an entry of point `t`'s block. -/
def lane (t : Fin cfg0.N) (l : Fin 1408) : Fin 5632 := ⟨1408 * (t.val / 4) + l.val, by have := points t; omega⟩
def tok (t : Fin cfg0.N) (q : Fin 1024) : Fin 4096 := ⟨1024 * (t.val % 4) + q.val, by omega⟩

theorem blk0 (t : Fin cfg0.N) (h : Fin 2) (q : Fin 1024) (l : Fin 1408) : iblk m c 0 t (ix3 h q l) = argH m c (ix3 h (tok t q) (lane t l)) := by
  blk_ext! [iblk, V, at0 t, lane, tok, argH]
theorem blk1 (t : Fin cfg0.N) (h : t.val % 4 ≠ 0) (q : Fin 16) (l : Fin 1408) :
    iblk m c 1 t (ix3 0 q l) = argH m c (ix3 0 ⟨1024 * (t.val % 4) + q.val - 16, by omega⟩ (lane t l)) := by
  blk_ext! [iblk, V, at1 t, lane, argH]
theorem blk2 (t : Fin cfg0.N) (j : Fin 3) (l : Fin 1408) : iblk m c 2 t (ix2 j l) = argW m c (ix2 j (lane t l)) := by
  blk_ext! [iblk, V, at2 t, lane, argW]
theorem blk3 (t : Fin cfg0.N) (l : Fin 1408) : iblk m c 3 t (ix2 0 l) = argB m c (ix2 0 (lane t l)) := by
  blk_ext! [iblk, V, at3 t, lane, argB]

/-- The result: the convolution through `x * logistic x`, times the other half. -/
def res (H : Hid) (W : Taps) (B : Bias) : FVec Ideal S4096x5632 .bf16 := fun i =>
  conv H W B (i 1) (i 0).val * Ideal.logistic (conv H W B (i 1) (i 0).val) * H (ix3 1 (i 0) (i 1))

theorem padded_of (H : Hid) (l : Fin 5632) (s : ℕ) (n : Fin 4096) (h : s = n.val + 2) : H (ix3 0 n l) = padded H l s := by
  subst h
  unfold padded
  rw [dif_pos ⟨by omega, by omega⟩]
  rfl

/-- The sixteen rows before the block, zero before the first, and the block, in one column. -/
theorem col_at (t : Fin cfg0.N) (l : Fin 1408) (x : ℕ) (hx : x < 1040) (lo : 14 ≤ x) :
    (if h : x < 16 then (Scalar.select (Scalar.cmpi .eq (BitVec.ofNat 32 (grid0.coords t 1).val) 0#32) 0 (iblk m c 1 t (ix3 0 ⟨x, h⟩ l)) : EReal)
      else iblk m c 0 t (ix3 0 ⟨x - 16, by omega⟩ l)) = padded (argH m c) (lane t l) (1024 * (t.val % 4) + (x - 14)) := by
  have hp := points t
  rw [rowBlock, first _ (by omega)]
  by_cases h : x < 16
  · rw [dif_pos h]
    by_cases h0 : t.val % 4 = 0
    · rw [if_pos h0]
      unfold padded
      rw [dif_neg (by omega)]
      rfl
    · rw [if_neg h0]
      refine (blk1 m c t h0 _ l).trans (padded_of _ _ _ _ ?_)
      dsimp only; omega
  · rw [dif_neg h, blk0]
    refine padded_of _ _ _ _ ?_
    dsimp only [tok]; omega

theorem out4 (t : Fin cfg0.N) (q : Fin 1024) (l : Fin 1408) :
    out0_4 (grid0.coords t) (iblk m c 0 t) (iblk m c 1 t) (iblk m c 2 t) (iblk m c 3 t) (ix2 q l)
      = res (argH m c) (argW m c) (argB m c) (ix2 (tok t q) (lane t l)) := by
  have hp := points t
  unfold out0_4
  frame_out
  pointwise [k0_pay1]
  have e (j : ℕ) (hj : 0 < j ∧ j < 3) : 1024 * (t.val % 4) + ((16 + q.val + 1040 - j) % 1040 - 14) = 1024 * (t.val % 4) + q.val + (2 - j) := by omega
  rw [col_at m c t l _ (Nat.mod_lt _ (by decide)) (by omega), col_at m c t l _ (Nat.mod_lt _ (by decide)) (by omega), blk0, blk0, blk2, blk2, blk2, blk3,
    padded_of (argH m c) (lane t l) (1024 * (t.val % 4) + q.val + 2) (tok t q) rfl, e 1 (by omega), e 2 (by omega)]
  rfl

theorem arr4 : (dats m 0 c).arrAt 4 cfg0.N = res (argH m c) (argW m c) (argB m c) := by
  refine (dats m 0 c).arrAt_eq_of_covers 4 _ (by decide +kernel) fun t hf y => ?_
  blk_simp
  rw [after0_4]
  idx_vars y
  have hp := points t
  refine (out4 m c t y0 y1).trans ?_
  generalize res (argH m c) (argW m c) (argB m c) = R
  blk_ext! [at4 t, lane, tok]

end Cert.FfnFwdIdeal.Ffn

namespace Cert.FfnFwdRefIdeal.Ffn

open Cert.FfnFwdRefIdeal Cert.FfnFwdRefIdeal.Gen Cert.FfnFwdRefIdeal.Value Idealize.ShloMosaic Idealize.ShloMosaic.TcCoe Idealize.SL.Sem
open Cert.Spec
open Cert.FfnFwdIdeal.Ffn (res)
open Cert.ReferenceIdeal.Ffn (convV sigV mulV convV_at sigV_at mulV_at)

section
variable (H : FVec Ideal S2x4096x5632 .bf16) (W : FVec Ideal S3x5632 .f32) (B : FVec Ideal S1x5632 .f32)

/-- The reference's result. -/
def out : FVec Ideal S4096x5632 .bf16 :=
  truncf .bf16 (mulf (mulf (convV H W B) (sigV (convV H W B))) (mulV H)) Cert.ReferenceIdeal.Gen.bitsLt_bf16_f32

theorem out_eq : out H W B = res H W B := by
  funext i
  idx_vars i
  pointwise [out]
  rw [sigV_at, convV_at, mulV_at]
  rfl
end

theorem res_eq (m : (ℓ : Loc nD τ sig) → Buf (Elt Ideal) ℓ) (c : Dev nD) :
    res_out0 m c = out (m ((c : Thread nD τ).loc main_arg0)) (m ((c : Thread nD τ).loc main_arg1)) (m ((c : Thread nD τ).loc main_arg2)) := rfl

end Cert.FfnFwdRefIdeal.Ffn

end
-- ==== Proof.Ln.Sum.lean ====
/- The sums of the small gradients over the devices: what the call leaves, unpacked, and the reference. -/
module

public import proofs.«01_k».proof.Proof.Gen.SumSmallIdeal.Frame
public import proofs.«01_k».proof.Proof.Gen.SumSmallRefIdeal.Run
public import Idealize.ShloMosaic.Lib.Pipeline.ValueKit
public import Idealize.ShloMosaic.Lib.Pointwise

@[expose] public section

set_option maxRecDepth 16384
set_option maxHeartbeats 1000000

noncomputable section

namespace Cert.SumSmallIdeal.Sum

open Cert.SumSmallIdeal Cert.SumSmallIdeal.Gen Idealize.ShloMosaic Idealize.ShloMosaic.TcCoe Idealize.SL.Sem

section
variable (A0 : FVec Ideal S8x3x2048 .f32) (A1 : FVec Ideal S8x1x2048 .f32) (A2 : FVec Ideal S8x1x2048 .f32) (A3 : FVec Ideal S8x1x2048 .f32) (A4 : FVec Ideal S8x16x128x128 .f32) (A5 : FVec Ideal S8x16x128 .f32) (A6 : FVec Ideal S8x3x5632 .f32) (A7 : FVec Ideal S8x3x5632 .f32) (A8 : FVec Ideal S8x1x5632 .f32) (A9 : FVec Ideal S8x1x5632 .f32) (A10 : FVec Ideal S8x1x2048 .f32) (A11 : FVec Ideal S8x1x2048 .f32) (A12 : FVec Ideal S8x1x2048 .f32) (A13 : FVec Ideal S8x1x2048 .f32) (A14 : FVec Ideal S8x1x2048 .f32) (A15 : FVec Ideal S8x1x2048 .f32) (A16 : FVec Ideal S8x1x2048 .f32) (A17 : FVec Ideal S8x1x2048 .f32)

/-- The first sixteen arrays, packed. -/
def packA : FVec Ideal S8x333824 .f32 := concatenate S8x333824 1 [⟨S8x6144, shapeCast S8x6144 A0 shapeCasts_S8x3x2048_S8x6144⟩, ⟨S8x2048, shapeCast S8x2048 A1 shapeCasts_S8x1x2048_S8x2048⟩, ⟨S8x2048, shapeCast S8x2048 A2 shapeCasts_S8x1x2048_S8x2048⟩, ⟨S8x2048, shapeCast S8x2048 A3 shapeCasts_S8x1x2048_S8x2048⟩, ⟨S8x262144, shapeCast S8x262144 A4 shapeCasts_S8x16x128x128_S8x262144⟩, ⟨S8x2048, shapeCast S8x2048 A5 shapeCasts_S8x16x128_S8x2048⟩, ⟨S8x16896, shapeCast S8x16896 A6 shapeCasts_S8x3x5632_S8x16896⟩, ⟨S8x16896, shapeCast S8x16896 A7 shapeCasts_S8x3x5632_S8x16896⟩, ⟨S8x5632, shapeCast S8x5632 A8 shapeCasts_S8x1x5632_S8x5632⟩, ⟨S8x5632, shapeCast S8x5632 A9 shapeCasts_S8x1x5632_S8x5632⟩, ⟨S8x2048, shapeCast S8x2048 A10 shapeCasts_S8x1x2048_S8x2048⟩, ⟨S8x2048, shapeCast S8x2048 A11 shapeCasts_S8x1x2048_S8x2048⟩, ⟨S8x2048, shapeCast S8x2048 A12 shapeCasts_S8x1x2048_S8x2048⟩, ⟨S8x2048, shapeCast S8x2048 A13 shapeCasts_S8x1x2048_S8x2048⟩, ⟨S8x2048, shapeCast S8x2048 A14 shapeCasts_S8x1x2048_S8x2048⟩, ⟨S8x2048, shapeCast S8x2048 A15 shapeCasts_S8x1x2048_S8x2048⟩] concatenates_S8x6144_S8x2048_S8x2048_S8x2048_S8x262144_S8x2048_S8x16896_S8x16896_S8x5632_S8x5632_S8x2048_S8x2048_S8x2048_S8x2048_S8x2048_S8x2048_S8x333824_d1
/-- The last two, packed. -/
def packB : FVec Ideal S8x4096 .f32 := concatenate S8x4096 1 [⟨S8x2048, shapeCast S8x2048 A16 shapeCasts_S8x1x2048_S8x2048⟩, ⟨S8x2048, shapeCast S8x2048 A17 shapeCasts_S8x1x2048_S8x2048⟩] concatenates_S8x2048_S8x2048_S8x4096_d1
/-- All of them, packed. -/
def packed : FVec Ideal S8x337920 .f32 := concatenate S8x337920 1 [⟨S8x333824, packA A0 A1 A2 A3 A4 A5 A6 A7 A8 A9 A10 A11 A12 A13 A14 A15⟩, ⟨S8x4096, packB A16 A17⟩] concatenates_S8x333824_S8x4096_S8x337920_d1
end

/-- The packed array's sums over the devices. -/
def total (X : FVec Ideal S8x337920 .f32) : FVec Ideal S337920 .f32 := fun i => ∑ k : Fin 8, X (ix2 k (i 0))

variable (m : (ℓ : Loc nD τ sig) → Buf (Elt Ideal) ℓ) (c : Dev nD)

/-- The packed arguments. -/
abbrev argX : FVec Ideal S8x337920 .f32 := packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

theorem entry : V m c main_v21 = shapeCast S8x2640x128 (argX m c) shapeCasts_S8x337920_S8x2640x128 := by
  show StableHlo.after hostOps0 (fun b => m (c, b)) (Proc.devRef .tc main_v21) = _
  after_results_simp <;> rfl

/-- The call's result. -/
abbrev red : FVec Ideal S2640x128 .f32 := (dats m 0 c).arrAt 1 cfg0.N

theorem at0 : ∀ t : Fin cfg0.N, win0_0.index t = ![0, 0, 0] := (by decide +kernel : ∀ t : Fin grid0.N, _)
theorem at1 : ∀ t : Fin cfg0.N, win0_1.index t = ![0, 0] := (by decide +kernel : ∀ t : Fin grid0.N, _)
theorem points (t : Fin cfg0.N) : t.val = 0 := by have := t.isLt.trans_eq N_0; omega

theorem blk (t : Fin cfg0.N) (k : Fin 8) (r : Fin 2640) (l : Fin 128) :
    iblk m c 0 t (ix3 k r l) = argX m c (ix2 k ⟨r.val * 128 + l.val, by omega⟩) := by
  have e : iblk m c 0 t (ix3 k r l) = V m c main_v21 (ix3 k r l) := by
    blk_ext! [iblk, at0 t]
  rw [e, entry]
  generalize argX m c = X
  pointwise

/-- The sums as the call's shape holds them. -/
def res (X : FVec Ideal S8x337920 .f32) : FVec Ideal S2640x128 .f32 := fun i =>
  ∑ k : Fin 8, X (ix2 k ⟨(i 0).val * 128 + (i 1).val, by have h0 : (i 0).val < 2640 := (i 0).isLt; have h1 : (i 1).val < 128 := (i 1).isLt; omega⟩)

theorem res_at (X : FVec Ideal S8x337920 .f32) (r : Fin 2640) (l : Fin 128) :
    res X (ix2 r l) = ∑ k : Fin 8, X (ix2 k ⟨r.val * 128 + l.val, by omega⟩) := rfl

theorem out1 (t : Fin cfg0.N) (r : Fin 2640) (l : Fin 128) : out0_1 (iblk m c 0 t) (ix2 r l) = res (argX m c) (ix2 r l) := by
  unfold out0_1
  frame_out
  pointwise [k0_pay1]
  simp only [blk]
  generalize argX m c = X
  rw [res_at, Fin.sum_univ_eight]

theorem red_eq : red m c = res (argX m c) := by
  refine (dats m 0 c).arrAt_eq_of_covers 1 _ (by decide +kernel) fun t hf y => ?_
  blk_simp
  rw [after0_1]
  idx_vars y
  refine (out1 m c t y0 y1).trans ?_
  generalize res (argX m c) = R
  blk_ext! [at1 t]

theorem flat (X : FVec Ideal S8x337920 .f32) : shapeCast S337920 (res X) shapeCasts_S2640x128_S337920 = total X := by
  funext i
  idx_vars i
  pointwise
  rw [res_at]
  refine Finset.sum_congr rfl fun k _ => congrArg X (congrArg (ix2 k) (Fin.ext ?_))
  exact Nat.div_add_mod' i0.val 128

theorem left : Pipeline.withArrays (cfgs 0).spec c (V0 m c) (fun w => (dats m 0 c).arrAt w (cfgs 0).N) (Proc.devRef .tc main_v22) = red m c :=
  Pipeline.withArrays_arr (cfgs 0).spec launch0.win.arr_inj c (V0 m c) (fun w => (dats m 0 c).arrAt w (cfgs 0).N) 1

/-! ## The unpacked results -/

section
variable (T : FVec Ideal S337920 .f32)
/-- Result `main_v25` from the flat sums. -/
def o25 : FVec Ideal S3x2048 .f32 := shapeCast S3x2048 (extractStridedSlice S6144 ![0] T slices_S337920_S6144_0) shapeCasts_S6144_S3x2048
/-- Result `main_v27` from the flat sums. -/
def o27 : FVec Ideal S1x2048 .f32 := shapeCast S1x2048 (extractStridedSlice S2048 ![6144] T slices_S337920_S2048_6144) shapeCasts_S2048_S1x2048
/-- Result `main_v29` from the flat sums. -/
def o29 : FVec Ideal S1x2048 .f32 := shapeCast S1x2048 (extractStridedSlice S2048 ![8192] T slices_S337920_S2048_8192) shapeCasts_S2048_S1x2048
/-- Result `main_v31` from the flat sums. -/
def o31 : FVec Ideal S1x2048 .f32 := shapeCast S1x2048 (extractStridedSlice S2048 ![10240] T slices_S337920_S2048_10240) shapeCasts_S2048_S1x2048
/-- Result `main_v60` from the flat sums. -/
def o60 : FVec Ideal S1x16x128x128 .f32 := broadcastInDim S1x16x128x128 ![1, 2, 3] bcast_S16x128x128_S1x16x128x128_1_2_3 (shapeCast S16x128x128 (extractStridedSlice S262144 ![12288] T slices_S337920_S262144_12288) shapeCasts_S262144_S16x128x128)
/-- Result `main_v61` from the flat sums. -/
def o61 : FVec Ideal S1x16x128 .f32 := broadcastInDim S1x16x128 ![1, 2] bcast_S16x128_S1x16x128_1_2 (shapeCast S16x128 (extractStridedSlice S2048 ![274432] T slices_S337920_S2048_274432) shapeCasts_S2048_S16x128)
/-- Result `main_v64` from the flat sums. -/
def o64 : FVec Ideal S2x3x5632 .f32 := concatenate S2x3x5632 0 [⟨S1x3x5632, broadcastInDim S1x3x5632 ![1, 2] bcast_S3x5632_S1x3x5632_1_2 (shapeCast S3x5632 (extractStridedSlice S16896 ![276480] T slices_S337920_S16896_276480) shapeCasts_S16896_S3x5632)⟩, ⟨S1x3x5632, broadcastInDim S1x3x5632 ![1, 2] bcast_S3x5632_S1x3x5632_1_2 (shapeCast S3x5632 (extractStridedSlice S16896 ![293376] T slices_S337920_S16896_293376) shapeCasts_S16896_S3x5632)⟩] concatenates_S1x3x5632_S1x3x5632_S2x3x5632_d0
/-- Result `main_v65` from the flat sums. -/
def o65 : FVec Ideal S2x5632 .f32 := concatenate S2x5632 0 [⟨S1x5632, shapeCast S1x5632 (extractStridedSlice S5632 ![310272] T slices_S337920_S5632_310272) shapeCasts_S5632_S1x5632⟩, ⟨S1x5632, shapeCast S1x5632 (extractStridedSlice S5632 ![315904] T slices_S337920_S5632_315904) shapeCasts_S5632_S1x5632⟩] concatenates_S1x5632_S1x5632_S2x5632_d0
/-- Result `main_v66` from the flat sums. -/
def o66 : FVec Ideal S2x2048 .f32 := concatenate S2x2048 0 [⟨S1x2048, shapeCast S1x2048 (extractStridedSlice S2048 ![321536] T slices_S337920_S2048_321536) shapeCasts_S2048_S1x2048⟩, ⟨S1x2048, shapeCast S1x2048 (extractStridedSlice S2048 ![323584] T slices_S337920_S2048_323584) shapeCasts_S2048_S1x2048⟩] concatenates_S1x2048_S1x2048_S2x2048_d0
/-- Result `main_v67` from the flat sums. -/
def o67 : FVec Ideal S2x2048 .f32 := concatenate S2x2048 0 [⟨S1x2048, shapeCast S1x2048 (extractStridedSlice S2048 ![325632] T slices_S337920_S2048_325632) shapeCasts_S2048_S1x2048⟩, ⟨S1x2048, shapeCast S1x2048 (extractStridedSlice S2048 ![327680] T slices_S337920_S2048_327680) shapeCasts_S2048_S1x2048⟩] concatenates_S1x2048_S1x2048_S2x2048_d0
/-- Result `main_v68` from the flat sums. -/
def o68 : FVec Ideal S2x2048 .f32 := concatenate S2x2048 0 [⟨S1x2048, shapeCast S1x2048 (extractStridedSlice S2048 ![329728] T slices_S337920_S2048_329728) shapeCasts_S2048_S1x2048⟩, ⟨S1x2048, shapeCast S1x2048 (extractStridedSlice S2048 ![331776] T slices_S337920_S2048_331776) shapeCasts_S2048_S1x2048⟩] concatenates_S1x2048_S1x2048_S2x2048_d0
/-- Result `main_v69` from the flat sums. -/
def o69 : FVec Ideal S2x2048 .f32 := concatenate S2x2048 0 [⟨S1x2048, shapeCast S1x2048 (extractStridedSlice S2048 ![333824] T slices_S337920_S2048_333824) shapeCasts_S2048_S1x2048⟩, ⟨S1x2048, shapeCast S1x2048 (extractStridedSlice S2048 ![335872] T slices_S337920_S2048_335872) shapeCasts_S2048_S1x2048⟩] concatenates_S1x2048_S1x2048_S2x2048_d0
end

variable (W : Valuation τ sig (Elt Ideal))

theorem tail25 : StableHlo.after hostOps1 W (Proc.devRef .tc main_v25) = o25 (shapeCast S337920 (W (Proc.devRef .tc main_v22)) shapeCasts_S2640x128_S337920) := by
  after_results_simp <;> rfl
theorem tail27 : StableHlo.after hostOps1 W (Proc.devRef .tc main_v27) = o27 (shapeCast S337920 (W (Proc.devRef .tc main_v22)) shapeCasts_S2640x128_S337920) := by
  after_results_simp <;> rfl
theorem tail29 : StableHlo.after hostOps1 W (Proc.devRef .tc main_v29) = o29 (shapeCast S337920 (W (Proc.devRef .tc main_v22)) shapeCasts_S2640x128_S337920) := by
  after_results_simp <;> rfl
theorem tail31 : StableHlo.after hostOps1 W (Proc.devRef .tc main_v31) = o31 (shapeCast S337920 (W (Proc.devRef .tc main_v22)) shapeCasts_S2640x128_S337920) := by
  after_results_simp <;> rfl
theorem tail60 : StableHlo.after hostOps1 W (Proc.devRef .tc main_v60) = o60 (shapeCast S337920 (W (Proc.devRef .tc main_v22)) shapeCasts_S2640x128_S337920) := by
  after_results_simp <;> rfl
theorem tail61 : StableHlo.after hostOps1 W (Proc.devRef .tc main_v61) = o61 (shapeCast S337920 (W (Proc.devRef .tc main_v22)) shapeCasts_S2640x128_S337920) := by
  after_results_simp <;> rfl
theorem tail64 : StableHlo.after hostOps1 W (Proc.devRef .tc main_v64) = o64 (shapeCast S337920 (W (Proc.devRef .tc main_v22)) shapeCasts_S2640x128_S337920) := by
  after_results_simp <;> rfl
theorem tail65 : StableHlo.after hostOps1 W (Proc.devRef .tc main_v65) = o65 (shapeCast S337920 (W (Proc.devRef .tc main_v22)) shapeCasts_S2640x128_S337920) := by
  after_results_simp <;> rfl
theorem tail66 : StableHlo.after hostOps1 W (Proc.devRef .tc main_v66) = o66 (shapeCast S337920 (W (Proc.devRef .tc main_v22)) shapeCasts_S2640x128_S337920) := by
  after_results_simp <;> rfl
theorem tail67 : StableHlo.after hostOps1 W (Proc.devRef .tc main_v67) = o67 (shapeCast S337920 (W (Proc.devRef .tc main_v22)) shapeCasts_S2640x128_S337920) := by
  after_results_simp <;> rfl
theorem tail68 : StableHlo.after hostOps1 W (Proc.devRef .tc main_v68) = o68 (shapeCast S337920 (W (Proc.devRef .tc main_v22)) shapeCasts_S2640x128_S337920) := by
  after_results_simp <;> rfl
theorem tail69 : StableHlo.after hostOps1 W (Proc.devRef .tc main_v69) = o69 (shapeCast S337920 (W (Proc.devRef .tc main_v22)) shapeCasts_S2640x128_S337920) := by
  after_results_simp <;> rfl

theorem toFlat {α : Type} (f : FVec Ideal S337920 .f32 → α) : f (shapeCast S337920 (Pipeline.withArrays (cfgs 0).spec c (V0 m c) (fun w => (dats m 0 c).arrAt w (cfgs 0).N) (Proc.devRef .tc main_v22)) shapeCasts_S2640x128_S337920) = f (total (argX m c)) := by
  rw [left, red_eq, flat]

/-- What a run leaves in the results. -/
theorem run_results (ρ : Dev nD → PrngReg) : θ_run defs (onTc (τ := τ) (main (F := Ideal))) (s₀ m ρ) (fun r => ∀ c : Dev nD,
      r.2.mem ((c : Thread nD τ).loc main_v25) = o25 (total (argX m c))
      ∧ r.2.mem ((c : Thread nD τ).loc main_v27) = o27 (total (argX m c))
      ∧ r.2.mem ((c : Thread nD τ).loc main_v29) = o29 (total (argX m c))
      ∧ r.2.mem ((c : Thread nD τ).loc main_v31) = o31 (total (argX m c))
      ∧ r.2.mem ((c : Thread nD τ).loc main_v60) = o60 (total (argX m c))
      ∧ r.2.mem ((c : Thread nD τ).loc main_v61) = o61 (total (argX m c))
      ∧ r.2.mem ((c : Thread nD τ).loc main_v64) = o64 (total (argX m c))
      ∧ r.2.mem ((c : Thread nD τ).loc main_v65) = o65 (total (argX m c))
      ∧ r.2.mem ((c : Thread nD τ).loc main_v66) = o66 (total (argX m c))
      ∧ r.2.mem ((c : Thread nD τ).loc main_v67) = o67 (total (argX m c))
      ∧ r.2.mem ((c : Thread nD τ).loc main_v68) = o68 (total (argX m c))
      ∧ r.2.mem ((c : Thread nD τ).loc main_v69) = o69 (total (argX m c))) :=
  (θ_run defs _ _).mono (fun _ h c => ⟨(h.rest_eq c main_v25 (by decide)).trans ((tail25 _).trans (toFlat m c o25)),
      (h.rest_eq c main_v27 (by decide)).trans ((tail27 _).trans (toFlat m c o27)),
      (h.rest_eq c main_v29 (by decide)).trans ((tail29 _).trans (toFlat m c o29)),
      (h.rest_eq c main_v31 (by decide)).trans ((tail31 _).trans (toFlat m c o31)),
      (h.rest_eq c main_v60 (by decide)).trans ((tail60 _).trans (toFlat m c o60)),
      (h.rest_eq c main_v61 (by decide)).trans ((tail61 _).trans (toFlat m c o61)),
      (h.rest_eq c main_v64 (by decide)).trans ((tail64 _).trans (toFlat m c o64)),
      (h.rest_eq c main_v65 (by decide)).trans ((tail65 _).trans (toFlat m c o65)),
      (h.rest_eq c main_v66 (by decide)).trans ((tail66 _).trans (toFlat m c o66)),
      (h.rest_eq c main_v67 (by decide)).trans ((tail67 _).trans (toFlat m c o67)),
      (h.rest_eq c main_v68 (by decide)).trans ((tail68 _).trans (toFlat m c o68)),
      (h.rest_eq c main_v69 (by decide)).trans ((tail69 _).trans (toFlat m c o69))⟩) (run_main m ρ)

end Cert.SumSmallIdeal.Sum

end
-- ==== Proof.Ln.Unpack.lean ====
/- Where each array lies in the packed one, and the reference's sums. -/
module

public import proofs.«01_k».proof.Proof.Ln.Sum

@[expose] public section

set_option maxRecDepth 16384
set_option maxHeartbeats 1000000

noncomputable section

namespace Cert.SumSmallIdeal.Sum

open Cert.SumSmallIdeal Cert.SumSmallIdeal.Gen Idealize.ShloMosaic Idealize.ShloMosaic.TcCoe Idealize.SL.Sem

/-! ## Where each array lies in the packed one -/

section
variable {A0 : FVec Ideal S8x3x2048 .f32} {A1 : FVec Ideal S8x1x2048 .f32} {A2 : FVec Ideal S8x1x2048 .f32} {A3 : FVec Ideal S8x1x2048 .f32} {A4 : FVec Ideal S8x16x128x128 .f32} {A5 : FVec Ideal S8x16x128 .f32} {A6 : FVec Ideal S8x3x5632 .f32} {A7 : FVec Ideal S8x3x5632 .f32} {A8 : FVec Ideal S8x1x5632 .f32} {A9 : FVec Ideal S8x1x5632 .f32} {A10 : FVec Ideal S8x1x2048 .f32} {A11 : FVec Ideal S8x1x2048 .f32} {A12 : FVec Ideal S8x1x2048 .f32} {A13 : FVec Ideal S8x1x2048 .f32} {A14 : FVec Ideal S8x1x2048 .f32} {A15 : FVec Ideal S8x1x2048 .f32} {A16 : FVec Ideal S8x1x2048 .f32} {A17 : FVec Ideal S8x1x2048 .f32}

theorem off {n n' : Nat} {k : Fin 8} {p : Fin n} {q : Fin n'} : ∀ b : Fin 2, b ≠ 1 → ((ix2 k p : (⟨2, ![8, n]⟩ : Shape).Idx) b).val = ((ix2 k q : (⟨2, ![8, n']⟩ : Shape).Idx) b).val :=
  Fin.forall_fin_two.2 ⟨fun _ => rfl, fun hb => absurd rfl hb⟩

/-- One part of arrays joined side by side. -/
theorem part {n m : Nat} (xs : List ((s : Shape) × (s.Idx → EReal))) (h : Shape.Concatenates (xs.map (·.1)) (⟨2, ![8, n]⟩ : Shape) 1)
    (i : Nat) (hi : i < xs.length) (x : (⟨2, ![8, m]⟩ : Shape).Idx → EReal) (hx : xs[i] = ⟨⟨2, ![8, m]⟩, x⟩) (ss : List Shape) (hs : xs.map (·.1) = ss) (o : Nat)
    (ho : ((ss.take i).map fun s => if h : s.rank = (⟨2, ![8, n]⟩ : Shape).rank then s.size ((1 : Fin 2).cast h.symm) else 0).sum = o)
    (k : Fin 8) (l : Fin m) (p : Fin n) (e : o + l.val = p.val) : concatenate (⟨2, ![8, n]⟩ : Shape) 1 xs h (ix2 k p) = x (ix2 k l) := by
  subst hs
  rw [← List.map_take] at ho
  exact concatenate_apply_piece (t := (⟨2, ![8, n]⟩ : Shape)) 1 xs h (ix2 k p) i hi _ x hx rfl o ho (ix2 k l) off e

/-- The widths of the arrays of the first and of the second group. -/
abbrev shapesA : List Shape := [S8x6144, S8x2048, S8x2048, S8x2048, S8x262144, S8x2048, S8x16896, S8x16896, S8x5632, S8x5632, S8x2048, S8x2048, S8x2048, S8x2048, S8x2048, S8x2048]
abbrev shapesB : List Shape := [S8x2048, S8x2048]

variable {X : FVec Ideal S8x337920 .f32} (hX : X = packed A0 A1 A2 A3 A4 A5 A6 A7 A8 A9 A10 A11 A12 A13 A14 A15 A16 A17)
include hX

theorem inA (k : Fin 8) (q : Fin 337920) (p : Fin 333824) (h : p.val = q.val) : X (ix2 k q) = packA A0 A1 A2 A3 A4 A5 A6 A7 A8 A9 A10 A11 A12 A13 A14 A15 (ix2 k p) := by
  subst hX
  exact part _ _ 0 (Nat.le_of_ble_eq_true rfl) _ rfl [S8x333824, S8x4096] rfl 0 rfl k p q ((Nat.zero_add _).trans h)

theorem inB (k : Fin 8) (q : Fin 337920) (p : Fin 4096) (h : 333824 + p.val = q.val) : X (ix2 k q) = packB A16 A17 (ix2 k p) := by
  subst hX
  exact part _ _ 1 (Nat.le_of_ble_eq_true rfl) _ rfl [S8x333824, S8x4096] rfl 333824 (by decide +kernel) k p q h

theorem piece0 (k : Fin 8) (x : Fin 3) (y : Fin 2048) (q : Fin 337920) (h : q.val = 0 + (x.val * 2048 + y.val)) : X (ix2 k q) = A0 (ix3 k x y) := by
  rw [inA hX k q ⟨q.val, by omega⟩ rfl, packA]
  refine Eq.trans (part _ _ 0 (Nat.le_of_ble_eq_true rfl) (shapeCast S8x6144 A0 shapeCasts_S8x3x2048_S8x6144) rfl shapesA rfl 0 (by decide +kernel)
    k ⟨x.val * 2048 + y.val, by omega⟩ _ h.symm) ?_
  pointwise
theorem piece1 (k : Fin 8) (y : Fin 2048) (q : Fin 337920) (h : q.val = 6144 + (y.val)) : X (ix2 k q) = A1 (ix3 k 0 y) := by
  rw [inA hX k q ⟨q.val, by omega⟩ rfl, packA]
  refine Eq.trans (part _ _ 1 (Nat.le_of_ble_eq_true rfl) (shapeCast S8x2048 A1 shapeCasts_S8x1x2048_S8x2048) rfl shapesA rfl 6144 (by decide +kernel)
    k ⟨y.val, by omega⟩ _ h.symm) ?_
  pointwise
theorem piece2 (k : Fin 8) (y : Fin 2048) (q : Fin 337920) (h : q.val = 8192 + (y.val)) : X (ix2 k q) = A2 (ix3 k 0 y) := by
  rw [inA hX k q ⟨q.val, by omega⟩ rfl, packA]
  refine Eq.trans (part _ _ 2 (Nat.le_of_ble_eq_true rfl) (shapeCast S8x2048 A2 shapeCasts_S8x1x2048_S8x2048) rfl shapesA rfl 8192 (by decide +kernel)
    k ⟨y.val, by omega⟩ _ h.symm) ?_
  pointwise
theorem piece3 (k : Fin 8) (y : Fin 2048) (q : Fin 337920) (h : q.val = 10240 + (y.val)) : X (ix2 k q) = A3 (ix3 k 0 y) := by
  rw [inA hX k q ⟨q.val, by omega⟩ rfl, packA]
  refine Eq.trans (part _ _ 3 (Nat.le_of_ble_eq_true rfl) (shapeCast S8x2048 A3 shapeCasts_S8x1x2048_S8x2048) rfl shapesA rfl 10240 (by decide +kernel)
    k ⟨y.val, by omega⟩ _ h.symm) ?_
  pointwise
theorem piece4 (k : Fin 8) (x : Fin 16) (y : Fin 128) (z : Fin 128) (q : Fin 337920) (h : q.val = 12288 + (x.val * 16384 + y.val * 128 + z.val)) : X (ix2 k q) = A4 (ix4 k x y z) := by
  rw [inA hX k q ⟨q.val, by omega⟩ rfl, packA]
  refine Eq.trans (part _ _ 4 (Nat.le_of_ble_eq_true rfl) (shapeCast S8x262144 A4 shapeCasts_S8x16x128x128_S8x262144) rfl shapesA rfl 12288 (by decide +kernel)
    k ⟨x.val * 16384 + y.val * 128 + z.val, by omega⟩ _ h.symm) ?_
  pointwise
theorem piece5 (k : Fin 8) (x : Fin 16) (y : Fin 128) (q : Fin 337920) (h : q.val = 274432 + (x.val * 128 + y.val)) : X (ix2 k q) = A5 (ix3 k x y) := by
  rw [inA hX k q ⟨q.val, by omega⟩ rfl, packA]
  refine Eq.trans (part _ _ 5 (Nat.le_of_ble_eq_true rfl) (shapeCast S8x2048 A5 shapeCasts_S8x16x128_S8x2048) rfl shapesA rfl 274432 (by decide +kernel)
    k ⟨x.val * 128 + y.val, by omega⟩ _ h.symm) ?_
  pointwise
theorem piece6 (k : Fin 8) (x : Fin 3) (y : Fin 5632) (q : Fin 337920) (h : q.val = 276480 + (x.val * 5632 + y.val)) : X (ix2 k q) = A6 (ix3 k x y) := by
  rw [inA hX k q ⟨q.val, by omega⟩ rfl, packA]
  refine Eq.trans (part _ _ 6 (Nat.le_of_ble_eq_true rfl) (shapeCast S8x16896 A6 shapeCasts_S8x3x5632_S8x16896) rfl shapesA rfl 276480 (by decide +kernel)
    k ⟨x.val * 5632 + y.val, by omega⟩ _ h.symm) ?_
  pointwise
theorem piece7 (k : Fin 8) (x : Fin 3) (y : Fin 5632) (q : Fin 337920) (h : q.val = 293376 + (x.val * 5632 + y.val)) : X (ix2 k q) = A7 (ix3 k x y) := by
  rw [inA hX k q ⟨q.val, by omega⟩ rfl, packA]
  refine Eq.trans (part _ _ 7 (Nat.le_of_ble_eq_true rfl) (shapeCast S8x16896 A7 shapeCasts_S8x3x5632_S8x16896) rfl shapesA rfl 293376 (by decide +kernel)
    k ⟨x.val * 5632 + y.val, by omega⟩ _ h.symm) ?_
  pointwise
theorem piece8 (k : Fin 8) (y : Fin 5632) (q : Fin 337920) (h : q.val = 310272 + (y.val)) : X (ix2 k q) = A8 (ix3 k 0 y) := by
  rw [inA hX k q ⟨q.val, by omega⟩ rfl, packA]
  refine Eq.trans (part _ _ 8 (Nat.le_of_ble_eq_true rfl) (shapeCast S8x5632 A8 shapeCasts_S8x1x5632_S8x5632) rfl shapesA rfl 310272 (by decide +kernel)
    k ⟨y.val, by omega⟩ _ h.symm) ?_
  pointwise
theorem piece9 (k : Fin 8) (y : Fin 5632) (q : Fin 337920) (h : q.val = 315904 + (y.val)) : X (ix2 k q) = A9 (ix3 k 0 y) := by
  rw [inA hX k q ⟨q.val, by omega⟩ rfl, packA]
  refine Eq.trans (part _ _ 9 (Nat.le_of_ble_eq_true rfl) (shapeCast S8x5632 A9 shapeCasts_S8x1x5632_S8x5632) rfl shapesA rfl 315904 (by decide +kernel)
    k ⟨y.val, by omega⟩ _ h.symm) ?_
  pointwise
theorem piece10 (k : Fin 8) (y : Fin 2048) (q : Fin 337920) (h : q.val = 321536 + (y.val)) : X (ix2 k q) = A10 (ix3 k 0 y) := by
  rw [inA hX k q ⟨q.val, by omega⟩ rfl, packA]
  refine Eq.trans (part _ _ 10 (Nat.le_of_ble_eq_true rfl) (shapeCast S8x2048 A10 shapeCasts_S8x1x2048_S8x2048) rfl shapesA rfl 321536 (by decide +kernel)
    k ⟨y.val, by omega⟩ _ h.symm) ?_
  pointwise
theorem piece11 (k : Fin 8) (y : Fin 2048) (q : Fin 337920) (h : q.val = 323584 + (y.val)) : X (ix2 k q) = A11 (ix3 k 0 y) := by
  rw [inA hX k q ⟨q.val, by omega⟩ rfl, packA]
  refine Eq.trans (part _ _ 11 (Nat.le_of_ble_eq_true rfl) (shapeCast S8x2048 A11 shapeCasts_S8x1x2048_S8x2048) rfl shapesA rfl 323584 (by decide +kernel)
    k ⟨y.val, by omega⟩ _ h.symm) ?_
  pointwise
theorem piece12 (k : Fin 8) (y : Fin 2048) (q : Fin 337920) (h : q.val = 325632 + (y.val)) : X (ix2 k q) = A12 (ix3 k 0 y) := by
  rw [inA hX k q ⟨q.val, by omega⟩ rfl, packA]
  refine Eq.trans (part _ _ 12 (Nat.le_of_ble_eq_true rfl) (shapeCast S8x2048 A12 shapeCasts_S8x1x2048_S8x2048) rfl shapesA rfl 325632 (by decide +kernel)
    k ⟨y.val, by omega⟩ _ h.symm) ?_
  pointwise
theorem piece13 (k : Fin 8) (y : Fin 2048) (q : Fin 337920) (h : q.val = 327680 + (y.val)) : X (ix2 k q) = A13 (ix3 k 0 y) := by
  rw [inA hX k q ⟨q.val, by omega⟩ rfl, packA]
  refine Eq.trans (part _ _ 13 (Nat.le_of_ble_eq_true rfl) (shapeCast S8x2048 A13 shapeCasts_S8x1x2048_S8x2048) rfl shapesA rfl 327680 (by decide +kernel)
    k ⟨y.val, by omega⟩ _ h.symm) ?_
  pointwise
theorem piece14 (k : Fin 8) (y : Fin 2048) (q : Fin 337920) (h : q.val = 329728 + (y.val)) : X (ix2 k q) = A14 (ix3 k 0 y) := by
  rw [inA hX k q ⟨q.val, by omega⟩ rfl, packA]
  refine Eq.trans (part _ _ 14 (Nat.le_of_ble_eq_true rfl) (shapeCast S8x2048 A14 shapeCasts_S8x1x2048_S8x2048) rfl shapesA rfl 329728 (by decide +kernel)
    k ⟨y.val, by omega⟩ _ h.symm) ?_
  pointwise
theorem piece15 (k : Fin 8) (y : Fin 2048) (q : Fin 337920) (h : q.val = 331776 + (y.val)) : X (ix2 k q) = A15 (ix3 k 0 y) := by
  rw [inA hX k q ⟨q.val, by omega⟩ rfl, packA]
  refine Eq.trans (part _ _ 15 (Nat.le_of_ble_eq_true rfl) (shapeCast S8x2048 A15 shapeCasts_S8x1x2048_S8x2048) rfl shapesA rfl 331776 (by decide +kernel)
    k ⟨y.val, by omega⟩ _ h.symm) ?_
  pointwise
theorem piece16 (k : Fin 8) (y : Fin 2048) (q : Fin 337920) (h : q.val = 333824 + (y.val)) : X (ix2 k q) = A16 (ix3 k 0 y) := by
  rw [inB hX k q ⟨q.val - 333824, by omega⟩ (by show 333824 + (q.val - 333824) = q.val; omega), packB]
  refine Eq.trans (part _ _ 0 (Nat.le_of_ble_eq_true rfl) (shapeCast S8x2048 A16 shapeCasts_S8x1x2048_S8x2048) rfl shapesB rfl 0 (by decide +kernel)
    k ⟨y.val, by omega⟩ _ (by show 0 + y.val = q.val - 333824; omega)) ?_
  pointwise
theorem piece17 (k : Fin 8) (y : Fin 2048) (q : Fin 337920) (h : q.val = 335872 + (y.val)) : X (ix2 k q) = A17 (ix3 k 0 y) := by
  rw [inB hX k q ⟨q.val - 333824, by omega⟩ (by show 333824 + (q.val - 333824) = q.val; omega), packB]
  refine Eq.trans (part _ _ 1 (Nat.le_of_ble_eq_true rfl) (shapeCast S8x2048 A17 shapeCasts_S8x1x2048_S8x2048) rfl shapesB rfl 2048 (by decide +kernel)
    k ⟨y.val, by omega⟩ _ (by show 2048 + y.val = q.val - 333824; omega)) ?_
  pointwise
end

end Cert.SumSmallIdeal.Sum

namespace Cert.SumSmallRefIdeal.Sum

open Cert.SumSmallRefIdeal Cert.SumSmallRefIdeal.Gen Cert.SumSmallIdeal.Sum Idealize.ShloMosaic Idealize.ShloMosaic.TcCoe Idealize.SL.Sem

/-! ## The reference's sums -/

section
variable (A0 : FVec Ideal S8x3x2048 .f32) (A1 : FVec Ideal S8x1x2048 .f32) (A2 : FVec Ideal S8x1x2048 .f32) (A3 : FVec Ideal S8x1x2048 .f32) (A4 : FVec Ideal S8x16x128x128 .f32) (A5 : FVec Ideal S8x16x128 .f32) (A6 : FVec Ideal S8x3x5632 .f32) (A7 : FVec Ideal S8x3x5632 .f32) (A8 : FVec Ideal S8x1x5632 .f32) (A9 : FVec Ideal S8x1x5632 .f32) (A10 : FVec Ideal S8x1x2048 .f32) (A11 : FVec Ideal S8x1x2048 .f32) (A12 : FVec Ideal S8x1x2048 .f32) (A13 : FVec Ideal S8x1x2048 .f32) (A14 : FVec Ideal S8x1x2048 .f32) (A15 : FVec Ideal S8x1x2048 .f32) (A16 : FVec Ideal S8x1x2048 .f32) (A17 : FVec Ideal S8x1x2048 .f32)

end

theorem packed_congr {A0 B0 : FVec Ideal S8x3x2048 .f32} {A1 B1 : FVec Ideal S8x1x2048 .f32} {A2 B2 : FVec Ideal S8x1x2048 .f32} {A3 B3 : FVec Ideal S8x1x2048 .f32} {A4 B4 : FVec Ideal S8x16x128x128 .f32} {A5 B5 : FVec Ideal S8x16x128 .f32} {A6 B6 : FVec Ideal S8x3x5632 .f32} {A7 B7 : FVec Ideal S8x3x5632 .f32} {A8 B8 : FVec Ideal S8x1x5632 .f32} {A9 B9 : FVec Ideal S8x1x5632 .f32} {A10 B10 : FVec Ideal S8x1x2048 .f32} {A11 B11 : FVec Ideal S8x1x2048 .f32} {A12 B12 : FVec Ideal S8x1x2048 .f32} {A13 B13 : FVec Ideal S8x1x2048 .f32} {A14 B14 : FVec Ideal S8x1x2048 .f32} {A15 B15 : FVec Ideal S8x1x2048 .f32} {A16 B16 : FVec Ideal S8x1x2048 .f32} {A17 B17 : FVec Ideal S8x1x2048 .f32} (e0 : A0 = B0) (e1 : A1 = B1) (e2 : A2 = B2) (e3 : A3 = B3) (e4 : A4 = B4) (e5 : A5 = B5) (e6 : A6 = B6) (e7 : A7 = B7) (e8 : A8 = B8) (e9 : A9 = B9) (e10 : A10 = B10) (e11 : A11 = B11) (e12 : A12 = B12) (e13 : A13 = B13) (e14 : A14 = B14) (e15 : A15 = B15) (e16 : A16 = B16) (e17 : A17 = B17) :
    packed A0 A1 A2 A3 A4 A5 A6 A7 A8 A9 A10 A11 A12 A13 A14 A15 A16 A17 = packed B0 B1 B2 B3 B4 B5 B6 B7 B8 B9 B10 B11 B12 B13 B14 B15 B16 B17 := by
  subst e0 e1 e2 e3 e4 e5 e6 e7 e8 e9 e10 e11 e12 e13 e14 e15 e16 e17
  rfl

section
variable (A0 : FVec Ideal S8x3x2048 .f32) (A1 : FVec Ideal S8x1x2048 .f32) (A2 : FVec Ideal S8x1x2048 .f32) (A3 : FVec Ideal S8x1x2048 .f32) (A4 : FVec Ideal S8x16x128x128 .f32) (A5 : FVec Ideal S8x16x128 .f32) (A6 : FVec Ideal S8x3x5632 .f32) (A7 : FVec Ideal S8x3x5632 .f32) (A8 : FVec Ideal S8x1x5632 .f32) (A9 : FVec Ideal S8x1x5632 .f32) (A10 : FVec Ideal S8x1x2048 .f32) (A11 : FVec Ideal S8x1x2048 .f32) (A12 : FVec Ideal S8x1x2048 .f32) (A13 : FVec Ideal S8x1x2048 .f32) (A14 : FVec Ideal S8x1x2048 .f32) (A15 : FVec Ideal S8x1x2048 .f32) (A16 : FVec Ideal S8x1x2048 .f32) (A17 : FVec Ideal S8x1x2048 .f32)

theorem ref25 : o25 (total (packed A0 A1 A2 A3 A4 A5 A6 A7 A8 A9 A10 A11 A12 A13 A14 A15 A16 A17)) = Host.reduceAdd A0 (constant S_ .f32 0x00000000#32) reducesTo_S8x3x2048_S3x2048_d0 h_S_ := by
  funext i
  idx_vars i
  pointwise [o25]
  refine Finset.sum_congr rfl fun k _ => piece0 rfl k i0 i1 _ (Nat.zero_add _).symm
theorem ref27 : o27 (total (packed A0 A1 A2 A3 A4 A5 A6 A7 A8 A9 A10 A11 A12 A13 A14 A15 A16 A17)) = Host.reduceAdd A1 (constant S_ .f32 0x00000000#32) reducesTo_S8x1x2048_S1x2048_d0 h_S_ := by
  funext i
  idx_vars i
  pointwise [o27]
  refine Finset.sum_congr rfl fun k _ => piece1 rfl k i1 _ rfl
theorem ref29 : o29 (total (packed A0 A1 A2 A3 A4 A5 A6 A7 A8 A9 A10 A11 A12 A13 A14 A15 A16 A17)) = Host.reduceAdd A2 (constant S_ .f32 0x00000000#32) reducesTo_S8x1x2048_S1x2048_d0 h_S_ := by
  funext i
  idx_vars i
  pointwise [o29]
  refine Finset.sum_congr rfl fun k _ => piece2 rfl k i1 _ rfl
theorem ref31 : o31 (total (packed A0 A1 A2 A3 A4 A5 A6 A7 A8 A9 A10 A11 A12 A13 A14 A15 A16 A17)) = Host.reduceAdd A3 (constant S_ .f32 0x00000000#32) reducesTo_S8x1x2048_S1x2048_d0 h_S_ := by
  funext i
  idx_vars i
  pointwise [o31]
  refine Finset.sum_congr rfl fun k _ => piece3 rfl k i1 _ rfl
theorem ref60 : o60 (total (packed A0 A1 A2 A3 A4 A5 A6 A7 A8 A9 A10 A11 A12 A13 A14 A15 A16 A17)) = broadcastInDim S1x16x128x128 ![1, 2, 3] bcast_S16x128x128_S1x16x128x128_1_2_3 (Host.reduceAdd A4 (constant S_ .f32 0x00000000#32) reducesTo_S8x16x128x128_S16x128x128_d0 h_S_) := by
  funext i
  idx_vars i
  pointwise [o60]
  refine Finset.sum_congr rfl fun k _ => piece4 rfl k i1 i2 i3 _ rfl
theorem ref61 : o61 (total (packed A0 A1 A2 A3 A4 A5 A6 A7 A8 A9 A10 A11 A12 A13 A14 A15 A16 A17)) = broadcastInDim S1x16x128 ![1, 2] bcast_S16x128_S1x16x128_1_2 (Host.reduceAdd A5 (constant S_ .f32 0x00000000#32) reducesTo_S8x16x128_S16x128_d0 h_S_) := by
  funext i
  idx_vars i
  pointwise [o61]
  refine Finset.sum_congr rfl fun k _ => piece5 rfl k i1 i2 _ rfl
theorem ref64 : o64 (total (packed A0 A1 A2 A3 A4 A5 A6 A7 A8 A9 A10 A11 A12 A13 A14 A15 A16 A17)) = concatenate S2x3x5632 0 [⟨S1x3x5632, (broadcastInDim S1x3x5632 ![1, 2] bcast_S3x5632_S1x3x5632_1_2 (Host.reduceAdd A6 (constant S_ .f32 0x00000000#32) reducesTo_S8x3x5632_S3x5632_d0 h_S_))⟩, ⟨S1x3x5632, (broadcastInDim S1x3x5632 ![1, 2] bcast_S3x5632_S1x3x5632_1_2 (Host.reduceAdd A7 (constant S_ .f32 0x00000000#32) reducesTo_S8x3x5632_S3x5632_d0 h_S_))⟩] concatenates_S1x3x5632_S1x3x5632_S2x3x5632_d0 := by
  funext i
  idx_vars i
  pointwise [o64]
  obtain rfl | rfl : i0 = 0 ∨ i0 = 1 := by omega
  · pointwise
    refine Finset.sum_congr rfl fun k _ => piece6 rfl k i1 i2 _ rfl
  · pointwise
    refine Finset.sum_congr rfl fun k _ => piece7 rfl k i1 i2 _ rfl
theorem ref65 : o65 (total (packed A0 A1 A2 A3 A4 A5 A6 A7 A8 A9 A10 A11 A12 A13 A14 A15 A16 A17)) = concatenate S2x5632 0 [⟨S1x5632, (Host.reduceAdd A8 (constant S_ .f32 0x00000000#32) reducesTo_S8x1x5632_S1x5632_d0 h_S_)⟩, ⟨S1x5632, (Host.reduceAdd A9 (constant S_ .f32 0x00000000#32) reducesTo_S8x1x5632_S1x5632_d0 h_S_)⟩] concatenates_S1x5632_S1x5632_S2x5632_d0 := by
  funext i
  idx_vars i
  pointwise [o65]
  obtain rfl | rfl : i0 = 0 ∨ i0 = 1 := by omega
  · pointwise
    refine Finset.sum_congr rfl fun k _ => piece8 rfl k i1 _ rfl
  · pointwise
    refine Finset.sum_congr rfl fun k _ => piece9 rfl k i1 _ rfl
theorem ref66 : o66 (total (packed A0 A1 A2 A3 A4 A5 A6 A7 A8 A9 A10 A11 A12 A13 A14 A15 A16 A17)) = concatenate S2x2048 0 [⟨S1x2048, (Host.reduceAdd A10 (constant S_ .f32 0x00000000#32) reducesTo_S8x1x2048_S1x2048_d0 h_S_)⟩, ⟨S1x2048, (Host.reduceAdd A11 (constant S_ .f32 0x00000000#32) reducesTo_S8x1x2048_S1x2048_d0 h_S_)⟩] concatenates_S1x2048_S1x2048_S2x2048_d0 := by
  funext i
  idx_vars i
  pointwise [o66]
  obtain rfl | rfl : i0 = 0 ∨ i0 = 1 := by omega
  · pointwise
    refine Finset.sum_congr rfl fun k _ => piece10 rfl k i1 _ rfl
  · pointwise
    refine Finset.sum_congr rfl fun k _ => piece11 rfl k i1 _ rfl
theorem ref67 : o67 (total (packed A0 A1 A2 A3 A4 A5 A6 A7 A8 A9 A10 A11 A12 A13 A14 A15 A16 A17)) = concatenate S2x2048 0 [⟨S1x2048, (Host.reduceAdd A12 (constant S_ .f32 0x00000000#32) reducesTo_S8x1x2048_S1x2048_d0 h_S_)⟩, ⟨S1x2048, (Host.reduceAdd A13 (constant S_ .f32 0x00000000#32) reducesTo_S8x1x2048_S1x2048_d0 h_S_)⟩] concatenates_S1x2048_S1x2048_S2x2048_d0 := by
  funext i
  idx_vars i
  pointwise [o67]
  obtain rfl | rfl : i0 = 0 ∨ i0 = 1 := by omega
  · pointwise
    refine Finset.sum_congr rfl fun k _ => piece12 rfl k i1 _ rfl
  · pointwise
    refine Finset.sum_congr rfl fun k _ => piece13 rfl k i1 _ rfl
theorem ref68 : o68 (total (packed A0 A1 A2 A3 A4 A5 A6 A7 A8 A9 A10 A11 A12 A13 A14 A15 A16 A17)) = concatenate S2x2048 0 [⟨S1x2048, (Host.reduceAdd A14 (constant S_ .f32 0x00000000#32) reducesTo_S8x1x2048_S1x2048_d0 h_S_)⟩, ⟨S1x2048, (Host.reduceAdd A15 (constant S_ .f32 0x00000000#32) reducesTo_S8x1x2048_S1x2048_d0 h_S_)⟩] concatenates_S1x2048_S1x2048_S2x2048_d0 := by
  funext i
  idx_vars i
  pointwise [o68]
  obtain rfl | rfl : i0 = 0 ∨ i0 = 1 := by omega
  · pointwise
    refine Finset.sum_congr rfl fun k _ => piece14 rfl k i1 _ rfl
  · pointwise
    refine Finset.sum_congr rfl fun k _ => piece15 rfl k i1 _ rfl
theorem ref69 : o69 (total (packed A0 A1 A2 A3 A4 A5 A6 A7 A8 A9 A10 A11 A12 A13 A14 A15 A16 A17)) = concatenate S2x2048 0 [⟨S1x2048, (Host.reduceAdd A16 (constant S_ .f32 0x00000000#32) reducesTo_S8x1x2048_S1x2048_d0 h_S_)⟩, ⟨S1x2048, (Host.reduceAdd A17 (constant S_ .f32 0x00000000#32) reducesTo_S8x1x2048_S1x2048_d0 h_S_)⟩] concatenates_S1x2048_S1x2048_S2x2048_d0 := by
  funext i
  idx_vars i
  pointwise [o69]
  obtain rfl | rfl : i0 = 0 ∨ i0 = 1 := by omega
  · pointwise
    refine Finset.sum_congr rfl fun k _ => piece16 rfl k i1 _ rfl
  · pointwise
    refine Finset.sum_congr rfl fun k _ => piece17 rfl k i1 _ rfl
end

end Cert.SumSmallRefIdeal.Sum

end
-- ==== Proof.Ln.Algebra.lean ====
/- The gradient of the layer norm of one row, in the kernel's form and as the derivative is spelt. -/
module

public import proofs.«01_k».proof.Proof.Ln.Spec

@[expose] public section

noncomputable section

namespace Cert.Ln

open Idealize.ShloMosaic

variable (s a : Fin 2048 → EReal)

/-- The variance with the constant that keeps it off zero. -/
def spread : EReal := mean (fun j => dev s j * dev s j) + Ideal.ofBits .f32 0x3727C5AC#32

/-- The kernel's gradient at the row: `a` is the incoming gradient times the scale. -/
def grad (j : Fin 2048) : EReal :=
  rstd s * (a j - mean a - hat s j * mean (fun k => a k * hat s k))

/-- The gradient at the variance, over the row's length. -/
def slope : EReal :=
  Ideal.div ((∑ k, dev s k * a k) * (Ideal.ofBits .f32 0xBF000000#32 * Ideal.div (rstd s) (spread s))) (Ideal.ofBits .f32 0x45000000#32)

/-- The gradient at the distance from the mean. -/
def toDev (j : Fin 2048) : EReal := a j * rstd s + dev s j * slope s a + slope s a * dev s j

/-- The gradient at the row. -/
def toRow (j : Fin 2048) : EReal :=
  toDev s a j + Ideal.div (∑ k, -toDev s a k) (Ideal.ofBits .f32 0x45000000#32)

theorem len : Ideal.ofBits .f32 0x45000000#32 = ((2048 : ℝ) : EReal) := by
  simp [Ideal.ofBits, Ideal.ieee, -EReal.coe_mul]; norm_num

theorem eps : ∃ e : ℝ, 0 < e ∧ Ideal.ofBits .f32 0x3727C5AC#32 = (e : EReal) :=
  ⟨10995116 / 1099511627776, by norm_num, by simp [Ideal.ofBits, Ideal.ieee, -EReal.coe_mul]; norm_num⟩

theorem half_neg : Ideal.ofBits .f32 0xBF000000#32 = ((-(1 / 2) : ℝ) : EReal) := by
  simp [Ideal.ofBits, Ideal.ieee, -EReal.coe_mul, -EReal.coe_neg]; norm_num

theorem sum_coe {n : ℕ} (f : Fin n → ℝ) : ∑ j, (f j : EReal) = ((∑ j, f j : ℝ) : EReal) := by
  induction n with
  | zero => simp
  | succ n ih => rw [Fin.sum_univ_succ, Fin.sum_univ_succ, ih, EReal.coe_add]

theorem div_len (x : ℝ) : Ideal.div (x : EReal) (Ideal.ofBits .f32 0x45000000#32) = ((x / 2048 : ℝ) : EReal) := by
  rw [len, Ideal.div_coe (by norm_num), ← EReal.coe_mul, mul_one_div]

theorem mean_coe (f : Fin 2048 → ℝ) : mean (fun j => (f j : EReal)) = (((∑ j, f j) / 2048 : ℝ) : EReal) := by
  unfold mean
  rw [sum_coe, div_len]

/-- The identity over the real numbers. -/
theorem real_eq (d A : Fin 2048 → ℝ) (r q : ℝ) (hd : ∑ j, d j = 0) (hq : q = r * r * r) (j : Fin 2048) :
    r * (A j - (∑ k, A k) / 2048 - d j * r * ((∑ k, A k * (d k * r)) / 2048))
      = A j * r + d j * (((∑ k, d k * A k) * (-(1 / 2) * q)) / 2048) + ((∑ k, d k * A k) * (-(1 / 2) * q)) / 2048 * d j
        + (∑ k, -(A k * r + d k * (((∑ k, d k * A k) * (-(1 / 2) * q)) / 2048) + ((∑ k, d k * A k) * (-(1 / 2) * q)) / 2048 * d k)) / 2048 := by
  generalize hc : ((∑ k, d k * A k) * (-(1 / 2) * q)) / 2048 = c
  have h1 : ∑ k, -(A k * r + d k * c + c * d k) = -((∑ k, A k) * r) := by
    rw [Finset.sum_neg_distrib]
    simp only [Finset.sum_add_distrib, ← Finset.sum_mul, ← Finset.mul_sum, hd]
    ring
  have h2 : ∑ k, A k * (d k * r) = (∑ k, d k * A k) * r := by
    rw [Finset.sum_mul]
    exact Finset.sum_congr rfl fun k _ => by ring
  rw [h1, h2, ← hc, hq]
  ring

/-- A sum with a summand at minus infinity. -/
theorem sum_bot {n : ℕ} (f : Fin n → EReal) (k : Fin n) (h : f k = ⊥) : ∑ j, f j = ⊥ := by
  rw [← Finset.add_sum_erase _ _ (Finset.mem_univ k), h, EReal.bot_add]

/-- A sum with a summand at plus infinity and none at minus infinity. -/
theorem sum_top {n : ℕ} (f : Fin n → EReal) (k : Fin n) (h : f k = ⊤) (hb : ∀ j, f j ≠ ⊥) : ∑ j, f j = ⊤ := by
  rw [← Finset.add_sum_erase _ _ (Finset.mem_univ k), h]
  refine EReal.top_add_of_ne_bot ?_
  exact Finset.sum_induction f (· ≠ ⊥) (fun a b ha hb => by
    rw [Ne, EReal.add_eq_bot_iff]; exact fun h => h.elim ha hb) (by simp) (fun j _ => hb j)

theorem div_len_bot : Ideal.div ⊥ (Ideal.ofBits .f32 0x45000000#32) = ⊥ := by
  rw [len, Ideal.div_coe (by norm_num), EReal.bot_mul_coe_of_pos (by norm_num)]

theorem div_len_top : Ideal.div ⊤ (Ideal.ofBits .f32 0x45000000#32) = ⊤ := by
  rw [len, Ideal.div_coe (by norm_num), EReal.top_mul_coe_of_pos (by norm_num)]

/-- A row with an infinite entry has an infinite spread. -/
theorem spread_top (h : ¬ ∀ j, ∃ r : ℝ, s j = (r : EReal)) : spread s = ⊤ := by
  have hsq : ∀ j, dev s j * dev s j = ⊤ := by
    intro j
    by_cases hb : ∃ k, s k = ⊥
    · obtain ⟨k, hk⟩ := hb
      have hm : mean s = ⊥ := by unfold mean; rw [sum_bot s k hk, div_len_bot]
      unfold dev
      rw [hm]
      induction s j using EReal.rec with
      | bot => rfl
      | coe r => rfl
      | top => rfl
    · have hb' : ∀ k, s k ≠ ⊥ := fun k hk => hb ⟨k, hk⟩
      have ht : ∃ k, s k = ⊤ := by
        by_contra hn
        refine h fun k => ?_
        have h1 := hb' k
        have h2 : s k ≠ ⊤ := fun e => hn ⟨k, e⟩
        exact ⟨(s k).toReal, (EReal.coe_toReal h2 h1).symm⟩
      obtain ⟨k, hk⟩ := ht
      have hm : mean s = ⊤ := by unfold mean; rw [sum_top s k hk hb', div_len_top]
      unfold dev
      rw [hm]
      induction s j using EReal.rec with
      | bot => rfl
      | coe r => rfl
      | top => rfl
  have hm : mean (fun j => dev s j * dev s j) = ⊤ := by
    unfold mean
    rw [sum_top _ 0 (hsq 0) (fun j => by rw [hsq j]; exact top_ne_bot), div_len_top]
  obtain ⟨e, _, he⟩ := eps
  unfold spread
  rw [hm, he]
  rfl

theorem rstd_spread : rstd s = Ideal.rsqrt (spread s) := rfl

/-- The distances and the spread of a real row. -/
theorem real_parts (S : Fin 2048 → ℝ) : ∃ (d : Fin 2048 → ℝ) (v : ℝ), dev (fun j => (S j : EReal)) = (fun j => (d j : EReal))
    ∧ ∑ j, d j = 0 ∧ spread (fun j => (S j : EReal)) = (v : EReal) ∧ 0 < v := by
  obtain ⟨e, he0, he⟩ := eps
  obtain ⟨d, hdev, hsum⟩ : ∃ d : Fin 2048 → ℝ, dev (fun j => (S j : EReal)) = (fun j => (d j : EReal)) ∧ ∑ j, d j = 0 := by
    refine ⟨fun j => S j - (∑ k, S k) / 2048, funext fun j => ?_, ?_⟩
    · unfold dev
      rw [mean_coe, ← EReal.coe_sub]
    · rw [Finset.sum_sub_distrib]
      simp
      ring
  have hv : spread (fun j => (S j : EReal)) = (((∑ k, d k * d k) / 2048 + e : ℝ) : EReal) := by
    unfold spread
    rw [hdev, he]
    simp only [← EReal.coe_mul]
    rw [mean_coe, ← EReal.coe_add]
  have hpos : 0 < (∑ k, d k * d k) / 2048 + e := by
    have : 0 ≤ ∑ k, d k * d k := Finset.sum_nonneg fun k _ => mul_self_nonneg _
    positivity
  exact ⟨d, _, hdev, hsum, hv, hpos⟩

/-- The normalised entries are real, for any row. -/
theorem hat_real (j : Fin 2048) : ∃ r : ℝ, hat s j = (r : EReal) := by
  by_cases h : ∀ j, ∃ r : ℝ, s j = (r : EReal)
  · obtain ⟨S, rfl⟩ : ∃ S : Fin 2048 → ℝ, s = fun j => (S j : EReal) := ⟨fun j => (h j).choose, funext fun j => (h j).choose_spec⟩
    obtain ⟨d, v, hdev, _, hv, hpos⟩ := real_parts S
    refine ⟨d j * (Real.sqrt v)⁻¹, ?_⟩
    unfold hat
    rw [hdev, rstd_spread, hv, Ideal.rsqrt_coe, if_neg hpos.not_gt, if_neg hpos.ne', EReal.coe_mul]
  · refine ⟨0, ?_⟩
    unfold hat
    rw [rstd_spread, spread_top s h]
    exact mul_zero _

/-- For a real incoming gradient the kernel's form is the derivative. -/
theorem grad_eq (ha : ∀ j, ∃ r : ℝ, a j = (r : EReal)) (j : Fin 2048) : grad s a j = toRow s a j := by
  by_cases h : ∀ j, ∃ r : ℝ, s j = (r : EReal)
  · obtain ⟨S, rfl⟩ : ∃ S : Fin 2048 → ℝ, s = fun j => (S j : EReal) := ⟨fun j => (h j).choose, funext fun j => (h j).choose_spec⟩
    obtain ⟨A, rfl⟩ : ∃ A : Fin 2048 → ℝ, a = fun j => (A j : EReal) := ⟨fun j => (ha j).choose, funext fun j => (ha j).choose_spec⟩
    obtain ⟨d, v, hdev, hsum, hv, hpos⟩ := real_parts S
    have hr : rstd (fun j => (S j : EReal)) = (((Real.sqrt v)⁻¹ : ℝ) : EReal) := by
      rw [rstd_spread, hv, Ideal.rsqrt_coe, if_neg hpos.not_gt, if_neg hpos.ne']
    have hq : Ideal.div (((Real.sqrt v)⁻¹ : ℝ) : EReal) (v : EReal) = (((Real.sqrt v)⁻¹ * (1 / v) : ℝ) : EReal) := by
      rw [Ideal.div_coe hpos.ne', ← EReal.coe_mul]
    have hq3 : (Real.sqrt v)⁻¹ * (1 / v) = (Real.sqrt v)⁻¹ * (Real.sqrt v)⁻¹ * (Real.sqrt v)⁻¹ := by
      have hs := Real.mul_self_sqrt hpos.le
      have hs0 : Real.sqrt v ≠ 0 := (Real.sqrt_pos.mpr hpos).ne'
      nth_rewrite 2 [← hs]
      field_simp
    unfold grad toRow toDev slope hat
    simp only [hdev, hr, hv, hq, half_neg, ← EReal.coe_mul, mean_coe, sum_coe, div_len, ← EReal.coe_sub, ← EReal.coe_add, ← EReal.coe_neg]
    exact congrArg _ (real_eq d A _ _ hsum hq3 j)
  · have hv := spread_top s h
    have hr : rstd s = 0 := by rw [rstd_spread, hv]; rfl
    have hc : slope s a = 0 := by
      unfold slope
      have : Ideal.div 0 ⊤ = 0 := by rw [Ideal.div, if_neg (by simp)]; simp
      rw [hr, hv, this, mul_zero, mul_zero]
      have h0 := div_len 0
      simpa using h0
    have ht : ∀ j, toDev s a j = 0 := fun j => by unfold toDev; rw [hr, hc]; simp
    unfold grad toRow
    rw [hr, zero_mul]
    simp only [ht, neg_zero, Finset.sum_const_zero, zero_add]
    have h0 := div_len 0
    simpa using h0.symm

end Cert.Ln

end
-- ==== Proof.Ln.Bwd.lean ====
/- The gradients of the layer norm after a residual, as functions of the whole arrays. -/
module

public import proofs.«01_k».proof.Proof.Ln.Algebra

@[expose] public section

noncomputable section

namespace Cert.Ln

open Idealize.ShloMosaic

/-- One number per token and channel. -/
abbrev Arr := (⟨2, ![4096, 2048]⟩ : Shape).Idx → EReal
/-- One number per channel. -/
abbrev Line := (⟨2, ![1, 2048]⟩ : Shape).Idx → EReal

variable (H S Z : Arr) (G B : Line)

/-- A row of the residual. -/
def row (x : Fin 4096) (j : Fin 2048) : EReal := resid (H (ix2 x j)) (S (ix2 x j))

/-- The gradient at a row's normalised entries: the incoming gradient times the scale. -/
def inc (x : Fin 4096) (j : Fin 2048) : EReal := Z (ix2 x j) * G (ix2 0 j)

/-- The gradient at the branch's output. -/
def dBranch : Arr := fun i => grad (row H S (i 0)) (inc Z G (i 0)) (i 1)

/-- The gradient at the stream. -/
def dStream : Arr := fun i => Ideal.ofBits .f32 0x3FB504F3#32 * dBranch H S Z G i

/-- A column's entry at a row number, zero past the last row. -/
def atRow (f : Fin 4096 → Fin 2048 → EReal) (l : Fin 2048) (n : ℕ) : EReal := if h : n < 4096 then f ⟨n, h⟩ l else 0

/-- The sums of the columns. -/
def colSum (f : Fin 4096 → Fin 2048 → EReal) : Line := fun i => ∑ n ∈ Finset.range 4096, atRow f (i 1) n

theorem colSum_at (f : Fin 4096 → Fin 2048 → EReal) (z : Fin 1) (l : Fin 2048) : colSum f (ix2 z l) = ∑ x, f x l := by
  unfold colSum
  rw [Finset.sum_range]
  exact Finset.sum_congr rfl fun x _ => dif_pos x.isLt

/-- The gradient at the scale. -/
def dScale : Line := colSum fun x l => Z (ix2 x l) * hat (row H S x) l

/-- The gradient at the shift. -/
def dShift : Line := colSum fun x l => Z (ix2 x l)

/-- The norm's distance from the target. -/
def err : Arr := fun i => hat (row H S (i 0)) (i 1) * G (ix2 0 (i 1)) + B (ix2 0 (i 1)) - Z i

/-- The loss's gradient at the norm. -/
def dNorm : Arr := fun i => err H S Z G B i * Ideal.ofBits .f32 0x3A000000#32

/-- A row's share of the loss, doubled. -/
def rowLoss (x : Fin 4096) : EReal := mean fun j => err H S Z G B (ix2 x j) * err H S Z G B (ix2 x j)

/-- The loss: half the sum of the rows' shares. -/
def loss : EReal := ∑ n ∈ Finset.range 4096, if h : n < 4096 then Ideal.ofBits .f32 0x3F000000#32 * rowLoss H S Z G B ⟨n, h⟩ else 0

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem one_len : Ideal.ofBits .f32 0x3A000000#32 = ((1 / 2048 : ℝ) : EReal) := by
  simp [Ideal.ofBits, Ideal.ieee, -EReal.coe_mul]; norm_num

/-- Half a sum is the sum of the halves. -/
theorem half_sum {n : ℕ} (f : Fin n → EReal) :
    Ideal.ofBits .f32 0x3F000000#32 * ∑ j, f j = ∑ j, Ideal.ofBits .f32 0x3F000000#32 * f j := by
  rw [half]
  induction n with
  | zero => simp
  | succ n ih =>
    rw [Fin.sum_univ_succ, Fin.sum_univ_succ, ← ih,
      EReal.left_distrib_of_nonneg_of_ne_top (by exact_mod_cast (by norm_num : (0 : ℝ) ≤ 1 / 2)) (EReal.coe_ne_top _)]

theorem loss_eq : loss H S Z G B = Ideal.ofBits .f32 0x3F000000#32 * ∑ x, rowLoss H S Z G B x := by
  rw [half_sum]
  unfold loss
  rw [Finset.sum_range]
  exact Finset.sum_congr rfl fun x _ => dif_pos x.isLt

/-- The loss's gradient at the norm, as the derivative is spelt. -/
theorem norm_eq (x : EReal) : Ideal.div (Ideal.ofBits .f32 0x3F000000#32 * 1) (Ideal.ofBits .f32 0x45000000#32)
    * (Ideal.ofBits .f32 0x40000000#32 * x) = x * Ideal.ofBits .f32 0x3A000000#32 := by
  rw [mul_one, half, div_len, two, one_len, ← mul_assoc, ← EReal.coe_mul, mul_comm]
  norm_num

/-- The gradient at the normalised entries is real where the target, the scale and the shift are. -/
theorem inc_real (hZ : ∀ i, ∃ r : ℝ, Z i = (r : EReal)) (hG : ∀ i, ∃ r : ℝ, G i = (r : EReal)) (hB : ∀ i, ∃ r : ℝ, B i = (r : EReal))
    (p : Fin 4096) (q : Fin 2048) : ∃ r : ℝ, inc (dNorm H S Z G B) G p q = (r : EReal) := by
  obtain ⟨a, ha⟩ := hat_real (row H S p) q
  obtain ⟨z, hz⟩ := hZ (ix2 p q)
  obtain ⟨g, hg⟩ := hG (ix2 0 q)
  obtain ⟨b, hb⟩ := hB (ix2 0 q)
  refine ⟨(a * g + b - z) * (1 / 2048) * g, ?_⟩
  change (hat (row H S p) q * G (ix2 0 q) + B (ix2 0 q) - Z (ix2 p q)) * Ideal.ofBits .f32 0x3A000000#32 * G (ix2 0 q) = _
  rw [ha, hz, hg, hb, one_len]
  norm_cast

end Cert.Ln

end
-- ==== Proof.Ln.LnBwd.lean ====
/- The gradient of the layer norm after a residual: the kernel's blocks and arrays. -/
module

public import proofs.«01_k».proof.Proof.Ln.Bwd
public import proofs.«01_k».proof.Proof.Gen.LnBwdIdeal.Value
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.LnBwdIdeal.Ln

open Cert.LnBwdIdeal Cert.LnBwdIdeal.Gen Cert.LnBwdIdeal.Value Idealize.ShloMosaic Idealize.ShloMosaic.TcCoe Idealize.SL.Sem
open Cert.Ln
open Idealize.ShloMosaic.Pipeline (Dat)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments. -/
abbrev argH : FVec Ideal S4096x2048 .f32 := m ((c : Thread nD τ).loc main_arg0)
abbrev argS : FVec Ideal S4096x2048 .f32 := m ((c : Thread nD τ).loc main_arg1)
abbrev argZ : FVec Ideal S4096x2048 .f32 := m ((c : Thread nD τ).loc main_arg2)
abbrev argG : FVec Ideal S1x2048 .f32 := m ((c : Thread nD τ).loc main_arg3)

/-- The row that a row of point `t`'s block is. -/
def rowOf (t : Fin cfg0.N) (p : Fin 512) : Fin 4096 := ⟨512 * (t.val % 8) + p.val, by omega⟩

theorem blk0 (t : Fin cfg0.N) (p : Fin 512) (q : Fin 2048) : iblk m c 0 t (ix2 p q) = argH m c (ix2 (rowOf t p) q) := by
  have hp := points t
  blk_ext! [iblk, V, at0 t, rowOf, argH]
theorem blk1 (t : Fin cfg0.N) (p : Fin 512) (q : Fin 2048) : iblk m c 1 t (ix2 p q) = argS m c (ix2 (rowOf t p) q) := by
  have hp := points t
  blk_ext! [iblk, V, at1 t, rowOf, argS]
theorem blk2 (t : Fin cfg0.N) (p : Fin 512) (q : Fin 2048) : iblk m c 2 t (ix2 p q) = argZ m c (ix2 (rowOf t p) q) := by
  have hp := points t
  blk_ext! [iblk, V, at2 t, rowOf, argZ]
theorem blk3 (t : Fin cfg0.N) (p : Fin 1) (q : Fin 2048) : iblk m c 3 t (ix2 p q) = argG m c (ix2 p q) := by
  have hp := points t
  blk_ext! [iblk, V, at3 t, argG]

/-! ## A block's values -/

theorem dev_at (t : Fin cfg0.N) (p : Fin 512) (q : Fin 2048) :
    k0_pay7 (iblk m c 0 t) (iblk m c 1 t) (ix2 p q) = dev (row (argH m c) (argS m c) (rowOf t p)) q := by
  pointwise [k0_pay7]
  simp only [blk0, blk1]
  rfl

theorem rstd_at (t : Fin cfg0.N) (p : Fin 512) (z : Fin 1) :
    k0_pay8 (iblk m c 0 t) (iblk m c 1 t) (ix2 p z) = rstd (row (argH m c) (argS m c) (rowOf t p)) := by
  pointwise [k0_pay8]
  simp only [dev_at]
  rfl

theorem hat_at (t : Fin cfg0.N) (p : Fin 512) (q : Fin 2048) :
    k0_pay9 (iblk m c 0 t) (iblk m c 1 t) (ix2 p q) = hat (row (argH m c) (argS m c) (rowOf t p)) q := by
  pointwise [k0_pay9]
  simp only [dev_at, rstd_at]
  rfl

theorem grad_at (t : Fin cfg0.N) (p : Fin 512) (q : Fin 2048) :
    k0_pay10 (iblk m c 0 t) (iblk m c 1 t) (iblk m c 2 t) (iblk m c 3 t) (ix2 p q)
      = dBranch (argH m c) (argS m c) (argZ m c) (argG m c) (ix2 (rowOf t p) q) := by
  pointwise [k0_pay10]
  simp only [hat_at, rstd_at, blk2, blk3]
  rfl

/-- A block's share of the scale's gradient, and of the shift's. -/
def scalePart (t : Fin cfg0.N) (l : Fin 2048) : EReal :=
  ∑ n ∈ Finset.range 512, atRow (fun x l => argZ m c (ix2 x l) * hat (row (argH m c) (argS m c) x) l) l (512 * (t.val % 8) + n)
@[inherit_doc scalePart]
def shiftPart (t : Fin cfg0.N) (l : Fin 2048) : EReal :=
  ∑ n ∈ Finset.range 512, atRow (fun x l => argZ m c (ix2 x l)) l (512 * (t.val % 8) + n)

theorem sum_rows (f : Fin 4096 → Fin 2048 → EReal) (t : Fin cfg0.N) (l : Fin 2048) :
    ∑ p : Fin 512, f (rowOf t p) l = ∑ n ∈ Finset.range 512, atRow f l (512 * (t.val % 8) + n) := by
  rw [Finset.sum_range]
  refine Finset.sum_congr rfl fun p _ => ?_
  unfold atRow
  rw [dif_pos (show 512 * (t.val % 8) + p.val < 4096 from (rowOf t p).isLt)]
  rfl

theorem scale_at (t : Fin cfg0.N) (l : Fin 2048) (v : FVec Ideal S1x2048 .f32) :
    k0_pay5 (k0_pay9 (iblk m c 0 t) (iblk m c 1 t)) (iblk m c 2 t) v (ix2 0 l) = v (ix2 0 l) + scalePart m c t l := by
  pointwise [k0_pay5]
  simp only [hat_at, blk2]
  exact congrArg _ (sum_rows (fun x l => argZ m c (ix2 x l) * hat (row (argH m c) (argS m c) x) l) t l)

theorem shift_at (t : Fin cfg0.N) (l : Fin 2048) (v : FVec Ideal S1x2048 .f32) :
    k0_pay6 (iblk m c 2 t) v (ix2 0 l) = v (ix2 0 l) + shiftPart m c t l := by
  pointwise [k0_pay6]
  simp only [blk2]
  exact congrArg _ (sum_rows (fun x l => argZ m c (ix2 x l)) t l)

/-! ## What a point leaves -/

theorem branch_out (t : Fin cfg0.N) (p : Fin 512) (q : Fin 2048) :
    (outsAt0 m c t.val t.isLt).1 (ix2 p q) = dBranch (argH m c) (argS m c) (argZ m c) (argG m c) (ix2 (rowOf t p) q) := by
  by_cases hm : t.val % 8 = 0
  · rw [outsAt0_A m c t hm]
    frame_out
    pointwise [k0_pay1]
    exact grad_at m c t p q
  · rw [outsAt0_B m c t hm]
    frame_out
    pointwise [k0_pay1]
    exact grad_at m c t p q

theorem stream_out (t : Fin cfg0.N) (p : Fin 512) (q : Fin 2048) :
    (outsAt0 m c t.val t.isLt).2.1 (ix2 p q) = dStream (argH m c) (argS m c) (argZ m c) (argG m c) (ix2 (rowOf t p) q) := by
  by_cases hm : t.val % 8 = 0
  · rw [outsAt0_A m c t hm]
    frame_out
    pointwise [k0_pay2]
    exact congrArg _ (grad_at m c t p q)
  · rw [outsAt0_B m c t hm]
    frame_out
    pointwise [k0_pay2]
    exact congrArg _ (grad_at m c t p q)

theorem scale_A (t : Fin cfg0.N) (hm : t.val % 8 = 0) (l : Fin 2048) :
    (outsAt0 m c t.val t.isLt).2.2.1 (ix2 0 l) = 0 + scalePart m c t l := by
  rw [outsAt0_A m c t hm]
  frame_open
  simp (disch := decide) only [↓ View.readCov_skip, ↓ View.readCov_cons_toLoadRect, ↓ View.readCov_fill]
  frame_out
  refine (scale_at m c t l _).trans (congrArg (· + _) ?_)
  pointwise [k0_pay3]

theorem scale_B (t : Fin cfg0.N) (hm : ¬t.val % 8 = 0) (l : Fin 2048) :
    (outsAt0 m c t.val t.isLt).2.2.1 (ix2 0 l)
      = (outsAt0 m c (t.val - 1) (Nat.lt_of_le_of_lt (Nat.sub_le _ _) t.isLt)).2.2.1 (ix2 0 l) + scalePart m c t l := by
  rw [outsAt0_B m c t hm]
  frame_out
  exact scale_at m c t l _

theorem shift_A (t : Fin cfg0.N) (hm : t.val % 8 = 0) (l : Fin 2048) :
    (outsAt0 m c t.val t.isLt).2.2.2 (ix2 0 l) = 0 + shiftPart m c t l := by
  rw [outsAt0_A m c t hm]
  frame_open
  simp (disch := decide) only [↓ View.readCov_skip, ↓ View.readCov_cons_toLoadRect, ↓ View.readCov_fill]
  frame_out
  refine (shift_at m c t l _).trans (congrArg (· + _) ?_)
  pointwise [k0_pay4]

theorem shift_B (t : Fin cfg0.N) (hm : ¬t.val % 8 = 0) (l : Fin 2048) :
    (outsAt0 m c t.val t.isLt).2.2.2 (ix2 0 l)
      = (outsAt0 m c (t.val - 1) (Nat.lt_of_le_of_lt (Nat.sub_le _ _) t.isLt)).2.2.2 (ix2 0 l) + shiftPart m c t l := by
  rw [outsAt0_B m c t hm]
  frame_out
  exact shift_at m c t l _

theorem scale_last (t : Fin cfg0.N) (h7 : t.val % 8 = 7) (l : Fin 2048) :
    (outsAt0 m c t.val t.isLt).2.2.1 (ix2 0 l) = dScale (argH m c) (argS m c) (argZ m c) (ix2 0 l) := by
  have := Pipeline.eq_sum_of_reset_step_apply_divmod (fun n h => (outsAt0 m c n h).2.2.1) 8 (fun _ => 0)
    (fun _ r (i : S1x2048.Idx) => ∑ n ∈ Finset.range 512,
      atRow (fun x l => argZ m c (ix2 x l) * hat (row (argH m c) (argS m c) x) l) (i 1) (512 * r + n))
    (fun t h i => by idx_vars i; obtain rfl : i0 = 0 := Subsingleton.elim _ _; rw [scale_A m c t h]; rfl)
    (fun t h i => by idx_vars i; obtain rfl : i0 = 0 := Subsingleton.elim _ _; rw [scale_B m c t h]; rfl) t (ix2 0 l)
  refine this.trans ?_
  rw [h7, zero_add]
  refine Eq.trans ?_ (Finset.sum_range_mul_split 8 512 _).symm
  refine Finset.sum_congr rfl fun r _ => Finset.sum_congr rfl fun q _ => ?_
  rw [Nat.mul_comm r 512]

theorem shift_last (t : Fin cfg0.N) (h7 : t.val % 8 = 7) (l : Fin 2048) :
    (outsAt0 m c t.val t.isLt).2.2.2 (ix2 0 l) = dShift (argZ m c) (ix2 0 l) := by
  have := Pipeline.eq_sum_of_reset_step_apply_divmod (fun n h => (outsAt0 m c n h).2.2.2) 8 (fun _ => 0)
    (fun _ r (i : S1x2048.Idx) => ∑ n ∈ Finset.range 512, atRow (fun x l => argZ m c (ix2 x l)) (i 1) (512 * r + n))
    (fun t h i => by idx_vars i; obtain rfl : i0 = 0 := Subsingleton.elim _ _; rw [shift_A m c t h]; rfl)
    (fun t h i => by idx_vars i; obtain rfl : i0 = 0 := Subsingleton.elim _ _; rw [shift_B m c t h]; rfl) t (ix2 0 l)
  refine this.trans ?_
  rw [h7, zero_add]
  refine Eq.trans ?_ (Finset.sum_range_mul_split 8 512 _).symm
  refine Finset.sum_congr rfl fun r _ => Finset.sum_congr rfl fun q _ => ?_
  rw [Nat.mul_comm r 512]

/-! ## The arrays after the run -/

theorem arr4 : (dats m 0 c).arrAt 4 cfg0.N = dBranch (argH m c) (argS m c) (argZ m c) (argG m c) := by
  refine (dats m 0 c).arrAt_eq_of_covers 4 _ (by decide +kernel) fun t hf y => ?_
  blk_simp
  rw [after0_4]
  idx_vars y
  have hp := points t
  rw [branch_out]
  generalize dBranch (argH m c) (argS m c) (argZ m c) (argG m c) = R
  blk_ext! [at4 t, rowOf]

theorem arr5 : (dats m 0 c).arrAt 5 cfg0.N = dStream (argH m c) (argS m c) (argZ m c) (argG m c) := by
  refine (dats m 0 c).arrAt_eq_of_covers 5 _ (by decide +kernel) fun t hf y => ?_
  blk_simp
  rw [after0_5]
  idx_vars y
  have hp := points t
  rw [stream_out]
  generalize dStream (argH m c) (argS m c) (argZ m c) (argG m c) = R
  blk_ext! [at5 t, rowOf]

theorem arr6 : (dats m 0 c).arrAt 6 cfg0.N = dScale (argH m c) (argS m c) (argZ m c) := by
  refine (dats m 0 c).arrAt_eq_of_covers 6 _ (by decide +kernel) fun t hf y => ?_
  blk_simp
  rw [after0_6]
  idx_vars y
  obtain rfl : y0 = 0 := Subsingleton.elim _ _
  rw [scale_last m c t ((flush0_6 t).mp hf)]
  generalize dScale (argH m c) (argS m c) (argZ m c) = R
  blk_ext! [at6 t]

theorem arr7 : (dats m 0 c).arrAt 7 cfg0.N = dShift (argZ m c) := by
  refine (dats m 0 c).arrAt_eq_of_covers 7 _ (by decide +kernel) fun t hf y => ?_
  blk_simp
  rw [after0_7]
  idx_vars y
  obtain rfl : y0 = 0 := Subsingleton.elim _ _
  rw [shift_last m c t ((flush0_7 t).mp hf)]
  generalize dShift (argZ m c) = R
  blk_ext! [at7 t]

end Cert.LnBwdIdeal.Ln

end
-- ==== Proof.Ln.LnBwdRef.lean ====
/- The derivative of the layer norm after a residual, entry by entry. -/
module

public import proofs.«01_k».proof.Proof.Ln.Bwd
public import proofs.«01_k».proof.Proof.Gen.LnBwdRefIdeal.Run
public import Idealize.ShloMosaic.Lib.Pipeline.ValueKit
public import Idealize.ShloMosaic.Lib.Pointwise

@[expose] public section

set_option maxRecDepth 16384
set_option maxHeartbeats 1000000

noncomputable section

namespace Cert.LnBwdRefIdeal.Ln

open Cert.LnBwdRefIdeal Cert.LnBwdRefIdeal.Gen Cert.LnBwdRefIdeal.Value Idealize.ShloMosaic Idealize.ShloMosaic.TcCoe Idealize.SL.Sem
open Cert.Ln

/-- The types of the arguments. -/
abbrev Rows : Type := FVec Ideal S4096x2048 .f32
abbrev Row : Type := FVec Ideal S1x2048 .f32

/-- The residual's rows. -/
def rowV (H : Rows) (S : Rows) : Rows :=
  addf (mulf (broadcastInDim S4096x2048 ![] bcast_S_S4096x2048 (constant S_ .f32 0x3FB504F3#32 )) H) S
/-- The distances from the rows' means. -/
def devV (H : Rows) (S : Rows) : Rows :=
  subf (rowV H S) (broadcastInDim S4096x2048 ![0, 1] bcast_S4096x1_S4096x2048_0_1 (Host.divf (broadcastInDim S4096x1 ![0] bcast_S4096_S4096x1_0 (Host.reduceAdd (rowV H S) (constant S_ .f32 0x00000000#32 ) reducesTo_S4096x2048_S4096_d1 h_S_)) (broadcastInDim S4096x1 ![] bcast_S_S4096x1 (constant S_ .f32 0x45000000#32 ))))
/-- The rows' variances, with the constant. -/
def spreadV (H : Rows) (S : Rows) : FVec Ideal S4096x1 .f32 :=
  addf (Host.divf (broadcastInDim S4096x1 ![0] bcast_S4096_S4096x1_0 (Host.reduceAdd (mulf (devV H S) (devV H S)) (constant S_ .f32 0x00000000#32 ) reducesTo_S4096x2048_S4096_d1 h_S_)) (broadcastInDim S4096x1 ![] bcast_S_S4096x1 (constant S_ .f32 0x45000000#32 ))) (broadcastInDim S4096x1 ![] bcast_S_S4096x1 (constant S_ .f32 0x3727C5AC#32 ))
/-- One over the rows' standard deviations. -/
def rstdV (H : Rows) (S : Rows) : FVec Ideal S4096x1 .f32 :=
  Host.rsqrt (spreadV H S)
/-- The normalised entries. -/
def hatV (H : Rows) (S : Rows) : Rows :=
  mulf (devV H S) (broadcastInDim S4096x2048 ![0, 1] bcast_S4096x1_S4096x2048_0_1 (rstdV H S))
/-- The gradient at them. -/
def incV (Z : Rows) (G : Row) : Rows :=
  mulf (shapeCast S4096x2048 Z shapeCasts_S4096x2048_S4096x2048) (broadcastInDim S4096x2048 ![0, 1] bcast_S1x2048_S4096x2048_0_1 G)
/-- The gradient at the variances. -/
def slopeV (H : Rows) (S : Rows) (Z : Rows) (G : Row) : FVec Ideal S4096x1 .f32 :=
  Host.divf (mulf (shapeCast S4096x1 (Host.reduceAdd (mulf (devV H S) (incV Z G)) (constant S_ .f32 0x00000000#32 ) reducesTo_S4096x2048_S4096_d1 h_S_) shapeCasts_S4096_S4096x1) (mulf (broadcastInDim S4096x1 ![] bcast_S_S4096x1 (constant S_ .f32 0xBF000000#32 )) (Host.divf (rstdV H S) (spreadV H S)))) (broadcastInDim S4096x1 ![] bcast_S_S4096x1 (constant S_ .f32 0x45000000#32 ))
/-- The gradient at the distances. -/
def toDevV (H : Rows) (S : Rows) (Z : Rows) (G : Row) : Rows :=
  addf (addf (mulf (incV Z G) (broadcastInDim S4096x2048 ![0, 1] bcast_S4096x1_S4096x2048_0_1 (rstdV H S))) (mulf (devV H S) (broadcastInDim S4096x2048 ![0] bcast_S4096_S4096x2048_0 (Host.reduceAdd (slopeV H S Z G) (constant S_ .f32 0x00000000#32 ) reducesTo_S4096x1_S4096_d1 h_S_)))) (mulf (broadcastInDim S4096x2048 ![0] bcast_S4096_S4096x2048_0 (Host.reduceAdd (slopeV H S Z G) (constant S_ .f32 0x00000000#32 ) reducesTo_S4096x1_S4096_d1 h_S_)) (devV H S))
/-- The gradient at the rows. -/
def toRowV (H : Rows) (S : Rows) (Z : Rows) (G : Row) : Rows :=
  addf (toDevV H S Z G) (broadcastInDim S4096x2048 ![0] bcast_S4096_S4096x2048_0 (Host.reduceAdd (Host.divf (shapeCast S4096x1 (Host.reduceAdd (Host.negf (toDevV H S Z G)) (constant S_ .f32 0x00000000#32 ) reducesTo_S4096x2048_S4096_d1 h_S_) shapeCasts_S4096_S4096x1) (broadcastInDim S4096x1 ![] bcast_S_S4096x1 (constant S_ .f32 0x45000000#32 ))) (constant S_ .f32 0x00000000#32 ) reducesTo_S4096x1_S4096_d1 h_S_))
/-- The gradient at the stream. -/
def streamV (H : Rows) (S : Rows) (Z : Rows) (G : Row) : Rows :=
  mulf (broadcastInDim S4096x2048 ![] bcast_S_S4096x2048 (constant S_ .f32 0x3FB504F3#32 )) (toRowV H S Z G)
/-- The gradient at the scale. -/
def scaleV (H : Rows) (S : Rows) (Z : Rows) : Row :=
  shapeCast S1x2048 (Host.reduceAdd (mulf (hatV H S) (shapeCast S4096x2048 Z shapeCasts_S4096x2048_S4096x2048)) (constant S_ .f32 0x00000000#32 ) reducesTo_S4096x2048_S2048_d0 h_S_) shapeCasts_S2048_S1x2048
/-- The gradient at the shift. -/
def shiftV (Z : Rows) : Row :=
  shapeCast S1x2048 (Host.reduceAdd Z (constant S_ .f32 0x00000000#32 ) reducesTo_S4096x2048_S2048_d0 h_S_) shapeCasts_S2048_S1x2048

variable (H S Z : Rows) (G : Row)

theorem row_at (p : Fin 4096) (q : Fin 2048) : rowV H S (ix2 p q) = row H S p q := by
  pointwise [rowV]
  rfl

theorem dev_at (p : Fin 4096) (q : Fin 2048) : devV H S (ix2 p q) = dev (row H S p) q := by
  pointwise [devV]
  simp only [row_at]
  rfl

theorem spread_at (p : Fin 4096) (z : Fin 1) : spreadV H S (ix2 p z) = spread (row H S p) := by
  pointwise [spreadV]
  simp only [dev_at]
  rfl

theorem rstd_at (p : Fin 4096) (z : Fin 1) : rstdV H S (ix2 p z) = rstd (row H S p) := by
  pointwise [rstdV]
  simp only [spread_at]
  rfl

theorem hat_at (p : Fin 4096) (q : Fin 2048) : hatV H S (ix2 p q) = hat (row H S p) q := by
  pointwise [hatV]
  simp only [dev_at, rstd_at]
  rfl

theorem inc_at (p : Fin 4096) (q : Fin 2048) : incV Z G (ix2 p q) = inc Z G p q := by
  pointwise [incV]
  rfl

theorem slope_at (p : Fin 4096) (z : Fin 1) : slopeV H S Z G (ix2 p z) = slope (row H S p) (inc Z G p) := by
  pointwise [slopeV]
  simp only [dev_at, inc_at, spread_at, rstd_at]
  rfl

theorem toDev_at (p : Fin 4096) (q : Fin 2048) : toDevV H S Z G (ix2 p q) = toDev (row H S p) (inc Z G p) q := by
  pointwise [toDevV]
  simp only [dev_at, inc_at, slope_at, rstd_at, Fin.sum_univ_one, zero_add]
  rfl

theorem toRow_at (p : Fin 4096) (q : Fin 2048) : toRowV H S Z G (ix2 p q) = toRow (row H S p) (inc Z G p) q := by
  pointwise [toRowV]
  simp only [toDev_at, Fin.sum_univ_one, zero_add]
  rfl

section
variable (hr : ∀ p q, ∃ r : ℝ, inc Z G p q = (r : EReal))
include hr

theorem branch_eq : toRowV H S Z G = dBranch H S Z G := by
  funext i
  idx_vars i
  exact (toRow_at H S Z G i0 i1).trans (grad_eq _ _ (hr i0) i1).symm

theorem stream_eq : streamV H S Z G = dStream H S Z G := by
  funext i
  idx_vars i
  pointwise [streamV]
  rw [branch_eq H S Z G hr]
  rfl
end

theorem scale_eq : scaleV H S Z = dScale H S Z := by
  funext i
  idx_vars i
  pointwise [scaleV]
  simp only [hat_at]
  refine Eq.trans ?_ (colSum_at _ _ _).symm
  exact Finset.sum_congr rfl fun x _ => mul_comm _ _

theorem shift_eq : shiftV Z = dShift Z := by
  funext i
  idx_vars i
  pointwise [shiftV]
  exact (colSum_at (fun x l => Z (ix2 x l)) _ _).symm

variable (m : (ℓ : Loc nD τ sig) → Buf (Elt Ideal) ℓ) (c : Dev nD)

/-- The arguments. -/
abbrev argH : Rows := m ((c : Thread nD τ).loc main_arg0)
abbrev argS : Rows := m ((c : Thread nD τ).loc main_arg1)
abbrev argZ : Rows := m ((c : Thread nD τ).loc main_arg2)
abbrev argG : Row := m ((c : Thread nD τ).loc main_arg3)

theorem out0_eq : res_out0 m c = truncf .bf16 (toRowV (argH m c) (argS m c) (argZ m c) (argG m c)) bitsLt_bf16_f32 := rfl
theorem out1_eq : res_out1 m c = streamV (argH m c) (argS m c) (argZ m c) (argG m c) := rfl

end Cert.LnBwdRefIdeal.Ln

end
-- ==== Proof.Ffn.Finite.lean ====
/- The precondition says that every entry is a real number. -/
module

public import proofs.«01_k».proof.Proof.Ffn.Spec
public import proofs.«01_k».proof.Pre_finite
public import proofs.«01_k».proof.Proof.Gen.Pre_finite
public import Idealize.ShloMosaic.Lib.Pointwise
public import Idealize.ShloMosaic.Lib.ReduceAll

@[expose] public section

set_option maxRecDepth 16384

noncomputable section

namespace Cert.Spec

open Cert.Pre_finite Cert.Pre_finite.Gen Idealize.ShloMosaic

/-- The comparison's bound is plus infinity. -/
theorem bound_top : Ideal.ofBits .f32 0x7F800000#32 = (⊤ : EReal) := by
  simp [Ideal.ofBits, Ideal.ieee]

/-- A magnitude below plus infinity is that of a real number. -/
theorem real_of_lt (x : EReal)
    (h : BitVec.ofBool (decide ((FloatOps.absf (F := Ideal) (φ := .f32) x : EReal) < Ideal.ofBits .f32 0x7F800000#32)) = 1#1) :
    ∃ r : ℝ, x = (r : EReal) := by
  rw [bound_top] at h
  have h' : (max x (-x) : EReal) < ⊤ := by
    by_contra hn
    have hd : decide ((FloatOps.absf (F := Ideal) (φ := .f32) x : EReal) < ⊤) = false := decide_eq_false hn
    rw [hd] at h
    exact absurd h (by decide)
  induction x using EReal.rec with
  | bot => simp at h'
  | coe r => exact ⟨r, rfl⟩
  | top => simp at h'

theorem real_of_pre (H : FVec Ideal S2x4096x5632 .bf16) (Z : FVec Ideal S4096x5632 .bf16) (W : FVec Ideal S3x5632 .f32)
    (B : FVec Ideal S1x5632 .f32) (h : Cert.Pre_finite.fn (F := Ideal) H Z W B = fun _ => 1#1) :
    AllReal H ∧ AllReal Z ∧ AllReal W ∧ AllReal B := by
  have h0 := congrFun h (fun a => a.elim0)
  unfold Cert.Pre_finite.fn Cert.Pre_finite.fn_part1 at h0
  have hs : Subsingleton S_.Idx := ⟨fun a b => funext fun i => i.elim0⟩
  dsimp only at h0
  obtain ⟨h1, hB⟩ := IntOp.andi_eq_one.1 h0
  obtain ⟨h2, hW⟩ := IntOp.andi_eq_one.1 h1
  obtain ⟨hH, hZ⟩ := IntOp.andi_eq_one.1 h2
  refine ⟨fun i => ?_, fun i => ?_, fun i => ?_, fun i => ?_⟩
  · have := Host.reduce_andi_all _ _ _ _ _ hH i
    exact real_of_lt _ (Eq.trans (by pointwise) this)
  · have := Host.reduce_andi_all _ _ _ _ _ hZ i
    exact real_of_lt _ (Eq.trans (by pointwise) this)
  · have := Host.reduce_andi_all _ _ _ _ _ hW i
    exact real_of_lt _ (Eq.trans (by pointwise) this)
  · have := Host.reduce_andi_all _ _ _ _ _ hB i
    exact real_of_lt _ (Eq.trans (by pointwise) this)

end Cert.Spec
-- ==== Proof.Ln.Finite.lean ====
/- What the preconditions of the layer norms' gradients say of the arrays. -/
module

public import proofs.«01_k».proof.Proof.Ffn.Finite
public import proofs.«01_k».proof.Proof.Ln.Bwd
public import proofs.«01_k».proof.Pre_finite_ln
public import proofs.«01_k».proof.Proof.Gen.Pre_finite_ln
public import proofs.«01_k».proof.Pre_finite_loss
public import proofs.«01_k».proof.Proof.Gen.Pre_finite_loss
public import Idealize.ShloMosaic.Lib.Pointwise
public import Idealize.ShloMosaic.Lib.ReduceAll

@[expose] public section

set_option maxRecDepth 16384

noncomputable section

namespace Cert.Ln

open Idealize.ShloMosaic

section
open Cert.Pre_finite_ln Cert.Pre_finite_ln.Gen

/-- The gradient at the normalised entries is real where the incoming gradient and the scale are. -/
theorem inc_of_pre (H S Z : FVec Ideal S4096x2048 .f32) (G : FVec Ideal S1x2048 .f32)
    (h : Cert.Pre_finite_ln.fn (F := Ideal) H S Z G = fun _ => 1#1) (p : Fin 4096) (q : Fin 2048) :
    ∃ r : ℝ, inc Z G p q = (r : EReal) := by
  have h0 := congrFun h (fun a => a.elim0)
  unfold Cert.Pre_finite_ln.fn at h0
  have hs : Subsingleton S_.Idx := ⟨fun a b => funext fun i => i.elim0⟩
  dsimp only at h0
  obtain ⟨hZ, hG⟩ := IntOp.andi_eq_one.1 h0
  have eZ := Host.reduce_andi_all _ _ _ _ _ hZ (ix2 p q)
  have eG := Host.reduce_andi_all _ _ _ _ _ hG (ix2 0 q)
  obtain ⟨z, hz⟩ := Cert.Spec.real_of_lt (Z (ix2 p q)) (Eq.trans (by pointwise) eZ)
  obtain ⟨g, hg⟩ := Cert.Spec.real_of_lt (G (ix2 0 q)) (Eq.trans (by pointwise) eG)
  refine ⟨z * g, ?_⟩
  change Z (ix2 p q) * G (ix2 0 q) = _
  rw [hz, hg]
  exact (EReal.coe_mul z g).symm
end

section
open Cert.Pre_finite_loss Cert.Pre_finite_loss.Gen

/-- The gradient at the normalised entries is real where the target, the scale and the shift are. -/
theorem inc_of_loss (H S Z : FVec Ideal S4096x2048 .f32) (G B : FVec Ideal S1x2048 .f32)
    (h : Cert.Pre_finite_loss.fn (F := Ideal) H S Z G B = fun _ => 1#1) (p : Fin 4096) (q : Fin 2048) :
    ∃ r : ℝ, inc (dNorm H S Z G B) G p q = (r : EReal) := by
  have h0 := congrFun h (fun a => a.elim0)
  unfold Cert.Pre_finite_loss.fn at h0
  have hs : Subsingleton S_.Idx := ⟨fun a b => funext fun i => i.elim0⟩
  dsimp only at h0
  obtain ⟨h1, hB⟩ := IntOp.andi_eq_one.1 h0
  obtain ⟨hZ, hG⟩ := IntOp.andi_eq_one.1 h1
  refine inc_real H S Z G B (fun i => ?_) (fun i => ?_) (fun i => ?_) p q
  · have := Host.reduce_andi_all _ _ _ _ _ hZ i
    exact Cert.Spec.real_of_lt _ (Eq.trans (by pointwise) this)
  · have := Host.reduce_andi_all _ _ _ _ _ hG i
    exact Cert.Spec.real_of_lt _ (Eq.trans (by pointwise) this)
  · have := Host.reduce_andi_all _ _ _ _ _ hB i
    exact Cert.Spec.real_of_lt _ (Eq.trans (by pointwise) this)
end

end Cert.Ln

end
-- ==== Proof.Ln.LnLoss.lean ====
/- The loss and the gradient of the last layer norm: the kernel's blocks and arrays. -/
module

public import proofs.«01_k».proof.Proof.Ln.Bwd
public import proofs.«01_k».proof.Proof.Gen.LnLossIdeal.Value
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.LnLossIdeal.Ln

open Cert.LnLossIdeal Cert.LnLossIdeal.Gen Cert.LnLossIdeal.Value Idealize.ShloMosaic Idealize.ShloMosaic.TcCoe Idealize.SL.Sem
open Cert.Ln
open Idealize.ShloMosaic.Pipeline (Dat)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments. -/
abbrev argH : FVec Ideal S4096x2048 .f32 := m ((c : Thread nD τ).loc main_arg0)
abbrev argS : FVec Ideal S4096x2048 .f32 := m ((c : Thread nD τ).loc main_arg1)
abbrev argZ : FVec Ideal S4096x2048 .f32 := m ((c : Thread nD τ).loc main_arg2)
abbrev argG : FVec Ideal S1x2048 .f32 := m ((c : Thread nD τ).loc main_arg3)
abbrev argB : FVec Ideal S1x2048 .f32 := m ((c : Thread nD τ).loc main_arg4)

/-- The row that a row of point `t`'s block is. -/
def rowOf (t : Fin cfg0.N) (p : Fin 512) : Fin 4096 := ⟨512 * (t.val % 8) + p.val, by omega⟩

theorem blk0 (t : Fin cfg0.N) (p : Fin 512) (q : Fin 2048) : iblk m c 0 t (ix2 p q) = argH m c (ix2 (rowOf t p) q) := by
  have hp := points t
  blk_ext! [iblk, V, at0 t, rowOf, argH]
theorem blk1 (t : Fin cfg0.N) (p : Fin 512) (q : Fin 2048) : iblk m c 1 t (ix2 p q) = argS m c (ix2 (rowOf t p) q) := by
  have hp := points t
  blk_ext! [iblk, V, at1 t, rowOf, argS]
theorem blk2 (t : Fin cfg0.N) (p : Fin 512) (q : Fin 2048) : iblk m c 2 t (ix2 p q) = argZ m c (ix2 (rowOf t p) q) := by
  have hp := points t
  blk_ext! [iblk, V, at2 t, rowOf, argZ]
theorem blk3 (t : Fin cfg0.N) (p : Fin 1) (q : Fin 2048) : iblk m c 3 t (ix2 p q) = argG m c (ix2 p q) := by
  have hp := points t
  blk_ext! [iblk, V, at3 t, argG]
theorem blk4 (t : Fin cfg0.N) (p : Fin 1) (q : Fin 2048) : iblk m c 4 t (ix2 p q) = argB m c (ix2 p q) := by
  have hp := points t
  blk_ext! [iblk, V, at4 t, argB]

/-! ## A block's values -/

theorem dev_at (t : Fin cfg0.N) (p : Fin 512) (q : Fin 2048) :
    k0_pay3 (iblk m c 0 t) (iblk m c 1 t) (ix2 p q) = dev (row (argH m c) (argS m c) (rowOf t p)) q := by
  pointwise [k0_pay3]
  simp only [blk0, blk1]
  rfl

theorem rstd_at (t : Fin cfg0.N) (p : Fin 512) (z : Fin 1) :
    k0_pay4 (iblk m c 0 t) (iblk m c 1 t) (ix2 p z) = rstd (row (argH m c) (argS m c) (rowOf t p)) := by
  pointwise [k0_pay4]
  simp only [dev_at]
  rfl

theorem hat_at (t : Fin cfg0.N) (p : Fin 512) (q : Fin 2048) :
    k0_pay5 (iblk m c 0 t) (iblk m c 1 t) (ix2 p q) = hat (row (argH m c) (argS m c) (rowOf t p)) q := by
  pointwise [k0_pay5]
  simp only [dev_at, rstd_at]
  rfl

theorem err_at (t : Fin cfg0.N) (p : Fin 512) (q : Fin 2048) :
    (k0_pay6 (iblk m c 0 t) (iblk m c 1 t) (iblk m c 3 t) (iblk m c 4 t) (iblk m c 2 t)) (ix2 p q) = err (argH m c) (argS m c) (argZ m c) (argG m c) (argB m c) (ix2 (rowOf t p) q) := by
  pointwise [k0_pay6]
  simp only [hat_at, blk2, blk3, blk4]
  rfl

theorem norm_at (t : Fin cfg0.N) (p : Fin 512) (q : Fin 2048) :
    k0_pay8 (k0_pay6 (iblk m c 0 t) (iblk m c 1 t) (iblk m c 3 t) (iblk m c 4 t) (iblk m c 2 t)) (Ideal.ofBits .f32 0x3A000000#32) (ix2 p q) = dNorm (argH m c) (argS m c) (argZ m c) (argG m c) (argB m c) (ix2 (rowOf t p) q) := by
  pointwise [k0_pay8]
  simp only [err_at]
  rfl

theorem grad_at (t : Fin cfg0.N) (p : Fin 512) (q : Fin 2048) :
    k0_pay9 (k0_pay4 (iblk m c 0 t) (iblk m c 1 t)) (k0_pay5 (iblk m c 0 t) (iblk m c 1 t)) (k0_pay6 (iblk m c 0 t) (iblk m c 1 t) (iblk m c 3 t) (iblk m c 4 t) (iblk m c 2 t)) (Ideal.ofBits .f32 0x3A000000#32) (iblk m c 3 t) (ix2 p q) = dBranch (argH m c) (argS m c) (dNorm (argH m c) (argS m c) (argZ m c) (argG m c) (argB m c)) (argG m c) (ix2 (rowOf t p) q) := by
  pointwise [k0_pay9]
  simp only [hat_at, rstd_at, norm_at, blk3]
  rfl

theorem sum_rows (f : Fin 4096 → Fin 2048 → EReal) (t : Fin cfg0.N) (l : Fin 2048) :
    ∑ p : Fin 512, f (rowOf t p) l = ∑ n ∈ Finset.range 512, atRow f l (512 * (t.val % 8) + n) := by
  rw [Finset.sum_range]
  refine Finset.sum_congr rfl fun p _ => ?_
  unfold atRow
  rw [dif_pos (show 512 * (t.val % 8) + p.val < 4096 from (rowOf t p).isLt)]
  rfl

/-- A block's share of the scale's gradient, and of the shift's. -/
def scalePart (t : Fin cfg0.N) (l : Fin 2048) : EReal :=
  ∑ n ∈ Finset.range 512, atRow (fun x l => dNorm (argH m c) (argS m c) (argZ m c) (argG m c) (argB m c) (ix2 x l) * hat (row (argH m c) (argS m c) x) l) l (512 * (t.val % 8) + n)
@[inherit_doc scalePart]
def shiftPart (t : Fin cfg0.N) (l : Fin 2048) : EReal :=
  ∑ n ∈ Finset.range 512, atRow (fun x l => dNorm (argH m c) (argS m c) (argZ m c) (argG m c) (argB m c) (ix2 x l)) l (512 * (t.val % 8) + n)

/-- Half a row's share of the loss, zero past the last row. -/
def halfRow (n : ℕ) : EReal :=
  if h : n < 4096 then Ideal.ofBits .f32 0x3F000000#32 * rowLoss (argH m c) (argS m c) (argZ m c) (argG m c) (argB m c) ⟨n, h⟩ else 0

/-- A block's share of the loss. -/
def lossPart (t : Fin cfg0.N) : EReal := ∑ n ∈ Finset.range 512, halfRow m c (512 * (t.val % 8) + n)

theorem scale_at (t : Fin cfg0.N) (l : Fin 2048) (v : FVec Ideal S1x2048 .f32) :
    k0_pay1 (k0_pay10 (k0_pay5 (iblk m c 0 t) (iblk m c 1 t)) (k0_pay6 (iblk m c 0 t) (iblk m c 1 t) (iblk m c 3 t) (iblk m c 4 t) (iblk m c 2 t)) (Ideal.ofBits .f32 0x3A000000#32)) v (ix2 0 l) = v (ix2 0 l) + scalePart m c t l := by
  pointwise [k0_pay1, k0_pay10]
  simp only [hat_at, norm_at]
  exact congrArg _ (sum_rows (fun x l => dNorm (argH m c) (argS m c) (argZ m c) (argG m c) (argB m c) (ix2 x l) * hat (row (argH m c) (argS m c) x) l) t l)

theorem shift_at (t : Fin cfg0.N) (l : Fin 2048) (v : FVec Ideal S1x2048 .f32) :
    k0_pay2 (k0_pay11 (k0_pay6 (iblk m c 0 t) (iblk m c 1 t) (iblk m c 3 t) (iblk m c 4 t) (iblk m c 2 t)) (Ideal.ofBits .f32 0x3A000000#32)) v (ix2 0 l) = v (ix2 0 l) + shiftPart m c t l := by
  pointwise [k0_pay2, k0_pay11]
  simp only [norm_at]
  exact congrArg _ (sum_rows (fun x l => dNorm (argH m c) (argS m c) (argZ m c) (argG m c) (argB m c) (ix2 x l)) t l)

theorem loss_at (t : Fin cfg0.N) (l : Fin 128) (v : FVec Ideal S1x128 .f32) :
    k0_pay17 (k0_pay7 (iblk m c 0 t) (iblk m c 1 t) (iblk m c 3 t) (iblk m c 4 t) (iblk m c 2 t)) v (ix2 0 l) = v (ix2 0 l) + lossPart m c t := by
  pointwise [k0_pay17, k0_pay7]
  simp only [err_at]
  refine congrArg _ ((half_sum _).trans ?_)
  unfold lossPart
  rw [Finset.sum_range]
  refine Finset.sum_congr rfl fun p _ => ?_
  unfold halfRow
  rw [dif_pos (show 512 * (t.val % 8) + p.val < 4096 from (rowOf t p).isLt)]
  rfl

/-! ## What a point leaves -/

theorem branch_out (t : Fin cfg0.N) (p : Fin 512) (q : Fin 2048) :
    (outsAt0 m c t.val t.isLt).2.1 (ix2 p q) = dBranch (argH m c) (argS m c) (dNorm (argH m c) (argS m c) (argZ m c) (argG m c) (argB m c)) (argG m c) (ix2 (rowOf t p) q) := by
  by_cases hm : t.val % 8 = 0
  · rw [outsAt0_A m c t hm]
    frame_out
    pointwise [k0_pay12]
    exact grad_at m c t p q
  · rw [outsAt0_B m c t hm]
    frame_out
    pointwise [k0_pay12]
    exact grad_at m c t p q

theorem stream_out (t : Fin cfg0.N) (p : Fin 512) (q : Fin 2048) :
    (outsAt0 m c t.val t.isLt).2.2.1 (ix2 p q) = dStream (argH m c) (argS m c) (dNorm (argH m c) (argS m c) (argZ m c) (argG m c) (argB m c)) (argG m c) (ix2 (rowOf t p) q) := by
  by_cases hm : t.val % 8 = 0
  · rw [outsAt0_A m c t hm]
    frame_out
    pointwise [k0_pay13]
    exact congrArg _ (grad_at m c t p q)
  · rw [outsAt0_B m c t hm]
    frame_out
    pointwise [k0_pay13]
    exact congrArg _ (grad_at m c t p q)

theorem scale_A (t : Fin cfg0.N) (hm : t.val % 8 = 0) (l : Fin 2048) :
    (outsAt0 m c t.val t.isLt).2.2.2.1 (ix2 0 l) = 0 + scalePart m c t l := by
  rw [outsAt0_A m c t hm]
  frame_open
  simp (disch := decide) only [↓ View.readCov_skip, ↓ View.readCov_cons_toLoadRect, ↓ View.readCov_fill]
  frame_out
  refine (scale_at m c t l _).trans (congrArg (· + _) ?_)
  pointwise [k0_pay15]

theorem scale_B (t : Fin cfg0.N) (hm : ¬t.val % 8 = 0) (l : Fin 2048) :
    (outsAt0 m c t.val t.isLt).2.2.2.1 (ix2 0 l)
      = (outsAt0 m c (t.val - 1) (Nat.lt_of_le_of_lt (Nat.sub_le _ _) t.isLt)).2.2.2.1 (ix2 0 l) + scalePart m c t l := by
  rw [outsAt0_B m c t hm]
  frame_out
  exact scale_at m c t l _

theorem scale_last (t : Fin cfg0.N) (h7 : t.val % 8 = 7) (l : Fin 2048) :
    (outsAt0 m c t.val t.isLt).2.2.2.1 (ix2 0 l) = dScale (argH m c) (argS m c) (dNorm (argH m c) (argS m c) (argZ m c) (argG m c) (argB m c)) (ix2 0 l) := by
  have := Pipeline.eq_sum_of_reset_step_apply_divmod (fun n h => (outsAt0 m c n h).2.2.2.1) 8 (fun _ => 0)
    (fun _ r (i : S1x2048.Idx) => ∑ n ∈ Finset.range 512, atRow (fun x l => dNorm (argH m c) (argS m c) (argZ m c) (argG m c) (argB m c) (ix2 x l) * hat (row (argH m c) (argS m c) x) l) (i 1) (512 * r + n))
    (fun t h i => by idx_vars i; obtain rfl : i0 = 0 := Subsingleton.elim _ _; rw [scale_A m c t h]; rfl)
    (fun t h i => by idx_vars i; obtain rfl : i0 = 0 := Subsingleton.elim _ _; rw [scale_B m c t h]; rfl) t (ix2 0 l)
  refine this.trans ?_
  rw [h7, zero_add]
  refine Eq.trans ?_ (Finset.sum_range_mul_split 8 512 _).symm
  refine Finset.sum_congr rfl fun r _ => Finset.sum_congr rfl fun q _ => ?_
  rw [Nat.mul_comm r 512]

theorem shift_A (t : Fin cfg0.N) (hm : t.val % 8 = 0) (l : Fin 2048) :
    (outsAt0 m c t.val t.isLt).2.2.2.2 (ix2 0 l) = 0 + shiftPart m c t l := by
  rw [outsAt0_A m c t hm]
  frame_open
  simp (disch := decide) only [↓ View.readCov_skip, ↓ View.readCov_cons_toLoadRect, ↓ View.readCov_fill]
  frame_out
  refine (shift_at m c t l _).trans (congrArg (· + _) ?_)
  pointwise [k0_pay16]

theorem shift_B (t : Fin cfg0.N) (hm : ¬t.val % 8 = 0) (l : Fin 2048) :
    (outsAt0 m c t.val t.isLt).2.2.2.2 (ix2 0 l)
      = (outsAt0 m c (t.val - 1) (Nat.lt_of_le_of_lt (Nat.sub_le _ _) t.isLt)).2.2.2.2 (ix2 0 l) + shiftPart m c t l := by
  rw [outsAt0_B m c t hm]
  frame_out
  exact shift_at m c t l _

theorem shift_last (t : Fin cfg0.N) (h7 : t.val % 8 = 7) (l : Fin 2048) :
    (outsAt0 m c t.val t.isLt).2.2.2.2 (ix2 0 l) = dShift (dNorm (argH m c) (argS m c) (argZ m c) (argG m c) (argB m c)) (ix2 0 l) := by
  have := Pipeline.eq_sum_of_reset_step_apply_divmod (fun n h => (outsAt0 m c n h).2.2.2.2) 8 (fun _ => 0)
    (fun _ r (i : S1x2048.Idx) => ∑ n ∈ Finset.range 512, atRow (fun x l => dNorm (argH m c) (argS m c) (argZ m c) (argG m c) (argB m c) (ix2 x l)) (i 1) (512 * r + n))
    (fun t h i => by idx_vars i; obtain rfl : i0 = 0 := Subsingleton.elim _ _; rw [shift_A m c t h]; rfl)
    (fun t h i => by idx_vars i; obtain rfl : i0 = 0 := Subsingleton.elim _ _; rw [shift_B m c t h]; rfl) t (ix2 0 l)
  refine this.trans ?_
  rw [h7, zero_add]
  refine Eq.trans ?_ (Finset.sum_range_mul_split 8 512 _).symm
  refine Finset.sum_congr rfl fun r _ => Finset.sum_congr rfl fun q _ => ?_
  rw [Nat.mul_comm r 512]

theorem loss_A (t : Fin cfg0.N) (hm : t.val % 8 = 0) (l : Fin 128) :
    (outsAt0 m c t.val t.isLt).1 (ix2 0 l) = 0 + lossPart m c t := by
  rw [outsAt0_A m c t hm]
  frame_open
  simp (disch := decide) only [↓ View.readCov_skip, ↓ View.readCov_cons_toLoadRect, ↓ View.readCov_fill]
  frame_out
  refine (loss_at m c t l _).trans (congrArg (· + _) ?_)
  pointwise [k0_pay14]

theorem loss_B (t : Fin cfg0.N) (hm : ¬t.val % 8 = 0) (l : Fin 128) :
    (outsAt0 m c t.val t.isLt).1 (ix2 0 l)
      = (outsAt0 m c (t.val - 1) (Nat.lt_of_le_of_lt (Nat.sub_le _ _) t.isLt)).1 (ix2 0 l) + lossPart m c t := by
  rw [outsAt0_B m c t hm]
  frame_out
  exact loss_at m c t l _

theorem loss_last (t : Fin cfg0.N) (h7 : t.val % 8 = 7) (l : Fin 128) :
    (outsAt0 m c t.val t.isLt).1 (ix2 0 l) = loss (argH m c) (argS m c) (argZ m c) (argG m c) (argB m c) := by
  have := Pipeline.eq_sum_of_reset_step_apply_divmod (fun n h => (outsAt0 m c n h).1) 8 (fun _ => 0)
    (fun _ r (i : S1x128.Idx) => ∑ n ∈ Finset.range 512, halfRow m c (512 * r + n))
    (fun t h i => by idx_vars i; obtain rfl : i0 = 0 := Subsingleton.elim _ _; rw [loss_A m c t h]; rfl)
    (fun t h i => by idx_vars i; obtain rfl : i0 = 0 := Subsingleton.elim _ _; rw [loss_B m c t h]; rfl) t (ix2 0 l)
  refine this.trans ?_
  rw [h7, zero_add]
  refine Eq.trans ?_ (Finset.sum_range_mul_split 8 512 _).symm
  refine Finset.sum_congr rfl fun r _ => Finset.sum_congr rfl fun q _ => ?_
  rw [Nat.mul_comm r 512]
  rfl

/-- The loss in every lane. -/
def lossLine (x : EReal) : FVec Ideal S1x128 .f32 := fun _ => x

/-! ## The arrays after the run -/

theorem arr5 : (dats m 0 c).arrAt 5 cfg0.N = lossLine (loss (argH m c) (argS m c) (argZ m c) (argG m c) (argB m c)) := by
  refine (dats m 0 c).arrAt_eq_of_covers 5 _ (by decide +kernel) fun t hf y => ?_
  blk_simp
  rw [after0_5]
  idx_vars y
  obtain rfl : y0 = 0 := Subsingleton.elim _ _
  rw [loss_last m c t ((flush0_5 t).mp hf)]
  rfl

theorem arr6 : (dats m 0 c).arrAt 6 cfg0.N = dBranch (argH m c) (argS m c) (dNorm (argH m c) (argS m c) (argZ m c) (argG m c) (argB m c)) (argG m c) := by
  refine (dats m 0 c).arrAt_eq_of_covers 6 _ (by decide +kernel) fun t hf y => ?_
  blk_simp
  rw [after0_6]
  idx_vars y
  have hp := points t
  rw [branch_out]
  generalize dBranch (argH m c) (argS m c) (dNorm (argH m c) (argS m c) (argZ m c) (argG m c) (argB m c)) (argG m c) = R
  blk_ext! [at6 t, rowOf]

theorem arr7 : (dats m 0 c).arrAt 7 cfg0.N = dStream (argH m c) (argS m c) (dNorm (argH m c) (argS m c) (argZ m c) (argG m c) (argB m c)) (argG m c) := by
  refine (dats m 0 c).arrAt_eq_of_covers 7 _ (by decide +kernel) fun t hf y => ?_
  blk_simp
  rw [after0_7]
  idx_vars y
  have hp := points t
  rw [stream_out]
  generalize dStream (argH m c) (argS m c) (dNorm (argH m c) (argS m c) (argZ m c) (argG m c) (argB m c)) (argG m c) = R
  blk_ext! [at7 t, rowOf]

theorem arr8 : (dats m 0 c).arrAt 8 cfg0.N = dScale (argH m c) (argS m c) (dNorm (argH m c) (argS m c) (argZ m c) (argG m c) (argB m c)) := by
  refine (dats m 0 c).arrAt_eq_of_covers 8 _ (by decide +kernel) fun t hf y => ?_
  blk_simp
  rw [after0_8]
  idx_vars y
  obtain rfl : y0 = 0 := Subsingleton.elim _ _
  rw [scale_last m c t ((flush0_8 t).mp hf)]
  generalize dScale (argH m c) (argS m c) (dNorm (argH m c) (argS m c) (argZ m c) (argG m c) (argB m c)) = R
  blk_ext! [at8 t]

theorem arr9 : (dats m 0 c).arrAt 9 cfg0.N = dShift (dNorm (argH m c) (argS m c) (argZ m c) (argG m c) (argB m c)) := by
  refine (dats m 0 c).arrAt_eq_of_covers 9 _ (by decide +kernel) fun t hf y => ?_
  blk_simp
  rw [after0_9]
  idx_vars y
  obtain rfl : y0 = 0 := Subsingleton.elim _ _
  rw [shift_last m c t ((flush0_9 t).mp hf)]
  generalize dShift (dNorm (argH m c) (argS m c) (argZ m c) (argG m c) (argB m c)) = R
  blk_ext! [at9 t]

end Cert.LnLossIdeal.Ln

end
-- ==== Proof.Ln.LnLossRef.lean ====
/- The loss and its derivative at the last layer norm, entry by entry. -/
module

public import proofs.«01_k».proof.Proof.Ln.Bwd
public import proofs.«01_k».proof.Proof.Gen.LnLossRefIdeal.Run
public import proofs.«01_k».proof.Proof.Gen.LnLossIdeal.Value
public import proofs.«01_k».proof.Proof.Ln.LnLoss
public import Idealize.ShloMosaic.Lib.Pipeline.ValueKit
public import Idealize.ShloMosaic.Lib.Pointwise

@[expose] public section

set_option maxRecDepth 16384
set_option maxHeartbeats 1000000

noncomputable section

namespace Cert.LnLossRefIdeal.Ln

open Cert.LnLossRefIdeal Cert.LnLossRefIdeal.Gen Cert.LnLossRefIdeal.Value Idealize.ShloMosaic Idealize.ShloMosaic.TcCoe Idealize.SL.Sem
open Cert.Ln

/-- The types of the arguments. -/
abbrev Rows : Type := FVec Ideal S4096x2048 .f32
abbrev Row : Type := FVec Ideal S1x2048 .f32

/-- The residual's rows. -/
def rowV (H S : Rows) : Rows :=
  addf (mulf (broadcastInDim S4096x2048 ![] bcast_S_S4096x2048 (constant S_ .f32 0x3FB504F3#32 )) H) S
/-- The distances from the rows' means. -/
def devV (H S : Rows) : Rows :=
  subf (rowV H S) (broadcastInDim S4096x2048 ![0, 1] bcast_S4096x1_S4096x2048_0_1 (Host.divf (broadcastInDim S4096x1 ![0] bcast_S4096_S4096x1_0 (Host.reduceAdd (rowV H S) (constant S_ .f32 0x00000000#32 ) reducesTo_S4096x2048_S4096_d1 h_S_)) (broadcastInDim S4096x1 ![] bcast_S_S4096x1 (constant S_ .f32 0x45000000#32 ))))
/-- The rows' variances, with the constant. -/
def spreadV (H S : Rows) : FVec Ideal S4096x1 .f32 :=
  addf (Host.divf (broadcastInDim S4096x1 ![0] bcast_S4096_S4096x1_0 (Host.reduceAdd (mulf (devV H S) (devV H S)) (constant S_ .f32 0x00000000#32 ) reducesTo_S4096x2048_S4096_d1 h_S_)) (broadcastInDim S4096x1 ![] bcast_S_S4096x1 (constant S_ .f32 0x45000000#32 ))) (broadcastInDim S4096x1 ![] bcast_S_S4096x1 (constant S_ .f32 0x3727C5AC#32 ))
/-- One over the rows' standard deviations. -/
def rstdV (H S : Rows) : FVec Ideal S4096x1 .f32 :=
  Host.rsqrt (spreadV H S)
/-- The normalised entries. -/
def hatV (H S : Rows) : Rows :=
  mulf (devV H S) (broadcastInDim S4096x2048 ![0, 1] bcast_S4096x1_S4096x2048_0_1 (rstdV H S))
/-- The distances from the target. -/
def errV (H S Z : Rows) (G B : Row) : Rows :=
  subf (addf (mulf (hatV H S) (broadcastInDim S4096x2048 ![0, 1] bcast_S1x2048_S4096x2048_0_1 G)) (broadcastInDim S4096x2048 ![0, 1] bcast_S1x2048_S4096x2048_0_1 B)) Z
/-- The rows' mean squares. -/
def rowLossV (H S Z : Rows) (G B : Row) : FVec Ideal S4096 .f32 :=
  Host.divf (Host.reduceAdd (mulf (errV H S Z G B) (errV H S Z G B)) (constant S_ .f32 0x00000000#32 ) reducesTo_S4096x2048_S4096_d1 h_S_) (broadcastInDim S4096 ![] bcast_S_S4096 (constant S_ .f32 0x45000000#32 ))
/-- The loss in every lane. -/
def lossV (H S Z : Rows) (G B : Row) : FVec Ideal S1x128 .f32 :=
  broadcastInDim S1x128 ![] bcast_S_S1x128 (mulf (constant S_ .f32 0x3F000000#32 ) (Host.reduceAdd (rowLossV H S Z G B) (constant S_ .f32 0x00000000#32 ) reducesTo_S4096_S_d0 h_S_))
/-- The gradient at the norm. -/
def normV (H S Z : Rows) (G B : Row) : Rows :=
  mulf (broadcastInDim S4096x2048 ![0] bcast_S4096_S4096x2048_0 (Host.divf (broadcastInDim S4096 ![] bcast_S_S4096 (mulf (constant S_ .f32 0x3F000000#32 ) (constant S_ .f32 0x3F800000#32 ))) (broadcastInDim S4096 ![] bcast_S_S4096 (constant S_ .f32 0x45000000#32 )))) (mulf (broadcastInDim S4096x2048 ![] bcast_S_S4096x2048 (constant S_ .f32 0x40000000#32 )) (errV H S Z G B))
/-- The gradient at the normalised entries. -/
def incV (H S Z : Rows) (G B : Row) : Rows :=
  mulf (normV H S Z G B) (broadcastInDim S4096x2048 ![0, 1] bcast_S1x2048_S4096x2048_0_1 G)
/-- The gradient at the variances. -/
def slopeV (H S Z : Rows) (G B : Row) : FVec Ideal S4096x1 .f32 :=
  Host.divf (mulf (shapeCast S4096x1 (Host.reduceAdd (mulf (devV H S) (incV H S Z G B)) (constant S_ .f32 0x00000000#32 ) reducesTo_S4096x2048_S4096_d1 h_S_) shapeCasts_S4096_S4096x1) (mulf (broadcastInDim S4096x1 ![] bcast_S_S4096x1 (constant S_ .f32 0xBF000000#32 )) (Host.divf (rstdV H S) (spreadV H S)))) (broadcastInDim S4096x1 ![] bcast_S_S4096x1 (constant S_ .f32 0x45000000#32 ))
/-- The gradient at the distances. -/
def toDevV (H S Z : Rows) (G B : Row) : Rows :=
  addf (addf (mulf (incV H S Z G B) (broadcastInDim S4096x2048 ![0, 1] bcast_S4096x1_S4096x2048_0_1 (rstdV H S))) (mulf (devV H S) (broadcastInDim S4096x2048 ![0] bcast_S4096_S4096x2048_0 (Host.reduceAdd (slopeV H S Z G B) (constant S_ .f32 0x00000000#32 ) reducesTo_S4096x1_S4096_d1 h_S_)))) (mulf (broadcastInDim S4096x2048 ![0] bcast_S4096_S4096x2048_0 (Host.reduceAdd (slopeV H S Z G B) (constant S_ .f32 0x00000000#32 ) reducesTo_S4096x1_S4096_d1 h_S_)) (devV H S))
/-- The gradient at the rows. -/
def toRowV (H S Z : Rows) (G B : Row) : Rows :=
  addf (toDevV H S Z G B) (broadcastInDim S4096x2048 ![0] bcast_S4096_S4096x2048_0 (Host.reduceAdd (Host.divf (shapeCast S4096x1 (Host.reduceAdd (Host.negf (toDevV H S Z G B)) (constant S_ .f32 0x00000000#32 ) reducesTo_S4096x2048_S4096_d1 h_S_) shapeCasts_S4096_S4096x1) (broadcastInDim S4096x1 ![] bcast_S_S4096x1 (constant S_ .f32 0x45000000#32 ))) (constant S_ .f32 0x00000000#32 ) reducesTo_S4096x1_S4096_d1 h_S_))
/-- The gradient at the stream. -/
def streamV (H S Z : Rows) (G B : Row) : Rows :=
  mulf (broadcastInDim S4096x2048 ![] bcast_S_S4096x2048 (constant S_ .f32 0x3FB504F3#32 )) (toRowV H S Z G B)
/-- The gradient at the scale. -/
def scaleV (H S Z : Rows) (G B : Row) : Row :=
  shapeCast S1x2048 (Host.reduceAdd (mulf (hatV H S) (normV H S Z G B)) (constant S_ .f32 0x00000000#32 ) reducesTo_S4096x2048_S2048_d0 h_S_) shapeCasts_S2048_S1x2048
/-- The gradient at the shift. -/
def shiftV (H S Z : Rows) (G B : Row) : Row :=
  shapeCast S1x2048 (Host.reduceAdd (normV H S Z G B) (constant S_ .f32 0x00000000#32 ) reducesTo_S4096x2048_S2048_d0 h_S_) shapeCasts_S2048_S1x2048

variable (H S Z : Rows) (G B : Row)

theorem row_at (p : Fin 4096) (q : Fin 2048) : rowV H S (ix2 p q) = row H S p q := by
  pointwise [rowV]
  rfl

theorem dev_at (p : Fin 4096) (q : Fin 2048) : devV H S (ix2 p q) = dev (row H S p) q := by
  pointwise [devV]
  simp only [row_at]
  rfl

theorem spread_at (p : Fin 4096) (z : Fin 1) : spreadV H S (ix2 p z) = spread (row H S p) := by
  pointwise [spreadV]
  simp only [dev_at]
  rfl

theorem rstd_at (p : Fin 4096) (z : Fin 1) : rstdV H S (ix2 p z) = rstd (row H S p) := by
  pointwise [rstdV]
  simp only [spread_at]
  rfl

theorem hat_at (p : Fin 4096) (q : Fin 2048) : hatV H S (ix2 p q) = hat (row H S p) q := by
  pointwise [hatV]
  simp only [dev_at, rstd_at]
  rfl

theorem err_at (p : Fin 4096) (q : Fin 2048) : errV H S Z G B (ix2 p q) = err H S Z G B (ix2 p q) := by
  pointwise [errV]
  simp only [hat_at]
  rfl

theorem rowLoss_at (p : Fin 4096) : rowLossV H S Z G B (ix1 p) = rowLoss H S Z G B p := by
  pointwise [rowLossV]
  simp only [err_at]
  rfl

theorem loss_at : lossV H S Z G B = Cert.LnLossIdeal.Ln.lossLine (loss H S Z G B) := by
  funext i
  idx_vars i
  pointwise [lossV]
  simp only [rowLoss_at]
  exact (loss_eq H S Z G B).symm

theorem norm_at (p : Fin 4096) (q : Fin 2048) : normV H S Z G B (ix2 p q) = dNorm H S Z G B (ix2 p q) := by
  pointwise [normV]
  simp only [err_at]
  have e := norm_eq (err H S Z G B (ix2 p q))
  rw [mul_one] at e
  exact e

theorem inc_at (p : Fin 4096) (q : Fin 2048) : incV H S Z G B (ix2 p q) = inc (dNorm H S Z G B) G p q := by
  pointwise [incV]
  simp only [norm_at]
  rfl

theorem slope_at (p : Fin 4096) (z : Fin 1) : slopeV H S Z G B (ix2 p z) = slope (row H S p) (inc (dNorm H S Z G B) G p) := by
  pointwise [slopeV]
  simp only [dev_at, inc_at, spread_at, rstd_at]
  rfl

theorem toDev_at (p : Fin 4096) (q : Fin 2048) : toDevV H S Z G B (ix2 p q) = toDev (row H S p) (inc (dNorm H S Z G B) G p) q := by
  pointwise [toDevV]
  simp only [dev_at, inc_at, slope_at, rstd_at, Fin.sum_univ_one, zero_add]
  rfl

theorem toRow_at (p : Fin 4096) (q : Fin 2048) : toRowV H S Z G B (ix2 p q) = toRow (row H S p) (inc (dNorm H S Z G B) G p) q := by
  pointwise [toRowV]
  simp only [toDev_at, Fin.sum_univ_one, zero_add]
  rfl

section
variable (hr : ∀ p q, ∃ r : ℝ, inc (dNorm H S Z G B) G p q = (r : EReal))
include hr

theorem branch_eq : toRowV H S Z G B = dBranch H S (dNorm H S Z G B) G := by
  funext i
  idx_vars i
  exact (toRow_at H S Z G B i0 i1).trans (grad_eq _ _ (hr i0) i1).symm

theorem stream_eq : streamV H S Z G B = dStream H S (dNorm H S Z G B) G := by
  funext i
  idx_vars i
  pointwise [streamV]
  rw [branch_eq H S Z G B hr]
  rfl
end

theorem scale_eq : scaleV H S Z G B = dScale H S (dNorm H S Z G B) := by
  funext i
  idx_vars i
  pointwise [scaleV]
  simp only [hat_at, norm_at]
  refine Eq.trans ?_ (colSum_at _ _ _).symm
  exact Finset.sum_congr rfl fun x _ => mul_comm _ _

theorem shift_eq : shiftV H S Z G B = dShift (dNorm H S Z G B) := by
  funext i
  idx_vars i
  pointwise [shiftV]
  simp only [norm_at]
  exact (colSum_at (fun x l => dNorm H S Z G B (ix2 x l)) _ _).symm

variable (m : (ℓ : Loc nD τ sig) → Buf (Elt Ideal) ℓ) (c : Dev nD)

/-- The arguments. -/
abbrev argH : Rows := m ((c : Thread nD τ).loc main_arg0)
abbrev argS : Rows := m ((c : Thread nD τ).loc main_arg1)
abbrev argZ : Rows := m ((c : Thread nD τ).loc main_arg2)
abbrev argG : Row := m ((c : Thread nD τ).loc main_arg3)
abbrev argB : Row := m ((c : Thread nD τ).loc main_arg4)

theorem out0_eq : res_out0 m c = lossV (argH m c) (argS m c) (argZ m c) (argG m c) (argB m c) := rfl
theorem out1_eq : res_out1 m c = truncf .bf16 (toRowV (argH m c) (argS m c) (argZ m c) (argG m c) (argB m c)) bitsLt_bf16_f32 := rfl
theorem out2_eq : res_out2 m c = streamV (argH m c) (argS m c) (argZ m c) (argG m c) (argB m c) := rfl
theorem out3_eq : res_out3 m c = scaleV (argH m c) (argS m c) (argZ m c) (argG m c) (argB m c) := rfl

end Cert.LnLossRefIdeal.Ln

end
-- ==== Proof.Sg.Spec.lean ====
/- The spatial gate as a formula: the gelu of each half, the layer norm of the second half's rows, the causal mix of a chunk's rows in each group of columns. -/
module

public import proofs.«01_k».proof.Proof.Ln.Spec
public import Idealize.ShloMosaic.PureOps.Ideal.Laws
public import Idealize.ShloMosaic.Lib.Pointwise

@[expose] public section

noncomputable section

namespace Cert.Sg

open Idealize.ShloMosaic
open Cert.Ln

/-- The gelu by the error function. -/
def gelu (x : EReal) : EReal := Ideal.ofBits .f32 0x3F000000#32 * x * (1 + Ideal.erf (x * Ideal.ofBits .f32 0x3F3504F3#32))

/-- The lower triangle of ones: row `t` takes the rows up to itself. -/
def tri (t s : Fin 128) : EReal := if s.val ≤ t.val then 1 else 0

/-- One entry of the result: `u` is the first half's entry, `w` the weights of row `t`, `v` the column of gates, `d` the bias. -/
def cell (u : EReal) (w : Fin 128 → EReal) (t : Fin 128) (v : Fin 128 → EReal) (d : EReal) : EReal :=
  u * ((∑ s : Fin 128, w s * tri t s * v s) + d)

theorem ge_bit (t s : Fin 128) :
    IntOp.cmpi CmpIPredicate.sge (BitVec.ofNat 32 t.val) (BitVec.ofNat 32 s.val) = if s.val ≤ t.val then 1#1 else 0#1 := by
  have h1 : (BitVec.ofNat 32 t.val).toInt = t.val := by
    rw [BitVec.toInt_ofNat', Int.bmod_eq_of_le] <;> have := t.isLt <;> omega
  have h2 : (BitVec.ofNat 32 s.val).toInt = s.val := by
    rw [BitVec.toInt_ofNat', Int.bmod_eq_of_le] <;> have := s.isLt <;> omega
  simp only [IntOp.cmpi, BitVec.sle, h1, h2, Nat.cast_le]
  by_cases h : s.val ≤ t.val <;> simp [h]

theorem one_word : FloatOps.sitofp (F := Ideal) .f32 (BitVec.setWidth 32 1#1) = (1 : EReal) := by
  show (((BitVec.setWidth 32 1#1).toInt : ℝ) : EReal) = 1
  simp

theorem zero_word : FloatOps.sitofp (F := Ideal) .f32 (BitVec.setWidth 32 0#1) = (0 : EReal) := by
  show (((BitVec.setWidth 32 0#1).toInt : ℝ) : EReal) = 0
  simp

section
variable {R : ℕ} (P : Fin R → Fin 4096 → EReal)
  (G B : ((⟨2, ![1, 2048]⟩ : Shape)).Idx → EReal) (W C : ((⟨3, ![16, 128, 128]⟩ : Shape)).Idx → EReal)

/-- A row of the second half, activated. -/
def gateRow (r : Fin R) (k : Fin 2048) : EReal := gelu (P r ⟨2048 + k.val, by omega⟩)

/-- The gate before the mix: the row's layer norm. -/
def gate (r : Fin R) (j : Fin 2048) : EReal := hat (gateRow P r) j * G (ix2 0 j) + B (ix2 0 j)

/-- The row `s` of the chunk of 128 rows that row `r` lies in. -/
def inChunk (r : Fin R) (s : Fin 128) (h : r.val - r.val % 128 + 128 ≤ R) : Fin R := ⟨r.val - r.val % 128 + s.val, by omega⟩

/-- The result at row `r` and column `q`; rows past the last whole chunk are not met. -/
def gated (r : Fin R) (q : Fin 2048) : EReal :=
  cell (gelu (P r ⟨q.val, by omega⟩)) (fun s => W (ix3 ⟨q.val / 128, by omega⟩ ⟨r.val % 128, by omega⟩ s)) ⟨r.val % 128, by omega⟩
    (fun s => if h : r.val - r.val % 128 + 128 ≤ R then gate P G B (inChunk r s h) q else 0)
    (C (ix3 ⟨q.val / 128, by omega⟩ ⟨r.val % 128, by omega⟩ ⟨q.val % 128, by omega⟩))

theorem gated_eq (a b g : ℕ) (ha : a % 128 = 0) (ha' : a + 128 ≤ R) (hb : b = 128 * g) (hg : g < 16) (t j : Fin 128) :
    gated P G B W C ⟨a + t.val, by omega⟩ ⟨b + j.val, by omega⟩
      = cell (gelu (P ⟨a + t.val, by omega⟩ ⟨b + j.val, by omega⟩)) (fun s => W (ix3 ⟨g, hg⟩ t s)) t
          (fun s => gate P G B ⟨a + s.val, by omega⟩ ⟨b + j.val, by omega⟩) (C (ix3 ⟨g, hg⟩ t j)) := by
  have e1 : (a + t.val) % 128 = t.val := by omega
  have e2 : (b + j.val) / 128 = g := by omega
  have e3 : (b + j.val) % 128 = j.val := by omega
  have e4 : a + t.val - t.val = a := by omega
  unfold gated
  simp only [e1, e2, e3]
  refine congrArg (fun f => cell _ _ _ f _) (funext fun s => ?_)
  rw [dif_pos (by omega)]
  refine congrArg (fun r => gate P G B r _) (Fin.ext ?_)
  show a + t.val - (a + t.val) % 128 + s.val = a + s.val
  omega

/-- A stretch of 512 rows that starts at a chunk gives what the whole gives there. -/
theorem gated_shift (o : ℕ) (ho : o % 128 = 0) (ho' : o + 512 ≤ R) (p : Fin 512) (q : Fin 2048) :
    gated (fun (r : Fin 512) k => P ⟨o + r.val, by omega⟩ k) G B W C p q = gated P G B W C ⟨o + p.val, by omega⟩ q := by
  have e := gated_eq (fun (r : Fin 512) k => P ⟨o + r.val, by omega⟩ k) G B W C (p.val - p.val % 128) (128 * (q.val / 128)) (q.val / 128)
    (by omega) (by omega) rfl (by omega) ⟨p.val % 128, by omega⟩ ⟨q.val % 128, by omega⟩
  have e' := gated_eq P G B W C (o + (p.val - p.val % 128)) (128 * (q.val / 128)) (q.val / 128)
    (by omega) (by omega) rfl (by omega) ⟨p.val % 128, by omega⟩ ⟨q.val % 128, by omega⟩
  have h1 : p.val - p.val % 128 + p.val % 128 = p.val := by omega
  have h2 : 128 * (q.val / 128) + q.val % 128 = q.val := by omega
  simp only [h1, h2, Nat.add_assoc] at e e'
  rw [e, e']
  rfl

end

end Cert.Sg

end
-- ==== Proof.Sg.SgFwd.lean ====
/- The spatial gate's kernel over the extended reals: eight points, each one block of 512 rows, cut into 64 squares that are stored one after another. -/
module

public import proofs.«01_k».proof.Proof.Gen.SgFwdIdeal.Value
public import proofs.«01_k».proof.Proof.Sg.Spec
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.SgFwdIdeal.Sg

open Cert.SgFwdIdeal Cert.SgFwdIdeal.Gen Cert.SgFwdIdeal.Value Idealize.ShloMosaic Idealize.ShloMosaic.TcCoe Idealize.SL.Sem
open Idealize.ShloMosaic.Pipeline (Dat)
open Cert.Ln Cert.Sg

/-- The kernel's mask is the lower triangle. -/
theorem pay2_at (t s : Fin 128) : k0_pay2 (F := Ideal) (ix2 t s) = tri t s := by
  pointwise [k0_pay2]
  rw [ge_bit]
  unfold tri
  split
  · exact one_word
  · exact zero_word

section
variable (X : FVec Ideal S128x2048 .f32) (G B : FVec Ideal S1x2048 .f32)

/-- A chunk of 128 rows, activated and normalised. -/
def chunk (s : Fin 128) (j : Fin 2048) : EReal := hat (fun k => gelu (X (ix2 s k))) j * G (ix2 0 j) + B (ix2 0 j)

theorem u0_at (s : Fin 128) (j : Fin 2048) : (k0_pay3 (F := Ideal) X (ix2 s j) : EReal) = gelu (X (ix2 s j)) := by
  pointwise [k0_pay3]
  rfl
theorem u1_at (s : Fin 128) (j : Fin 2048) : (k0_pay28 (F := Ideal) X (ix2 s j) : EReal) = gelu (X (ix2 s j)) := u0_at X s j
theorem u2_at (s : Fin 128) (j : Fin 2048) : (k0_pay55 (F := Ideal) X (ix2 s j) : EReal) = gelu (X (ix2 s j)) := u0_at X s j
theorem u3_at (s : Fin 128) (j : Fin 2048) : (k0_pay80 (F := Ideal) X (ix2 s j) : EReal) = gelu (X (ix2 s j)) := u0_at X s j
theorem n0_at (s : Fin 128) (j : Fin 2048) : (k0_pay5 (F := Ideal) (k0_pay4 X G) B (ix2 s j) : EReal) = chunk X G B s j := by
  pointwise [k0_pay5, k0_pay4]
  rfl
theorem n1_at (s : Fin 128) (j : Fin 2048) : (k0_pay31 (F := Ideal) (k0_pay29 X) (k0_pay30 G) B (ix2 s j) : EReal) = chunk X G B s j := n0_at X G B s j
theorem n2_at (s : Fin 128) (j : Fin 2048) : (k0_pay57 (F := Ideal) (k0_pay56 X) G B (ix2 s j) : EReal) = chunk X G B s j := n0_at X G B s j
theorem n3_at (s : Fin 128) (j : Fin 2048) : (k0_pay82 (F := Ideal) (k0_pay81 X) G B (ix2 s j) : EReal) = chunk X G B s j := n0_at X G B s j
end

/-- What one square stores, as the kernel spells it. -/
def square (off : Fin 2 → ℕ) (hs : S128x2048.Slices off S128x128) (U : FVec Ideal S128x2048 .f32) (W : FVec Ideal S1x128x128 .f32)
    (V : FVec Ideal S128x128 .f32) (C : FVec Ideal S1x128x128 .f32) : FVec Ideal S128x128 .bf16 :=
  truncf .bf16 (mulf (extractStridedSlice S128x128 off U hs)
    (addf (matmul dot_S128x128_S128x128_S128x128_1_0_0_1_n_n none
      (truncf .bf16 (mulf (shapeCast S128x128 W shapeCasts_S1x128x128_S128x128) k0_pay2) bitsLt_bf16_f32) (truncf .bf16 V bitsLt_bf16_f32)
      (constant S128x128 .f32 0x00000000#32)) (shapeCast S128x128 C shapeCasts_S1x128x128_S128x128))) bitsLt_bf16_f32

theorem square_at (b : ℕ) (hb : b + 128 ≤ 2048) (hs : S128x2048.Slices ![0, b] S128x128) (U : FVec Ideal S128x2048 .f32) (W : FVec Ideal S1x128x128 .f32)
    (V : FVec Ideal S128x128 .f32) (C : FVec Ideal S1x128x128 .f32) (t j : Fin 128) :
    (square ![0, b] hs U W V C (ix2 t j) : EReal)
      = cell (U (ix2 t ⟨b + j.val, by omega⟩)) (fun s => W (ix3 0 t s)) t (fun s => V (ix2 s j)) (C (ix3 0 t j)) := by
  pointwise [square]
  simp only [pay2_at]
  rfl

/-- A rectangle lies inside a shape. -/
abbrev Within (s : Shape) (o z : Fin s.rank → ℕ) : Prop := ∀ k, o k + z k ≤ s.size k

/-- The rectangles the body reads and writes: a square of the block, 128 whole rows, one group's square, 128 rows of one half. -/
abbrev sq (a b : ℕ) (inb : Within S512x2048 ![a, b] ![128, 128]) : Rect S512x2048 :=
  Rect.unit ![a, b] ![128, 128] inb
abbrev rows (a : ℕ) (inb : Within S512x2048 ![a, 0] ![128, 2048]) : Rect S512x2048 :=
  Rect.unit ![a, 0] ![128, 2048] inb
abbrev groupOf (X : FVec Ideal S16x128x128 .f32) (g : ℕ)
    (inb : Within S16x128x128 ![g, 0, 0] ![1, 128, 128]) : FVec Ideal S1x128x128 .f32 :=
  View.ld (Val := Elt Ideal) (e' := .f32) X (Rect.unit (s := S16x128x128) ![g, 0, 0] ![1, 128, 128] inb)
abbrev halfOf (X : FVec Ideal S512x4096 .f32) (a o : ℕ)
    (inb : Within S512x4096 ![a, o] ![128, 2048]) : FVec Ideal S128x2048 .f32 :=
  View.ld (Val := Elt Ideal) (e' := .f32) X (Rect.unit (s := S512x4096) ![a, o] ![128, 2048] inb)
abbrev keptOf (a b : ℕ)
    (inb : Within S512x2048 ![a, 0] ![128, 2048])
    (inb' : Within S512x2048 ![a, b] ![128, 128])
    (w : FVec Ideal S128x2048 .f32) (L : List (View.Piece (Elt Ideal) S512x2048 .f32)) : FVec Ideal S128x128 .f32 :=
  (View.whole cc0_scratch0).readCov (Val := Elt Ideal) ((⟨rows a inb, w⟩ : View.Piece (Elt Ideal) S512x2048 .f32) :: L) (sq a b inb').toLoadRect

/-- The square a load takes of the rows stored last. -/
theorem kept_at (a b : ℕ) (hb : b + 128 ≤ 2048)
    (inb : Within S512x2048 ![a, 0] ![128, 2048])
    (inb' : Within S512x2048 ![a, b] ![128, 128])
    (w : FVec Ideal S128x2048 .f32) (L : List (View.Piece (Elt Ideal) S512x2048 .f32)) (s j : Fin 128) :
    keptOf a b inb inb' w L (ix2 s j) = w (ix2 s ⟨b + j.val, by omega⟩) := by
  unfold keptOf
  rw [View.readCov_eq_canon']
  have e : (sq a b inb').toLoadRect.idx (ix2 s j : S128x128.Idx) = (rows a inb).emb (ix2 s ⟨b + j.val, by omega⟩ : S128x2048.Idx) := by
    funext k
    apply Fin.ext
    match k with
    | ⟨0, _⟩ => rfl
    | ⟨1, _⟩ => show b + 1 * j.val = 0 + 1 * (b + j.val); omega
  exact (congrArg (View.canon ((⟨rows a inb, w⟩ : View.Piece (Elt Ideal) S512x2048 .f32) :: L)) e).trans
    (View.canon_cons_emb (Val := Elt Ideal) (e := .f32) (rows a inb) w L (ix2 s ⟨b + j.val, by omega⟩ : S128x2048.Idx))

/-- One group's square of a 16-group array. -/
theorem group_at (X : FVec Ideal S16x128x128 .f32) (g : ℕ) (hg : g < 16)
    (inb : Within S16x128x128 ![g, 0, 0] ![1, 128, 128]) (t s : Fin 128) :
    groupOf X g inb (ix3 0 t s) = X (ix3 ⟨g, hg⟩ t s) := by
  refine congrArg X (funext fun k => Fin.ext ?_)
  match k with
  | ⟨0, _⟩ => rfl
  | ⟨1, _⟩ => show 0 + 1 * t.val = t.val; omega
  | ⟨2, _⟩ => show 0 + 1 * s.val = s.val; omega

/-- A chunk of 128 rows and half the columns of the block. -/
theorem half_at (X : FVec Ideal S512x4096 .f32) (a o : ℕ) (ha : a + 128 ≤ 512) (ho : o + 2048 ≤ 4096)
    (inb : Within S512x4096 ![a, o] ![128, 2048]) (s : Fin 128) (j : Fin 2048) :
    halfOf X a o inb (ix2 s j) = X (ix2 ⟨a + s.val, by omega⟩ ⟨o + j.val, by omega⟩) := by
  refine congrArg X (funext fun k => Fin.ext ?_)
  match k with
  | ⟨0, _⟩ => show a + 1 * s.val = a + s.val; omega
  | ⟨1, _⟩ => show o + 1 * j.val = o + j.val; omega

section
variable (X : FVec Ideal S512x4096 .f32) (G B : FVec Ideal S1x2048 .f32) (W C : FVec Ideal S16x128x128 .f32)

/-- The block's result. -/
def blockOut : S512x2048.Idx → EReal := fun y => gated (fun r k => X (ix2 r k)) G B W C (y 0) (y 1)

/-- A square is the block's result there. -/
theorem square_eq (a b g : ℕ) (ha : a % 128 = 0) (ha' : a + 128 ≤ 512) (hb : b = 128 * g) (hg : g < 16)
    (hs : S128x2048.Slices ![0, b] S128x128) (U : FVec Ideal S128x2048 .f32) (w : FVec Ideal S1x128x128 .f32)
    (V : FVec Ideal S128x128 .f32) (d : FVec Ideal S1x128x128 .f32)
    (hU : ∀ (t : Fin 128) (j : Fin 2048), U (ix2 t j) = gelu (X (ix2 ⟨a + t.val, by omega⟩ ⟨j.val, by omega⟩)))
    (hV : ∀ s j : Fin 128, V (ix2 s j) = gate (fun r k => X (ix2 r k)) G B ⟨a + s.val, by omega⟩ ⟨b + j.val, by omega⟩)
    (hw : ∀ t s : Fin 128, w (ix3 0 t s) = W (ix3 ⟨g, hg⟩ t s)) (hd : ∀ t s : Fin 128, d (ix3 0 t s) = C (ix3 ⟨g, hg⟩ t s))
    (inb : Within S512x2048 ![a, b] ![128, 128]) (x : S128x128.Idx) :
    square ![0, b] hs U w V d x = blockOut X G B W C ((sq a b inb).emb x) := by
  idx_vars x
  refine (square_at b (by omega) hs U w V d x0 x1).trans ?_
  have e : (sq a b inb).emb (ix2 x0 x1 : S128x128.Idx)
      = (ix2 ⟨a + x0.val, by omega⟩ ⟨b + x1.val, by omega⟩ : S512x2048.Idx) := by
    funext k
    apply Fin.ext
    match k with
    | ⟨0, _⟩ => show a + 1 * x0.val = a + x0.val; omega
    | ⟨1, _⟩ => show b + 1 * x1.val = b + x1.val; omega
  rw [e]
  simp only [hU, hV, hw, hd]
  exact (gated_eq (fun r k => X (ix2 r k)) G B W C a b g ha ha' hb hg x0 x1).symm

/-- The squares of 128 rows, given what the activation and the norm leave of them. -/
theorem rowsOf (a b g : ℕ) (ha : a % 128 = 0) (ha' : a + 128 ≤ 512) (hb : b = 128 * g) (hg : g < 16) (hs : S128x2048.Slices ![0, b] S128x128)
    (L : List (View.Piece (Elt Ideal) S512x2048 .f32)) (iw : Within S16x128x128 ![g, 0, 0] ![1, 128, 128]) (inb : Within S512x2048 ![a, b] ![128, 128])
    (ir : Within S512x2048 ![a, 0] ![128, 2048]) (i0 : Within S512x4096 ![a, 0] ![128, 2048]) (i1 : Within S512x4096 ![a, 2048] ![128, 2048])
    (U N : FVec Ideal S128x2048 .f32) (hU : ∀ t j, U (ix2 t j) = gelu (halfOf X a 0 i0 (ix2 t j)))
    (hN : ∀ s j, N (ix2 s j) = chunk (halfOf X a 2048 i1) G B s j) (x : S128x128.Idx) :
    square ![0, b] hs U (groupOf W g iw) (keptOf a b ir inb N L) (groupOf C g iw) x = blockOut X G B W C ((sq a b inb).emb x) := by
  refine square_eq X G B W C a b g ha ha' hb hg hs _ _ _ _ (fun t j => ?_) (fun s j => ?_)
    (fun t s => group_at W g hg iw t s) (fun t s => group_at C g hg iw t s) inb x
  · refine (hU t _).trans (congrArg gelu ((half_at X a 0 ha' (by omega) _ t _).trans ?_))
    simp only [Nat.zero_add]
  · refine (kept_at a b (by omega) _ inb _ L s j).trans ((hN s _).trans ?_)
    unfold chunk gate gateRow
    simp only [fun k => half_at X a 2048 ha' (by omega) i1 s k]

/-- The squares of each 128 rows. -/
theorem rows0 (b g : ℕ) (hb : b = 128 * g) (hg : g < 16) (hs : S128x2048.Slices ![0, b] S128x128) {L : List (View.Piece (Elt Ideal) S512x2048 .f32)}
    {iw : Within S16x128x128 ![g, 0, 0] ![1, 128, 128]} {inb : Within S512x2048 ![0, b] ![128, 128]} (x : S128x128.Idx) :
    square ![0, b] hs (k0_pay3 (halfOf X 0 0 inb_S512x4096_S128x2048_0_0)) (groupOf W g iw)
      (keptOf 0 b inb_S512x2048_S128x2048_0_0 inb (k0_pay5 (k0_pay4 (halfOf X 0 2048 inb_S512x4096_S128x2048_0_2048) G) B) L) (groupOf C g iw) x
      = blockOut X G B W C ((sq 0 b inb).emb x) :=
  rowsOf X G B W C 0 b g (by omega) (by omega) hb hg hs L iw inb _ inb_S512x4096_S128x2048_0_0 inb_S512x4096_S128x2048_0_2048 _ _ (u0_at _) (n0_at _ G B) x
theorem rows1 (b g : ℕ) (hb : b = 128 * g) (hg : g < 16) (hs : S128x2048.Slices ![0, b] S128x128) {L : List (View.Piece (Elt Ideal) S512x2048 .f32)}
    {iw : Within S16x128x128 ![g, 0, 0] ![1, 128, 128]} {inb : Within S512x2048 ![128, b] ![128, 128]} (x : S128x128.Idx) :
    square ![0, b] hs (k0_pay28 (halfOf X 128 0 inb_S512x4096_S128x2048_128_0)) (groupOf W g iw)
      (keptOf 128 b inb_S512x2048_S128x2048_128_0 inb (k0_pay31 (k0_pay29 (halfOf X 128 2048 inb_S512x4096_S128x2048_128_2048)) (k0_pay30 G) B) L) (groupOf C g iw) x
      = blockOut X G B W C ((sq 128 b inb).emb x) :=
  rowsOf X G B W C 128 b g (by omega) (by omega) hb hg hs L iw inb _ inb_S512x4096_S128x2048_128_0 inb_S512x4096_S128x2048_128_2048 _ _ (u1_at _) (n1_at _ G B) x
theorem rows2 (b g : ℕ) (hb : b = 128 * g) (hg : g < 16) (hs : S128x2048.Slices ![0, b] S128x128) {L : List (View.Piece (Elt Ideal) S512x2048 .f32)}
    {iw : Within S16x128x128 ![g, 0, 0] ![1, 128, 128]} {inb : Within S512x2048 ![256, b] ![128, 128]} (x : S128x128.Idx) :
    square ![0, b] hs (k0_pay55 (halfOf X 256 0 inb_S512x4096_S128x2048_256_0)) (groupOf W g iw)
      (keptOf 256 b inb_S512x2048_S128x2048_256_0 inb (k0_pay57 (k0_pay56 (halfOf X 256 2048 inb_S512x4096_S128x2048_256_2048)) G B) L) (groupOf C g iw) x
      = blockOut X G B W C ((sq 256 b inb).emb x) :=
  rowsOf X G B W C 256 b g (by omega) (by omega) hb hg hs L iw inb _ inb_S512x4096_S128x2048_256_0 inb_S512x4096_S128x2048_256_2048 _ _ (u2_at _) (n2_at _ G B) x
theorem rows3 (b g : ℕ) (hb : b = 128 * g) (hg : g < 16) (hs : S128x2048.Slices ![0, b] S128x128) {L : List (View.Piece (Elt Ideal) S512x2048 .f32)}
    {iw : Within S16x128x128 ![g, 0, 0] ![1, 128, 128]} {inb : Within S512x2048 ![384, b] ![128, 128]} (x : S128x128.Idx) :
    square ![0, b] hs (k0_pay80 (halfOf X 384 0 inb_S512x4096_S128x2048_384_0)) (groupOf W g iw)
      (keptOf 384 b inb_S512x2048_S128x2048_384_0 inb (k0_pay82 (k0_pay81 (halfOf X 384 2048 inb_S512x4096_S128x2048_384_2048)) G B) L) (groupOf C g iw) x
      = blockOut X G B W C ((sq 384 b inb).emb x) :=
  rowsOf X G B W C 384 b g (by omega) (by omega) hb hg hs L iw inb _ inb_S512x4096_S128x2048_384_0 inb_S512x4096_S128x2048_384_2048 _ _ (u3_at _) (n3_at _ G B) x
end

variable (m : (ℓ : Loc nD τ sig) → Buf (Elt Ideal) ℓ) (c : Dev nD)

theorem block_at (t : Fin cfg0.N) (y : S512x2048.Idx) :
    outsAt0 m c t y = blockOut (iblk m c 0 t) (iblk m c 1 t) (iblk m c 2 t) (iblk m c 3 t) (iblk m c 4 t) y := by
  unfold outsAt0
  frame_open
  frame_out
  generalize iblk m c 0 t = X
  generalize iblk m c 1 t = G
  generalize iblk m c 2 t = B
  generalize iblk m c 3 t = W
  generalize iblk m c 4 t = C
  refine View.canon_apply_of_pieces (Val := Elt Ideal) (e := .bf16) (blockOut X G B W C) _ (View.PiecesOf.mem ?_) y (View.cover_of_tiledL _ ![128, 128] (by sl_kernel_rfl) y)
  exact ⟨fun x => rows3 X G B W C 1920 15 rfl (by omega) slices_S128x2048_o0_1920_S128x128 x,
    fun x => rows3 X G B W C 1792 14 rfl (by omega) slices_S128x2048_o0_1792_S128x128 x,
    fun x => rows3 X G B W C 1664 13 rfl (by omega) slices_S128x2048_o0_1664_S128x128 x,
    fun x => rows3 X G B W C 1536 12 rfl (by omega) slices_S128x2048_o0_1536_S128x128 x,
    fun x => rows3 X G B W C 1408 11 rfl (by omega) slices_S128x2048_o0_1408_S128x128 x,
    fun x => rows3 X G B W C 1280 10 rfl (by omega) slices_S128x2048_o0_1280_S128x128 x,
    fun x => rows3 X G B W C 1152 9 rfl (by omega) slices_S128x2048_o0_1152_S128x128 x,
    fun x => rows3 X G B W C 1024 8 rfl (by omega) slices_S128x2048_o0_1024_S128x128 x,
    fun x => rows3 X G B W C 896 7 rfl (by omega) slices_S128x2048_o0_896_S128x128 x,
    fun x => rows3 X G B W C 768 6 rfl (by omega) slices_S128x2048_o0_768_S128x128 x,
    fun x => rows3 X G B W C 640 5 rfl (by omega) slices_S128x2048_o0_640_S128x128 x,
    fun x => rows3 X G B W C 512 4 rfl (by omega) slices_S128x2048_o0_512_S128x128 x,
    fun x => rows3 X G B W C 384 3 rfl (by omega) slices_S128x2048_o0_384_S128x128 x,
    fun x => rows3 X G B W C 256 2 rfl (by omega) slices_S128x2048_o0_256_S128x128 x,
    fun x => rows3 X G B W C 128 1 rfl (by omega) slices_S128x2048_o0_128_S128x128 x,
    fun x => rows3 X G B W C 0 0 rfl (by omega) slices_S128x2048_o0_0_S128x128 x,
    fun x => rows2 X G B W C 1920 15 rfl (by omega) slices_S128x2048_o0_1920_S128x128 x,
    fun x => rows2 X G B W C 1792 14 rfl (by omega) slices_S128x2048_o0_1792_S128x128 x,
    fun x => rows2 X G B W C 1664 13 rfl (by omega) slices_S128x2048_o0_1664_S128x128 x,
    fun x => rows2 X G B W C 1536 12 rfl (by omega) slices_S128x2048_o0_1536_S128x128 x,
    fun x => rows2 X G B W C 1408 11 rfl (by omega) slices_S128x2048_o0_1408_S128x128 x,
    fun x => rows2 X G B W C 1280 10 rfl (by omega) slices_S128x2048_o0_1280_S128x128 x,
    fun x => rows2 X G B W C 1152 9 rfl (by omega) slices_S128x2048_o0_1152_S128x128 x,
    fun x => rows2 X G B W C 1024 8 rfl (by omega) slices_S128x2048_o0_1024_S128x128 x,
    fun x => rows2 X G B W C 896 7 rfl (by omega) slices_S128x2048_o0_896_S128x128 x,
    fun x => rows2 X G B W C 768 6 rfl (by omega) slices_S128x2048_o0_768_S128x128 x,
    fun x => rows2 X G B W C 640 5 rfl (by omega) slices_S128x2048_o0_640_S128x128 x,
    fun x => rows2 X G B W C 512 4 rfl (by omega) slices_S128x2048_o0_512_S128x128 x,
    fun x => rows2 X G B W C 384 3 rfl (by omega) slices_S128x2048_o0_384_S128x128 x,
    fun x => rows2 X G B W C 256 2 rfl (by omega) slices_S128x2048_o0_256_S128x128 x,
    fun x => rows2 X G B W C 128 1 rfl (by omega) slices_S128x2048_o0_128_S128x128 x,
    fun x => rows2 X G B W C 0 0 rfl (by omega) slices_S128x2048_o0_0_S128x128 x,
    fun x => rows1 X G B W C 1920 15 rfl (by omega) slices_S128x2048_o0_1920_S128x128 x,
    fun x => rows1 X G B W C 1792 14 rfl (by omega) slices_S128x2048_o0_1792_S128x128 x,
    fun x => rows1 X G B W C 1664 13 rfl (by omega) slices_S128x2048_o0_1664_S128x128 x,
    fun x => rows1 X G B W C 1536 12 rfl (by omega) slices_S128x2048_o0_1536_S128x128 x,
    fun x => rows1 X G B W C 1408 11 rfl (by omega) slices_S128x2048_o0_1408_S128x128 x,
    fun x => rows1 X G B W C 1280 10 rfl (by omega) slices_S128x2048_o0_1280_S128x128 x,
    fun x => rows1 X G B W C 1152 9 rfl (by omega) slices_S128x2048_o0_1152_S128x128 x,
    fun x => rows1 X G B W C 1024 8 rfl (by omega) slices_S128x2048_o0_1024_S128x128 x,
    fun x => rows1 X G B W C 896 7 rfl (by omega) slices_S128x2048_o0_896_S128x128 x,
    fun x => rows1 X G B W C 768 6 rfl (by omega) slices_S128x2048_o0_768_S128x128 x,
    fun x => rows1 X G B W C 640 5 rfl (by omega) slices_S128x2048_o0_640_S128x128 x,
    fun x => rows1 X G B W C 512 4 rfl (by omega) slices_S128x2048_o0_512_S128x128 x,
    fun x => rows1 X G B W C 384 3 rfl (by omega) slices_S128x2048_o0_384_S128x128 x,
    fun x => rows1 X G B W C 256 2 rfl (by omega) slices_S128x2048_o0_256_S128x128 x,
    fun x => rows1 X G B W C 128 1 rfl (by omega) slices_S128x2048_o0_128_S128x128 x,
    fun x => rows1 X G B W C 0 0 rfl (by omega) slices_S128x2048_o0_0_S128x128 x,
    fun x => rows0 X G B W C 1920 15 rfl (by omega) slices_S128x2048_o0_1920_S128x128 x,
    fun x => rows0 X G B W C 1792 14 rfl (by omega) slices_S128x2048_o0_1792_S128x128 x,
    fun x => rows0 X G B W C 1664 13 rfl (by omega) slices_S128x2048_o0_1664_S128x128 x,
    fun x => rows0 X G B W C 1536 12 rfl (by omega) slices_S128x2048_o0_1536_S128x128 x,
    fun x => rows0 X G B W C 1408 11 rfl (by omega) slices_S128x2048_o0_1408_S128x128 x,
    fun x => rows0 X G B W C 1280 10 rfl (by omega) slices_S128x2048_o0_1280_S128x128 x,
    fun x => rows0 X G B W C 1152 9 rfl (by omega) slices_S128x2048_o0_1152_S128x128 x,
    fun x => rows0 X G B W C 1024 8 rfl (by omega) slices_S128x2048_o0_1024_S128x128 x,
    fun x => rows0 X G B W C 896 7 rfl (by omega) slices_S128x2048_o0_896_S128x128 x,
    fun x => rows0 X G B W C 768 6 rfl (by omega) slices_S128x2048_o0_768_S128x128 x,
    fun x => rows0 X G B W C 640 5 rfl (by omega) slices_S128x2048_o0_640_S128x128 x,
    fun x => rows0 X G B W C 512 4 rfl (by omega) slices_S128x2048_o0_512_S128x128 x,
    fun x => rows0 X G B W C 384 3 rfl (by omega) slices_S128x2048_o0_384_S128x128 x,
    fun x => rows0 X G B W C 256 2 rfl (by omega) slices_S128x2048_o0_256_S128x128 x,
    fun x => rows0 X G B W C 128 1 rfl (by omega) slices_S128x2048_o0_128_S128x128 x,
    fun x => rows0 X G B W C 0 0 rfl (by omega) slices_S128x2048_o0_0_S128x128 x, trivial⟩

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![t.val, 0] := (by decide +kernel : ∀ t : Fin grid0.N, _)
theorem points (t : Fin cfg0.N) : t.val < 8 := t.isLt.trans_eq N_0

/-- The arguments: the rows before the activation, the scale and the shift of the layer norm, the weights of the mix and its bias. -/
abbrev argP : FVec Ideal S4096x4096 .f32 := m ((c : Thread nD τ).loc main_arg0)
abbrev argG : FVec Ideal S1x2048 .f32 := m ((c : Thread nD τ).loc main_arg1)
abbrev argB : FVec Ideal S1x2048 .f32 := m ((c : Thread nD τ).loc main_arg2)
abbrev argW : FVec Ideal S16x128x128 .f32 := m ((c : Thread nD τ).loc main_arg3)
abbrev argD : FVec Ideal S16x128 .f32 := m ((c : Thread nD τ).loc main_arg4)

/-- The row that a row of point `t`'s block is. -/
def rowOf (t : Fin cfg0.N) (p : Fin 512) : Fin 4096 := ⟨512 * t.val + p.val, by have := points t; omega⟩

theorem bias_host : V m c main_v1 = (broadcastInDim S16x128x128 ![0, 1, 2] bcast_S16x128x1_S16x128x128_0_1_2
    (broadcastInDim S16x128x1 ![0, 1] bcast_S16x128_S16x128x1_0_1 (argD m c)) : FVec Ideal S16x128x128 .f32) := by
  show StableHlo.after hostOps0 (fun b => m (c, b)) (Proc.devRef .tc main_v1) = _
  after_results_simp <;> rfl

theorem blk0 (t : Fin cfg0.N) (p : Fin 512) (q : Fin 4096) : iblk m c 0 t (ix2 p q) = argP m c (ix2 (rowOf t p) q) := by
  have hp := points t
  blk_ext! [iblk, V, at0 t, rowOf, argP]
theorem blk1 (t : Fin cfg0.N) (p : Fin 1) (q : Fin 2048) : iblk m c 1 t (ix2 p q) = argG m c (ix2 p q) := by
  have hp := points t
  blk_ext! [iblk, V, at1 t, argG]
theorem blk2 (t : Fin cfg0.N) (p : Fin 1) (q : Fin 2048) : iblk m c 2 t (ix2 p q) = argB m c (ix2 p q) := by
  have hp := points t
  blk_ext! [iblk, V, at2 t, argB]
theorem blk3 (t : Fin cfg0.N) (g : Fin 16) (p q : Fin 128) : iblk m c 3 t (ix3 g p q) = argW m c (ix3 g p q) := by
  have hp := points t
  blk_ext! [iblk, V, at3 t, argW]
theorem blk4 (t : Fin cfg0.N) (g : Fin 16) (p q : Fin 128) : iblk m c 4 t (ix3 g p q) = argD m c (ix2 g p) := by
  have hp := points t
  have e : iblk m c 4 t (ix3 g p q) = V m c main_v1 (ix3 g p q) := by
    blk_ext! [iblk, at4 t]
  rw [e, bias_host]
  pointwise

/-- The result. -/
def res (P : FVec Ideal S4096x4096 .f32) (G B : FVec Ideal S1x2048 .f32) (W : FVec Ideal S16x128x128 .f32) (D : FVec Ideal S16x128 .f32) :
    FVec Ideal S4096x2048 .bf16 :=
  fun i => gated (fun r k => P (ix2 r k)) G B W (fun j => D (ix2 (j 0) (j 1))) (i 0) (i 1)

theorem out_at (t : Fin cfg0.N) (p : Fin 512) (q : Fin 2048) :
    outsAt0 m c t (ix2 p q) = res (argP m c) (argG m c) (argB m c) (argW m c) (argD m c) (ix2 (rowOf t p) q) := by
  refine (block_at m c t (ix2 p q)).trans ?_
  have hp := points t
  have e1 : iblk m c 1 t = argG m c := funext fun i => by idx_vars i; exact blk1 m c t i0 i1
  have e2 : iblk m c 2 t = argB m c := funext fun i => by idx_vars i; exact blk2 m c t i0 i1
  have e3 : iblk m c 3 t = argW m c := funext fun i => by idx_vars i; exact blk3 m c t i0 i1 i2
  have e4 : iblk m c 4 t = fun j => argD m c (ix2 (j 0) (j 1)) := funext fun i => by idx_vars i; exact blk4 m c t i0 i1 i2
  have e0 : (fun (r : Fin 512) (k : Fin 4096) => iblk m c 0 t (ix2 r k)) = fun r k => argP m c (ix2 (rowOf t r) k) :=
    funext fun r => funext fun k => blk0 m c t r k
  show gated (fun (r : Fin 512) (k : Fin 4096) => iblk m c 0 t (ix2 r k)) (iblk m c 1 t) (iblk m c 2 t) (iblk m c 3 t) (iblk m c 4 t) p q = _
  rw [e0, e1, e2, e3, e4]
  exact gated_shift (fun r k => argP m c (ix2 r k)) _ _ _ _ (512 * t.val) (by omega) (by omega) p q

theorem arr5 : (dats m 0 c).arrAt 5 cfg0.N = res (argP m c) (argG m c) (argB m c) (argW m c) (argD m c) := by
  refine (dats m 0 c).arrAt_eq_of_covers 5 _ (by decide +kernel) fun t hf y => ?_
  blk_simp
  rw [after0_5]
  idx_vars y
  have hp := points t
  refine (out_at m c t y0 y1).trans ?_
  generalize res (argP m c) (argG m c) (argB m c) (argW m c) (argD m c) = R
  blk_ext! [at5 t, rowOf]

end Cert.SgFwdIdeal.Sg

end
-- ==== Proof.Sg.SgFwdRef.lean ====
/- The spatial gate's reference over the extended reals: its operations at one entry are the formula. -/
module

public import proofs.«01_k».proof.Proof.Gen.SgFwdRefIdeal.Run
public import proofs.«01_k».proof.Proof.Sg.SgFwd
public import Idealize.ShloMosaic.Lib.Pointwise

@[expose] public section

set_option maxRecDepth 16384
set_option maxHeartbeats 1000000

noncomputable section

namespace Cert.SgFwdRefIdeal.Sg

open Cert.SgFwdRefIdeal Cert.SgFwdRefIdeal.Gen Cert.SgFwdRefIdeal.Value Idealize.ShloMosaic Idealize.ShloMosaic.TcCoe Idealize.SL.Sem
open Cert.Ln Cert.Sg
open Cert.SgFwdIdeal.Sg (res)

variable (P : FVec Ideal S4096x4096 .f32) (G B : FVec Ideal S1x2048 .f32) (W : FVec Ideal S16x128x128 .f32) (D : FVec Ideal S16x128 .f32)

/-- The reference's steps: the gelu, its second half, the distance from the row's mean, the layer norm, the causal weights, the mix, the mix with the bias, the result. -/
def actV : FVec Ideal S4096x4096 .f32 := mulf (mulf (broadcastInDim S4096x4096 ![] bcast_S_S4096x4096 (constant S_ .f32 0x3F000000#32)) P) (Host.erfc (mulf (Host.negf P) (broadcastInDim S4096x4096 ![] bcast_S_S4096x4096 (constant S_ .f32 0x3F3504F3#32))))
def halfV : FVec Ideal S4096x2048 .f32 := extractStridedSlice S4096x2048 ![0, 2048] (actV P) slices_S4096x4096_S4096x2048_0_2048
def devV : FVec Ideal S4096x2048 .f32 := subf (halfV P) (broadcastInDim S4096x2048 ![0, 1] bcast_S4096x1_S4096x2048_0_1 (Host.divf (broadcastInDim S4096x1 ![0] bcast_S4096_S4096x1_0 (Host.reduceAdd (halfV P) (constant S_ .f32 0x00000000#32) reducesTo_S4096x2048_S4096_d1 h_S_)) (broadcastInDim S4096x1 ![] bcast_S_S4096x1 (constant S_ .f32 0x45000000#32))))
def gateV : FVec Ideal S4096x2048 .f32 := addf (mulf (mulf (devV P) (broadcastInDim S4096x2048 ![0, 1] bcast_S4096x1_S4096x2048_0_1 (Host.rsqrt (addf (Host.divf (broadcastInDim S4096x1 ![0] bcast_S4096_S4096x1_0 (Host.reduceAdd (mulf (devV P) (devV P)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 G)) (broadcastInDim S4096x2048 ![0, 1] bcast_S1x2048_S4096x2048_0_1 B)
def maskV : FVec Ideal S16x128x128 .f32 := mulf W (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))
def dotV : FVec Ideal S16x32x128x128 .f32 := Host.dotGeneral dot_S32x128x16x128_S16x128x128_S16x32x128x128_1_2_03_1_2_0 none (shapeCast S32x128x16x128 (gateV P G B) shapeCasts_S4096x2048_S32x128x16x128) (maskV W)
def mixV : FVec Ideal S32x128x16x128 .f32 := addf (transpose S32x128x16x128 [1, 3, 0, 2] (dotV P G B W) transposes_S16x32x128x128_S32x128x16x128_1_3_0_2) (broadcastInDim S32x128x16x128 ![0, 1, 2, 3] bcast_S1x128x16x1_S32x128x16x128_0_1_2_3 (broadcastInDim S1x128x16x1 ![1, 2, 3] bcast_S128x16x1_S1x128x16x1_1_2_3 (broadcastInDim S128x16x1 ![0, 1] bcast_S128x16_S128x16x1_0_1 (transpose S128x16 [1, 0] D transposes_S16x128_S128x16_1_0))))
def outV : FVec Ideal S4096x2048 .bf16 := truncf .bf16 (mulf (extractStridedSlice S4096x2048 ![0, 0] (actV P) slices_S4096x4096_S4096x2048_0_0) (shapeCast S4096x2048 (mixV P G B W D) shapeCasts_S32x128x16x128_S4096x2048)) bitsLt_bf16_f32

theorem act_at (p q : Fin 4096) : actV P (ix2 p q) = gelu (P (ix2 p q)) := by
  pointwise [actV]
  rw [neg_mul, Ideal.erfc_neg]
  rfl

/-- The second half's row. -/
abbrev rowV (p : Fin 4096) : Fin 2048 → EReal := gateRow (fun r k => P (ix2 r k)) p

theorem half_at (p : Fin 4096) (q : Fin 2048) : halfV P (ix2 p q) = rowV P p q := by
  pointwise [halfV]
  exact act_at P _ _

theorem dev_at (p : Fin 4096) (q : Fin 2048) : devV P (ix2 p q) = dev (rowV P p) q := by
  pointwise [devV]
  simp only [half_at]
  rfl

theorem gate_at (p : Fin 4096) (q : Fin 2048) : gateV P G B (ix2 p q) = gate (fun r k => P (ix2 r k)) G B p q := by
  pointwise [gateV]
  simp only [dev_at]
  rfl

theorem mask_at (g : Fin 16) (t s : Fin 128) : maskV W (ix3 g t s) = W (ix3 g t s) * tri t s := by
  pointwise [maskV]
  simp only [IntOp.addi, BitVec.add_zero]
  rw [ge_bit]
  unfold tri
  split <;> simp [Scalar.select]

theorem dot_at (g : Fin 16) (n : Fin 32) (j t : Fin 128) : dotV P G B W (ix4 g n j t)
    = ∑ s : Fin 128, gate (fun r k => P (ix2 r k)) G B ⟨128 * n.val + s.val, by omega⟩ ⟨128 * g.val + j.val, by omega⟩ * (W (ix3 g t s) * tri t s) := by
  pointwise [dotV]
  simp only [mask_at, gate_at, Nat.mul_comm n.val, Nat.mul_comm g.val]

theorem mix_at (n : Fin 32) (t : Fin 128) (g : Fin 16) (j : Fin 128) : mixV P G B W D (ix4 n t g j) = dotV P G B W (ix4 g n j t) + D (ix2 g t) := by
  pointwise [mixV]

theorem out_at (p : Fin 4096) (q : Fin 2048) : outV P G B W D (ix2 p q) = res P G B W D (ix2 p q) := by
  pointwise [outV]
  rw [act_at, mix_at, dot_at]
  have e := gated_eq (fun r k => P (ix2 r k)) G B W (fun j => D (ix2 (j 0) (j 1))) (128 * (p.val / 128)) (128 * (q.val / 128)) (q.val / 128)
    (by omega) (by omega) rfl (by omega) ⟨p.val % 128, by omega⟩ ⟨q.val % 128, by omega⟩
  have h1 : 128 * (p.val / 128) + p.val % 128 = p.val := by omega
  have h2 : 128 * (q.val / 128) + q.val % 128 = q.val := by omega
  simp only [h1, h2] at e
  refine Eq.trans ?_ e.symm
  unfold cell
  simp only [h2, mul_comm (gate _ _ _ _ _)]
  rfl

variable (m : (ℓ : Loc nD τ sig) → Buf (Elt Ideal) ℓ) (c : Dev nD)

/-- The arguments. -/
abbrev argP : FVec Ideal S4096x4096 .f32 := m ((c : Thread nD τ).loc main_arg0)
abbrev argG : FVec Ideal S1x2048 .f32 := m ((c : Thread nD τ).loc main_arg1)
abbrev argB : FVec Ideal S1x2048 .f32 := m ((c : Thread nD τ).loc main_arg2)
abbrev argW : FVec Ideal S16x128x128 .f32 := m ((c : Thread nD τ).loc main_arg3)
abbrev argD : FVec Ideal S16x128 .f32 := m ((c : Thread nD τ).loc main_arg4)

theorem out0_eq : res_out0 m c = outV (argP m c) (argG m c) (argB m c) (argW m c) (argD m c) := rfl

theorem out_eq : outV P G B W D = res P G B W D := by
  funext i
  idx_vars i
  exact out_at P G B W D i0 i1

end Cert.SgFwdRefIdeal.Sg

end
-- ==== Proof.Sg.Bwd.lean ====
/- The gradient of the spatial gate, one chunk of 128 rows after another, as functions of the chunk's rows. -/
module

public import proofs.«01_k».proof.Proof.Ln.Algebra
public import proofs.«01_k».proof.Proof.Sg.Spec

@[expose] public section

noncomputable section

namespace Cert.Sg

open Idealize.ShloMosaic
open Cert.Ln

/-- The square root of one half, and the density's constant. -/
abbrev rootHalf : EReal := (((Real.sqrt 2)⁻¹ : ℝ) : EReal)
abbrev density : EReal := (((Real.sqrt (2 * Real.pi))⁻¹ : ℝ) : EReal)

/-- The gelu, with the square root itself. -/
def act (x : EReal) : EReal := Ideal.ofBits .f32 0x3F000000#32 * x * (1 + Ideal.erf (x * rootHalf))

/-- Its slope, as the kernel takes it. -/
def actSlope (x : EReal) : EReal :=
  Ideal.ofBits .f32 0x3F000000#32 * (1 + Ideal.erf (x * rootHalf)) + x * (density * Ideal.exp (Ideal.ofBits .f32 0xBF000000#32 * x * x))

/-- A channel of a group. -/
def col (g : Fin 16) (j : Fin 128) : Fin 2048 := ⟨128 * g.val + j.val, by omega⟩
/-- A channel's group, and its place there. -/
def grp (j : Fin 2048) : Fin 16 := ⟨j.val / 128, by omega⟩

section
variable (U V Z : Fin 128 → Fin 2048 → EReal) (G B : ((⟨2, ![1, 2048]⟩ : Shape)).Idx → EReal)
  (W : ((⟨3, ![16, 128, 128]⟩ : Shape)).Idx → EReal) (C : Fin 16 → Fin 128 → EReal)

/-- The normalised gate without and with its scale and shift. -/
def hatC (s : Fin 128) (j : Fin 2048) : EReal := hat (fun k => act (V s k)) j
@[inherit_doc hatC]
def normC (s : Fin 128) (j : Fin 2048) : EReal := hatC V s j * G (ix2 0 j) + B (ix2 0 j)

/-- The causal weights. -/
def mixW (g : Fin 16) (t s : Fin 128) : EReal := W (ix3 g t s) * tri t s

/-- The gradient at the mixed gate. -/
def toMix (t : Fin 128) (j : Fin 2048) : EReal := Z t j * act (U t j)

/-- The gradient at the first half's rows. -/
def toU (t : Fin 128) (j : Fin 2048) : EReal :=
  Z t j * ((∑ s : Fin 128, mixW W (grp j) t s * normC V G B s j) + C (grp j) t) * actSlope (U t j)

/-- The gradient at the norm's result. -/
def toNorm (s : Fin 128) (j : Fin 2048) : EReal := ∑ t : Fin 128, mixW W (grp j) t s * toMix U Z t j

/-- The gradient at the second half's rows. -/
def toV (s : Fin 128) (j : Fin 2048) : EReal :=
  grad (fun k => act (V s k)) (fun k => toNorm U Z W s k * G (ix2 0 k)) j * actSlope (V s j)

/-- The chunk's share of the gradients at the weights, the bias, the scale and the shift. -/
def partW (g : Fin 16) (t s : Fin 128) : EReal := tri t s * ∑ j : Fin 128, toMix U Z t (col g j) * normC V G B s (col g j)
@[inherit_doc partW]
def partD (g : Fin 16) (t : Fin 128) : EReal := ∑ j : Fin 128, toMix U Z t (col g j)
@[inherit_doc partW]
def partG (j : Fin 2048) : EReal := ∑ s : Fin 128, toNorm U Z W s j * hatC V s j
@[inherit_doc partW]
def partB (j : Fin 2048) : EReal := ∑ s : Fin 128, toNorm U Z W s j

end

/-! ## Over the whole arrays -/

section
variable (P : ((⟨2, ![4096, 4096]⟩ : Shape)).Idx → EReal) (Y : ((⟨2, ![4096, 2048]⟩ : Shape)).Idx → EReal)
  (G B : ((⟨2, ![1, 2048]⟩ : Shape)).Idx → EReal) (W : ((⟨3, ![16, 128, 128]⟩ : Shape)).Idx → EReal) (D : ((⟨2, ![16, 128]⟩ : Shape)).Idx → EReal)

/-- The row `s` of chunk `n`. -/
def rowN (n : ℕ) (s : Fin 128) : Fin 4096 := ⟨128 * (n % 32) + s.val, by omega⟩

/-- A chunk's rows: the two halves before the activation, and the incoming gradient. -/
def upN (n : ℕ) (s : Fin 128) (j : Fin 2048) : EReal := P (ix2 (rowN n s) ⟨j.val, by omega⟩)
@[inherit_doc upN]
def vpN (n : ℕ) (s : Fin 128) (j : Fin 2048) : EReal := P (ix2 (rowN n s) ⟨2048 + j.val, by omega⟩)
@[inherit_doc upN]
def ypN (n : ℕ) (s : Fin 128) (j : Fin 2048) : EReal := Y (ix2 (rowN n s) j)

/-- The gradient at the rows before the activation. -/
def dPre : ((⟨2, ![4096, 4096]⟩ : Shape)).Idx → EReal := fun i =>
  if h : (i 1).val < 2048 then
    toU (upN P ((i 0).val / 128)) (vpN P ((i 0).val / 128)) (ypN Y ((i 0).val / 128)) G B W (fun g t => D (ix2 g t))
      ⟨(i 0).val % 128, by omega⟩ ⟨(i 1).val, h⟩
  else
    toV (upN P ((i 0).val / 128)) (vpN P ((i 0).val / 128)) (ypN Y ((i 0).val / 128)) G W
      ⟨(i 0).val % 128, by omega⟩ ⟨(i 1).val - 2048, by have : (i 1).val < 4096 := (i 1).isLt; omega⟩

/-- The gradients at the weights, the bias, the scale and the shift. -/
def dWeights : ((⟨3, ![16, 128, 128]⟩ : Shape)).Idx → EReal := fun i =>
  ∑ n ∈ Finset.range 32, partW (upN P n) (vpN P n) (ypN Y n) G B (i 0) (i 1) (i 2)
@[inherit_doc dWeights]
def dBias : ((⟨3, ![16, 8, 128]⟩ : Shape)).Idx → EReal := fun i =>
  ∑ n ∈ Finset.range 32, partD (upN P n) (ypN Y n) (i 0) (i 2)
@[inherit_doc dWeights]
def dLnScale : ((⟨2, ![1, 2048]⟩ : Shape)).Idx → EReal := fun i =>
  ∑ n ∈ Finset.range 32, partG (upN P n) (vpN P n) (ypN Y n) W (i 1)
@[inherit_doc dWeights]
def dLnShift : ((⟨2, ![1, 2048]⟩ : Shape)).Idx → EReal := fun i =>
  ∑ n ∈ Finset.range 32, partB (upN P n) (ypN Y n) W (i 1)

end

end Cert.Sg

end
-- ==== Proof.Sg.BwdStep.lean ====
/- The stores of the spatial gate's gradient, spelt once for all squares, at one entry. -/
module

public import proofs.«01_k».proof.Proof.Gen.SgBwdIdeal.Value
public import proofs.«01_k».proof.Proof.Sg.Bwd
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg

theorem root_eq (w : BitVec 32) : (Named.named (F := Ideal) (φ := .f32) κ "sqrt_half" w : EReal) = rootHalf :=
  IdealRules.named_const.ideal_named_scalar _ _ _ _ rfl
theorem dens_eq (w : BitVec 32) : (Named.named (F := Ideal) (φ := .f32) κ "inv_sqrt_2pi" w : EReal) = density :=
  IdealRules.named_const.ideal_named_scalar _ _ _ _ rfl

/-- The kernel's mask is the lower triangle. -/
theorem mask_at (t s : Fin 128) : (k0_pay5 (F := Ideal) (ix2 t s) : EReal) = tri t s := by
  pointwise [k0_pay5]
  rw [ge_bit]
  unfold tri
  split
  · exact one_word
  · exact zero_word

section
variable (X : FVec Ideal S128x2048 .f32) (G B : FVec Ideal S1x2048 .f32)

theorem act_at (s : Fin 128) (j : Fin 2048) : (k0_pay7 (F := Ideal) X (ix2 s j) : EReal) = act (X (ix2 s j)) := by
  pointwise [k0_pay7]
  simp only [root_eq]
  rfl

/-- The normalised rows, and with the scale and the shift. -/
def hatV : FVec Ideal S128x2048 .f32 := k0_pay11 (k0_pay8 X) (k0_pay9 X)
@[inherit_doc hatV]
def normV : FVec Ideal S128x2048 .f32 := k0_pay12 (k0_pay8 X) (k0_pay9 X) G B

theorem dev_at (s : Fin 128) (j : Fin 2048) : (k0_pay8 (F := Ideal) X (ix2 s j) : EReal) = dev (fun k => act (X (ix2 s k))) j := by
  pointwise [k0_pay8]
  simp only [root_eq]
  rfl

theorem rstd_at (s : Fin 128) (z : Fin 1) : (k0_pay10 (F := Ideal) (k0_pay9 X) (ix2 s z) : EReal) = rstd (fun k => act (X (ix2 s k))) := by
  pointwise [k0_pay10, k0_pay9]
  simp only [dev_at]
  rfl

theorem hat_at (s : Fin 128) (j : Fin 2048) : (hatV X (ix2 s j) : EReal) = hatC (fun s j => X (ix2 s j)) s j := by
  pointwise [hatV, k0_pay11]
  simp only [dev_at, rstd_at]
  rfl

theorem norm_at (s : Fin 128) (j : Fin 2048) : (normV X G B (ix2 s j) : EReal) = normC (fun s j => X (ix2 s j)) G B s j := by
  pointwise [normV, k0_pay12]
  have e := hat_at X s j
  unfold hatV at e
  rw [e]
  rfl

/-- The slope of the activation. -/
def slopeV {S : Shape} (X : FVec Ideal S .f32) : FVec Ideal S .f32 :=
  addf (mulf (broadcast S (Scalar.ofBits .f32 0x3F000000#32)) (addf (broadcast S (Scalar.ofBits .f32 0x3F800000#32)) (erf (mulf X (broadcast S (Named.named κ "sqrt_half" 0x3F3504F3#32))))))
    (mulf X (mulf (broadcast S (Named.named κ "inv_sqrt_2pi" 0x3ECC422A#32)) (exp (mulf (mulf (broadcast S (Scalar.ofBits .f32 0xBF000000#32)) X) X))))

theorem slope_at {S : Shape} (X : FVec Ideal S .f32) (i : S.Idx) : (slopeV X i : EReal) = actSlope (X i) := by
  pointwise [slopeV]
  simp only [root_eq, dens_eq]
  rfl
end

section
variable (off : Fin 2 → ℕ) (hs : S128x2048.Slices off S128x128) (U : FVec Ideal S128x2048 .f32) (Z : FVec Ideal S128x128 .f32)
  (W C : FVec Ideal S1x128x128 .f32) (V : FVec Ideal S128x128 .f32)

/-- The gradient at a square of the mixed gate. -/
def mixG : FVec Ideal S128x128 .f32 := mulf Z (extractStridedSlice S128x128 off (k0_pay7 U) hs)

/-- What one square stores of the first half's gradient, as the kernel spells it. -/
def squareU : FVec Ideal S128x128 .bf16 :=
  truncf .bf16 (mulf (mulf Z (addf (matmul dot_S128x128_S128x128_S128x128_1_0_0_1_n_n none
      (truncf .bf16 (mulf (shapeCast S128x128 W shapeCasts_S1x128x128_S128x128) k0_pay5) bitsLt_bf16_f32) (truncf .bf16 V bitsLt_bf16_f32)
      (constant S128x128 .f32 0x00000000#32)) (shapeCast S128x128 C shapeCasts_S1x128x128_S128x128)))
    (slopeV (extractStridedSlice S128x128 off U hs))) bitsLt_bf16_f32

/-- What one square stores of the gradient at the norm. -/
def squareN : FVec Ideal S128x128 .f32 :=
  shapeCast S128x128 (matmul dot_S128x128_S128x128_S128x128_0_0_1_1_n_n none
    (truncf .bf16 (mulf (shapeCast S128x128 W shapeCasts_S1x128x128_S128x128) k0_pay5) bitsLt_bf16_f32)
    (truncf .bf16 (mixG off hs U Z) bitsLt_bf16_f32) (constant S128x128 .f32 0x00000000#32)) shapeCasts_S128x128_S128x128

/-- What one square adds to its group's weights. -/
def stepW (A : FVec Ideal S1x128x128 .f32) : FVec Ideal S1x128x128 .f32 :=
  shapeCast S1x128x128 (addf (shapeCast S128x128 A shapeCasts_S1x128x128_S128x128) (mulf k0_pay5
    (matmul dot_S128x128_S128x128_S128x128_1_1_0_0_n_n none (truncf .bf16 (mixG off hs U Z) bitsLt_bf16_f32) (truncf .bf16 V bitsLt_bf16_f32)
      (constant S128x128 .f32 0x00000000#32)))) shapeCasts_S128x128_S1x128x128

/-- What one square adds to its group's bias, in eight equal rows. -/
def stepD (A : FVec Ideal S1x8x128 .f32) : FVec Ideal S1x8x128 .f32 :=
  shapeCast S1x8x128 (addf (shapeCast S8x128 A shapeCasts_S1x8x128_S8x128)
    (matmul dot_S8x128_S128x128_S8x128_1_1_0_0_n_n (some .fp32) k0_pay6 (mixG off hs U Z) (constant S8x128 .f32 0x00000000#32))) shapeCasts_S8x128_S1x8x128
end

section
variable (b : ℕ) (hb : b + 128 ≤ 2048) (hs : S128x2048.Slices ![0, b] S128x128) (U : FVec Ideal S128x2048 .f32) (Z : FVec Ideal S128x128 .f32)
  (W C : FVec Ideal S1x128x128 .f32) (V : FVec Ideal S128x128 .f32)

theorem mixG_at (t j : Fin 128) : (mixG ![0, b] hs U Z (ix2 t j) : EReal) = Z (ix2 t j) * act (U (ix2 t ⟨b + j.val, by omega⟩)) := by
  pointwise [mixG]
  rw [act_at]

theorem squareU_at (t j : Fin 128) : (squareU ![0, b] hs U Z W C V (ix2 t j) : EReal)
    = Z (ix2 t j) * ((∑ s : Fin 128, W (ix3 0 t s) * tri t s * V (ix2 s j)) + C (ix3 0 t j)) * actSlope (U (ix2 t ⟨b + j.val, by omega⟩)) := by
  pointwise [squareU]
  simp only [mask_at, slope_at]
  pointwise

theorem squareN_at (s j : Fin 128) : (squareN ![0, b] hs U Z W (ix2 s j) : EReal)
    = ∑ t : Fin 128, W (ix3 0 t s) * tri t s * (Z (ix2 t j) * act (U (ix2 t ⟨b + j.val, by omega⟩))) := by
  pointwise [squareN]
  simp only [mask_at, mixG_at b hb]

theorem stepW_at (A : FVec Ideal S1x128x128 .f32) (t s : Fin 128) : (stepW ![0, b] hs U Z V A (ix3 0 t s) : EReal)
    = A (ix3 0 t s) + tri t s * ∑ j : Fin 128, Z (ix2 t j) * act (U (ix2 t ⟨b + j.val, by omega⟩)) * V (ix2 s j) := by
  pointwise [stepW]
  simp only [mask_at, mixG_at b hb]

theorem stepD_at (A : FVec Ideal S1x8x128 .f32) (z : Fin 8) (t : Fin 128) : (stepD ![0, b] hs U Z A (ix3 0 z t) : EReal)
    = A (ix3 0 z t) + ∑ j : Fin 128, Z (ix2 t j) * act (U (ix2 t ⟨b + j.val, by omega⟩)) := by
  pointwise [stepD, k0_pay6]
  simp only [mixG_at b hb, one_mul]
end

/-- What a chunk stores of the second half's gradient: `H` the normalised rows, `N` the gradient at the norm. -/
def rowsV (X N : FVec Ideal S128x2048 .f32) (G : FVec Ideal S1x2048 .f32) : FVec Ideal S128x2048 .bf16 :=
  k0_pay148 X (k0_pay10 (k0_pay9 X)) (hatV X) (k0_pay143 N G) (k0_pay144 N G) (k0_pay145 (hatV X) N G)

theorem inc_at (N : FVec Ideal S128x2048 .f32) (G : FVec Ideal S1x2048 .f32) (s : Fin 128) (j : Fin 2048) :
    (k0_pay143 (F := Ideal) N G (ix2 s j) : EReal) = N (ix2 s j) * G (ix2 0 j) := by
  pointwise [k0_pay143]

theorem rowsV_at (X N : FVec Ideal S128x2048 .f32) (G : FVec Ideal S1x2048 .f32) (s : Fin 128) (j : Fin 2048) :
    (rowsV X N G (ix2 s j) : EReal)
      = grad (fun k => act (X (ix2 s k))) (fun k => N (ix2 s k) * G (ix2 0 k)) j * actSlope (X (ix2 s j)) := by
  pointwise [rowsV, k0_pay148, k0_pay144, k0_pay145]
  simp only [root_eq, dens_eq, inc_at, hat_at, rstd_at]
  rfl

/-- What a chunk adds to the gradients at the scale and the shift. -/
def stepG (X N : FVec Ideal S128x2048 .f32) (A : FVec Ideal S1x2048 .f32) : FVec Ideal S1x2048 .f32 := k0_pay146 (hatV X) N A

theorem stepG_at (X N : FVec Ideal S128x2048 .f32) (A : FVec Ideal S1x2048 .f32) (j : Fin 2048) :
    (stepG X N A (ix2 0 j) : EReal) = A (ix2 0 j) + ∑ s : Fin 128, N (ix2 s j) * hatC (fun s j => X (ix2 s j)) s j := by
  pointwise [stepG, k0_pay146]
  simp only [hat_at]

theorem stepB_at (N : FVec Ideal S128x2048 .f32) (A : FVec Ideal S1x2048 .f32) (j : Fin 2048) :
    (k0_pay147 (F := Ideal) N A (ix2 0 j) : EReal) = A (ix2 0 j) + ∑ s : Fin 128, N (ix2 s j) := by
  pointwise [k0_pay147]

end Cert.SgBwdIdeal.Sg

end
-- ==== Proof.Sg.BwdAcc.lean ====
/- The lists of stores of the spatial gate's gradient, as recursions over the 64 squares of a block, and what they hold. -/
module

public import proofs.«01_k».proof.Proof.Sg.BwdStep

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg

/-! ## Rectangles -/

theorem box2 {a b c d A B : ℕ} (h1 : a + c ≤ A) (h2 : b + d ≤ B) :
    ∀ k, (![a, b] : Fin (⟨2, ![A, B]⟩ : Shape).rank → ℕ) k + (![c, d] : Fin (⟨2, ![A, B]⟩ : Shape).rank → ℕ) k ≤ (⟨2, ![A, B]⟩ : Shape).size k :=
  Fin.forall_fin_two.2 ⟨h1, h2⟩
theorem box3 {a b c A B C : ℕ} (h1 : a + 1 ≤ A) (h2 : 0 + b ≤ B) (h3 : 0 + c ≤ C) :
    ∀ k, (![a, 0, 0] : Fin (⟨3, ![A, B, C]⟩ : Shape).rank → ℕ) k + (![1, b, c] : Fin (⟨3, ![A, B, C]⟩ : Shape).rank → ℕ) k ≤ (⟨3, ![A, B, C]⟩ : Shape).size k := fun k =>
  match k with
  | ⟨0, _⟩ => h1
  | ⟨1, _⟩ => h2
  | ⟨2, _⟩ => h3

theorem inG (g : Fin 16) : ∀ k, (![g.val, 0, 0] : Fin S16x128x128.rank → ℕ) k + (![1, 128, 128] : Fin S16x128x128.rank → ℕ) k ≤ S16x128x128.size k :=
  box3 (by omega) (by omega) (by omega)
theorem inD (g : Fin 16) : ∀ k, (![g.val, 0, 0] : Fin S16x8x128.rank → ℕ) k + (![1, 8, 128] : Fin S16x8x128.rank → ℕ) k ≤ S16x8x128.size k :=
  box3 (by omega) (by omega) (by omega)

/-- The chunk and the group of a square's number. -/
abbrev st (n : ℕ) : Fin 4 := ⟨n / 16 % 4, by omega⟩
@[inherit_doc st]
abbrev gr (n : ℕ) : Fin 16 := ⟨n % 16, by omega⟩

/-- A chunk's rows of the two halves, its rows of a half-width block, its square of a group, a group's square, eight rows of a group. -/
abbrev rU (a : Fin 4) : Rect S512x4096 := Rect.unit ![128 * a.val, 0] ![128, 2048] (box2 (by omega) (by omega))
@[inherit_doc rU]
abbrev rV (a : Fin 4) : Rect S512x4096 := Rect.unit ![128 * a.val, 2048] ![128, 2048] (box2 (by omega) (by omega))
@[inherit_doc rU]
abbrev rUsq (a : Fin 4) (g : Fin 16) : Rect S512x4096 := Rect.unit ![128 * a.val, 128 * g.val] ![128, 128] (box2 (by omega) (by omega))
@[inherit_doc rU]
abbrev rRow (a : Fin 4) : Rect S512x2048 := Rect.unit ![128 * a.val, 0] ![128, 2048] (box2 (by omega) (by omega))
@[inherit_doc rU]
abbrev rSq (a : Fin 4) (g : Fin 16) : Rect S512x2048 := Rect.unit ![128 * a.val, 128 * g.val] ![128, 128] (box2 (by omega) (by omega))
@[inherit_doc rU]
abbrev rG (g : Fin 16) : Rect S16x128x128 := Rect.unit ![g.val, 0, 0] ![1, 128, 128] (inG g)
@[inherit_doc rU]
abbrev rD (g : Fin 16) : Rect S16x8x128 := Rect.unit ![g.val, 0, 0] ![1, 8, 128] (inD g)
abbrev rL : Rect S1x2048 := Rect.unit ![0, 0] ![1, 2048] (box2 (by omega) (by omega))

theorem cut (g : Fin 16) : S128x2048.Slices ![0, 128 * g.val] S128x128 :=
  ⟨rfl, Fin.forall_fin_two.2 ⟨by show 0 + 128 ≤ 128; omega, by show 128 * g.val + 128 ≤ 2048; omega⟩⟩

theorem at2 {A B a b c d : ℕ} (inb : ∀ k, (![a, b] : Fin (⟨2, ![A, B]⟩ : Shape).rank → ℕ) k + (![c, d] : Fin (⟨2, ![A, B]⟩ : Shape).rank → ℕ) k ≤ (⟨2, ![A, B]⟩ : Shape).size k)
    (x : Fin c) (y : Fin d) (x' : Fin A) (y' : Fin B) (hx : x'.val = a + x.val) (hy : y'.val = b + y.val) :
    (Rect.unit (s := ⟨2, ![A, B]⟩) ![a, b] ![c, d] inb).toLoadRect.idx (ix2 x y : (⟨2, ![c, d]⟩ : Shape).Idx) = ix2 x' y' := by
  funext k
  apply Fin.ext
  match k with
  | ⟨0, _⟩ => show a + 1 * x.val = x'.val; omega
  | ⟨1, _⟩ => show b + 1 * y.val = y'.val; omega

theorem at3 {A B C a c d : ℕ} (inb : ∀ k, (![a, 0, 0] : Fin (⟨3, ![A, B, C]⟩ : Shape).rank → ℕ) k + (![1, c, d] : Fin (⟨3, ![A, B, C]⟩ : Shape).rank → ℕ) k ≤ (⟨3, ![A, B, C]⟩ : Shape).size k)
    (x : Fin c) (y : Fin d) (g : Fin A) (x' : Fin B) (y' : Fin C) (hg : g.val = a) (hx : x'.val = x.val) (hy : y'.val = y.val) :
    (Rect.unit (s := ⟨3, ![A, B, C]⟩) ![a, 0, 0] ![1, c, d] inb).toLoadRect.idx (ix3 0 x y : (⟨3, ![1, c, d]⟩ : Shape).Idx) = ix3 g x' y' := by
  funext k
  apply Fin.ext
  match k with
  | ⟨0, _⟩ => show a + 1 * 0 = g.val; omega
  | ⟨1, _⟩ => show 0 + 1 * x.val = x'.val; omega
  | ⟨2, _⟩ => show 0 + 1 * y.val = y'.val; omega

/-- What a load takes of a whole buffer that holds `x`. -/
abbrev ldr {s : Shape} {e : EltTy} {arg : Memref sig .tc .vmem s e} (h : arg.IsWhole) (r : Rect s) (x : Vec Ideal s e) : r.shape.Idx → Elt Ideal e :=
  View.readAt (Elt Ideal) arg.view r.toLoadRect (h.unread x)

theorem ldr_at {s : Shape} {e : EltTy} {arg : Memref sig .tc .vmem s e} (h : arg.IsWhole) (r : Rect s) (x : Vec Ideal s e) (i : r.shape.Idx) :
    ldr h r x i = x (r.toLoadRect.idx i) := by
  unfold ldr
  rw [View.readAt_apply, h.read_unread]

/-! ## Lists that add to a group's square -/

section
variable (arg : Memref sig .tc .vmem S16x128x128 .f32) (step : ℕ → FVec Ideal S1x128x128 .f32 → FVec Ideal S1x128x128 .f32)

/-- Square after square, each reading its group's square back from the stores before it. -/
def accW (base : List (View.Piece (Elt Ideal) S16x128x128 .f32)) : ℕ → List (View.Piece (Elt Ideal) S16x128x128 .f32)
  | 0 => base
  | n + 1 => (⟨rG (gr n), step n (arg.view.readCov (Val := Elt Ideal) (accW base n) (rG (gr n)).toLoadRect)⟩ : View.Piece (Elt Ideal) S16x128x128 .f32) :: accW base n

/-- The first sixteen squares, each reading what the buffer held. -/
def fstW (h : arg.IsWhole) (x : FVec Ideal S16x128x128 .f32) : ℕ → List (View.Piece (Elt Ideal) S16x128x128 .f32)
  | 0 => []
  | n + 1 => (⟨rG (gr n), step n (ldr h (rG (gr n)) x)⟩ : View.Piece (Elt Ideal) S16x128x128 .f32) :: fstW h x n

theorem accW_succ (base : List (View.Piece (Elt Ideal) S16x128x128 .f32)) (n : ℕ) : accW arg step base (n + 1)
    = (⟨rG (gr n), step n (arg.view.readCov (Val := Elt Ideal) (accW arg step base n) (rG (gr n)).toLoadRect)⟩ : View.Piece (Elt Ideal) S16x128x128 .f32) :: accW arg step base n := rfl
theorem fstW_succ (h : arg.IsWhole) (x : FVec Ideal S16x128x128 .f32) (n : ℕ) : fstW arg step h x (n + 1)
    = (⟨rG (gr n), step n (ldr h (rG (gr n)) x)⟩ : View.Piece (Elt Ideal) S16x128x128 .f32) :: fstW arg step h x n := rfl

variable (val : ℕ → Fin 128 → Fin 128 → EReal)
  (hstep : ∀ n A t s, (step n A (ix3 0 t s) : EReal) = A (ix3 0 t s) + val n t s)

theorem hitW (g : Fin 16) (w : FVec Ideal S1x128x128 .f32) (L : List (View.Piece (Elt Ideal) S16x128x128 .f32)) (t : Fin 128) (s : Fin 128) :
    View.canon ((⟨rG g, w⟩ : View.Piece (Elt Ideal) S16x128x128 .f32) :: L) (ix3 g t s) = w (ix3 0 t s) := by
  have e := at3 (inG g) t s g t s rfl rfl rfl
  exact (congrArg (View.canon ((⟨rG g, w⟩ : View.Piece (Elt Ideal) S16x128x128 .f32) :: L)) e.symm).trans
    (View.canon_cons_emb (Val := Elt Ideal) (e := .f32) (rG g) w L (ix3 0 t s : S1x128x128.Idx))

theorem missW (g g' : Fin 16) (hg : g ≠ g') (w : FVec Ideal S1x128x128 .f32) (L : List (View.Piece (Elt Ideal) S16x128x128 .f32)) (t : Fin 128) (s : Fin 128) :
    View.canon ((⟨rG g', w⟩ : View.Piece (Elt Ideal) S16x128x128 .f32) :: L) (ix3 g t s) = View.canon L (ix3 g t s) := by
  refine View.canon_cons_of_not_mem _ L fun hm => hg (Fin.ext ?_)
  have := (Rect.mem_set_unit (s := S16x128x128) (off := ![g'.val, 0, 0]) (size := ![1, 128, 128]) (inb := inG g')).mp hm 0
  have h1 : g'.val ≤ g.val := this.1
  have h2 : g.val < g'.val + 1 := this.2
  omega

include hstep

theorem accW_at (base : List (View.Piece (Elt Ideal) S16x128x128 .f32)) (g : Fin 16) (t : Fin 128) (s : Fin 128) (n : ℕ) :
    (View.canon (accW arg step base n) (ix3 g t s) : EReal)
      = View.canon base (ix3 g t s) + ∑ k ∈ Finset.range n, if gr k = g then val k t s else 0 := by
  induction n with
  | zero => simp [accW]
  | succ n ih =>
    rw [Finset.sum_range_succ, ← add_assoc, ← ih]
    rw [accW_succ]
    by_cases h : gr n = g
    · rw [if_pos h]
      subst h
      refine (hitW _ _ _ t s).trans ((hstep n _ t s).trans ?_)
      rw [View.readCov_eq_canon']
      exact congrArg (· + val n t s) (congrArg (View.canon _) (at3 (inG (gr n)) t s (gr n) t s rfl rfl rfl))
    · rw [if_neg h, add_zero]
      exact missW g (gr n) (fun e => h e.symm) _ _ t s

theorem fstW_at (h : arg.IsWhole) (x : FVec Ideal S16x128x128 .f32) (g : Fin 16) (t : Fin 128) (s : Fin 128) (n : ℕ) (hn : n ≤ 16) (hg : g.val < n) :
    (View.canon (fstW arg step h x n) (ix3 g t s) : EReal) = x (ix3 g t s) + val g.val t s := by
  induction n with
  | zero => omega
  | succ n ih =>
    rw [fstW_succ]
    by_cases e : g.val = n
    · obtain rfl : gr n = g := Fin.ext (by show n % 16 = g.val; omega)
      refine (hitW _ _ _ t s).trans ((hstep n _ t s).trans ?_)
      rw [ldr_at, at3 (inG (gr n)) t s (gr n) t s rfl rfl rfl]
      rw [e]
    · refine (missW g (gr n) (fun h' => ?_) _ _ t s).trans (ih (by omega) (by omega))
      have : g.val = n % 16 := congrArg Fin.val h'
      omega
end

section
variable (arg : Memref sig .tc .vmem S16x8x128 .f32) (step : ℕ → FVec Ideal S1x8x128 .f32 → FVec Ideal S1x8x128 .f32)

/-- Square after square, each reading its group's square back from the stores before it. -/
def accD (base : List (View.Piece (Elt Ideal) S16x8x128 .f32)) : ℕ → List (View.Piece (Elt Ideal) S16x8x128 .f32)
  | 0 => base
  | n + 1 => (⟨rD (gr n), step n (arg.view.readCov (Val := Elt Ideal) (accD base n) (rD (gr n)).toLoadRect)⟩ : View.Piece (Elt Ideal) S16x8x128 .f32) :: accD base n

/-- The first sixteen squares, each reading what the buffer held. -/
def fstD (h : arg.IsWhole) (x : FVec Ideal S16x8x128 .f32) : ℕ → List (View.Piece (Elt Ideal) S16x8x128 .f32)
  | 0 => []
  | n + 1 => (⟨rD (gr n), step n (ldr h (rD (gr n)) x)⟩ : View.Piece (Elt Ideal) S16x8x128 .f32) :: fstD h x n

theorem accD_succ (base : List (View.Piece (Elt Ideal) S16x8x128 .f32)) (n : ℕ) : accD arg step base (n + 1)
    = (⟨rD (gr n), step n (arg.view.readCov (Val := Elt Ideal) (accD arg step base n) (rD (gr n)).toLoadRect)⟩ : View.Piece (Elt Ideal) S16x8x128 .f32) :: accD arg step base n := rfl
theorem fstD_succ (h : arg.IsWhole) (x : FVec Ideal S16x8x128 .f32) (n : ℕ) : fstD arg step h x (n + 1)
    = (⟨rD (gr n), step n (ldr h (rD (gr n)) x)⟩ : View.Piece (Elt Ideal) S16x8x128 .f32) :: fstD arg step h x n := rfl

variable (val : ℕ → Fin 8 → Fin 128 → EReal)
  (hstep : ∀ n A t s, (step n A (ix3 0 t s) : EReal) = A (ix3 0 t s) + val n t s)

theorem hitD (g : Fin 16) (w : FVec Ideal S1x8x128 .f32) (L : List (View.Piece (Elt Ideal) S16x8x128 .f32)) (t : Fin 8) (s : Fin 128) :
    View.canon ((⟨rD g, w⟩ : View.Piece (Elt Ideal) S16x8x128 .f32) :: L) (ix3 g t s) = w (ix3 0 t s) := by
  have e := at3 (inD g) t s g t s rfl rfl rfl
  exact (congrArg (View.canon ((⟨rD g, w⟩ : View.Piece (Elt Ideal) S16x8x128 .f32) :: L)) e.symm).trans
    (View.canon_cons_emb (Val := Elt Ideal) (e := .f32) (rD g) w L (ix3 0 t s : S1x8x128.Idx))

theorem missD (g g' : Fin 16) (hg : g ≠ g') (w : FVec Ideal S1x8x128 .f32) (L : List (View.Piece (Elt Ideal) S16x8x128 .f32)) (t : Fin 8) (s : Fin 128) :
    View.canon ((⟨rD g', w⟩ : View.Piece (Elt Ideal) S16x8x128 .f32) :: L) (ix3 g t s) = View.canon L (ix3 g t s) := by
  refine View.canon_cons_of_not_mem _ L fun hm => hg (Fin.ext ?_)
  have := (Rect.mem_set_unit (s := S16x8x128) (off := ![g'.val, 0, 0]) (size := ![1, 8, 128]) (inb := inD g')).mp hm 0
  have h1 : g'.val ≤ g.val := this.1
  have h2 : g.val < g'.val + 1 := this.2
  omega

include hstep

theorem accD_at (base : List (View.Piece (Elt Ideal) S16x8x128 .f32)) (g : Fin 16) (t : Fin 8) (s : Fin 128) (n : ℕ) :
    (View.canon (accD arg step base n) (ix3 g t s) : EReal)
      = View.canon base (ix3 g t s) + ∑ k ∈ Finset.range n, if gr k = g then val k t s else 0 := by
  induction n with
  | zero => simp [accD]
  | succ n ih =>
    rw [Finset.sum_range_succ, ← add_assoc, ← ih]
    rw [accD_succ]
    by_cases h : gr n = g
    · rw [if_pos h]
      subst h
      refine (hitD _ _ _ t s).trans ((hstep n _ t s).trans ?_)
      rw [View.readCov_eq_canon']
      exact congrArg (· + val n t s) (congrArg (View.canon _) (at3 (inD (gr n)) t s (gr n) t s rfl rfl rfl))
    · rw [if_neg h, add_zero]
      exact missD g (gr n) (fun e => h e.symm) _ _ t s

theorem fstD_at (h : arg.IsWhole) (x : FVec Ideal S16x8x128 .f32) (g : Fin 16) (t : Fin 8) (s : Fin 128) (n : ℕ) (hn : n ≤ 16) (hg : g.val < n) :
    (View.canon (fstD arg step h x n) (ix3 g t s) : EReal) = x (ix3 g t s) + val g.val t s := by
  induction n with
  | zero => omega
  | succ n ih =>
    rw [fstD_succ]
    by_cases e : g.val = n
    · obtain rfl : gr n = g := Fin.ext (by show n % 16 = g.val; omega)
      refine (hitD _ _ _ t s).trans ((hstep n _ t s).trans ?_)
      rw [ldr_at, at3 (inD (gr n)) t s (gr n) t s rfl rfl rfl]
      rw [e]
    · refine (missD g (gr n) (fun h' => ?_) _ _ t s).trans (ih (by omega) (by omega))
      have : g.val = n % 16 := congrArg Fin.val h'
      omega
end

/-- Of 64 squares, those of one group: one in each chunk. -/
theorem sum_group (f : ℕ → EReal) (g : Fin 16) :
    (∑ k ∈ Finset.range 64, if gr k = g then f k else 0) = ∑ a ∈ Finset.range 4, f (16 * a + g.val) := by
  have e := Finset.sum_range_mul_split 4 16 (fun k => if gr k = g then f k else 0)
  refine e.trans (Finset.sum_congr rfl fun a _ => ?_)
  rw [Finset.sum_eq_single g.val]
  · rw [if_pos (Fin.ext (by show (a * 16 + g.val) % 16 = g.val; omega)), Nat.mul_comm]
  · intro k hk hne
    have hk' := Finset.mem_range.mp hk
    exact if_neg fun h => hne (by have : (a * 16 + k) % 16 = g.val := congrArg Fin.val h; omega)
  · intro h
    exact absurd (Finset.mem_range.mpr g.isLt) h

theorem sum_group' (f : ℕ → EReal) (g : Fin 16) :
    (f g.val + ∑ k ∈ Finset.range 48, if gr (16 + k) = g then f (16 + k) else 0) = ∑ a ∈ Finset.range 4, f (16 * a + g.val) := by
  rw [← sum_group, show 64 = 16 + 48 from rfl, Finset.sum_range_add]
  refine congrArg (· + _) ?_
  rw [Finset.sum_eq_single g.val]
  · rw [if_pos (Fin.ext (by show g.val % 16 = g.val; omega))]
  · intro k hk hne
    have hk' := Finset.mem_range.mp hk
    exact if_neg fun h => hne (by have : k % 16 = g.val := congrArg Fin.val h; omega)
  · intro h
    exact absurd (Finset.mem_range.mpr g.isLt) h

end Cert.SgBwdIdeal.Sg

end
-- ==== Proof.Sg.BwdLists.lean ====
/- The stores of the spatial gate's gradient are these recursions. -/
module

public import proofs.«01_k».proof.Proof.Sg.BwdAcc

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg
variable (c : Dev nD) (i : grid0.Coords) {arg1 : Memref sig .tc .vmem S512x4096 .f32} (harg1 : arg1.IsWhole) {arg2 : Memref sig .tc .vmem S512x2048 .f32} (harg2 : arg2.IsWhole) {arg3 : Memref sig .tc .vmem S1x2048 .f32} (harg3 : arg3.IsWhole) {arg4 : Memref sig .tc .vmem S1x2048 .f32} (harg4 : arg4.IsWhole) {arg5 : Memref sig .tc .vmem S16x128x128 .f32} (harg5 : arg5.IsWhole) {arg6 : Memref sig .tc .vmem S16x128x128 .f32} (harg6 : arg6.IsWhole) {arg7 : Memref sig .tc .vmem S512x4096 .bf16} (harg7 : arg7.IsWhole) {arg8 : Memref sig .tc .vmem S16x128x128 .f32} (harg8 : arg8.IsWhole) {arg9 : Memref sig .tc .vmem S16x8x128 .f32} (harg9 : arg9.IsWhole) {arg10 : Memref sig .tc .vmem S1x2048 .f32} (harg10 : arg10.IsWhole) {arg11 : Memref sig .tc .vmem S1x2048 .f32} (harg11 : arg11.IsWhole) {arg12 : Memref sig .tc .vmem S512x2048 .f32} (harg12 : arg12.IsWhole) {arg13 : Memref sig .tc .vmem S512x2048 .f32} (harg13 : arg13.IsWhole)
  (x0 : FVec Ideal S512x4096 .f32) (x1 : FVec Ideal S512x2048 .f32) (x2 x3 : FVec Ideal S1x2048 .f32) (x4 x5 : FVec Ideal S16x128x128 .f32)
  (xo7 : FVec Ideal S16x128x128 .f32) (xo8 : FVec Ideal S16x8x128 .f32) (xo9 xo10 : FVec Ideal S1x2048 .f32)

/-- The rows stored in the first scratch, chunk after chunk, and one square read back. -/
def keepL (arg3 : Memref sig .tc .vmem S1x2048 .f32) (harg3 : arg3.IsWhole) (arg4 : Memref sig .tc .vmem S1x2048 .f32) (harg4 : arg4.IsWhole) : ℕ → List (View.Piece (Elt Ideal) S512x2048 .f32)
  | 0 => [⟨rRow ⟨0, by omega⟩, normV (ldr harg1 (rV ⟨0, by omega⟩) x0) (ldr harg3 rL x2) (ldr harg4 rL x3)⟩]
  | k + 1 => (⟨rRow ⟨(k + 1) % 4, by omega⟩, normV (ldr harg1 (rV ⟨(k + 1) % 4, by omega⟩) x0) (ldr harg3 rL x2) (ldr harg4 rL x3)⟩ : View.Piece (Elt Ideal) S512x2048 .f32) :: keepL arg3 harg3 arg4 harg4 k
@[inherit_doc keepL]
def kept (arg12 : Memref sig .tc .vmem S512x2048 .f32) (n : ℕ) : FVec Ideal S128x128 .f32 :=
  arg12.view.readCov (Val := Elt Ideal) (keepL harg1 x0 x2 x3 arg3 harg3 arg4 harg4 (n / 16)) (rSq (st n) (gr n)).toLoadRect

/-- The squares of the gradient at the norm, stored in the second scratch, and a chunk's rows read back. -/
def normL : ℕ → List (View.Piece (Elt Ideal) S512x2048 .f32)
  | 0 => []
  | n + 1 => (⟨rSq (st n) (gr n), squareN ![0, 128 * (gr n).val] (cut (gr n)) (ldr harg1 (rU (st n)) x0) (ldr harg2 (rSq (st n) (gr n)) x1) (ldr harg5 (rG (gr n)) x4)⟩ : View.Piece (Elt Ideal) S512x2048 .f32) :: normL n
@[inherit_doc normL]
def normBack (arg13 : Memref sig .tc .vmem S512x2048 .f32) (a : Fin 4) : FVec Ideal S128x2048 .f32 :=
  arg13.view.readCov (Val := Elt Ideal) (normL harg1 harg2 harg5 x0 x1 x4 (16 * a.val + 16)) (rRow a).toLoadRect

/-- What square `n` stores. -/
def putW (arg12 : Memref sig .tc .vmem S512x2048 .f32) (n : ℕ) (A : FVec Ideal S1x128x128 .f32) : FVec Ideal S1x128x128 .f32 :=
  stepW ![0, 128 * (gr n).val] (cut (gr n)) (ldr harg1 (rU (st n)) x0) (ldr harg2 (rSq (st n) (gr n)) x1) (kept harg1 harg3 harg4 x0 x2 x3 arg12 n) A
@[inherit_doc putW]
def putD (n : ℕ) (A : FVec Ideal S1x8x128 .f32) : FVec Ideal S1x8x128 .f32 :=
  stepD ![0, 128 * (gr n).val] (cut (gr n)) (ldr harg1 (rU (st n)) x0) (ldr harg2 (rSq (st n) (gr n)) x1) A
@[inherit_doc putW]
def putU (arg12 : Memref sig .tc .vmem S512x2048 .f32) (a : Fin 4) (g : Fin 16) : FVec Ideal S128x128 .bf16 :=
  squareU ![0, 128 * g.val] (cut g) (ldr harg1 (rU a) x0) (ldr harg2 (rSq a g) x1) (ldr harg5 (rG g) x4) (ldr harg6 (rG g) x5)
    (arg12.view.readCov (Val := Elt Ideal) (keepL harg1 x0 x2 x3 arg3 harg3 arg4 harg4 a.val) (rSq a g).toLoadRect)
@[inherit_doc putW]
def putV (arg13 : Memref sig .tc .vmem S512x2048 .f32) (a : Fin 4) : FVec Ideal S128x2048 .bf16 :=
  rowsV (ldr harg1 (rV a) x0) (normBack harg1 harg2 harg5 x0 x1 x4 arg13 a) (ldr harg3 rL x2)

end Cert.SgBwdIdeal.Sg

end
-- ==== Proof.Sg.BwdRunA.lean ====
/- What the body stores at the first point. -/
module

public import proofs.«01_k».proof.Proof.Sg.BwdLists

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg
variable (c : Dev nD) (i : grid0.Coords) {arg1 : Memref sig .tc .vmem S512x4096 .f32} (harg1 : arg1.IsWhole) {arg2 : Memref sig .tc .vmem S512x2048 .f32} (harg2 : arg2.IsWhole) {arg3 : Memref sig .tc .vmem S1x2048 .f32} (harg3 : arg3.IsWhole) {arg4 : Memref sig .tc .vmem S1x2048 .f32} (harg4 : arg4.IsWhole) {arg5 : Memref sig .tc .vmem S16x128x128 .f32} (harg5 : arg5.IsWhole) {arg6 : Memref sig .tc .vmem S16x128x128 .f32} (harg6 : arg6.IsWhole) {arg7 : Memref sig .tc .vmem S512x4096 .bf16} (harg7 : arg7.IsWhole) {arg8 : Memref sig .tc .vmem S16x128x128 .f32} (harg8 : arg8.IsWhole) {arg9 : Memref sig .tc .vmem S16x8x128 .f32} (harg9 : arg9.IsWhole) {arg10 : Memref sig .tc .vmem S1x2048 .f32} (harg10 : arg10.IsWhole) {arg11 : Memref sig .tc .vmem S1x2048 .f32} (harg11 : arg11.IsWhole) {arg12 : Memref sig .tc .vmem S512x2048 .f32} (harg12 : arg12.IsWhole) {arg13 : Memref sig .tc .vmem S512x2048 .f32} (harg13 : arg13.IsWhole)
  (x0 : FVec Ideal S512x4096 .f32) (x1 : FVec Ideal S512x2048 .f32) (x2 x3 : FVec Ideal S1x2048 .f32) (x4 x5 : FVec Ideal S16x128x128 .f32)
  (xo7 : FVec Ideal S16x128x128 .f32) (xo8 : FVec Ideal S16x8x128 .f32) (xo9 xo10 : FVec Ideal S1x2048 .f32)

theorem keepA0 : kernelRun0_A.sl.HS0_1 (F := Ideal) c arg1 harg1 arg3 harg3 arg4 harg4 x0 x2 x3 = keepL harg1 x0 x2 x3 arg3 harg3 arg4 harg4 0 := rfl
theorem keepA1 : kernelRun0_A.sl.HS0_2 (F := Ideal) c arg1 harg1 arg3 harg3 arg4 harg4 x0 x2 x3 = keepL harg1 x0 x2 x3 arg3 harg3 arg4 harg4 1 := by
  rw [keepL, ← keepA0 c]
  rfl
theorem keepA2 : kernelRun0_A.sl.HS0_3 (F := Ideal) c arg1 harg1 arg3 harg3 arg4 harg4 x0 x2 x3 = keepL harg1 x0 x2 x3 arg3 harg3 arg4 harg4 2 := by
  rw [keepL, ← keepA1 c]
  rfl
theorem keepA3 : kernelRun0_A.sl.HS0_4 (F := Ideal) c arg1 harg1 arg3 harg3 arg4 harg4 x0 x2 x3 = keepL harg1 x0 x2 x3 arg3 harg3 arg4 harg4 3 := by
  rw [keepL, ← keepA2 c]
  rfl
theorem normA0 : kernelRun0_A.sl.HS1_16 (F := Ideal) c arg1 harg1 arg2 harg2 arg5 harg5 x0 x1 x4 = normL harg1 harg2 harg5 x0 x1 x4 16 := rfl
theorem normA1 : kernelRun0_A.sl.HS1_32 (F := Ideal) c arg1 harg1 arg2 harg2 arg5 harg5 x0 x1 x4 = normL harg1 harg2 harg5 x0 x1 x4 32 := rfl
theorem normA2 : kernelRun0_A.sl.HS1_48 (F := Ideal) c arg1 harg1 arg2 harg2 arg5 harg5 x0 x1 x4 = normL harg1 harg2 harg5 x0 x1 x4 48 := rfl
theorem normA3 : kernelRun0_A.sl.HS1_64 (F := Ideal) c arg1 harg1 arg2 harg2 arg5 harg5 x0 x1 x4 = normL harg1 harg2 harg5 x0 x1 x4 64 := rfl
theorem listWA0 : kernelRun0_A.sl.H7_1 (F := Ideal)  = accW arg8 (putW harg1 harg2 harg3 harg4 x0 x1 x2 x3 arg12) [⟨Rect.unit ![0, 0, 0] S16x128x128.size inb_S16x128x128_S16x128x128_0_0_0, k0_pay1 (F := Ideal)⟩] 0 := rfl
theorem listWA8 : kernelRun0_A.sl.H7_9 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 8 := by
  rw [accW_succ, accW_succ, accW_succ, accW_succ, accW_succ, accW_succ, accW_succ, accW_succ, ← listWA0]
  rfl
theorem listWA16 : kernelRun0_A.sl.H7_17 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 16 := by
  rw [accW_succ, accW_succ, accW_succ, accW_succ, accW_succ, accW_succ, accW_succ, accW_succ, ← listWA8 c]
  rfl
theorem listWA24 : kernelRun0_A.sl.H7_25 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 24 := by
  rw [accW_succ, accW_succ, accW_succ, accW_succ, accW_succ, accW_succ, accW_succ, accW_succ, ← listWA16 c]
  rfl
theorem listWA32 : kernelRun0_A.sl.H7_33 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 32 := by
  rw [accW_succ, accW_succ, accW_succ, accW_succ, accW_succ, accW_succ, accW_succ, accW_succ, ← listWA24 c]
  rfl
theorem listWA40 : kernelRun0_A.sl.H7_41 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 40 := by
  rw [accW_succ, accW_succ, accW_succ, accW_succ, accW_succ, accW_succ, accW_succ, accW_succ, ← listWA32 c]
  rfl
theorem listWA48 : kernelRun0_A.sl.H7_49 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 48 := by
  rw [accW_succ, accW_succ, accW_succ, accW_succ, accW_succ, accW_succ, accW_succ, accW_succ, ← listWA40 c]
  rfl
theorem listWA56 : kernelRun0_A.sl.H7_57 (F := Ideal) c arg1 harg1 arg2 harg2 arg3 harg3 arg4 harg4 arg8 arg12 x0 x1 x2 x3 = accW arg8 (putW harg1 harg2 harg3 harg4 x0 x1 x2 x3 arg12) [⟨Rect.unit ![0, 0, 0] S16x128x128.size inb_S16x128x128_S16x128x128_0_0_0, k0_pay1 (F := Ideal)⟩] 56 := by
  rw [accW_succ, accW_succ, accW_succ, accW_succ, accW_succ, accW_succ, accW_succ, accW_succ, ← listWA48 c]
  rfl
theorem listWA64 (hc : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.1 = accW arg8 (putW harg1 harg2 harg3 harg4 x0 x1 x2 x3 arg12) [⟨Rect.unit ![0, 0, 0] S16x128x128.size inb_S16x128x128_S16x128x128_0_0_0, k0_pay1 (F := Ideal)⟩] 64 := by
  rw [accW_succ, accW_succ, accW_succ, accW_succ, accW_succ, accW_succ, accW_succ, accW_succ, ← listWA56 c]
  rfl
theorem listDA0 : kernelRun0_A.sl.H8_1 (F := Ideal)  = accD arg9 (putD harg1 harg2 x0 x1) [⟨Rect.unit ![0, 0, 0] S16x8x128.size inb_S16x8x128_S16x8x128_0_0_0, k0_pay2 (F := Ideal)⟩] 0 := rfl
theorem listDA8 : kernelRun0_A.sl.H8_9 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 8 := by
  rw [accD_succ, accD_succ, accD_succ, accD_succ, accD_succ, accD_succ, accD_succ, accD_succ, ← listDA0]
  rfl
theorem listDA16 : kernelRun0_A.sl.H8_17 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 16 := by
  rw [accD_succ, accD_succ, accD_succ, accD_succ, accD_succ, accD_succ, accD_succ, accD_succ, ← listDA8 c]
  rfl
theorem listDA24 : kernelRun0_A.sl.H8_25 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 24 := by
  rw [accD_succ, accD_succ, accD_succ, accD_succ, accD_succ, accD_succ, accD_succ, accD_succ, ← listDA16 c]
  rfl
theorem listDA32 : kernelRun0_A.sl.H8_33 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 32 := by
  rw [accD_succ, accD_succ, accD_succ, accD_succ, accD_succ, accD_succ, accD_succ, accD_succ, ← listDA24 c]
  rfl
theorem listDA40 : kernelRun0_A.sl.H8_41 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 40 := by
  rw [accD_succ, accD_succ, accD_succ, accD_succ, accD_succ, accD_succ, accD_succ, accD_succ, ← listDA32 c]
  rfl
theorem listDA48 : kernelRun0_A.sl.H8_49 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 48 := by
  rw [accD_succ, accD_succ, accD_succ, accD_succ, accD_succ, accD_succ, accD_succ, accD_succ, ← listDA40 c]
  rfl
theorem listDA56 : kernelRun0_A.sl.H8_57 (F := Ideal) c arg1 harg1 arg2 harg2 arg9 x0 x1 = accD arg9 (putD harg1 harg2 x0 x1) [⟨Rect.unit ![0, 0, 0] S16x8x128.size inb_S16x8x128_S16x8x128_0_0_0, k0_pay2 (F := Ideal)⟩] 56 := by
  rw [accD_succ, accD_succ, accD_succ, accD_succ, accD_succ, accD_succ, accD_succ, accD_succ, ← listDA48 c]
  rfl
theorem listDA64 (hc : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.2.1 = accD arg9 (putD harg1 harg2 x0 x1) [⟨Rect.unit ![0, 0, 0] S16x8x128.size inb_S16x8x128_S16x8x128_0_0_0, k0_pay2 (F := Ideal)⟩] 64 := by
  rw [accD_succ, accD_succ, accD_succ, accD_succ, accD_succ, accD_succ, accD_succ, accD_succ, ← listDA56 c]
  rfl

end Cert.SgBwdIdeal.Sg

end
-- ==== Proof.Sg.BwdVals.lean ====
/- The values that the body's stores leave, in terms of its blocks. -/
module

public import proofs.«01_k».proof.Proof.Sg.BwdLists

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg

/-! ## Pieces of a matrix -/

theorem hit2 {A B a b c d : ℕ} {e : EltTy} (inb : ∀ k, (![a, b] : Fin (⟨2, ![A, B]⟩ : Shape).rank → ℕ) k + (![c, d] : Fin (⟨2, ![A, B]⟩ : Shape).rank → ℕ) k ≤ (⟨2, ![A, B]⟩ : Shape).size k)
    (w : (⟨2, ![c, d]⟩ : Shape).Idx → Elt Ideal e) (L : List (View.Piece (Elt Ideal) (⟨2, ![A, B]⟩ : Shape) e))
    (x : Fin c) (y : Fin d) (x' : Fin A) (y' : Fin B) (hx : x'.val = a + x.val) (hy : y'.val = b + y.val) :
    View.canon ((⟨Rect.unit (s := ⟨2, ![A, B]⟩) ![a, b] ![c, d] inb, w⟩ : View.Piece (Elt Ideal) (⟨2, ![A, B]⟩ : Shape) e) :: L) (ix2 x' y') = w (ix2 x y) :=
  (congrArg (View.canon ((⟨Rect.unit (s := ⟨2, ![A, B]⟩) ![a, b] ![c, d] inb, w⟩ : View.Piece (Elt Ideal) (⟨2, ![A, B]⟩ : Shape) e) :: L)) (at2 inb x y x' y' hx hy).symm).trans
    (View.canon_cons_emb (Val := Elt Ideal) (e := e) (Rect.unit (s := ⟨2, ![A, B]⟩) ![a, b] ![c, d] inb) w L (ix2 x y : (⟨2, ![c, d]⟩ : Shape).Idx))

theorem miss2 {A B a b c d : ℕ} {e : EltTy} (inb : ∀ k, (![a, b] : Fin (⟨2, ![A, B]⟩ : Shape).rank → ℕ) k + (![c, d] : Fin (⟨2, ![A, B]⟩ : Shape).rank → ℕ) k ≤ (⟨2, ![A, B]⟩ : Shape).size k)
    (w : (⟨2, ![c, d]⟩ : Shape).Idx → Elt Ideal e) (L : List (View.Piece (Elt Ideal) (⟨2, ![A, B]⟩ : Shape) e))
    (x' : Fin A) (y' : Fin B) (h : ¬((a ≤ x'.val ∧ x'.val < a + c) ∧ b ≤ y'.val ∧ y'.val < b + d)) :
    View.canon ((⟨Rect.unit (s := ⟨2, ![A, B]⟩) ![a, b] ![c, d] inb, w⟩ : View.Piece (Elt Ideal) (⟨2, ![A, B]⟩ : Shape) e) :: L) (ix2 x' y') = View.canon L (ix2 x' y') := by
  refine View.canon_cons_of_not_mem _ L fun hm => h ?_
  have m := (Rect.mem_set_unit (s := ⟨2, ![A, B]⟩) (off := ![a, b]) (size := ![c, d]) (inb := inb)).mp hm
  exact ⟨m 0, m 1⟩

/-! ## A block's chunks -/

section
variable (x0 : FVec Ideal S512x4096 .f32) (x1 : FVec Ideal S512x2048 .f32)

/-- The row `s` of a block's chunk `a`. -/
def cRow (a : ℕ) (s : Fin 128) : Fin 512 := ⟨128 * (a % 4) + s.val, by omega⟩
/-- A block's chunks. -/
def bU (a : ℕ) (s : Fin 128) (j : Fin 2048) : EReal := x0 (ix2 (cRow a s) ⟨j.val, by omega⟩)
@[inherit_doc bU]
def bV (a : ℕ) (s : Fin 128) (j : Fin 2048) : EReal := x0 (ix2 (cRow a s) ⟨2048 + j.val, by omega⟩)
@[inherit_doc bU]
def bZ (a : ℕ) (s : Fin 128) (j : Fin 2048) : EReal := x1 (ix2 (cRow a s) j)
end

variable (c : Dev nD) (i : grid0.Coords) {arg1 : Memref sig .tc .vmem S512x4096 .f32} (harg1 : arg1.IsWhole) {arg2 : Memref sig .tc .vmem S512x2048 .f32} (harg2 : arg2.IsWhole) {arg3 : Memref sig .tc .vmem S1x2048 .f32} (harg3 : arg3.IsWhole) {arg4 : Memref sig .tc .vmem S1x2048 .f32} (harg4 : arg4.IsWhole) {arg5 : Memref sig .tc .vmem S16x128x128 .f32} (harg5 : arg5.IsWhole) {arg6 : Memref sig .tc .vmem S16x128x128 .f32} (harg6 : arg6.IsWhole) {arg7 : Memref sig .tc .vmem S512x4096 .bf16} (harg7 : arg7.IsWhole) {arg8 : Memref sig .tc .vmem S16x128x128 .f32} (harg8 : arg8.IsWhole) {arg9 : Memref sig .tc .vmem S16x8x128 .f32} (harg9 : arg9.IsWhole) {arg10 : Memref sig .tc .vmem S1x2048 .f32} (harg10 : arg10.IsWhole) {arg11 : Memref sig .tc .vmem S1x2048 .f32} (harg11 : arg11.IsWhole) {arg12 : Memref sig .tc .vmem S512x2048 .f32} (harg12 : arg12.IsWhole) {arg13 : Memref sig .tc .vmem S512x2048 .f32} (harg13 : arg13.IsWhole)
  (x0 : FVec Ideal S512x4096 .f32) (x1 : FVec Ideal S512x2048 .f32) (x2 x3 : FVec Ideal S1x2048 .f32) (x4 x5 : FVec Ideal S16x128x128 .f32)
  (xo7 : FVec Ideal S16x128x128 .f32) (xo8 : FVec Ideal S16x8x128 .f32) (xo9 xo10 : FVec Ideal S1x2048 .f32)

theorem rowU (a : Fin 4) (s : Fin 128) (j : Fin 2048) : (ldr harg1 (rU a) x0 (ix2 s j) : EReal) = bU x0 a.val s j := by
  rw [ldr_at]
  exact congrArg x0 (at2 (box2 (by omega) (by omega)) s j (cRow a.val s) ⟨j.val, by omega⟩ (by show 128 * (a.val % 4) + s.val = 128 * a.val + s.val; omega) (by show j.val = 0 + j.val; omega))
theorem rowV (a : Fin 4) (s : Fin 128) (j : Fin 2048) : (ldr harg1 (rV a) x0 (ix2 s j) : EReal) = bV x0 a.val s j := by
  rw [ldr_at]
  exact congrArg x0 (at2 (box2 (by omega) (by omega)) s j (cRow a.val s) ⟨2048 + j.val, by omega⟩ (by show 128 * (a.val % 4) + s.val = 128 * a.val + s.val; omega) rfl)
theorem rowZ (a : Fin 4) (g : Fin 16) (s j : Fin 128) : (ldr harg2 (rSq a g) x1 (ix2 s j) : EReal) = bZ x1 a.val s (col g j) := by
  rw [ldr_at]
  exact congrArg x1 (at2 (box2 (by omega) (by omega)) s j (cRow a.val s) (col g j) (by show 128 * (a.val % 4) + s.val = 128 * a.val + s.val; omega) rfl)
theorem rowG (g : Fin 16) (t s : Fin 128) : (ldr harg5 (rG g) x4 (ix3 0 t s) : EReal) = x4 (ix3 g t s) := by
  rw [ldr_at]
  exact congrArg x4 (at3 (inG g) t s g t s rfl rfl rfl)
theorem rowL {arg : Memref sig .tc .vmem S1x2048 .f32} (h : arg.IsWhole) (x : FVec Ideal S1x2048 .f32) (j : Fin 2048) : (ldr h rL x (ix2 0 j) : EReal) = x (ix2 0 j) := by
  rw [ldr_at]
  exact congrArg x (at2 (box2 (by omega) (by omega)) 0 j 0 j rfl (by omega))

theorem rowVs (a : Fin 4) : (fun s j => (ldr harg1 (rV a) x0 (ix2 s j) : EReal)) = bV x0 a.val := by
  funext s j
  exact rowV harg1 x0 a s j

theorem normC_eq (a : Fin 4) (s : Fin 128) (j : Fin 2048) :
    (normV (ldr harg1 (rV a) x0) (ldr harg3 rL x2) (ldr harg4 rL x3) (ix2 s j) : EReal) = normC (bV x0 a.val) x2 x3 s j := by
  rw [norm_at, rowVs]
  unfold normC
  rw [rowL harg3 x2, rowL harg4 x3]

theorem keepL_at (k a : ℕ) (ha : a < 4) (h : a ≤ k) (s : Fin 128) (j : Fin 2048) :
    (View.canon (keepL harg1 x0 x2 x3 arg3 harg3 arg4 harg4 k) (ix2 (cRow a s) j) : EReal) = normC (bV x0 a) x2 x3 s j := by
  induction k with
  | zero =>
    obtain rfl : a = 0 := by omega
    rw [keepL]
    exact (hit2 (box2 (by omega) (by omega)) _ _ s j (cRow 0 s) j rfl (by omega)).trans (normC_eq harg1 harg3 harg4 x0 x2 x3 ⟨0, by omega⟩ s j)
  | succ k ih =>
    rw [keepL]
    by_cases e : (k + 1) % 4 = a
    · subst e
      exact (hit2 (box2 (by omega) (by omega)) _ _ s j (cRow _ s) j (by show 128 * ((k + 1) % 4 % 4) + s.val = 128 * ((k + 1) % 4) + s.val; omega) (by omega)).trans
        (normC_eq harg1 harg3 harg4 x0 x2 x3 ⟨(k + 1) % 4, by omega⟩ s j)
    · refine (miss2 (box2 (by omega) (by omega)) _ _ (cRow a s) j fun hh => e ?_).trans (ih (by omega))
      have h1 : 128 * ((k + 1) % 4) ≤ 128 * (a % 4) + s.val := hh.1.1
      have h2 : 128 * (a % 4) + s.val < 128 * ((k + 1) % 4) + 128 := hh.1.2
      omega

theorem back_at (k : ℕ) (a : Fin 4) (h : a.val ≤ k) (g : Fin 16) (s j : Fin 128) :
    (arg12.view.readCov (Val := Elt Ideal) (keepL harg1 x0 x2 x3 arg3 harg3 arg4 harg4 k) (rSq a g).toLoadRect (ix2 s j) : EReal)
      = normC (bV x0 a.val) x2 x3 s (col g j) := by
  rw [View.readCov_eq_canon']
  refine (congrArg (View.canon _) (at2 (box2 (by omega) (by omega)) s j (cRow a.val s) (col g j) (by show 128 * (a.val % 4) + s.val = 128 * a.val + s.val; omega) rfl)).trans ?_
  exact keepL_at harg1 harg3 harg4 x0 x2 x3 k a.val a.isLt h s (col g j)

theorem kept_at (n : ℕ) (s j : Fin 128) : (kept harg1 harg3 harg4 x0 x2 x3 arg12 n (ix2 s j) : EReal) = normC (bV x0 (st n).val) x2 x3 s (col (gr n) j) :=
  back_at harg1 harg3 harg4 x0 x2 x3 (n / 16) (st n) (by show n / 16 % 4 ≤ n / 16; omega) (gr n) s j

theorem putW_at (n : ℕ) (A : FVec Ideal S1x128x128 .f32) (t s : Fin 128) :
    (putW harg1 harg2 harg3 harg4 x0 x1 x2 x3 arg12 n A (ix3 0 t s) : EReal)
      = A (ix3 0 t s) + partW (bU x0 (st n).val) (bV x0 (st n).val) (bZ x1 (st n).val) x2 x3 (gr n) t s := by
  unfold putW
  rw [stepW_at _ (by omega)]
  simp only [rowU, rowZ, kept_at]
  rfl

theorem putD_at (n : ℕ) (A : FVec Ideal S1x8x128 .f32) (z : Fin 8) (t : Fin 128) :
    (putD harg1 harg2 x0 x1 n A (ix3 0 z t) : EReal) = A (ix3 0 z t) + partD (bU x0 (st n).val) (bZ x1 (st n).val) (gr n) t := by
  unfold putD
  rw [stepD_at _ (by omega)]
  simp only [rowU, rowZ]
  rfl

theorem grp_col (g : Fin 16) (j : Fin 128) : grp (col g j) = g := Fin.ext (by show (128 * g.val + j.val) / 128 = g.val; omega)

theorem squareN_eq (a : Fin 4) (g : Fin 16) (s j : Fin 128) :
    (squareN ![0, 128 * g.val] (cut g) (ldr harg1 (rU a) x0) (ldr harg2 (rSq a g) x1) (ldr harg5 (rG g) x4) (ix2 s j) : EReal)
      = toNorm (bU x0 a.val) (bZ x1 a.val) x4 s (col g j) := by
  rw [squareN_at _ (by omega)]
  simp only [rowU, rowZ, rowG]
  unfold toNorm mixW
  rw [grp_col]
  rfl

theorem normL_at (n a : ℕ) (ha : a < 4) (g : Fin 16) (h : 16 * a + g.val < n) (hn : n ≤ 64) (s j : Fin 128) :
    (View.canon (normL harg1 harg2 harg5 x0 x1 x4 n) (ix2 (cRow a s) (col g j)) : EReal) = toNorm (bU x0 a) (bZ x1 a) x4 s (col g j) := by
  induction n with
  | zero => omega
  | succ n ih =>
    rw [normL]
    by_cases e : 16 * a + g.val = n
    · obtain rfl : gr n = g := Fin.ext (by show n % 16 = g.val; omega)
      have ea : (st n).val = a := by show n / 16 % 4 = a; omega
      refine (hit2 (box2 (by omega) (by omega)) _ _ s j (cRow a s) (col (gr n) j) (by show 128 * (a % 4) + s.val = 128 * (n / 16 % 4) + s.val; omega) rfl).trans ?_
      rw [squareN_eq, ea]
    · refine (miss2 (box2 (by omega) (by omega)) _ _ (cRow a s) (col g j) fun hh => e ?_).trans (ih (by omega) (by omega))
      have h1 : 128 * (n / 16 % 4) ≤ 128 * (a % 4) + s.val := hh.1.1
      have h2 : 128 * (a % 4) + s.val < 128 * (n / 16 % 4) + 128 := hh.1.2
      have h3 : 128 * (n % 16) ≤ 128 * g.val + j.val := hh.2.1
      have h4 : 128 * g.val + j.val < 128 * (n % 16) + 128 := hh.2.2
      omega

theorem normBack_at (a : Fin 4) (s : Fin 128) (j : Fin 2048) :
    (normBack harg1 harg2 harg5 x0 x1 x4 arg13 a (ix2 s j) : EReal) = toNorm (bU x0 a.val) (bZ x1 a.val) x4 s j := by
  unfold normBack
  rw [View.readCov_eq_canon']
  have ej : col (grp j) ⟨j.val % 128, by omega⟩ = j := Fin.ext (by show 128 * (j.val / 128) + j.val % 128 = j.val; omega)
  have e := normL_at harg1 harg2 harg5 x0 x1 x4 (16 * a.val + 16) a.val a.isLt (grp j) (by show 16 * a.val + j.val / 128 < 16 * a.val + 16; omega) (by omega) s ⟨j.val % 128, by omega⟩
  rw [ej] at e
  refine (congrArg (View.canon _) (at2 (box2 (by omega) (by omega)) s j (cRow a.val s) j (by show 128 * (a.val % 4) + s.val = 128 * a.val + s.val; omega) (by omega))).trans e

theorem putU_at (C : Fin 16 → Fin 128 → EReal) (hC : ∀ g t j, (x5 (ix3 g t j) : EReal) = C g t) (a : Fin 4) (g : Fin 16) (t j : Fin 128) :
    (putU harg1 harg2 harg3 harg4 harg5 harg6 x0 x1 x2 x3 x4 x5 arg12 a g (ix2 t j) : EReal)
      = toU (bU x0 a.val) (bV x0 a.val) (bZ x1 a.val) x2 x3 x4 C t (col g j) := by
  unfold putU
  rw [squareU_at _ (by omega)]
  simp only [rowU, rowZ, rowG, back_at harg1 harg3 harg4 x0 x2 x3 a.val a le_rfl]
  unfold toU mixW
  rw [grp_col, hC]
  rfl

theorem putV_at (a : Fin 4) (s : Fin 128) (j : Fin 2048) :
    (putV harg1 harg2 harg3 harg5 x0 x1 x2 x4 arg13 a (ix2 s j) : EReal) = toV (bU x0 a.val) (bV x0 a.val) (bZ x1 a.val) x2 x4 s j := by
  unfold putV
  rw [rowsV_at]
  simp only [rowV, normBack_at, rowL]
  rfl

/-! ## The rows' gradient, stored square by square -/

/-- The squares of a chunk over what was stored before. -/
def chunkL (arg12 : Memref sig .tc .vmem S512x2048 .f32) (a : Fin 4) (base : List (View.Piece (Elt Ideal) S512x4096 .bf16)) : ℕ → List (View.Piece (Elt Ideal) S512x4096 .bf16)
  | 0 => base
  | k + 1 => (⟨rUsq a (gr k), putU harg1 harg2 harg3 harg4 harg5 harg6 x0 x1 x2 x3 x4 x5 arg12 a (gr k)⟩ : View.Piece (Elt Ideal) S512x4096 .bf16) :: chunkL arg12 a base k
@[inherit_doc chunkL]
def outL (arg12 : Memref sig .tc .vmem S512x2048 .f32) (arg13 : Memref sig .tc .vmem S512x2048 .f32) : ℕ → List (View.Piece (Elt Ideal) S512x4096 .bf16)
  | 0 => []
  | a + 1 => (⟨rV ⟨a % 4, by omega⟩, putV harg1 harg2 harg3 harg5 x0 x1 x2 x4 arg13 ⟨a % 4, by omega⟩⟩ : View.Piece (Elt Ideal) S512x4096 .bf16)
      :: chunkL harg1 harg2 harg3 harg4 harg5 harg6 x0 x1 x2 x3 x4 x5 arg12 ⟨a % 4, by omega⟩ (outL arg12 arg13 a) 16

theorem chunkL_miss (a : Fin 4) (base : List (View.Piece (Elt Ideal) S512x4096 .bf16)) (k : ℕ) (p : Fin 512) (q : Fin 4096) (h : p.val / 128 ≠ a.val ∨ 2048 ≤ q.val) :
    View.canon (chunkL harg1 harg2 harg3 harg4 harg5 harg6 x0 x1 x2 x3 x4 x5 arg12 a base k) (ix2 p q) = View.canon base (ix2 p q) := by
  induction k with
  | zero => rfl
  | succ k ih =>
    rw [chunkL]
    refine (miss2 (box2 (by omega) (by omega)) _ _ p q fun hh => ?_).trans ih
    have h1 : 128 * a.val ≤ p.val := hh.1.1
    have h2 : p.val < 128 * a.val + 128 := hh.1.2
    have h4 : q.val < 128 * (k % 16) + 128 := hh.2.2
    omega

theorem chunkL_hit (a : Fin 4) (base : List (View.Piece (Elt Ideal) S512x4096 .bf16)) (k : ℕ) (g : Fin 16) (hg : g.val < k) (hk : k ≤ 16) (s j : Fin 128) :
    View.canon (chunkL harg1 harg2 harg3 harg4 harg5 harg6 x0 x1 x2 x3 x4 x5 arg12 a base k) (ix2 (cRow a.val s) ⟨128 * g.val + j.val, by omega⟩)
      = putU harg1 harg2 harg3 harg4 harg5 harg6 x0 x1 x2 x3 x4 x5 arg12 a g (ix2 s j) := by
  induction k with
  | zero => omega
  | succ k ih =>
    rw [chunkL]
    by_cases e : g.val = k
    · obtain rfl : gr k = g := Fin.ext (by show k % 16 = g.val; omega)
      exact hit2 (box2 (by omega) (by omega)) _ _ s j _ _ (by show 128 * (a.val % 4) + s.val = 128 * a.val + s.val; omega) rfl
    · refine (miss2 (box2 (by omega) (by omega)) _ _ _ _ fun hh => e ?_).trans (ih (by omega) (by omega))
      have h3 : 128 * (k % 16) ≤ 128 * g.val + j.val := hh.2.1
      have h4 : 128 * g.val + j.val < 128 * (k % 16) + 128 := hh.2.2
      omega

theorem outL_at (C : Fin 16 → Fin 128 → EReal) (hC : ∀ g t j, (x5 (ix3 g t j) : EReal) = C g t) (n a : ℕ) (ha : a < n) (hn : n ≤ 4) (s : Fin 128) (q : Fin 4096) :
    (View.canon (outL harg1 harg2 harg3 harg4 harg5 harg6 x0 x1 x2 x3 x4 x5 arg12 arg13 n) (ix2 (cRow a s) q) : EReal)
      = if h : q.val < 2048 then toU (bU x0 a) (bV x0 a) (bZ x1 a) x2 x3 x4 C s ⟨q.val, h⟩
        else toV (bU x0 a) (bV x0 a) (bZ x1 a) x2 x4 s ⟨q.val - 2048, by omega⟩ := by
  induction n with
  | zero => omega
  | succ n ih =>
    rw [outL]
    have er : (cRow a s).val = 128 * (a % 4) + s.val := rfl
    by_cases e : a = n
    · subst e
      by_cases hq : q.val < 2048
      · rw [dif_pos hq]
        refine (miss2 (box2 (by omega) (by omega)) _ _ _ _ fun hh => ?_).trans ?_
        · have h3 : 2048 ≤ q.val := hh.2.1
          omega
        · have e1 : a % 4 = a := by omega
          have e := chunkL_hit harg1 harg2 harg3 harg4 harg5 harg6 (arg12 := arg12) x0 x1 x2 x3 x4 x5 ⟨a % 4, by omega⟩ (outL harg1 harg2 harg3 harg4 harg5 harg6 x0 x1 x2 x3 x4 x5 arg12 arg13 a)
            16 ⟨q.val / 128, by omega⟩ (by show q.val / 128 < 16; omega) le_rfl s ⟨q.val % 128, by omega⟩
          have eq : (⟨128 * (q.val / 128) + q.val % 128, by omega⟩ : Fin 4096) = q := Fin.ext (by show 128 * (q.val / 128) + q.val % 128 = q.val; omega)
          have eq' : col ⟨q.val / 128, by omega⟩ ⟨q.val % 128, by omega⟩ = (⟨q.val, hq⟩ : Fin 2048) := Fin.ext (by show 128 * (q.val / 128) + q.val % 128 = q.val; omega)
          rw [putU_at harg1 harg2 harg3 harg4 harg5 harg6 x0 x1 x2 x3 x4 x5 C hC, eq'] at e
          refine Eq.trans (congrArg (View.canon _) (congrArg₂ ix2 ?_ eq.symm)) (e.trans ?_)
          · exact Fin.ext (by show 128 * (a % 4) + s.val = 128 * (a % 4 % 4) + s.val; omega)
          · show toU (bU x0 (a % 4)) (bV x0 (a % 4)) (bZ x1 (a % 4)) x2 x3 x4 C s ⟨q.val, hq⟩ = _
            rw [e1]
      · rw [dif_neg hq]
        refine (hit2 (box2 (by omega) (by omega)) _ _ s ⟨q.val - 2048, by omega⟩ _ _ (by show 128 * (a % 4) + s.val = 128 * (a % 4) + s.val; rfl) (by show q.val = 2048 + (q.val - 2048); omega)).trans ?_
        rw [putV_at]
        have e1 : a % 4 = a := by omega
        simp only [e1]
    · refine (miss2 (box2 (by omega) (by omega)) _ _ _ _ fun hh => e ?_).trans ((chunkL_miss harg1 harg2 harg3 harg4 harg5 harg6 x0 x1 x2 x3 x4 x5 _ _ 16 _ q (Or.inl ?_)).trans (ih (by omega) (by omega)))
      · have h1 : 128 * (n % 4) ≤ 128 * (a % 4) + s.val := hh.1.1
        have h2 : 128 * (a % 4) + s.val < 128 * (n % 4) + 128 := hh.1.2
        omega
      · rw [er]
        show (128 * (a % 4) + s.val) / 128 ≠ n % 4
        omega

/-! ## The scale's and the shift's gradients -/

section
variable (arg : Memref sig .tc .vmem S1x2048 .f32) (step : ℕ → FVec Ideal S1x2048 .f32 → FVec Ideal S1x2048 .f32)

/-- Chunk after chunk, each adding to the row it reads back. -/
def accL (base : List (View.Piece (Elt Ideal) S1x2048 .f32)) : ℕ → List (View.Piece (Elt Ideal) S1x2048 .f32)
  | 0 => base
  | n + 1 => (⟨rL, step n (arg.view.readCov (Val := Elt Ideal) (accL base n) rL.toLoadRect)⟩ : View.Piece (Elt Ideal) S1x2048 .f32) :: accL base n

theorem accL_succ (base : List (View.Piece (Elt Ideal) S1x2048 .f32)) (n : ℕ) : accL arg step base (n + 1)
    = (⟨rL, step n (arg.view.readCov (Val := Elt Ideal) (accL arg step base n) rL.toLoadRect)⟩ : View.Piece (Elt Ideal) S1x2048 .f32) :: accL arg step base n := rfl

theorem accL_at (val : ℕ → Fin 2048 → EReal) (hstep : ∀ n A j, (step n A (ix2 0 j) : EReal) = A (ix2 0 j) + val n j)
    (base : List (View.Piece (Elt Ideal) S1x2048 .f32)) (j : Fin 2048) (n : ℕ) :
    (View.canon (accL arg step base n) (ix2 0 j) : EReal) = View.canon base (ix2 0 j) + ∑ k ∈ Finset.range n, val k j := by
  induction n with
  | zero => simp [accL]
  | succ n ih =>
    rw [Finset.sum_range_succ, ← add_assoc, ← ih, accL_succ]
    refine (hit2 (box2 (by omega) (by omega)) _ _ 0 j 0 j rfl (by omega)).trans ((hstep n _ j).trans ?_)
    rw [View.readCov_eq_canon']
    exact congrArg (· + val n j) (congrArg (View.canon _) (at2 (box2 (by omega) (by omega)) 0 j 0 j rfl (by omega)))
end

/-- What chunk `n` adds. -/
def putG (arg13 : Memref sig .tc .vmem S512x2048 .f32) (n : ℕ) (A : FVec Ideal S1x2048 .f32) : FVec Ideal S1x2048 .f32 :=
  stepG (ldr harg1 (rV ⟨n % 4, by omega⟩) x0) (normBack harg1 harg2 harg5 x0 x1 x4 arg13 ⟨n % 4, by omega⟩) A
@[inherit_doc putG]
def putB (arg13 : Memref sig .tc .vmem S512x2048 .f32) (n : ℕ) (A : FVec Ideal S1x2048 .f32) : FVec Ideal S1x2048 .f32 :=
  k0_pay147 (normBack harg1 harg2 harg5 x0 x1 x4 arg13 ⟨n % 4, by omega⟩) A

theorem putG_at (n : ℕ) (A : FVec Ideal S1x2048 .f32) (j : Fin 2048) :
    (putG harg1 harg2 harg5 x0 x1 x4 arg13 n A (ix2 0 j) : EReal) = A (ix2 0 j) + partG (bU x0 (n % 4)) (bV x0 (n % 4)) (bZ x1 (n % 4)) x4 j := by
  unfold putG
  rw [stepG_at, rowVs]
  simp only [normBack_at]
  rfl
theorem putB_at (n : ℕ) (A : FVec Ideal S1x2048 .f32) (j : Fin 2048) :
    (putB harg1 harg2 harg5 x0 x1 x4 arg13 n A (ix2 0 j) : EReal) = A (ix2 0 j) + partB (bU x0 (n % 4)) (bZ x1 (n % 4)) x4 j := by
  unfold putB
  rw [stepB_at]
  simp only [normBack_at]
  rfl

end Cert.SgBwdIdeal.Sg

end
-- ==== Proof.Sg.BwdEndA.lean ====
/- What the body leaves at the first point. -/
module

public import proofs.«01_k».proof.Proof.Sg.BwdRunA
public import proofs.«01_k».proof.Proof.Sg.BwdVals

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg
variable (c : Dev nD) (i : grid0.Coords) {arg1 : Memref sig .tc .vmem S512x4096 .f32} (harg1 : arg1.IsWhole) {arg2 : Memref sig .tc .vmem S512x2048 .f32} (harg2 : arg2.IsWhole) {arg3 : Memref sig .tc .vmem S1x2048 .f32} (harg3 : arg3.IsWhole) {arg4 : Memref sig .tc .vmem S1x2048 .f32} (harg4 : arg4.IsWhole) {arg5 : Memref sig .tc .vmem S16x128x128 .f32} (harg5 : arg5.IsWhole) {arg6 : Memref sig .tc .vmem S16x128x128 .f32} (harg6 : arg6.IsWhole) {arg7 : Memref sig .tc .vmem S512x4096 .bf16} (harg7 : arg7.IsWhole) {arg8 : Memref sig .tc .vmem S16x128x128 .f32} (harg8 : arg8.IsWhole) {arg9 : Memref sig .tc .vmem S16x8x128 .f32} (harg9 : arg9.IsWhole) {arg10 : Memref sig .tc .vmem S1x2048 .f32} (harg10 : arg10.IsWhole) {arg11 : Memref sig .tc .vmem S1x2048 .f32} (harg11 : arg11.IsWhole) {arg12 : Memref sig .tc .vmem S512x2048 .f32} (harg12 : arg12.IsWhole) {arg13 : Memref sig .tc .vmem S512x2048 .f32} (harg13 : arg13.IsWhole)
  (x0 : FVec Ideal S512x4096 .f32) (x1 : FVec Ideal S512x2048 .f32) (x2 x3 : FVec Ideal S1x2048 .f32) (x4 x5 : FVec Ideal S16x128x128 .f32)
  (xo7 : FVec Ideal S16x128x128 .f32) (xo8 : FVec Ideal S16x8x128 .f32) (xo9 xo10 : FVec Ideal S1x2048 .f32)

theorem listUA (hc : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).1 = outL harg1 harg2 harg3 harg4 harg5 harg6 x0 x1 x2 x3 x4 x5 arg12 arg13 4 := rfl
theorem listGA0 : kernelRun0_A.sl.H9_1 (F := Ideal)  = accL arg10 (putG harg1 harg2 harg5 x0 x1 x4 arg13) [⟨Rect.unit ![0, 0] S1x2048.size inb_S1x2048_S1x2048_0_0, k0_pay3 (F := Ideal)⟩] 0 := rfl
theorem listGA1 : kernelRun0_A.sl.H9_2 (F := Ideal) c arg1 harg1 arg2 harg2 arg5 harg5 arg10 arg13 x0 x1 x4 = accL arg10 (putG harg1 harg2 harg5 x0 x1 x4 arg13) [⟨Rect.unit ![0, 0] S1x2048.size inb_S1x2048_S1x2048_0_0, k0_pay3 (F := Ideal)⟩] 1 := by
  rw [accL_succ, ← listGA0]
  rfl
theorem listGA2 : kernelRun0_A.sl.H9_3 (F := Ideal) c arg1 harg1 arg2 harg2 arg5 harg5 arg10 arg13 x0 x1 x4 = accL arg10 (putG harg1 harg2 harg5 x0 x1 x4 arg13) [⟨Rect.unit ![0, 0] S1x2048.size inb_S1x2048_S1x2048_0_0, k0_pay3 (F := Ideal)⟩] 2 := by
  rw [accL_succ, ← listGA1 c]
  rfl
theorem listGA3 : kernelRun0_A.sl.H9_4 (F := Ideal) c arg1 harg1 arg2 harg2 arg5 harg5 arg10 arg13 x0 x1 x4 = accL arg10 (putG harg1 harg2 harg5 x0 x1 x4 arg13) [⟨Rect.unit ![0, 0] S1x2048.size inb_S1x2048_S1x2048_0_0, k0_pay3 (F := Ideal)⟩] 3 := by
  rw [accL_succ, ← listGA2 c]
  rfl
theorem listGA4 (hc : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.2.2.1 = accL arg10 (putG harg1 harg2 harg5 x0 x1 x4 arg13) [⟨Rect.unit ![0, 0] S1x2048.size inb_S1x2048_S1x2048_0_0, k0_pay3 (F := Ideal)⟩] 4 := by
  rw [accL_succ, ← listGA3 c]
  rfl
theorem listBA0 : kernelRun0_A.sl.H10_1 (F := Ideal)  = accL arg11 (putB harg1 harg2 harg5 x0 x1 x4 arg13) [⟨Rect.unit ![0, 0] S1x2048.size inb_S1x2048_S1x2048_0_0, k0_pay4 (F := Ideal)⟩] 0 := rfl
theorem listBA1 : kernelRun0_A.sl.H10_2 (F := Ideal) c arg1 harg1 arg2 harg2 arg5 harg5 arg11 arg13 x0 x1 x4 = accL arg11 (putB harg1 harg2 harg5 x0 x1 x4 arg13) [⟨Rect.unit ![0, 0] S1x2048.size inb_S1x2048_S1x2048_0_0, k0_pay4 (F := Ideal)⟩] 1 := by
  rw [accL_succ, ← listBA0]
  rfl
theorem listBA2 : kernelRun0_A.sl.H10_3 (F := Ideal) c arg1 harg1 arg2 harg2 arg5 harg5 arg11 arg13 x0 x1 x4 = accL arg11 (putB harg1 harg2 harg5 x0 x1 x4 arg13) [⟨Rect.unit ![0, 0] S1x2048.size inb_S1x2048_S1x2048_0_0, k0_pay4 (F := Ideal)⟩] 2 := by
  rw [accL_succ, ← listBA1 c]
  rfl
theorem listBA3 : kernelRun0_A.sl.H10_4 (F := Ideal) c arg1 harg1 arg2 harg2 arg5 harg5 arg11 arg13 x0 x1 x4 = accL arg11 (putB harg1 harg2 harg5 x0 x1 x4 arg13) [⟨Rect.unit ![0, 0] S1x2048.size inb_S1x2048_S1x2048_0_0, k0_pay4 (F := Ideal)⟩] 3 := by
  rw [accL_succ, ← listBA2 c]
  rfl
theorem listBA4 (hc : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.2.2.2.1 = accL arg11 (putB harg1 harg2 harg5 x0 x1 x4 arg13) [⟨Rect.unit ![0, 0] S1x2048.size inb_S1x2048_S1x2048_0_0, k0_pay4 (F := Ideal)⟩] 4 := by
  rw [accL_succ, ← listBA3 c]
  rfl

theorem valUA (hc : cond0_0 i) (C : Fin 16 → Fin 128 → EReal) (hC : ∀ g t j, (x5 (ix3 g t j) : EReal) = C g t) (a : ℕ) (ha : a < 4) (s : Fin 128) (q : Fin 4096) :
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).1 (ix2 (cRow a s) q) : EReal)
      = if h : q.val < 2048 then toU (bU x0 a) (bV x0 a) (bZ x1 a) x2 x3 x4 C s ⟨q.val, h⟩
        else toV (bU x0 a) (bV x0 a) (bZ x1 a) x2 x4 s ⟨q.val - 2048, by omega⟩ := by
  rw [listUA]
  exact outL_at harg1 harg2 harg3 harg4 harg5 harg6 x0 x1 x2 x3 x4 x5 C hC 4 a ha le_rfl s q

theorem valWA (hc : cond0_0 i) (g : Fin 16) (t s : Fin 128) :
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.1 (ix3 g t s) : EReal) = 0 + ∑ a ∈ Finset.range 4, partW (bU x0 a) (bV x0 a) (bZ x1 a) x2 x3 g t s := by
  rw [listWA64, accW_at _ _ (fun n t s => partW (bU x0 (st n).val) (bV x0 (st n).val) (bZ x1 (st n).val) x2 x3 (gr n) t s) (putW_at harg1 harg2 harg3 harg4 x0 x1 x2 x3)]
  refine congrArg₂ (· + ·) ?_ ?_
  · have e := View.canon_cons_emb (Val := Elt Ideal) (e := .f32) (Rect.unit ![0, 0, 0] S16x128x128.size inb_S16x128x128_S16x128x128_0_0_0) (k0_pay1 (F := Ideal)) [] (ix3 g t s : S16x128x128.Idx)
    refine Eq.trans (congrArg (View.canon _) ?_) (e.trans ?_)
    · funext k
      apply Fin.ext
      match k with
      | ⟨0, _⟩ => show g.val = 0 + 1 * g.val; omega
      | ⟨1, _⟩ => show t.val = 0 + 1 * t.val; omega
      | ⟨2, _⟩ => show s.val = 0 + 1 * s.val; omega
    · pointwise [k0_pay1]
  · refine Eq.trans (Finset.sum_congr rfl fun k _ => ?_) ((sum_group (fun k => partW (bU x0 (st k).val) (bV x0 (st k).val) (bZ x1 (st k).val) x2 x3 g t s) g).trans (Finset.sum_congr rfl fun a ha => ?_))
    · exact ite_congr rfl (fun h => by subst h; rfl) fun _ => rfl
    · have e : (st (16 * a + g.val)).val = a := by
        have := Finset.mem_range.mp ha
        show (16 * a + g.val) / 16 % 4 = a
        omega
      rw [e]

theorem valDA (hc : cond0_0 i) (g : Fin 16) (t : Fin 8) (s : Fin 128) :
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.2.1 (ix3 g t s) : EReal) = 0 + ∑ a ∈ Finset.range 4, partD (bU x0 a) (bZ x1 a) g s := by
  rw [listDA64, accD_at _ _ (fun n t s => partD (bU x0 (st n).val) (bZ x1 (st n).val) (gr n) s) (putD_at harg1 harg2 x0 x1)]
  refine congrArg₂ (· + ·) ?_ ?_
  · have e := View.canon_cons_emb (Val := Elt Ideal) (e := .f32) (Rect.unit ![0, 0, 0] S16x8x128.size inb_S16x8x128_S16x8x128_0_0_0) (k0_pay2 (F := Ideal)) [] (ix3 g t s : S16x8x128.Idx)
    refine Eq.trans (congrArg (View.canon _) ?_) (e.trans ?_)
    · funext k
      apply Fin.ext
      match k with
      | ⟨0, _⟩ => show g.val = 0 + 1 * g.val; omega
      | ⟨1, _⟩ => show t.val = 0 + 1 * t.val; omega
      | ⟨2, _⟩ => show s.val = 0 + 1 * s.val; omega
    · pointwise [k0_pay2]
  · refine Eq.trans (Finset.sum_congr rfl fun k _ => ?_) ((sum_group (fun k => partD (bU x0 (st k).val) (bZ x1 (st k).val) g s) g).trans (Finset.sum_congr rfl fun a ha => ?_))
    · exact ite_congr rfl (fun h => by subst h; rfl) fun _ => rfl
    · have e : (st (16 * a + g.val)).val = a := by
        have := Finset.mem_range.mp ha
        show (16 * a + g.val) / 16 % 4 = a
        omega
      rw [e]

theorem valGA (hc : cond0_0 i) (j : Fin 2048) :
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.2.2.1 (ix2 0 j) : EReal) = 0 + ∑ a ∈ Finset.range 4, partG (bU x0 a) (bV x0 a) (bZ x1 a) x4 j := by
  rw [listGA4, accL_at _ _ (fun n j => partG (bU x0 (n % 4)) (bV x0 (n % 4)) (bZ x1 (n % 4)) x4 j) (putG_at harg1 harg2 harg5 x0 x1 x4)]
  refine congrArg₂ (· + ·) ?_ (Finset.sum_congr rfl fun a ha => ?_)
  · refine (hit2 (box2 (by omega) (by omega)) _ _ 0 j 0 j rfl (by omega)).trans ?_
    pointwise [k0_pay3]
  · have e : a % 4 = a := Nat.mod_eq_of_lt (Finset.mem_range.mp ha)
    simp only [e]

theorem valBA (hc : cond0_0 i) (j : Fin 2048) :
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5).2.2.2.2.1 (ix2 0 j) : EReal) = 0 + ∑ a ∈ Finset.range 4, partB (bU x0 a) (bZ x1 a) x4 j := by
  rw [listBA4, accL_at _ _ (fun n j => partB (bU x0 (n % 4)) (bZ x1 (n % 4)) x4 j) (putB_at harg1 harg2 harg5 x0 x1 x4)]
  refine congrArg₂ (· + ·) ?_ (Finset.sum_congr rfl fun a ha => ?_)
  · refine (hit2 (box2 (by omega) (by omega)) _ _ 0 j 0 j rfl (by omega)).trans ?_
    pointwise [k0_pay4]
  · have e : a % 4 = a := Nat.mod_eq_of_lt (Finset.mem_range.mp ha)
    simp only [e]

end Cert.SgBwdIdeal.Sg

end
-- ==== Proof.Sg.BwdRunB.lean ====
/- What the body stores at the later points. -/
module

public import proofs.«01_k».proof.Proof.Sg.BwdLists

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg
variable (c : Dev nD) (i : grid0.Coords) {arg1 : Memref sig .tc .vmem S512x4096 .f32} (harg1 : arg1.IsWhole) {arg2 : Memref sig .tc .vmem S512x2048 .f32} (harg2 : arg2.IsWhole) {arg3 : Memref sig .tc .vmem S1x2048 .f32} (harg3 : arg3.IsWhole) {arg4 : Memref sig .tc .vmem S1x2048 .f32} (harg4 : arg4.IsWhole) {arg5 : Memref sig .tc .vmem S16x128x128 .f32} (harg5 : arg5.IsWhole) {arg6 : Memref sig .tc .vmem S16x128x128 .f32} (harg6 : arg6.IsWhole) {arg7 : Memref sig .tc .vmem S512x4096 .bf16} (harg7 : arg7.IsWhole) {arg8 : Memref sig .tc .vmem S16x128x128 .f32} (harg8 : arg8.IsWhole) {arg9 : Memref sig .tc .vmem S16x8x128 .f32} (harg9 : arg9.IsWhole) {arg10 : Memref sig .tc .vmem S1x2048 .f32} (harg10 : arg10.IsWhole) {arg11 : Memref sig .tc .vmem S1x2048 .f32} (harg11 : arg11.IsWhole) {arg12 : Memref sig .tc .vmem S512x2048 .f32} (harg12 : arg12.IsWhole) {arg13 : Memref sig .tc .vmem S512x2048 .f32} (harg13 : arg13.IsWhole)
  (x0 : FVec Ideal S512x4096 .f32) (x1 : FVec Ideal S512x2048 .f32) (x2 x3 : FVec Ideal S1x2048 .f32) (x4 x5 : FVec Ideal S16x128x128 .f32)
  (xo7 : FVec Ideal S16x128x128 .f32) (xo8 : FVec Ideal S16x8x128 .f32) (xo9 xo10 : FVec Ideal S1x2048 .f32)

theorem keepB0 : kernelRun0_B.sl.HS0_1 (F := Ideal) c arg1 harg1 arg3 harg3 arg4 harg4 x0 x2 x3 = keepL harg1 x0 x2 x3 arg3 harg3 arg4 harg4 0 := rfl
theorem keepB1 : kernelRun0_B.sl.HS0_2 (F := Ideal) c arg1 harg1 arg3 harg3 arg4 harg4 x0 x2 x3 = keepL harg1 x0 x2 x3 arg3 harg3 arg4 harg4 1 := by
  rw [keepL, ← keepB0 c]
  rfl
theorem keepB2 : kernelRun0_B.sl.HS0_3 (F := Ideal) c arg1 harg1 arg3 harg3 arg4 harg4 x0 x2 x3 = keepL harg1 x0 x2 x3 arg3 harg3 arg4 harg4 2 := by
  rw [keepL, ← keepB1 c]
  rfl
theorem keepB3 : kernelRun0_B.sl.HS0_4 (F := Ideal) c arg1 harg1 arg3 harg3 arg4 harg4 x0 x2 x3 = keepL harg1 x0 x2 x3 arg3 harg3 arg4 harg4 3 := by
  rw [keepL, ← keepB2 c]
  rfl
theorem normB0 : kernelRun0_B.sl.HS1_16 (F := Ideal) c arg1 harg1 arg2 harg2 arg5 harg5 x0 x1 x4 = normL harg1 harg2 harg5 x0 x1 x4 16 := rfl
theorem normB1 : kernelRun0_B.sl.HS1_32 (F := Ideal) c arg1 harg1 arg2 harg2 arg5 harg5 x0 x1 x4 = normL harg1 harg2 harg5 x0 x1 x4 32 := rfl
theorem normB2 : kernelRun0_B.sl.HS1_48 (F := Ideal) c arg1 harg1 arg2 harg2 arg5 harg5 x0 x1 x4 = normL harg1 harg2 harg5 x0 x1 x4 48 := rfl
theorem normB3 : kernelRun0_B.sl.HS1_64 (F := Ideal) c arg1 harg1 arg2 harg2 arg5 harg5 x0 x1 x4 = normL harg1 harg2 harg5 x0 x1 x4 64 := rfl
theorem listWB0 : kernelRun0_B.sl.H7_16 (F := Ideal) c arg1 harg1 arg2 harg2 arg3 harg3 arg4 harg4 arg8 harg8 arg12 x0 x1 x2 x3 xo7 = accW arg8 (fun n => (putW harg1 harg2 harg3 harg4 x0 x1 x2 x3 arg12) (16 + n)) (fstW arg8 (putW harg1 harg2 harg3 harg4 x0 x1 x2 x3 arg12) harg8 xo7 16) 0 := rfl
theorem listWB8 : kernelRun0_B.sl.H7_24 (F := Ideal) c arg1 harg1 arg2 harg2 arg3 harg3 arg4 harg4 arg8 harg8 arg12 x0 x1 x2 x3 xo7 = accW arg8 (fun n => (putW harg1 harg2 harg3 harg4 x0 x1 x2 x3 arg12) (16 + n)) (fstW arg8 (putW harg1 harg2 harg3 harg4 x0 x1 x2 x3 arg12) harg8 xo7 16) 8 := by
  rw [accW_succ, accW_succ, accW_succ, accW_succ, accW_succ, accW_succ, accW_succ, accW_succ, ← listWB0 c]
  rfl
theorem listWB16 : kernelRun0_B.sl.H7_32 (F := Ideal) c arg1 harg1 arg2 harg2 arg3 harg3 arg4 harg4 arg8 harg8 arg12 x0 x1 x2 x3 xo7 = accW arg8 (fun n => (putW harg1 harg2 harg3 harg4 x0 x1 x2 x3 arg12) (16 + n)) (fstW arg8 (putW harg1 harg2 harg3 harg4 x0 x1 x2 x3 arg12) harg8 xo7 16) 16 := by
  rw [accW_succ, accW_succ, accW_succ, accW_succ, accW_succ, accW_succ, accW_succ, accW_succ, ← listWB8 c]
  rfl
theorem listWB24 : kernelRun0_B.sl.H7_40 (F := Ideal) c arg1 harg1 arg2 harg2 arg3 harg3 arg4 harg4 arg8 harg8 arg12 x0 x1 x2 x3 xo7 = accW arg8 (fun n => (putW harg1 harg2 harg3 harg4 x0 x1 x2 x3 arg12) (16 + n)) (fstW arg8 (putW harg1 harg2 harg3 harg4 x0 x1 x2 x3 arg12) harg8 xo7 16) 24 := by
  rw [accW_succ, accW_succ, accW_succ, accW_succ, accW_succ, accW_succ, accW_succ, accW_succ, ← listWB16 c]
  rfl
theorem listWB32 : kernelRun0_B.sl.H7_48 (F := Ideal) c arg1 harg1 arg2 harg2 arg3 harg3 arg4 harg4 arg8 harg8 arg12 x0 x1 x2 x3 xo7 = accW arg8 (fun n => (putW harg1 harg2 harg3 harg4 x0 x1 x2 x3 arg12) (16 + n)) (fstW arg8 (putW harg1 harg2 harg3 harg4 x0 x1 x2 x3 arg12) harg8 xo7 16) 32 := by
  rw [accW_succ, accW_succ, accW_succ, accW_succ, accW_succ, accW_succ, accW_succ, accW_succ, ← listWB24 c]
  rfl
theorem listWB40 : kernelRun0_B.sl.H7_56 (F := Ideal) c arg1 harg1 arg2 harg2 arg3 harg3 arg4 harg4 arg8 harg8 arg12 x0 x1 x2 x3 xo7 = accW arg8 (fun n => (putW harg1 harg2 harg3 harg4 x0 x1 x2 x3 arg12) (16 + n)) (fstW arg8 (putW harg1 harg2 harg3 harg4 x0 x1 x2 x3 arg12) harg8 xo7 16) 40 := by
  rw [accW_succ, accW_succ, accW_succ, accW_succ, accW_succ, accW_succ, accW_succ, accW_succ, ← listWB32 c]
  rfl
theorem listWB48 (hc : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.1 = accW arg8 (fun n => (putW harg1 harg2 harg3 harg4 x0 x1 x2 x3 arg12) (16 + n)) (fstW arg8 (putW harg1 harg2 harg3 harg4 x0 x1 x2 x3 arg12) harg8 xo7 16) 48 := by
  rw [accW_succ, accW_succ, accW_succ, accW_succ, accW_succ, accW_succ, accW_succ, accW_succ, ← listWB40 c]
  rfl
theorem listDB0 : kernelRun0_B.sl.H8_16 (F := Ideal) c arg1 harg1 arg2 harg2 arg9 harg9 x0 x1 xo8 = accD arg9 (fun n => (putD harg1 harg2 x0 x1) (16 + n)) (fstD arg9 (putD harg1 harg2 x0 x1) harg9 xo8 16) 0 := rfl
theorem listDB8 : kernelRun0_B.sl.H8_24 (F := Ideal) c arg1 harg1 arg2 harg2 arg9 harg9 x0 x1 xo8 = accD arg9 (fun n => (putD harg1 harg2 x0 x1) (16 + n)) (fstD arg9 (putD harg1 harg2 x0 x1) harg9 xo8 16) 8 := by
  rw [accD_succ, accD_succ, accD_succ, accD_succ, accD_succ, accD_succ, accD_succ, accD_succ, ← listDB0 c]
  rfl
theorem listDB16 : kernelRun0_B.sl.H8_32 (F := Ideal) c arg1 harg1 arg2 harg2 arg9 harg9 x0 x1 xo8 = accD arg9 (fun n => (putD harg1 harg2 x0 x1) (16 + n)) (fstD arg9 (putD harg1 harg2 x0 x1) harg9 xo8 16) 16 := by
  rw [accD_succ, accD_succ, accD_succ, accD_succ, accD_succ, accD_succ, accD_succ, accD_succ, ← listDB8 c]
  rfl
theorem listDB24 : kernelRun0_B.sl.H8_40 (F := Ideal) c arg1 harg1 arg2 harg2 arg9 harg9 x0 x1 xo8 = accD arg9 (fun n => (putD harg1 harg2 x0 x1) (16 + n)) (fstD arg9 (putD harg1 harg2 x0 x1) harg9 xo8 16) 24 := by
  rw [accD_succ, accD_succ, accD_succ, accD_succ, accD_succ, accD_succ, accD_succ, accD_succ, ← listDB16 c]
  rfl
theorem listDB32 : kernelRun0_B.sl.H8_48 (F := Ideal) c arg1 harg1 arg2 harg2 arg9 harg9 x0 x1 xo8 = accD arg9 (fun n => (putD harg1 harg2 x0 x1) (16 + n)) (fstD arg9 (putD harg1 harg2 x0 x1) harg9 xo8 16) 32 := by
  rw [accD_succ, accD_succ, accD_succ, accD_succ, accD_succ, accD_succ, accD_succ, accD_succ, ← listDB24 c]
  rfl
theorem listDB40 : kernelRun0_B.sl.H8_56 (F := Ideal) c arg1 harg1 arg2 harg2 arg9 harg9 x0 x1 xo8 = accD arg9 (fun n => (putD harg1 harg2 x0 x1) (16 + n)) (fstD arg9 (putD harg1 harg2 x0 x1) harg9 xo8 16) 40 := by
  rw [accD_succ, accD_succ, accD_succ, accD_succ, accD_succ, accD_succ, accD_succ, accD_succ, ← listDB32 c]
  rfl
theorem listDB48 (hc : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.2.1 = accD arg9 (fun n => (putD harg1 harg2 x0 x1) (16 + n)) (fstD arg9 (putD harg1 harg2 x0 x1) harg9 xo8 16) 48 := by
  rw [accD_succ, accD_succ, accD_succ, accD_succ, accD_succ, accD_succ, accD_succ, accD_succ, ← listDB40 c]
  rfl

end Cert.SgBwdIdeal.Sg

end
-- ==== Proof.Sg.BwdEndB.lean ====
/- What the body leaves at the later points. -/
module

public import proofs.«01_k».proof.Proof.Sg.BwdRunB
public import proofs.«01_k».proof.Proof.Sg.BwdVals

@[expose] public section

set_option maxRecDepth 16384
set_option maxHeartbeats 1000000

noncomputable section

namespace Cert.SgBwdIdeal.Sg

open Cert.SgBwdIdeal Cert.SgBwdIdeal.Gen Idealize.ShloMosaic Idealize.ShloMosaic.TcCoe Idealize.SL.Sem
open Cert.Ln Cert.Sg
variable (c : Dev nD) (i : grid0.Coords) {arg1 : Memref sig .tc .vmem S512x4096 .f32} (harg1 : arg1.IsWhole) {arg2 : Memref sig .tc .vmem S512x2048 .f32} (harg2 : arg2.IsWhole) {arg3 : Memref sig .tc .vmem S1x2048 .f32} (harg3 : arg3.IsWhole) {arg4 : Memref sig .tc .vmem S1x2048 .f32} (harg4 : arg4.IsWhole) {arg5 : Memref sig .tc .vmem S16x128x128 .f32} (harg5 : arg5.IsWhole) {arg6 : Memref sig .tc .vmem S16x128x128 .f32} (harg6 : arg6.IsWhole) {arg7 : Memref sig .tc .vmem S512x4096 .bf16} (harg7 : arg7.IsWhole) {arg8 : Memref sig .tc .vmem S16x128x128 .f32} (harg8 : arg8.IsWhole) {arg9 : Memref sig .tc .vmem S16x8x128 .f32} (harg9 : arg9.IsWhole) {arg10 : Memref sig .tc .vmem S1x2048 .f32} (harg10 : arg10.IsWhole) {arg11 : Memref sig .tc .vmem S1x2048 .f32} (harg11 : arg11.IsWhole) {arg12 : Memref sig .tc .vmem S512x2048 .f32} (harg12 : arg12.IsWhole) {arg13 : Memref sig .tc .vmem S512x2048 .f32} (harg13 : arg13.IsWhole)
  (x0 : FVec Ideal S512x4096 .f32) (x1 : FVec Ideal S512x2048 .f32) (x2 x3 : FVec Ideal S1x2048 .f32) (x4 x5 : FVec Ideal S16x128x128 .f32)
  (xo7 : FVec Ideal S16x128x128 .f32) (xo8 : FVec Ideal S16x8x128 .f32) (xo9 xo10 : FVec Ideal S1x2048 .f32)

theorem listUB (hc : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).1 = outL harg1 harg2 harg3 harg4 harg5 harg6 x0 x1 x2 x3 x4 x5 arg12 arg13 4 := rfl
theorem listGB0 : kernelRun0_B.sl.H9_1 (F := Ideal) c arg1 harg1 arg2 harg2 arg5 harg5 arg10 harg10 arg13 x0 x1 x4 xo9 = accL arg10 (fun n => (putG harg1 harg2 harg5 x0 x1 x4 arg13) (1 + n)) [⟨rL, (putG harg1 harg2 harg5 x0 x1 x4 arg13) 0 (ldr harg10 rL xo9)⟩] 0 := rfl
theorem listGB1 : kernelRun0_B.sl.H9_2 (F := Ideal) c arg1 harg1 arg2 harg2 arg5 harg5 arg10 harg10 arg13 x0 x1 x4 xo9 = accL arg10 (fun n => (putG harg1 harg2 harg5 x0 x1 x4 arg13) (1 + n)) [⟨rL, (putG harg1 harg2 harg5 x0 x1 x4 arg13) 0 (ldr harg10 rL xo9)⟩] 1 := by
  rw [accL_succ, ← listGB0 c]
  rfl
theorem listGB2 : kernelRun0_B.sl.H9_3 (F := Ideal) c arg1 harg1 arg2 harg2 arg5 harg5 arg10 harg10 arg13 x0 x1 x4 xo9 = accL arg10 (fun n => (putG harg1 harg2 harg5 x0 x1 x4 arg13) (1 + n)) [⟨rL, (putG harg1 harg2 harg5 x0 x1 x4 arg13) 0 (ldr harg10 rL xo9)⟩] 2 := by
  rw [accL_succ, ← listGB1 c]
  rfl
theorem listGB3 (hc : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.2.2.1 = accL arg10 (fun n => (putG harg1 harg2 harg5 x0 x1 x4 arg13) (1 + n)) [⟨rL, (putG harg1 harg2 harg5 x0 x1 x4 arg13) 0 (ldr harg10 rL xo9)⟩] 3 := by
  rw [accL_succ, ← listGB2 c]
  rfl
theorem listBB0 : kernelRun0_B.sl.H10_1 (F := Ideal) c arg1 harg1 arg2 harg2 arg5 harg5 arg11 harg11 arg13 x0 x1 x4 xo10 = accL arg11 (fun n => (putB harg1 harg2 harg5 x0 x1 x4 arg13) (1 + n)) [⟨rL, (putB harg1 harg2 harg5 x0 x1 x4 arg13) 0 (ldr harg11 rL xo10)⟩] 0 := rfl
theorem listBB1 : kernelRun0_B.sl.H10_2 (F := Ideal) c arg1 harg1 arg2 harg2 arg5 harg5 arg11 harg11 arg13 x0 x1 x4 xo10 = accL arg11 (fun n => (putB harg1 harg2 harg5 x0 x1 x4 arg13) (1 + n)) [⟨rL, (putB harg1 harg2 harg5 x0 x1 x4 arg13) 0 (ldr harg11 rL xo10)⟩] 1 := by
  rw [accL_succ, ← listBB0 c]
  rfl
theorem listBB2 : kernelRun0_B.sl.H10_3 (F := Ideal) c arg1 harg1 arg2 harg2 arg5 harg5 arg11 harg11 arg13 x0 x1 x4 xo10 = accL arg11 (fun n => (putB harg1 harg2 harg5 x0 x1 x4 arg13) (1 + n)) [⟨rL, (putB harg1 harg2 harg5 x0 x1 x4 arg13) 0 (ldr harg11 rL xo10)⟩] 2 := by
  rw [accL_succ, ← listBB1 c]
  rfl
theorem listBB3 (hc : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.2.2.2.1 = accL arg11 (fun n => (putB harg1 harg2 harg5 x0 x1 x4 arg13) (1 + n)) [⟨rL, (putB harg1 harg2 harg5 x0 x1 x4 arg13) 0 (ldr harg11 rL xo10)⟩] 3 := by
  rw [accL_succ, ← listBB2 c]
  rfl

theorem valUB (hc : ¬cond0_0 i) (C : Fin 16 → Fin 128 → EReal) (hC : ∀ g t j, (x5 (ix3 g t j) : EReal) = C g t) (a : ℕ) (ha : a < 4) (s : Fin 128) (q : Fin 4096) :
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).1 (ix2 (cRow a s) q) : EReal)
      = if h : q.val < 2048 then toU (bU x0 a) (bV x0 a) (bZ x1 a) x2 x3 x4 C s ⟨q.val, h⟩
        else toV (bU x0 a) (bV x0 a) (bZ x1 a) x2 x4 s ⟨q.val - 2048, by omega⟩ := by
  rw [listUB]
  exact outL_at harg1 harg2 harg3 harg4 harg5 harg6 x0 x1 x2 x3 x4 x5 C hC 4 a ha le_rfl s q

theorem valWB (hc : ¬cond0_0 i) (g : Fin 16) (t s : Fin 128) :
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.1 (ix3 g t s) : EReal) = xo7 (ix3 g t s) + ∑ a ∈ Finset.range 4, partW (bU x0 a) (bV x0 a) (bZ x1 a) x2 x3 g t s := by
  rw [listWB48, accW_at _ _ (fun n => (fun n t s => partW (bU x0 (st n).val) (bV x0 (st n).val) (bZ x1 (st n).val) x2 x3 (gr n) t s) (16 + n)) (fun n => putW_at harg1 harg2 harg3 harg4 x0 x1 x2 x3 (16 + n)), fstW_at _ _ (fun n t s => partW (bU x0 (st n).val) (bV x0 (st n).val) (bZ x1 (st n).val) x2 x3 (gr n) t s) (putW_at harg1 harg2 harg3 harg4 x0 x1 x2 x3) _ _ g t s 16 le_rfl g.isLt, add_assoc]
  refine congrArg _ ?_
  refine Eq.trans (congrArg₂ (· + ·) ?_ (Finset.sum_congr rfl fun k _ => ?_)) ((sum_group' (fun k => partW (bU x0 (st k).val) (bV x0 (st k).val) (bZ x1 (st k).val) x2 x3 g t s) g).trans (Finset.sum_congr rfl fun a ha => ?_))
  · have e : gr g.val = g := Fin.ext (by show g.val % 16 = g.val; omega)
    show _ = _
    simp only [e]
  · have e : gr (16 + k) = gr k := Fin.ext (by show (16 + k) % 16 = k % 16; omega)
    rw [e]
    refine ite_congr rfl (fun h => ?_) fun _ => rfl
    show partW (bU x0 (st (16 + k)).val) (bV x0 (st (16 + k)).val) (bZ x1 (st (16 + k)).val) x2 x3 (gr (16 + k)) t s = _
    rw [e, h]
  · have e : (st (16 * a + g.val)).val = a := by
      have := Finset.mem_range.mp ha
      show (16 * a + g.val) / 16 % 4 = a
      omega
    rw [e]

theorem valDB (hc : ¬cond0_0 i) (g : Fin 16) (t : Fin 8) (s : Fin 128) :
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.2.1 (ix3 g t s) : EReal) = xo8 (ix3 g t s) + ∑ a ∈ Finset.range 4, partD (bU x0 a) (bZ x1 a) g s := by
  rw [listDB48, accD_at _ _ (fun n => (fun n t s => partD (bU x0 (st n).val) (bZ x1 (st n).val) (gr n) s) (16 + n)) (fun n => putD_at harg1 harg2 x0 x1 (16 + n)), fstD_at _ _ (fun n t s => partD (bU x0 (st n).val) (bZ x1 (st n).val) (gr n) s) (putD_at harg1 harg2 x0 x1) _ _ g t s 16 le_rfl g.isLt, add_assoc]
  refine congrArg _ ?_
  refine Eq.trans (congrArg₂ (· + ·) ?_ (Finset.sum_congr rfl fun k _ => ?_)) ((sum_group' (fun k => partD (bU x0 (st k).val) (bZ x1 (st k).val) g s) g).trans (Finset.sum_congr rfl fun a ha => ?_))
  · have e : gr g.val = g := Fin.ext (by show g.val % 16 = g.val; omega)
    show _ = _
    simp only [e]
  · have e : gr (16 + k) = gr k := Fin.ext (by show (16 + k) % 16 = k % 16; omega)
    rw [e]
    refine ite_congr rfl (fun h => ?_) fun _ => rfl
    show partD (bU x0 (st (16 + k)).val) (bZ x1 (st (16 + k)).val) (gr (16 + k)) s = _
    rw [e, h]
  · have e : (st (16 * a + g.val)).val = a := by
      have := Finset.mem_range.mp ha
      show (16 * a + g.val) / 16 % 4 = a
      omega
    rw [e]

theorem valGB (hc : ¬cond0_0 i) (j : Fin 2048) :
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.2.2.1 (ix2 0 j) : EReal) = xo9 (ix2 0 j) + ∑ a ∈ Finset.range 4, partG (bU x0 a) (bV x0 a) (bZ x1 a) x4 j := by
  have b : (View.canon (Val := Elt Ideal) [(⟨rL, (putG harg1 harg2 harg5 x0 x1 x4 arg13) 0 (ldr harg10 rL xo9)⟩ : View.Piece (Elt Ideal) S1x2048 .f32)] (ix2 0 j) : EReal) = xo9 (ix2 0 j) + (fun n j => partG (bU x0 (n % 4)) (bV x0 (n % 4)) (bZ x1 (n % 4)) x4 j) 0 j := by
    refine (hit2 (box2 (by omega) (by omega)) _ _ 0 j 0 j rfl (by omega)).trans ?_
    rw [putG_at, rowL]
  rw [listGB3, accL_at _ _ (fun n => (fun n j => partG (bU x0 (n % 4)) (bV x0 (n % 4)) (bZ x1 (n % 4)) x4 j) (1 + n)) (fun n => putG_at harg1 harg2 harg5 x0 x1 x4 (1 + n)), b]
  rw [add_assoc]
  refine congrArg _ ?_
  rw [Finset.sum_range_succ' _ 3, add_comm]
  refine congrArg (· + _) (Finset.sum_congr rfl fun a ha => ?_)
  have e : (1 + a) % 4 = a + 1 := by have := Finset.mem_range.mp ha; omega
  simp only [e]

theorem valBB (hc : ¬cond0_0 i) (j : Fin 2048) :
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 xo7 xo8 xo9 xo10).2.2.2.2.1 (ix2 0 j) : EReal) = xo10 (ix2 0 j) + ∑ a ∈ Finset.range 4, partB (bU x0 a) (bZ x1 a) x4 j := by
  have b : (View.canon (Val := Elt Ideal) [(⟨rL, (putB harg1 harg2 harg5 x0 x1 x4 arg13) 0 (ldr harg11 rL xo10)⟩ : View.Piece (Elt Ideal) S1x2048 .f32)] (ix2 0 j) : EReal) = xo10 (ix2 0 j) + (fun n j => partB (bU x0 (n % 4)) (bZ x1 (n % 4)) x4 j) 0 j := by
    refine (hit2 (box2 (by omega) (by omega)) _ _ 0 j 0 j rfl (by omega)).trans ?_
    rw [putB_at, rowL]
  rw [listBB3, accL_at _ _ (fun n => (fun n j => partB (bU x0 (n % 4)) (bZ x1 (n % 4)) x4 j) (1 + n)) (fun n => putB_at harg1 harg2 harg5 x0 x1 x4 (1 + n)), b]
  rw [add_assoc]
  refine congrArg _ ?_
  rw [Finset.sum_range_succ' _ 3, add_comm]
  refine congrArg (· + _) (Finset.sum_congr rfl fun a ha => ?_)
  have e : (1 + a) % 4 = a + 1 := by have := Finset.mem_range.mp ha; omega
  simp only [e]

end Cert.SgBwdIdeal.Sg

end
-- ==== Proof.Sg.SgBwd.lean ====
/- The gradient of the spatial gate: the kernel's blocks and arrays. -/
module

public import proofs.«01_k».proof.Proof.Sg.BwdEndA
public import proofs.«01_k».proof.Proof.Sg.BwdEndB

@[expose] public section

set_option maxRecDepth 16384
set_option maxHeartbeats 1000000

noncomputable section

namespace Cert.SgBwdIdeal.Sg

open Cert.SgBwdIdeal Cert.SgBwdIdeal.Gen Cert.SgBwdIdeal.Value Idealize.ShloMosaic Idealize.ShloMosaic.TcCoe Idealize.SL.Sem
open Cert.Ln Cert.Sg
open Idealize.ShloMosaic.Pipeline (Dat)

theorem win0 : ∀ t : Fin cfg0.N, win0_0.index t = ![t.val, 0] := (by decide +kernel : ∀ t : Fin grid0.N, _)
theorem win1 : ∀ t : Fin cfg0.N, win0_1.index t = ![t.val, 0] := (by decide +kernel : ∀ t : Fin grid0.N, _)
theorem win2 : ∀ t : Fin cfg0.N, win0_2.index t = ![0, 0] := (by decide +kernel : ∀ t : Fin grid0.N, _)
theorem win3 : ∀ t : Fin cfg0.N, win0_3.index t = ![0, 0] := (by decide +kernel : ∀ t : Fin grid0.N, _)
theorem win4 : ∀ t : Fin cfg0.N, win0_4.index t = ![0, 0, 0] := (by decide +kernel : ∀ t : Fin grid0.N, _)
theorem win5 : ∀ t : Fin cfg0.N, win0_5.index t = ![0, 0, 0] := (by decide +kernel : ∀ t : Fin grid0.N, _)
theorem win6 : ∀ t : Fin cfg0.N, win0_6.index t = ![t.val, 0] := (by decide +kernel : ∀ t : Fin grid0.N, _)
theorem win7 : ∀ t : Fin cfg0.N, win0_7.index t = ![0, 0, 0] := (by decide +kernel : ∀ t : Fin grid0.N, _)
theorem win8 : ∀ t : Fin cfg0.N, win0_8.index t = ![0, 0, 0] := (by decide +kernel : ∀ t : Fin grid0.N, _)
theorem win9 : ∀ t : Fin cfg0.N, win0_9.index t = ![0, 0] := (by decide +kernel : ∀ t : Fin grid0.N, _)
theorem win10 : ∀ t : Fin cfg0.N, win0_10.index t = ![0, 0] := (by decide +kernel : ∀ t : Fin grid0.N, _)
theorem points (t : Fin cfg0.N) : t.val < 8 := t.isLt.trans_eq N_0

variable (m : (ℓ : Loc nD τ sig) → Buf (Elt Ideal) ℓ) (c : Dev nD)

/-- The arguments. -/
abbrev argP : FVec Ideal S4096x4096 .f32 := m ((c : Thread nD τ).loc main_arg0)
abbrev argY : FVec Ideal S4096x2048 .f32 := m ((c : Thread nD τ).loc main_arg1)
abbrev argG : FVec Ideal S1x2048 .f32 := m ((c : Thread nD τ).loc main_arg2)
abbrev argB : FVec Ideal S1x2048 .f32 := m ((c : Thread nD τ).loc main_arg3)
abbrev argW : FVec Ideal S16x128x128 .f32 := m ((c : Thread nD τ).loc main_arg4)
abbrev argD : FVec Ideal S16x128 .f32 := m ((c : Thread nD τ).loc main_arg5)

/-- The row that a row of point `t`'s block is. -/
def rowOf (t : Fin cfg0.N) (p : Fin 512) : Fin 4096 := ⟨512 * (t.val % 8) + p.val, by omega⟩

theorem bias_host : V m c main_v1 = (broadcastInDim S16x128x128 ![0, 1, 2] bcast_S16x128x1_S16x128x128_0_1_2
    (broadcastInDim S16x128x1 ![0, 1] bcast_S16x128_S16x128x1_0_1 (argD m c)) : FVec Ideal S16x128x128 .f32) := by
  show StableHlo.after hostOps0 (fun b => m (c, b)) (Proc.devRef .tc main_v1) = _
  after_results_simp <;> rfl

theorem blk0 (t : Fin cfg0.N) (p : Fin 512) (q : Fin 4096) : iblk m c 0 t (ix2 p q) = argP m c (ix2 (rowOf t p) q) := by
  have hp := points t
  blk_ext! [iblk, V, win0 t, rowOf, argP]
theorem blk1 (t : Fin cfg0.N) (p : Fin 512) (q : Fin 2048) : iblk m c 1 t (ix2 p q) = argY m c (ix2 (rowOf t p) q) := by
  have hp := points t
  blk_ext! [iblk, V, win1 t, rowOf, argY]
theorem blk2 (t : Fin cfg0.N) (p : Fin 1) (q : Fin 2048) : iblk m c 2 t (ix2 p q) = argG m c (ix2 p q) := by
  have hp := points t
  blk_ext! [iblk, V, win2 t, argG]
theorem blk3 (t : Fin cfg0.N) (p : Fin 1) (q : Fin 2048) : iblk m c 3 t (ix2 p q) = argB m c (ix2 p q) := by
  have hp := points t
  blk_ext! [iblk, V, win3 t, argB]
theorem blk4 (t : Fin cfg0.N) (g : Fin 16) (p q : Fin 128) : iblk m c 4 t (ix3 g p q) = argW m c (ix3 g p q) := by
  have hp := points t
  blk_ext! [iblk, V, win4 t, argW]
theorem blk5 (t : Fin cfg0.N) (g : Fin 16) (p q : Fin 128) : iblk m c 5 t (ix3 g p q) = argD m c (ix2 g p) := by
  have hp := points t
  have e : iblk m c 5 t (ix3 g p q) = V m c main_v1 (ix3 g p q) := by
    blk_ext! [iblk, win5 t]
  rw [e, bias_host]
  pointwise

theorem all2 (t : Fin cfg0.N) : iblk m c 2 t = argG m c := funext fun i => by idx_vars i; exact blk2 m c t i0 i1
theorem all3 (t : Fin cfg0.N) : iblk m c 3 t = argB m c := funext fun i => by idx_vars i; exact blk3 m c t i0 i1
theorem all4 (t : Fin cfg0.N) : iblk m c 4 t = argW m c := funext fun i => by idx_vars i; exact blk4 m c t i0 i1 i2

theorem up_eq (t : Fin cfg0.N) (a : ℕ) (ha : a < 4) : bU (iblk m c 0 t) a = upN (argP m c) (4 * (t.val % 8) + a) := by
  funext s j
  refine (blk0 m c t (cRow a s) ⟨j.val, by omega⟩).trans (congrArg (argP m c) (congrArg (fun r => ix2 r _) (Fin.ext ?_)))
  show 512 * (t.val % 8) + (128 * (a % 4) + s.val) = 128 * ((4 * (t.val % 8) + a) % 32) + s.val
  omega
theorem vp_eq (t : Fin cfg0.N) (a : ℕ) (ha : a < 4) : bV (iblk m c 0 t) a = vpN (argP m c) (4 * (t.val % 8) + a) := by
  funext s j
  refine (blk0 m c t (cRow a s) ⟨2048 + j.val, by omega⟩).trans (congrArg (argP m c) (congrArg (fun r => ix2 r _) (Fin.ext ?_)))
  show 512 * (t.val % 8) + (128 * (a % 4) + s.val) = 128 * ((4 * (t.val % 8) + a) % 32) + s.val
  omega
theorem yp_eq (t : Fin cfg0.N) (a : ℕ) (ha : a < 4) : bZ (iblk m c 1 t) a = ypN (argY m c) (4 * (t.val % 8) + a) := by
  funext s j
  refine (blk1 m c t (cRow a s) j).trans (congrArg (argY m c) (congrArg (fun r => ix2 r _) (Fin.ext ?_)))
  show 512 * (t.val % 8) + (128 * (a % 4) + s.val) = 128 * ((4 * (t.val % 8) + a) % 32) + s.val
  omega

/-! ## What a point leaves -/

theorem pre_out (t : Fin cfg0.N) (p : Fin 512) (q : Fin 4096) :
    ((outsAt0 m c t.val t.isLt).1 (ix2 p q) : EReal) = dPre (argP m c) (argY m c) (argG m c) (argB m c) (argW m c) (argD m c) (ix2 (rowOf t p) q) := by
  have hp := points t
  have key : ∀ w : FVec Ideal S512x4096 .bf16, (∀ (a : ℕ) (_ : a < 4) (s : Fin 128), (w (ix2 (cRow a s) q) : EReal)
        = if h : q.val < 2048 then toU (bU (iblk m c 0 t) a) (bV (iblk m c 0 t) a) (bZ (iblk m c 1 t) a) (iblk m c 2 t) (iblk m c 3 t) (iblk m c 4 t) (fun g t => argD m c (ix2 g t)) s ⟨q.val, h⟩
          else toV (bU (iblk m c 0 t) a) (bV (iblk m c 0 t) a) (bZ (iblk m c 1 t) a) (iblk m c 2 t) (iblk m c 4 t) s ⟨q.val - 2048, by omega⟩) →
      (w (ix2 p q) : EReal) = dPre (argP m c) (argY m c) (argG m c) (argB m c) (argW m c) (argD m c) (ix2 (rowOf t p) q) := by
    intro w hw
    have e := hw (p.val / 128) (by omega) ⟨p.val % 128, by omega⟩
    have er : cRow (p.val / 128) ⟨p.val % 128, by omega⟩ = p := Fin.ext (by show 128 * (p.val / 128 % 4) + p.val % 128 = p.val; omega)
    rw [er, up_eq m c t _ (by omega), vp_eq m c t _ (by omega), yp_eq m c t _ (by omega), all2, all3, all4] at e
    refine e.trans ?_
    unfold dPre
    have h1 : ((ix2 (rowOf t p) q : S4096x4096.Idx) 0).val / 128 = 4 * (t.val % 8) + p.val / 128 := by
      show (512 * (t.val % 8) + p.val) / 128 = _
      omega
    have h2 : (⟨((ix2 (rowOf t p) q : S4096x4096.Idx) 0).val % 128, by omega⟩ : Fin 128) = ⟨p.val % 128, by omega⟩ := Fin.ext (by
      show (512 * (t.val % 8) + p.val) % 128 = p.val % 128
      omega)
    rw [h1, h2]
    rfl
  by_cases hm : t.val % 8 = 0
  · rw [outsAt0_A m c t hm]
    dsimp only
    unfold out0_A_6
    rw [View.read_writes_junk_apply_eq_canon]
    exact key _ fun a ha s => (valUA _ _ _ _ _ _ _ _ _ _ _ _ _ _ _ _ _ _ _ _ _ _ _ (fun g t' j => blk5 m c t g t' j) a ha s q)
  · rw [outsAt0_B m c t hm]
    dsimp only
    unfold out0_B_6
    rw [View.read_writes_junk_apply_eq_canon]
    exact key _ fun a ha s => (valUB _ _ _ _ _ _ _ _ _ _ _ _ _ _ _ _ _ _ _ _ _ _ _ _ _ _ _ (fun g t' j => blk5 m c t g t' j) a ha s q)

/-- A chunk's share. -/
def shareW (n : ℕ) : S16x128x128.Idx → EReal := fun i => partW (upN (argP m c) n) (vpN (argP m c) n) (ypN (argY m c) n) (argG m c) (argB m c) (i 0) (i 1) (i 2)

theorem outW_A (t : Fin cfg0.N) (hm : t.val % 8 = 0) (g : Fin 16) (t' s : Fin 128) :
    ((outsAt0 m c t.val t.isLt).2.1 (ix3 g t' s) : EReal) = 0 + ∑ a ∈ Finset.range 4, shareW m c (4 * (t.val % 8) + a) (ix3 g t' s) := by
  rw [outsAt0_A m c t hm]
  dsimp only
  unfold out0_A_7
  rw [View.read_writes_junk_apply_eq_canon, valWA]
  refine congrArg _ (Finset.sum_congr rfl fun a ha => ?_)
  have ha := Finset.mem_range.mp ha
  unfold shareW
  rw [← up_eq m c t a ha, ← vp_eq m c t a ha, ← yp_eq m c t a ha]
  try rw [all2, all3]
  rfl

theorem outW_B (t : Fin cfg0.N) (hm : ¬t.val % 8 = 0) (g : Fin 16) (t' s : Fin 128) :
    ((outsAt0 m c t.val t.isLt).2.1 (ix3 g t' s) : EReal) = (outsAt0 m c (t.val - 1) (Nat.lt_of_le_of_lt (Nat.sub_le _ _) t.isLt)).2.1 (ix3 g t' s) + ∑ a ∈ Finset.range 4, shareW m c (4 * (t.val % 8) + a) (ix3 g t' s) := by
  rw [outsAt0_B m c t hm]
  dsimp only
  unfold out0_B_7
  rw [View.read_writes_junk_apply_eq_canon, valWB]
  refine congrArg _ (Finset.sum_congr rfl fun a ha => ?_)
  have ha := Finset.mem_range.mp ha
  unfold shareW
  rw [← up_eq m c t a ha, ← vp_eq m c t a ha, ← yp_eq m c t a ha]
  try rw [all2, all3]
  rfl

theorem outW_last (t : Fin cfg0.N) (h7 : t.val % 8 = 7) (g : Fin 16) (t' s : Fin 128) :
    ((outsAt0 m c t.val t.isLt).2.1 (ix3 g t' s) : EReal) = dWeights (argP m c) (argY m c) (argG m c) (argB m c) (ix3 g t' s) := by
  have := Pipeline.eq_sum_of_reset_step_apply_divmod (fun n h => (outsAt0 m c n h).2.1) 8 (fun _ => 0)
    (fun _ r (i : S16x128x128.Idx) => ∑ a ∈ Finset.range 4, shareW m c (4 * r + a) i)
    (fun t h i => by idx_vars i; exact outW_A m c t h i0 i1 i2)
    (fun t h i => by idx_vars i; exact outW_B m c t h i0 i1 i2) t (ix3 g t' s)
  refine this.trans ?_
  rw [h7, zero_add]
  refine Eq.trans ?_ (Finset.sum_range_mul_split 8 4 (fun n => shareW m c n (ix3 g t' s))).symm
  refine Finset.sum_congr rfl fun r _ => Finset.sum_congr rfl fun q _ => ?_
  rw [Nat.mul_comm r 4]

/-- A chunk's share. -/
def shareD (n : ℕ) : S16x8x128.Idx → EReal := fun i => partD (upN (argP m c) n) (ypN (argY m c) n) (i 0) (i 2)

theorem outD_A (t : Fin cfg0.N) (hm : t.val % 8 = 0) (g : Fin 16) (t' : Fin 8) (s : Fin 128) :
    ((outsAt0 m c t.val t.isLt).2.2.1 (ix3 g t' s) : EReal) = 0 + ∑ a ∈ Finset.range 4, shareD m c (4 * (t.val % 8) + a) (ix3 g t' s) := by
  rw [outsAt0_A m c t hm]
  dsimp only
  unfold out0_A_8
  rw [View.read_writes_junk_apply_eq_canon, valDA]
  refine congrArg _ (Finset.sum_congr rfl fun a ha => ?_)
  have ha := Finset.mem_range.mp ha
  unfold shareD
  rw [← up_eq m c t a ha, ← yp_eq m c t a ha]
  try rw [all2]
  rfl

theorem outD_B (t : Fin cfg0.N) (hm : ¬t.val % 8 = 0) (g : Fin 16) (t' : Fin 8) (s : Fin 128) :
    ((outsAt0 m c t.val t.isLt).2.2.1 (ix3 g t' s) : EReal) = (outsAt0 m c (t.val - 1) (Nat.lt_of_le_of_lt (Nat.sub_le _ _) t.isLt)).2.2.1 (ix3 g t' s) + ∑ a ∈ Finset.range 4, shareD m c (4 * (t.val % 8) + a) (ix3 g t' s) := by
  rw [outsAt0_B m c t hm]
  dsimp only
  unfold out0_B_8
  rw [View.read_writes_junk_apply_eq_canon, valDB]
  refine congrArg _ (Finset.sum_congr rfl fun a ha => ?_)
  have ha := Finset.mem_range.mp ha
  unfold shareD
  rw [← up_eq m c t a ha, ← yp_eq m c t a ha]
  try rw [all2]
  rfl

theorem outD_last (t : Fin cfg0.N) (h7 : t.val % 8 = 7) (g : Fin 16) (t' : Fin 8) (s : Fin 128) :
    ((outsAt0 m c t.val t.isLt).2.2.1 (ix3 g t' s) : EReal) = dBias (argP m c) (argY m c) (ix3 g t' s) := by
  have := Pipeline.eq_sum_of_reset_step_apply_divmod (fun n h => (outsAt0 m c n h).2.2.1) 8 (fun _ => 0)
    (fun _ r (i : S16x8x128.Idx) => ∑ a ∈ Finset.range 4, shareD m c (4 * r + a) i)
    (fun t h i => by idx_vars i; exact outD_A m c t h i0 i1 i2)
    (fun t h i => by idx_vars i; exact outD_B m c t h i0 i1 i2) t (ix3 g t' s)
  refine this.trans ?_
  rw [h7, zero_add]
  refine Eq.trans ?_ (Finset.sum_range_mul_split 8 4 (fun n => shareD m c n (ix3 g t' s))).symm
  refine Finset.sum_congr rfl fun r _ => Finset.sum_congr rfl fun q _ => ?_
  rw [Nat.mul_comm r 4]

/-- A chunk's share. -/
def shareG (n : ℕ) : S1x2048.Idx → EReal := fun i => partG (upN (argP m c) n) (vpN (argP m c) n) (ypN (argY m c) n) (argW m c) (i 1)

theorem outG_A (t : Fin cfg0.N) (hm : t.val % 8 = 0) (j : Fin 2048) :
    ((outsAt0 m c t.val t.isLt).2.2.2.1 (ix2 0 j) : EReal) = 0 + ∑ a ∈ Finset.range 4, shareG m c (4 * (t.val % 8) + a) (ix2 0 j) := by
  rw [outsAt0_A m c t hm]
  dsimp only
  unfold out0_A_9
  rw [View.read_writes_junk_apply_eq_canon, valGA]
  refine congrArg _ (Finset.sum_congr rfl fun a ha => ?_)
  have ha := Finset.mem_range.mp ha
  unfold shareG
  rw [← up_eq m c t a ha, ← vp_eq m c t a ha, ← yp_eq m c t a ha]
  try rw [all4]
  rfl

theorem outG_B (t : Fin cfg0.N) (hm : ¬t.val % 8 = 0) (j : Fin 2048) :
    ((outsAt0 m c t.val t.isLt).2.2.2.1 (ix2 0 j) : EReal) = (outsAt0 m c (t.val - 1) (Nat.lt_of_le_of_lt (Nat.sub_le _ _) t.isLt)).2.2.2.1 (ix2 0 j) + ∑ a ∈ Finset.range 4, shareG m c (4 * (t.val % 8) + a) (ix2 0 j) := by
  rw [outsAt0_B m c t hm]
  dsimp only
  unfold out0_B_9
  rw [View.read_writes_junk_apply_eq_canon, valGB]
  refine congrArg _ (Finset.sum_congr rfl fun a ha => ?_)
  have ha := Finset.mem_range.mp ha
  unfold shareG
  rw [← up_eq m c t a ha, ← vp_eq m c t a ha, ← yp_eq m c t a ha]
  try rw [all4]
  rfl

theorem outG_last (t : Fin cfg0.N) (h7 : t.val % 8 = 7) (j : Fin 2048) :
    ((outsAt0 m c t.val t.isLt).2.2.2.1 (ix2 0 j) : EReal) = dLnScale (argP m c) (argY m c) (argW m c) (ix2 0 j) := by
  have := Pipeline.eq_sum_of_reset_step_apply_divmod (fun n h => (outsAt0 m c n h).2.2.2.1) 8 (fun _ => 0)
    (fun _ r (i : S1x2048.Idx) => ∑ a ∈ Finset.range 4, shareG m c (4 * r + a) i)
    (fun t h i => by idx_vars i; obtain rfl : i0 = 0 := Subsingleton.elim _ _; exact outG_A m c t h i1)
    (fun t h i => by idx_vars i; obtain rfl : i0 = 0 := Subsingleton.elim _ _; exact outG_B m c t h i1) t (ix2 0 j)
  refine this.trans ?_
  rw [h7, zero_add]
  refine Eq.trans ?_ (Finset.sum_range_mul_split 8 4 (fun n => shareG m c n (ix2 0 j))).symm
  refine Finset.sum_congr rfl fun r _ => Finset.sum_congr rfl fun q _ => ?_
  rw [Nat.mul_comm r 4]

/-- A chunk's share. -/
def shareB (n : ℕ) : S1x2048.Idx → EReal := fun i => partB (upN (argP m c) n) (ypN (argY m c) n) (argW m c) (i 1)

theorem outB_A (t : Fin cfg0.N) (hm : t.val % 8 = 0) (j : Fin 2048) :
    ((outsAt0 m c t.val t.isLt).2.2.2.2 (ix2 0 j) : EReal) = 0 + ∑ a ∈ Finset.range 4, shareB m c (4 * (t.val % 8) + a) (ix2 0 j) := by
  rw [outsAt0_A m c t hm]
  dsimp only
  unfold out0_A_10
  rw [View.read_writes_junk_apply_eq_canon, valBA]
  refine congrArg _ (Finset.sum_congr rfl fun a ha => ?_)
  have ha := Finset.mem_range.mp ha
  unfold shareB
  rw [← up_eq m c t a ha, ← yp_eq m c t a ha]
  try rw [all4]
  rfl

theorem outB_B (t : Fin cfg0.N) (hm : ¬t.val % 8 = 0) (j : Fin 2048) :
    ((outsAt0 m c t.val t.isLt).2.2.2.2 (ix2 0 j) : EReal) = (outsAt0 m c (t.val - 1) (Nat.lt_of_le_of_lt (Nat.sub_le _ _) t.isLt)).2.2.2.2 (ix2 0 j) + ∑ a ∈ Finset.range 4, shareB m c (4 * (t.val % 8) + a) (ix2 0 j) := by
  rw [outsAt0_B m c t hm]
  dsimp only
  unfold out0_B_10
  rw [View.read_writes_junk_apply_eq_canon, valBB]
  refine congrArg _ (Finset.sum_congr rfl fun a ha => ?_)
  have ha := Finset.mem_range.mp ha
  unfold shareB
  rw [← up_eq m c t a ha, ← yp_eq m c t a ha]
  try rw [all4]
  rfl

theorem outB_last (t : Fin cfg0.N) (h7 : t.val % 8 = 7) (j : Fin 2048) :
    ((outsAt0 m c t.val t.isLt).2.2.2.2 (ix2 0 j) : EReal) = dLnShift (argP m c) (argY m c) (argW m c) (ix2 0 j) := by
  have := Pipeline.eq_sum_of_reset_step_apply_divmod (fun n h => (outsAt0 m c n h).2.2.2.2) 8 (fun _ => 0)
    (fun _ r (i : S1x2048.Idx) => ∑ a ∈ Finset.range 4, shareB m c (4 * r + a) i)
    (fun t h i => by idx_vars i; obtain rfl : i0 = 0 := Subsingleton.elim _ _; exact outB_A m c t h i1)
    (fun t h i => by idx_vars i; obtain rfl : i0 = 0 := Subsingleton.elim _ _; exact outB_B m c t h i1) t (ix2 0 j)
  refine this.trans ?_
  rw [h7, zero_add]
  refine Eq.trans ?_ (Finset.sum_range_mul_split 8 4 (fun n => shareB m c n (ix2 0 j))).symm
  refine Finset.sum_congr rfl fun r _ => Finset.sum_congr rfl fun q _ => ?_
  rw [Nat.mul_comm r 4]

/-! ## The arrays after the run -/

theorem arr6 : (dats m 0 c).arrAt 6 cfg0.N = dPre (argP m c) (argY m c) (argG m c) (argB m c) (argW m c) (argD m c) := by
  refine (dats m 0 c).arrAt_eq_of_covers 6 _ (by decide +kernel) fun t hf y => ?_
  blk_simp
  rw [after0_6]
  idx_vars y
  have hp := points t
  refine (pre_out m c t y0 y1).trans ?_
  generalize dPre (argP m c) (argY m c) (argG m c) (argB m c) (argW m c) (argD m c) = R
  blk_ext! [win6 t, rowOf]

theorem arr7 : (dats m 0 c).arrAt 7 cfg0.N = dWeights (argP m c) (argY m c) (argG m c) (argB m c) := by
  refine (dats m 0 c).arrAt_eq_of_covers 7 _ (by decide +kernel) fun t hf y => ?_
  blk_simp
  rw [after0_7]
  idx_vars y
  refine (outW_last m c t ((flush0_7 t).mp hf) y0 y1 y2).trans ?_
  generalize dWeights (argP m c) (argY m c) (argG m c) (argB m c) = R
  blk_ext! [win7 t]

theorem arr8 : (dats m 0 c).arrAt 8 cfg0.N = dBias (argP m c) (argY m c) := by
  refine (dats m 0 c).arrAt_eq_of_covers 8 _ (by decide +kernel) fun t hf y => ?_
  blk_simp
  rw [after0_8]
  idx_vars y
  refine (outD_last m c t ((flush0_8 t).mp hf) y0 y1 y2).trans ?_
  generalize dBias (argP m c) (argY m c) = R
  blk_ext! [win8 t]

theorem arr9 : (dats m 0 c).arrAt 9 cfg0.N = dLnScale (argP m c) (argY m c) (argW m c) := by
  refine (dats m 0 c).arrAt_eq_of_covers 9 _ (by decide +kernel) fun t hf y => ?_
  blk_simp
  rw [after0_9]
  idx_vars y
  obtain rfl : y0 = 0 := Subsingleton.elim _ _
  refine (outG_last m c t ((flush0_9 t).mp hf) y1).trans ?_
  generalize dLnScale (argP m c) (argY m c) (argW m c) = R
  blk_ext! [win9 t]

theorem arr10 : (dats m 0 c).arrAt 10 cfg0.N = dLnShift (argP m c) (argY m c) (argW m c) := by
  refine (dats m 0 c).arrAt_eq_of_covers 10 _ (by decide +kernel) fun t hf y => ?_
  blk_simp
  rw [after0_10]
  idx_vars y
  obtain rfl : y0 = 0 := Subsingleton.elim _ _
  refine (outB_last m c t ((flush0_10 t).mp hf) y1).trans ?_
  generalize dLnShift (argP m c) (argY m c) (argW m c) = R
  blk_ext! [win10 t]

end Cert.SgBwdIdeal.Sg

end
-- ==== Proof.Sg.SgBwdTail.lean ====
/- The reference of the spatial gate's gradient: the operations after its call. -/
module

public import proofs.«01_k».proof.Proof.Gen.SgBwdRefIdeal.Frame
public import Idealize.ShloMosaic.Lib.Pipeline.ValueKit
public import Idealize.ShloMosaic.Lib.Pointwise

@[expose] public section

set_option maxRecDepth 16384
set_option maxHeartbeats 4000000

noncomputable section

namespace Cert.SgBwdRefIdeal.Sg

open Cert.SgBwdRefIdeal Cert.SgBwdRefIdeal.Gen Idealize.ShloMosaic Idealize.ShloMosaic.TcCoe Idealize.SL.Sem
open Idealize.ShloMosaic.Pipeline (Dat)

/-! ## The layer norm's steps, from the activations -/

section
variable (A : FVec Ideal S4096x4096 .f32) (G B : FVec Ideal S1x2048 .f32)

/-- The two halves of the activations. -/
def fstV : FVec Ideal S4096x2048 .f32 := extractStridedSlice S4096x2048 ![0, 0] A slices_S4096x4096_S4096x2048_0_0
@[inherit_doc fstV]
def sndV : FVec Ideal S4096x2048 .f32 := extractStridedSlice S4096x2048 ![0, 2048] A slices_S4096x4096_S4096x2048_0_2048
/-- The distances from the rows' means. -/
def devV : FVec Ideal S4096x2048 .f32 := subf (sndV A) (broadcastInDim S4096x2048 ![0, 1] bcast_S4096x1_S4096x2048_0_1 (Host.divf (broadcastInDim S4096x1 ![0] bcast_S4096_S4096x1_0 (Host.reduceAdd (sndV A) (constant S_ .f32 0x00000000#32) reducesTo_S4096x2048_S4096_d1 h_S_)) (broadcastInDim S4096x1 ![] bcast_S_S4096x1 (constant S_ .f32 0x45000000#32))))
/-- The rows' variances, with the constant. -/
def spreadV : FVec Ideal S4096x1 .f32 := addf (Host.divf (broadcastInDim S4096x1 ![0] bcast_S4096_S4096x1_0 (Host.reduceAdd (mulf (devV A) (devV A)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32))
/-- One over the rows' standard deviations, and its derivative at the variance. -/
def rstdV : FVec Ideal S4096x1 .f32 := Host.rsqrt (spreadV A)
@[inherit_doc rstdV]
def rateV : FVec Ideal S4096x1 .f32 := mulf (broadcastInDim S4096x1 ![] bcast_S_S4096x1 (constant S_ .f32 0xBF000000#32)) (Host.divf (rstdV A) (spreadV A))
/-- The normalised entries without and with the scale and the shift. -/
def hatV : FVec Ideal S4096x2048 .f32 := mulf (devV A) (broadcastInDim S4096x2048 ![0, 1] bcast_S4096x1_S4096x2048_0_1 (rstdV A))
@[inherit_doc hatV]
def normV : FVec Ideal S32x128x16x128 .f32 := shapeCast S32x128x16x128 (addf (mulf (hatV A) (broadcastInDim S4096x2048 ![0, 1] bcast_S1x2048_S4096x2048_0_1 G)) (broadcastInDim S4096x2048 ![0, 1] bcast_S1x2048_S4096x2048_0_1 B)) shapeCasts_S4096x2048_S32x128x16x128
end

/-- The ones of the mask. -/
def onesV : FVec Ideal S128x128 .f32 := broadcastInDim S128x128 ![] bcast_S_S128x128 (constant S_ .f32 0x3F800000#32)
/-- The mask: a matrix below and on its diagonal, zero above. -/
def lowV (X : FVec Ideal S128x128 .f32) : FVec Ideal S128x128 .f32 := select (cmpi .sge (addi (iotaInDim S128x128 32 0) (broadcastInDim S128x128 ![] bcast_S_S128x128 (constantI S_ 32 0#32))) (iotaInDim S128x128 32 1)) X (broadcastInDim S128x128 ![] bcast_S_S128x128 (constant S_ .f32 0x00000000#32))

/-! ## The mix and the gradients, from those -/

section
variable (F1 E H : FVec Ideal S4096x2048 .f32) (R Q : FVec Ideal S4096x1 .f32) (N : FVec Ideal S32x128x16x128 .f32) (L : FVec Ideal S128x128 .f32)
  (Y : FVec Ideal S4096x2048 .f32) (G : FVec Ideal S1x2048 .f32) (W : FVec Ideal S16x128x128 .f32) (D : FVec Ideal S16x128 .f32) (K : FVec Ideal S4096x4096 .f32)

/-- The masked weights. -/
def maskV : FVec Ideal S16x128x128 .f32 := mulf W (broadcastInDim S16x128x128 ![0, 1, 2] bcast_S1x128x128_S16x128x128_0_1_2 (broadcastInDim S1x128x128 ![1, 2] bcast_S128x128_S1x128x128_1_2 L))
/-- The mixed rows, with the bias. -/
def mixV : FVec Ideal S4096x2048 .f32 := shapeCast S4096x2048 (addf (transpose S32x128x16x128 [1, 3, 0, 2] (Host.dotGeneral dot_S32x128x16x128_S16x128x128_S16x32x128x128_1_2_03_1_2_0 none N (maskV L W)) transposes_S16x32x128x128_S32x128x16x128_1_3_0_2) (broadcastInDim S32x128x16x128 ![0, 1, 2, 3] bcast_S1x128x16x1_S32x128x16x128_0_1_2_3 (broadcastInDim S1x128x16x1 ![1, 2, 3] bcast_S128x16x1_S1x128x16x1_1_2_3 (broadcastInDim S128x16x1 ![0, 1] bcast_S128x16_S128x16x1_0_1 (transpose S128x16 [1, 0] D transposes_S16x128_S128x16_1_0))))) shapeCasts_S32x128x16x128_S4096x2048
/-- The gradient at the mixed rows. -/
def toMixV : FVec Ideal S32x128x16x128 .f32 := shapeCast S32x128x16x128 (mulf F1 Y) shapeCasts_S4096x2048_S32x128x16x128
/-- The gradient at the bias. -/
def biasV : FVec Ideal S16x128 .f32 := transpose S16x128 [1, 0] (Host.reduceAdd (broadcastInDim S128x16x1 ![0, 1] bcast_S128x16_S128x16x1_0_1 (Host.reduceAdd (shapeCast S1x128x16x1 (Host.reduceAdd (toMixV F1 Y) (constant S_ .f32 0x00000000#32) reducesTo_S32x128x16x128_S128x16_d0_3 h_S_) shapeCasts_S128x16_S1x128x16x1) (constant S_ .f32 0x00000000#32) reducesTo_S1x128x16x1_S128x16_d0_3 h_S_)) (constant S_ .f32 0x00000000#32) reducesTo_S128x16x1_S128x16_d2 h_S_) transposes_S128x16_S16x128_1_0
@[inherit_doc biasV]
def dBiasV : FVec Ideal S16x8x128 .f32 := broadcastInDim S16x8x128 ![0, 1, 2] bcast_S16x1x128_S16x8x128_0_1_2 (broadcastInDim S16x1x128 ![0, 2] bcast_S16x128_S16x1x128_0_2 (biasV F1 Y))
/-- The gradient at the weights. -/
def dWeightsV : FVec Ideal S16x128x128 .f32 := mulf (Host.dotGeneral dot_S16x32x128x128_S32x128x16x128_S16x128x128_12_03_3_1_0_2 none (transpose S16x32x128x128 [2, 0, 3, 1] (toMixV F1 Y) transposes_S32x128x16x128_S16x32x128x128_2_0_3_1) N) (broadcastInDim S16x128x128 ![0, 1, 2] bcast_S1x128x128_S16x128x128_0_1_2 (broadcastInDim S1x128x128 ![1, 2] bcast_S128x128_S1x128x128_1_2 L))
/-- The gradient at the norm's result. -/
def toNormV : FVec Ideal S4096x2048 .f32 := shapeCast S4096x2048 (transpose S32x128x16x128 [1, 3, 0, 2] (Host.dotGeneral dot_S16x32x128x128_S16x128x128_S16x32x128x128_3_1_12_2_0_0 none (transpose S16x32x128x128 [2, 0, 3, 1] (toMixV F1 Y) transposes_S32x128x16x128_S16x32x128x128_2_0_3_1) (maskV L W)) transposes_S16x32x128x128_S32x128x16x128_1_3_0_2) shapeCasts_S32x128x16x128_S4096x2048
/-- The gradients at the shift and the scale. -/
def dShiftV : FVec Ideal S1x2048 .f32 := shapeCast S1x2048 (Host.reduceAdd (toNormV F1 L Y W) (constant S_ .f32 0x00000000#32) reducesTo_S4096x2048_S2048_d0 h_S_) shapeCasts_S2048_S1x2048
@[inherit_doc dShiftV]
def dScaleV : FVec Ideal S1x2048 .f32 := shapeCast S1x2048 (Host.reduceAdd (mulf H (toNormV F1 L Y W)) (constant S_ .f32 0x00000000#32) reducesTo_S4096x2048_S2048_d0 h_S_) shapeCasts_S2048_S1x2048
/-- The gradient at the normalised entries. -/
def incV : FVec Ideal S4096x2048 .f32 := mulf (toNormV F1 L Y W) (broadcastInDim S4096x2048 ![0, 1] bcast_S1x2048_S4096x2048_0_1 G)
/-- The gradient at the variances. -/
def slopeV : FVec Ideal S4096x1 .f32 := Host.divf (mulf (shapeCast S4096x1 (Host.reduceAdd (mulf E (incV F1 L Y G W)) (constant S_ .f32 0x00000000#32) reducesTo_S4096x2048_S4096_d1 h_S_) shapeCasts_S4096_S4096x1) Q) (broadcastInDim S4096x1 ![] bcast_S_S4096x1 (constant S_ .f32 0x45000000#32))
/-- The gradient at the distances. -/
def toDevV : FVec Ideal S4096x2048 .f32 := addf (addf (mulf (incV F1 L Y G W) (broadcastInDim S4096x2048 ![0, 1] bcast_S4096x1_S4096x2048_0_1 R)) (mulf E (broadcastInDim S4096x2048 ![0] bcast_S4096_S4096x2048_0 (Host.reduceAdd (slopeV F1 E Q L Y G W) (constant S_ .f32 0x00000000#32) reducesTo_S4096x1_S4096_d1 h_S_)))) (mulf (broadcastInDim S4096x2048 ![0] bcast_S4096_S4096x2048_0 (Host.reduceAdd (slopeV F1 E Q L Y G W) (constant S_ .f32 0x00000000#32) reducesTo_S4096x1_S4096_d1 h_S_)) E)
/-- The gradient at the second half of the activations. -/
def toSndV : FVec Ideal S4096x2048 .f32 := addf (toDevV F1 E R Q L Y G W) (broadcastInDim S4096x2048 ![0] bcast_S4096_S4096x2048_0 (Host.reduceAdd (Host.divf (shapeCast S4096x1 (Host.reduceAdd (Host.negf (toDevV F1 E R Q L Y G W)) (constant S_ .f32 0x00000000#32) reducesTo_S4096x2048_S4096_d1 h_S_) shapeCasts_S4096_S4096x1) (broadcastInDim S4096x1 ![] bcast_S_S4096x1 (constant S_ .f32 0x45000000#32))) (constant S_ .f32 0x00000000#32) reducesTo_S4096x1_S4096_d1 h_S_))
/-- The gradient before the activation. -/
def dPreV : FVec Ideal S4096x4096 .bf16 := truncf .bf16 (mulf (concatenate S4096x4096 1 [⟨S4096x2048, mulf Y (mixV N L W D)⟩, ⟨S4096x2048, toSndV F1 E R Q L Y G W⟩] concatenates_S4096x2048_S4096x2048_S4096x4096_d1) K) bitsLt_bf16_f32
end

/-! ## What the operations leave -/

section
variable (V : Valuation τ sig (Elt Ideal))

theorem one_v1 : StableHlo.after hostOps1 V (Proc.devRef .tc main_v1) = fstV (V (Proc.devRef .tc main_v0_0)) := by
  after_results_simp <;> rfl
theorem one_v8 : StableHlo.after hostOps1 V (Proc.devRef .tc main_v8) = devV (V (Proc.devRef .tc main_v0_0)) := by
  after_results_simp <;> rfl
theorem one_v16 : StableHlo.after hostOps1 V (Proc.devRef .tc main_v16) = rstdV (V (Proc.devRef .tc main_v0_0)) := by
  after_results_simp <;> rfl
theorem one_v19 : StableHlo.after hostOps1 V (Proc.devRef .tc main_v19) = rateV (V (Proc.devRef .tc main_v0_0)) := by
  after_results_simp <;> rfl
theorem one_v21 : StableHlo.after hostOps1 V (Proc.devRef .tc main_v21) = hatV (V (Proc.devRef .tc main_v0_0)) := by
  after_results_simp <;> rfl
theorem one_v26 : StableHlo.after hostOps1 V (Proc.devRef .tc main_v26) = normV (V (Proc.devRef .tc main_v0_0)) (V (Proc.devRef .tc main_arg2)) (V (Proc.devRef .tc main_arg3)) := by
  after_results_simp <;> rfl
theorem one_v27 : StableHlo.after hostOps1 V (Proc.devRef .tc main_v27) = onesV := by
  after_results_simp <;> rfl
theorem two_v28 : StableHlo.after hostOps1_1 V (Proc.devRef .tc main_v28) = lowV (V (Proc.devRef .tc main_v27)) := by
  after_results_simp <;> rfl

theorem three_v55 : StableHlo.after hostOps1_2 V (Proc.devRef .tc main_v55) = dWeightsV (V (Proc.devRef .tc main_v1)) (V (Proc.devRef .tc main_v26)) (V (Proc.devRef .tc main_v28)) (V (Proc.devRef .tc main_arg1)) := by
  after_results_simp <;> rfl
theorem three_v58 : StableHlo.after hostOps1_2 V (Proc.devRef .tc main_v58) = dShiftV (V (Proc.devRef .tc main_v1)) (V (Proc.devRef .tc main_v28)) (V (Proc.devRef .tc main_arg1)) (V (Proc.devRef .tc main_arg4)) := by
  after_results_simp <;> rfl
theorem three_v61 : StableHlo.after hostOps1_2 V (Proc.devRef .tc main_v61) = dScaleV (V (Proc.devRef .tc main_v1)) (V (Proc.devRef .tc main_v21)) (V (Proc.devRef .tc main_v28)) (V (Proc.devRef .tc main_arg1)) (V (Proc.devRef .tc main_arg4)) := by
  after_results_simp <;> rfl
theorem three_v90 : StableHlo.after hostOps1_2 V (Proc.devRef .tc main_v90) = dBiasV (V (Proc.devRef .tc main_v1)) (V (Proc.devRef .tc main_arg1)) := by
  after_results_simp <;> rfl
theorem three_v88 : StableHlo.after hostOps1_2 V (Proc.devRef .tc main_v88) = dPreV (V (Proc.devRef .tc main_v1)) (V (Proc.devRef .tc main_v8)) (V (Proc.devRef .tc main_v16)) (V (Proc.devRef .tc main_v19)) (V (Proc.devRef .tc main_v26)) (V (Proc.devRef .tc main_v28)) (V (Proc.devRef .tc main_arg1)) (V (Proc.devRef .tc main_arg2)) (V (Proc.devRef .tc main_arg4)) (V (Proc.devRef .tc main_arg5)) (V (Proc.devRef .tc main_v0_1)) := by
  after_results_simp <;> rfl
end

end Cert.SgBwdRefIdeal.Sg

end
-- ==== Proof.Sg.SgBwdRef.lean ====
/- The reference of the spatial gate's gradient, entry by entry. -/
module

public import proofs.«01_k».proof.Proof.Sg.SgBwdTail
public import proofs.«01_k».proof.Proof.Sg.Bwd

@[expose] public section

set_option maxRecDepth 16384
set_option maxHeartbeats 1000000

noncomputable section

namespace Cert.SgBwdRefIdeal.Sg

open Cert.SgBwdRefIdeal Cert.SgBwdRefIdeal.Gen Idealize.ShloMosaic Idealize.ShloMosaic.TcCoe Idealize.SL.Sem
open Cert.Ln Cert.Sg

/-- A sum over the first and the last axis of four. -/
theorem ends_at {a b c d : ℕ} (h : (⟨4, ![a, b, c, d]⟩ : Shape).ReducesTo [0, 3] ⟨2, ![b, c]⟩) (v : (⟨4, ![a, b, c, d]⟩ : Shape).Idx → EReal) (z : EReal) (x : Fin b) (y : Fin c) :
    Ideal.hostReduceAdd h v z (ix2 x y) = z + ∑ k : Fin a, ∑ l : Fin d, v (ix4 k x y l) := by
  refine congrArg (z + ·) ((Finset.sum_filter_eq_sum_of_fiber _ (fun k : Fin a × Fin d => ix4 k.1 x y k.2) (fun _ _ e => Prod.ext (congrFun e 0) (congrFun e 3)) (fun i => ?_) v).trans (Fintype.sum_prod_type _))
  refine ⟨fun e => ⟨(i 0, i 3), ?_⟩, ?_⟩
  · funext q
    apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q
    apply Fin.ext
    match q with
    | ⟨0, _⟩ => rfl
    | ⟨1, _⟩ => rfl

/-- Two halves side by side, left and right. -/
theorem left_at (a b : FVec Ideal S4096x2048 .f32) (p q : Fin 4096) (h : q.val < 2048) :
    concatenate S4096x4096 1 [⟨S4096x2048, a⟩, ⟨S4096x2048, b⟩] concatenates_S4096x2048_S4096x2048_S4096x4096_d1 (ix2 p q) = a (ix2 p ⟨q.val, h⟩) :=
  concatenate_apply_piece (t := S4096x4096) 1 [⟨S4096x2048, a⟩, ⟨S4096x2048, b⟩] concatenates_S4096x2048_S4096x2048_S4096x4096_d1 (ix2 p q) 0 (by show 0 < 2; omega) S4096x2048 a rfl rfl 0 rfl (ix2 p ⟨q.val, h⟩)
    (fun e he => by match e with | ⟨0, _⟩ => rfl | ⟨1, _⟩ => exact absurd rfl he) (by show 0 + q.val = q.val; omega)
theorem right_at (a b : FVec Ideal S4096x2048 .f32) (p q : Fin 4096) (h : ¬q.val < 2048) :
    concatenate S4096x4096 1 [⟨S4096x2048, a⟩, ⟨S4096x2048, b⟩] concatenates_S4096x2048_S4096x2048_S4096x4096_d1 (ix2 p q) = b (ix2 p ⟨q.val - 2048, by omega⟩) :=
  concatenate_apply_piece (t := S4096x4096) 1 [⟨S4096x2048, a⟩, ⟨S4096x2048, b⟩] concatenates_S4096x2048_S4096x2048_S4096x4096_d1 (ix2 p q) 1 (by show 1 < 2; omega) S4096x2048 b rfl rfl 2048 rfl (ix2 p ⟨q.val - 2048, by omega⟩)
    (fun e he => by match e with | ⟨0, _⟩ => rfl | ⟨1, _⟩ => exact absurd rfl he) (by show 2048 + (q.val - 2048) = q.val; omega)

section
variable (A : FVec Ideal S4096x4096 .f32) (G B : FVec Ideal S1x2048 .f32)

theorem fst_at (p : Fin 4096) (q : Fin 2048) : fstV A (ix2 p q) = A (ix2 p ⟨q.val, by omega⟩) := by
  pointwise [fstV]

/-- A row of the second half. -/
abbrev rowA (p : Fin 4096) : Fin 2048 → EReal := fun k => A (ix2 p ⟨2048 + k.val, by omega⟩)

theorem snd_at (p : Fin 4096) (q : Fin 2048) : sndV A (ix2 p q) = rowA A p q := by
  pointwise [sndV]

theorem dev_at (p : Fin 4096) (q : Fin 2048) : devV A (ix2 p q) = dev (rowA A p) q := by
  pointwise [devV]
  simp only [snd_at]
  rfl

theorem spread_at (p : Fin 4096) (z : Fin 1) : spreadV A (ix2 p z) = spread (rowA A p) := by
  pointwise [spreadV]
  simp only [dev_at]
  rfl

theorem rstd_at (p : Fin 4096) (z : Fin 1) : rstdV A (ix2 p z) = rstd (rowA A p) := by
  pointwise [rstdV]
  simp only [spread_at]
  rfl

theorem rate_at (p : Fin 4096) (z : Fin 1) : rateV A (ix2 p z) = Ideal.ofBits .f32 0xBF000000#32 * Ideal.div (rstd (rowA A p)) (spread (rowA A p)) := by
  pointwise [rateV]
  simp only [rstd_at, spread_at]

theorem hat_at (p : Fin 4096) (q : Fin 2048) : hatV A (ix2 p q) = hat (rowA A p) q := by
  pointwise [hatV]
  simp only [dev_at, rstd_at]
  rfl

theorem norm_at (n : Fin 32) (s : Fin 128) (g : Fin 16) (j : Fin 128) : normV A G B (ix4 n s g j)
    = hat (rowA A ⟨128 * n.val + s.val, by omega⟩) ⟨128 * g.val + j.val, by omega⟩ * G (ix2 0 ⟨128 * g.val + j.val, by omega⟩) + B (ix2 0 ⟨128 * g.val + j.val, by omega⟩) := by
  pointwise [normV]
  simp only [hat_at, Nat.mul_comm n.val, Nat.mul_comm g.val]

theorem low_at (t s : Fin 128) : lowV onesV (ix2 t s) = tri t s := by
  pointwise [lowV, onesV]
  simp only [IntOp.addi, BitVec.add_zero]
  rw [ge_bit]
  unfold tri
  split <;> simp [Scalar.select]
end

section
variable (F1 E H : FVec Ideal S4096x2048 .f32) (R Q : FVec Ideal S4096x1 .f32) (N : FVec Ideal S32x128x16x128 .f32) (L : FVec Ideal S128x128 .f32)
  (Y : FVec Ideal S4096x2048 .f32) (G : FVec Ideal S1x2048 .f32) (W : FVec Ideal S16x128x128 .f32) (D : FVec Ideal S16x128 .f32) (K : FVec Ideal S4096x4096 .f32)

theorem mask_at (g : Fin 16) (t s : Fin 128) : maskV L W (ix3 g t s) = W (ix3 g t s) * L (ix2 t s) := by
  pointwise [maskV]

theorem mix_at (p : Fin 4096) (q : Fin 2048) : mixV N L W D (ix2 p q)
    = (∑ s : Fin 128, N (ix4 ⟨p.val / 128, by omega⟩ s ⟨q.val / 128, by omega⟩ ⟨q.val % 128, by omega⟩) * maskV L W (ix3 ⟨q.val / 128, by omega⟩ ⟨p.val % 128, by omega⟩ s))
      + D (ix2 ⟨q.val / 128, by omega⟩ ⟨p.val % 128, by omega⟩) := by
  pointwise [mixV]

theorem toMix_at (n : Fin 32) (t : Fin 128) (g : Fin 16) (j : Fin 128) : toMixV F1 Y (ix4 n t g j)
    = F1 (ix2 ⟨128 * n.val + t.val, by omega⟩ ⟨128 * g.val + j.val, by omega⟩) * Y (ix2 ⟨128 * n.val + t.val, by omega⟩ ⟨128 * g.val + j.val, by omega⟩) := by
  pointwise [toMixV]
  simp only [Nat.mul_comm n.val, Nat.mul_comm g.val]

theorem bias_at (g : Fin 16) (t : Fin 128) : biasV F1 Y (ix2 g t) = ∑ n : Fin 32, ∑ j : Fin 128, toMixV F1 Y (ix4 n t g j) := by
  pointwise [biasV]
  simp only [Fin.sum_univ_one, ends_at, zero_add]
  pointwise
  refine (ends_at _ _ _ _ _).trans ?_
  pointwise

theorem dBias_at (g : Fin 16) (e : Fin 8) (t : Fin 128) : dBiasV F1 Y (ix3 g e t) = biasV F1 Y (ix2 g t) := by
  pointwise [dBiasV]

theorem dWeights_at (g : Fin 16) (t s : Fin 128) : dWeightsV F1 N L Y (ix3 g t s)
    = (∑ n : Fin 32, ∑ j : Fin 128, toMixV F1 Y (ix4 n t g j) * N (ix4 n s g j)) * L (ix2 t s) := by
  pointwise [dWeightsV]

theorem toNorm_at (p : Fin 4096) (q : Fin 2048) : toNormV F1 L Y W (ix2 p q)
    = ∑ t : Fin 128, toMixV F1 Y (ix4 ⟨p.val / 128, by omega⟩ t ⟨q.val / 128, by omega⟩ ⟨q.val % 128, by omega⟩) * maskV L W (ix3 ⟨q.val / 128, by omega⟩ t ⟨p.val % 128, by omega⟩) := by
  pointwise [toNormV]

theorem dShift_at (z : Fin 1) (q : Fin 2048) : dShiftV F1 L Y W (ix2 z q) = ∑ p : Fin 4096, toNormV F1 L Y W (ix2 p q) := by
  pointwise [dShiftV]

theorem dScale_at (z : Fin 1) (q : Fin 2048) : dScaleV F1 H L Y W (ix2 z q) = ∑ p : Fin 4096, H (ix2 p q) * toNormV F1 L Y W (ix2 p q) := by
  pointwise [dScaleV]

theorem inc_at (p : Fin 4096) (q : Fin 2048) : incV F1 L Y G W (ix2 p q) = toNormV F1 L Y W (ix2 p q) * G (ix2 0 q) := by
  pointwise [incV]

theorem dPre_fst (p : Fin 4096) (q : Fin 4096) (h : q.val < 2048) : dPreV F1 E R Q N L Y G W D K (ix2 p q)
    = Y (ix2 p ⟨q.val, h⟩) * mixV N L W D (ix2 p ⟨q.val, h⟩) * K (ix2 p q) := by
  refine (congrArg (· * K (ix2 p q)) (left_at _ _ p q h)).trans ?_
  pointwise

theorem dPre_snd (p : Fin 4096) (q : Fin 4096) (h : ¬q.val < 2048) : dPreV F1 E R Q N L Y G W D K (ix2 p q)
    = toSndV F1 E R Q L Y G W (ix2 p ⟨q.val - 2048, by omega⟩) * K (ix2 p q) := by
  exact congrArg (· * K (ix2 p q)) (right_at _ _ p q h)
end

section
variable (A : FVec Ideal S4096x4096 .f32) (L : FVec Ideal S128x128 .f32) (Y : FVec Ideal S4096x2048 .f32) (G : FVec Ideal S1x2048 .f32) (W : FVec Ideal S16x128x128 .f32)

theorem slope_at (p : Fin 4096) (z : Fin 1) : slopeV (fstV A) (devV A) (rateV A) L Y G W (ix2 p z) = slope (rowA A p) (fun k => incV (fstV A) L Y G W (ix2 p k)) := by
  pointwise [slopeV]
  simp only [dev_at, rate_at]
  rfl

theorem toDev_at (p : Fin 4096) (q : Fin 2048) : toDevV (fstV A) (devV A) (rstdV A) (rateV A) L Y G W (ix2 p q) = toDev (rowA A p) (fun k => incV (fstV A) L Y G W (ix2 p k)) q := by
  pointwise [toDevV]
  simp only [dev_at, slope_at, rstd_at, Fin.sum_univ_one, zero_add]
  rfl

theorem toSnd_at (p : Fin 4096) (q : Fin 2048) : toSndV (fstV A) (devV A) (rstdV A) (rateV A) L Y G W (ix2 p q) = toRow (rowA A p) (fun k => incV (fstV A) L Y G W (ix2 p k)) q := by
  pointwise [toSndV]
  simp only [toDev_at, Fin.sum_univ_one, zero_add]
  rfl
end

/-! ## Against the formulas -/

/-- The activations. -/
def acts (P : FVec Ideal S4096x4096 .f32) : FVec Ideal S4096x4096 .f32 := fun i => act (P i)
/-- Their slopes. -/
def slopes (P : FVec Ideal S4096x4096 .f32) : FVec Ideal S4096x4096 .f32 := fun i => actSlope (P i)

theorem tri_sum {n : ℕ} (t s : Fin 128) (f : Fin n → EReal) : (∑ k, f k) * tri t s = ∑ k, tri t s * f k := by
  unfold tri
  split <;> simp

theorem rows_sum (f : Fin 4096 → EReal) : ∑ p, f p = ∑ n ∈ Finset.range 32, ∑ s : Fin 128, f (rowN n s) := by
  rw [Finset.sum_range, ← Fintype.sum_prod_type' (fun (n : Fin 32) (s : Fin 128) => f (rowN n.val s))]
  refine (Fintype.sum_equiv (finProdFinEquiv (m := 32) (n := 128)) _ f fun x => congrArg f (Fin.ext ?_)).symm
  have := x.1.isLt
  show 128 * (x.1.val % 32) + x.2.val = x.2.val + 128 * x.1.val
  omega

theorem row_mk (n : ℕ) (hn : n < 32) (s : Fin 128) (h) : (⟨128 * n + s.val, h⟩ : Fin 4096) = rowN n s :=
  Fin.ext (by show 128 * n + s.val = 128 * (n % 32) + s.val; omega)
theorem row_div (n : ℕ) (hn : n < 32) (s : Fin 128) (h) : (⟨(rowN n s).val / 128, h⟩ : Fin 32) = ⟨n, hn⟩ :=
  Fin.ext (by show (128 * (n % 32) + s.val) / 128 = n; omega)
theorem row_mod (n : ℕ) (s : Fin 128) (h) : (⟨(rowN n s).val % 128, h⟩ : Fin 128) = s :=
  Fin.ext (by show (128 * (n % 32) + s.val) % 128 = s.val; omega)
theorem col_grp (q : Fin 2048) (h h') : col ⟨q.val / 128, h⟩ ⟨q.val % 128, h'⟩ = q :=
  Fin.ext (by show 128 * (q.val / 128) + q.val % 128 = q.val; omega)

section
variable (P : FVec Ideal S4096x4096 .f32) (Y : FVec Ideal S4096x2048 .f32) (G B : FVec Ideal S1x2048 .f32) (W : FVec Ideal S16x128x128 .f32) (D : FVec Ideal S16x128 .f32)

theorem toMix_row (n : ℕ) (hn : n < 32) (t : Fin 128) (g : Fin 16) (j : Fin 128) :
    toMixV (fstV (acts P)) Y (ix4 ⟨n, hn⟩ t g j) = toMix (upN P n) (ypN Y n) t (col g j) := by
  rw [toMix_at, fst_at, mul_comm, row_mk n hn t]
  rfl

theorem norm_row (n : ℕ) (hn : n < 32) (s : Fin 128) (g : Fin 16) (j : Fin 128) :
    normV (acts P) G B (ix4 ⟨n, hn⟩ s g j) = normC (vpN P n) G B s (col g j) := by
  rw [norm_at, row_mk n hn s]
  rfl

theorem mask_row (g : Fin 16) (t s : Fin 128) : maskV (lowV onesV) W (ix3 g t s) = mixW W g t s := by
  rw [mask_at, low_at]
  rfl

theorem toNorm_row (n : ℕ) (hn : n < 32) (s : Fin 128) (q : Fin 2048) :
    toNormV (fstV (acts P)) (lowV onesV) Y W (ix2 (rowN n s) q) = toNorm (upN P n) (ypN Y n) W s q := by
  rw [toNorm_at]
  refine Finset.sum_congr rfl fun t _ => ?_
  rw [row_div n hn s, row_mod n s, toMix_row, mask_row, mul_comm, col_grp]
  rfl

theorem mix_row (n : ℕ) (hn : n < 32) (t : Fin 128) (q : Fin 2048) :
    mixV (normV (acts P) G B) (lowV onesV) W D (ix2 (rowN n t) q) = (∑ s : Fin 128, mixW W (grp q) t s * normC (vpN P n) G B s q) + D (ix2 (grp q) t) := by
  rw [mix_at]
  refine congrArg₂ (· + ·) (Finset.sum_congr rfl fun s _ => ?_) ?_
  · rw [row_div n hn t, row_mod n t, norm_row, mask_row, mul_comm, col_grp]
    rfl
  · rw [row_mod n t]
    rfl

theorem dBias_eq : dBiasV (fstV (acts P)) Y = dBias P Y := by
  funext i
  idx_vars i
  rw [dBias_at, bias_at]
  unfold dBias
  rw [Finset.sum_range]
  exact Finset.sum_congr rfl fun n _ => Finset.sum_congr rfl fun j _ => toMix_row P Y n.val n.isLt i2 i0 j

theorem dWeights_eq : dWeightsV (fstV (acts P)) (normV (acts P) G B) (lowV onesV) Y = dWeights P Y G B := by
  funext i
  idx_vars i
  rw [dWeights_at, low_at, tri_sum]
  unfold dWeights
  rw [Finset.sum_range]
  refine Finset.sum_congr rfl fun n _ => congrArg (tri i1 i2 * ·) (Finset.sum_congr rfl fun j _ => ?_)
  exact congrArg₂ (· * ·) (toMix_row P Y n.val n.isLt i1 i0 j) (norm_row P G B n.val n.isLt i2 i0 j)

theorem dShift_eq : dShiftV (fstV (acts P)) (lowV onesV) Y W = dLnShift P Y W := by
  funext i
  idx_vars i
  rw [dShift_at, rows_sum]
  unfold dLnShift
  exact Finset.sum_congr rfl fun n hn => Finset.sum_congr rfl fun s _ => toNorm_row P Y W n (Finset.mem_range.mp hn) s i1

theorem dScale_eq : dScaleV (fstV (acts P)) (hatV (acts P)) (lowV onesV) Y W = dLnScale P Y W := by
  funext i
  idx_vars i
  rw [dScale_at, rows_sum]
  unfold dLnScale
  refine Finset.sum_congr rfl fun n hn => Finset.sum_congr rfl fun s _ => ?_
  rw [toNorm_row P Y W n (Finset.mem_range.mp hn) s i1, hat_at, mul_comm]
  rfl

theorem row_whole (p : Fin 4096) : rowN (p.val / 128) ⟨p.val % 128, by omega⟩ = p :=
  Fin.ext (by show 128 * (p.val / 128 % 32) + p.val % 128 = p.val; omega)

theorem dPre_eq (hr : ∀ n s j, ∃ r : ℝ, toNorm (upN P n) (ypN Y n) W s j * G (ix2 0 j) = (r : EReal)) :
    dPreV (fstV (acts P)) (devV (acts P)) (rstdV (acts P)) (rateV (acts P)) (normV (acts P) G B) (lowV onesV) Y G W D (slopes P) = dPre P Y G B W D := by
  funext i
  idx_vars i
  have hn : i0.val / 128 < 32 := by omega
  unfold dPre
  by_cases h : i1.val < 2048
  · rw [dPre_fst _ _ _ _ _ _ _ _ _ _ _ i0 i1 h]
    refine Eq.trans ?_ (dif_pos h).symm
    unfold toU
    refine congrArg₂ (· * ·) (congrArg₂ (· * ·) ?_ ?_) ?_
    · exact congrArg (fun x => Y (ix2 x ⟨i1.val, h⟩)) (row_whole i0).symm
    · refine Eq.trans ?_ (mix_row P G B W D (i0.val / 128) hn ⟨i0.val % 128, by omega⟩ ⟨i1.val, h⟩)
      rw [row_whole]
    · exact congrArg (fun x => actSlope (P (ix2 x i1))) (row_whole i0).symm
  · rw [dPre_snd _ _ _ _ _ _ _ _ _ _ _ i0 i1 h, toSnd_at]
    refine Eq.trans ?_ (dif_neg h).symm
    unfold toV
    refine congrArg₂ (· * ·) ?_ ?_
    · refine Eq.trans ?_ (grad_eq _ _ (hr (i0.val / 128) ⟨i0.val % 128, by omega⟩) _).symm
      refine congrArg₂ (fun a b => toRow a b _) ?_ ?_
      · exact congrArg (rowA (acts P)) (row_whole i0).symm
      · funext k
        rw [inc_at, ← toNorm_row P Y W (i0.val / 128) hn ⟨i0.val % 128, by omega⟩ k, row_whole]
    · have e : (⟨2048 + (i1.val - 2048), by omega⟩ : Fin 4096) = i1 := Fin.ext (by show 2048 + (i1.val - 2048) = i1.val; omega)
      show actSlope (P (ix2 i0 i1)) = actSlope (P (ix2 (rowN (i0.val / 128) ⟨i0.val % 128, by omega⟩) ⟨2048 + (i1.val - 2048), by omega⟩))
      rw [row_whole, e]
end

end Cert.SgBwdRefIdeal.Sg

end
-- ==== Proof.Sg.SgBwdRun.lean ====
/- The reference of the spatial gate's gradient: the gelu's and its slope's arrays, and the run. -/
module

public import proofs.«01_k».proof.Proof.Sg.SgBwdRef
public import proofs.«01_k».proof.Proof.Ffn.Finite
public import proofs.«01_k».proof.Pre_finite_sg
public import proofs.«01_k».proof.Proof.Gen.Pre_finite_sg
public import Idealize.ShloMosaic.Lib.ReduceAll

@[expose] public section

set_option maxRecDepth 16384
set_option maxHeartbeats 1000000

noncomputable section

namespace Cert.Sg

open Idealize.ShloMosaic
open Cert.Ln

/-- A real entry. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.sum {n : ℕ} {f : Fin n → EReal} (h : ∀ k, Real' (f k)) : Real' (∑ k, f k) := by
  choose g hg using h
  exact ⟨∑ k, g k, by rw [← sum_coe]; exact Finset.sum_congr rfl fun k _ => hg k⟩

theorem word_half : Ideal.ofBits .f32 0x3F000000#32 = ((1 / 2 : ℝ) : EReal) := by
  simp [Ideal.ofBits, Ideal.ieee, -EReal.coe_mul]; norm_num

theorem act_real {x : EReal} (hx : Real' x) : Real' (act x) := by
  obtain ⟨r, rfl⟩ := hx
  unfold act
  rw [word_half]
  refine Real'.mul (Real'.mul ⟨_, rfl⟩ ⟨_, rfl⟩) (Real'.add ⟨1, rfl⟩ ?_)
  rw [show (r : EReal) * rootHalf = ((r * (Real.sqrt 2)⁻¹ : ℝ) : EReal) from (EReal.coe_mul _ _).symm, Ideal.erf_coe]
  exact ⟨_, rfl⟩

theorem tri_real (t s : Fin 128) : Real' (tri t s) := by
  unfold tri
  split
  · exact ⟨1, rfl⟩
  · exact ⟨0, rfl⟩

/-- The gelu's slope in the derivative's own order. -/
theorem slope_real (r : ℝ) :
    ((2 * (Real.sqrt Real.pi)⁻¹ : ℝ) : EReal) * (Ideal.ofBits .f32 0x3F000000#32 * (r : EReal)) * Ideal.exp (0 - (r : EReal) * rootHalf * ((r : EReal) * rootHalf)) * rootHalf
      + Ideal.ofBits .f32 0x3F000000#32 * (1 + Ideal.erf ((r : EReal) * rootHalf)) = actSlope (r : EReal) := by
  unfold actSlope
  rw [half_neg, word_half, add_comm]
  refine congrArg _ ?_
  rw [← EReal.coe_zero]
  simp only [← EReal.coe_mul, ← EReal.coe_sub, Ideal.exp_coe]
  refine congrArg _ ?_
  have h2 : (Real.sqrt 2)⁻¹ * (Real.sqrt 2)⁻¹ = 1 / 2 := by
    rw [← mul_inv, Real.mul_self_sqrt (by norm_num)]; norm_num
  have he : (0 : ℝ) - r * (Real.sqrt 2)⁻¹ * (r * (Real.sqrt 2)⁻¹) = -(1 / 2) * r * r := by
    linear_combination (-(r * r)) * h2
  rw [he, Real.sqrt_mul (by norm_num), mul_inv]
  ring

end Cert.Sg

namespace Cert.SgBwdRefIdeal.Sg

open Cert.SgBwdRefIdeal Cert.SgBwdRefIdeal.Gen Idealize.ShloMosaic Idealize.ShloMosaic.TcCoe Idealize.SL.Sem
open Cert.Ln Cert.Sg
open Idealize.ShloMosaic.Pipeline (Dat)

theorem root_val : Named.named (F := Ideal) (φ := .f32) κ "sqrt_half" 0x3F3504F3#32 = (rootHalf : EReal) :=
  IdealRules.named_const.ideal_named_scalar _ _ _ _ rfl
theorem two_val : Named.named (F := Ideal) (φ := .f32) κ "two_over_sqrt_pi" 0x3F906EBB#32 = (((2 * (Real.sqrt Real.pi)⁻¹ : ℝ) : EReal) : EReal) :=
  IdealRules.named_const.ideal_named_scalar _ _ _ _ rfl

theorem pay4_at (x : FVec Ideal S4096x4096 .f32) (p q : Fin 4096) : k0_pay4 (F := Ideal) x (ix2 p q) = (act (x (ix2 p q)) : EReal) := by
  pointwise [k0_pay4, k0_pay1, k0_pay2, k0_pay3]
  rw [root_val]
  rfl

theorem pay5_at (x : FVec Ideal S4096x4096 .f32) (p q : Fin 4096) (hx : Real' (x (ix2 p q))) : k0_pay5 (F := Ideal) x (ix2 p q) = (actSlope (x (ix2 p q)) : EReal) := by
  obtain ⟨r, hr⟩ := hx
  pointwise [k0_pay5, k0_pay1, k0_pay2, k0_pay3]
  rw [root_val, two_val, hr]
  exact slope_real r

variable (m : (ℓ : Loc nD τ sig) → Buf (Elt Ideal) ℓ) (ρ : Dev nD → PrngReg) (c : Dev nD)

/-- The arguments. -/
abbrev argP : FVec Ideal S4096x4096 .f32 := m ((c : Thread nD τ).loc main_arg0)
@[inherit_doc argP]
abbrev argY : FVec Ideal S4096x2048 .f32 := m ((c : Thread nD τ).loc main_arg1)
@[inherit_doc argP]
abbrev argG : FVec Ideal S1x2048 .f32 := m ((c : Thread nD τ).loc main_arg2)
@[inherit_doc argP]
abbrev argB : FVec Ideal S1x2048 .f32 := m ((c : Thread nD τ).loc main_arg3)
@[inherit_doc argP]
abbrev argW : FVec Ideal S16x128x128 .f32 := m ((c : Thread nD τ).loc main_arg4)
@[inherit_doc argP]
abbrev argD : FVec Ideal S16x128 .f32 := m ((c : Thread nD τ).loc main_arg5)

theorem at0 : ∀ t : Fin cfg0.N, win0_0.index t = fun _ => 0 := (by decide +kernel : ∀ t : Fin grid0.N, _)
theorem at1 : ∀ t : Fin cfg0.N, win0_1.index t = fun _ => 0 := (by decide +kernel : ∀ t : Fin grid0.N, _)
theorem at2 : ∀ t : Fin cfg0.N, win0_2.index t = fun _ => 0 := (by decide +kernel : ∀ t : Fin grid0.N, _)

theorem blk (t : Fin cfg0.N) (p q : Fin 4096) : iblk m c 0 t (ix2 p q) = argP m c (ix2 p q) := by
  blk_ext! [iblk, at0 t]

theorem outA (t : Fin cfg0.N) (p q : Fin 4096) : out0_1 (iblk m c 0 t) (ix2 p q) = (acts (argP m c) (ix2 p q) : EReal) := by
  unfold out0_1
  frame_out
  refine (pay4_at _ p q).trans (congrArg act ?_)
  exact blk m c t p q

theorem outS (hP : ∀ i, Real' (argP m c i)) (t : Fin cfg0.N) (p q : Fin 4096) : out0_2 (iblk m c 0 t) (ix2 p q) = (slopes (argP m c) (ix2 p q) : EReal) := by
  unfold out0_2
  frame_out
  have e := blk m c t p q
  refine (pay5_at _ p q ?_).trans (congrArg actSlope e)
  rw [e]; exact hP (ix2 p q)

theorem arr1 : (dats m 0 c).arrAt 1 cfg0.N = acts (argP m c) := by
  refine (dats m 0 c).arrAt_eq_of_covers 1 _ (by decide +kernel) fun t hf y => ?_
  blk_simp
  rw [after0_1]
  idx_vars y
  refine (outA m c t y0 y1).trans ?_
  generalize acts (argP m c) = R
  blk_ext! [at1 t]

theorem arr2 (hP : ∀ i, Real' (argP m c i)) : (dats m 0 c).arrAt 2 cfg0.N = slopes (argP m c) := by
  refine (dats m 0 c).arrAt_eq_of_covers 2 _ (by decide +kernel) fun t hf y => ?_
  blk_simp
  rw [after0_2]
  idx_vars y
  refine (outS m c hP t y0 y1).trans ?_
  generalize slopes (argP m c) = R
  blk_ext! [at2 t]

/-! ## The run -/

/-- The memory after the call. -/
abbrev left : Valuation τ sig (Elt Ideal) := Pipeline.withArrays (cfgs 0).spec c (V0 m c) (fun w => (dats m 0 c).arrAt w (cfgs 0).N)

theorem left_v0 : left m c (Proc.devRef .tc main_v0_0) = acts (argP m c) :=
  (Pipeline.withArrays_arr (cfgs 0).spec launch0.win.arr_inj c (V0 m c) (fun w => (dats m 0 c).arrAt w (cfgs 0).N) 1).trans (arr1 m c)
theorem left_v1 (hP : ∀ i, Real' (argP m c i)) : left m c (Proc.devRef .tc main_v0_1) = slopes (argP m c) :=
  (Pipeline.withArrays_arr (cfgs 0).spec launch0.win.arr_inj c (V0 m c) (fun w => (dats m 0 c).arrAt w (cfgs 0).N) 2).trans (arr2 m c hP)
theorem left_arg1 : left m c (Proc.devRef .tc main_arg1) = argY m c :=
  (Pipeline.withArrays_of_ne _ c (V0 m c) _ main_arg1 (by exact (by decide : ∀ w, Pipeline.arrRef spec0 w ≠ main_arg1))).trans (V_main_arg1 m c)
theorem left_arg2 : left m c (Proc.devRef .tc main_arg2) = argG m c :=
  (Pipeline.withArrays_of_ne _ c (V0 m c) _ main_arg2 (by exact (by decide : ∀ w, Pipeline.arrRef spec0 w ≠ main_arg2))).trans (V_main_arg2 m c)
theorem left_arg3 : left m c (Proc.devRef .tc main_arg3) = argB m c :=
  (Pipeline.withArrays_of_ne _ c (V0 m c) _ main_arg3 (by exact (by decide : ∀ w, Pipeline.arrRef spec0 w ≠ main_arg3))).trans (V_main_arg3 m c)
theorem left_arg4 : left m c (Proc.devRef .tc main_arg4) = argW m c :=
  (Pipeline.withArrays_of_ne _ c (V0 m c) _ main_arg4 (by exact (by decide : ∀ w, Pipeline.arrRef spec0 w ≠ main_arg4))).trans (V_main_arg4 m c)
theorem left_arg5 : left m c (Proc.devRef .tc main_arg5) = argD m c :=
  (Pipeline.withArrays_of_ne _ c (V0 m c) _ main_arg5 (by exact (by decide : ∀ w, Pipeline.arrRef spec0 w ≠ main_arg5))).trans (V_main_arg5 m c)

section
variable (V : Valuation τ sig (Elt Ideal))

/-- The memory before the last operations. -/
abbrev mid : Valuation τ sig (Elt Ideal) := StableHlo.after hostOps1_1 (StableHlo.after hostOps1 V)

theorem mid_v28 : mid V (Proc.devRef .tc main_v28) = lowV onesV := (two_v28 _).trans (congrArg lowV (one_v27 V))
theorem mid_v1 : mid V (Proc.devRef .tc main_v1) = fstV (V (Proc.devRef .tc main_v0_0)) :=
  (StableHlo.after_of_writes_sub (r := main_v1) hostOps1_1 _ hostOps1_1_writes (by decide +kernel)).trans (one_v1 V)
theorem mid_v8 : mid V (Proc.devRef .tc main_v8) = devV (V (Proc.devRef .tc main_v0_0)) :=
  (StableHlo.after_of_writes_sub (r := main_v8) hostOps1_1 _ hostOps1_1_writes (by decide +kernel)).trans (one_v8 V)
theorem mid_v16 : mid V (Proc.devRef .tc main_v16) = rstdV (V (Proc.devRef .tc main_v0_0)) :=
  (StableHlo.after_of_writes_sub (r := main_v16) hostOps1_1 _ hostOps1_1_writes (by decide +kernel)).trans (one_v16 V)
theorem mid_v19 : mid V (Proc.devRef .tc main_v19) = rateV (V (Proc.devRef .tc main_v0_0)) :=
  (StableHlo.after_of_writes_sub (r := main_v19) hostOps1_1 _ hostOps1_1_writes (by decide +kernel)).trans (one_v19 V)
theorem mid_v21 : mid V (Proc.devRef .tc main_v21) = hatV (V (Proc.devRef .tc main_v0_0)) :=
  (StableHlo.after_of_writes_sub (r := main_v21) hostOps1_1 _ hostOps1_1_writes (by decide +kernel)).trans (one_v21 V)
theorem mid_v26 : mid V (Proc.devRef .tc main_v26) = normV (V (Proc.devRef .tc main_v0_0)) (V (Proc.devRef .tc main_arg2)) (V (Proc.devRef .tc main_arg3)) :=
  (StableHlo.after_of_writes_sub (r := main_v26) hostOps1_1 _ hostOps1_1_writes (by decide +kernel)).trans (one_v26 V)
theorem mid_slope : mid V (Proc.devRef .tc main_v0_1) = V (Proc.devRef .tc main_v0_1) :=
  (StableHlo.after_of_writes_sub (r := main_v0_1) hostOps1_1 _ hostOps1_1_writes (by decide +kernel)).trans
    (StableHlo.after_of_writes_sub (r := main_v0_1) hostOps1 _ hostOps1_writes (by decide +kernel))
theorem mid_arg1 : mid V (Proc.devRef .tc main_arg1) = V (Proc.devRef .tc main_arg1) :=
  (StableHlo.after_of_writes_sub (r := main_arg1) hostOps1_1 _ hostOps1_1_writes (by decide +kernel)).trans
    (StableHlo.after_of_writes_sub (r := main_arg1) hostOps1 _ hostOps1_writes (by decide +kernel))
theorem mid_arg2 : mid V (Proc.devRef .tc main_arg2) = V (Proc.devRef .tc main_arg2) :=
  (StableHlo.after_of_writes_sub (r := main_arg2) hostOps1_1 _ hostOps1_1_writes (by decide +kernel)).trans
    (StableHlo.after_of_writes_sub (r := main_arg2) hostOps1 _ hostOps1_writes (by decide +kernel))
theorem mid_arg4 : mid V (Proc.devRef .tc main_arg4) = V (Proc.devRef .tc main_arg4) :=
  (StableHlo.after_of_writes_sub (r := main_arg4) hostOps1_1 _ hostOps1_1_writes (by decide +kernel)).trans
    (StableHlo.after_of_writes_sub (r := main_arg4) hostOps1 _ hostOps1_writes (by decide +kernel))
theorem mid_arg5 : mid V (Proc.devRef .tc main_arg5) = V (Proc.devRef .tc main_arg5) :=
  (StableHlo.after_of_writes_sub (r := main_arg5) hostOps1_1 _ hostOps1_1_writes (by decide +kernel)).trans
    (StableHlo.after_of_writes_sub (r := main_arg5) hostOps1 _ hostOps1_writes (by decide +kernel))
end

theorem tail_eq (r : Ref sig .tc) : Pipeline.afterTail₀ cfgs (dats m) 0 (V0 m) [hostOps1, hostOps1_1, hostOps1_2] c r = StableHlo.after hostOps1_2 (mid (left m c)) (Proc.devRef .tc r) := by
  unfold Pipeline.afterTail₀
  rw [List.flatten_cons, List.flatten_cons, List.flatten_cons, List.flatten_nil, List.append_nil, StableHlo.after_append, StableHlo.after_append]

theorem end_v55 : StableHlo.after hostOps1_2 (mid (left m c)) (Proc.devRef .tc main_v55) = dWeights (argP m c) (argY m c) (argG m c) (argB m c) := by
  rw [three_v55, mid_v1, mid_v26, mid_v28, mid_arg1, left_v0, left_arg1, left_arg2, left_arg3]
  exact dWeights_eq _ _ _ _
theorem end_v58 : StableHlo.after hostOps1_2 (mid (left m c)) (Proc.devRef .tc main_v58) = dLnShift (argP m c) (argY m c) (argW m c) := by
  rw [three_v58, mid_v1, mid_v28, mid_arg1, mid_arg4, left_v0, left_arg1, left_arg4]
  exact dShift_eq _ _ _
theorem end_v61 : StableHlo.after hostOps1_2 (mid (left m c)) (Proc.devRef .tc main_v61) = dLnScale (argP m c) (argY m c) (argW m c) := by
  rw [three_v61, mid_v1, mid_v21, mid_v28, mid_arg1, mid_arg4, left_v0, left_arg1, left_arg4]
  exact dScale_eq _ _ _
theorem end_v90 : StableHlo.after hostOps1_2 (mid (left m c)) (Proc.devRef .tc main_v90) = dBias (argP m c) (argY m c) := by
  rw [three_v90, mid_v1, mid_arg1, left_v0, left_arg1]
  exact dBias_eq _ _
theorem end_v88 (hP : ∀ i, Real' (argP m c i))
    (hr : ∀ n s j, ∃ r : ℝ, toNorm (upN (argP m c) n) (ypN (argY m c) n) (argW m c) s j * argG m c (ix2 0 j) = (r : EReal)) :
    StableHlo.after hostOps1_2 (mid (left m c)) (Proc.devRef .tc main_v88) = dPre (argP m c) (argY m c) (argG m c) (argB m c) (argW m c) (argD m c) := by
  rw [three_v88, mid_v1, mid_v8, mid_v16, mid_v19, mid_v26, mid_v28, mid_arg1, mid_arg2, mid_arg4, mid_arg5, mid_slope, left_v0, left_v1 m c hP, left_arg1, left_arg2, left_arg3, left_arg4, left_arg5]
  exact dPre_eq _ _ _ _ _ _ hr

theorem run : θ_run defs (onTc (τ := τ) (main (F := Ideal))) ⟨m, fun _ => 0, ρ⟩ (fun r => ∀ c : Dev nD,
      r.2.mem ((c.tc : Thread nD τ).loc main_v88) = StableHlo.after hostOps1_2 (mid (left m c)) (Proc.devRef .tc main_v88)
      ∧ r.2.mem ((c.tc : Thread nD τ).loc main_v55) = StableHlo.after hostOps1_2 (mid (left m c)) (Proc.devRef .tc main_v55)
      ∧ r.2.mem ((c.tc : Thread nD τ).loc main_v90) = StableHlo.after hostOps1_2 (mid (left m c)) (Proc.devRef .tc main_v90)
      ∧ r.2.mem ((c.tc : Thread nD τ).loc main_v61) = StableHlo.after hostOps1_2 (mid (left m c)) (Proc.devRef .tc main_v61)
      ∧ r.2.mem ((c.tc : Thread nD τ).loc main_v58) = StableHlo.after hostOps1_2 (mid (left m c)) (Proc.devRef .tc main_v58)) :=
  (θ_run defs _ _).mono (fun _ h c => ⟨((h c).2 main_v88 (Pipeline.mem_restRefs_of main_v88 (by decide) (by decide))).trans (tail_eq m c _),
      ((h c).2 main_v55 (Pipeline.mem_restRefs_of main_v55 (by decide) (by decide))).trans (tail_eq m c _),
      ((h c).2 main_v90 (Pipeline.mem_restRefs_of main_v90 (by decide) (by decide))).trans (tail_eq m c _),
      ((h c).2 main_v61 (Pipeline.mem_restRefs_of main_v61 (by decide) (by decide))).trans (tail_eq m c _),
      ((h c).2 main_v58 (Pipeline.mem_restRefs_of main_v58 (by decide) (by decide))).trans (tail_eq m c _)⟩) (run_main m ρ)

end Cert.SgBwdRefIdeal.Sg

namespace Cert.Sg

section
open Idealize.ShloMosaic Cert.Pre_finite_sg Cert.Pre_finite_sg.Gen

/-- The arguments the precondition speaks of are real. -/
theorem of_pre (P : FVec Ideal S4096x4096 .f32) (Y : FVec Ideal S4096x2048 .f32) (G B : FVec Ideal S1x2048 .f32) (W : FVec Ideal S16x128x128 .f32) (D : FVec Ideal S16x128 .f32)
    (h : Cert.Pre_finite_sg.fn (F := Ideal) P Y G B W D = fun _ => 1#1) :
    (∀ i, Real' (P i)) ∧ (∀ i, Real' (Y i)) ∧ (∀ i, Real' (G i)) ∧ ∀ i, Real' (W i) := by
  have h0 := congrFun h (fun a => a.elim0)
  unfold Cert.Pre_finite_sg.fn Cert.Pre_finite_sg.fn_part1 at h0
  have hs : Subsingleton S_.Idx := ⟨fun a b => funext fun i => i.elim0⟩
  dsimp only at h0
  obtain ⟨h1, hW⟩ := IntOp.andi_eq_one.1 h0
  obtain ⟨h2, hG⟩ := IntOp.andi_eq_one.1 h1
  obtain ⟨hP, hY⟩ := IntOp.andi_eq_one.1 h2
  refine ⟨fun i => ?_, fun i => ?_, fun i => ?_, fun i => ?_⟩
  · have := Host.reduce_andi_all _ _ _ _ _ hP i
    exact Cert.Spec.real_of_lt _ (Eq.trans (by pointwise) this)
  · have := Host.reduce_andi_all _ _ _ _ _ hY i
    exact Cert.Spec.real_of_lt _ (Eq.trans (by pointwise) this)
  · have := Host.reduce_andi_all _ _ _ _ _ hG i
    exact Cert.Spec.real_of_lt _ (Eq.trans (by pointwise) this)
  · have := Host.reduce_andi_all _ _ _ _ _ hW i
    exact Cert.Spec.real_of_lt _ (Eq.trans (by pointwise) this)

/-- So is the gradient at the normalised entries. -/
theorem inc_real (P : FVec Ideal S4096x4096 .f32) (Y : FVec Ideal S4096x2048 .f32) (G B : FVec Ideal S1x2048 .f32) (W : FVec Ideal S16x128x128 .f32) (D : FVec Ideal S16x128 .f32)
    (h : Cert.Pre_finite_sg.fn (F := Ideal) P Y G B W D = fun _ => 1#1) (n : ℕ) (s : Fin 128) (j : Fin 2048) :
    Real' (toNorm (upN P n) (ypN Y n) W s j * G (ix2 0 j)) := by
  obtain ⟨hP, hY, hG, hW⟩ := of_pre P Y G B W D h
  exact Real'.mul (Real'.sum fun t => Real'.mul (Real'.mul (hW _) (tri_real _ _)) (Real'.mul (hY _) (act_real (hP _)))) (hG _)
end

end Cert.Sg

end
-- ==== Proof.Ffn.Body.lean ====
/- What the body computes from one block and its halos, at one entry. -/
module

public import proofs.«01_k».proof.Proof.Ffn.Spec
public import proofs.«01_k».proof.Proof.Gen.KernelIdeal.Skeleton

@[expose] public section

set_option maxRecDepth 16384

noncomputable section

namespace Cert.KernelIdeal.Ffn

open Cert.KernelIdeal Cert.KernelIdeal.Gen Idealize.ShloMosaic Cert.Spec

/-- The test `row block = 0` on the machine word. -/
theorem first_iff (r : ℕ) (hr : r < 4) : Scalar.cmpi .eq (BitVec.ofNat 32 r) 0#32 = if r = 0 then 1#1 else 0#1 := by
  interval_cases r <;> decide

/-- The test `row block = 3` on the machine word. -/
theorem last_iff (r : ℕ) (hr : r < 4) : Scalar.cmpi .eq (BitVec.ofNat 32 r) 3#32 = if r = 3 then 1#1 else 0#1 := by
  interval_cases r <;> decide

section
variable (i : grid0.Coords) (r : ℕ) (hi : (i 1).val = r) (hr : r < 4)
  (v4 : Vec Ideal S1x16x1408 .bf16) (v9 : Vec Ideal S1x1024x1408 .bf16) (v12 : Vec Ideal S1x16x1408 .bf16)
  (l : Fin 1408) (A : ℕ → EReal)
  (hA : A 0 = 0 ∧ A 1 = 0)
  (h4 : r ≠ 0 → ∀ q : Fin 16, v4 (ix3 0 q l) = A (1024 * r + q.val - 14))
  (h9 : ∀ q : Fin 1024, v9 (ix3 0 q l) = A (1024 * r + q.val + 2))
  (h12 : r ≠ 3 → ∀ q : Fin 16, v12 (ix3 0 q l) = A (1024 * r + q.val + 1026))

include hi hr hA h4 h9 h12 in
/-- The block with its two halos is a stretch of the padded half. -/
theorem ext_at (q : Fin 1056) (hq : 14 ≤ q.val) (hq' : 1024 * r + q.val < 4112) :
    k0_pay4 i v4 v9 v12 (ix2 q l) = A (1024 * r + q.val - 14) := by
  pointwise [k0_pay4]
  rw [hi, first_iff r hr]
  by_cases h1 : q.val < 16
  · rw [dif_pos h1]
    by_cases h0 : r = 0
    · subst h0
      have : q.val = 14 ∨ q.val = 15 := by omega
      rcases this with h | h <;> simp [h, hA.1, hA.2, Scalar.select]
    · rw [if_neg h0, h4 h0]
      simp [Scalar.select]
  · rw [dif_neg h1]
    by_cases h2 : q.val - 16 < 1024
    · rw [dif_pos h2, h9]
      exact congrArg A (by dsimp only; omega)
    · rw [dif_neg h2, h12 (by omega)]
      exact congrArg A (by dsimp only; omega)

include hi hr hA h4 h9 h12 in
/-- The same one row down. -/
theorem ext1_at (q : Fin 1056) (hq : 15 ≤ q.val) (hq' : 1024 * r + q.val < 4113) :
    k0_pay5 i v4 v9 v12 (ix2 q l) = A (1024 * r + q.val - 15) := by
  pointwise [k0_pay5]
  rw [ext_at i r hi hr v4 v9 v12 l A hA h4 h9 h12 _ (by dsimp only; omega) (by dsimp only; omega)]
  exact congrArg A (by dsimp only; omega)

include hi hr hA h4 h9 h12 in
/-- The same two rows down. -/
theorem ext2_at (q : Fin 1056) (hq : 16 ≤ q.val) (hq' : 1024 * r + q.val < 4114) :
    k0_pay6 i v4 v9 v12 (ix2 q l) = A (1024 * r + q.val - 16) := by
  pointwise [k0_pay6]
  rw [ext_at i r hi hr v4 v9 v12 l A hA h4 h9 h12 _ (by dsimp only; omega) (by dsimp only; omega)]
  exact congrArg A (by dsimp only; omega)

variable (v18 v21 v25 v29 : Vec Ideal S1x1408 .f32)

include hi hr hA h4 h9 h12 in
/-- The convolution of a block's rows and of the rows that follow it. -/
theorem conv_at (k : Fin 1040) (hk : 1024 * r + k.val < 4096) :
    k0_pay7 i v4 v9 v12 v18 v21 v25 v29 (ix2 k l)
      = v18 (ix2 0 l) * A (1024 * r + k.val) + v21 (ix2 0 l) * A (1024 * r + k.val + 1)
        + v25 (ix2 0 l) * A (1024 * r + k.val + 2) + v29 (ix2 0 l) := by
  pointwise [k0_pay7]
  rw [ext_at i r hi hr v4 v9 v12 l A hA h4 h9 h12 _ (by dsimp only; omega) (by dsimp only; omega),
    ext1_at i r hi hr v4 v9 v12 l A hA h4 h9 h12 _ (by dsimp only; omega) (by dsimp only; omega),
    ext2_at i r hi hr v4 v9 v12 l A hA h4 h9 h12 _ (by dsimp only; omega) (by dsimp only; omega)]
  have e0 : 1024 * r + (16 + k.val) - 16 = 1024 * r + k.val := by omega
  have e1 : 1024 * r + (16 + k.val) - 15 = 1024 * r + k.val + 1 := by omega
  have e2 : 1024 * r + (16 + k.val) - 14 = 1024 * r + k.val + 2 := by omega
  simp only [e0, e1, e2]

end

section
variable (r : ℕ) (hr : r < 4) (v32 : FVec Ideal S1040x1408 .f32) (v33 : Vec Ideal S1x1024x1408 .bf16)
  (v35 : Vec Ideal S1x16x1408 .bf16) (v39 : Vec Ideal S1024x1408 .bf16) (v42 : Vec Ideal S16x1408 .bf16)
  (l : Fin 1408) (C M Z : ℕ → EReal)
  (h32 : ∀ k : Fin 1040, 1024 * r + k.val < 4096 → v32 (ix2 k l) = C (1024 * r + k.val))
  (h33 : ∀ q : Fin 1024, v33 (ix3 0 q l) = M (1024 * r + q.val))
  (h35 : r ≠ 3 → ∀ q : Fin 16, v35 (ix3 0 q l) = M (1024 * r + q.val + 1024))
  (h39 : ∀ q : Fin 1024, v39 (ix2 q l) = Z (1024 * r + q.val))
  (h42 : r ≠ 3 → ∀ q : Fin 16, v42 (ix2 q l) = Z (1024 * r + q.val + 1024))

/-- The gradient at the convolution's output from its three ingredients. -/
def dOf (C M Z : ℕ → EReal) (t : ℕ) : EReal := if t < 4096 then Z t * M t * Spec.slope (C t) else 0

include hr h32 h33 h35 h39 h42 in
/-- The gradient at the convolution's output, on a block's rows and the rows that follow it. -/
theorem grad_at (k : Fin 1040) :
    k0_pay10 (BitVec.ofNat 32 r) v32 v33 v35 v39 v42 (ix2 k l) = dOf C M Z (1024 * r + k.val) := by
  pointwise [k0_pay10, k0_pay8, k0_pay9]
  rw [last_iff r hr]
  unfold dOf
  by_cases h1 : k.val < 1024
  · have hk : 1024 * r + k.val < 4096 := by omega
    simp only [h1, hk, dite_true, if_true, h32 k hk, h33, h39]; rfl
  · by_cases h3 : r = 3
    · have hk : ¬ 1024 * r + k.val < 4096 := by omega
      simp [h1, h3, Scalar.select]
      intro h; omega
    · have hk : 1024 * r + k.val < 4096 := by omega
      have e : 1024 * r + (k.val - 1024) + 1024 = 1024 * r + k.val := by omega
      simp only [h1, hk, h3, dite_false, if_true, if_false, h32 k hk, h35 h3, h42 h3, e]
      simp [Scalar.select, Spec.slope]

variable (v58 v61 v65 : Vec Ideal S1x1408 .f32)

include hr h32 h33 h35 h39 h42 in
/-- The gradient at the convolved half, on a block's rows. -/
theorem back_at (q : Fin 1024) :
    k0_pay12 (k0_pay11 (BitVec.ofNat 32 r) v32 v33 v35 v39 v42 v58 v61 v65) (ix3 0 q l)
      = v58 (ix2 0 l) * dOf C M Z (1024 * r + q.val) + v61 (ix2 0 l) * dOf C M Z (1024 * r + q.val + 1)
        + v65 (ix2 0 l) * dOf C M Z (1024 * r + q.val + 2) := by
  pointwise [k0_pay12, k0_pay11]
  simp only [grad_at r hr v32 v33 v35 v39 v42 l C M Z h32 h33 h35 h39 h42]
  have e1 : 1024 * r + (q.val + 1040 - 1039) % 1040 = 1024 * r + q.val + 1 := by omega
  have e2 : 1024 * r + (q.val + 1040 - 1038) % 1040 = 1024 * r + q.val + 2 := by omega
  simp only [e1, e2]

include hr h32 h39 in
/-- The gradient at the multiplying half, on a block's rows. -/
theorem mult_at (q : Fin 1024) :
    k0_pay13 v32 (k0_pay8 v39) (k0_pay9 v32) (ix3 0 q l)
      = Z (1024 * r + q.val) * (C (1024 * r + q.val) * Ideal.logistic (C (1024 * r + q.val))) := by
  pointwise [k0_pay13, k0_pay8, k0_pay9]
  rw [h32 _ (by dsimp only; omega), h39]

/-- A block's part of the first tap's gradient. -/
theorem tap0_at (E : FVec Ideal S1056x1408 .f32) (g : FVec Ideal S1040x1408 .f32) (acc : Vec Ideal S1x1408 .f32)
    (D A : ℕ → EReal) (hg : ∀ k : Fin 1040, g (ix2 k l) = D (1024 * r + k.val)) (j : ℕ)
    (hE : ∀ q : Fin 1024, E (ix2 ⟨16 + q.val, by omega⟩ l) = A (1024 * r + q.val + j)) :
    k0_pay15 E g acc (ix2 0 l)
      = acc (ix2 0 l) + ∑ q ∈ Finset.range 1024, D (1024 * r + q) * A (1024 * r + q + j) := by
  pointwise [k0_pay15, k0_pay14]
  rw [Finset.sum_range (n := 1024)]
  refine congrArg (acc (ix2 0 l) + ·) (Finset.sum_congr rfl fun q _ => ?_)
  rw [hg, hE]

/-- A block's part of the second tap's gradient. -/
theorem tap1_at (E : FVec Ideal S1056x1408 .f32) (g : FVec Ideal S1040x1408 .f32) (acc : Vec Ideal S1x1408 .f32)
    (D A : ℕ → EReal) (hg : ∀ k : Fin 1040, g (ix2 k l) = D (1024 * r + k.val)) (j : ℕ)
    (hE : ∀ q : Fin 1024, E (ix2 ⟨16 + q.val, by omega⟩ l) = A (1024 * r + q.val + j)) :
    k0_pay16 E g acc (ix2 0 l)
      = acc (ix2 0 l) + ∑ q ∈ Finset.range 1024, D (1024 * r + q) * A (1024 * r + q + j) := by
  pointwise [k0_pay16, k0_pay14]
  rw [Finset.sum_range (n := 1024)]
  refine congrArg (acc (ix2 0 l) + ·) (Finset.sum_congr rfl fun q _ => ?_)
  rw [hg, hE]

/-- A block's part of the third tap's gradient. -/
theorem tap2_at (E : FVec Ideal S1056x1408 .f32) (g : FVec Ideal S1040x1408 .f32) (acc : Vec Ideal S1x1408 .f32)
    (D A : ℕ → EReal) (hg : ∀ k : Fin 1040, g (ix2 k l) = D (1024 * r + k.val)) (j : ℕ)
    (hE : ∀ q : Fin 1024, E (ix2 ⟨16 + q.val, by omega⟩ l) = A (1024 * r + q.val + j)) :
    k0_pay17 E g acc (ix2 0 l)
      = acc (ix2 0 l) + ∑ q ∈ Finset.range 1024, D (1024 * r + q) * A (1024 * r + q + j) := by
  pointwise [k0_pay17, k0_pay14]
  rw [Finset.sum_range (n := 1024)]
  refine congrArg (acc (ix2 0 l) + ·) (Finset.sum_congr rfl fun q _ => ?_)
  rw [hg, hE]

/-- A block's part of the bias's gradient. -/
theorem bias_at (g : FVec Ideal S1040x1408 .f32) (acc : Vec Ideal S1x1408 .f32)
    (D : ℕ → EReal) (hg : ∀ k : Fin 1040, g (ix2 k l) = D (1024 * r + k.val)) :
    k0_pay1 (k0_pay14 g) acc (ix2 0 l) = acc (ix2 0 l) + ∑ q ∈ Finset.range 1024, D (1024 * r + q) := by
  pointwise [k0_pay1, k0_pay14]
  rw [Finset.sum_range (n := 1024)]
  refine congrArg (acc (ix2 0 l) + ·) (Finset.sum_congr rfl fun q _ => ?_)
  rw [hg]

end

end Cert.KernelIdeal.Ffn
-- ==== Proof.Ffn.Outs.lean ====
/- The three arrays that the gradient kernel leaves, entry by entry. -/
module

public import proofs.«01_k».proof.Proof.Ffn.Body
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ffn

open Cert.KernelIdeal Cert.KernelIdeal.Gen Idealize.ShloMosaic Idealize.ShloMosaic.TcCoe Idealize.SL.Sem Cert.Spec
open Idealize.ShloMosaic.Pipeline (Dat)

/-! ## Where each window's block lies -/

theorem at0 : ∀ t : Fin cfg0.N, win0_0.index t = ![0, t.val % 4, t.val / 4] := (by decide +kernel : ∀ t : Fin grid0.N, _)
theorem at1 : ∀ t : Fin cfg0.N, win0_1.index t = ![0, t.val % 4 * 64 - 1, t.val / 4] := (by decide +kernel : ∀ t : Fin grid0.N, _)
theorem at2 : ∀ t : Fin cfg0.N, win0_2.index t = ![0, min ((t.val % 4 + 1) * 64) 255, t.val / 4] := (by decide +kernel : ∀ t : Fin grid0.N, _)
theorem at3 : ∀ t : Fin cfg0.N, win0_3.index t = ![t.val % 4, t.val / 4] := (by decide +kernel : ∀ t : Fin grid0.N, _)
theorem at4 : ∀ t : Fin cfg0.N, win0_4.index t = ![min ((t.val % 4 + 1) * 64) 255, t.val / 4] := (by decide +kernel : ∀ t : Fin grid0.N, _)
theorem at5 : ∀ t : Fin cfg0.N, win0_5.index t = ![0, t.val / 4] := (by decide +kernel : ∀ t : Fin grid0.N, _)
theorem at6 : ∀ t : Fin cfg0.N, win0_6.index t = ![0, t.val / 4] := (by decide +kernel : ∀ t : Fin grid0.N, _)
theorem at7 : ∀ t : Fin cfg0.N, win0_7.index t = ![0, t.val % 4, t.val / 4] := (by decide +kernel : ∀ t : Fin grid0.N, _)
theorem at8 : ∀ t : Fin cfg0.N, win0_8.index t = ![0, t.val / 4] := (by decide +kernel : ∀ t : Fin grid0.N, _)
theorem at9 : ∀ t : Fin cfg0.N, win0_9.index t = ![0, t.val / 4] := (by decide +kernel : ∀ t : Fin grid0.N, _)
theorem row_of : ∀ t : Fin cfg0.N, (grid0.coords t 1).val = t.val % 4 := (by decide +kernel : ∀ t : Fin grid0.N, _)
theorem points (t : Fin cfg0.N) : t.val < 16 := t.isLt.trans_eq N_0

variable (m : (ℓ : Loc nD τ sig) → Buf (Elt Ideal) ℓ) (c : Dev nD)

/-- The kernel's four arguments. -/
abbrev argH : Hid := m ((c : Thread nD τ).loc main_arg0)
abbrev argZ : Tok := m ((c : Thread nD τ).loc main_arg1)
abbrev argW : Taps := m ((c : Thread nD τ).loc main_arg2)
abbrev argB : Bias := m ((c : Thread nD τ).loc main_arg3)

/-- The channel that lane `l` of the blocks of point `t` holds. -/
def lane (t : Fin cfg0.N) (l : Fin 1408) : Fin 5632 := ⟨1408 * (t.val / 4) + l.val, by have := points t; omega⟩

theorem blk0 (t : Fin cfg0.N) (h : Fin 2) (q : Fin 1024) (l : Fin 1408) :
    iblk m c 0 t (ix3 h q l) = argH m c (ix3 h ⟨1024 * (t.val % 4) + q.val, by omega⟩ (lane t l)) := by
  blk_ext! [iblk, V, at0 t, lane, argH]

theorem blk1 (t : Fin cfg0.N) (h : t.val % 4 ≠ 0) (q : Fin 16) (l : Fin 1408) :
    iblk m c 1 t (ix3 0 q l) = argH m c (ix3 0 ⟨1024 * (t.val % 4) + q.val - 16, by omega⟩ (lane t l)) := by
  blk_ext! [iblk, V, at1 t, lane, argH]

theorem blk2 (t : Fin cfg0.N) (h : t.val % 4 ≠ 3) (z : Fin 2) (q : Fin 16) (l : Fin 1408) :
    iblk m c 2 t (ix3 z q l) = argH m c (ix3 z ⟨1024 * (t.val % 4) + q.val + 1024, by omega⟩ (lane t l)) := by
  blk_ext! [iblk, V, at2 t, lane, argH]

theorem blk3 (t : Fin cfg0.N) (q : Fin 1024) (l : Fin 1408) :
    iblk m c 3 t (ix2 q l) = argZ m c (ix2 ⟨1024 * (t.val % 4) + q.val, by omega⟩ (lane t l)) := by
  blk_ext! [iblk, V, at3 t, lane, argZ]

theorem blk4 (t : Fin cfg0.N) (h : t.val % 4 ≠ 3) (q : Fin 16) (l : Fin 1408) :
    iblk m c 4 t (ix2 q l) = argZ m c (ix2 ⟨1024 * (t.val % 4) + q.val + 1024, by omega⟩ (lane t l)) := by
  blk_ext! [iblk, V, at4 t, lane, argZ]

theorem blk5 (t : Fin cfg0.N) (j : Fin 3) (l : Fin 1408) :
    iblk m c 5 t (ix2 j l) = argW m c (ix2 j (lane t l)) := by
  blk_ext! [iblk, V, at5 t, lane, argW]

theorem blk6 (t : Fin cfg0.N) (l : Fin 1408) :
    iblk m c 6 t (ix2 0 l) = argB m c (ix2 0 (lane t l)) := by
  blk_ext! [iblk, V, at6 t, lane, argB]

/-! ## The loaded stretches of one point, at one lane -/

theorem padded_zero (H : Hid) (l : Fin 5632) : padded H l 0 = 0 ∧ padded H l 1 = 0 := by
  constructor <;> exact dif_neg (by omega)

theorem padded_at (H : Hid) (l : Fin 5632) (s : ℕ) (n : Fin 4096) (h : s = n.val + 2) : padded H l s = H (ix3 0 n l) := by
  subst h
  unfold padded
  rw [dif_pos ⟨by omega, by omega⟩]
  rfl

/-- A column of the multiplying half, zero past its end. -/
def mulCol (H : Hid) (l : Fin 5632) (t : ℕ) : EReal := if h : t < 4096 then H (ix3 1 ⟨t, h⟩ l) else 0
/-- A column of the incoming gradient, zero past its end. -/
def inCol (Z : Tok) (l : Fin 5632) (t : ℕ) : EReal := if h : t < 4096 then Z (ix2 ⟨t, h⟩ l) else 0

theorem mulCol_at (H : Hid) (l : Fin 5632) (s : ℕ) (n : Fin 4096) (h : s = n.val) : mulCol H l s = H (ix3 1 n l) := by
  subst h; exact dif_pos n.isLt
theorem inCol_at (Z : Tok) (l : Fin 5632) (s : ℕ) (n : Fin 4096) (h : s = n.val) : inCol Z l s = Z (ix2 n l) := by
  subst h; exact dif_pos n.isLt

theorem dOf_eq (H : Hid) (Z : Tok) (W : Taps) (B : Bias) (l : Fin 5632) :
    dOf (conv H W B l) (mulCol H l) (inCol Z l) = dConv H Z W B l := by
  funext t
  unfold dOf dConv mulCol inCol
  by_cases h : t < 4096 <;> simp [h]

/-- Half 0 of the main block. -/
abbrev main0 (t : Fin cfg0.N) : Vec Ideal S1x1024x1408 .bf16 :=
  View.ld (iblk m c 0 t) (Rect.unit ![0, 0, 0] ![1, 1024, 1408] inb_S2x1024x1408_S1x1024x1408_0_0_0)
/-- Half 1 of the main block. -/
abbrev main1 (t : Fin cfg0.N) : Vec Ideal S1x1024x1408 .bf16 :=
  View.ld (iblk m c 0 t) (Rect.unit ![1, 0, 0] ![1, 1024, 1408] inb_S2x1024x1408_S1x1024x1408_1_0_0)
/-- Half 0 of the rows that follow. -/
abbrev next0 (t : Fin cfg0.N) : Vec Ideal S1x16x1408 .bf16 :=
  View.ld (iblk m c 2 t) (Rect.unit ![0, 0, 0] ![1, 16, 1408] inb_S2x16x1408_S1x16x1408_0_0_0)
/-- Half 1 of the rows that follow. -/
abbrev next1 (t : Fin cfg0.N) : Vec Ideal S1x16x1408 .bf16 :=
  View.ld (iblk m c 2 t) (Rect.unit ![1, 0, 0] ![1, 16, 1408] inb_S2x16x1408_S1x16x1408_1_0_0)
/-- Tap 0. -/
abbrev w0 (t : Fin cfg0.N) : Vec Ideal S1x1408 .f32 :=
  View.ld (iblk m c 5 t) (Rect.unit ![0, 0] ![1, 1408] inb_S3x1408_S1x1408_0_0)
/-- Tap 1. -/
abbrev w1 (t : Fin cfg0.N) : Vec Ideal S1x1408 .f32 :=
  View.ld (iblk m c 5 t) (Rect.unit ![1, 0] ![1, 1408] inb_S3x1408_S1x1408_1_0)
/-- Tap 2. -/
abbrev w2 (t : Fin cfg0.N) : Vec Ideal S1x1408 .f32 :=
  View.ld (iblk m c 5 t) (Rect.unit ![2, 0] ![1, 1408] inb_S3x1408_S1x1408_2_0)

section
variable (t : Fin cfg0.N) (l : Fin 1408)

theorem main0_at (q : Fin 1024) :
    main0 m c t (ix3 0 q l) = padded (argH m c) (lane t l) (1024 * (t.val % 4) + q.val + 2) := by
  rw [padded_at _ _ _ ⟨1024 * (t.val % 4) + q.val, by omega⟩ rfl, ← blk0]
  pointwise [main0, main1, next0, next1]
theorem main1_at (q : Fin 1024) :
    main1 m c t (ix3 0 q l) = mulCol (argH m c) (lane t l) (1024 * (t.val % 4) + q.val) := by
  rw [mulCol_at _ _ _ ⟨1024 * (t.val % 4) + q.val, by omega⟩ rfl, ← blk0]
  pointwise [main0, main1, next0, next1]
theorem next0_at (h : t.val % 4 ≠ 3) (q : Fin 16) :
    next0 m c t (ix3 0 q l) = padded (argH m c) (lane t l) (1024 * (t.val % 4) + q.val + 1026) := by
  rw [padded_at _ _ _ ⟨1024 * (t.val % 4) + q.val + 1024, by omega⟩ rfl, ← blk2 m c t h]
  pointwise [main0, main1, next0, next1]
theorem next1_at (h : t.val % 4 ≠ 3) (q : Fin 16) :
    next1 m c t (ix3 0 q l) = mulCol (argH m c) (lane t l) (1024 * (t.val % 4) + q.val + 1024) := by
  rw [mulCol_at _ _ _ ⟨1024 * (t.val % 4) + q.val + 1024, by omega⟩ rfl, ← blk2 m c t h]
  pointwise [main0, main1, next0, next1]
theorem prev_at (h : t.val % 4 ≠ 0) (q : Fin 16) :
    iblk m c 1 t (ix3 0 q l) = padded (argH m c) (lane t l) (1024 * (t.val % 4) + q.val - 14) := by
  rw [padded_at _ _ _ ⟨1024 * (t.val % 4) + q.val - 16, by omega⟩ (by dsimp only; omega), ← blk1 m c t h]
theorem z_at (q : Fin 1024) :
    iblk m c 3 t (ix2 q l) = inCol (argZ m c) (lane t l) (1024 * (t.val % 4) + q.val) := by
  rw [inCol_at _ _ _ ⟨1024 * (t.val % 4) + q.val, by omega⟩ rfl, ← blk3]
theorem znext_at (h : t.val % 4 ≠ 3) (q : Fin 16) :
    iblk m c 4 t (ix2 q l) = inCol (argZ m c) (lane t l) (1024 * (t.val % 4) + q.val + 1024) := by
  rw [inCol_at _ _ _ ⟨1024 * (t.val % 4) + q.val + 1024, by omega⟩ rfl, ← blk4 m c t h]
theorem w0_at : w0 m c t (ix2 0 l) = argW m c (ix2 0 (lane t l)) := by
  rw [← blk5]; pointwise [w0, w1, w2]
theorem w1_at : w1 m c t (ix2 0 l) = argW m c (ix2 1 (lane t l)) := by
  rw [← blk5]; pointwise [w0, w1, w2]
theorem w2_at : w2 m c t (ix2 0 l) = argW m c (ix2 2 (lane t l)) := by
  rw [← blk5]; pointwise [w0, w1, w2]

end

/-! ## The values of one point -/

/-- The convolution's values of one point. -/
abbrev cv (t : Fin cfg0.N) : FVec Ideal S1040x1408 .f32 :=
  k0_pay7 (grid0.coords t) (iblk m c 1 t) (main0 m c t) (next0 m c t) (w0 m c t) (w1 m c t) (w2 m c t) (iblk m c 6 t)
/-- The gradient at the convolution's output, of one point. -/
abbrev gr (t : Fin cfg0.N) : FVec Ideal S1040x1408 .f32 :=
  k0_pay10 (BitVec.ofNat 32 (grid0.coords t 1).val) (cv m c t) (main1 m c t) (next1 m c t) (iblk m c 3 t) (iblk m c 4 t)

/-- The channel's gradient at the convolution's output. -/
abbrev dcol (l : Fin 5632) : ℕ → EReal := dConv (argH m c) (argZ m c) (argW m c) (argB m c) l

section
variable (t : Fin cfg0.N) (l : Fin 1408)

theorem cv_at (k : Fin 1040) (hk : 1024 * (t.val % 4) + k.val < 4096) :
    cv m c t (ix2 k l) = conv (argH m c) (argW m c) (argB m c) (lane t l) (1024 * (t.val % 4) + k.val) := by
  rw [cv, conv_at (grid0.coords t) (t.val % 4) (row_of t) (by omega) _ _ _ l (padded (argH m c) (lane t l))
    (padded_zero _ _) (prev_at m c t l) (main0_at m c t l) (next0_at m c t l) _ _ _ _ k hk, w0_at, w1_at, w2_at, blk6]
  rfl

theorem gr_at (k : Fin 1040) :
    gr m c t (ix2 k l) = dcol m c (lane t l) (1024 * (t.val % 4) + k.val) := by
  rw [gr, row_of, grad_at (t.val % 4) (by omega) _ _ _ _ _ l _ _ _ (cv_at m c t l) (main1_at m c t l) (next1_at m c t l)
    (z_at m c t l) (znext_at m c t l), dOf_eq]

/-- Half 0 of the outgoing block. -/
theorem out0_at (q : Fin 1024) :
    k0_pay12 (k0_pay11 (BitVec.ofNat 32 (grid0.coords t 1).val) (cv m c t) (main1 m c t) (next1 m c t) (iblk m c 3 t)
        (iblk m c 4 t) (w2 m c t) (w1 m c t) (w0 m c t)) (ix3 0 q l)
      = dHid (argH m c) (argZ m c) (argW m c) (argB m c) (ix3 0 ⟨1024 * (t.val % 4) + q.val, by omega⟩ (lane t l)) := by
  rw [row_of, back_at (t.val % 4) (by omega) _ _ _ _ _ l _ _ _ (cv_at m c t l) (main1_at m c t l) (next1_at m c t l)
    (z_at m c t l) (znext_at m c t l), dOf_eq, w0_at, w1_at, w2_at]
  rfl

/-- Half 1 of the outgoing block. -/
theorem out1_at (q : Fin 1024) :
    k0_pay13 (cv m c t) (k0_pay8 (iblk m c 3 t)) (k0_pay9 (cv m c t)) (ix3 0 q l)
      = dHid (argH m c) (argZ m c) (argW m c) (argB m c) (ix3 1 ⟨1024 * (t.val % 4) + q.val, by omega⟩ (lane t l)) := by
  rw [mult_at (t.val % 4) (by omega) _ _ l _ _ (cv_at m c t l) (z_at m c t l),
    inCol_at _ _ _ ⟨1024 * (t.val % 4) + q.val, by omega⟩ rfl]
  rfl

/-- What one point adds to tap `j`'s gradient. -/
abbrev tapPart (t : Fin cfg0.N) (l : Fin 1408) (j : ℕ) : EReal :=
  ∑ q ∈ Finset.range 1024, dcol m c (lane t l) (1024 * (t.val % 4) + q)
    * padded (argH m c) (lane t l) (1024 * (t.val % 4) + q + j)

theorem part0_at (acc : Vec Ideal S1x1408 .f32) :
    k0_pay15 (k0_pay6 (grid0.coords t) (iblk m c 1 t) (main0 m c t) (next0 m c t)) (gr m c t) acc (ix2 0 l)
      = acc (ix2 0 l) + tapPart m c t l 0 := by
  refine tap0_at (t.val % 4) l _ _ acc _ (padded (argH m c) (lane t l)) (gr_at m c t l) 0 fun q => ?_
  rw [ext2_at (grid0.coords t) (t.val % 4) (row_of t) (by omega) _ _ _ l (padded (argH m c) (lane t l))
    (padded_zero _ _) (prev_at m c t l) (main0_at m c t l) (next0_at m c t l) _ (by dsimp only; omega) (by dsimp only; omega)]
  exact congrArg _ (by dsimp only; omega)

theorem part1_at (acc : Vec Ideal S1x1408 .f32) :
    k0_pay16 (k0_pay5 (grid0.coords t) (iblk m c 1 t) (main0 m c t) (next0 m c t)) (gr m c t) acc (ix2 0 l)
      = acc (ix2 0 l) + tapPart m c t l 1 := by
  refine tap1_at (t.val % 4) l _ _ acc _ (padded (argH m c) (lane t l)) (gr_at m c t l) 1 fun q => ?_
  rw [ext1_at (grid0.coords t) (t.val % 4) (row_of t) (by omega) _ _ _ l (padded (argH m c) (lane t l))
    (padded_zero _ _) (prev_at m c t l) (main0_at m c t l) (next0_at m c t l) _ (by dsimp only; omega) (by dsimp only; omega)]
  exact congrArg _ (by dsimp only; omega)

theorem part2_at (acc : Vec Ideal S1x1408 .f32) :
    k0_pay17 (k0_pay4 (grid0.coords t) (iblk m c 1 t) (main0 m c t) (next0 m c t)) (gr m c t) acc (ix2 0 l)
      = acc (ix2 0 l) + tapPart m c t l 2 := by
  refine tap2_at (t.val % 4) l _ _ acc _ (padded (argH m c) (lane t l)) (gr_at m c t l) 2 fun q => ?_
  rw [ext_at (grid0.coords t) (t.val % 4) (row_of t) (by omega) _ _ _ l (padded (argH m c) (lane t l))
    (padded_zero _ _) (prev_at m c t l) (main0_at m c t l) (next0_at m c t l) _ (by dsimp only; omega) (by dsimp only; omega)]
  exact congrArg _ (by dsimp only; omega)

/-- What one point adds to the bias's gradient. -/
abbrev biasPart (t : Fin cfg0.N) (l : Fin 1408) : EReal :=
  ∑ q ∈ Finset.range 1024, dcol m c (lane t l) (1024 * (t.val % 4) + q)

theorem partb_at (acc : Vec Ideal S1x1408 .f32) :
    k0_pay1 (k0_pay14 (gr m c t)) acc (ix2 0 l) = acc (ix2 0 l) + biasPart m c t l :=
  bias_at (t.val % 4) l _ acc _ (gr_at m c t l)

end

end Cert.KernelIdeal.Ffn
-- ==== Proof.Ffn.Final.lean ====
/- The three result arrays of the gradient kernel. -/
module

public import proofs.«01_k».proof.Proof.Ffn.Outs

@[expose] public section

set_option maxRecDepth 16384

noncomputable section

namespace Cert.KernelIdeal.Ffn

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ) (c : Dev nD)

/-- The gradient at the hidden array. -/
abbrev gHid : Hid := dHid (argH m c) (argZ m c) (argW m c) (argB m c)

theorem block_eq (x : S1x1024x1408.Idx) (q : Fin 1024) (l : Fin 1408) (h1 : q.val = (x 1).val) (h2 : l.val = (x 2).val) :
    x = ix3 0 q l := by
  funext a
  fin_cases a
  · exact Subsingleton.elim (α := Fin 1) _ _
  · exact Fin.ext h1.symm
  · exact Fin.ext h2.symm

theorem row_eq (x : S1x1408.Idx) (l : Fin 1408) (h1 : l.val = (x 1).val) : x = ix2 0 l := by
  funext a
  fin_cases a
  · exact Subsingleton.elim (α := Fin 1) _ _
  · exact Fin.ext h1.symm

/-- The block of the hidden gradient that a point leaves. -/
theorem hid_at (t : Fin cfg0.N) (z : Fin 2) (q : Fin 1024) (l : Fin 1408) :
    (outsAt0 m c t.val t.isLt).1 (ix3 z q l)
      = gHid m c (ix3 z ⟨1024 * (t.val % 4) + q.val, by omega⟩ (lane t l)) := by
  by_cases hm : t.val % 4 = 0
  · rw [outsAt0_A m c t hm]
    frame_out
    canon_tiles x h
    · obtain rfl : z = 1 := Fin.ext (by change z.val = _ at h0; change z.val = 1; omega)
      rw [block_eq x q l h1 h2]
      exact out1_at m c t l q
    · obtain rfl : z = 0 := Fin.ext (by change z.val = _ at h0; change z.val = 0; omega)
      rw [block_eq x q l h1 h2]
      exact out0_at m c t l q
  · rw [outsAt0_B m c t hm]
    frame_out
    canon_tiles x h
    · obtain rfl : z = 1 := Fin.ext (by change z.val = _ at h0; change z.val = 1; omega)
      rw [block_eq x q l h1 h2]
      exact out1_at m c t l q
    · obtain rfl : z = 0 := Fin.ext (by change z.val = _ at h0; change z.val = 0; omega)
      rw [block_eq x q l h1 h2]
      exact out0_at m c t l q

/-- The three rows that a channel block's first point stores. -/
def firstRows (t : Fin cfg0.N) : Vec Ideal S3x1408 .f32 := fun i => 0 + tapPart m c t (i 1) (i 0).val

/-- The first point's step of the taps' gradient. -/
theorem taps_A (t : Fin cfg0.N) (hm : t.val % 4 = 0) (j : Fin 3) (l : Fin 1408) :
    (outsAt0 m c t.val t.isLt).2.1 (ix2 j l) = 0 + tapPart m c t l j.val := by
  rw [outsAt0_A m c t hm]
  frame_open
  simp (disch := decide) only [↓ View.readCov_skip, ↓ View.readCov_cons_toLoadRect, ↓ View.readCov_fill]
  frame_out
  refine View.canon_append_of_piecesOf (firstRows m c t) [_] [_, _, _]
    ⟨fun x => ?_, fun x => ?_, fun x => ?_, trivial⟩ (ix2 j l) ?_
  · idx_vars x
    obtain rfl : x0 = 0 := Subsingleton.elim _ _
    refine (part2_at m c t x1 _).trans (congrArg₂ (· + ·) ?_ ?_)
    · pointwise [k0_pay2]
    · congr 1
      exact Fin.ext (by first | (change x1.val = 0 + x1.val * 1; omega) | (change x1.val = 0 + 1 * x1.val; omega) | (change x1.val = 0 + x1.val; omega))
  · idx_vars x
    obtain rfl : x0 = 0 := Subsingleton.elim _ _
    refine (part1_at m c t x1 _).trans (congrArg₂ (· + ·) ?_ ?_)
    · pointwise [k0_pay2]
    · congr 1
      exact Fin.ext (by first | (change x1.val = 0 + x1.val * 1; omega) | (change x1.val = 0 + 1 * x1.val; omega) | (change x1.val = 0 + x1.val; omega))
  · idx_vars x
    obtain rfl : x0 = 0 := Subsingleton.elim _ _
    refine (part0_at m c t x1 _).trans (congrArg₂ (· + ·) ?_ ?_)
    · pointwise [k0_pay2]
    · congr 1
      exact Fin.ext (by first | (change x1.val = 0 + x1.val * 1; omega) | (change x1.val = 0 + 1 * x1.val; omega) | (change x1.val = 0 + x1.val; omega))
  · exact View.cover_of_tiledL _ ![1, 1408] (by sl_kernel_rfl) _

/-- A later point's step of the taps' gradient. -/
theorem taps_B (t : Fin cfg0.N) (hm : ¬t.val % 4 = 0) (j : Fin 3) (l : Fin 1408) :
    (outsAt0 m c t.val t.isLt).2.1 (ix2 j l)
      = (outsAt0 m c (t.val - 1) (Nat.lt_of_le_of_lt (Nat.sub_le _ _) t.isLt)).2.1 (ix2 j l) + tapPart m c t l j.val := by
  rw [outsAt0_B m c t hm]
  frame_out
  canon_tiles x h
  · obtain rfl : j = 2 := Fin.ext (by change j.val = _ at h0; change j.val = 2; omega)
    rw [row_eq x l h1]
    refine (part2_at m c t l _).trans (congrArg (· + _) ?_)
    pointwise
  · obtain rfl : j = 1 := Fin.ext (by change j.val = _ at h0; change j.val = 1; omega)
    rw [row_eq x l h1]
    refine (part1_at m c t l _).trans (congrArg (· + _) ?_)
    pointwise
  · obtain rfl : j = 0 := Fin.ext (by change j.val = _ at h0; change j.val = 0; omega)
    rw [row_eq x l h1]
    refine (part0_at m c t l _).trans (congrArg (· + _) ?_)
    pointwise

/-- The first point's step of the bias's gradient. -/
theorem bias_A (t : Fin cfg0.N) (hm : t.val % 4 = 0) (l : Fin 1408) :
    (outsAt0 m c t.val t.isLt).2.2 (ix2 0 l) = 0 + biasPart m c t l := by
  rw [outsAt0_A m c t hm]
  frame_open
  simp (disch := decide) only [↓ View.readCov_skip, ↓ View.readCov_cons_toLoadRect, ↓ View.readCov_fill]
  frame_out
  refine (partb_at m c t l _).trans (congrArg (· + _) ?_)
  pointwise [k0_pay3]

/-- A later point's step of the bias's gradient. -/
theorem bias_B (t : Fin cfg0.N) (hm : ¬t.val % 4 = 0) (l : Fin 1408) :
    (outsAt0 m c t.val t.isLt).2.2 (ix2 0 l)
      = (outsAt0 m c (t.val - 1) (Nat.lt_of_le_of_lt (Nat.sub_le _ _) t.isLt)).2.2 (ix2 0 l) + biasPart m c t l := by
  rw [outsAt0_B m c t hm]
  frame_out
  exact partb_at m c t l _

/-- Lane `l` of channel block `b`. -/
def chan (b : ℕ) (l : Fin 1408) : Fin 5632 := ⟨1408 * (b % 4) + l.val, by omega⟩

theorem lane_eq (t : Fin cfg0.N) (l : Fin 1408) : lane t l = chan (t.val / 4) l :=
  Fin.ext (by have := points t; unfold lane chan; dsimp only; omega)

/-- The taps' gradient after the last row block of a channel block. -/
theorem taps_at (t : Fin cfg0.N) (h3 : t.val % 4 = 3) (j : Fin 3) (l : Fin 1408) :
    (outsAt0 m c t.val t.isLt).2.1 (ix2 j l)
      = dTaps (argH m c) (argZ m c) (argW m c) (argB m c) (ix2 j (lane t l)) := by
  have := Pipeline.eq_sum_of_reset_step_apply_divmod (fun n h => (outsAt0 m c n h).2.1) 4 (fun _ => 0)
    (fun b r (i : S3x1408.Idx) => ∑ q ∈ Finset.range 1024, dcol m c (chan b (i 1)) (1024 * r + q)
      * padded (argH m c) (chan b (i 1)) (1024 * r + q + (i 0).val))
    (fun t h i => by idx_vars i; rw [taps_A m c t h]; unfold tapPart; simp only [lane_eq])
    (fun t h i => by idx_vars i; rw [taps_B m c t h]; unfold tapPart; simp only [lane_eq]) t (ix2 j l)
  refine this.trans ?_
  rw [h3, zero_add, lane_eq]
  refine Eq.trans ?_ (Finset.sum_range_mul_split 4 1024 _).symm
  refine Finset.sum_congr rfl fun r _ => Finset.sum_congr rfl fun q _ => ?_
  rw [Nat.mul_comm r 1024]
  rfl

/-- The bias's gradient after the last row block of a channel block. -/
theorem bias_sum_at (t : Fin cfg0.N) (h3 : t.val % 4 = 3) (l : Fin 1408) :
    (outsAt0 m c t.val t.isLt).2.2 (ix2 0 l)
      = dBias (argH m c) (argZ m c) (argW m c) (argB m c) (ix2 0 (lane t l)) := by
  have := Pipeline.eq_sum_of_reset_step_apply_divmod (fun n h => (outsAt0 m c n h).2.2) 4 (fun _ => 0)
    (fun b r (i : S1x1408.Idx) => ∑ q ∈ Finset.range 1024, dcol m c (chan b (i 1)) (1024 * r + q))
    (fun t h i => by idx_vars i; obtain rfl : i0 = 0 := Subsingleton.elim _ _; rw [bias_A m c t h]; unfold biasPart; simp only [lane_eq])
    (fun t h i => by idx_vars i; obtain rfl : i0 = 0 := Subsingleton.elim _ _; rw [bias_B m c t h]; unfold biasPart; simp only [lane_eq]) t (ix2 0 l)
  refine this.trans ?_
  rw [h3, zero_add, lane_eq]
  refine Eq.trans ?_ (Finset.sum_range_mul_split 4 1024 _).symm
  refine Finset.sum_congr rfl fun r _ => Finset.sum_congr rfl fun q _ => ?_
  rw [Nat.mul_comm r 1024]
  rfl

/-! ## The arrays after the run -/

theorem arr7 : (dats m 0 c).arrAt 7 cfg0.N = gHid m c := by
  refine (dats m 0 c).arrAt_eq_of_covers 7 _ (by decide +kernel) fun t hf y => ?_
  blk_simp
  rw [after0_7]
  idx_vars y
  rw [hid_at]
  generalize gHid m c = G
  blk_ext! [at7 t, lane]

theorem arr8 : (dats m 0 c).arrAt 8 cfg0.N = dTaps (argH m c) (argZ m c) (argW m c) (argB m c) := by
  refine (dats m 0 c).arrAt_eq_of_covers 8 _ (by decide +kernel) fun t hf y => ?_
  blk_simp
  rw [after0_8]
  idx_vars y
  rw [taps_at m c t ((flush0_8 t).mp hf)]
  generalize dTaps (argH m c) (argZ m c) (argW m c) (argB m c) = G
  blk_ext! [at8 t, lane]

theorem arr9 : (dats m 0 c).arrAt 9 cfg0.N = dBias (argH m c) (argZ m c) (argW m c) (argB m c) := by
  refine (dats m 0 c).arrAt_eq_of_covers 9 _ (by decide +kernel) fun t hf y => ?_
  blk_simp
  rw [after0_9]
  idx_vars y
  obtain rfl : y0 = 0 := Subsingleton.elim _ _
  rw [bias_sum_at m c t ((flush0_9 t).mp hf)]
  generalize dBias (argH m c) (argZ m c) (argW m c) (argB m c) = G
  blk_ext! [at9 t, lane]

end Cert.KernelIdeal.Ffn
-- ==== Proof.lean ====
module

public import proofs.«01_k».proof.Proof.Gen.KernelIdeal.Value
public import proofs.«01_k».proof.Proof.Gen.ReferenceIdeal.Run
public import proofs.«01_k».proof.Proof.Gen.DwDown.Frame
public import proofs.«01_k».proof.Proof.Mm.DwDown
public import proofs.«01_k».proof.Proof.Gen.DZ.Frame
public import proofs.«01_k».proof.Proof.Mm.DZ
public import proofs.«01_k».proof.Proof.Gen.DwUp.Frame
public import proofs.«01_k».proof.Proof.Mm.DwUp
public import proofs.«01_k».proof.Proof.Gen.DUp.Frame
public import proofs.«01_k».proof.Proof.Mm.DUp
public import proofs.«01_k».proof.Proof.Gen.DwOut.Frame
public import proofs.«01_k».proof.Proof.Mm.DwOut
public import proofs.«01_k».proof.Proof.Gen.DOut.Frame
public import proofs.«01_k».proof.Proof.Mm.DOut
public import proofs.«01_k».proof.Proof.Gen.DwSgIn.Frame
public import proofs.«01_k».proof.Proof.Mm.DwSgIn
public import proofs.«01_k».proof.Proof.Gen.DSgIn.Frame
public import proofs.«01_k».proof.Proof.Mm.DSgIn
public import proofs.«01_k».proof.Proof.Gen.DwHgIn.Frame
public import proofs.«01_k».proof.Proof.Mm.DwHgIn
public import proofs.«01_k».proof.Proof.Gen.DHgIn.Frame
public import proofs.«01_k».proof.Proof.Mm.DHgIn
public import proofs.«01_k».proof.Proof.Gen.HgIn.Frame
public import proofs.«01_k».proof.Proof.Mm.HgIn
public import proofs.«01_k».proof.Proof.Gen.MixOut.Frame
public import proofs.«01_k».proof.Proof.Mm.MixOut
public import proofs.«01_k».proof.Proof.Gen.Up.Frame
public import proofs.«01_k».proof.Proof.Mm.Up
public import proofs.«01_k».proof.Proof.Gen.Down.Frame
public import proofs.«01_k».proof.Proof.Mm.Down
public import proofs.«01_k».proof.Proof.Gen.SgIn.Frame
public import proofs.«01_k».proof.Proof.Mm.SgIn
public import proofs.«01_k».proof.Proof.Gen.AdamLb.Frame
public import proofs.«01_k».proof.Proof.Adam.AdamLb
public import proofs.«01_k».proof.Proof.Gen.AdamNorm.Frame
public import proofs.«01_k».proof.Proof.Adam.AdamNorm
public import proofs.«01_k».proof.Proof.Gen.AdamSgLn.Frame
public import proofs.«01_k».proof.Proof.Adam.AdamSgLn
public import proofs.«01_k».proof.Proof.Gen.AdamSgWs.Frame
public import proofs.«01_k».proof.Proof.Adam.AdamSgWs
public import proofs.«01_k».proof.Proof.Gen.AdamSgBs.Frame
public import proofs.«01_k».proof.Proof.Adam.AdamSgBs
public import proofs.«01_k».proof.Proof.Gen.AdamConvW.Frame
public import proofs.«01_k».proof.Proof.Adam.AdamConvW
public import proofs.«01_k».proof.Proof.Gen.AdamConvB.Frame
public import proofs.«01_k».proof.Proof.Adam.AdamConvB
public import proofs.«01_k».proof.Proof.Gen.AdamLn.Frame
public import proofs.«01_k».proof.Proof.Adam.AdamLn
public import proofs.«01_k».proof.Proof.Gen.AdamHgIn.Frame
public import proofs.«01_k».proof.Proof.Adam.AdamHgIn
public import proofs.«01_k».proof.Proof.Gen.AdamOut.Frame
public import proofs.«01_k».proof.Proof.Adam.AdamOut
public import proofs.«01_k».proof.Proof.Gen.AdamSgIn.Frame
public import proofs.«01_k».proof.Proof.Adam.AdamSgIn
public import proofs.«01_k».proof.Proof.Gen.AdamUp.Frame
public import proofs.«01_k».proof.Proof.Adam.AdamUp
public import proofs.«01_k».proof.Proof.Gen.AdamDown.Frame
public import proofs.«01_k».proof.Proof.Adam.AdamDown
public import proofs.«01_k».proof.Proof.Gen.LnFwd.Frame
public import proofs.«01_k».proof.Proof.Ln.LnFwd
public import proofs.«01_k».proof.Proof.Gen.FfnFwd.Frame
public import proofs.«01_k».proof.Proof.Ffn.Fwd
public import proofs.«01_k».proof.Proof.Gen.SumSmall.Frame
public import proofs.«01_k».proof.Proof.Ln.Unpack
public import proofs.«01_k».proof.Proof.Gen.LnBwd.Frame
public import proofs.«01_k».proof.Proof.Ln.LnBwd
public import proofs.«01_k».proof.Proof.Ln.LnBwdRef
public import proofs.«01_k».proof.Proof.Ln.Finite
public import proofs.«01_k».proof.Proof.Gen.LnLoss.Frame
public import proofs.«01_k».proof.Proof.Ln.LnLoss
public import proofs.«01_k».proof.Proof.Ln.LnLossRef
public import proofs.«01_k».proof.Proof.Ln.Finite
public import proofs.«01_k».proof.Proof.Gen.SgFwd.Frame
public import proofs.«01_k».proof.Proof.Sg.SgFwd
public import proofs.«01_k».proof.Proof.Sg.SgFwdRef
public import proofs.«01_k».proof.Proof.Gen.SgBwd.Frame
public import proofs.«01_k».proof.Proof.Gen.SgBwdIdeal.Value
public import proofs.«01_k».proof.Proof.Gen.SgBwdRefIdeal.Frame
public import proofs.«01_k».proof.Proof.Sg.SgBwd
public import proofs.«01_k».proof.Proof.Sg.SgBwdRun
public import proofs.«01_k».proof.Defs
public import proofs.«01_k».proof.Proof.Ffn.Final
public import proofs.«01_k».proof.Proof.Ffn.Ref
public import proofs.«01_k».proof.Proof.Ffn.Finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.ShloMosaic.TcCoe Idealize.SL.Sem

/-- The kernel and the reference leave the same three arrays. -/
theorem ffn : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  refine ⟨fun c => Cert.KernelIdeal.Ffn.gHid m c,
    fun c => Cert.Spec.dTaps (Cert.KernelIdeal.Ffn.argH m c) (Cert.KernelIdeal.Ffn.argZ m c) (Cert.KernelIdeal.Ffn.argW m c) (Cert.KernelIdeal.Ffn.argB m c),
    fun c => Cert.Spec.dBias (Cert.KernelIdeal.Ffn.argH m c) (Cert.KernelIdeal.Ffn.argZ m c) (Cert.KernelIdeal.Ffn.argW m c) (Cert.KernelIdeal.Ffn.argB m c), ?_, ?_⟩
  · refine (θ_run _ _ _).mono (fun r h c => ?_) (Cert.KernelIdeal.Value.run_blocks m ρ)
    obtain ⟨h0, h1, h2, h3⟩ := h c
    exact ⟨h0.trans (Cert.KernelIdeal.Ffn.arr7 m c), h1.trans (Cert.KernelIdeal.Ffn.arr8 m c),
      h2.trans (Cert.KernelIdeal.Ffn.arr9 m c), h3⟩
  · refine (θ_run _ _ _).mono (fun r h c => ?_) (Cert.ReferenceIdeal.Value.run m' ρ')
    obtain ⟨h0, h1, h2, h3⟩ := h c
    obtain ⟨e0, e1, e2, e3⟩ := hag c
    obtain ⟨rH, rZ, rW, rB⟩ := Cert.Spec.real_of_pre _ _ _ _ (hpre c)
    have a0 : Cert.ReferenceIdeal.Ffn.argH m' c = Cert.KernelIdeal.Ffn.argH m c := e0
    have a1 : Cert.ReferenceIdeal.Ffn.argZ m' c = Cert.KernelIdeal.Ffn.argZ m c := e1
    have a2 : Cert.ReferenceIdeal.Ffn.argW m' c = Cert.KernelIdeal.Ffn.argW m c := e2
    have a3 : Cert.ReferenceIdeal.Ffn.argB m' c = Cert.KernelIdeal.Ffn.argB m c := e3
    have o0 := Cert.ReferenceIdeal.Ffn.out0 m' c (by rw [a0]; exact rH) (by rw [a1]; exact rZ) (by rw [a2]; exact rW) (by rw [a3]; exact rB)
    have o1 := Cert.ReferenceIdeal.Ffn.out1 m' c (by rw [a0]; exact rH) (by rw [a1]; exact rZ) (by rw [a2]; exact rW) (by rw [a3]; exact rB)
    have o2 := Cert.ReferenceIdeal.Ffn.out2 m' c (by rw [a0]; exact rH) (by rw [a1]; exact rZ) (by rw [a2]; exact rW) (by rw [a3]; exact rB)
    rw [a0, a1, a2, a3] at o0 o1 o2
    exact ⟨h0.trans o0, h1.trans o1, h2.trans o2, h3⟩

/-- The reference leaves its arguments as they were; it has no counters. -/
theorem refFrame : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩)
    (Cert.ReferenceIdeal.Value.run m ρ)

theorem sameDwDown : Cert.algebraic_DwDownIdeal_DwDownRefIdeal (hDwDownIdeal := Cert.DwDownIdeal.Gen.facts)
    (hDwDownRefIdeal := Cert.DwDownRefIdeal.Gen.facts) := by
  intro m ρ m' ρ' _ hag
  refine ⟨fun c => Cert.DwDownIdeal.Mm.res (Cert.DwDownIdeal.Mm.argA m c) (Cert.DwDownIdeal.Mm.argB m c), ?_, ?_⟩
  · exact (θ_run _ _ _).mono (fun r h c => ⟨(h c).1.trans (Cert.DwDownIdeal.Mm.arr m c), (h c).2⟩) (Cert.DwDownIdeal.Value.run_blocks m ρ)
  · refine (θ_run _ _ _).mono (fun r h c => ⟨(h c).1.trans ?_, (h c).2⟩) (Cert.DwDownRefIdeal.Value.run m' ρ')
    obtain ⟨e0, e1⟩ := hag c
    exact (Cert.DwDownRefIdeal.Mm.out_eq _ _).trans (congrArg₂ Cert.DwDownIdeal.Mm.res e0 e1)

theorem frameDwDown : Cert.quiescent_DwDownRefIdeal (hDwDownRefIdeal := Cert.DwDownRefIdeal.Gen.facts) := fun m ρ _ =>
  (θ_run _ _ _).mono (fun r h => ⟨fun c => (h c).2, sem_eq_zero_of_no_sems (by decide) r.2⟩)
    (Cert.DwDownRefIdeal.Value.run m ρ)

theorem sameDZ : Cert.algebraic_DZIdeal_DZRefIdeal (hDZIdeal := Cert.DZIdeal.Gen.facts)
    (hDZRefIdeal := Cert.DZRefIdeal.Gen.facts) := by
  intro m ρ m' ρ' _ hag
  refine ⟨fun c => Cert.DZIdeal.Mm.res (Cert.DZIdeal.Mm.argA m c) (Cert.DZIdeal.Mm.argB m c), ?_, ?_⟩
  · exact (θ_run _ _ _).mono (fun r h c => ⟨(h c).1.trans (Cert.DZIdeal.Mm.arr m c), (h c).2⟩) (Cert.DZIdeal.Value.run_blocks m ρ)
  · refine (θ_run _ _ _).mono (fun r h c => ⟨(h c).1.trans ?_, (h c).2⟩) (Cert.DZRefIdeal.Value.run m' ρ')
    obtain ⟨e0, e1, _⟩ := hag c
    exact (Cert.DZRefIdeal.Mm.out_eq _ _).trans (congrArg₂ Cert.DZIdeal.Mm.res e0 e1)

theorem frameDZ : Cert.quiescent_DZRefIdeal (hDZRefIdeal := Cert.DZRefIdeal.Gen.facts) := fun m ρ _ =>
  (θ_run _ _ _).mono (fun r h => ⟨fun c => (h c).2, sem_eq_zero_of_no_sems (by decide) r.2⟩)
    (Cert.DZRefIdeal.Value.run m ρ)

theorem sameDwUp : Cert.algebraic_DwUpIdeal_DwUpRefIdeal (hDwUpIdeal := Cert.DwUpIdeal.Gen.facts)
    (hDwUpRefIdeal := Cert.DwUpRefIdeal.Gen.facts) := by
  intro m ρ m' ρ' _ hag
  refine ⟨fun c => Cert.DwUpIdeal.Mm.res (Cert.DwUpIdeal.Mm.argA m c) (Cert.DwUpIdeal.Mm.argB m c), ?_, ?_⟩
  · exact (θ_run _ _ _).mono (fun r h c => ⟨(h c).1.trans (Cert.DwUpIdeal.Mm.arr m c), (h c).2⟩) (Cert.DwUpIdeal.Value.run_blocks m ρ)
  · refine (θ_run _ _ _).mono (fun r h c => ⟨(h c).1.trans ?_, (h c).2⟩) (Cert.DwUpRefIdeal.Value.run m' ρ')
    obtain ⟨e0, e1⟩ := hag c
    exact (Cert.DwUpRefIdeal.Mm.out_eq _ _).trans (congrArg₂ Cert.DwUpIdeal.Mm.res e0 e1)

theorem frameDwUp : Cert.quiescent_DwUpRefIdeal (hDwUpRefIdeal := Cert.DwUpRefIdeal.Gen.facts) := fun m ρ _ =>
  (θ_run _ _ _).mono (fun r h => ⟨fun c => (h c).2, sem_eq_zero_of_no_sems (by decide) r.2⟩)
    (Cert.DwUpRefIdeal.Value.run m ρ)

theorem sameDUp : Cert.algebraic_DUpIdeal_DUpRefIdeal (hDUpIdeal := Cert.DUpIdeal.Gen.facts)
    (hDUpRefIdeal := Cert.DUpRefIdeal.Gen.facts) := by
  intro m ρ m' ρ' _ hag
  refine ⟨fun c => Cert.DUpIdeal.Mm.res (Cert.DUpIdeal.Mm.argA m c) (Cert.DUpIdeal.Mm.argB m c) (Cert.DUpIdeal.Mm.argD m c), ?_, ?_⟩
  · exact (θ_run _ _ _).mono (fun r h c => ⟨(h c).1.trans (Cert.DUpIdeal.Mm.arr m c), (h c).2⟩) (Cert.DUpIdeal.Value.run_blocks m ρ)
  · refine (θ_run _ _ _).mono (fun r h c => ⟨(h c).1.trans ?_, (h c).2⟩) (Cert.DUpRefIdeal.Value.run m' ρ')
    obtain ⟨e0, e1, e2, _⟩ := hag c
    exact (Cert.DUpRefIdeal.Mm.out_eq _ _ _).trans (congr (congrArg₂ Cert.DUpIdeal.Mm.res e0 e1) e2)

theorem frameDUp : Cert.quiescent_DUpRefIdeal (hDUpRefIdeal := Cert.DUpRefIdeal.Gen.facts) := fun m ρ _ =>
  (θ_run _ _ _).mono (fun r h => ⟨fun c => (h c).2, sem_eq_zero_of_no_sems (by decide) r.2⟩)
    (Cert.DUpRefIdeal.Value.run m ρ)

theorem sameDwOut : Cert.algebraic_DwOutIdeal_DwOutRefIdeal (hDwOutIdeal := Cert.DwOutIdeal.Gen.facts)
    (hDwOutRefIdeal := Cert.DwOutRefIdeal.Gen.facts) := by
  intro m ρ m' ρ' _ hag
  refine ⟨fun c => Cert.DwOutIdeal.Mm.res (Cert.DwOutIdeal.Mm.argA m c) (Cert.DwOutIdeal.Mm.argB m c), ?_, ?_⟩
  · exact (θ_run _ _ _).mono (fun r h c => ⟨(h c).1.trans (Cert.DwOutIdeal.Mm.arr m c), (h c).2⟩) (Cert.DwOutIdeal.Value.run_blocks m ρ)
  · refine (θ_run _ _ _).mono (fun r h c => ⟨(h c).1.trans ?_, (h c).2⟩) (Cert.DwOutRefIdeal.Value.run m' ρ')
    obtain ⟨e0, e1⟩ := hag c
    exact (Cert.DwOutRefIdeal.Mm.out_eq _ _).trans (congrArg₂ Cert.DwOutIdeal.Mm.res e0 e1)

theorem frameDwOut : Cert.quiescent_DwOutRefIdeal (hDwOutRefIdeal := Cert.DwOutRefIdeal.Gen.facts) := fun m ρ _ =>
  (θ_run _ _ _).mono (fun r h => ⟨fun c => (h c).2, sem_eq_zero_of_no_sems (by decide) r.2⟩)
    (Cert.DwOutRefIdeal.Value.run m ρ)

theorem sameDOut : Cert.algebraic_DOutIdeal_DOutRefIdeal (hDOutIdeal := Cert.DOutIdeal.Gen.facts)
    (hDOutRefIdeal := Cert.DOutRefIdeal.Gen.facts) := by
  intro m ρ m' ρ' _ hag
  refine ⟨fun c => Cert.DOutIdeal.Mm.res (Cert.DOutIdeal.Mm.argA m c) (Cert.DOutIdeal.Mm.argB m c), ?_, ?_⟩
  · exact (θ_run _ _ _).mono (fun r h c => ⟨(h c).1.trans (Cert.DOutIdeal.Mm.arr m c), (h c).2⟩) (Cert.DOutIdeal.Value.run_blocks m ρ)
  · refine (θ_run _ _ _).mono (fun r h c => ⟨(h c).1.trans ?_, (h c).2⟩) (Cert.DOutRefIdeal.Value.run m' ρ')
    obtain ⟨e0, e1, _⟩ := hag c
    exact (Cert.DOutRefIdeal.Mm.out_eq _ _).trans (congrArg₂ Cert.DOutIdeal.Mm.res e0 e1)

theorem frameDOut : Cert.quiescent_DOutRefIdeal (hDOutRefIdeal := Cert.DOutRefIdeal.Gen.facts) := fun m ρ _ =>
  (θ_run _ _ _).mono (fun r h => ⟨fun c => (h c).2, sem_eq_zero_of_no_sems (by decide) r.2⟩)
    (Cert.DOutRefIdeal.Value.run m ρ)

theorem sameDwSgIn : Cert.algebraic_DwSgInIdeal_DwSgInRefIdeal (hDwSgInIdeal := Cert.DwSgInIdeal.Gen.facts)
    (hDwSgInRefIdeal := Cert.DwSgInRefIdeal.Gen.facts) := by
  intro m ρ m' ρ' _ hag
  refine ⟨fun c => Cert.DwSgInIdeal.Mm.res (Cert.DwSgInIdeal.Mm.argA m c) (Cert.DwSgInIdeal.Mm.argB m c), ?_, ?_⟩
  · exact (θ_run _ _ _).mono (fun r h c => ⟨(h c).1.trans (Cert.DwSgInIdeal.Mm.arr m c), (h c).2⟩) (Cert.DwSgInIdeal.Value.run_blocks m ρ)
  · refine (θ_run _ _ _).mono (fun r h c => ⟨(h c).1.trans ?_, (h c).2⟩) (Cert.DwSgInRefIdeal.Value.run m' ρ')
    obtain ⟨e0, e1⟩ := hag c
    exact (Cert.DwSgInRefIdeal.Mm.out_eq _ _).trans (congrArg₂ Cert.DwSgInIdeal.Mm.res e0 e1)

theorem frameDwSgIn : Cert.quiescent_DwSgInRefIdeal (hDwSgInRefIdeal := Cert.DwSgInRefIdeal.Gen.facts) := fun m ρ _ =>
  (θ_run _ _ _).mono (fun r h => ⟨fun c => (h c).2, sem_eq_zero_of_no_sems (by decide) r.2⟩)
    (Cert.DwSgInRefIdeal.Value.run m ρ)

theorem sameDSgIn : Cert.algebraic_DSgInIdeal_DSgInRefIdeal (hDSgInIdeal := Cert.DSgInIdeal.Gen.facts)
    (hDSgInRefIdeal := Cert.DSgInRefIdeal.Gen.facts) := by
  intro m ρ m' ρ' _ hag
  refine ⟨fun c => Cert.DSgInIdeal.Mm.res (Cert.DSgInIdeal.Mm.argA m c) (Cert.DSgInIdeal.Mm.argB m c) (Cert.DSgInIdeal.Mm.argD m c), ?_, ?_⟩
  · exact (θ_run _ _ _).mono (fun r h c => ⟨(h c).1.trans (Cert.DSgInIdeal.Mm.arr m c), (h c).2⟩) (Cert.DSgInIdeal.Value.run_blocks m ρ)
  · refine (θ_run _ _ _).mono (fun r h c => ⟨(h c).1.trans ?_, (h c).2⟩) (Cert.DSgInRefIdeal.Value.run m' ρ')
    obtain ⟨e0, e1, e2, _⟩ := hag c
    exact (Cert.DSgInRefIdeal.Mm.out_eq _ _ _).trans (congr (congrArg₂ Cert.DSgInIdeal.Mm.res e0 e1) e2)

theorem frameDSgIn : Cert.quiescent_DSgInRefIdeal (hDSgInRefIdeal := Cert.DSgInRefIdeal.Gen.facts) := fun m ρ _ =>
  (θ_run _ _ _).mono (fun r h => ⟨fun c => (h c).2, sem_eq_zero_of_no_sems (by decide) r.2⟩)
    (Cert.DSgInRefIdeal.Value.run m ρ)

theorem sameDwHgIn : Cert.algebraic_DwHgInIdeal_DwHgInRefIdeal (hDwHgInIdeal := Cert.DwHgInIdeal.Gen.facts)
    (hDwHgInRefIdeal := Cert.DwHgInRefIdeal.Gen.facts) := by
  intro m ρ m' ρ' _ hag
  refine ⟨fun c => Cert.DwHgInIdeal.Mm.res (Cert.DwHgInIdeal.Mm.argA m c) (Cert.DwHgInIdeal.Mm.argB m c), ?_, ?_⟩
  · exact (θ_run _ _ _).mono (fun r h c => ⟨(h c).1.trans (Cert.DwHgInIdeal.Mm.arr m c), (h c).2⟩) (Cert.DwHgInIdeal.Value.run_blocks m ρ)
  · refine (θ_run _ _ _).mono (fun r h c => ⟨(h c).1.trans ?_, (h c).2⟩) (Cert.DwHgInRefIdeal.Value.run m' ρ')
    obtain ⟨e0, e1, _⟩ := hag c
    exact (Cert.DwHgInRefIdeal.Mm.out_eq _ _).trans (congrArg₂ Cert.DwHgInIdeal.Mm.res e0 e1)

theorem frameDwHgIn : Cert.quiescent_DwHgInRefIdeal (hDwHgInRefIdeal := Cert.DwHgInRefIdeal.Gen.facts) := fun m ρ _ =>
  (θ_run _ _ _).mono (fun r h => ⟨fun c => (h c).2, sem_eq_zero_of_no_sems (by decide) r.2⟩)
    (Cert.DwHgInRefIdeal.Value.run m ρ)

theorem sameDHgIn : Cert.algebraic_DHgInIdeal_DHgInRefIdeal (hDHgInIdeal := Cert.DHgInIdeal.Gen.facts)
    (hDHgInRefIdeal := Cert.DHgInRefIdeal.Gen.facts) := by
  intro m ρ m' ρ' _ hag
  refine ⟨fun c => Cert.DHgInIdeal.Mm.res (Cert.DHgInIdeal.Mm.argA m c) (Cert.DHgInIdeal.Mm.argB m c) (Cert.DHgInIdeal.Mm.argD m c), ?_, ?_⟩
  · exact (θ_run _ _ _).mono (fun r h c => ⟨(h c).1.trans (Cert.DHgInIdeal.Mm.arr m c), (h c).2⟩) (Cert.DHgInIdeal.Value.run_blocks m ρ)
  · refine (θ_run _ _ _).mono (fun r h c => ⟨(h c).1.trans ?_, (h c).2⟩) (Cert.DHgInRefIdeal.Value.run m' ρ')
    obtain ⟨e0, e1, e2, _⟩ := hag c
    exact (Cert.DHgInRefIdeal.Mm.out_eq _ _ _).trans (congr (congrArg₂ Cert.DHgInIdeal.Mm.res e0 e1) e2)

theorem frameDHgIn : Cert.quiescent_DHgInRefIdeal (hDHgInRefIdeal := Cert.DHgInRefIdeal.Gen.facts) := fun m ρ _ =>
  (θ_run _ _ _).mono (fun r h => ⟨fun c => (h c).2, sem_eq_zero_of_no_sems (by decide) r.2⟩)
    (Cert.DHgInRefIdeal.Value.run m ρ)

theorem sameHgIn : Cert.algebraic_HgInIdeal_HgInRefIdeal (hHgInIdeal := Cert.HgInIdeal.Gen.facts)
    (hHgInRefIdeal := Cert.HgInRefIdeal.Gen.facts) := by
  intro m ρ m' ρ' _ hag
  refine ⟨fun c => Cert.HgInIdeal.Mm.res (Cert.HgInIdeal.Mm.argA m c) (Cert.HgInIdeal.Mm.argB m c), ?_, ?_⟩
  · exact (θ_run _ _ _).mono (fun r h c => ⟨(h c).1.trans (Cert.HgInIdeal.Mm.arr m c), (h c).2⟩) (Cert.HgInIdeal.Value.run_blocks m ρ)
  · refine (θ_run _ _ _).mono (fun r h c => ⟨(h c).1.trans ?_, (h c).2⟩) (Cert.HgInRefIdeal.Value.run m' ρ')
    obtain ⟨e0, e1⟩ := hag c
    exact (Cert.HgInRefIdeal.Mm.out_eq _ _).trans (congrArg₂ Cert.HgInIdeal.Mm.res e0 e1)

theorem frameHgIn : Cert.quiescent_HgInRefIdeal (hHgInRefIdeal := Cert.HgInRefIdeal.Gen.facts) := fun m ρ _ =>
  (θ_run _ _ _).mono (fun r h => ⟨fun c => (h c).2, sem_eq_zero_of_no_sems (by decide) r.2⟩)
    (Cert.HgInRefIdeal.Value.run m ρ)

theorem sameMixOut : Cert.algebraic_MixOutIdeal_MixOutRefIdeal (hMixOutIdeal := Cert.MixOutIdeal.Gen.facts)
    (hMixOutRefIdeal := Cert.MixOutRefIdeal.Gen.facts) := by
  intro m ρ m' ρ' _ hag
  refine ⟨fun c => Cert.MixOutIdeal.Mm.res (Cert.MixOutIdeal.Mm.argA m c) (Cert.MixOutIdeal.Mm.argB m c), ?_, ?_⟩
  · exact (θ_run _ _ _).mono (fun r h c => ⟨(h c).1.trans (Cert.MixOutIdeal.Mm.arr m c), (h c).2⟩) (Cert.MixOutIdeal.Value.run_blocks m ρ)
  · refine (θ_run _ _ _).mono (fun r h c => ⟨(h c).1.trans ?_, (h c).2⟩) (Cert.MixOutRefIdeal.Value.run m' ρ')
    obtain ⟨e0, e1⟩ := hag c
    exact (Cert.MixOutRefIdeal.Mm.out_eq _ _).trans (congrArg₂ Cert.MixOutIdeal.Mm.res e0 e1)

theorem frameMixOut : Cert.quiescent_MixOutRefIdeal (hMixOutRefIdeal := Cert.MixOutRefIdeal.Gen.facts) := fun m ρ _ =>
  (θ_run _ _ _).mono (fun r h => ⟨fun c => (h c).2, sem_eq_zero_of_no_sems (by decide) r.2⟩)
    (Cert.MixOutRefIdeal.Value.run m ρ)

theorem sameUp : Cert.algebraic_UpIdeal_UpRefIdeal (hUpIdeal := Cert.UpIdeal.Gen.facts)
    (hUpRefIdeal := Cert.UpRefIdeal.Gen.facts) := by
  intro m ρ m' ρ' _ hag
  refine ⟨fun c => Cert.UpIdeal.Mm.res (Cert.UpIdeal.Mm.argA m c) (Cert.UpIdeal.Mm.argB m c), ?_, ?_⟩
  · exact (θ_run _ _ _).mono (fun r h c => ⟨(h c).1.trans (Cert.UpIdeal.Mm.arr m c), (h c).2⟩) (Cert.UpIdeal.Value.run_blocks m ρ)
  · refine (θ_run _ _ _).mono (fun r h c => ⟨(h c).1.trans ?_, (h c).2⟩) (Cert.UpRefIdeal.Value.run m' ρ')
    obtain ⟨e0, e1⟩ := hag c
    exact (Cert.UpRefIdeal.Mm.out_eq _ _).trans (congrArg₂ Cert.UpIdeal.Mm.res e0 e1)

theorem frameUp : Cert.quiescent_UpRefIdeal (hUpRefIdeal := Cert.UpRefIdeal.Gen.facts) := fun m ρ _ =>
  (θ_run _ _ _).mono (fun r h => ⟨fun c => (h c).2, sem_eq_zero_of_no_sems (by decide) r.2⟩)
    (Cert.UpRefIdeal.Value.run m ρ)

theorem sameDown : Cert.algebraic_DownIdeal_DownRefIdeal (hDownIdeal := Cert.DownIdeal.Gen.facts)
    (hDownRefIdeal := Cert.DownRefIdeal.Gen.facts) := by
  intro m ρ m' ρ' _ hag
  refine ⟨fun c => Cert.DownIdeal.Mm.res (Cert.DownIdeal.Mm.argA m c) (Cert.DownIdeal.Mm.argB m c), ?_, ?_⟩
  · exact (θ_run _ _ _).mono (fun r h c => ⟨(h c).1.trans (Cert.DownIdeal.Mm.arr m c), (h c).2⟩) (Cert.DownIdeal.Value.run_blocks m ρ)
  · refine (θ_run _ _ _).mono (fun r h c => ⟨(h c).1.trans ?_, (h c).2⟩) (Cert.DownRefIdeal.Value.run m' ρ')
    obtain ⟨e0, e1⟩ := hag c
    exact (Cert.DownRefIdeal.Mm.out_eq _ _).trans (congrArg₂ Cert.DownIdeal.Mm.res e0 e1)

theorem frameDown : Cert.quiescent_DownRefIdeal (hDownRefIdeal := Cert.DownRefIdeal.Gen.facts) := fun m ρ _ =>
  (θ_run _ _ _).mono (fun r h => ⟨fun c => (h c).2, sem_eq_zero_of_no_sems (by decide) r.2⟩)
    (Cert.DownRefIdeal.Value.run m ρ)

theorem sameSgIn : Cert.algebraic_SgInIdeal_SgInRefIdeal (hSgInIdeal := Cert.SgInIdeal.Gen.facts)
    (hSgInRefIdeal := Cert.SgInRefIdeal.Gen.facts) := by
  intro m ρ m' ρ' _ hag
  refine ⟨fun c => Cert.SgInIdeal.Mm.res (Cert.SgInIdeal.Mm.argA m c) (Cert.SgInIdeal.Mm.argB m c), ?_, ?_⟩
  · exact (θ_run _ _ _).mono (fun r h c => ⟨(h c).1.trans (Cert.SgInIdeal.Mm.arr m c), (h c).2⟩) (Cert.SgInIdeal.Value.run_blocks m ρ)
  · refine (θ_run _ _ _).mono (fun r h c => ⟨(h c).1.trans ?_, (h c).2⟩) (Cert.SgInRefIdeal.Value.run m' ρ')
    obtain ⟨e0, e1⟩ := hag c
    exact (Cert.SgInRefIdeal.Mm.out_eq _ _).trans (congrArg₂ Cert.SgInIdeal.Mm.res e0 e1)

theorem frameSgIn : Cert.quiescent_SgInRefIdeal (hSgInRefIdeal := Cert.SgInRefIdeal.Gen.facts) := fun m ρ _ =>
  (θ_run _ _ _).mono (fun r h => ⟨fun c => (h c).2, sem_eq_zero_of_no_sems (by decide) r.2⟩)
    (Cert.SgInRefIdeal.Value.run m ρ)

theorem sameAdamLb : Cert.algebraic_AdamLbIdeal_AdamLbRefIdeal (hAdamLbIdeal := Cert.AdamLbIdeal.Gen.facts)
    (hAdamLbRefIdeal := Cert.AdamLbRefIdeal.Gen.facts) := by
  intro m ρ m' ρ' _ hag
  refine ⟨Cert.AdamLbIdeal.Adam.newG m, Cert.AdamLbIdeal.Adam.newD m, Cert.AdamLbIdeal.Adam.newM m, Cert.AdamLbIdeal.Adam.newV m, ?_, ?_⟩
  · refine (θ_run _ _ _).mono (fun r h c => ?_) (Cert.AdamLbIdeal.Value.run_blocks m ρ)
    obtain ⟨h0, h1, h2, h3, hr⟩ := h c
    exact ⟨h0.trans (Cert.AdamLbIdeal.Adam.arrG m c), h1.trans (Cert.AdamLbIdeal.Adam.arrD m c), h2.trans (Cert.AdamLbIdeal.Adam.arrM m c), h3.trans (Cert.AdamLbIdeal.Adam.arrV m c), hr⟩
  · refine (θ_run _ _ _).mono (fun r h c => ?_) (Cert.AdamLbRefIdeal.Value.run m' ρ')
    obtain ⟨h0, h1, h2, h3, hr⟩ := h c
    obtain ⟨e0, e1, e2, e3⟩ := hag c
    exact ⟨h0.trans ((Cert.AdamLbRefIdeal.Adam.eqG _ _ _ _).trans (congr (congr (congrArg₂ Cert.AdamLbIdeal.Adam.resG e0 e1) e2) e3)),
      h1.trans ((Cert.AdamLbRefIdeal.Adam.eqD _ _ _ _).trans (congr (congr (congrArg₂ Cert.AdamLbIdeal.Adam.resD e0 e1) e2) e3)),
      h2.trans ((Cert.AdamLbRefIdeal.Adam.eqM _ _ _ _).trans (congr (congr (congrArg₂ Cert.AdamLbIdeal.Adam.resM e0 e1) e2) e3)),
      h3.trans ((Cert.AdamLbRefIdeal.Adam.eqV _ _ _ _).trans (congr (congr (congrArg₂ Cert.AdamLbIdeal.Adam.resV e0 e1) e2) e3)), hr⟩

theorem frameAdamLb : Cert.quiescent_AdamLbRefIdeal (hAdamLbRefIdeal := Cert.AdamLbRefIdeal.Gen.facts) := fun m ρ _ =>
  (θ_run _ _ _).mono (fun r h => ⟨fun c => (h c).2.2.2.2, sem_eq_zero_of_no_sems (by decide) r.2⟩)
    (Cert.AdamLbRefIdeal.Value.run m ρ)

theorem sameAdamNorm : Cert.algebraic_AdamNormIdeal_AdamNormRefIdeal (hAdamNormIdeal := Cert.AdamNormIdeal.Gen.facts)
    (hAdamNormRefIdeal := Cert.AdamNormRefIdeal.Gen.facts) := by
  intro m ρ m' ρ' _ hag
  refine ⟨Cert.AdamNormIdeal.Adam.newG m, Cert.AdamNormIdeal.Adam.newD m, Cert.AdamNormIdeal.Adam.newM m, Cert.AdamNormIdeal.Adam.newV m, ?_, ?_⟩
  · refine (θ_run _ _ _).mono (fun r h c => ?_) (Cert.AdamNormIdeal.Value.run_blocks m ρ)
    obtain ⟨h0, h1, h2, h3, hr⟩ := h c
    exact ⟨h0.trans (Cert.AdamNormIdeal.Adam.arrG m c), h1.trans (Cert.AdamNormIdeal.Adam.arrD m c), h2.trans (Cert.AdamNormIdeal.Adam.arrM m c), h3.trans (Cert.AdamNormIdeal.Adam.arrV m c), hr⟩
  · refine (θ_run _ _ _).mono (fun r h c => ?_) (Cert.AdamNormRefIdeal.Value.run m' ρ')
    obtain ⟨h0, h1, h2, h3, hr⟩ := h c
    obtain ⟨e0, e1, e2, e3⟩ := hag c
    exact ⟨h0.trans ((Cert.AdamNormRefIdeal.Adam.eqG _ _ _ _).trans (congr (congr (congrArg₂ Cert.AdamNormIdeal.Adam.resG e0 e1) e2) e3)),
      h1.trans ((Cert.AdamNormRefIdeal.Adam.eqD _ _ _ _).trans (congr (congr (congrArg₂ Cert.AdamNormIdeal.Adam.resD e0 e1) e2) e3)),
      h2.trans ((Cert.AdamNormRefIdeal.Adam.eqM _ _ _ _).trans (congr (congr (congrArg₂ Cert.AdamNormIdeal.Adam.resM e0 e1) e2) e3)),
      h3.trans ((Cert.AdamNormRefIdeal.Adam.eqV _ _ _ _).trans (congr (congr (congrArg₂ Cert.AdamNormIdeal.Adam.resV e0 e1) e2) e3)), hr⟩

theorem frameAdamNorm : Cert.quiescent_AdamNormRefIdeal (hAdamNormRefIdeal := Cert.AdamNormRefIdeal.Gen.facts) := fun m ρ _ =>
  (θ_run _ _ _).mono (fun r h => ⟨fun c => (h c).2.2.2.2, sem_eq_zero_of_no_sems (by decide) r.2⟩)
    (Cert.AdamNormRefIdeal.Value.run m ρ)

theorem sameAdamSgLn : Cert.algebraic_AdamSgLnIdeal_AdamSgLnRefIdeal (hAdamSgLnIdeal := Cert.AdamSgLnIdeal.Gen.facts)
    (hAdamSgLnRefIdeal := Cert.AdamSgLnRefIdeal.Gen.facts) := by
  intro m ρ m' ρ' _ hag
  refine ⟨Cert.AdamSgLnIdeal.Adam.newG m, Cert.AdamSgLnIdeal.Adam.newD m, Cert.AdamSgLnIdeal.Adam.newM m, Cert.AdamSgLnIdeal.Adam.newV m, ?_, ?_⟩
  · refine (θ_run _ _ _).mono (fun r h c => ?_) (Cert.AdamSgLnIdeal.Value.run_blocks m ρ)
    obtain ⟨h0, h1, h2, h3, hr⟩ := h c
    exact ⟨h0.trans (Cert.AdamSgLnIdeal.Adam.arrG m c), h1.trans (Cert.AdamSgLnIdeal.Adam.arrD m c), h2.trans (Cert.AdamSgLnIdeal.Adam.arrM m c), h3.trans (Cert.AdamSgLnIdeal.Adam.arrV m c), hr⟩
  · refine (θ_run _ _ _).mono (fun r h c => ?_) (Cert.AdamSgLnRefIdeal.Value.run m' ρ')
    obtain ⟨h0, h1, h2, h3, hr⟩ := h c
    obtain ⟨e0, e1, e2, e3⟩ := hag c
    exact ⟨h0.trans ((Cert.AdamSgLnRefIdeal.Adam.eqG _ _ _ _).trans (congr (congr (congrArg₂ Cert.AdamSgLnIdeal.Adam.resG e0 e1) e2) e3)),
      h1.trans ((Cert.AdamSgLnRefIdeal.Adam.eqD _ _ _ _).trans (congr (congr (congrArg₂ Cert.AdamSgLnIdeal.Adam.resD e0 e1) e2) e3)),
      h2.trans ((Cert.AdamSgLnRefIdeal.Adam.eqM _ _ _ _).trans (congr (congr (congrArg₂ Cert.AdamSgLnIdeal.Adam.resM e0 e1) e2) e3)),
      h3.trans ((Cert.AdamSgLnRefIdeal.Adam.eqV _ _ _ _).trans (congr (congr (congrArg₂ Cert.AdamSgLnIdeal.Adam.resV e0 e1) e2) e3)), hr⟩

theorem frameAdamSgLn : Cert.quiescent_AdamSgLnRefIdeal (hAdamSgLnRefIdeal := Cert.AdamSgLnRefIdeal.Gen.facts) := fun m ρ _ =>
  (θ_run _ _ _).mono (fun r h => ⟨fun c => (h c).2.2.2.2, sem_eq_zero_of_no_sems (by decide) r.2⟩)
    (Cert.AdamSgLnRefIdeal.Value.run m ρ)

theorem sameAdamSgWs : Cert.algebraic_AdamSgWsIdeal_AdamSgWsRefIdeal (hAdamSgWsIdeal := Cert.AdamSgWsIdeal.Gen.facts)
    (hAdamSgWsRefIdeal := Cert.AdamSgWsRefIdeal.Gen.facts) := by
  intro m ρ m' ρ' _ hag
  refine ⟨Cert.AdamSgWsIdeal.Adam.newG m, Cert.AdamSgWsIdeal.Adam.newD m, Cert.AdamSgWsIdeal.Adam.newM m, Cert.AdamSgWsIdeal.Adam.newV m, ?_, ?_⟩
  · refine (θ_run _ _ _).mono (fun r h c => ?_) (Cert.AdamSgWsIdeal.Value.run_blocks m ρ)
    obtain ⟨h0, h1, h2, h3, hr⟩ := h c
    exact ⟨h0.trans (Cert.AdamSgWsIdeal.Adam.arrG m c), h1.trans (Cert.AdamSgWsIdeal.Adam.arrD m c), h2.trans (Cert.AdamSgWsIdeal.Adam.arrM m c), h3.trans (Cert.AdamSgWsIdeal.Adam.arrV m c), hr⟩
  · refine (θ_run _ _ _).mono (fun r h c => ?_) (Cert.AdamSgWsRefIdeal.Value.run m' ρ')
    obtain ⟨h0, h1, h2, h3, hr⟩ := h c
    obtain ⟨e0, e1, e2, e3⟩ := hag c
    exact ⟨h0.trans ((Cert.AdamSgWsRefIdeal.Adam.eqG _ _ _ _).trans (congr (congr (congrArg₂ Cert.AdamSgWsIdeal.Adam.resG e0 e1) e2) e3)),
      h1.trans ((Cert.AdamSgWsRefIdeal.Adam.eqD _ _ _ _).trans (congr (congr (congrArg₂ Cert.AdamSgWsIdeal.Adam.resD e0 e1) e2) e3)),
      h2.trans ((Cert.AdamSgWsRefIdeal.Adam.eqM _ _ _ _).trans (congr (congr (congrArg₂ Cert.AdamSgWsIdeal.Adam.resM e0 e1) e2) e3)),
      h3.trans ((Cert.AdamSgWsRefIdeal.Adam.eqV _ _ _ _).trans (congr (congr (congrArg₂ Cert.AdamSgWsIdeal.Adam.resV e0 e1) e2) e3)), hr⟩

theorem frameAdamSgWs : Cert.quiescent_AdamSgWsRefIdeal (hAdamSgWsRefIdeal := Cert.AdamSgWsRefIdeal.Gen.facts) := fun m ρ _ =>
  (θ_run _ _ _).mono (fun r h => ⟨fun c => (h c).2.2.2.2, sem_eq_zero_of_no_sems (by decide) r.2⟩)
    (Cert.AdamSgWsRefIdeal.Value.run m ρ)

theorem sameAdamSgBs : Cert.algebraic_AdamSgBsIdeal_AdamSgBsRefIdeal (hAdamSgBsIdeal := Cert.AdamSgBsIdeal.Gen.facts)
    (hAdamSgBsRefIdeal := Cert.AdamSgBsRefIdeal.Gen.facts) := by
  intro m ρ m' ρ' _ hag
  refine ⟨Cert.AdamSgBsIdeal.Adam.newG m, Cert.AdamSgBsIdeal.Adam.newD m, Cert.AdamSgBsIdeal.Adam.newM m, Cert.AdamSgBsIdeal.Adam.newV m, ?_, ?_⟩
  · refine (θ_run _ _ _).mono (fun r h c => ?_) (Cert.AdamSgBsIdeal.Value.run_blocks m ρ)
    obtain ⟨h0, h1, h2, h3, hr⟩ := h c
    exact ⟨h0.trans (Cert.AdamSgBsIdeal.Adam.arrG m c), h1.trans (Cert.AdamSgBsIdeal.Adam.arrD m c), h2.trans (Cert.AdamSgBsIdeal.Adam.arrM m c), h3.trans (Cert.AdamSgBsIdeal.Adam.arrV m c), hr⟩
  · refine (θ_run _ _ _).mono (fun r h c => ?_) (Cert.AdamSgBsRefIdeal.Value.run m' ρ')
    obtain ⟨h0, h1, h2, h3, hr⟩ := h c
    obtain ⟨e0, e1, e2, e3⟩ := hag c
    exact ⟨h0.trans ((Cert.AdamSgBsRefIdeal.Adam.eqG _ _ _ _).trans (congr (congr (congrArg₂ Cert.AdamSgBsIdeal.Adam.resG e0 e1) e2) e3)),
      h1.trans ((Cert.AdamSgBsRefIdeal.Adam.eqD _ _ _ _).trans (congr (congr (congrArg₂ Cert.AdamSgBsIdeal.Adam.resD e0 e1) e2) e3)),
      h2.trans ((Cert.AdamSgBsRefIdeal.Adam.eqM _ _ _ _).trans (congr (congr (congrArg₂ Cert.AdamSgBsIdeal.Adam.resM e0 e1) e2) e3)),
      h3.trans ((Cert.AdamSgBsRefIdeal.Adam.eqV _ _ _ _).trans (congr (congr (congrArg₂ Cert.AdamSgBsIdeal.Adam.resV e0 e1) e2) e3)), hr⟩

theorem frameAdamSgBs : Cert.quiescent_AdamSgBsRefIdeal (hAdamSgBsRefIdeal := Cert.AdamSgBsRefIdeal.Gen.facts) := fun m ρ _ =>
  (θ_run _ _ _).mono (fun r h => ⟨fun c => (h c).2.2.2.2, sem_eq_zero_of_no_sems (by decide) r.2⟩)
    (Cert.AdamSgBsRefIdeal.Value.run m ρ)

theorem sameAdamConvW : Cert.algebraic_AdamConvWIdeal_AdamConvWRefIdeal (hAdamConvWIdeal := Cert.AdamConvWIdeal.Gen.facts)
    (hAdamConvWRefIdeal := Cert.AdamConvWRefIdeal.Gen.facts) := by
  intro m ρ m' ρ' _ hag
  refine ⟨Cert.AdamConvWIdeal.Adam.newG m, Cert.AdamConvWIdeal.Adam.newD m, Cert.AdamConvWIdeal.Adam.newM m, Cert.AdamConvWIdeal.Adam.newV m, ?_, ?_⟩
  · refine (θ_run _ _ _).mono (fun r h c => ?_) (Cert.AdamConvWIdeal.Value.run_blocks m ρ)
    obtain ⟨h0, h1, h2, h3, hr⟩ := h c
    exact ⟨h0.trans (Cert.AdamConvWIdeal.Adam.arrG m c), h1.trans (Cert.AdamConvWIdeal.Adam.arrD m c), h2.trans (Cert.AdamConvWIdeal.Adam.arrM m c), h3.trans (Cert.AdamConvWIdeal.Adam.arrV m c), hr⟩
  · refine (θ_run _ _ _).mono (fun r h c => ?_) (Cert.AdamConvWRefIdeal.Value.run m' ρ')
    obtain ⟨h0, h1, h2, h3, hr⟩ := h c
    obtain ⟨e0, e1, e2, e3⟩ := hag c
    exact ⟨h0.trans ((Cert.AdamConvWRefIdeal.Adam.eqG _ _ _ _).trans (congr (congr (congrArg₂ Cert.AdamConvWIdeal.Adam.resG e0 e1) e2) e3)),
      h1.trans ((Cert.AdamConvWRefIdeal.Adam.eqD _ _ _ _).trans (congr (congr (congrArg₂ Cert.AdamConvWIdeal.Adam.resD e0 e1) e2) e3)),
      h2.trans ((Cert.AdamConvWRefIdeal.Adam.eqM _ _ _ _).trans (congr (congr (congrArg₂ Cert.AdamConvWIdeal.Adam.resM e0 e1) e2) e3)),
      h3.trans ((Cert.AdamConvWRefIdeal.Adam.eqV _ _ _ _).trans (congr (congr (congrArg₂ Cert.AdamConvWIdeal.Adam.resV e0 e1) e2) e3)), hr⟩

theorem frameAdamConvW : Cert.quiescent_AdamConvWRefIdeal (hAdamConvWRefIdeal := Cert.AdamConvWRefIdeal.Gen.facts) := fun m ρ _ =>
  (θ_run _ _ _).mono (fun r h => ⟨fun c => (h c).2.2.2.2, sem_eq_zero_of_no_sems (by decide) r.2⟩)
    (Cert.AdamConvWRefIdeal.Value.run m ρ)

theorem sameAdamConvB : Cert.algebraic_AdamConvBIdeal_AdamConvBRefIdeal (hAdamConvBIdeal := Cert.AdamConvBIdeal.Gen.facts)
    (hAdamConvBRefIdeal := Cert.AdamConvBRefIdeal.Gen.facts) := by
  intro m ρ m' ρ' _ hag
  refine ⟨Cert.AdamConvBIdeal.Adam.newG m, Cert.AdamConvBIdeal.Adam.newD m, Cert.AdamConvBIdeal.Adam.newM m, Cert.AdamConvBIdeal.Adam.newV m, ?_, ?_⟩
  · refine (θ_run _ _ _).mono (fun r h c => ?_) (Cert.AdamConvBIdeal.Value.run_blocks m ρ)
    obtain ⟨h0, h1, h2, h3, hr⟩ := h c
    exact ⟨h0.trans (Cert.AdamConvBIdeal.Adam.arrG m c), h1.trans (Cert.AdamConvBIdeal.Adam.arrD m c), h2.trans (Cert.AdamConvBIdeal.Adam.arrM m c), h3.trans (Cert.AdamConvBIdeal.Adam.arrV m c), hr⟩
  · refine (θ_run _ _ _).mono (fun r h c => ?_) (Cert.AdamConvBRefIdeal.Value.run m' ρ')
    obtain ⟨h0, h1, h2, h3, hr⟩ := h c
    obtain ⟨e0, e1, e2, e3⟩ := hag c
    exact ⟨h0.trans ((Cert.AdamConvBRefIdeal.Adam.eqG _ _ _ _).trans (congr (congr (congrArg₂ Cert.AdamConvBIdeal.Adam.resG e0 e1) e2) e3)),
      h1.trans ((Cert.AdamConvBRefIdeal.Adam.eqD _ _ _ _).trans (congr (congr (congrArg₂ Cert.AdamConvBIdeal.Adam.resD e0 e1) e2) e3)),
      h2.trans ((Cert.AdamConvBRefIdeal.Adam.eqM _ _ _ _).trans (congr (congr (congrArg₂ Cert.AdamConvBIdeal.Adam.resM e0 e1) e2) e3)),
      h3.trans ((Cert.AdamConvBRefIdeal.Adam.eqV _ _ _ _).trans (congr (congr (congrArg₂ Cert.AdamConvBIdeal.Adam.resV e0 e1) e2) e3)), hr⟩

theorem frameAdamConvB : Cert.quiescent_AdamConvBRefIdeal (hAdamConvBRefIdeal := Cert.AdamConvBRefIdeal.Gen.facts) := fun m ρ _ =>
  (θ_run _ _ _).mono (fun r h => ⟨fun c => (h c).2.2.2.2, sem_eq_zero_of_no_sems (by decide) r.2⟩)
    (Cert.AdamConvBRefIdeal.Value.run m ρ)

theorem sameAdamLn : Cert.algebraic_AdamLnIdeal_AdamLnRefIdeal (hAdamLnIdeal := Cert.AdamLnIdeal.Gen.facts)
    (hAdamLnRefIdeal := Cert.AdamLnRefIdeal.Gen.facts) := by
  intro m ρ m' ρ' _ hag
  refine ⟨Cert.AdamLnIdeal.Adam.newG m, Cert.AdamLnIdeal.Adam.newD m, Cert.AdamLnIdeal.Adam.newM m, Cert.AdamLnIdeal.Adam.newV m, ?_, ?_⟩
  · refine (θ_run _ _ _).mono (fun r h c => ?_) (Cert.AdamLnIdeal.Value.run_blocks m ρ)
    obtain ⟨h0, h1, h2, h3, hr⟩ := h c
    exact ⟨h0.trans (Cert.AdamLnIdeal.Adam.arrG m c), h1.trans (Cert.AdamLnIdeal.Adam.arrD m c), h2.trans (Cert.AdamLnIdeal.Adam.arrM m c), h3.trans (Cert.AdamLnIdeal.Adam.arrV m c), hr⟩
  · refine (θ_run _ _ _).mono (fun r h c => ?_) (Cert.AdamLnRefIdeal.Value.run m' ρ')
    obtain ⟨h0, h1, h2, h3, hr⟩ := h c
    obtain ⟨e0, e1, e2, e3⟩ := hag c
    exact ⟨h0.trans ((Cert.AdamLnRefIdeal.Adam.eqG _ _ _ _).trans (congr (congr (congrArg₂ Cert.AdamLnIdeal.Adam.resG e0 e1) e2) e3)),
      h1.trans ((Cert.AdamLnRefIdeal.Adam.eqD _ _ _ _).trans (congr (congr (congrArg₂ Cert.AdamLnIdeal.Adam.resD e0 e1) e2) e3)),
      h2.trans ((Cert.AdamLnRefIdeal.Adam.eqM _ _ _ _).trans (congr (congr (congrArg₂ Cert.AdamLnIdeal.Adam.resM e0 e1) e2) e3)),
      h3.trans ((Cert.AdamLnRefIdeal.Adam.eqV _ _ _ _).trans (congr (congr (congrArg₂ Cert.AdamLnIdeal.Adam.resV e0 e1) e2) e3)), hr⟩

theorem frameAdamLn : Cert.quiescent_AdamLnRefIdeal (hAdamLnRefIdeal := Cert.AdamLnRefIdeal.Gen.facts) := fun m ρ _ =>
  (θ_run _ _ _).mono (fun r h => ⟨fun c => (h c).2.2.2.2, sem_eq_zero_of_no_sems (by decide) r.2⟩)
    (Cert.AdamLnRefIdeal.Value.run m ρ)

theorem sameAdamHgIn : Cert.algebraic_AdamHgInIdeal_AdamHgInRefIdeal (hAdamHgInIdeal := Cert.AdamHgInIdeal.Gen.facts)
    (hAdamHgInRefIdeal := Cert.AdamHgInRefIdeal.Gen.facts) := by
  intro m ρ m' ρ' _ hag
  refine ⟨Cert.AdamHgInIdeal.Adam.newG m, Cert.AdamHgInIdeal.Adam.newD m, Cert.AdamHgInIdeal.Adam.newM m, Cert.AdamHgInIdeal.Adam.newV m, ?_, ?_⟩
  · refine (θ_run _ _ _).mono (fun r h c => ?_) (Cert.AdamHgInIdeal.Value.run_blocks m ρ)
    obtain ⟨h0, h1, h2, h3, hr⟩ := h c
    exact ⟨h0.trans (Cert.AdamHgInIdeal.Adam.arrG m c), h1.trans (Cert.AdamHgInIdeal.Adam.arrD m c), h2.trans (Cert.AdamHgInIdeal.Adam.arrM m c), h3.trans (Cert.AdamHgInIdeal.Adam.arrV m c), hr⟩
  · refine (θ_run _ _ _).mono (fun r h c => ?_) (Cert.AdamHgInRefIdeal.Value.run m' ρ')
    obtain ⟨h0, h1, h2, h3, hr⟩ := h c
    obtain ⟨e0, e1, e2, e3, e4, e5⟩ := hag c
    exact ⟨h0.trans ((Cert.AdamHgInRefIdeal.Adam.eqG _ _ _ _ _ _).trans (congr (congr (congr (congr (congrArg₂ Cert.AdamHgInIdeal.Adam.resG e0 e1) e2) e3) e4) e5)),
      h1.trans ((Cert.AdamHgInRefIdeal.Adam.eqD _ _ _ _ _ _).trans (congr (congr (congr (congr (congrArg₂ Cert.AdamHgInIdeal.Adam.resD e0 e1) e2) e3) e4) e5)),
      h2.trans ((Cert.AdamHgInRefIdeal.Adam.eqM _ _ _ _ _ _).trans (congr (congr (congr (congr (congrArg₂ Cert.AdamHgInIdeal.Adam.resM e0 e1) e2) e3) e4) e5)),
      h3.trans ((Cert.AdamHgInRefIdeal.Adam.eqV _ _ _ _ _ _).trans (congr (congr (congr (congr (congrArg₂ Cert.AdamHgInIdeal.Adam.resV e0 e1) e2) e3) e4) e5)), hr⟩

theorem frameAdamHgIn : Cert.quiescent_AdamHgInRefIdeal (hAdamHgInRefIdeal := Cert.AdamHgInRefIdeal.Gen.facts) := fun m ρ _ =>
  (θ_run _ _ _).mono (fun r h => ⟨fun c => (h c).2.2.2.2, sem_eq_zero_of_no_sems (by decide) r.2⟩)
    (Cert.AdamHgInRefIdeal.Value.run m ρ)

theorem sameAdamOut : Cert.algebraic_AdamOutIdeal_AdamOutRefIdeal (hAdamOutIdeal := Cert.AdamOutIdeal.Gen.facts)
    (hAdamOutRefIdeal := Cert.AdamOutRefIdeal.Gen.facts) := by
  intro m ρ m' ρ' _ hag
  refine ⟨Cert.AdamOutIdeal.Adam.newG m, Cert.AdamOutIdeal.Adam.newD m, Cert.AdamOutIdeal.Adam.newM m, Cert.AdamOutIdeal.Adam.newV m, ?_, ?_⟩
  · refine (θ_run _ _ _).mono (fun r h c => ?_) (Cert.AdamOutIdeal.Value.run_blocks m ρ)
    obtain ⟨h0, h1, h2, h3, hr⟩ := h c
    exact ⟨h0.trans (Cert.AdamOutIdeal.Adam.arrG m c), h1.trans (Cert.AdamOutIdeal.Adam.arrD m c), h2.trans (Cert.AdamOutIdeal.Adam.arrM m c), h3.trans (Cert.AdamOutIdeal.Adam.arrV m c), hr⟩
  · refine (θ_run _ _ _).mono (fun r h c => ?_) (Cert.AdamOutRefIdeal.Value.run m' ρ')
    obtain ⟨h0, h1, h2, h3, hr⟩ := h c
    obtain ⟨e0, e1, e2, e3, e4, e5⟩ := hag c
    exact ⟨h0.trans ((Cert.AdamOutRefIdeal.Adam.eqG _ _ _ _ _ _).trans (congr (congr (congr (congr (congrArg₂ Cert.AdamOutIdeal.Adam.resG e0 e1) e2) e3) e4) e5)),
      h1.trans ((Cert.AdamOutRefIdeal.Adam.eqD _ _ _ _ _ _).trans (congr (congr (congr (congr (congrArg₂ Cert.AdamOutIdeal.Adam.resD e0 e1) e2) e3) e4) e5)),
      h2.trans ((Cert.AdamOutRefIdeal.Adam.eqM _ _ _ _ _ _).trans (congr (congr (congr (congr (congrArg₂ Cert.AdamOutIdeal.Adam.resM e0 e1) e2) e3) e4) e5)),
      h3.trans ((Cert.AdamOutRefIdeal.Adam.eqV _ _ _ _ _ _).trans (congr (congr (congr (congr (congrArg₂ Cert.AdamOutIdeal.Adam.resV e0 e1) e2) e3) e4) e5)), hr⟩

theorem frameAdamOut : Cert.quiescent_AdamOutRefIdeal (hAdamOutRefIdeal := Cert.AdamOutRefIdeal.Gen.facts) := fun m ρ _ =>
  (θ_run _ _ _).mono (fun r h => ⟨fun c => (h c).2.2.2.2, sem_eq_zero_of_no_sems (by decide) r.2⟩)
    (Cert.AdamOutRefIdeal.Value.run m ρ)

theorem sameAdamSgIn : Cert.algebraic_AdamSgInIdeal_AdamSgInRefIdeal (hAdamSgInIdeal := Cert.AdamSgInIdeal.Gen.facts)
    (hAdamSgInRefIdeal := Cert.AdamSgInRefIdeal.Gen.facts) := by
  intro m ρ m' ρ' _ hag
  refine ⟨Cert.AdamSgInIdeal.Adam.newG m, Cert.AdamSgInIdeal.Adam.newD m, Cert.AdamSgInIdeal.Adam.newM m, Cert.AdamSgInIdeal.Adam.newV m, ?_, ?_⟩
  · refine (θ_run _ _ _).mono (fun r h c => ?_) (Cert.AdamSgInIdeal.Value.run_blocks m ρ)
    obtain ⟨h0, h1, h2, h3, hr⟩ := h c
    exact ⟨h0.trans (Cert.AdamSgInIdeal.Adam.arrG m c), h1.trans (Cert.AdamSgInIdeal.Adam.arrD m c), h2.trans (Cert.AdamSgInIdeal.Adam.arrM m c), h3.trans (Cert.AdamSgInIdeal.Adam.arrV m c), hr⟩
  · refine (θ_run _ _ _).mono (fun r h c => ?_) (Cert.AdamSgInRefIdeal.Value.run m' ρ')
    obtain ⟨h0, h1, h2, h3, hr⟩ := h c
    obtain ⟨e0, e1, e2, e3, e4, e5⟩ := hag c
    exact ⟨h0.trans ((Cert.AdamSgInRefIdeal.Adam.eqG _ _ _ _ _ _).trans (congr (congr (congr (congr (congrArg₂ Cert.AdamSgInIdeal.Adam.resG e0 e1) e2) e3) e4) e5)),
      h1.trans ((Cert.AdamSgInRefIdeal.Adam.eqD _ _ _ _ _ _).trans (congr (congr (congr (congr (congrArg₂ Cert.AdamSgInIdeal.Adam.resD e0 e1) e2) e3) e4) e5)),
      h2.trans ((Cert.AdamSgInRefIdeal.Adam.eqM _ _ _ _ _ _).trans (congr (congr (congr (congr (congrArg₂ Cert.AdamSgInIdeal.Adam.resM e0 e1) e2) e3) e4) e5)),
      h3.trans ((Cert.AdamSgInRefIdeal.Adam.eqV _ _ _ _ _ _).trans (congr (congr (congr (congr (congrArg₂ Cert.AdamSgInIdeal.Adam.resV e0 e1) e2) e3) e4) e5)), hr⟩

theorem frameAdamSgIn : Cert.quiescent_AdamSgInRefIdeal (hAdamSgInRefIdeal := Cert.AdamSgInRefIdeal.Gen.facts) := fun m ρ _ =>
  (θ_run _ _ _).mono (fun r h => ⟨fun c => (h c).2.2.2.2, sem_eq_zero_of_no_sems (by decide) r.2⟩)
    (Cert.AdamSgInRefIdeal.Value.run m ρ)

theorem sameAdamUp : Cert.algebraic_AdamUpIdeal_AdamUpRefIdeal (hAdamUpIdeal := Cert.AdamUpIdeal.Gen.facts)
    (hAdamUpRefIdeal := Cert.AdamUpRefIdeal.Gen.facts) := by
  intro m ρ m' ρ' _ hag
  refine ⟨Cert.AdamUpIdeal.Adam.newG m, Cert.AdamUpIdeal.Adam.newD m, Cert.AdamUpIdeal.Adam.newM m, Cert.AdamUpIdeal.Adam.newV m, ?_, ?_⟩
  · refine (θ_run _ _ _).mono (fun r h c => ?_) (Cert.AdamUpIdeal.Value.run_blocks m ρ)
    obtain ⟨h0, h1, h2, h3, hr⟩ := h c
    exact ⟨h0.trans (Cert.AdamUpIdeal.Adam.arrG m c), h1.trans (Cert.AdamUpIdeal.Adam.arrD m c), h2.trans (Cert.AdamUpIdeal.Adam.arrM m c), h3.trans (Cert.AdamUpIdeal.Adam.arrV m c), hr⟩
  · refine (θ_run _ _ _).mono (fun r h c => ?_) (Cert.AdamUpRefIdeal.Value.run m' ρ')
    obtain ⟨h0, h1, h2, h3, hr⟩ := h c
    obtain ⟨e0, e1, e2, e3, e4, e5, e6, e7, e8, e9⟩ := hag c
    exact ⟨h0.trans ((Cert.AdamUpRefIdeal.Adam.eqG _ _ _ _ _ _ _).trans (congr (congr (congr (congr (congr (congrArg₂ Cert.AdamUpIdeal.Adam.resG e0 e1) e2) e3) e4) e5) e6)),
      h1.trans ((Cert.AdamUpRefIdeal.Adam.eqD _ _ _ _ _ _ _).trans (congr (congr (congr (congr (congr (congrArg₂ Cert.AdamUpIdeal.Adam.resD e0 e1) e2) e3) e4) e5) e7)),
      h2.trans ((Cert.AdamUpRefIdeal.Adam.eqM _ _ _ _ _ _ _).trans (congr (congr (congr (congr (congr (congrArg₂ Cert.AdamUpIdeal.Adam.resM e0 e1) e2) e3) e4) e5) e8)),
      h3.trans ((Cert.AdamUpRefIdeal.Adam.eqV _ _ _ _ _ _ _).trans (congr (congr (congr (congr (congr (congrArg₂ Cert.AdamUpIdeal.Adam.resV e0 e1) e2) e3) e4) e5) e9)), hr⟩

theorem frameAdamUp : Cert.quiescent_AdamUpRefIdeal (hAdamUpRefIdeal := Cert.AdamUpRefIdeal.Gen.facts) := fun m ρ _ =>
  (θ_run _ _ _).mono (fun r h => ⟨fun c => (h c).2.2.2.2, sem_eq_zero_of_no_sems (by decide) r.2⟩)
    (Cert.AdamUpRefIdeal.Value.run m ρ)

theorem sameAdamDown : Cert.algebraic_AdamDownIdeal_AdamDownRefIdeal (hAdamDownIdeal := Cert.AdamDownIdeal.Gen.facts)
    (hAdamDownRefIdeal := Cert.AdamDownRefIdeal.Gen.facts) := by
  intro m ρ m' ρ' _ hag
  refine ⟨Cert.AdamDownIdeal.Adam.newG m, Cert.AdamDownIdeal.Adam.newD m, Cert.AdamDownIdeal.Adam.newM m, Cert.AdamDownIdeal.Adam.newV m, ?_, ?_⟩
  · refine (θ_run _ _ _).mono (fun r h c => ?_) (Cert.AdamDownIdeal.Value.run_blocks m ρ)
    obtain ⟨h0, h1, h2, h3, hr⟩ := h c
    exact ⟨h0.trans (Cert.AdamDownIdeal.Adam.arrG m c), h1.trans (Cert.AdamDownIdeal.Adam.arrD m c), h2.trans (Cert.AdamDownIdeal.Adam.arrM m c), h3.trans (Cert.AdamDownIdeal.Adam.arrV m c), hr⟩
  · refine (θ_run _ _ _).mono (fun r h c => ?_) (Cert.AdamDownRefIdeal.Value.run m' ρ')
    obtain ⟨h0, h1, h2, h3, hr⟩ := h c
    obtain ⟨e0, e1, e2, e3, e4, e5, e6, e7, e8, e9⟩ := hag c
    exact ⟨h0.trans ((Cert.AdamDownRefIdeal.Adam.eqG _ _ _ _ _ _ _).trans (congr (congr (congr (congr (congr (congrArg₂ Cert.AdamDownIdeal.Adam.resG e0 e1) e2) e3) e4) e5) e6)),
      h1.trans ((Cert.AdamDownRefIdeal.Adam.eqD _ _ _ _ _ _ _).trans (congr (congr (congr (congr (congr (congrArg₂ Cert.AdamDownIdeal.Adam.resD e0 e1) e2) e3) e4) e5) e7)),
      h2.trans ((Cert.AdamDownRefIdeal.Adam.eqM _ _ _ _ _ _ _).trans (congr (congr (congr (congr (congr (congrArg₂ Cert.AdamDownIdeal.Adam.resM e0 e1) e2) e3) e4) e5) e8)),
      h3.trans ((Cert.AdamDownRefIdeal.Adam.eqV _ _ _ _ _ _ _).trans (congr (congr (congr (congr (congr (congrArg₂ Cert.AdamDownIdeal.Adam.resV e0 e1) e2) e3) e4) e5) e9)), hr⟩

theorem frameAdamDown : Cert.quiescent_AdamDownRefIdeal (hAdamDownRefIdeal := Cert.AdamDownRefIdeal.Gen.facts) := fun m ρ _ =>
  (θ_run _ _ _).mono (fun r h => ⟨fun c => (h c).2.2.2.2, sem_eq_zero_of_no_sems (by decide) r.2⟩)
    (Cert.AdamDownRefIdeal.Value.run m ρ)

theorem sameLnFwd : Cert.algebraic_LnFwdIdeal_LnFwdRefIdeal (hLnFwdIdeal := Cert.LnFwdIdeal.Gen.facts)
    (hLnFwdRefIdeal := Cert.LnFwdRefIdeal.Gen.facts) := by
  intro m ρ m' ρ' _ hag
  refine ⟨fun c => Cert.LnFwdIdeal.Ln.res (Cert.LnFwdIdeal.Ln.argH m c) (Cert.LnFwdIdeal.Ln.argS m c) (Cert.LnFwdIdeal.Ln.argG m c) (Cert.LnFwdIdeal.Ln.argB m c), fun c => Cert.LnFwdIdeal.Ln.resN (Cert.LnFwdIdeal.Ln.argH m c) (Cert.LnFwdIdeal.Ln.argS m c) (Cert.LnFwdIdeal.Ln.argG m c) (Cert.LnFwdIdeal.Ln.argB m c), ?_, ?_⟩
  · refine (θ_run _ _ _).mono (fun r h c => ?_) (Cert.LnFwdIdeal.Value.run_blocks m ρ)
    obtain ⟨h0, h1, hr⟩ := h c
    exact ⟨h0.trans (Cert.LnFwdIdeal.Ln.arr4 m c), h1.trans (Cert.LnFwdIdeal.Ln.arr5 m c), hr⟩
  · refine (θ_run _ _ _).mono (fun r h c => ?_) (Cert.LnFwdRefIdeal.Value.run m' ρ')
    obtain ⟨h0, h1, hr⟩ := h c
    obtain ⟨e0, e1, e2, e3⟩ := hag c
    exact ⟨h0.trans ((Cert.LnFwdRefIdeal.Ln.out_eq _ _ _ _).trans (congr (congr (congrArg₂ Cert.LnFwdIdeal.Ln.res e0 e1) e2) e3)),
      h1.trans ((Cert.LnFwdRefIdeal.Ln.outN_eq _ _ _ _).trans (congr (congr (congrArg₂ Cert.LnFwdIdeal.Ln.resN e0 e1) e2) e3)), hr⟩

theorem frameLnFwd : Cert.quiescent_LnFwdRefIdeal (hLnFwdRefIdeal := Cert.LnFwdRefIdeal.Gen.facts) := fun m ρ _ =>
  (θ_run _ _ _).mono (fun r h => ⟨fun c => (h c).2.2, sem_eq_zero_of_no_sems (by decide) r.2⟩)
    (Cert.LnFwdRefIdeal.Value.run m ρ)

theorem sameFfnFwd : Cert.algebraic_FfnFwdIdeal_FfnFwdRefIdeal (hFfnFwdIdeal := Cert.FfnFwdIdeal.Gen.facts)
    (hFfnFwdRefIdeal := Cert.FfnFwdRefIdeal.Gen.facts) := by
  intro m ρ m' ρ' _ hag
  refine ⟨fun c => Cert.FfnFwdIdeal.Ffn.res (Cert.FfnFwdIdeal.Ffn.argH m c) (Cert.FfnFwdIdeal.Ffn.argW m c) (Cert.FfnFwdIdeal.Ffn.argB m c), ?_, ?_⟩
  · exact (θ_run _ _ _).mono (fun r h c => ⟨(h c).1.trans (Cert.FfnFwdIdeal.Ffn.arr4 m c), (h c).2⟩) (Cert.FfnFwdIdeal.Value.run_blocks m ρ)
  · refine (θ_run _ _ _).mono (fun r h c => ⟨(h c).1.trans ?_, (h c).2⟩) (Cert.FfnFwdRefIdeal.Value.run m' ρ')
    obtain ⟨e0, e1, e2⟩ := hag c
    exact (Cert.FfnFwdRefIdeal.Ffn.out_eq _ _ _).trans (congr (congrArg₂ Cert.FfnFwdIdeal.Ffn.res e0 e1) e2)

theorem frameFfnFwd : Cert.quiescent_FfnFwdRefIdeal (hFfnFwdRefIdeal := Cert.FfnFwdRefIdeal.Gen.facts) := fun m ρ _ =>
  (θ_run _ _ _).mono (fun r h => ⟨fun c => (h c).2, sem_eq_zero_of_no_sems (by decide) r.2⟩)
    (Cert.FfnFwdRefIdeal.Value.run m ρ)

theorem sameSumSmall : Cert.algebraic_SumSmallIdeal_SumSmallRefIdeal (hSumSmallIdeal := Cert.SumSmallIdeal.Gen.facts)
    (hSumSmallRefIdeal := Cert.SumSmallRefIdeal.Gen.facts) := by
  intro m ρ m' ρ' _ hag
  refine ⟨fun c => Cert.SumSmallIdeal.Sum.o25 (Cert.SumSmallIdeal.Sum.total (Cert.SumSmallIdeal.Sum.argX m c)), fun c => Cert.SumSmallIdeal.Sum.o27 (Cert.SumSmallIdeal.Sum.total (Cert.SumSmallIdeal.Sum.argX m c)), fun c => Cert.SumSmallIdeal.Sum.o29 (Cert.SumSmallIdeal.Sum.total (Cert.SumSmallIdeal.Sum.argX m c)), fun c => Cert.SumSmallIdeal.Sum.o31 (Cert.SumSmallIdeal.Sum.total (Cert.SumSmallIdeal.Sum.argX m c)), fun c => Cert.SumSmallIdeal.Sum.o60 (Cert.SumSmallIdeal.Sum.total (Cert.SumSmallIdeal.Sum.argX m c)), fun c => Cert.SumSmallIdeal.Sum.o61 (Cert.SumSmallIdeal.Sum.total (Cert.SumSmallIdeal.Sum.argX m c)), fun c => Cert.SumSmallIdeal.Sum.o64 (Cert.SumSmallIdeal.Sum.total (Cert.SumSmallIdeal.Sum.argX m c)), fun c => Cert.SumSmallIdeal.Sum.o65 (Cert.SumSmallIdeal.Sum.total (Cert.SumSmallIdeal.Sum.argX m c)), fun c => Cert.SumSmallIdeal.Sum.o66 (Cert.SumSmallIdeal.Sum.total (Cert.SumSmallIdeal.Sum.argX m c)), fun c => Cert.SumSmallIdeal.Sum.o67 (Cert.SumSmallIdeal.Sum.total (Cert.SumSmallIdeal.Sum.argX m c)), fun c => Cert.SumSmallIdeal.Sum.o68 (Cert.SumSmallIdeal.Sum.total (Cert.SumSmallIdeal.Sum.argX m c)), fun c => Cert.SumSmallIdeal.Sum.o69 (Cert.SumSmallIdeal.Sum.total (Cert.SumSmallIdeal.Sum.argX m c)), ?_, ?_⟩
  · refine (θ_run _ _ _).mono (fun r h c => ?_) (θ_run_and (Cert.SumSmallIdeal.Sum.run_results m ρ) (Cert.SumSmallIdeal.Gen.unchanged m ρ))
    obtain ⟨h0, h1, h2, h3, h4, h5, h6, h7, h8, h9, h10, h11⟩ := h.1 c
    exact ⟨h0, h1, h2, h3, h4, h5, h6, h7, h8, h9, h10, h11, h.2 c⟩
  · refine (θ_run _ _ _).mono (fun r h c => ?_) (Cert.SumSmallRefIdeal.Value.run m' ρ')
    obtain ⟨h0, h1, h2, h3, h4, h5, h6, h7, h8, h9, h10, h11, hr⟩ := h c
    obtain ⟨e0, e1, e2, e3, e4, e5, e6, e7, e8, e9, e10, e11, e12, e13, e14, e15, e16, e17⟩ := hag c
    have e := Cert.SumSmallRefIdeal.Sum.packed_congr e0 e1 e2 e3 e4 e5 e6 e7 e8 e9 e10 e11 e12 e13 e14 e15 e16 e17
    exact ⟨h0.trans ((Cert.SumSmallRefIdeal.Sum.ref25 _ _ _ _ _ _ _ _ _ _ _ _ _ _ _ _ _ _ ).symm.trans (congrArg (fun X => Cert.SumSmallIdeal.Sum.o25 (Cert.SumSmallIdeal.Sum.total X)) e)), h1.trans ((Cert.SumSmallRefIdeal.Sum.ref27 _ _ _ _ _ _ _ _ _ _ _ _ _ _ _ _ _ _ ).symm.trans (congrArg (fun X => Cert.SumSmallIdeal.Sum.o27 (Cert.SumSmallIdeal.Sum.total X)) e)), h2.trans ((Cert.SumSmallRefIdeal.Sum.ref29 _ _ _ _ _ _ _ _ _ _ _ _ _ _ _ _ _ _ ).symm.trans (congrArg (fun X => Cert.SumSmallIdeal.Sum.o29 (Cert.SumSmallIdeal.Sum.total X)) e)), h3.trans ((Cert.SumSmallRefIdeal.Sum.ref31 _ _ _ _ _ _ _ _ _ _ _ _ _ _ _ _ _ _ ).symm.trans (congrArg (fun X => Cert.SumSmallIdeal.Sum.o31 (Cert.SumSmallIdeal.Sum.total X)) e)), h4.trans ((Cert.SumSmallRefIdeal.Sum.ref60 _ _ _ _ _ _ _ _ _ _ _ _ _ _ _ _ _ _ ).symm.trans (congrArg (fun X => Cert.SumSmallIdeal.Sum.o60 (Cert.SumSmallIdeal.Sum.total X)) e)), h5.trans ((Cert.SumSmallRefIdeal.Sum.ref61 _ _ _ _ _ _ _ _ _ _ _ _ _ _ _ _ _ _ ).symm.trans (congrArg (fun X => Cert.SumSmallIdeal.Sum.o61 (Cert.SumSmallIdeal.Sum.total X)) e)), h6.trans ((Cert.SumSmallRefIdeal.Sum.ref64 _ _ _ _ _ _ _ _ _ _ _ _ _ _ _ _ _ _ ).symm.trans (congrArg (fun X => Cert.SumSmallIdeal.Sum.o64 (Cert.SumSmallIdeal.Sum.total X)) e)), h7.trans ((Cert.SumSmallRefIdeal.Sum.ref65 _ _ _ _ _ _ _ _ _ _ _ _ _ _ _ _ _ _ ).symm.trans (congrArg (fun X => Cert.SumSmallIdeal.Sum.o65 (Cert.SumSmallIdeal.Sum.total X)) e)), h8.trans ((Cert.SumSmallRefIdeal.Sum.ref66 _ _ _ _ _ _ _ _ _ _ _ _ _ _ _ _ _ _ ).symm.trans (congrArg (fun X => Cert.SumSmallIdeal.Sum.o66 (Cert.SumSmallIdeal.Sum.total X)) e)), h9.trans ((Cert.SumSmallRefIdeal.Sum.ref67 _ _ _ _ _ _ _ _ _ _ _ _ _ _ _ _ _ _ ).symm.trans (congrArg (fun X => Cert.SumSmallIdeal.Sum.o67 (Cert.SumSmallIdeal.Sum.total X)) e)), h10.trans ((Cert.SumSmallRefIdeal.Sum.ref68 _ _ _ _ _ _ _ _ _ _ _ _ _ _ _ _ _ _ ).symm.trans (congrArg (fun X => Cert.SumSmallIdeal.Sum.o68 (Cert.SumSmallIdeal.Sum.total X)) e)), h11.trans ((Cert.SumSmallRefIdeal.Sum.ref69 _ _ _ _ _ _ _ _ _ _ _ _ _ _ _ _ _ _ ).symm.trans (congrArg (fun X => Cert.SumSmallIdeal.Sum.o69 (Cert.SumSmallIdeal.Sum.total X)) e)), hr⟩

theorem frameSumSmall : Cert.quiescent_SumSmallRefIdeal (hSumSmallRefIdeal := Cert.SumSmallRefIdeal.Gen.facts) := fun m ρ _ =>
  (θ_run _ _ _).mono (fun r h => ⟨fun c => (h c).2.2.2.2.2.2.2.2.2.2.2.2, sem_eq_zero_of_no_sems (by decide) r.2⟩)
    (Cert.SumSmallRefIdeal.Value.run m ρ)

theorem sameSgBwd : Cert.algebraic_SgBwdIdeal_SgBwdRefIdeal_pre_finite_sg (hSgBwdIdeal := Cert.SgBwdIdeal.Gen.facts)
    (hSgBwdRefIdeal := Cert.SgBwdRefIdeal.Gen.facts) (hPre_finite_sg := Cert.Pre_finite_sg.Gen.facts) := by
  intro m ρ m' ρ' hpre hag
  refine ⟨fun c => Cert.Sg.dPre (Cert.SgBwdIdeal.Sg.argP m c) (Cert.SgBwdIdeal.Sg.argY m c) (Cert.SgBwdIdeal.Sg.argG m c) (Cert.SgBwdIdeal.Sg.argB m c) (Cert.SgBwdIdeal.Sg.argW m c) (Cert.SgBwdIdeal.Sg.argD m c),
    fun c => Cert.Sg.dWeights (Cert.SgBwdIdeal.Sg.argP m c) (Cert.SgBwdIdeal.Sg.argY m c) (Cert.SgBwdIdeal.Sg.argG m c) (Cert.SgBwdIdeal.Sg.argB m c),
    fun c => Cert.Sg.dBias (Cert.SgBwdIdeal.Sg.argP m c) (Cert.SgBwdIdeal.Sg.argY m c),
    fun c => Cert.Sg.dLnScale (Cert.SgBwdIdeal.Sg.argP m c) (Cert.SgBwdIdeal.Sg.argY m c) (Cert.SgBwdIdeal.Sg.argW m c),
    fun c => Cert.Sg.dLnShift (Cert.SgBwdIdeal.Sg.argP m c) (Cert.SgBwdIdeal.Sg.argY m c) (Cert.SgBwdIdeal.Sg.argW m c), ?_, ?_⟩
  · refine (θ_run _ _ _).mono (fun r h c => ?_) (Cert.SgBwdIdeal.Value.run_blocks m ρ)
    obtain ⟨h0, h1, h2, h3, h4, hr⟩ := h c
    exact ⟨h0.trans (Cert.SgBwdIdeal.Sg.arr6 m c), h1.trans (Cert.SgBwdIdeal.Sg.arr7 m c), h2.trans (Cert.SgBwdIdeal.Sg.arr8 m c), h3.trans (Cert.SgBwdIdeal.Sg.arr9 m c), h4.trans (Cert.SgBwdIdeal.Sg.arr10 m c), hr⟩
  · refine (θ_run _ _ _).mono (fun r h c => ?_) (θ_run_and (Cert.SgBwdRefIdeal.Sg.run m' ρ') (Cert.SgBwdRefIdeal.Gen.unchanged m' ρ'))
    obtain ⟨h0, h1, h2, h3, h4⟩ := h.1 c
    obtain ⟨e0, e1, e2, e3, e4, e5⟩ := hag c
    have a0 : Cert.SgBwdRefIdeal.Sg.argP m' c = Cert.SgBwdIdeal.Sg.argP m c := e0
    have a1 : Cert.SgBwdRefIdeal.Sg.argY m' c = Cert.SgBwdIdeal.Sg.argY m c := e1
    have a2 : Cert.SgBwdRefIdeal.Sg.argG m' c = Cert.SgBwdIdeal.Sg.argG m c := e2
    have a3 : Cert.SgBwdRefIdeal.Sg.argB m' c = Cert.SgBwdIdeal.Sg.argB m c := e3
    have a4 : Cert.SgBwdRefIdeal.Sg.argW m' c = Cert.SgBwdIdeal.Sg.argW m c := e4
    have a5 : Cert.SgBwdRefIdeal.Sg.argD m' c = Cert.SgBwdIdeal.Sg.argD m c := e5
    have o0 := Cert.SgBwdRefIdeal.Sg.end_v88 m' c (by rw [a0]; exact (Cert.Sg.of_pre _ _ _ _ _ _ (hpre c)).1) (by rw [a0, a1, a2, a4]; exact Cert.Sg.inc_real _ _ _ _ _ _ (hpre c))
    have o1 := Cert.SgBwdRefIdeal.Sg.end_v55 m' c
    have o2 := Cert.SgBwdRefIdeal.Sg.end_v90 m' c
    have o3 := Cert.SgBwdRefIdeal.Sg.end_v61 m' c
    have o4 := Cert.SgBwdRefIdeal.Sg.end_v58 m' c
    rw [a0, a1, a2, a3, a4, a5] at o0
    rw [a0, a1, a2, a3] at o1
    rw [a0, a1] at o2
    rw [a0, a1, a4] at o3 o4
    exact ⟨h0.trans o0, h1.trans o1, h2.trans o2, h3.trans o3, h4.trans o4, h.2 c⟩

theorem sameLnBwd : Cert.algebraic_LnBwdIdeal_LnBwdRefIdeal_pre_finite_ln (hLnBwdIdeal := Cert.LnBwdIdeal.Gen.facts)
    (hLnBwdRefIdeal := Cert.LnBwdRefIdeal.Gen.facts) (hPre_finite_ln := Cert.Pre_finite_ln.Gen.facts) := by
  intro m ρ m' ρ' hpre hag
  refine ⟨fun c => Cert.Ln.dBranch (Cert.LnBwdIdeal.Ln.argH m c) (Cert.LnBwdIdeal.Ln.argS m c) (Cert.LnBwdIdeal.Ln.argZ m c) (Cert.LnBwdIdeal.Ln.argG m c), fun c => Cert.Ln.dStream (Cert.LnBwdIdeal.Ln.argH m c) (Cert.LnBwdIdeal.Ln.argS m c) (Cert.LnBwdIdeal.Ln.argZ m c) (Cert.LnBwdIdeal.Ln.argG m c),
    fun c => Cert.Ln.dScale (Cert.LnBwdIdeal.Ln.argH m c) (Cert.LnBwdIdeal.Ln.argS m c) (Cert.LnBwdIdeal.Ln.argZ m c), fun c => Cert.Ln.dShift (Cert.LnBwdIdeal.Ln.argZ m c), ?_, ?_⟩
  · refine (θ_run _ _ _).mono (fun r h c => ?_) (Cert.LnBwdIdeal.Value.run_blocks m ρ)
    obtain ⟨h0, h1, h2, h3, hr⟩ := h c
    exact ⟨h0.trans (Cert.LnBwdIdeal.Ln.arr4 m c), h1.trans (Cert.LnBwdIdeal.Ln.arr5 m c), h2.trans (Cert.LnBwdIdeal.Ln.arr6 m c), h3.trans (Cert.LnBwdIdeal.Ln.arr7 m c), hr⟩
  · refine (θ_run _ _ _).mono (fun r h c => ?_) (Cert.LnBwdRefIdeal.Value.run m' ρ')
    obtain ⟨h0, h1, h2, h3, hr⟩ := h c
    obtain ⟨e0, e1, e2, e3⟩ := hag c
    have hi := Cert.Ln.inc_of_pre _ _ _ _ (hpre c)
    have a0 : Cert.LnBwdRefIdeal.Ln.argH m' c = Cert.LnBwdIdeal.Ln.argH m c := e0
    have a1 : Cert.LnBwdRefIdeal.Ln.argS m' c = Cert.LnBwdIdeal.Ln.argS m c := e1
    have a2 : Cert.LnBwdRefIdeal.Ln.argZ m' c = Cert.LnBwdIdeal.Ln.argZ m c := e2
    have a3 : Cert.LnBwdRefIdeal.Ln.argG m' c = Cert.LnBwdIdeal.Ln.argG m c := e3
    have o0 := (Cert.LnBwdRefIdeal.Ln.out0_eq m' c).trans (Cert.LnBwdRefIdeal.Ln.branch_eq (Cert.LnBwdRefIdeal.Ln.argH m' c) (Cert.LnBwdRefIdeal.Ln.argS m' c) (Cert.LnBwdRefIdeal.Ln.argZ m' c) (Cert.LnBwdRefIdeal.Ln.argG m' c) (by rw [a2, a3]; exact hi))
    have o1 := (Cert.LnBwdRefIdeal.Ln.out1_eq m' c).trans (Cert.LnBwdRefIdeal.Ln.stream_eq (Cert.LnBwdRefIdeal.Ln.argH m' c) (Cert.LnBwdRefIdeal.Ln.argS m' c) (Cert.LnBwdRefIdeal.Ln.argZ m' c) (Cert.LnBwdRefIdeal.Ln.argG m' c) (by rw [a2, a3]; exact hi))
    have o2 := Cert.LnBwdRefIdeal.Ln.scale_eq (Cert.LnBwdRefIdeal.Ln.argH m' c) (Cert.LnBwdRefIdeal.Ln.argS m' c) (Cert.LnBwdRefIdeal.Ln.argZ m' c)
    have o3 := Cert.LnBwdRefIdeal.Ln.shift_eq (Cert.LnBwdRefIdeal.Ln.argZ m' c)
    rw [a0, a1, a2, a3] at o0 o1
    rw [a0, a1, a2] at o2
    rw [a2] at o3
    refine ⟨h0.trans o0, h1.trans o1, h2.trans (Eq.trans ?_ o2), h3.trans (Eq.trans ?_ o3), hr⟩
    · rw [← a0, ← a1, ← a2]; rfl
    · rw [← a2]; rfl

theorem frameLnBwd : Cert.quiescent_LnBwdRefIdeal (hLnBwdRefIdeal := Cert.LnBwdRefIdeal.Gen.facts) := fun m ρ _ =>
  (θ_run _ _ _).mono (fun r h => ⟨fun c => (h c).2.2.2.2, sem_eq_zero_of_no_sems (by decide) r.2⟩)
    (Cert.LnBwdRefIdeal.Value.run m ρ)

theorem sameLnLoss : Cert.algebraic_LnLossIdeal_LnLossRefIdeal_pre_finite_loss (hLnLossIdeal := Cert.LnLossIdeal.Gen.facts)
    (hLnLossRefIdeal := Cert.LnLossRefIdeal.Gen.facts) (hPre_finite_loss := Cert.Pre_finite_loss.Gen.facts) := by
  intro m ρ m' ρ' hpre hag
  refine ⟨fun c => Cert.LnLossIdeal.Ln.lossLine (Cert.Ln.loss (Cert.LnLossIdeal.Ln.argH m c) (Cert.LnLossIdeal.Ln.argS m c) (Cert.LnLossIdeal.Ln.argZ m c) (Cert.LnLossIdeal.Ln.argG m c) (Cert.LnLossIdeal.Ln.argB m c)), fun c => Cert.Ln.dBranch (Cert.LnLossIdeal.Ln.argH m c) (Cert.LnLossIdeal.Ln.argS m c) (Cert.Ln.dNorm (Cert.LnLossIdeal.Ln.argH m c) (Cert.LnLossIdeal.Ln.argS m c) (Cert.LnLossIdeal.Ln.argZ m c) (Cert.LnLossIdeal.Ln.argG m c) (Cert.LnLossIdeal.Ln.argB m c)) (Cert.LnLossIdeal.Ln.argG m c),
    fun c => Cert.Ln.dStream (Cert.LnLossIdeal.Ln.argH m c) (Cert.LnLossIdeal.Ln.argS m c) (Cert.Ln.dNorm (Cert.LnLossIdeal.Ln.argH m c) (Cert.LnLossIdeal.Ln.argS m c) (Cert.LnLossIdeal.Ln.argZ m c) (Cert.LnLossIdeal.Ln.argG m c) (Cert.LnLossIdeal.Ln.argB m c)) (Cert.LnLossIdeal.Ln.argG m c), fun c => Cert.Ln.dScale (Cert.LnLossIdeal.Ln.argH m c) (Cert.LnLossIdeal.Ln.argS m c) (Cert.Ln.dNorm (Cert.LnLossIdeal.Ln.argH m c) (Cert.LnLossIdeal.Ln.argS m c) (Cert.LnLossIdeal.Ln.argZ m c) (Cert.LnLossIdeal.Ln.argG m c) (Cert.LnLossIdeal.Ln.argB m c)), fun c => Cert.Ln.dShift (Cert.Ln.dNorm (Cert.LnLossIdeal.Ln.argH m c) (Cert.LnLossIdeal.Ln.argS m c) (Cert.LnLossIdeal.Ln.argZ m c) (Cert.LnLossIdeal.Ln.argG m c) (Cert.LnLossIdeal.Ln.argB m c)), ?_, ?_⟩
  · refine (θ_run _ _ _).mono (fun r h c => ?_) (Cert.LnLossIdeal.Value.run_blocks m ρ)
    obtain ⟨h0, h1, h2, h3, h4, hr⟩ := h c
    exact ⟨h0.trans (Cert.LnLossIdeal.Ln.arr5 m c), h1.trans (Cert.LnLossIdeal.Ln.arr6 m c), h2.trans (Cert.LnLossIdeal.Ln.arr7 m c), h3.trans (Cert.LnLossIdeal.Ln.arr8 m c), h4.trans (Cert.LnLossIdeal.Ln.arr9 m c), hr⟩
  · refine (θ_run _ _ _).mono (fun r h c => ?_) (Cert.LnLossRefIdeal.Value.run m' ρ')
    obtain ⟨h0, h1, h2, h3, h4, hr⟩ := h c
    obtain ⟨e0, e1, e2, e3, e4⟩ := hag c
    have hi := Cert.Ln.inc_of_loss _ _ _ _ _ (hpre c)
    have a0 : Cert.LnLossRefIdeal.Ln.argH m' c = Cert.LnLossIdeal.Ln.argH m c := e0
    have a1 : Cert.LnLossRefIdeal.Ln.argS m' c = Cert.LnLossIdeal.Ln.argS m c := e1
    have a2 : Cert.LnLossRefIdeal.Ln.argZ m' c = Cert.LnLossIdeal.Ln.argZ m c := e2
    have a3 : Cert.LnLossRefIdeal.Ln.argG m' c = Cert.LnLossIdeal.Ln.argG m c := e3
    have a4 : Cert.LnLossRefIdeal.Ln.argB m' c = Cert.LnLossIdeal.Ln.argB m c := e4
    have o0 := (Cert.LnLossRefIdeal.Ln.out0_eq m' c).trans (Cert.LnLossRefIdeal.Ln.loss_at (Cert.LnLossRefIdeal.Ln.argH m' c) (Cert.LnLossRefIdeal.Ln.argS m' c) (Cert.LnLossRefIdeal.Ln.argZ m' c) (Cert.LnLossRefIdeal.Ln.argG m' c) (Cert.LnLossRefIdeal.Ln.argB m' c))
    have o1 := (Cert.LnLossRefIdeal.Ln.out1_eq m' c).trans (Cert.LnLossRefIdeal.Ln.branch_eq (Cert.LnLossRefIdeal.Ln.argH m' c) (Cert.LnLossRefIdeal.Ln.argS m' c) (Cert.LnLossRefIdeal.Ln.argZ m' c) (Cert.LnLossRefIdeal.Ln.argG m' c) (Cert.LnLossRefIdeal.Ln.argB m' c) (by rw [a0, a1, a2, a3, a4]; exact hi))
    have o2 := (Cert.LnLossRefIdeal.Ln.out2_eq m' c).trans (Cert.LnLossRefIdeal.Ln.stream_eq (Cert.LnLossRefIdeal.Ln.argH m' c) (Cert.LnLossRefIdeal.Ln.argS m' c) (Cert.LnLossRefIdeal.Ln.argZ m' c) (Cert.LnLossRefIdeal.Ln.argG m' c) (Cert.LnLossRefIdeal.Ln.argB m' c) (by rw [a0, a1, a2, a3, a4]; exact hi))
    have o3 := (Cert.LnLossRefIdeal.Ln.out3_eq m' c).trans (Cert.LnLossRefIdeal.Ln.scale_eq (Cert.LnLossRefIdeal.Ln.argH m' c) (Cert.LnLossRefIdeal.Ln.argS m' c) (Cert.LnLossRefIdeal.Ln.argZ m' c) (Cert.LnLossRefIdeal.Ln.argG m' c) (Cert.LnLossRefIdeal.Ln.argB m' c))
    have o4 := Cert.LnLossRefIdeal.Ln.shift_eq (Cert.LnLossRefIdeal.Ln.argH m' c) (Cert.LnLossRefIdeal.Ln.argS m' c) (Cert.LnLossRefIdeal.Ln.argZ m' c) (Cert.LnLossRefIdeal.Ln.argG m' c) (Cert.LnLossRefIdeal.Ln.argB m' c)
    rw [a0, a1, a2, a3, a4] at o0 o1 o2 o3 o4
    refine ⟨h0.trans o0, h1.trans o1, h2.trans o2, h3.trans o3, h4.trans (Eq.trans ?_ o4), hr⟩
    rw [← a0, ← a1, ← a2, ← a3, ← a4]; rfl

theorem frameLnLoss : Cert.quiescent_LnLossRefIdeal (hLnLossRefIdeal := Cert.LnLossRefIdeal.Gen.facts) := fun m ρ _ =>
  (θ_run _ _ _).mono (fun r h => ⟨fun c => (h c).2.2.2.2.2, sem_eq_zero_of_no_sems (by decide) r.2⟩)
    (Cert.LnLossRefIdeal.Value.run m ρ)

theorem sameSgFwd : Cert.algebraic_SgFwdIdeal_SgFwdRefIdeal (hSgFwdIdeal := Cert.SgFwdIdeal.Gen.facts)
    (hSgFwdRefIdeal := Cert.SgFwdRefIdeal.Gen.facts) := by
  intro m ρ m' ρ' _ hag
  refine ⟨fun c => Cert.SgFwdIdeal.Sg.res (Cert.SgFwdIdeal.Sg.argP m c) (Cert.SgFwdIdeal.Sg.argG m c) (Cert.SgFwdIdeal.Sg.argB m c) (Cert.SgFwdIdeal.Sg.argW m c) (Cert.SgFwdIdeal.Sg.argD m c), ?_, ?_⟩
  · exact (θ_run _ _ _).mono (fun r h c => ⟨(h c).1.trans (Cert.SgFwdIdeal.Sg.arr5 m c), (h c).2⟩) (Cert.SgFwdIdeal.Value.run_blocks m ρ)
  · refine (θ_run _ _ _).mono (fun r h c => ⟨(h c).1.trans ?_, (h c).2⟩) (Cert.SgFwdRefIdeal.Value.run m' ρ')
    obtain ⟨e0, e1, e2, e3, e4⟩ := hag c
    exact (Cert.SgFwdRefIdeal.Sg.out0_eq m' c).trans ((Cert.SgFwdRefIdeal.Sg.out_eq _ _ _ _ _).trans (congr (congr (congr (congrArg₂ Cert.SgFwdIdeal.Sg.res e0 e1) e2) e3) e4))

theorem frameSgFwd : Cert.quiescent_SgFwdRefIdeal (hSgFwdRefIdeal := Cert.SgFwdRefIdeal.Gen.facts) := fun m ρ _ =>
  (θ_run _ _ _).mono (fun r h => ⟨fun c => (h c).2, sem_eq_zero_of_no_sems (by decide) r.2⟩)
    (Cert.SgFwdRefIdeal.Value.run m ρ)

theorem claim : Cert.Claim := ⟨Cert.Kernel.Gen.facts,
  Cert.KernelIdeal.Gen.facts,
  Cert.ReferenceIdeal.Gen.facts,
  Cert.DwDown.Gen.facts,
  Cert.DwDownIdeal.Gen.facts,
  Cert.DwDownRefIdeal.Gen.facts,
  Cert.DZ.Gen.facts,
  Cert.DZIdeal.Gen.facts,
  Cert.DZRefIdeal.Gen.facts,
  Cert.DwUp.Gen.facts,
  Cert.DwUpIdeal.Gen.facts,
  Cert.DwUpRefIdeal.Gen.facts,
  Cert.DUp.Gen.facts,
  Cert.DUpIdeal.Gen.facts,
  Cert.DUpRefIdeal.Gen.facts,
  Cert.DwOut.Gen.facts,
  Cert.DwOutIdeal.Gen.facts,
  Cert.DwOutRefIdeal.Gen.facts,
  Cert.DOut.Gen.facts,
  Cert.DOutIdeal.Gen.facts,
  Cert.DOutRefIdeal.Gen.facts,
  Cert.DwSgIn.Gen.facts,
  Cert.DwSgInIdeal.Gen.facts,
  Cert.DwSgInRefIdeal.Gen.facts,
  Cert.DSgIn.Gen.facts,
  Cert.DSgInIdeal.Gen.facts,
  Cert.DSgInRefIdeal.Gen.facts,
  Cert.DwHgIn.Gen.facts,
  Cert.DwHgInIdeal.Gen.facts,
  Cert.DwHgInRefIdeal.Gen.facts,
  Cert.DHgIn.Gen.facts,
  Cert.DHgInIdeal.Gen.facts,
  Cert.DHgInRefIdeal.Gen.facts,
  Cert.HgIn.Gen.facts,
  Cert.HgInIdeal.Gen.facts,
  Cert.HgInRefIdeal.Gen.facts,
  Cert.MixOut.Gen.facts,
  Cert.MixOutIdeal.Gen.facts,
  Cert.MixOutRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.SgIn.Gen.facts,
  Cert.SgInIdeal.Gen.facts,
  Cert.SgInRefIdeal.Gen.facts,
  Cert.AdamLb.Gen.facts,
  Cert.AdamLbIdeal.Gen.facts,
  Cert.AdamLbRefIdeal.Gen.facts,
  Cert.AdamNorm.Gen.facts,
  Cert.AdamNormIdeal.Gen.facts,
  Cert.AdamNormRefIdeal.Gen.facts,
  Cert.AdamSgLn.Gen.facts,
  Cert.AdamSgLnIdeal.Gen.facts,
  Cert.AdamSgLnRefIdeal.Gen.facts,
  Cert.AdamSgWs.Gen.facts,
  Cert.AdamSgWsIdeal.Gen.facts,
  Cert.AdamSgWsRefIdeal.Gen.facts,
  Cert.AdamSgBs.Gen.facts,
  Cert.AdamSgBsIdeal.Gen.facts,
  Cert.AdamSgBsRefIdeal.Gen.facts,
  Cert.AdamConvW.Gen.facts,
  Cert.AdamConvWIdeal.Gen.facts,
  Cert.AdamConvWRefIdeal.Gen.facts,
  Cert.AdamConvB.Gen.facts,
  Cert.AdamConvBIdeal.Gen.facts,
  Cert.AdamConvBRefIdeal.Gen.facts,
  Cert.AdamLn.Gen.facts,
  Cert.AdamLnIdeal.Gen.facts,
  Cert.AdamLnRefIdeal.Gen.facts,
  Cert.AdamHgIn.Gen.facts,
  Cert.AdamHgInIdeal.Gen.facts,
  Cert.AdamHgInRefIdeal.Gen.facts,
  Cert.AdamOut.Gen.facts,
  Cert.AdamOutIdeal.Gen.facts,
  Cert.AdamOutRefIdeal.Gen.facts,
  Cert.AdamSgIn.Gen.facts,
  Cert.AdamSgInIdeal.Gen.facts,
  Cert.AdamSgInRefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.LnFwd.Gen.facts,
  Cert.LnFwdIdeal.Gen.facts,
  Cert.LnFwdRefIdeal.Gen.facts,
  Cert.FfnFwd.Gen.facts,
  Cert.FfnFwdIdeal.Gen.facts,
  Cert.FfnFwdRefIdeal.Gen.facts,
  Cert.SumSmall.Gen.facts,
  Cert.SumSmallIdeal.Gen.facts,
  Cert.SumSmallRefIdeal.Gen.facts,
  Cert.LnBwd.Gen.facts,
  Cert.LnBwdIdeal.Gen.facts,
  Cert.LnBwdRefIdeal.Gen.facts,
  Cert.LnLoss.Gen.facts,
  Cert.LnLossIdeal.Gen.facts,
  Cert.LnLossRefIdeal.Gen.facts,
  Cert.SgFwd.Gen.facts,
  Cert.SgFwdIdeal.Gen.facts,
  Cert.SgFwdRefIdeal.Gen.facts,
  Cert.SgBwd.Gen.facts,
  Cert.SgBwdIdeal.Gen.facts,
  Cert.SgBwdRefIdeal.Gen.facts,
  Cert.Pre_finite.Gen.facts,
  Cert.Pre_finite_ln.Gen.facts,
  Cert.Pre_finite_loss.Gen.facts,
  Cert.Pre_finite_sg.Gen.facts,
  fun m ρ _ => Cert.Kernel.Gen.frame m ρ,
  fun m ρ _ => Cert.KernelIdeal.Gen.frame m ρ,
  fun m ρ _ => Cert.KernelIdeal.Gen.frame m ρ,
  refFrame,
  fun m ρ _ => refFrame m ρ trivial,
  fun m ρ _ => Cert.DwDown.Gen.frame m ρ,
  fun m ρ _ => Cert.DwDownIdeal.Gen.frame m ρ,
  frameDwDown,
  fun m ρ _ => Cert.DZ.Gen.frame m ρ,
  fun m ρ _ => Cert.DZIdeal.Gen.frame m ρ,
  frameDZ,
  fun m ρ _ => Cert.DwUp.Gen.frame m ρ,
  fun m ρ _ => Cert.DwUpIdeal.Gen.frame m ρ,
  frameDwUp,
  fun m ρ _ => Cert.DUp.Gen.frame m ρ,
  fun m ρ _ => Cert.DUpIdeal.Gen.frame m ρ,
  frameDUp,
  fun m ρ _ => Cert.DwOut.Gen.frame m ρ,
  fun m ρ _ => Cert.DwOutIdeal.Gen.frame m ρ,
  frameDwOut,
  fun m ρ _ => Cert.DOut.Gen.frame m ρ,
  fun m ρ _ => Cert.DOutIdeal.Gen.frame m ρ,
  frameDOut,
  fun m ρ _ => Cert.DwSgIn.Gen.frame m ρ,
  fun m ρ _ => Cert.DwSgInIdeal.Gen.frame m ρ,
  frameDwSgIn,
  fun m ρ _ => Cert.DSgIn.Gen.frame m ρ,
  fun m ρ _ => Cert.DSgInIdeal.Gen.frame m ρ,
  frameDSgIn,
  fun m ρ _ => Cert.DwHgIn.Gen.frame m ρ,
  fun m ρ _ => Cert.DwHgInIdeal.Gen.frame m ρ,
  frameDwHgIn,
  fun m ρ _ => Cert.DHgIn.Gen.frame m ρ,
  fun m ρ _ => Cert.DHgInIdeal.Gen.frame m ρ,
  frameDHgIn,
  fun m ρ _ => Cert.HgIn.Gen.frame m ρ,
  fun m ρ _ => Cert.HgInIdeal.Gen.frame m ρ,
  frameHgIn,
  fun m ρ _ => Cert.MixOut.Gen.frame m ρ,
  fun m ρ _ => Cert.MixOutIdeal.Gen.frame m ρ,
  frameMixOut,
  fun m ρ _ => Cert.Up.Gen.frame m ρ,
  fun m ρ _ => Cert.UpIdeal.Gen.frame m ρ,
  frameUp,
  fun m ρ _ => Cert.Down.Gen.frame m ρ,
  fun m ρ _ => Cert.DownIdeal.Gen.frame m ρ,
  frameDown,
  fun m ρ _ => Cert.SgIn.Gen.frame m ρ,
  fun m ρ _ => Cert.SgInIdeal.Gen.frame m ρ,
  frameSgIn,
  fun m ρ _ => Cert.AdamLb.Gen.frame m ρ,
  fun m ρ _ => Cert.AdamLbIdeal.Gen.frame m ρ,
  frameAdamLb,
  fun m ρ _ => Cert.AdamNorm.Gen.frame m ρ,
  fun m ρ _ => Cert.AdamNormIdeal.Gen.frame m ρ,
  frameAdamNorm,
  fun m ρ _ => Cert.AdamSgLn.Gen.frame m ρ,
  fun m ρ _ => Cert.AdamSgLnIdeal.Gen.frame m ρ,
  frameAdamSgLn,
  fun m ρ _ => Cert.AdamSgWs.Gen.frame m ρ,
  fun m ρ _ => Cert.AdamSgWsIdeal.Gen.frame m ρ,
  frameAdamSgWs,
  fun m ρ _ => Cert.AdamSgBs.Gen.frame m ρ,
  fun m ρ _ => Cert.AdamSgBsIdeal.Gen.frame m ρ,
  frameAdamSgBs,
  fun m ρ _ => Cert.AdamConvW.Gen.frame m ρ,
  fun m ρ _ => Cert.AdamConvWIdeal.Gen.frame m ρ,
  frameAdamConvW,
  fun m ρ _ => Cert.AdamConvB.Gen.frame m ρ,
  fun m ρ _ => Cert.AdamConvBIdeal.Gen.frame m ρ,
  frameAdamConvB,
  fun m ρ _ => Cert.AdamLn.Gen.frame m ρ,
  fun m ρ _ => Cert.AdamLnIdeal.Gen.frame m ρ,
  frameAdamLn,
  fun m ρ _ => Cert.AdamHgIn.Gen.frame m ρ,
  fun m ρ _ => Cert.AdamHgInIdeal.Gen.frame m ρ,
  frameAdamHgIn,
  fun m ρ _ => Cert.AdamOut.Gen.frame m ρ,
  fun m ρ _ => Cert.AdamOutIdeal.Gen.frame m ρ,
  frameAdamOut,
  fun m ρ _ => Cert.AdamSgIn.Gen.frame m ρ,
  fun m ρ _ => Cert.AdamSgInIdeal.Gen.frame m ρ,
  frameAdamSgIn,
  fun m ρ _ => Cert.AdamUp.Gen.frame m ρ,
  fun m ρ _ => Cert.AdamUpIdeal.Gen.frame m ρ,
  frameAdamUp,
  fun m ρ _ => Cert.AdamDown.Gen.frame m ρ,
  fun m ρ _ => Cert.AdamDownIdeal.Gen.frame m ρ,
  frameAdamDown,
  fun m ρ _ => Cert.LnFwd.Gen.frame m ρ,
  fun m ρ _ => Cert.LnFwdIdeal.Gen.frame m ρ,
  frameLnFwd,
  fun m ρ _ => Cert.FfnFwd.Gen.frame m ρ,
  fun m ρ _ => Cert.FfnFwdIdeal.Gen.frame m ρ,
  frameFfnFwd,
  fun m ρ _ => Cert.SumSmall.Gen.frame m ρ,
  fun m ρ _ => Cert.SumSmallIdeal.Gen.frame m ρ,
  frameSumSmall,
  fun m ρ _ => Cert.LnBwd.Gen.frame m ρ,
  fun m ρ _ => Cert.LnBwdIdeal.Gen.frame m ρ,
  fun m ρ _ => Cert.LnBwdIdeal.Gen.frame m ρ,
  frameLnBwd,
  fun m ρ _ => frameLnBwd m ρ trivial,
  fun m ρ _ => Cert.LnLoss.Gen.frame m ρ,
  fun m ρ _ => Cert.LnLossIdeal.Gen.frame m ρ,
  fun m ρ _ => Cert.LnLossIdeal.Gen.frame m ρ,
  frameLnLoss,
  fun m ρ _ => frameLnLoss m ρ trivial,
  fun m ρ _ => Cert.SgFwd.Gen.frame m ρ,
  fun m ρ _ => Cert.SgFwdIdeal.Gen.frame m ρ,
  frameSgFwd,
  fun m ρ _ => Cert.SgBwd.Gen.frame m ρ,
  fun m ρ _ => Cert.SgBwdIdeal.Gen.frame m ρ,
  fun m ρ _ => Cert.SgBwdIdeal.Gen.frame m ρ,
  fun m ρ _ => Cert.SgBwdRefIdeal.Gen.frame m ρ,
  fun m ρ _ => Cert.SgBwdRefIdeal.Gen.frame m ρ,
  trivial,
  ffn,
  trivial,
  sameDwDown,
  trivial,
  sameDZ,
  trivial,
  sameDwUp,
  trivial,
  sameDUp,
  trivial,
  sameDwOut,
  trivial,
  sameDOut,
  trivial,
  sameDwSgIn,
  trivial,
  sameDSgIn,
  trivial,
  sameDwHgIn,
  trivial,
  sameDHgIn,
  trivial,
  sameHgIn,
  trivial,
  sameMixOut,
  trivial,
  sameUp,
  trivial,
  sameDown,
  trivial,
  sameSgIn,
  trivial,
  sameAdamLb,
  trivial,
  sameAdamNorm,
  trivial,
  sameAdamSgLn,
  trivial,
  sameAdamSgWs,
  trivial,
  sameAdamSgBs,
  trivial,
  sameAdamConvW,
  trivial,
  sameAdamConvB,
  trivial,
  sameAdamLn,
  trivial,
  sameAdamHgIn,
  trivial,
  sameAdamOut,
  trivial,
  sameAdamSgIn,
  trivial,
  sameAdamUp,
  trivial,
  sameAdamDown,
  trivial,
  sameLnFwd,
  trivial,
  sameFfnFwd,
  trivial,
  sameSumSmall,
  trivial,
  sameLnBwd,
  trivial,
  sameLnLoss,
  trivial,
  sameSgFwd,
  ⟨IdealRules.named_const.statement Cert.SgBwdIdeal.κ "sqrt_half" .f32 0x3F3504F3#32 _ rfl,
    IdealRules.named_const.statement Cert.SgBwdIdeal.κ "inv_sqrt_2pi" .f32 0x3ECC422A#32 _ rfl⟩,
  sameSgBwd⟩

end Cert.Proof

end
